-- ==== Defs.lean ====
def Pre_XKernel (m : (ℓ : Loc Cert.XKernel.nD Cert.XKernel.τ Cert.XKernel.sig) → Buf (Elt Bits) ℓ) : Prop :=
  True

def Pre_XKernelIdeal (m : (ℓ : Loc Cert.XKernelIdeal.nD Cert.XKernelIdeal.τ Cert.XKernelIdeal.sig) → Buf (Elt Ideal) ℓ) : Prop :=
  True

def Pre_XKernelIdeal_x_finite [hPre_x_finite : Cert.Pre_x_finite.Facts] (m : (ℓ : Loc Cert.XKernelIdeal.nD Cert.XKernelIdeal.τ Cert.XKernelIdeal.sig) → Buf (Elt Ideal) ℓ) : Prop :=
  ∀ c : Dev Cert.XKernelIdeal.nD,
    (Cert.Pre_x_finite.fn (F := Ideal) (m ((c.tc : Thread Cert.XKernelIdeal.nD Cert.XKernelIdeal.τ).loc Cert.XKernelIdeal.main_arg0)) (m ((c.tc : Thread Cert.XKernelIdeal.nD Cert.XKernelIdeal.τ).loc Cert.XKernelIdeal.main_arg1)) (m ((c.tc : Thread Cert.XKernelIdeal.nD Cert.XKernelIdeal.τ).loc Cert.XKernelIdeal.main_arg2)) (m ((c.tc : Thread Cert.XKernelIdeal.nD Cert.XKernelIdeal.τ).loc Cert.XKernelIdeal.main_arg3)) (m ((c.tc : Thread Cert.XKernelIdeal.nD Cert.XKernelIdeal.τ).loc Cert.XKernelIdeal.main_arg4)) (m ((c.tc : Thread Cert.XKernelIdeal.nD Cert.XKernelIdeal.τ).loc Cert.XKernelIdeal.main_arg5)) (m ((c.tc : Thread Cert.XKernelIdeal.nD Cert.XKernelIdeal.τ).loc Cert.XKernelIdeal.main_arg6)) (m ((c.tc : Thread Cert.XKernelIdeal.nD Cert.XKernelIdeal.τ).loc Cert.XKernelIdeal.main_arg7)) (m ((c.tc : Thread Cert.XKernelIdeal.nD Cert.XKernelIdeal.τ).loc Cert.XKernelIdeal.main_arg8)) (m ((c.tc : Thread Cert.XKernelIdeal.nD Cert.XKernelIdeal.τ).loc Cert.XKernelIdeal.main_arg9)) (m ((c.tc : Thread Cert.XKernelIdeal.nD Cert.XKernelIdeal.τ).loc Cert.XKernelIdeal.main_arg10)) (m ((c.tc : Thread Cert.XKernelIdeal.nD Cert.XKernelIdeal.τ).loc Cert.XKernelIdeal.main_arg11)) (m ((c.tc : Thread Cert.XKernelIdeal.nD Cert.XKernelIdeal.τ).loc Cert.XKernelIdeal.main_arg12))) = (fun _ => 1#1)

def Pre_XReferenceIdeal (m : (ℓ : Loc Cert.XReferenceIdeal.nD Cert.XReferenceIdeal.τ Cert.XReferenceIdeal.sig) → Buf (Elt Ideal) ℓ) : Prop :=
  True

def Pre_XReferenceIdeal_x_finite [hPre_x_finite : Cert.Pre_x_finite.Facts] (m : (ℓ : Loc Cert.XReferenceIdeal.nD Cert.XReferenceIdeal.τ Cert.XReferenceIdeal.sig) → Buf (Elt Ideal) ℓ) : Prop :=
  ∀ c : Dev Cert.XReferenceIdeal.nD,
    (Cert.Pre_x_finite.fn (F := Ideal) (m ((c.tc : Thread Cert.XReferenceIdeal.nD Cert.XReferenceIdeal.τ).loc Cert.XReferenceIdeal.main_arg0)) (m ((c.tc : Thread Cert.XReferenceIdeal.nD Cert.XReferenceIdeal.τ).loc Cert.XReferenceIdeal.main_arg1)) (m ((c.tc : Thread Cert.XReferenceIdeal.nD Cert.XReferenceIdeal.τ).loc Cert.XReferenceIdeal.main_arg2)) (m ((c.tc : Thread Cert.XReferenceIdeal.nD Cert.XReferenceIdeal.τ).loc Cert.XReferenceIdeal.main_arg3)) (m ((c.tc : Thread Cert.XReferenceIdeal.nD Cert.XReferenceIdeal.τ).loc Cert.XReferenceIdeal.main_arg4)) (m ((c.tc : Thread Cert.XReferenceIdeal.nD Cert.XReferenceIdeal.τ).loc Cert.XReferenceIdeal.main_arg5)) (m ((c.tc : Thread Cert.XReferenceIdeal.nD Cert.XReferenceIdeal.τ).loc Cert.XReferenceIdeal.main_arg6)) (m ((c.tc : Thread Cert.XReferenceIdeal.nD Cert.XReferenceIdeal.τ).loc Cert.XReferenceIdeal.main_arg7)) (m ((c.tc : Thread Cert.XReferenceIdeal.nD Cert.XReferenceIdeal.τ).loc Cert.XReferenceIdeal.main_arg8)) (m ((c.tc : Thread Cert.XReferenceIdeal.nD Cert.XReferenceIdeal.τ).loc Cert.XReferenceIdeal.main_arg9)) (m ((c.tc : Thread Cert.XReferenceIdeal.nD Cert.XReferenceIdeal.τ).loc Cert.XReferenceIdeal.main_arg10)) (m ((c.tc : Thread Cert.XReferenceIdeal.nD Cert.XReferenceIdeal.τ).loc Cert.XReferenceIdeal.main_arg11)) (m ((c.tc : Thread Cert.XReferenceIdeal.nD Cert.XReferenceIdeal.τ).loc Cert.XReferenceIdeal.main_arg12))) = (fun _ => 1#1)

def Pre_AKernel (m : (ℓ : Loc Cert.AKernel.nD Cert.AKernel.τ Cert.AKernel.sig) → Buf (Elt Bits) ℓ) : Prop :=
  True

def Pre_AKernelIdeal (m : (ℓ : Loc Cert.AKernelIdeal.nD Cert.AKernelIdeal.τ Cert.AKernelIdeal.sig) → Buf (Elt Ideal) ℓ) : Prop :=
  True

def Pre_AKernelIdeal_a_finite [hPre_a_finite : Cert.Pre_a_finite.Facts] (m : (ℓ : Loc Cert.AKernelIdeal.nD Cert.AKernelIdeal.τ Cert.AKernelIdeal.sig) → Buf (Elt Ideal) ℓ) : Prop :=
  ∀ c : Dev Cert.AKernelIdeal.nD,
    (Cert.Pre_a_finite.fn (F := Ideal) (m ((c.tc : Thread Cert.AKernelIdeal.nD Cert.AKernelIdeal.τ).loc Cert.AKernelIdeal.main_arg0)) (m ((c.tc : Thread Cert.AKernelIdeal.nD Cert.AKernelIdeal.τ).loc Cert.AKernelIdeal.main_arg1)) (m ((c.tc : Thread Cert.AKernelIdeal.nD Cert.AKernelIdeal.τ).loc Cert.AKernelIdeal.main_arg2)) (m ((c.tc : Thread Cert.AKernelIdeal.nD Cert.AKernelIdeal.τ).loc Cert.AKernelIdeal.main_arg3)) (m ((c.tc : Thread Cert.AKernelIdeal.nD Cert.AKernelIdeal.τ).loc Cert.AKernelIdeal.main_arg4)) (m ((c.tc : Thread Cert.AKernelIdeal.nD Cert.AKernelIdeal.τ).loc Cert.AKernelIdeal.main_arg5))) = (fun _ => 1#1)

def Pre_AReferenceIdeal (m : (ℓ : Loc Cert.AReferenceIdeal.nD Cert.AReferenceIdeal.τ Cert.AReferenceIdeal.sig) → Buf (Elt Ideal) ℓ) : Prop :=
  True

def Pre_AReferenceIdeal_a_finite [hPre_a_finite : Cert.Pre_a_finite.Facts] (m : (ℓ : Loc Cert.AReferenceIdeal.nD Cert.AReferenceIdeal.τ Cert.AReferenceIdeal.sig) → Buf (Elt Ideal) ℓ) : Prop :=
  ∀ c : Dev Cert.AReferenceIdeal.nD,
    (Cert.Pre_a_finite.fn (F := Ideal) (m ((c.tc : Thread Cert.AReferenceIdeal.nD Cert.AReferenceIdeal.τ).loc Cert.AReferenceIdeal.main_arg0)) (m ((c.tc : Thread Cert.AReferenceIdeal.nD Cert.AReferenceIdeal.τ).loc Cert.AReferenceIdeal.main_arg1)) (m ((c.tc : Thread Cert.AReferenceIdeal.nD Cert.AReferenceIdeal.τ).loc Cert.AReferenceIdeal.main_arg2)) (m ((c.tc : Thread Cert.AReferenceIdeal.nD Cert.AReferenceIdeal.τ).loc Cert.AReferenceIdeal.main_arg3)) (m ((c.tc : Thread Cert.AReferenceIdeal.nD Cert.AReferenceIdeal.τ).loc Cert.AReferenceIdeal.main_arg4)) (m ((c.tc : Thread Cert.AReferenceIdeal.nD Cert.AReferenceIdeal.τ).loc Cert.AReferenceIdeal.main_arg5))) = (fun _ => 1#1)

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QKernelIdeal_q_finite [hPre_q_finite : Cert.Pre_q_finite.Facts] (m : (ℓ : Loc Cert.QKernelIdeal.nD Cert.QKernelIdeal.τ Cert.QKernelIdeal.sig) → Buf (Elt Ideal) ℓ) : Prop :=
  ∀ c : Dev Cert.QKernelIdeal.nD,
    (Cert.Pre_q_finite.fn (F := Ideal) (m ((c.tc : Thread Cert.QKernelIdeal.nD Cert.QKernelIdeal.τ).loc Cert.QKernelIdeal.main_arg0)) (m ((c.tc : Thread Cert.QKernelIdeal.nD Cert.QKernelIdeal.τ).loc Cert.QKernelIdeal.main_arg1)) (m ((c.tc : Thread Cert.QKernelIdeal.nD Cert.QKernelIdeal.τ).loc Cert.QKernelIdeal.main_arg2)) (m ((c.tc : Thread Cert.QKernelIdeal.nD Cert.QKernelIdeal.τ).loc Cert.QKernelIdeal.main_arg3)) (m ((c.tc : Thread Cert.QKernelIdeal.nD Cert.QKernelIdeal.τ).loc Cert.QKernelIdeal.main_arg4)) (m ((c.tc : Thread Cert.QKernelIdeal.nD Cert.QKernelIdeal.τ).loc Cert.QKernelIdeal.main_arg5)) (m ((c.tc : Thread Cert.QKernelIdeal.nD Cert.QKernelIdeal.τ).loc Cert.QKernelIdeal.main_arg6)) (m ((c.tc : Thread Cert.QKernelIdeal.nD Cert.QKernelIdeal.τ).loc Cert.QKernelIdeal.main_arg7)) (m ((c.tc : Thread Cert.QKernelIdeal.nD Cert.QKernelIdeal.τ).loc Cert.QKernelIdeal.main_arg8)) (m ((c.tc : Thread Cert.QKernelIdeal.nD Cert.QKernelIdeal.τ).loc Cert.QKernelIdeal.main_arg9))) = (fun _ => 1#1)

def Pre_QReferenceIdeal (m : (ℓ : Loc Cert.QReferenceIdeal.nD Cert.QReferenceIdeal.τ Cert.QReferenceIdeal.sig) → Buf (Elt Ideal) ℓ) : Prop :=
  True

def Pre_QReferenceIdeal_q_finite [hPre_q_finite : Cert.Pre_q_finite.Facts] (m : (ℓ : Loc Cert.QReferenceIdeal.nD Cert.QReferenceIdeal.τ Cert.QReferenceIdeal.sig) → Buf (Elt Ideal) ℓ) : Prop :=
  ∀ c : Dev Cert.QReferenceIdeal.nD,
    (Cert.Pre_q_finite.fn (F := Ideal) (m ((c.tc : Thread Cert.QReferenceIdeal.nD Cert.QReferenceIdeal.τ).loc Cert.QReferenceIdeal.main_arg0)) (m ((c.tc : Thread Cert.QReferenceIdeal.nD Cert.QReferenceIdeal.τ).loc Cert.QReferenceIdeal.main_arg1)) (m ((c.tc : Thread Cert.QReferenceIdeal.nD Cert.QReferenceIdeal.τ).loc Cert.QReferenceIdeal.main_arg2)) (m ((c.tc : Thread Cert.QReferenceIdeal.nD Cert.QReferenceIdeal.τ).loc Cert.QReferenceIdeal.main_arg3)) (m ((c.tc : Thread Cert.QReferenceIdeal.nD Cert.QReferenceIdeal.τ).loc Cert.QReferenceIdeal.main_arg4)) (m ((c.tc : Thread Cert.QReferenceIdeal.nD Cert.QReferenceIdeal.τ).loc Cert.QReferenceIdeal.main_arg5)) (m ((c.tc : Thread Cert.QReferenceIdeal.nD Cert.QReferenceIdeal.τ).loc Cert.QReferenceIdeal.main_arg6)) (m ((c.tc : Thread Cert.QReferenceIdeal.nD Cert.QReferenceIdeal.τ).loc Cert.QReferenceIdeal.main_arg7)) (m ((c.tc : Thread Cert.QReferenceIdeal.nD Cert.QReferenceIdeal.τ).loc Cert.QReferenceIdeal.main_arg8)) (m ((c.tc : Thread Cert.QReferenceIdeal.nD Cert.QReferenceIdeal.τ).loc Cert.QReferenceIdeal.main_arg9))) = (fun _ => 1#1)

def Pre_FKernel (m : (ℓ : Loc Cert.FKernel.nD Cert.FKernel.τ Cert.FKernel.sig) → Buf (Elt Bits) ℓ) : Prop :=
  True

def Pre_FKernelIdeal (m : (ℓ : Loc Cert.FKernelIdeal.nD Cert.FKernelIdeal.τ Cert.FKernelIdeal.sig) → Buf (Elt Ideal) ℓ) : Prop :=
  True

def Pre_FKernelIdeal_f_finite [hPre_f_finite : Cert.Pre_f_finite.Facts] (m : (ℓ : Loc Cert.FKernelIdeal.nD Cert.FKernelIdeal.τ Cert.FKernelIdeal.sig) → Buf (Elt Ideal) ℓ) : Prop :=
  ∀ c : Dev Cert.FKernelIdeal.nD,
    (Cert.Pre_f_finite.fn (F := Ideal) (m ((c.tc : Thread Cert.FKernelIdeal.nD Cert.FKernelIdeal.τ).loc Cert.FKernelIdeal.main_arg0)) (m ((c.tc : Thread Cert.FKernelIdeal.nD Cert.FKernelIdeal.τ).loc Cert.FKernelIdeal.main_arg1)) (m ((c.tc : Thread Cert.FKernelIdeal.nD Cert.FKernelIdeal.τ).loc Cert.FKernelIdeal.main_arg2)) (m ((c.tc : Thread Cert.FKernelIdeal.nD Cert.FKernelIdeal.τ).loc Cert.FKernelIdeal.main_arg3)) (m ((c.tc : Thread Cert.FKernelIdeal.nD Cert.FKernelIdeal.τ).loc Cert.FKernelIdeal.main_arg4))) = (fun _ => 1#1)

def Pre_FReferenceIdeal (m : (ℓ : Loc Cert.FReferenceIdeal.nD Cert.FReferenceIdeal.τ Cert.FReferenceIdeal.sig) → Buf (Elt Ideal) ℓ) : Prop :=
  True

def Pre_FReferenceIdeal_f_finite [hPre_f_finite : Cert.Pre_f_finite.Facts] (m : (ℓ : Loc Cert.FReferenceIdeal.nD Cert.FReferenceIdeal.τ Cert.FReferenceIdeal.sig) → Buf (Elt Ideal) ℓ) : Prop :=
  ∀ c : Dev Cert.FReferenceIdeal.nD,
    (Cert.Pre_f_finite.fn (F := Ideal) (m ((c.tc : Thread Cert.FReferenceIdeal.nD Cert.FReferenceIdeal.τ).loc Cert.FReferenceIdeal.main_arg0)) (m ((c.tc : Thread Cert.FReferenceIdeal.nD Cert.FReferenceIdeal.τ).loc Cert.FReferenceIdeal.main_arg1)) (m ((c.tc : Thread Cert.FReferenceIdeal.nD Cert.FReferenceIdeal.τ).loc Cert.FReferenceIdeal.main_arg2)) (m ((c.tc : Thread Cert.FReferenceIdeal.nD Cert.FReferenceIdeal.τ).loc Cert.FReferenceIdeal.main_arg3)) (m ((c.tc : Thread Cert.FReferenceIdeal.nD Cert.FReferenceIdeal.τ).loc Cert.FReferenceIdeal.main_arg4))) = (fun _ => 1#1)

def quiescent_XKernel [hXKernel : Cert.XKernel.Facts] : Prop :=
  ∀ (m : (ℓ : Loc Cert.XKernel.nD Cert.XKernel.τ Cert.XKernel.sig) → Buf (Elt Bits) ℓ) (g : Dev Cert.XKernel.nD → PrngReg), Pre_XKernel m →
    θ_run (Cert.XKernel.defs (F := Bits)) (onTc (τ := Cert.XKernel.τ) (Cert.XKernel.main (F := Bits))) ⟨m, fun _ => 0, g⟩ (fun r => (∀ c : Dev Cert.XKernel.nD,
      r.2.mem ((c.tc : Thread Cert.XKernel.nD Cert.XKernel.τ).loc Cert.XKernel.main_arg0) = m ((c.tc : Thread Cert.XKernel.nD Cert.XKernel.τ).loc Cert.XKernel.main_arg0)
      ∧ r.2.mem ((c.tc : Thread Cert.XKernel.nD Cert.XKernel.τ).loc Cert.XKernel.main_arg1) = m ((c.tc : Thread Cert.XKernel.nD Cert.XKernel.τ).loc Cert.XKernel.main_arg1)
      ∧ r.2.mem ((c.tc : Thread Cert.XKernel.nD Cert.XKernel.τ).loc Cert.XKernel.main_arg2) = m ((c.tc : Thread Cert.XKernel.nD Cert.XKernel.τ).loc Cert.XKernel.main_arg2)
      ∧ r.2.mem ((c.tc : Thread Cert.XKernel.nD Cert.XKernel.τ).loc Cert.XKernel.main_arg3) = m ((c.tc : Thread Cert.XKernel.nD Cert.XKernel.τ).loc Cert.XKernel.main_arg3)
      ∧ r.2.mem ((c.tc : Thread Cert.XKernel.nD Cert.XKernel.τ).loc Cert.XKernel.main_arg4) = m ((c.tc : Thread Cert.XKernel.nD Cert.XKernel.τ).loc Cert.XKernel.main_arg4)
      ∧ r.2.mem ((c.tc : Thread Cert.XKernel.nD Cert.XKernel.τ).loc Cert.XKernel.main_arg5) = m ((c.tc : Thread Cert.XKernel.nD Cert.XKernel.τ).loc Cert.XKernel.main_arg5)
      ∧ r.2.mem ((c.tc : Thread Cert.XKernel.nD Cert.XKernel.τ).loc Cert.XKernel.main_arg6) = m ((c.tc : Thread Cert.XKernel.nD Cert.XKernel.τ).loc Cert.XKernel.main_arg6)
      ∧ r.2.mem ((c.tc : Thread Cert.XKernel.nD Cert.XKernel.τ).loc Cert.XKernel.main_arg7) = m ((c.tc : Thread Cert.XKernel.nD Cert.XKernel.τ).loc Cert.XKernel.main_arg7)
      ∧ r.2.mem ((c.tc : Thread Cert.XKernel.nD Cert.XKernel.τ).loc Cert.XKernel.main_arg8) = m ((c.tc : Thread Cert.XKernel.nD Cert.XKernel.τ).loc Cert.XKernel.main_arg8)
      ∧ r.2.mem ((c.tc : Thread Cert.XKernel.nD Cert.XKernel.τ).loc Cert.XKernel.main_arg9) = m ((c.tc : Thread Cert.XKernel.nD Cert.XKernel.τ).loc Cert.XKernel.main_arg9)
      ∧ r.2.mem ((c.tc : Thread Cert.XKernel.nD Cert.XKernel.τ).loc Cert.XKernel.main_arg10) = m ((c.tc : Thread Cert.XKernel.nD Cert.XKernel.τ).loc Cert.XKernel.main_arg10)
      ∧ r.2.mem ((c.tc : Thread Cert.XKernel.nD Cert.XKernel.τ).loc Cert.XKernel.main_arg11) = m ((c.tc : Thread Cert.XKernel.nD Cert.XKernel.τ).loc Cert.XKernel.main_arg11)
      ∧ r.2.mem ((c.tc : Thread Cert.XKernel.nD Cert.XKernel.τ).loc Cert.XKernel.main_arg12) = m ((c.tc : Thread Cert.XKernel.nD Cert.XKernel.τ).loc Cert.XKernel.main_arg12))
      ∧ r.2.sem = fun _ => 0)

def quiescent_XKernelIdeal [hXKernelIdeal : Cert.XKernelIdeal.Facts] : Prop :=
  ∀ (m : (ℓ : Loc Cert.XKernelIdeal.nD Cert.XKernelIdeal.τ Cert.XKernelIdeal.sig) → Buf (Elt Ideal) ℓ) (g : Dev Cert.XKernelIdeal.nD → PrngReg), Pre_XKernelIdeal m →
    θ_run (Cert.XKernelIdeal.defs (F := Ideal)) (onTc (τ := Cert.XKernelIdeal.τ) (Cert.XKernelIdeal.main (F := Ideal))) ⟨m, fun _ => 0, g⟩ (fun r => (∀ c : Dev Cert.XKernelIdeal.nD,
      r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
      ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1)
      ∧ r.2.mem ((c.tc : Thread Cert.XKernelIdeal.nD Cert.XKernelIdeal.τ).loc Cert.XKernelIdeal.main_arg2) = m ((c.tc : Thread Cert.XKernelIdeal.nD Cert.XKernelIdeal.τ).loc Cert.XKernelIdeal.main_arg2)
      ∧ r.2.mem ((c.tc : Thread Cert.XKernelIdeal.nD Cert.XKernelIdeal.τ).loc Cert.XKernelIdeal.main_arg3) = m ((c.tc : Thread Cert.XKernelIdeal.nD Cert.XKernelIdeal.τ).loc Cert.XKernelIdeal.main_arg3)
      ∧ r.2.mem ((c.tc : Thread Cert.XKernelIdeal.nD Cert.XKernelIdeal.τ).loc Cert.XKernelIdeal.main_arg4) = m ((c.tc : Thread Cert.XKernelIdeal.nD Cert.XKernelIdeal.τ).loc Cert.XKernelIdeal.main_arg4)
      ∧ r.2.mem ((c.tc : Thread Cert.XKernelIdeal.nD Cert.XKernelIdeal.τ).loc Cert.XKernelIdeal.main_arg5) = m ((c.tc : Thread Cert.XKernelIdeal.nD Cert.XKernelIdeal.τ).loc Cert.XKernelIdeal.main_arg5)
      ∧ r.2.mem ((c.tc : Thread Cert.XKernelIdeal.nD Cert.XKernelIdeal.τ).loc Cert.XKernelIdeal.main_arg6) = m ((c.tc : Thread Cert.XKernelIdeal.nD Cert.XKernelIdeal.τ).loc Cert.XKernelIdeal.main_arg6)
      ∧ r.2.mem ((c.tc : Thread Cert.XKernelIdeal.nD Cert.XKernelIdeal.τ).loc Cert.XKernelIdeal.main_arg7) = m ((c.tc : Thread Cert.XKernelIdeal.nD Cert.XKernelIdeal.τ).loc Cert.XKernelIdeal.main_arg7)
      ∧ r.2.mem ((c.tc : Thread Cert.XKernelIdeal.nD Cert.XKernelIdeal.τ).loc Cert.XKernelIdeal.main_arg8) = m ((c.tc : Thread Cert.XKernelIdeal.nD Cert.XKernelIdeal.τ).loc Cert.XKernelIdeal.main_arg8)
      ∧ r.2.mem ((c.tc : Thread Cert.XKernelIdeal.nD Cert.XKernelIdeal.τ).loc Cert.XKernelIdeal.main_arg9) = m ((c.tc : Thread Cert.XKernelIdeal.nD Cert.XKernelIdeal.τ).loc Cert.XKernelIdeal.main_arg9)
      ∧ r.2.mem ((c.tc : Thread Cert.XKernelIdeal.nD Cert.XKernelIdeal.τ).loc Cert.XKernelIdeal.main_arg10) = m ((c.tc : Thread Cert.XKernelIdeal.nD Cert.XKernelIdeal.τ).loc Cert.XKernelIdeal.main_arg10)
      ∧ r.2.mem ((c.tc : Thread Cert.XKernelIdeal.nD Cert.XKernelIdeal.τ).loc Cert.XKernelIdeal.main_arg11) = m ((c.tc : Thread Cert.XKernelIdeal.nD Cert.XKernelIdeal.τ).loc Cert.XKernelIdeal.main_arg11)
      ∧ r.2.mem ((c.tc : Thread Cert.XKernelIdeal.nD Cert.XKernelIdeal.τ).loc Cert.XKernelIdeal.main_arg12) = m ((c.tc : Thread Cert.XKernelIdeal.nD Cert.XKernelIdeal.τ).loc Cert.XKernelIdeal.main_arg12))
      ∧ r.2.sem = fun _ => 0)

def quiescent_XKernelIdeal_pre_x_finite [hXKernelIdeal : Cert.XKernelIdeal.Facts] [hPre_x_finite : Cert.Pre_x_finite.Facts] : Prop :=
  ∀ (m : (ℓ : Loc Cert.XKernelIdeal.nD Cert.XKernelIdeal.τ Cert.XKernelIdeal.sig) → Buf (Elt Ideal) ℓ) (g : Dev Cert.XKernelIdeal.nD → PrngReg), Pre_XKernelIdeal_x_finite m →
    θ_run (Cert.XKernelIdeal.defs (F := Ideal)) (onTc (τ := Cert.XKernelIdeal.τ) (Cert.XKernelIdeal.main (F := Ideal))) ⟨m, fun _ => 0, g⟩ (fun r => (∀ c : Dev Cert.XKernelIdeal.nD,
      r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
      ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1)
      ∧ r.2.mem ((c.tc : Thread Cert.XKernelIdeal.nD Cert.XKernelIdeal.τ).loc Cert.XKernelIdeal.main_arg2) = m ((c.tc : Thread Cert.XKernelIdeal.nD Cert.XKernelIdeal.τ).loc Cert.XKernelIdeal.main_arg2)
      ∧ r.2.mem ((c.tc : Thread Cert.XKernelIdeal.nD Cert.XKernelIdeal.τ).loc Cert.XKernelIdeal.main_arg3) = m ((c.tc : Thread Cert.XKernelIdeal.nD Cert.XKernelIdeal.τ).loc Cert.XKernelIdeal.main_arg3)
      ∧ r.2.mem ((c.tc : Thread Cert.XKernelIdeal.nD Cert.XKernelIdeal.τ).loc Cert.XKernelIdeal.main_arg4) = m ((c.tc : Thread Cert.XKernelIdeal.nD Cert.XKernelIdeal.τ).loc Cert.XKernelIdeal.main_arg4)
      ∧ r.2.mem ((c.tc : Thread Cert.XKernelIdeal.nD Cert.XKernelIdeal.τ).loc Cert.XKernelIdeal.main_arg5) = m ((c.tc : Thread Cert.XKernelIdeal.nD Cert.XKernelIdeal.τ).loc Cert.XKernelIdeal.main_arg5)
      ∧ r.2.mem ((c.tc : Thread Cert.XKernelIdeal.nD Cert.XKernelIdeal.τ).loc Cert.XKernelIdeal.main_arg6) = m ((c.tc : Thread Cert.XKernelIdeal.nD Cert.XKernelIdeal.τ).loc Cert.XKernelIdeal.main_arg6)
      ∧ r.2.mem ((c.tc : Thread Cert.XKernelIdeal.nD Cert.XKernelIdeal.τ).loc Cert.XKernelIdeal.main_arg7) = m ((c.tc : Thread Cert.XKernelIdeal.nD Cert.XKernelIdeal.τ).loc Cert.XKernelIdeal.main_arg7)
      ∧ r.2.mem ((c.tc : Thread Cert.XKernelIdeal.nD Cert.XKernelIdeal.τ).loc Cert.XKernelIdeal.main_arg8) = m ((c.tc : Thread Cert.XKernelIdeal.nD Cert.XKernelIdeal.τ).loc Cert.XKernelIdeal.main_arg8)
      ∧ r.2.mem ((c.tc : Thread Cert.XKernelIdeal.nD Cert.XKernelIdeal.τ).loc Cert.XKernelIdeal.main_arg9) = m ((c.tc : Thread Cert.XKernelIdeal.nD Cert.XKernelIdeal.τ).loc Cert.XKernelIdeal.main_arg9)
      ∧ r.2.mem ((c.tc : Thread Cert.XKernelIdeal.nD Cert.XKernelIdeal.τ).loc Cert.XKernelIdeal.main_arg10) = m ((c.tc : Thread Cert.XKernelIdeal.nD Cert.XKernelIdeal.τ).loc Cert.XKernelIdeal.main_arg10)
      ∧ r.2.mem ((c.tc : Thread Cert.XKernelIdeal.nD Cert.XKernelIdeal.τ).loc Cert.XKernelIdeal.main_arg11) = m ((c.tc : Thread Cert.XKernelIdeal.nD Cert.XKernelIdeal.τ).loc Cert.XKernelIdeal.main_arg11)
      ∧ r.2.mem ((c.tc : Thread Cert.XKernelIdeal.nD Cert.XKernelIdeal.τ).loc Cert.XKernelIdeal.main_arg12) = m ((c.tc : Thread Cert.XKernelIdeal.nD Cert.XKernelIdeal.τ).loc Cert.XKernelIdeal.main_arg12))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1)
      ∧ r.2.mem ((c.tc : Thread Cert.XReferenceIdeal.nD Cert.XReferenceIdeal.τ).loc Cert.XReferenceIdeal.main_arg2) = m ((c.tc : Thread Cert.XReferenceIdeal.nD Cert.XReferenceIdeal.τ).loc Cert.XReferenceIdeal.main_arg2)
      ∧ r.2.mem ((c.tc : Thread Cert.XReferenceIdeal.nD Cert.XReferenceIdeal.τ).loc Cert.XReferenceIdeal.main_arg3) = m ((c.tc : Thread Cert.XReferenceIdeal.nD Cert.XReferenceIdeal.τ).loc Cert.XReferenceIdeal.main_arg3)
      ∧ r.2.mem ((c.tc : Thread Cert.XReferenceIdeal.nD Cert.XReferenceIdeal.τ).loc Cert.XReferenceIdeal.main_arg4) = m ((c.tc : Thread Cert.XReferenceIdeal.nD Cert.XReferenceIdeal.τ).loc Cert.XReferenceIdeal.main_arg4)
      ∧ r.2.mem ((c.tc : Thread Cert.XReferenceIdeal.nD Cert.XReferenceIdeal.τ).loc Cert.XReferenceIdeal.main_arg5) = m ((c.tc : Thread Cert.XReferenceIdeal.nD Cert.XReferenceIdeal.τ).loc Cert.XReferenceIdeal.main_arg5)
      ∧ r.2.mem ((c.tc : Thread Cert.XReferenceIdeal.nD Cert.XReferenceIdeal.τ).loc Cert.XReferenceIdeal.main_arg6) = m ((c.tc : Thread Cert.XReferenceIdeal.nD Cert.XReferenceIdeal.τ).loc Cert.XReferenceIdeal.main_arg6)
      ∧ r.2.mem ((c.tc : Thread Cert.XReferenceIdeal.nD Cert.XReferenceIdeal.τ).loc Cert.XReferenceIdeal.main_arg7) = m ((c.tc : Thread Cert.XReferenceIdeal.nD Cert.XReferenceIdeal.τ).loc Cert.XReferenceIdeal.main_arg7)
      ∧ r.2.mem ((c.tc : Thread Cert.XReferenceIdeal.nD Cert.XReferenceIdeal.τ).loc Cert.XReferenceIdeal.main_arg8) = m ((c.tc : Thread Cert.XReferenceIdeal.nD Cert.XReferenceIdeal.τ).loc Cert.XReferenceIdeal.main_arg8)
      ∧ r.2.mem ((c.tc : Thread Cert.XReferenceIdeal.nD Cert.XReferenceIdeal.τ).loc Cert.XReferenceIdeal.main_arg9) = m ((c.tc : Thread Cert.XReferenceIdeal.nD Cert.XReferenceIdeal.τ).loc Cert.XReferenceIdeal.main_arg9)
      ∧ r.2.mem ((c.tc : Thread Cert.XReferenceIdeal.nD Cert.XReferenceIdeal.τ).loc Cert.XReferenceIdeal.main_arg10) = m ((c.tc : Thread Cert.XReferenceIdeal.nD Cert.XReferenceIdeal.τ).loc Cert.XReferenceIdeal.main_arg10)
      ∧ r.2.mem ((c.tc : Thread Cert.XReferenceIdeal.nD Cert.XReferenceIdeal.τ).loc Cert.XReferenceIdeal.main_arg11) = m ((c.tc : Thread Cert.XReferenceIdeal.nD Cert.XReferenceIdeal.τ).loc Cert.XReferenceIdeal.main_arg11)
      ∧ r.2.mem ((c.tc : Thread Cert.XReferenceIdeal.nD Cert.XReferenceIdeal.τ).loc Cert.XReferenceIdeal.main_arg12) = m ((c.tc : Thread Cert.XReferenceIdeal.nD Cert.XReferenceIdeal.τ).loc Cert.XReferenceIdeal.main_arg12))
      ∧ r.2.sem = fun _ => 0)

def quiescent_XReferenceIdeal_pre_x_finite [hXReferenceIdeal : Cert.XReferenceIdeal.Facts] [hPre_x_finite : Cert.Pre_x_finite.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal_x_finite m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1)
      ∧ r.2.mem ((c.tc : Thread Cert.XReferenceIdeal.nD Cert.XReferenceIdeal.τ).loc Cert.XReferenceIdeal.main_arg2) = m ((c.tc : Thread Cert.XReferenceIdeal.nD Cert.XReferenceIdeal.τ).loc Cert.XReferenceIdeal.main_arg2)
      ∧ r.2.mem ((c.tc : Thread Cert.XReferenceIdeal.nD Cert.XReferenceIdeal.τ).loc Cert.XReferenceIdeal.main_arg3) = m ((c.tc : Thread Cert.XReferenceIdeal.nD Cert.XReferenceIdeal.τ).loc Cert.XReferenceIdeal.main_arg3)
      ∧ r.2.mem ((c.tc : Thread Cert.XReferenceIdeal.nD Cert.XReferenceIdeal.τ).loc Cert.XReferenceIdeal.main_arg4) = m ((c.tc : Thread Cert.XReferenceIdeal.nD Cert.XReferenceIdeal.τ).loc Cert.XReferenceIdeal.main_arg4)
      ∧ r.2.mem ((c.tc : Thread Cert.XReferenceIdeal.nD Cert.XReferenceIdeal.τ).loc Cert.XReferenceIdeal.main_arg5) = m ((c.tc : Thread Cert.XReferenceIdeal.nD Cert.XReferenceIdeal.τ).loc Cert.XReferenceIdeal.main_arg5)
      ∧ r.2.mem ((c.tc : Thread Cert.XReferenceIdeal.nD Cert.XReferenceIdeal.τ).loc Cert.XReferenceIdeal.main_arg6) = m ((c.tc : Thread Cert.XReferenceIdeal.nD Cert.XReferenceIdeal.τ).loc Cert.XReferenceIdeal.main_arg6)
      ∧ r.2.mem ((c.tc : Thread Cert.XReferenceIdeal.nD Cert.XReferenceIdeal.τ).loc Cert.XReferenceIdeal.main_arg7) = m ((c.tc : Thread Cert.XReferenceIdeal.nD Cert.XReferenceIdeal.τ).loc Cert.XReferenceIdeal.main_arg7)
      ∧ r.2.mem ((c.tc : Thread Cert.XReferenceIdeal.nD Cert.XReferenceIdeal.τ).loc Cert.XReferenceIdeal.main_arg8) = m ((c.tc : Thread Cert.XReferenceIdeal.nD Cert.XReferenceIdeal.τ).loc Cert.XReferenceIdeal.main_arg8)
      ∧ r.2.mem ((c.tc : Thread Cert.XReferenceIdeal.nD Cert.XReferenceIdeal.τ).loc Cert.XReferenceIdeal.main_arg9) = m ((c.tc : Thread Cert.XReferenceIdeal.nD Cert.XReferenceIdeal.τ).loc Cert.XReferenceIdeal.main_arg9)
      ∧ r.2.mem ((c.tc : Thread Cert.XReferenceIdeal.nD Cert.XReferenceIdeal.τ).loc Cert.XReferenceIdeal.main_arg10) = m ((c.tc : Thread Cert.XReferenceIdeal.nD Cert.XReferenceIdeal.τ).loc Cert.XReferenceIdeal.main_arg10)
      ∧ r.2.mem ((c.tc : Thread Cert.XReferenceIdeal.nD Cert.XReferenceIdeal.τ).loc Cert.XReferenceIdeal.main_arg11) = m ((c.tc : Thread Cert.XReferenceIdeal.nD Cert.XReferenceIdeal.τ).loc Cert.XReferenceIdeal.main_arg11)
      ∧ r.2.mem ((c.tc : Thread Cert.XReferenceIdeal.nD Cert.XReferenceIdeal.τ).loc Cert.XReferenceIdeal.main_arg12) = m ((c.tc : Thread Cert.XReferenceIdeal.nD Cert.XReferenceIdeal.τ).loc Cert.XReferenceIdeal.main_arg12))
      ∧ r.2.sem = fun _ => 0)

def quiescent_AKernel [hAKernel : Cert.AKernel.Facts] : Prop :=
  ∀ (m : (ℓ : Loc Cert.AKernel.nD Cert.AKernel.τ Cert.AKernel.sig) → Buf (Elt Bits) ℓ) (g : Dev Cert.AKernel.nD → PrngReg), Pre_AKernel m →
    θ_run (Cert.AKernel.defs (F := Bits)) (onTc (τ := Cert.AKernel.τ) (Cert.AKernel.main (F := Bits))) ⟨m, fun _ => 0, g⟩ (fun r => (∀ c : Dev Cert.AKernel.nD,
      r.2.mem ((c.tc : Thread Cert.AKernel.nD Cert.AKernel.τ).loc Cert.AKernel.main_arg0) = m ((c.tc : Thread Cert.AKernel.nD Cert.AKernel.τ).loc Cert.AKernel.main_arg0)
      ∧ r.2.mem ((c.tc : Thread Cert.AKernel.nD Cert.AKernel.τ).loc Cert.AKernel.main_arg1) = m ((c.tc : Thread Cert.AKernel.nD Cert.AKernel.τ).loc Cert.AKernel.main_arg1)
      ∧ r.2.mem ((c.tc : Thread Cert.AKernel.nD Cert.AKernel.τ).loc Cert.AKernel.main_arg2) = m ((c.tc : Thread Cert.AKernel.nD Cert.AKernel.τ).loc Cert.AKernel.main_arg2)
      ∧ r.2.mem ((c.tc : Thread Cert.AKernel.nD Cert.AKernel.τ).loc Cert.AKernel.main_arg3) = m ((c.tc : Thread Cert.AKernel.nD Cert.AKernel.τ).loc Cert.AKernel.main_arg3)
      ∧ r.2.mem ((c.tc : Thread Cert.AKernel.nD Cert.AKernel.τ).loc Cert.AKernel.main_arg4) = m ((c.tc : Thread Cert.AKernel.nD Cert.AKernel.τ).loc Cert.AKernel.main_arg4)
      ∧ r.2.mem ((c.tc : Thread Cert.AKernel.nD Cert.AKernel.τ).loc Cert.AKernel.main_arg5) = m ((c.tc : Thread Cert.AKernel.nD Cert.AKernel.τ).loc Cert.AKernel.main_arg5))
      ∧ r.2.sem = fun _ => 0)

def quiescent_AKernelIdeal [hAKernelIdeal : Cert.AKernelIdeal.Facts] : Prop :=
  ∀ (m : (ℓ : Loc Cert.AKernelIdeal.nD Cert.AKernelIdeal.τ Cert.AKernelIdeal.sig) → Buf (Elt Ideal) ℓ) (g : Dev Cert.AKernelIdeal.nD → PrngReg), Pre_AKernelIdeal m →
    θ_run (Cert.AKernelIdeal.defs (F := Ideal)) (onTc (τ := Cert.AKernelIdeal.τ) (Cert.AKernelIdeal.main (F := Ideal))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
      ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
      ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3)
      ∧ r.2.mem ((c.tc : Thread Cert.AKernelIdeal.nD Cert.AKernelIdeal.τ).loc Cert.AKernelIdeal.main_arg4) = m ((c.tc : Thread Cert.AKernelIdeal.nD Cert.AKernelIdeal.τ).loc Cert.AKernelIdeal.main_arg4)
      ∧ r.2.mem ((c.tc : Thread Cert.AKernelIdeal.nD Cert.AKernelIdeal.τ).loc Cert.AKernelIdeal.main_arg5) = m ((c.tc : Thread Cert.AKernelIdeal.nD Cert.AKernelIdeal.τ).loc Cert.AKernelIdeal.main_arg5))
      ∧ r.2.sem = fun _ => 0)

def quiescent_AKernelIdeal_pre_a_finite [hAKernelIdeal : Cert.AKernelIdeal.Facts] [hPre_a_finite : Cert.Pre_a_finite.Facts] : Prop :=
  ∀ (m : (ℓ : Loc Cert.AKernelIdeal.nD Cert.AKernelIdeal.τ Cert.AKernelIdeal.sig) → Buf (Elt Ideal) ℓ) (g : Dev Cert.AKernelIdeal.nD → PrngReg), Pre_AKernelIdeal_a_finite m →
    θ_run (Cert.AKernelIdeal.defs (F := Ideal)) (onTc (τ := Cert.AKernelIdeal.τ) (Cert.AKernelIdeal.main (F := Ideal))) ⟨m, fun _ => 0, g⟩ (fun r => (∀ c : Dev Cert.AKernelIdeal.nD,
      r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
      ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
      ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
      ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3)
      ∧ r.2.mem ((c.tc : Thread Cert.AKernelIdeal.nD Cert.AKernelIdeal.τ).loc Cert.AKernelIdeal.main_arg4) = m ((c.tc : Thread Cert.AKernelIdeal.nD Cert.AKernelIdeal.τ).loc Cert.AKernelIdeal.main_arg4)
      ∧ r.2.mem ((c.tc : Thread Cert.AKernelIdeal.nD Cert.AKernelIdeal.τ).loc Cert.AKernelIdeal.main_arg5) = m ((c.tc : Thread Cert.AKernelIdeal.nD Cert.AKernelIdeal.τ).loc Cert.AKernelIdeal.main_arg5))
      ∧ r.2.sem = fun _ => 0)

def quiescent_AReferenceIdeal [hAReferenceIdeal : Cert.AReferenceIdeal.Facts] : Prop :=
  ∀ (m : (ℓ : Loc Cert.AReferenceIdeal.nD Cert.AReferenceIdeal.τ Cert.AReferenceIdeal.sig) → Buf (Elt Ideal) ℓ) (g : Dev Cert.AReferenceIdeal.nD → PrngReg), Pre_AReferenceIdeal m →
    θ_run (Cert.AReferenceIdeal.defs (F := Ideal)) (onTc (τ := Cert.AReferenceIdeal.τ) (Cert.AReferenceIdeal.main (F := Ideal))) ⟨m, fun _ => 0, g⟩ (fun r => (∀ c : Dev Cert.AReferenceIdeal.nD,
      r.2.mem ((c.tc : Thread Cert.AReferenceIdeal.nD Cert.AReferenceIdeal.τ).loc Cert.AReferenceIdeal.main_arg0) = m ((c.tc : Thread Cert.AReferenceIdeal.nD Cert.AReferenceIdeal.τ).loc Cert.AReferenceIdeal.main_arg0)
      ∧ r.2.mem ((c.tc : Thread Cert.AReferenceIdeal.nD Cert.AReferenceIdeal.τ).loc Cert.AReferenceIdeal.main_arg1) = m ((c.tc : Thread Cert.AReferenceIdeal.nD Cert.AReferenceIdeal.τ).loc Cert.AReferenceIdeal.main_arg1)
      ∧ r.2.mem ((c.tc : Thread Cert.AReferenceIdeal.nD Cert.AReferenceIdeal.τ).loc Cert.AReferenceIdeal.main_arg2) = m ((c.tc : Thread Cert.AReferenceIdeal.nD Cert.AReferenceIdeal.τ).loc Cert.AReferenceIdeal.main_arg2)
      ∧ r.2.mem ((c.tc : Thread Cert.AReferenceIdeal.nD Cert.AReferenceIdeal.τ).loc Cert.AReferenceIdeal.main_arg3) = m ((c.tc : Thread Cert.AReferenceIdeal.nD Cert.AReferenceIdeal.τ).loc Cert.AReferenceIdeal.main_arg3)
      ∧ r.2.mem ((c.tc : Thread Cert.AReferenceIdeal.nD Cert.AReferenceIdeal.τ).loc Cert.AReferenceIdeal.main_arg4) = m ((c.tc : Thread Cert.AReferenceIdeal.nD Cert.AReferenceIdeal.τ).loc Cert.AReferenceIdeal.main_arg4)
      ∧ r.2.mem ((c.tc : Thread Cert.AReferenceIdeal.nD Cert.AReferenceIdeal.τ).loc Cert.AReferenceIdeal.main_arg5) = m ((c.tc : Thread Cert.AReferenceIdeal.nD Cert.AReferenceIdeal.τ).loc Cert.AReferenceIdeal.main_arg5))
      ∧ r.2.sem = fun _ => 0)

def quiescent_AReferenceIdeal_pre_a_finite [hAReferenceIdeal : Cert.AReferenceIdeal.Facts] [hPre_a_finite : Cert.Pre_a_finite.Facts] : Prop :=
  ∀ (m : (ℓ : Loc Cert.AReferenceIdeal.nD Cert.AReferenceIdeal.τ Cert.AReferenceIdeal.sig) → Buf (Elt Ideal) ℓ) (g : Dev Cert.AReferenceIdeal.nD → PrngReg), Pre_AReferenceIdeal_a_finite m →
    θ_run (Cert.AReferenceIdeal.defs (F := Ideal)) (onTc (τ := Cert.AReferenceIdeal.τ) (Cert.AReferenceIdeal.main (F := Ideal))) ⟨m, fun _ => 0, g⟩ (fun r => (∀ c : Dev Cert.AReferenceIdeal.nD,
      r.2.mem ((c.tc : Thread Cert.AReferenceIdeal.nD Cert.AReferenceIdeal.τ).loc Cert.AReferenceIdeal.main_arg0) = m ((c.tc : Thread Cert.AReferenceIdeal.nD Cert.AReferenceIdeal.τ).loc Cert.AReferenceIdeal.main_arg0)
      ∧ r.2.mem ((c.tc : Thread Cert.AReferenceIdeal.nD Cert.AReferenceIdeal.τ).loc Cert.AReferenceIdeal.main_arg1) = m ((c.tc : Thread Cert.AReferenceIdeal.nD Cert.AReferenceIdeal.τ).loc Cert.AReferenceIdeal.main_arg1)
      ∧ r.2.mem ((c.tc : Thread Cert.AReferenceIdeal.nD Cert.AReferenceIdeal.τ).loc Cert.AReferenceIdeal.main_arg2) = m ((c.tc : Thread Cert.AReferenceIdeal.nD Cert.AReferenceIdeal.τ).loc Cert.AReferenceIdeal.main_arg2)
      ∧ r.2.mem ((c.tc : Thread Cert.AReferenceIdeal.nD Cert.AReferenceIdeal.τ).loc Cert.AReferenceIdeal.main_arg3) = m ((c.tc : Thread Cert.AReferenceIdeal.nD Cert.AReferenceIdeal.τ).loc Cert.AReferenceIdeal.main_arg3)
      ∧ r.2.mem ((c.tc : Thread Cert.AReferenceIdeal.nD Cert.AReferenceIdeal.τ).loc Cert.AReferenceIdeal.main_arg4) = m ((c.tc : Thread Cert.AReferenceIdeal.nD Cert.AReferenceIdeal.τ).loc Cert.AReferenceIdeal.main_arg4)
      ∧ r.2.mem ((c.tc : Thread Cert.AReferenceIdeal.nD Cert.AReferenceIdeal.τ).loc Cert.AReferenceIdeal.main_arg5) = m ((c.tc : Thread Cert.AReferenceIdeal.nD Cert.AReferenceIdeal.τ).loc Cert.AReferenceIdeal.main_arg5))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3)
      ∧ r.2.mem ((c.tc : Thread Cert.QKernel.nD Cert.QKernel.τ).loc Cert.QKernel.main_arg4) = m ((c.tc : Thread Cert.QKernel.nD Cert.QKernel.τ).loc Cert.QKernel.main_arg4)
      ∧ r.2.mem ((c.tc : Thread Cert.QKernel.nD Cert.QKernel.τ).loc Cert.QKernel.main_arg5) = m ((c.tc : Thread Cert.QKernel.nD Cert.QKernel.τ).loc Cert.QKernel.main_arg5)
      ∧ r.2.mem ((c.tc : Thread Cert.QKernel.nD Cert.QKernel.τ).loc Cert.QKernel.main_arg6) = m ((c.tc : Thread Cert.QKernel.nD Cert.QKernel.τ).loc Cert.QKernel.main_arg6)
      ∧ r.2.mem ((c.tc : Thread Cert.QKernel.nD Cert.QKernel.τ).loc Cert.QKernel.main_arg7) = m ((c.tc : Thread Cert.QKernel.nD Cert.QKernel.τ).loc Cert.QKernel.main_arg7)
      ∧ r.2.mem ((c.tc : Thread Cert.QKernel.nD Cert.QKernel.τ).loc Cert.QKernel.main_arg8) = m ((c.tc : Thread Cert.QKernel.nD Cert.QKernel.τ).loc Cert.QKernel.main_arg8)
      ∧ r.2.mem ((c.tc : Thread Cert.QKernel.nD Cert.QKernel.τ).loc Cert.QKernel.main_arg9) = m ((c.tc : Thread Cert.QKernel.nD Cert.QKernel.τ).loc Cert.QKernel.main_arg9))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4)
      ∧ r.2.mem ((c.tc : Thread Cert.QKernelIdeal.nD Cert.QKernelIdeal.τ).loc Cert.QKernelIdeal.main_arg5) = m ((c.tc : Thread Cert.QKernelIdeal.nD Cert.QKernelIdeal.τ).loc Cert.QKernelIdeal.main_arg5)
      ∧ r.2.mem ((c.tc : Thread Cert.QKernelIdeal.nD Cert.QKernelIdeal.τ).loc Cert.QKernelIdeal.main_arg6) = m ((c.tc : Thread Cert.QKernelIdeal.nD Cert.QKernelIdeal.τ).loc Cert.QKernelIdeal.main_arg6)
      ∧ r.2.mem ((c.tc : Thread Cert.QKernelIdeal.nD Cert.QKernelIdeal.τ).loc Cert.QKernelIdeal.main_arg7) = m ((c.tc : Thread Cert.QKernelIdeal.nD Cert.QKernelIdeal.τ).loc Cert.QKernelIdeal.main_arg7)
      ∧ r.2.mem ((c.tc : Thread Cert.QKernelIdeal.nD Cert.QKernelIdeal.τ).loc Cert.QKernelIdeal.main_arg8) = m ((c.tc : Thread Cert.QKernelIdeal.nD Cert.QKernelIdeal.τ).loc Cert.QKernelIdeal.main_arg8)
      ∧ r.2.mem ((c.tc : Thread Cert.QKernelIdeal.nD Cert.QKernelIdeal.τ).loc Cert.QKernelIdeal.main_arg9) = m ((c.tc : Thread Cert.QKernelIdeal.nD Cert.QKernelIdeal.τ).loc Cert.QKernelIdeal.main_arg9))
      ∧ r.2.sem = fun _ => 0)

def quiescent_QKernelIdeal_pre_q_finite [hQKernelIdeal : Cert.QKernelIdeal.Facts] [hPre_q_finite : Cert.Pre_q_finite.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal_q_finite m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4)
      ∧ r.2.mem ((c.tc : Thread Cert.QKernelIdeal.nD Cert.QKernelIdeal.τ).loc Cert.QKernelIdeal.main_arg5) = m ((c.tc : Thread Cert.QKernelIdeal.nD Cert.QKernelIdeal.τ).loc Cert.QKernelIdeal.main_arg5)
      ∧ r.2.mem ((c.tc : Thread Cert.QKernelIdeal.nD Cert.QKernelIdeal.τ).loc Cert.QKernelIdeal.main_arg6) = m ((c.tc : Thread Cert.QKernelIdeal.nD Cert.QKernelIdeal.τ).loc Cert.QKernelIdeal.main_arg6)
      ∧ r.2.mem ((c.tc : Thread Cert.QKernelIdeal.nD Cert.QKernelIdeal.τ).loc Cert.QKernelIdeal.main_arg7) = m ((c.tc : Thread Cert.QKernelIdeal.nD Cert.QKernelIdeal.τ).loc Cert.QKernelIdeal.main_arg7)
      ∧ r.2.mem ((c.tc : Thread Cert.QKernelIdeal.nD Cert.QKernelIdeal.τ).loc Cert.QKernelIdeal.main_arg8) = m ((c.tc : Thread Cert.QKernelIdeal.nD Cert.QKernelIdeal.τ).loc Cert.QKernelIdeal.main_arg8)
      ∧ r.2.mem ((c.tc : Thread Cert.QKernelIdeal.nD Cert.QKernelIdeal.τ).loc Cert.QKernelIdeal.main_arg9) = m ((c.tc : Thread Cert.QKernelIdeal.nD Cert.QKernelIdeal.τ).loc Cert.QKernelIdeal.main_arg9))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3)
      ∧ r.2.mem ((c.tc : Thread Cert.QReferenceIdeal.nD Cert.QReferenceIdeal.τ).loc Cert.QReferenceIdeal.main_arg4) = m ((c.tc : Thread Cert.QReferenceIdeal.nD Cert.QReferenceIdeal.τ).loc Cert.QReferenceIdeal.main_arg4)
      ∧ r.2.mem ((c.tc : Thread Cert.QReferenceIdeal.nD Cert.QReferenceIdeal.τ).loc Cert.QReferenceIdeal.main_arg5) = m ((c.tc : Thread Cert.QReferenceIdeal.nD Cert.QReferenceIdeal.τ).loc Cert.QReferenceIdeal.main_arg5)
      ∧ r.2.mem ((c.tc : Thread Cert.QReferenceIdeal.nD Cert.QReferenceIdeal.τ).loc Cert.QReferenceIdeal.main_arg6) = m ((c.tc : Thread Cert.QReferenceIdeal.nD Cert.QReferenceIdeal.τ).loc Cert.QReferenceIdeal.main_arg6)
      ∧ r.2.mem ((c.tc : Thread Cert.QReferenceIdeal.nD Cert.QReferenceIdeal.τ).loc Cert.QReferenceIdeal.main_arg7) = m ((c.tc : Thread Cert.QReferenceIdeal.nD Cert.QReferenceIdeal.τ).loc Cert.QReferenceIdeal.main_arg7)
      ∧ r.2.mem ((c.tc : Thread Cert.QReferenceIdeal.nD Cert.QReferenceIdeal.τ).loc Cert.QReferenceIdeal.main_arg8) = m ((c.tc : Thread Cert.QReferenceIdeal.nD Cert.QReferenceIdeal.τ).loc Cert.QReferenceIdeal.main_arg8)
      ∧ r.2.mem ((c.tc : Thread Cert.QReferenceIdeal.nD Cert.QReferenceIdeal.τ).loc Cert.QReferenceIdeal.main_arg9) = m ((c.tc : Thread Cert.QReferenceIdeal.nD Cert.QReferenceIdeal.τ).loc Cert.QReferenceIdeal.main_arg9))
      ∧ r.2.sem = fun _ => 0)

def quiescent_QReferenceIdeal_pre_q_finite [hQReferenceIdeal : Cert.QReferenceIdeal.Facts] [hPre_q_finite : Cert.Pre_q_finite.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal_q_finite m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3)
      ∧ r.2.mem ((c.tc : Thread Cert.QReferenceIdeal.nD Cert.QReferenceIdeal.τ).loc Cert.QReferenceIdeal.main_arg4) = m ((c.tc : Thread Cert.QReferenceIdeal.nD Cert.QReferenceIdeal.τ).loc Cert.QReferenceIdeal.main_arg4)
      ∧ r.2.mem ((c.tc : Thread Cert.QReferenceIdeal.nD Cert.QReferenceIdeal.τ).loc Cert.QReferenceIdeal.main_arg5) = m ((c.tc : Thread Cert.QReferenceIdeal.nD Cert.QReferenceIdeal.τ).loc Cert.QReferenceIdeal.main_arg5)
      ∧ r.2.mem ((c.tc : Thread Cert.QReferenceIdeal.nD Cert.QReferenceIdeal.τ).loc Cert.QReferenceIdeal.main_arg6) = m ((c.tc : Thread Cert.QReferenceIdeal.nD Cert.QReferenceIdeal.τ).loc Cert.QReferenceIdeal.main_arg6)
      ∧ r.2.mem ((c.tc : Thread Cert.QReferenceIdeal.nD Cert.QReferenceIdeal.τ).loc Cert.QReferenceIdeal.main_arg7) = m ((c.tc : Thread Cert.QReferenceIdeal.nD Cert.QReferenceIdeal.τ).loc Cert.QReferenceIdeal.main_arg7)
      ∧ r.2.mem ((c.tc : Thread Cert.QReferenceIdeal.nD Cert.QReferenceIdeal.τ).loc Cert.QReferenceIdeal.main_arg8) = m ((c.tc : Thread Cert.QReferenceIdeal.nD Cert.QReferenceIdeal.τ).loc Cert.QReferenceIdeal.main_arg8)
      ∧ r.2.mem ((c.tc : Thread Cert.QReferenceIdeal.nD Cert.QReferenceIdeal.τ).loc Cert.QReferenceIdeal.main_arg9) = m ((c.tc : Thread Cert.QReferenceIdeal.nD Cert.QReferenceIdeal.τ).loc Cert.QReferenceIdeal.main_arg9))
      ∧ r.2.sem = fun _ => 0)

def quiescent_FKernel [hFKernel : Cert.FKernel.Facts] : Prop :=
  ∀ (m : (ℓ : Loc Cert.FKernel.nD Cert.FKernel.τ Cert.FKernel.sig) → Buf (Elt Bits) ℓ) (g : Dev Cert.FKernel.nD → PrngReg), Pre_FKernel m →
    θ_run (Cert.FKernel.defs (F := Bits)) (onTc (τ := Cert.FKernel.τ) (Cert.FKernel.main (F := Bits))) ⟨m, fun _ => 0, g⟩ (fun r => (∀ c : Dev Cert.FKernel.nD,
      r.2.mem ((c.tc : Thread Cert.FKernel.nD Cert.FKernel.τ).loc Cert.FKernel.main_arg0) = m ((c.tc : Thread Cert.FKernel.nD Cert.FKernel.τ).loc Cert.FKernel.main_arg0)
      ∧ r.2.mem ((c.tc : Thread Cert.FKernel.nD Cert.FKernel.τ).loc Cert.FKernel.main_arg1) = m ((c.tc : Thread Cert.FKernel.nD Cert.FKernel.τ).loc Cert.FKernel.main_arg1)
      ∧ r.2.mem ((c.tc : Thread Cert.FKernel.nD Cert.FKernel.τ).loc Cert.FKernel.main_arg2) = m ((c.tc : Thread Cert.FKernel.nD Cert.FKernel.τ).loc Cert.FKernel.main_arg2)
      ∧ r.2.mem ((c.tc : Thread Cert.FKernel.nD Cert.FKernel.τ).loc Cert.FKernel.main_arg3) = m ((c.tc : Thread Cert.FKernel.nD Cert.FKernel.τ).loc Cert.FKernel.main_arg3)
      ∧ r.2.mem ((c.tc : Thread Cert.FKernel.nD Cert.FKernel.τ).loc Cert.FKernel.main_arg4) = m ((c.tc : Thread Cert.FKernel.nD Cert.FKernel.τ).loc Cert.FKernel.main_arg4))
      ∧ r.2.sem = fun _ => 0)

def quiescent_FKernelIdeal [hFKernelIdeal : Cert.FKernelIdeal.Facts] : Prop :=
  ∀ (m : (ℓ : Loc Cert.FKernelIdeal.nD Cert.FKernelIdeal.τ Cert.FKernelIdeal.sig) → Buf (Elt Ideal) ℓ) (g : Dev Cert.FKernelIdeal.nD → PrngReg), Pre_FKernelIdeal m →
    θ_run (Cert.FKernelIdeal.defs (F := Ideal)) (onTc (τ := Cert.FKernelIdeal.τ) (Cert.FKernelIdeal.main (F := Ideal))) ⟨m, fun _ => 0, g⟩ (fun r => (∀ c : Dev Cert.FKernelIdeal.nD,
      r.2.mem ((c.tc : Thread Cert.FKernelIdeal.nD Cert.FKernelIdeal.τ).loc Cert.FKernelIdeal.main_arg0) = m ((c.tc : Thread Cert.FKernelIdeal.nD Cert.FKernelIdeal.τ).loc Cert.FKernelIdeal.main_arg0)
      ∧ r.2.mem ((c.tc : Thread Cert.FKernelIdeal.nD Cert.FKernelIdeal.τ).loc Cert.FKernelIdeal.main_arg1) = m ((c.tc : Thread Cert.FKernelIdeal.nD Cert.FKernelIdeal.τ).loc Cert.FKernelIdeal.main_arg1)
      ∧ r.2.mem ((c.tc : Thread Cert.FKernelIdeal.nD Cert.FKernelIdeal.τ).loc Cert.FKernelIdeal.main_arg2) = m ((c.tc : Thread Cert.FKernelIdeal.nD Cert.FKernelIdeal.τ).loc Cert.FKernelIdeal.main_arg2)
      ∧ r.2.mem ((c.tc : Thread Cert.FKernelIdeal.nD Cert.FKernelIdeal.τ).loc Cert.FKernelIdeal.main_arg3) = m ((c.tc : Thread Cert.FKernelIdeal.nD Cert.FKernelIdeal.τ).loc Cert.FKernelIdeal.main_arg3)
      ∧ r.2.mem ((c.tc : Thread Cert.FKernelIdeal.nD Cert.FKernelIdeal.τ).loc Cert.FKernelIdeal.main_arg4) = m ((c.tc : Thread Cert.FKernelIdeal.nD Cert.FKernelIdeal.τ).loc Cert.FKernelIdeal.main_arg4))
      ∧ r.2.sem = fun _ => 0)

def quiescent_FKernelIdeal_pre_f_finite [hFKernelIdeal : Cert.FKernelIdeal.Facts] [hPre_f_finite : Cert.Pre_f_finite.Facts] : Prop :=
  ∀ (m : (ℓ : Loc Cert.FKernelIdeal.nD Cert.FKernelIdeal.τ Cert.FKernelIdeal.sig) → Buf (Elt Ideal) ℓ) (g : Dev Cert.FKernelIdeal.nD → PrngReg), Pre_FKernelIdeal_f_finite m →
    θ_run (Cert.FKernelIdeal.defs (F := Ideal)) (onTc (τ := Cert.FKernelIdeal.τ) (Cert.FKernelIdeal.main (F := Ideal))) ⟨m, fun _ => 0, g⟩ (fun r => (∀ c : Dev Cert.FKernelIdeal.nD,
      r.2.mem ((c.tc : Thread Cert.FKernelIdeal.nD Cert.FKernelIdeal.τ).loc Cert.FKernelIdeal.main_arg0) = m ((c.tc : Thread Cert.FKernelIdeal.nD Cert.FKernelIdeal.τ).loc Cert.FKernelIdeal.main_arg0)
      ∧ r.2.mem ((c.tc : Thread Cert.FKernelIdeal.nD Cert.FKernelIdeal.τ).loc Cert.FKernelIdeal.main_arg1) = m ((c.tc : Thread Cert.FKernelIdeal.nD Cert.FKernelIdeal.τ).loc Cert.FKernelIdeal.main_arg1)
      ∧ r.2.mem ((c.tc : Thread Cert.FKernelIdeal.nD Cert.FKernelIdeal.τ).loc Cert.FKernelIdeal.main_arg2) = m ((c.tc : Thread Cert.FKernelIdeal.nD Cert.FKernelIdeal.τ).loc Cert.FKernelIdeal.main_arg2)
      ∧ r.2.mem ((c.tc : Thread Cert.FKernelIdeal.nD Cert.FKernelIdeal.τ).loc Cert.FKernelIdeal.main_arg3) = m ((c.tc : Thread Cert.FKernelIdeal.nD Cert.FKernelIdeal.τ).loc Cert.FKernelIdeal.main_arg3)
      ∧ r.2.mem ((c.tc : Thread Cert.FKernelIdeal.nD Cert.FKernelIdeal.τ).loc Cert.FKernelIdeal.main_arg4) = m ((c.tc : Thread Cert.FKernelIdeal.nD Cert.FKernelIdeal.τ).loc Cert.FKernelIdeal.main_arg4))
      ∧ r.2.sem = fun _ => 0)

def quiescent_FReferenceIdeal [hFReferenceIdeal : Cert.FReferenceIdeal.Facts] : Prop :=
  ∀ (m : (ℓ : Loc Cert.FReferenceIdeal.nD Cert.FReferenceIdeal.τ Cert.FReferenceIdeal.sig) → Buf (Elt Ideal) ℓ) (g : Dev Cert.FReferenceIdeal.nD → PrngReg), Pre_FReferenceIdeal m →
    θ_run (Cert.FReferenceIdeal.defs (F := Ideal)) (onTc (τ := Cert.FReferenceIdeal.τ) (Cert.FReferenceIdeal.main (F := Ideal))) ⟨m, fun _ => 0, g⟩ (fun r => (∀ c : Dev Cert.FReferenceIdeal.nD,
      r.2.mem ((c.tc : Thread Cert.FReferenceIdeal.nD Cert.FReferenceIdeal.τ).loc Cert.FReferenceIdeal.main_arg0) = m ((c.tc : Thread Cert.FReferenceIdeal.nD Cert.FReferenceIdeal.τ).loc Cert.FReferenceIdeal.main_arg0)
      ∧ r.2.mem ((c.tc : Thread Cert.FReferenceIdeal.nD Cert.FReferenceIdeal.τ).loc Cert.FReferenceIdeal.main_arg1) = m ((c.tc : Thread Cert.FReferenceIdeal.nD Cert.FReferenceIdeal.τ).loc Cert.FReferenceIdeal.main_arg1)
      ∧ r.2.mem ((c.tc : Thread Cert.FReferenceIdeal.nD Cert.FReferenceIdeal.τ).loc Cert.FReferenceIdeal.main_arg2) = m ((c.tc : Thread Cert.FReferenceIdeal.nD Cert.FReferenceIdeal.τ).loc Cert.FReferenceIdeal.main_arg2)
      ∧ r.2.mem ((c.tc : Thread Cert.FReferenceIdeal.nD Cert.FReferenceIdeal.τ).loc Cert.FReferenceIdeal.main_arg3) = m ((c.tc : Thread Cert.FReferenceIdeal.nD Cert.FReferenceIdeal.τ).loc Cert.FReferenceIdeal.main_arg3)
      ∧ r.2.mem ((c.tc : Thread Cert.FReferenceIdeal.nD Cert.FReferenceIdeal.τ).loc Cert.FReferenceIdeal.main_arg4) = m ((c.tc : Thread Cert.FReferenceIdeal.nD Cert.FReferenceIdeal.τ).loc Cert.FReferenceIdeal.main_arg4))
      ∧ r.2.sem = fun _ => 0)

def quiescent_FReferenceIdeal_pre_f_finite [hFReferenceIdeal : Cert.FReferenceIdeal.Facts] [hPre_f_finite : Cert.Pre_f_finite.Facts] : Prop :=
  ∀ (m : (ℓ : Loc Cert.FReferenceIdeal.nD Cert.FReferenceIdeal.τ Cert.FReferenceIdeal.sig) → Buf (Elt Ideal) ℓ) (g : Dev Cert.FReferenceIdeal.nD → PrngReg), Pre_FReferenceIdeal_f_finite m →
    θ_run (Cert.FReferenceIdeal.defs (F := Ideal)) (onTc (τ := Cert.FReferenceIdeal.τ) (Cert.FReferenceIdeal.main (F := Ideal))) ⟨m, fun _ => 0, g⟩ (fun r => (∀ c : Dev Cert.FReferenceIdeal.nD,
      r.2.mem ((c.tc : Thread Cert.FReferenceIdeal.nD Cert.FReferenceIdeal.τ).loc Cert.FReferenceIdeal.main_arg0) = m ((c.tc : Thread Cert.FReferenceIdeal.nD Cert.FReferenceIdeal.τ).loc Cert.FReferenceIdeal.main_arg0)
      ∧ r.2.mem ((c.tc : Thread Cert.FReferenceIdeal.nD Cert.FReferenceIdeal.τ).loc Cert.FReferenceIdeal.main_arg1) = m ((c.tc : Thread Cert.FReferenceIdeal.nD Cert.FReferenceIdeal.τ).loc Cert.FReferenceIdeal.main_arg1)
      ∧ r.2.mem ((c.tc : Thread Cert.FReferenceIdeal.nD Cert.FReferenceIdeal.τ).loc Cert.FReferenceIdeal.main_arg2) = m ((c.tc : Thread Cert.FReferenceIdeal.nD Cert.FReferenceIdeal.τ).loc Cert.FReferenceIdeal.main_arg2)
      ∧ r.2.mem ((c.tc : Thread Cert.FReferenceIdeal.nD Cert.FReferenceIdeal.τ).loc Cert.FReferenceIdeal.main_arg3) = m ((c.tc : Thread Cert.FReferenceIdeal.nD Cert.FReferenceIdeal.τ).loc Cert.FReferenceIdeal.main_arg3)
      ∧ r.2.mem ((c.tc : Thread Cert.FReferenceIdeal.nD Cert.FReferenceIdeal.τ).loc Cert.FReferenceIdeal.main_arg4) = m ((c.tc : Thread Cert.FReferenceIdeal.nD Cert.FReferenceIdeal.τ).loc Cert.FReferenceIdeal.main_arg4))
      ∧ r.2.sem = fun _ => 0)

def preserves_XKernel_XKernelIdeal : Prop :=
  True

def algebraic_XKernelIdeal_XReferenceIdeal_pre_x_finite [hXKernelIdeal : Cert.XKernelIdeal.Facts] [hXReferenceIdeal : Cert.XReferenceIdeal.Facts] [hPre_x_finite : Cert.Pre_x_finite.Facts] : Prop :=
  ∀ (m : (ℓ : Loc Cert.XKernelIdeal.nD Cert.XKernelIdeal.τ Cert.XKernelIdeal.sig) → Buf (Elt Ideal) ℓ) (g : Dev Cert.XKernelIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_XKernelIdeal_x_finite m →
    (∀ c : Dev Cert.XKernelIdeal.nD,
      m' ((c.tc : Thread Cert.XReferenceIdeal.nD Cert.XReferenceIdeal.τ).loc Cert.XReferenceIdeal.main_arg0) = m ((c.tc : Thread Cert.XKernelIdeal.nD Cert.XKernelIdeal.τ).loc Cert.XKernelIdeal.main_arg0)
      ∧ m' ((c.tc : Thread Cert.XReferenceIdeal.nD Cert.XReferenceIdeal.τ).loc Cert.XReferenceIdeal.main_arg1) = m ((c.tc : Thread Cert.XKernelIdeal.nD Cert.XKernelIdeal.τ).loc Cert.XKernelIdeal.main_arg1)
      ∧ m' ((c.tc : Thread Cert.XReferenceIdeal.nD Cert.XReferenceIdeal.τ).loc Cert.XReferenceIdeal.main_arg2) = m ((c.tc : Thread Cert.XKernelIdeal.nD Cert.XKernelIdeal.τ).loc Cert.XKernelIdeal.main_arg2)
      ∧ m' ((c.tc : Thread Cert.XReferenceIdeal.nD Cert.XReferenceIdeal.τ).loc Cert.XReferenceIdeal.main_arg3) = m ((c.tc : Thread Cert.XKernelIdeal.nD Cert.XKernelIdeal.τ).loc Cert.XKernelIdeal.main_arg3)
      ∧ m' ((c.tc : Thread Cert.XReferenceIdeal.nD Cert.XReferenceIdeal.τ).loc Cert.XReferenceIdeal.main_arg4) = m ((c.tc : Thread Cert.XKernelIdeal.nD Cert.XKernelIdeal.τ).loc Cert.XKernelIdeal.main_arg4)
      ∧ m' ((c.tc : Thread Cert.XReferenceIdeal.nD Cert.XReferenceIdeal.τ).loc Cert.XReferenceIdeal.main_arg5) = m ((c.tc : Thread Cert.XKernelIdeal.nD Cert.XKernelIdeal.τ).loc Cert.XKernelIdeal.main_arg5)
      ∧ m' ((c.tc : Thread Cert.XReferenceIdeal.nD Cert.XReferenceIdeal.τ).loc Cert.XReferenceIdeal.main_arg6) = m ((c.tc : Thread Cert.XKernelIdeal.nD Cert.XKernelIdeal.τ).loc Cert.XKernelIdeal.main_arg6)
      ∧ m' ((c.tc : Thread Cert.XReferenceIdeal.nD Cert.XReferenceIdeal.τ).loc Cert.XReferenceIdeal.main_arg7) = m ((c.tc : Thread Cert.XKernelIdeal.nD Cert.XKernelIdeal.τ).loc Cert.XKernelIdeal.main_arg7)
      ∧ m' ((c.tc : Thread Cert.XReferenceIdeal.nD Cert.XReferenceIdeal.τ).loc Cert.XReferenceIdeal.main_arg8) = m ((c.tc : Thread Cert.XKernelIdeal.nD Cert.XKernelIdeal.τ).loc Cert.XKernelIdeal.main_arg8)
      ∧ m' ((c.tc : Thread Cert.XReferenceIdeal.nD Cert.XReferenceIdeal.τ).loc Cert.XReferenceIdeal.main_arg9) = m ((c.tc : Thread Cert.XKernelIdeal.nD Cert.XKernelIdeal.τ).loc Cert.XKernelIdeal.main_arg9)
      ∧ m' ((c.tc : Thread Cert.XReferenceIdeal.nD Cert.XReferenceIdeal.τ).loc Cert.XReferenceIdeal.main_arg10) = m ((c.tc : Thread Cert.XKernelIdeal.nD Cert.XKernelIdeal.τ).loc Cert.XKernelIdeal.main_arg10)
      ∧ m' ((c.tc : Thread Cert.XReferenceIdeal.nD Cert.XReferenceIdeal.τ).loc Cert.XReferenceIdeal.main_arg11) = m ((c.tc : Thread Cert.XKernelIdeal.nD Cert.XKernelIdeal.τ).loc Cert.XKernelIdeal.main_arg11)
      ∧ m' ((c.tc : Thread Cert.XReferenceIdeal.nD Cert.XReferenceIdeal.τ).loc Cert.XReferenceIdeal.main_arg12) = m ((c.tc : Thread Cert.XKernelIdeal.nD Cert.XKernelIdeal.τ).loc Cert.XKernelIdeal.main_arg12)) →
    ∃ (v0 : (c : Dev Cert.XKernelIdeal.nD) → Buf (Elt Ideal) ((c.tc : Thread Cert.XKernelIdeal.nD Cert.XKernelIdeal.τ).loc Cert.XKernelIdeal.main_v45_0)) (v1 : (c : Dev Cert.XKernelIdeal.nD) → Buf (Elt Ideal) ((c.tc : Thread Cert.XKernelIdeal.nD Cert.XKernelIdeal.τ).loc Cert.XKernelIdeal.main_v45_1)) (v2 : (c : Dev Cert.XKernelIdeal.nD) → Buf (Elt Ideal) ((c.tc : Thread Cert.XKernelIdeal.nD Cert.XKernelIdeal.τ).loc Cert.XKernelIdeal.main_v45_2)),
      θ_run (Cert.XKernelIdeal.defs (F := Ideal)) (onTc (τ := Cert.XKernelIdeal.τ) (Cert.XKernelIdeal.main (F := Ideal))) ⟨m, fun _ => 0, g⟩ (fun r => ∀ c : Dev Cert.XKernelIdeal.nD,
          r.2.mem ((c.tc : Thread Cert.XKernelIdeal.nD Cert.XKernelIdeal.τ).loc Cert.XKernelIdeal.main_v45_0) = v0 c
          ∧ r.2.mem ((c.tc : Thread Cert.XKernelIdeal.nD Cert.XKernelIdeal.τ).loc Cert.XKernelIdeal.main_v45_1) = v1 c
          ∧ r.2.mem ((c.tc : Thread Cert.XKernelIdeal.nD Cert.XKernelIdeal.τ).loc Cert.XKernelIdeal.main_v45_2) = v2 c
          ∧ r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
          ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1)
          ∧ r.2.mem ((c.tc : Thread Cert.XKernelIdeal.nD Cert.XKernelIdeal.τ).loc Cert.XKernelIdeal.main_arg2) = m ((c.tc : Thread Cert.XKernelIdeal.nD Cert.XKernelIdeal.τ).loc Cert.XKernelIdeal.main_arg2)
          ∧ r.2.mem ((c.tc : Thread Cert.XKernelIdeal.nD Cert.XKernelIdeal.τ).loc Cert.XKernelIdeal.main_arg3) = m ((c.tc : Thread Cert.XKernelIdeal.nD Cert.XKernelIdeal.τ).loc Cert.XKernelIdeal.main_arg3)
          ∧ r.2.mem ((c.tc : Thread Cert.XKernelIdeal.nD Cert.XKernelIdeal.τ).loc Cert.XKernelIdeal.main_arg4) = m ((c.tc : Thread Cert.XKernelIdeal.nD Cert.XKernelIdeal.τ).loc Cert.XKernelIdeal.main_arg4)
          ∧ r.2.mem ((c.tc : Thread Cert.XKernelIdeal.nD Cert.XKernelIdeal.τ).loc Cert.XKernelIdeal.main_arg5) = m ((c.tc : Thread Cert.XKernelIdeal.nD Cert.XKernelIdeal.τ).loc Cert.XKernelIdeal.main_arg5)
          ∧ r.2.mem ((c.tc : Thread Cert.XKernelIdeal.nD Cert.XKernelIdeal.τ).loc Cert.XKernelIdeal.main_arg6) = m ((c.tc : Thread Cert.XKernelIdeal.nD Cert.XKernelIdeal.τ).loc Cert.XKernelIdeal.main_arg6)
          ∧ r.2.mem ((c.tc : Thread Cert.XKernelIdeal.nD Cert.XKernelIdeal.τ).loc Cert.XKernelIdeal.main_arg7) = m ((c.tc : Thread Cert.XKernelIdeal.nD Cert.XKernelIdeal.τ).loc Cert.XKernelIdeal.main_arg7)
          ∧ r.2.mem ((c.tc : Thread Cert.XKernelIdeal.nD Cert.XKernelIdeal.τ).loc Cert.XKernelIdeal.main_arg8) = m ((c.tc : Thread Cert.XKernelIdeal.nD Cert.XKernelIdeal.τ).loc Cert.XKernelIdeal.main_arg8)
          ∧ r.2.mem ((c.tc : Thread Cert.XKernelIdeal.nD Cert.XKernelIdeal.τ).loc Cert.XKernelIdeal.main_arg9) = m ((c.tc : Thread Cert.XKernelIdeal.nD Cert.XKernelIdeal.τ).loc Cert.XKernelIdeal.main_arg9)
          ∧ r.2.mem ((c.tc : Thread Cert.XKernelIdeal.nD Cert.XKernelIdeal.τ).loc Cert.XKernelIdeal.main_arg10) = m ((c.tc : Thread Cert.XKernelIdeal.nD Cert.XKernelIdeal.τ).loc Cert.XKernelIdeal.main_arg10)
          ∧ r.2.mem ((c.tc : Thread Cert.XKernelIdeal.nD Cert.XKernelIdeal.τ).loc Cert.XKernelIdeal.main_arg11) = m ((c.tc : Thread Cert.XKernelIdeal.nD Cert.XKernelIdeal.τ).loc Cert.XKernelIdeal.main_arg11)
          ∧ r.2.mem ((c.tc : Thread Cert.XKernelIdeal.nD Cert.XKernelIdeal.τ).loc Cert.XKernelIdeal.main_arg12) = m ((c.tc : Thread Cert.XKernelIdeal.nD Cert.XKernelIdeal.τ).loc Cert.XKernelIdeal.main_arg12))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v168) = v0 c
          ∧ r.2.mem ((c.tc : Thread Cert.XReferenceIdeal.nD Cert.XReferenceIdeal.τ).loc Cert.XReferenceIdeal.main_v167) = v1 c
          ∧ r.2.mem ((c.tc : Thread Cert.XReferenceIdeal.nD Cert.XReferenceIdeal.τ).loc Cert.XReferenceIdeal.main_v171) = v2 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0)
          ∧ r.2.mem ((c.tc : Thread Cert.XReferenceIdeal.nD Cert.XReferenceIdeal.τ).loc Cert.XReferenceIdeal.main_arg1) = m' ((c.tc : Thread Cert.XReferenceIdeal.nD Cert.XReferenceIdeal.τ).loc Cert.XReferenceIdeal.main_arg1)
          ∧ r.2.mem ((c.tc : Thread Cert.XReferenceIdeal.nD Cert.XReferenceIdeal.τ).loc Cert.XReferenceIdeal.main_arg2) = m' ((c.tc : Thread Cert.XReferenceIdeal.nD Cert.XReferenceIdeal.τ).loc Cert.XReferenceIdeal.main_arg2)
          ∧ r.2.mem ((c.tc : Thread Cert.XReferenceIdeal.nD Cert.XReferenceIdeal.τ).loc Cert.XReferenceIdeal.main_arg3) = m' ((c.tc : Thread Cert.XReferenceIdeal.nD Cert.XReferenceIdeal.τ).loc Cert.XReferenceIdeal.main_arg3)
          ∧ r.2.mem ((c.tc : Thread Cert.XReferenceIdeal.nD Cert.XReferenceIdeal.τ).loc Cert.XReferenceIdeal.main_arg4) = m' ((c.tc : Thread Cert.XReferenceIdeal.nD Cert.XReferenceIdeal.τ).loc Cert.XReferenceIdeal.main_arg4)
          ∧ r.2.mem ((c.tc : Thread Cert.XReferenceIdeal.nD Cert.XReferenceIdeal.τ).loc Cert.XReferenceIdeal.main_arg5) = m' ((c.tc : Thread Cert.XReferenceIdeal.nD Cert.XReferenceIdeal.τ).loc Cert.XReferenceIdeal.main_arg5)
          ∧ r.2.mem ((c.tc : Thread Cert.XReferenceIdeal.nD Cert.XReferenceIdeal.τ).loc Cert.XReferenceIdeal.main_arg6) = m' ((c.tc : Thread Cert.XReferenceIdeal.nD Cert.XReferenceIdeal.τ).loc Cert.XReferenceIdeal.main_arg6)
          ∧ r.2.mem ((c.tc : Thread Cert.XReferenceIdeal.nD Cert.XReferenceIdeal.τ).loc Cert.XReferenceIdeal.main_arg7) = m' ((c.tc : Thread Cert.XReferenceIdeal.nD Cert.XReferenceIdeal.τ).loc Cert.XReferenceIdeal.main_arg7)
          ∧ r.2.mem ((c.tc : Thread Cert.XReferenceIdeal.nD Cert.XReferenceIdeal.τ).loc Cert.XReferenceIdeal.main_arg8) = m' ((c.tc : Thread Cert.XReferenceIdeal.nD Cert.XReferenceIdeal.τ).loc Cert.XReferenceIdeal.main_arg8)
          ∧ r.2.mem ((c.tc : Thread Cert.XReferenceIdeal.nD Cert.XReferenceIdeal.τ).loc Cert.XReferenceIdeal.main_arg9) = m' ((c.tc : Thread Cert.XReferenceIdeal.nD Cert.XReferenceIdeal.τ).loc Cert.XReferenceIdeal.main_arg9)
          ∧ r.2.mem ((c.tc : Thread Cert.XReferenceIdeal.nD Cert.XReferenceIdeal.τ).loc Cert.XReferenceIdeal.main_arg10) = m' ((c.tc : Thread Cert.XReferenceIdeal.nD Cert.XReferenceIdeal.τ).loc Cert.XReferenceIdeal.main_arg10)
          ∧ r.2.mem ((c.tc : Thread Cert.XReferenceIdeal.nD Cert.XReferenceIdeal.τ).loc Cert.XReferenceIdeal.main_arg11) = m' ((c.tc : Thread Cert.XReferenceIdeal.nD Cert.XReferenceIdeal.τ).loc Cert.XReferenceIdeal.main_arg11)
          ∧ r.2.mem ((c.tc : Thread Cert.XReferenceIdeal.nD Cert.XReferenceIdeal.τ).loc Cert.XReferenceIdeal.main_arg12) = m' ((c.tc : Thread Cert.XReferenceIdeal.nD Cert.XReferenceIdeal.τ).loc Cert.XReferenceIdeal.main_arg12))

def preserves_AKernel_AKernelIdeal : Prop :=
  IdealRules.named_const.Statement Cert.AKernelIdeal.κ "scale_log2e" .f32 0x3E16C740#32 (((3424635 / 33554432) * (Real.log 2)⁻¹ : ℝ) : EReal)

def algebraic_AKernelIdeal_AReferenceIdeal_pre_a_finite [hAKernelIdeal : Cert.AKernelIdeal.Facts] [hAReferenceIdeal : Cert.AReferenceIdeal.Facts] [hPre_a_finite : Cert.Pre_a_finite.Facts] : Prop :=
  ∀ (m : (ℓ : Loc Cert.AKernelIdeal.nD Cert.AKernelIdeal.τ Cert.AKernelIdeal.sig) → Buf (Elt Ideal) ℓ) (g : Dev Cert.AKernelIdeal.nD → PrngReg)
    (m' : (ℓ : Loc Cert.AReferenceIdeal.nD Cert.AReferenceIdeal.τ Cert.AReferenceIdeal.sig) → Buf (Elt Ideal) ℓ) (g' : Dev Cert.AReferenceIdeal.nD → PrngReg), Pre_AKernelIdeal_a_finite m →
    (∀ c : Dev Cert.AKernelIdeal.nD,
      m' ((c.tc : Thread Cert.AReferenceIdeal.nD Cert.AReferenceIdeal.τ).loc Cert.AReferenceIdeal.main_arg0) = m ((c.tc : Thread Cert.AKernelIdeal.nD Cert.AKernelIdeal.τ).loc Cert.AKernelIdeal.main_arg0)
      ∧ m' ((c.tc : Thread Cert.AReferenceIdeal.nD Cert.AReferenceIdeal.τ).loc Cert.AReferenceIdeal.main_arg1) = m ((c.tc : Thread Cert.AKernelIdeal.nD Cert.AKernelIdeal.τ).loc Cert.AKernelIdeal.main_arg1)
      ∧ m' ((c.tc : Thread Cert.AReferenceIdeal.nD Cert.AReferenceIdeal.τ).loc Cert.AReferenceIdeal.main_arg2) = m ((c.tc : Thread Cert.AKernelIdeal.nD Cert.AKernelIdeal.τ).loc Cert.AKernelIdeal.main_arg2)
      ∧ m' ((c.tc : Thread Cert.AReferenceIdeal.nD Cert.AReferenceIdeal.τ).loc Cert.AReferenceIdeal.main_arg3) = m ((c.tc : Thread Cert.AKernelIdeal.nD Cert.AKernelIdeal.τ).loc Cert.AKernelIdeal.main_arg3)
      ∧ m' ((c.tc : Thread Cert.AReferenceIdeal.nD Cert.AReferenceIdeal.τ).loc Cert.AReferenceIdeal.main_arg4) = m ((c.tc : Thread Cert.AKernelIdeal.nD Cert.AKernelIdeal.τ).loc Cert.AKernelIdeal.main_arg4)
      ∧ m' ((c.tc : Thread Cert.AReferenceIdeal.nD Cert.AReferenceIdeal.τ).loc Cert.AReferenceIdeal.main_arg5) = m ((c.tc : Thread Cert.AKernelIdeal.nD Cert.AKernelIdeal.τ).loc Cert.AKernelIdeal.main_arg5)) →
    ∃ (v0 : (c : Dev Cert.AKernelIdeal.nD) → Buf (Elt Ideal) ((c.tc : Thread Cert.AKernelIdeal.nD Cert.AKernelIdeal.τ).loc Cert.AKernelIdeal.main_v55_0)) (v1 : (c : Dev Cert.AKernelIdeal.nD) → Buf (Elt Ideal) ((c.tc : Thread Cert.AKernelIdeal.nD Cert.AKernelIdeal.τ).loc Cert.AKernelIdeal.main_v55_1)) (v2 : (c : Dev Cert.AKernelIdeal.nD) → Buf (Elt Ideal) ((c.tc : Thread Cert.AKernelIdeal.nD Cert.AKernelIdeal.τ).loc Cert.AKernelIdeal.main_v55_2)),
      θ_run (Cert.AKernelIdeal.defs (F := Ideal)) (onTc (τ := Cert.AKernelIdeal.τ) (Cert.AKernelIdeal.main (F := Ideal))) ⟨m, fun _ => 0, g⟩ (fun r => ∀ c : Dev Cert.AKernelIdeal.nD,
          r.2.mem ((c.tc : Thread Cert.AKernelIdeal.nD Cert.AKernelIdeal.τ).loc Cert.AKernelIdeal.main_v55_0) = v0 c
          ∧ r.2.mem ((c.tc : Thread Cert.AKernelIdeal.nD Cert.AKernelIdeal.τ).loc Cert.AKernelIdeal.main_v55_1) = v1 c
          ∧ r.2.mem ((c.tc : Thread Cert.AKernelIdeal.nD Cert.AKernelIdeal.τ).loc Cert.AKernelIdeal.main_v55_2) = v2 c
          ∧ r.2.mem ((c.tc : Thread Cert.AKernelIdeal.nD Cert.AKernelIdeal.τ).loc Cert.AKernelIdeal.main_arg0) = m ((c.tc : Thread Cert.AKernelIdeal.nD Cert.AKernelIdeal.τ).loc Cert.AKernelIdeal.main_arg0)
          ∧ r.2.mem ((c.tc : Thread Cert.AKernelIdeal.nD Cert.AKernelIdeal.τ).loc Cert.AKernelIdeal.main_arg1) = m ((c.tc : Thread Cert.AKernelIdeal.nD Cert.AKernelIdeal.τ).loc Cert.AKernelIdeal.main_arg1)
          ∧ r.2.mem ((c.tc : Thread Cert.AKernelIdeal.nD Cert.AKernelIdeal.τ).loc Cert.AKernelIdeal.main_arg2) = m ((c.tc : Thread Cert.AKernelIdeal.nD Cert.AKernelIdeal.τ).loc Cert.AKernelIdeal.main_arg2)
          ∧ r.2.mem ((c.tc : Thread Cert.AKernelIdeal.nD Cert.AKernelIdeal.τ).loc Cert.AKernelIdeal.main_arg3) = m ((c.tc : Thread Cert.AKernelIdeal.nD Cert.AKernelIdeal.τ).loc Cert.AKernelIdeal.main_arg3)
          ∧ r.2.mem ((c.tc : Thread Cert.AKernelIdeal.nD Cert.AKernelIdeal.τ).loc Cert.AKernelIdeal.main_arg4) = m ((c.tc : Thread Cert.AKernelIdeal.nD Cert.AKernelIdeal.τ).loc Cert.AKernelIdeal.main_arg4)
          ∧ r.2.mem ((c.tc : Thread Cert.AKernelIdeal.nD Cert.AKernelIdeal.τ).loc Cert.AKernelIdeal.main_arg5) = m ((c.tc : Thread Cert.AKernelIdeal.nD Cert.AKernelIdeal.τ).loc Cert.AKernelIdeal.main_arg5))
      ∧ θ_run (Cert.AReferenceIdeal.defs (F := Ideal)) (onTc (τ := Cert.AReferenceIdeal.τ) (Cert.AReferenceIdeal.main (F := Ideal))) ⟨m', fun _ => 0, g'⟩ (fun r => ∀ c : Dev Cert.AReferenceIdeal.nD,
          r.2.mem ((c.tc : Thread Cert.AReferenceIdeal.nD Cert.AReferenceIdeal.τ).loc Cert.AReferenceIdeal.main_v77) = v0 c
          ∧ r.2.mem ((c.tc : Thread Cert.AReferenceIdeal.nD Cert.AReferenceIdeal.τ).loc Cert.AReferenceIdeal.main_v80) = v1 c
          ∧ r.2.mem ((c.tc : Thread Cert.AReferenceIdeal.nD Cert.AReferenceIdeal.τ).loc Cert.AReferenceIdeal.main_v82) = v2 c
          ∧ r.2.mem ((c.tc : Thread Cert.AReferenceIdeal.nD Cert.AReferenceIdeal.τ).loc Cert.AReferenceIdeal.main_arg0) = m' ((c.tc : Thread Cert.AReferenceIdeal.nD Cert.AReferenceIdeal.τ).loc Cert.AReferenceIdeal.main_arg0)
          ∧ r.2.mem ((c.tc : Thread Cert.AReferenceIdeal.nD Cert.AReferenceIdeal.τ).loc Cert.AReferenceIdeal.main_arg1) = m' ((c.tc : Thread Cert.AReferenceIdeal.nD Cert.AReferenceIdeal.τ).loc Cert.AReferenceIdeal.main_arg1)
          ∧ r.2.mem ((c.tc : Thread Cert.AReferenceIdeal.nD Cert.AReferenceIdeal.τ).loc Cert.AReferenceIdeal.main_arg2) = m' ((c.tc : Thread Cert.AReferenceIdeal.nD Cert.AReferenceIdeal.τ).loc Cert.AReferenceIdeal.main_arg2)
          ∧ r.2.mem ((c.tc : Thread Cert.AReferenceIdeal.nD Cert.AReferenceIdeal.τ).loc Cert.AReferenceIdeal.main_arg3) = m' ((c.tc : Thread Cert.AReferenceIdeal.nD Cert.AReferenceIdeal.τ).loc Cert.AReferenceIdeal.main_arg3)
          ∧ r.2.mem ((c.tc : Thread Cert.AReferenceIdeal.nD Cert.AReferenceIdeal.τ).loc Cert.AReferenceIdeal.main_arg4) = m' ((c.tc : Thread Cert.AReferenceIdeal.nD Cert.AReferenceIdeal.τ).loc Cert.AReferenceIdeal.main_arg4)
          ∧ r.2.mem ((c.tc : Thread Cert.AReferenceIdeal.nD Cert.AReferenceIdeal.τ).loc Cert.AReferenceIdeal.main_arg5) = m' ((c.tc : Thread Cert.AReferenceIdeal.nD Cert.AReferenceIdeal.τ).loc Cert.AReferenceIdeal.main_arg5))

def preserves_QKernel_QKernelIdeal : Prop :=
  True

def algebraic_QKernelIdeal_QReferenceIdeal_pre_q_finite [hQKernelIdeal : Cert.QKernelIdeal.Facts] [hQReferenceIdeal : Cert.QReferenceIdeal.Facts] [hPre_q_finite : Cert.Pre_q_finite.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal_q_finite m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)
      ∧ m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3)
      ∧ m' ((c.tc : Thread Cert.QReferenceIdeal.nD Cert.QReferenceIdeal.τ).loc Cert.QReferenceIdeal.main_arg4) = m ((c.tc : Thread Cert.QKernelIdeal.nD Cert.QKernelIdeal.τ).loc Cert.QKernelIdeal.main_arg4)
      ∧ m' ((c.tc : Thread Cert.QReferenceIdeal.nD Cert.QReferenceIdeal.τ).loc Cert.QReferenceIdeal.main_arg5) = m ((c.tc : Thread Cert.QKernelIdeal.nD Cert.QKernelIdeal.τ).loc Cert.QKernelIdeal.main_arg5)
      ∧ m' ((c.tc : Thread Cert.QReferenceIdeal.nD Cert.QReferenceIdeal.τ).loc Cert.QReferenceIdeal.main_arg6) = m ((c.tc : Thread Cert.QKernelIdeal.nD Cert.QKernelIdeal.τ).loc Cert.QKernelIdeal.main_arg6)
      ∧ m' ((c.tc : Thread Cert.QReferenceIdeal.nD Cert.QReferenceIdeal.τ).loc Cert.QReferenceIdeal.main_arg7) = m ((c.tc : Thread Cert.QKernelIdeal.nD Cert.QKernelIdeal.τ).loc Cert.QKernelIdeal.main_arg7)
      ∧ m' ((c.tc : Thread Cert.QReferenceIdeal.nD Cert.QReferenceIdeal.τ).loc Cert.QReferenceIdeal.main_arg8) = m ((c.tc : Thread Cert.QKernelIdeal.nD Cert.QKernelIdeal.τ).loc Cert.QKernelIdeal.main_arg8)
      ∧ m' ((c.tc : Thread Cert.QReferenceIdeal.nD Cert.QReferenceIdeal.τ).loc Cert.QReferenceIdeal.main_arg9) = m ((c.tc : Thread Cert.QKernelIdeal.nD Cert.QKernelIdeal.τ).loc Cert.QKernelIdeal.main_arg9)) →
    ∃ (v0 : (c : Dev Cert.QKernelIdeal.nD) → Buf (Elt Ideal) ((c.tc : Thread Cert.QKernelIdeal.nD Cert.QKernelIdeal.τ).loc Cert.QKernelIdeal.main_v47_0)) (v1 : (c : Dev Cert.QKernelIdeal.nD) → Buf (Elt Ideal) ((c.tc : Thread Cert.QKernelIdeal.nD Cert.QKernelIdeal.τ).loc Cert.QKernelIdeal.main_v47_1)) (v2 : (c : Dev Cert.QKernelIdeal.nD) → Buf (Elt Ideal) ((c.tc : Thread Cert.QKernelIdeal.nD Cert.QKernelIdeal.τ).loc Cert.QKernelIdeal.main_v47_2)) (v3 : (c : Dev Cert.QKernelIdeal.nD) → Buf (Elt Ideal) ((c.tc : Thread Cert.QKernelIdeal.nD Cert.QKernelIdeal.τ).loc Cert.QKernelIdeal.main_v47_3)) (v4 : (c : Dev Cert.QKernelIdeal.nD) → Buf (Elt Ideal) ((c.tc : Thread Cert.QKernelIdeal.nD Cert.QKernelIdeal.τ).loc Cert.QKernelIdeal.main_v47_4)) (v5 : (c : Dev Cert.QKernelIdeal.nD) → Buf (Elt Ideal) ((c.tc : Thread Cert.QKernelIdeal.nD Cert.QKernelIdeal.τ).loc Cert.QKernelIdeal.main_v47_5)) (v6 : (c : Dev Cert.QKernelIdeal.nD) → Buf (Elt Ideal) ((c.tc : Thread Cert.QKernelIdeal.nD Cert.QKernelIdeal.τ).loc Cert.QKernelIdeal.main_v47_6)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v47_0) = v0 c
          ∧ r.2.mem ((c.tc : Thread Cert.QKernelIdeal.nD Cert.QKernelIdeal.τ).loc Cert.QKernelIdeal.main_v47_1) = v1 c
          ∧ r.2.mem ((c.tc : Thread Cert.QKernelIdeal.nD Cert.QKernelIdeal.τ).loc Cert.QKernelIdeal.main_v47_2) = v2 c
          ∧ r.2.mem ((c.tc : Thread Cert.QKernelIdeal.nD Cert.QKernelIdeal.τ).loc Cert.QKernelIdeal.main_v47_3) = v3 c
          ∧ r.2.mem ((c.tc : Thread Cert.QKernelIdeal.nD Cert.QKernelIdeal.τ).loc Cert.QKernelIdeal.main_v47_4) = v4 c
          ∧ r.2.mem ((c.tc : Thread Cert.QKernelIdeal.nD Cert.QKernelIdeal.τ).loc Cert.QKernelIdeal.main_v47_5) = v5 c
          ∧ r.2.mem ((c.tc : Thread Cert.QKernelIdeal.nD Cert.QKernelIdeal.τ).loc Cert.QKernelIdeal.main_v47_6) = v6 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
          ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4)
          ∧ r.2.mem ((c.tc : Thread Cert.QKernelIdeal.nD Cert.QKernelIdeal.τ).loc Cert.QKernelIdeal.main_arg5) = m ((c.tc : Thread Cert.QKernelIdeal.nD Cert.QKernelIdeal.τ).loc Cert.QKernelIdeal.main_arg5)
          ∧ r.2.mem ((c.tc : Thread Cert.QKernelIdeal.nD Cert.QKernelIdeal.τ).loc Cert.QKernelIdeal.main_arg6) = m ((c.tc : Thread Cert.QKernelIdeal.nD Cert.QKernelIdeal.τ).loc Cert.QKernelIdeal.main_arg6)
          ∧ r.2.mem ((c.tc : Thread Cert.QKernelIdeal.nD Cert.QKernelIdeal.τ).loc Cert.QKernelIdeal.main_arg7) = m ((c.tc : Thread Cert.QKernelIdeal.nD Cert.QKernelIdeal.τ).loc Cert.QKernelIdeal.main_arg7)
          ∧ r.2.mem ((c.tc : Thread Cert.QKernelIdeal.nD Cert.QKernelIdeal.τ).loc Cert.QKernelIdeal.main_arg8) = m ((c.tc : Thread Cert.QKernelIdeal.nD Cert.QKernelIdeal.τ).loc Cert.QKernelIdeal.main_arg8)
          ∧ r.2.mem ((c.tc : Thread Cert.QKernelIdeal.nD Cert.QKernelIdeal.τ).loc Cert.QKernelIdeal.main_arg9) = m ((c.tc : Thread Cert.QKernelIdeal.nD Cert.QKernelIdeal.τ).loc Cert.QKernelIdeal.main_arg9))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v162) = v0 c
          ∧ r.2.mem ((c.tc : Thread Cert.QReferenceIdeal.nD Cert.QReferenceIdeal.τ).loc Cert.QReferenceIdeal.main_v163) = v1 c
          ∧ r.2.mem ((c.tc : Thread Cert.QReferenceIdeal.nD Cert.QReferenceIdeal.τ).loc Cert.QReferenceIdeal.main_v164) = v2 c
          ∧ r.2.mem ((c.tc : Thread Cert.QReferenceIdeal.nD Cert.QReferenceIdeal.τ).loc Cert.QReferenceIdeal.main_v166) = v3 c
          ∧ r.2.mem ((c.tc : Thread Cert.QReferenceIdeal.nD Cert.QReferenceIdeal.τ).loc Cert.QReferenceIdeal.main_v168) = v4 c
          ∧ r.2.mem ((c.tc : Thread Cert.QReferenceIdeal.nD Cert.QReferenceIdeal.τ).loc Cert.QReferenceIdeal.main_v169) = v5 c
          ∧ r.2.mem ((c.tc : Thread Cert.QReferenceIdeal.nD Cert.QReferenceIdeal.τ).loc Cert.QReferenceIdeal.main_v170) = v6 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3)
          ∧ r.2.mem ((c.tc : Thread Cert.QReferenceIdeal.nD Cert.QReferenceIdeal.τ).loc Cert.QReferenceIdeal.main_arg4) = m' ((c.tc : Thread Cert.QReferenceIdeal.nD Cert.QReferenceIdeal.τ).loc Cert.QReferenceIdeal.main_arg4)
          ∧ r.2.mem ((c.tc : Thread Cert.QReferenceIdeal.nD Cert.QReferenceIdeal.τ).loc Cert.QReferenceIdeal.main_arg5) = m' ((c.tc : Thread Cert.QReferenceIdeal.nD Cert.QReferenceIdeal.τ).loc Cert.QReferenceIdeal.main_arg5)
          ∧ r.2.mem ((c.tc : Thread Cert.QReferenceIdeal.nD Cert.QReferenceIdeal.τ).loc Cert.QReferenceIdeal.main_arg6) = m' ((c.tc : Thread Cert.QReferenceIdeal.nD Cert.QReferenceIdeal.τ).loc Cert.QReferenceIdeal.main_arg6)
          ∧ r.2.mem ((c.tc : Thread Cert.QReferenceIdeal.nD Cert.QReferenceIdeal.τ).loc Cert.QReferenceIdeal.main_arg7) = m' ((c.tc : Thread Cert.QReferenceIdeal.nD Cert.QReferenceIdeal.τ).loc Cert.QReferenceIdeal.main_arg7)
          ∧ r.2.mem ((c.tc : Thread Cert.QReferenceIdeal.nD Cert.QReferenceIdeal.τ).loc Cert.QReferenceIdeal.main_arg8) = m' ((c.tc : Thread Cert.QReferenceIdeal.nD Cert.QReferenceIdeal.τ).loc Cert.QReferenceIdeal.main_arg8)
          ∧ r.2.mem ((c.tc : Thread Cert.QReferenceIdeal.nD Cert.QReferenceIdeal.τ).loc Cert.QReferenceIdeal.main_arg9) = m' ((c.tc : Thread Cert.QReferenceIdeal.nD Cert.QReferenceIdeal.τ).loc Cert.QReferenceIdeal.main_arg9))

def preserves_FKernel_FKernelIdeal : Prop :=
  IdealRules.named_const.Statement Cert.FKernelIdeal.κ "scale_log2e" .f32 0x3E16C740#32 (((3424635 / 33554432) * (Real.log 2)⁻¹ : ℝ) : EReal)
  ∧ IdealRules.named_const.Statement Cert.FKernelIdeal.κ "log2e" .f32 0x3FB8AA3B#32 (((Real.log 2)⁻¹ : ℝ) : EReal)

def algebraic_FKernelIdeal_FReferenceIdeal_pre_f_finite [hFKernelIdeal : Cert.FKernelIdeal.Facts] [hFReferenceIdeal : Cert.FReferenceIdeal.Facts] [hPre_f_finite : Cert.Pre_f_finite.Facts] : Prop :=
  ∀ (m : (ℓ : Loc Cert.FKernelIdeal.nD Cert.FKernelIdeal.τ Cert.FKernelIdeal.sig) → Buf (Elt Ideal) ℓ) (g : Dev Cert.FKernelIdeal.nD → PrngReg)
    (m' : (ℓ : Loc Cert.FReferenceIdeal.nD Cert.FReferenceIdeal.τ Cert.FReferenceIdeal.sig) → Buf (Elt Ideal) ℓ) (g' : Dev Cert.FReferenceIdeal.nD → PrngReg), Pre_FKernelIdeal_f_finite m →
    (∀ c : Dev Cert.FKernelIdeal.nD,
      m' ((c.tc : Thread Cert.FReferenceIdeal.nD Cert.FReferenceIdeal.τ).loc Cert.FReferenceIdeal.main_arg0) = m ((c.tc : Thread Cert.FKernelIdeal.nD Cert.FKernelIdeal.τ).loc Cert.FKernelIdeal.main_arg0)
      ∧ m' ((c.tc : Thread Cert.FReferenceIdeal.nD Cert.FReferenceIdeal.τ).loc Cert.FReferenceIdeal.main_arg1) = m ((c.tc : Thread Cert.FKernelIdeal.nD Cert.FKernelIdeal.τ).loc Cert.FKernelIdeal.main_arg1)
      ∧ m' ((c.tc : Thread Cert.FReferenceIdeal.nD Cert.FReferenceIdeal.τ).loc Cert.FReferenceIdeal.main_arg2) = m ((c.tc : Thread Cert.FKernelIdeal.nD Cert.FKernelIdeal.τ).loc Cert.FKernelIdeal.main_arg2)
      ∧ m' ((c.tc : Thread Cert.FReferenceIdeal.nD Cert.FReferenceIdeal.τ).loc Cert.FReferenceIdeal.main_arg3) = m ((c.tc : Thread Cert.FKernelIdeal.nD Cert.FKernelIdeal.τ).loc Cert.FKernelIdeal.main_arg3)
      ∧ m' ((c.tc : Thread Cert.FReferenceIdeal.nD Cert.FReferenceIdeal.τ).loc Cert.FReferenceIdeal.main_arg4) = m ((c.tc : Thread Cert.FKernelIdeal.nD Cert.FKernelIdeal.τ).loc Cert.FKernelIdeal.main_arg4)) →
    ∃ (v0 : (c : Dev Cert.FKernelIdeal.nD) → Buf (Elt Ideal) ((c.tc : Thread Cert.FKernelIdeal.nD Cert.FKernelIdeal.τ).loc Cert.FKernelIdeal.main_v14_0)) (v1 : (c : Dev Cert.FKernelIdeal.nD) → Buf (Elt Ideal) ((c.tc : Thread Cert.FKernelIdeal.nD Cert.FKernelIdeal.τ).loc Cert.FKernelIdeal.main_v14_1)),
      θ_run (Cert.FKernelIdeal.defs (F := Ideal)) (onTc (τ := Cert.FKernelIdeal.τ) (Cert.FKernelIdeal.main (F := Ideal))) ⟨m, fun _ => 0, g⟩ (fun r => ∀ c : Dev Cert.FKernelIdeal.nD,
          r.2.mem ((c.tc : Thread Cert.FKernelIdeal.nD Cert.FKernelIdeal.τ).loc Cert.FKernelIdeal.main_v14_0) = v0 c
          ∧ r.2.mem ((c.tc : Thread Cert.FKernelIdeal.nD Cert.FKernelIdeal.τ).loc Cert.FKernelIdeal.main_v14_1) = v1 c
          ∧ r.2.mem ((c.tc : Thread Cert.FKernelIdeal.nD Cert.FKernelIdeal.τ).loc Cert.FKernelIdeal.main_arg0) = m ((c.tc : Thread Cert.FKernelIdeal.nD Cert.FKernelIdeal.τ).loc Cert.FKernelIdeal.main_arg0)
          ∧ r.2.mem ((c.tc : Thread Cert.FKernelIdeal.nD Cert.FKernelIdeal.τ).loc Cert.FKernelIdeal.main_arg1) = m ((c.tc : Thread Cert.FKernelIdeal.nD Cert.FKernelIdeal.τ).loc Cert.FKernelIdeal.main_arg1)
          ∧ r.2.mem ((c.tc : Thread Cert.FKernelIdeal.nD Cert.FKernelIdeal.τ).loc Cert.FKernelIdeal.main_arg2) = m ((c.tc : Thread Cert.FKernelIdeal.nD Cert.FKernelIdeal.τ).loc Cert.FKernelIdeal.main_arg2)
          ∧ r.2.mem ((c.tc : Thread Cert.FKernelIdeal.nD Cert.FKernelIdeal.τ).loc Cert.FKernelIdeal.main_arg3) = m ((c.tc : Thread Cert.FKernelIdeal.nD Cert.FKernelIdeal.τ).loc Cert.FKernelIdeal.main_arg3)
          ∧ r.2.mem ((c.tc : Thread Cert.FKernelIdeal.nD Cert.FKernelIdeal.τ).loc Cert.FKernelIdeal.main_arg4) = m ((c.tc : Thread Cert.FKernelIdeal.nD Cert.FKernelIdeal.τ).loc Cert.FKernelIdeal.main_arg4))
      ∧ θ_run (Cert.FReferenceIdeal.defs (F := Ideal)) (onTc (τ := Cert.FReferenceIdeal.τ) (Cert.FReferenceIdeal.main (F := Ideal))) ⟨m', fun _ => 0, g'⟩ (fun r => ∀ c : Dev Cert.FReferenceIdeal.nD,
          r.2.mem ((c.tc : Thread Cert.FReferenceIdeal.nD Cert.FReferenceIdeal.τ).loc Cert.FReferenceIdeal.main_v60) = v0 c
          ∧ r.2.mem ((c.tc : Thread Cert.FReferenceIdeal.nD Cert.FReferenceIdeal.τ).loc Cert.FReferenceIdeal.main_v32) = v1 c
          ∧ r.2.mem ((c.tc : Thread Cert.FReferenceIdeal.nD Cert.FReferenceIdeal.τ).loc Cert.FReferenceIdeal.main_arg0) = m' ((c.tc : Thread Cert.FReferenceIdeal.nD Cert.FReferenceIdeal.τ).loc Cert.FReferenceIdeal.main_arg0)
          ∧ r.2.mem ((c.tc : Thread Cert.FReferenceIdeal.nD Cert.FReferenceIdeal.τ).loc Cert.FReferenceIdeal.main_arg1) = m' ((c.tc : Thread Cert.FReferenceIdeal.nD Cert.FReferenceIdeal.τ).loc Cert.FReferenceIdeal.main_arg1)
          ∧ r.2.mem ((c.tc : Thread Cert.FReferenceIdeal.nD Cert.FReferenceIdeal.τ).loc Cert.FReferenceIdeal.main_arg2) = m' ((c.tc : Thread Cert.FReferenceIdeal.nD Cert.FReferenceIdeal.τ).loc Cert.FReferenceIdeal.main_arg2)
          ∧ r.2.mem ((c.tc : Thread Cert.FReferenceIdeal.nD Cert.FReferenceIdeal.τ).loc Cert.FReferenceIdeal.main_arg3) = m' ((c.tc : Thread Cert.FReferenceIdeal.nD Cert.FReferenceIdeal.τ).loc Cert.FReferenceIdeal.main_arg3)
          ∧ r.2.mem ((c.tc : Thread Cert.FReferenceIdeal.nD Cert.FReferenceIdeal.τ).loc Cert.FReferenceIdeal.main_arg4) = m' ((c.tc : Thread Cert.FReferenceIdeal.nD Cert.FReferenceIdeal.τ).loc Cert.FReferenceIdeal.main_arg4))

def Claim : Prop :=
  ∃ (hXKernel : Cert.XKernel.Facts) (hXKernelIdeal : Cert.XKernelIdeal.Facts) (hXReferenceIdeal : Cert.XReferenceIdeal.Facts) (hAKernel : Cert.AKernel.Facts) (hAKernelIdeal : Cert.AKernelIdeal.Facts) (hAReferenceIdeal : Cert.AReferenceIdeal.Facts) (hQKernel : Cert.QKernel.Facts) (hQKernelIdeal : Cert.QKernelIdeal.Facts) (hQReferenceIdeal : Cert.QReferenceIdeal.Facts) (hFKernel : Cert.FKernel.Facts) (hFKernelIdeal : Cert.FKernelIdeal.Facts) (hFReferenceIdeal : Cert.FReferenceIdeal.Facts) (hPre_x_finite : Cert.Pre_x_finite.Facts) (hPre_a_finite : Cert.Pre_a_finite.Facts) (hPre_q_finite : Cert.Pre_q_finite.Facts) (hPre_f_finite : Cert.Pre_f_finite.Facts),
    quiescent_XKernel (hXKernel := hXKernel)
    ∧ quiescent_XKernelIdeal (hXKernelIdeal := hXKernelIdeal)
    ∧ quiescent_XKernelIdeal_pre_x_finite (hXKernelIdeal := hXKernelIdeal) (hPre_x_finite := hPre_x_finite)
    ∧ quiescent_XReferenceIdeal (hXReferenceIdeal := hXReferenceIdeal)
    ∧ quiescent_XReferenceIdeal_pre_x_finite (hXReferenceIdeal := hXReferenceIdeal) (hPre_x_finite := hPre_x_finite)
    ∧ quiescent_AKernel (hAKernel := hAKernel)
    ∧ quiescent_AKernelIdeal (hAKernelIdeal := hAKernelIdeal)
    ∧ quiescent_AKernelIdeal_pre_a_finite (hAKernelIdeal := hAKernelIdeal) (hPre_a_finite := hPre_a_finite)
    ∧ quiescent_AReferenceIdeal (hAReferenceIdeal := hAReferenceIdeal)
    ∧ quiescent_AReferenceIdeal_pre_a_finite (hAReferenceIdeal := hAReferenceIdeal) (hPre_a_finite := hPre_a_finite)
    ∧ quiescent_QKernel (hQKernel := hQKernel)
    ∧ quiescent_QKernelIdeal (hQKernelIdeal := hQKernelIdeal)
    ∧ quiescent_QKernelIdeal_pre_q_finite (hQKernelIdeal := hQKernelIdeal) (hPre_q_finite := hPre_q_finite)
    ∧ quiescent_QReferenceIdeal (hQReferenceIdeal := hQReferenceIdeal)
    ∧ quiescent_QReferenceIdeal_pre_q_finite (hQReferenceIdeal := hQReferenceIdeal) (hPre_q_finite := hPre_q_finite)
    ∧ quiescent_FKernel (hFKernel := hFKernel)
    ∧ quiescent_FKernelIdeal (hFKernelIdeal := hFKernelIdeal)
    ∧ quiescent_FKernelIdeal_pre_f_finite (hFKernelIdeal := hFKernelIdeal) (hPre_f_finite := hPre_f_finite)
    ∧ quiescent_FReferenceIdeal (hFReferenceIdeal := hFReferenceIdeal)
    ∧ quiescent_FReferenceIdeal_pre_f_finite (hFReferenceIdeal := hFReferenceIdeal) (hPre_f_finite := hPre_f_finite)
    ∧ preserves_XKernel_XKernelIdeal
    ∧ algebraic_XKernelIdeal_XReferenceIdeal_pre_x_finite (hXKernelIdeal := hXKernelIdeal) (hXReferenceIdeal := hXReferenceIdeal) (hPre_x_finite := hPre_x_finite)
    ∧ preserves_AKernel_AKernelIdeal
    ∧ algebraic_AKernelIdeal_AReferenceIdeal_pre_a_finite (hAKernelIdeal := hAKernelIdeal) (hAReferenceIdeal := hAReferenceIdeal) (hPre_a_finite := hPre_a_finite)
    ∧ preserves_QKernel_QKernelIdeal
    ∧ algebraic_QKernelIdeal_QReferenceIdeal_pre_q_finite (hQKernelIdeal := hQKernelIdeal) (hQReferenceIdeal := hQReferenceIdeal) (hPre_q_finite := hPre_q_finite)
    ∧ preserves_FKernel_FKernelIdeal
    ∧ algebraic_FKernelIdeal_FReferenceIdeal_pre_f_finite (hFKernelIdeal := hFKernelIdeal) (hFReferenceIdeal := hFReferenceIdeal) (hPre_f_finite := hPre_f_finite)
-- ==== Pre_a_finite.lean ====
abbrev S4096x8x64 : Shape := ⟨3, ![4096, 8, 64]⟩
abbrev S4096x8x32 : Shape := ⟨3, ![4096, 8, 32]⟩
abbrev S4096x32 : Shape := ⟨2, ![4096, 32]⟩
abbrev S4096x512 : Shape := ⟨2, ![4096, 512]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x8x32 : S_.BroadcastsInDim S4096x8x32 (![] : Fin 0 → Fin S4096x8x32.rank)
  reducesTo_S4096x8x32_S_d0_1_2 : S4096x8x32.ReducesTo [0, 1, 2] S_
  bcast_S_S4096x32 : S_.BroadcastsInDim S4096x32 (![] : Fin 0 → Fin S4096x32.rank)
  reducesTo_S4096x32_S_d0_1 : S4096x32.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x8x64 .f32) (main_arg5 : FVec F S4096x512 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x8x64 .f32 := Host.absf main_arg4
  let main_cst_6 : FVec F S_ .f32 := constant S_ .f32 0x7F800000#32
  let main_v20 : FVec F S4096x8x64 .f32 := broadcastInDim S4096x8x64 ![] bcast_S_S4096x8x64 main_cst_6
  let main_v21 : IVec S4096x8x64 1 := cmpf .olt main_v19 main_v20
  let main_c_7 : IVec S_ 1 := constantI S_ 1 1#1
  let main_v22 : IVec S_ 1 := (fun x v => Host.reduce IntOp.andi x v reducesTo_S4096x8x64_S_d0_1_2 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  main_v28

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x512 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x8x32 .f32 := Host.absf main_arg1
  let main_cst_0 : FVec F S_ .f32 := constant S_ .f32 0x7F800000#32
  let main_v5 : FVec F S4096x8x32 .f32 := broadcastInDim S4096x8x32 ![] bcast_S_S4096x8x32 main_cst_0
  let main_v6 : IVec S4096x8x32 1 := cmpf .olt main_v4 main_v5
  let main_c_1 : IVec S_ 1 := constantI S_ 1 1#1
  let main_v7 : IVec S_ 1 := (fun x v => Host.reduce IntOp.andi x v reducesTo_S4096x8x32_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_v13 main_v16
-- ==== Pre_f_finite.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x8x32 : S_.BroadcastsInDim S4096x8x32 (![] : Fin 0 → Fin S4096x8x32.rank)
  reducesTo_S4096x8x32_S_d0_1_2 : S4096x8x32.ReducesTo [0, 1, 2] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x8x64 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x8x64 .f32 := Host.absf main_arg4
  let main_cst_6 : FVec F S_ .f32 := constant S_ .f32 0x7F800000#32
  let main_v20 : FVec F S4096x8x64 .f32 := broadcastInDim S4096x8x64 ![] bcast_S_S4096x8x64 main_cst_6
  let main_v21 : IVec S4096x8x64 1 := cmpf .olt main_v19 main_v20
  let main_c_7 : IVec S_ 1 := constantI S_ 1 1#1
  let main_v22 : IVec S_ 1 := (fun x v => Host.reduce IntOp.andi x v reducesTo_S4096x8x64_S_d0_1_2 h_S_) main_v21 main_c_7
  let main_v23 : IVec S_ 1 := andi main_v18 main_v22
  main_v23

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x8x32 .f32 := Host.absf main_arg1
  let main_cst_0 : FVec F S_ .f32 := constant S_ .f32 0x7F800000#32
  let main_v5 : FVec F S4096x8x32 .f32 := broadcastInDim S4096x8x32 ![] bcast_S_S4096x8x32 main_cst_0
  let main_v6 : IVec S4096x8x32 1 := cmpf .olt main_v4 main_v5
  let main_c_1 : IVec S_ 1 := constantI S_ 1 1#1
  let main_v7 : IVec S_ 1 := (fun x v => Host.reduce IntOp.andi x v reducesTo_S4096x8x32_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Pre_q_finite.lean ====
abbrev S4096x4256 : Shape := ⟨2, ![4096, 4256]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S4096x8x64 : Shape := ⟨3, ![4096, 8, 64]⟩
abbrev S4096x8x32 : Shape := ⟨3, ![4096, 8, 32]⟩
abbrev S_ : Shape := ⟨0, ![]⟩

class Facts : Prop where
  bcast_S_S4096x4256 : S_.BroadcastsInDim S4096x4256 (![] : Fin 0 → Fin S4096x4256.rank)
  reducesTo_S4096x4256_S_d0_1 : S4096x4256.ReducesTo [0, 1] S_
  h_S_ : 0 < S_.numel
  bcast_S_S384 : S_.BroadcastsInDim S384 (![] : Fin 0 → Fin S384.rank)
  reducesTo_S384_S_d0 : S384.ReducesTo [0] S_
  bcast_S_S384x8x96 : S_.BroadcastsInDim S384x8x96 (![] : Fin 0 → Fin S384x8x96.rank)
  reducesTo_S384x8x96_S_d0_1_2 : S384x8x96.ReducesTo [0, 1, 2] S_
  bcast_S_S256 : S_.BroadcastsInDim S256 (![] : Fin 0 → Fin S256.rank)
  reducesTo_S256_S_d0 : S256.ReducesTo [0] S_
  bcast_S_S256x8x128 : S_.BroadcastsInDim S256x8x128 (![] : Fin 0 → Fin S256x8x128.rank)
  reducesTo_S256x8x128_S_d0_1_2 : S256x8x128.ReducesTo [0, 1, 2] S_
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x8x32 : S_.BroadcastsInDim S4096x8x32 (![] : Fin 0 → Fin S4096x8x32.rank)
  reducesTo_S4096x8x32_S_d0_1_2 : S4096x8x32.ReducesTo [0, 1, 2] S_

variable [Facts]

def fn_part2 {F : FTy → Type} [FloatOps F] (main_arg7 : FVec F S4096x8x64 .f32) (main_arg8 : FVec F S4096x8x32 .f32) (main_arg9 : FVec F S4096x8x64 .f32) (main_v33 : IVec S_ 1) : IVec S_ 1 :=
  let main_v34 : FVec F S4096x8x64 .f32 := Host.absf main_arg7
  let main_cst_12 : FVec F S_ .f32 := constant S_ .f32 0x7F800000#32
  let main_v35 : FVec F S4096x8x64 .f32 := broadcastInDim S4096x8x64 ![] bcast_S_S4096x8x64 main_cst_12
  let main_v36 : IVec S4096x8x64 1 := cmpf .olt main_v34 main_v35
  let main_c_13 : IVec S_ 1 := constantI S_ 1 1#1
  let main_v37 : IVec S_ 1 := (fun x v => Host.reduce IntOp.andi x v reducesTo_S4096x8x64_S_d0_1_2 h_S_) main_v36 main_c_13
  let main_v38 : IVec S_ 1 := andi main_v33 main_v37
  let main_v39 : FVec F S4096x8x32 .f32 := Host.absf main_arg8
  let main_cst_14 : FVec F S_ .f32 := constant S_ .f32 0x7F800000#32
  let main_v40 : FVec F S4096x8x32 .f32 := broadcastInDim S4096x8x32 ![] bcast_S_S4096x8x32 main_cst_14
  let main_v41 : IVec S4096x8x32 1 := cmpf .olt main_v39 main_v40
  let main_c_15 : IVec S_ 1 := constantI S_ 1 1#1
  let main_v42 : IVec S_ 1 := (fun x v => Host.reduce IntOp.andi x v reducesTo_S4096x8x32_S_d0_1_2 h_S_) main_v41 main_c_15
  let main_v43 : IVec S_ 1 := andi main_v38 main_v42
  let main_v44 : FVec F S4096x8x64 .f32 := Host.absf main_arg9
  let main_cst_16 : FVec F S_ .f32 := constant S_ .f32 0x7F800000#32
  let main_v45 : FVec F S4096x8x64 .f32 := broadcastInDim S4096x8x64 ![] bcast_S_S4096x8x64 main_cst_16
  let main_v46 : IVec S4096x8x64 1 := cmpf .olt main_v44 main_v45
  let main_c_17 : IVec S_ 1 := constantI S_ 1 1#1
  let main_v47 : IVec S_ 1 := (fun x v => Host.reduce IntOp.andi x v reducesTo_S4096x8x64_S_d0_1_2 h_S_) main_v46 main_c_17
  let main_v48 : IVec S_ 1 := andi main_v43 main_v47
  main_v48

def fn_part1 {F : FTy → Type} [FloatOps F] (main_arg4 : FVec F S256x8x128 .f32) (main_arg5 : FVec F S4096x8x64 .f32) (main_arg6 : FVec F S4096x8x32 .f32) (main_arg7 : FVec F S4096x8x64 .f32) (main_arg8 : FVec F S4096x8x32 .f32) (main_arg9 : FVec F S4096x8x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x8x128 .f32 := Host.absf main_arg4
  let main_cst_6 : FVec F S_ .f32 := constant S_ .f32 0x7F800000#32
  let main_v20 : FVec F S256x8x128 .f32 := broadcastInDim S256x8x128 ![] bcast_S_S256x8x128 main_cst_6
  let main_v21 : IVec S256x8x128 1 := cmpf .olt main_v19 main_v20
  let main_c_7 : IVec S_ 1 := constantI S_ 1 1#1
  let main_v22 : IVec S_ 1 := (fun x v => Host.reduce IntOp.andi x v reducesTo_S256x8x128_S_d0_1_2 h_S_) main_v21 main_c_7
  let main_v23 : IVec S_ 1 := andi main_v18 main_v22
  let main_v24 : FVec F S4096x8x64 .f32 := Host.absf main_arg5
  let main_cst_8 : FVec F S_ .f32 := constant S_ .f32 0x7F800000#32
  let main_v25 : FVec F S4096x8x64 .f32 := broadcastInDim S4096x8x64 ![] bcast_S_S4096x8x64 main_cst_8
  let main_v26 : IVec S4096x8x64 1 := cmpf .olt main_v24 main_v25
  let main_c_9 : IVec S_ 1 := constantI S_ 1 1#1
  let main_v27 : IVec S_ 1 := (fun x v => Host.reduce IntOp.andi x v reducesTo_S4096x8x64_S_d0_1_2 h_S_) main_v26 main_c_9
  let main_v28 : IVec S_ 1 := andi main_v23 main_v27
  let main_v29 : FVec F S4096x8x32 .f32 := Host.absf main_arg6
  let main_cst_10 : FVec F S_ .f32 := constant S_ .f32 0x7F800000#32
  let main_v30 : FVec F S4096x8x32 .f32 := broadcastInDim S4096x8x32 ![] bcast_S_S4096x8x32 main_cst_10
  let main_v31 : IVec S4096x8x32 1 := cmpf .olt main_v29 main_v30
  let main_c_11 : IVec S_ 1 := constantI S_ 1 1#1
  let main_v32 : IVec S_ 1 := (fun x v => Host.reduce IntOp.andi x v reducesTo_S4096x8x32_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S4096x4256 .f32) (main_arg1 : FVec F S384 .f32) (main_arg2 : FVec F S384x8x96 .f32) (main_arg3 : FVec F S256 .f32) (main_arg4 : FVec F S256x8x128 .f32) (main_arg5 : FVec F S4096x8x64 .f32) (main_arg6 : FVec F S4096x8x32 .f32) (main_arg7 : FVec F S4096x8x64 .f32) (main_arg8 : FVec F S4096x8x32 .f32) (main_arg9 : FVec F S4096x8x64 .f32) : IVec S_ 1 :=
  let main_v0 : FVec F S4096x4256 .f32 := Host.absf main_arg0
  let main_cst : FVec F S_ .f32 := constant S_ .f32 0x7F800000#32
  let main_v1 : FVec F S4096x4256 .f32 := broadcastInDim S4096x4256 ![] bcast_S_S4096x4256 main_cst
  let main_v2 : IVec S4096x4256 1 := cmpf .olt main_v0 main_v1
  let main_c : IVec S_ 1 := constantI S_ 1 1#1
  let main_v3 : IVec S_ 1 := (fun x v => Host.reduce IntOp.andi x v reducesTo_S4096x4256_S_d0_1 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384x8x96 .f32 := Host.absf main_arg2
  let main_cst_2 : FVec F S_ .f32 := constant S_ .f32 0x7F800000#32
  let main_v10 : FVec F S384x8x96 .f32 := broadcastInDim S384x8x96 ![] bcast_S_S384x8x96 main_cst_2
  let main_v11 : IVec S384x8x96 1 := cmpf .olt main_v9 main_v10
  let main_c_3 : IVec S_ 1 := constantI S_ 1 1#1
  let main_v12 : IVec S_ 1 := (fun x v => Host.reduce IntOp.andi x v reducesTo_S384x8x96_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Pre_x_finite.lean ====
abbrev S4096x1024 : Shape := ⟨2, ![4096, 1024]⟩
abbrev S1024 : Shape := ⟨1, ![1024]⟩
abbrev S1024x4256 : Shape := ⟨2, ![1024, 4256]⟩
abbrev S4096x384 : Shape := ⟨2, ![4096, 384]⟩
abbrev S4096x256 : Shape := ⟨2, ![4096, 256]⟩
abbrev S4096x32 : Shape := ⟨2, ![4096, 32]⟩
abbrev S4096x512 : Shape := ⟨2, ![4096, 512]⟩
abbrev S4096x2048 : Shape := ⟨2, ![4096, 2048]⟩
abbrev S384 : Shape := ⟨1, ![384]⟩
abbrev S256 : Shape := ⟨1, ![256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4256 : S_.BroadcastsInDim S1024x4256 (![] : Fin 0 → Fin S1024x4256.rank)
  reducesTo_S1024x4256_S_d0_1 : S1024x4256.ReducesTo [0, 1] S_
  bcast_S_S4096x384 : S_.BroadcastsInDim S4096x384 (![] : Fin 0 → Fin S4096x384.rank)
  reducesTo_S4096x384_S_d0_1 : S4096x384.ReducesTo [0, 1] S_
  bcast_S_S4096x256 : S_.BroadcastsInDim S4096x256 (![] : Fin 0 → Fin S4096x256.rank)
  reducesTo_S4096x256_S_d0_1 : S4096x256.ReducesTo [0, 1] S_
  bcast_S_S4096x32 : S_.BroadcastsInDim S4096x32 (![] : Fin 0 → Fin S4096x32.rank)
  reducesTo_S4096x32_S_d0_1 : S4096x32.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part2 {F : FTy → Type} [FloatOps F] (main_arg7 : FVec F S4096x512 .f32) (main_arg8 : FVec F S4096x512 .f32) (main_arg9 : FVec F S4096x2048 .f32) (main_v33 : IVec S_ 1) : IVec S_ 1 :=
  let main_v34 : FVec F S4096x512 .f32 := Host.absf main_arg7
  let main_cst_12 : FVec F S_ .f32 := constant S_ .f32 0x7F800000#32
  let main_v35 : FVec F S4096x512 .f32 := broadcastInDim S4096x512 ![] bcast_S_S4096x512 main_cst_12
  let main_v36 : IVec S4096x512 1 := cmpf .olt main_v34 main_v35
  let main_c_13 : IVec S_ 1 := constantI S_ 1 1#1
  let main_v37 : IVec S_ 1 := (fun x v => Host.reduce IntOp.andi x v reducesTo_S4096x512_S_d0_1 h_S_) main_v36 main_c_13
  let main_v38 : IVec S_ 1 := andi main_v33 main_v37
  let main_v39 : FVec F S4096x512 .f32 := Host.absf main_arg8
  let main_cst_14 : FVec F S_ .f32 := constant S_ .f32 0x7F800000#32
  let main_v40 : FVec F S4096x512 .f32 := broadcastInDim S4096x512 ![] bcast_S_S4096x512 main_cst_14
  let main_v41 : IVec S4096x512 1 := cmpf .olt main_v39 main_v40
  let main_c_15 : IVec S_ 1 := constantI S_ 1 1#1
  let main_v42 : IVec S_ 1 := (fun x v => Host.reduce IntOp.andi x v reducesTo_S4096x512_S_d0_1 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  main_v48

def fn_part1 {F : FTy → Type} [FloatOps F] (main_arg4 : FVec F S4096x256 .f32) (main_arg5 : FVec F S4096x32 .f32) (main_arg6 : FVec F S4096x512 .f32) (main_arg7 : FVec F S4096x512 .f32) (main_arg8 : FVec F S4096x512 .f32) (main_arg9 : FVec F S4096x2048 .f32) (main_v13 : IVec S_ 1) (main_v16 : IVec S4096x384 1) : IVec S_ 1 :=
  let main_c_5 : IVec S_ 1 := constantI S_ 1 1#1
  let main_v17 : IVec S_ 1 := (fun x v => Host.reduce IntOp.andi x v reducesTo_S4096x384_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S1024 .f32) (main_arg2 : FVec F S1024x4256 .f32) (main_arg3 : FVec F S4096x384 .f32) (main_arg4 : FVec F S4096x256 .f32) (main_arg5 : FVec F S4096x32 .f32) (main_arg6 : FVec F S4096x512 .f32) (main_arg7 : FVec F S4096x512 .f32) (main_arg8 : FVec F S4096x512 .f32) (main_arg9 : FVec F S4096x2048 .f32) (main_arg10 : FVec F S4096x1024 .f32) (main_arg11 : FVec F S384 .f32) (main_arg12 : FVec F S256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4256 .f32 := Host.absf main_arg2
  let main_cst_2 : FVec F S_ .f32 := constant S_ .f32 0x7F800000#32
  let main_v10 : FVec F S1024x4256 .f32 := broadcastInDim S1024x4256 ![] bcast_S_S1024x4256 main_cst_2
  let main_v11 : IVec S1024x4256 1 := cmpf .olt main_v9 main_v10
  let main_c_3 : IVec S_ 1 := constantI S_ 1 1#1
  let main_v12 : IVec S_ 1 := (fun x v => Host.reduce IntOp.andi x v reducesTo_S1024x4256_S_d0_1 h_S_) main_v11 main_c_3
  let main_v13 : IVec S_ 1 := andi main_v8 main_v12
  let main_v14 : FVec F S4096x384 .f32 := Host.absf main_arg3
  let main_cst_4 : FVec F S_ .f32 := constant S_ .f32 0x7F800000#32
  let main_v15 : FVec F S4096x384 .f32 := broadcastInDim S4096x384 ![] bcast_S_S4096x384 main_cst_4
  let main_v16 : IVec S4096x384 1 := cmpf .olt main_v14 main_v15
  fn_part1 (F := F) main_arg4 main_arg5 main_arg6 main_arg7 main_arg8 main_arg9 main_v13 main_v16
-- ==== XKernel.lean ====
abbrev S4096x1024 : Shape := ⟨2, ![4096, 1024]⟩
abbrev S1024 : Shape := ⟨1, ![1024]⟩
abbrev S1024x4256 : Shape := ⟨2, ![1024, 4256]⟩
abbrev S4096x384 : Shape := ⟨2, ![4096, 384]⟩
abbrev S4096x256 : Shape := ⟨2, ![4096, 256]⟩
abbrev S4096x32 : Shape := ⟨2, ![4096, 32]⟩
abbrev S4096x512 : Shape := ⟨2, ![4096, 512]⟩
abbrev S4096x2048 : Shape := ⟨2, ![4096, 2048]⟩
abbrev S384 : Shape := ⟨1, ![384]⟩
abbrev S256 : Shape := ⟨1, ![256]⟩
abbrev S_ : Shape := ⟨0, ![]⟩
abbrev S4096x128 : Shape := ⟨2, ![4096, 128]⟩
abbrev S4096 : Shape := ⟨1, ![4096]⟩
abbrev S4096x1 : Shape := ⟨2, ![4096, 1]⟩
abbrev S1x1024 : Shape := ⟨2, ![1, 1024]⟩
abbrev S1x384 : Shape := ⟨2, ![1, 384]⟩
abbrev S1x256 : Shape := ⟨2, ![1, 256]⟩
abbrev S4256x1024 : Shape := ⟨2, ![4256, 1024]⟩
abbrev S4x1064x1024 : Shape := ⟨3, ![4, 1064, 1024]⟩
abbrev S16x128 : Shape := ⟨2, ![16, 128]⟩
abbrev S4x1064x4096 : Shape := ⟨3, ![4, 1064, 4096]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S16x512 : Shape := ⟨2, ![16, 512]⟩
abbrev S512x2048 : Shape := ⟨2, ![512, 2048]⟩
abbrev S512x1024 : Shape := ⟨2, ![512, 1024]⟩
abbrev S4x1064x512 : Shape := ⟨3, ![4, 1064, 512]⟩
abbrev S528x512 : Shape := ⟨2, ![528, 512]⟩
abbrev S512x32 : Shape := ⟨2, ![512, 32]⟩
abbrev S512x4256 : Shape := ⟨2, ![512, 4256]⟩
abbrev S512x1064 : Shape := ⟨2, ![512, 1064]⟩
abbrev S1064x512 : Shape := ⟨2, ![1064, 512]⟩
abbrev S1x1064x512 : Shape := ⟨3, ![1, 1064, 512]⟩
abbrev S512 : Shape := ⟨1, ![512]⟩
abbrev S512x1 : Shape := ⟨2, ![512, 1]⟩
abbrev S1x128 : Shape := ⟨2, ![1, 128]⟩
abbrev S3x128 : Shape := ⟨2, ![3, 128]⟩

abbrev nBuf : Space → Nat
  | .hbm => 71
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4256, .f32⟩
  | .hbm, ⟨3, _⟩ => ⟨S4096x384, .f32⟩
  | .hbm, ⟨4, _⟩ => ⟨S4096x256, .f32⟩
  | .hbm, ⟨5, _⟩ => ⟨S4096x32, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x2048, .f32⟩
  | .hbm, ⟨10, _⟩ => ⟨S4096x1024, .f32⟩
  | .hbm, ⟨11, _⟩ => ⟨S384, .f32⟩
  | .hbm, ⟨12, _⟩ => ⟨S256, .f32⟩
  | .hbm, ⟨13, _⟩ => ⟨S4096x384, .bf16⟩
  | .hbm, ⟨14, _⟩ => ⟨S4096x256, .bf16⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .bf16⟩
  | .hbm, ⟨19, _⟩ => ⟨S4096x512, .bf16⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S4096x1, .f32⟩
  | .hbm, ⟨29, _⟩ => ⟨S4096x128, .f32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S4096x128, .f32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S4096x1, .f32⟩
  | .hbm, ⟨47, _⟩ => ⟨S4096x128, .f32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .f32⟩
  | .hbm, ⟨55, _⟩ => ⟨S4096x1, .f32⟩
  | .hbm, ⟨56, _⟩ => ⟨S4096x128, .f32⟩
  | .hbm, ⟨57, _⟩ => ⟨S4096x512, .f32⟩
  | .hbm, ⟨58, _⟩ => ⟨S4096x512, .f32⟩
  | .hbm, ⟨59, _⟩ => ⟨S4096x512, .bf16⟩
  | .hbm, ⟨60, _⟩ => ⟨S4096x2048, .bf16⟩
  | .hbm, ⟨61, _⟩ => ⟨S1x1024, .f32⟩
  | .hbm, ⟨62, _⟩ => ⟨S1x384, .f32⟩
  | .hbm, ⟨63, _⟩ => ⟨S1x256, .f32⟩
  | .hbm, ⟨64, _⟩ => ⟨S4256x1024, .f32⟩
  | .hbm, ⟨65, _⟩ => ⟨S4256x1024, .bf16⟩
  | .hbm, ⟨66, _⟩ => ⟨S4x1064x1024, .bf16⟩
  | .hbm, ⟨67, _⟩ => ⟨S4256x1024, .bf16⟩
  | .hbm, ⟨68, _⟩ => ⟨S4096x1024, .f32⟩
  | .hbm, ⟨69, _⟩ => ⟨S16x128, .f32⟩
  | .hbm, ⟨70, _⟩ => ⟨S4x1064x4096, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S16x512, .f32⟩
  | .local _ .vmem, ⟨11, _⟩ => ⟨S16x512, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x384, .f32⟩
  | .local _ .vmem, ⟨22, _⟩ => ⟨S1x256, .f32⟩
  | .local _ .vmem, ⟨23, _⟩ => ⟨S512x1024, .f32⟩
  | .local _ .vmem, ⟨24, _⟩ => ⟨S512x1024, .f32⟩
  | .local _ .vmem, ⟨25, _⟩ => ⟨S16x128, .f32⟩
  | .local _ .vmem, ⟨26, _⟩ => ⟨S4x1064x512, .bf16⟩
  | .local _ .vmem, ⟨27, _⟩ => ⟨S4x1064x512, .bf16⟩
  | .local _ .vmem, ⟨28, _⟩ => ⟨S4256x1024, .bf16⟩
  | .local _ .vmem, ⟨29, _⟩ => ⟨S528x512, .f32⟩
  | .local _ .vmem, ⟨30, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_v45_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_105 : BitVec 32 := 7#32
  let v182 : BitVec 1 := Scalar.cmpi .eq arg0 c7_i32_105
  let v183 : BitVec 32 := Scalar.extui v182
  let c0_i32_106 : BitVec 32 := 0#32
  let v184 : BitVec 1 := Scalar.cmpi .ne v183 c0_i32_106
  v184

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x1064x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== XReferenceIdeal.lean ====
abbrev S4096x1024 : Shape := ⟨2, ![4096, 1024]⟩
abbrev S1024 : Shape := ⟨1, ![1024]⟩
abbrev S1024x4256 : Shape := ⟨2, ![1024, 4256]⟩
abbrev S4096x384 : Shape := ⟨2, ![4096, 384]⟩
abbrev S4096x256 : Shape := ⟨2, ![4096, 256]⟩
abbrev S4096x32 : Shape := ⟨2, ![4096, 32]⟩
abbrev S4096x512 : Shape := ⟨2, ![4096, 512]⟩
abbrev S4096x2048 : Shape := ⟨2, ![4096, 2048]⟩
abbrev S384 : Shape := ⟨1, ![384]⟩
abbrev S256 : Shape := ⟨1, ![256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4256 : Shape := ⟨2, ![4096, 4256]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S2048 : Shape := ⟨1, ![2048]⟩
abbrev S4256x4096 : Shape := ⟨2, ![4256, 4096]⟩
abbrev S4x1064x4096 : Shape := ⟨3, ![4, 1064, 4096]⟩

abbrev nBuf : Space → Nat
  | .hbm => 227
  | .vmem => 0
  | .smem => 0
  | _ => 0

abbrev hbmTy0_0 (i : Nat) : BufTy := match i % 128 with
  | 0 => ⟨S4096x1024, .f32⟩
  | 1 => ⟨S1024, .f32⟩
  | 2 => ⟨S1024x4256, .f32⟩
  | 3 => ⟨S4096x384, .f32⟩
  | 4 => ⟨S4096x256, .f32⟩
  | 5 => ⟨S4096x32, .f32⟩
  | 6 => ⟨S4096x512, .f32⟩
  | 7 => ⟨S4096x512, .f32⟩
  | 8 => ⟨S4096x512, .f32⟩
  | 9 => ⟨S4096x2048, .f32⟩
  | 10 => ⟨S4096x1024, .f32⟩
  | 11 => ⟨S384, .f32⟩
  | 12 => ⟨S256, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x4256, .f32⟩
  | 34 => ⟨S4096x384, .f32⟩
  | 35 => ⟨S4096x256, .f32⟩
  | 36 => ⟨S4096x32, .f32⟩
  | 37 => ⟨S4096x512, .f32⟩
  | 38 => ⟨S4096x512, .f32⟩
  | 39 => ⟨S4096x512, .f32⟩
  | 40 => ⟨S4096x2048, .f32⟩
  | 41 => ⟨S_, .f32⟩
  | 42 => ⟨S_, .f32⟩
  | 43 => ⟨S4096x512, .f32⟩
  | 44 => ⟨S4096, .i32⟩
  | 45 => ⟨S4096x128, .f32⟩
  | 46 => ⟨S_, .f32⟩
  | 47 => ⟨S2x128, .f32⟩
  | 48 => ⟨S4094x128, .f32⟩
  | 49 => ⟨S4096x128, .f32⟩
  | 50 => ⟨S_, .f32⟩
  | 51 => ⟨S2x128, .f32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .f32⟩
  | 59 => ⟨S4096x1, .f32⟩
  | 60 => ⟨S4096x128, .f32⟩
  | 61 => ⟨S4096x128, .f32⟩
  | 62 => ⟨S4096x128, .f32⟩
  | 63 => ⟨S4096x128, .f32⟩
  | 64 => ⟨S4096x128, .f32⟩
  | 65 => ⟨S4096x128, .f32⟩
  | 66 => ⟨S_, .f32⟩
  | 67 => ⟨S4x128, .f32⟩
  | 68 => ⟨S4092x128, .f32⟩
  | 69 => ⟨S4096x128, .f32⟩
  | 70 => ⟨S_, .f32⟩
  | 71 => ⟨S4x128, .f32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .f32⟩
  | 79 => ⟨S4096x1, .f32⟩
  | 80 => ⟨S4096x128, .f32⟩
  | 81 => ⟨S4096x128, .f32⟩
  | 82 => ⟨S4096x128, .f32⟩
  | 83 => ⟨S4096x128, .f32⟩
  | 84 => ⟨S4096x128, .f32⟩
  | 85 => ⟨S4096x128, .f32⟩
  | 86 => ⟨S_, .f32⟩
  | 87 => ⟨S8x128, .f32⟩
  | 88 => ⟨S4088x128, .f32⟩
  | 89 => ⟨S4096x128, .f32⟩
  | 90 => ⟨S_, .f32⟩
  | 91 => ⟨S8x128, .f32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .f32⟩
  | 99 => ⟨S4096x1, .f32⟩
  | 100 => ⟨S4096x128, .f32⟩
  | 101 => ⟨S4096x128, .f32⟩
  | 102 => ⟨S4096x128, .f32⟩
  | 103 => ⟨S4096x128, .f32⟩
  | 104 => ⟨S4096x128, .f32⟩
  | 105 => ⟨S4096x128, .f32⟩
  | 106 => ⟨S_, .f32⟩
  | 107 => ⟨S16x128, .f32⟩
  | 108 => ⟨S4080x128, .f32⟩
  | 109 => ⟨S4096x128, .f32⟩
  | 110 => ⟨S_, .f32⟩
  | 111 => ⟨S16x128, .f32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S4096, .f32⟩
  | 119 => ⟨S4096x1, .f32⟩
  | 120 => ⟨S4096x128, .f32⟩
  | 121 => ⟨S4096x128, .f32⟩
  | 122 => ⟨S4096x128, .f32⟩
  | 123 => ⟨S4096x128, .f32⟩
  | 124 => ⟨S4096x128, .f32⟩
  | 125 => ⟨S4096x512, .f32⟩
  | 126 => ⟨S4096x128, .f32⟩
  | 127 => ⟨S4096x128, .f32⟩
  | _ => ⟨S4096x1024, .f32⟩

abbrev hbmTy0_1 (i : Nat) : BufTy := match i % 128 with
  | 0 => ⟨S4096x128, .f32⟩
  | 1 => ⟨S4096x128, .f32⟩
  | 2 => ⟨S4096x128, .f32⟩
  | 3 => ⟨S_, .f32⟩
  | 4 => ⟨S4096x512, .f32⟩
  | 5 => ⟨S4096x128, .f32⟩
  | 6 => ⟨S4096x128, .f32⟩
  | 7 => ⟨S4096x128, .f32⟩
  | 8 => ⟨S16x128, .f32⟩
  | 9 => ⟨S4080x128, .f32⟩
  | 10 => ⟨S_, .f32⟩
  | 11 => ⟨S4096x128, .f32⟩
  | 12 => ⟨S4096x128, .f32⟩
  | 13 => ⟨S_, .f32⟩
  | 14 => ⟨S4096x512, .f32⟩
  | 15 => ⟨S4096x128, .f32⟩
  | 16 => ⟨S_, .f32⟩
  | 17 => ⟨S4096x512, .f32⟩
  | 18 => ⟨S4096x512, .f32⟩
  | 19 => ⟨S4096x128, .f32⟩
  | 20 => ⟨S4096x128, .f32⟩
  | 21 => ⟨S4096x128, .f32⟩
  | 22 => ⟨S8x128, .f32⟩
  | 23 => ⟨S4088x128, .f32⟩
  | 24 => ⟨S_, .f32⟩
  | 25 => ⟨S4096x128, .f32⟩
  | 26 => ⟨S4096x128, .f32⟩
  | 27 => ⟨S_, .f32⟩
  | 28 => ⟨S4096x512, .f32⟩
  | 29 => ⟨S4096x512, .f32⟩
  | 30 => ⟨S4096x128, .f32⟩
  | 31 => ⟨S_, .f32⟩
  | 32 => ⟨S4096x512, .f32⟩
  | 33 => ⟨S4096x512, .f32⟩
  | 34 => ⟨S4096x128, .f32⟩
  | 35 => ⟨S4096x128, .f32⟩
  | 36 => ⟨S4096x128, .f32⟩
  | 37 => ⟨S4x128, .f32⟩
  | 38 => ⟨S4092x128, .f32⟩
  | 39 => ⟨S_, .f32⟩
  | 40 => ⟨S4096x128, .f32⟩
  | 41 => ⟨S4096x128, .f32⟩
  | 42 => ⟨S_, .f32⟩
  | 43 => ⟨S4096x512, .f32⟩
  | 44 => ⟨S4096x512, .f32⟩
  | 45 => ⟨S4096x128, .f32⟩
  | 46 => ⟨S_, .f32⟩
  | 47 => ⟨S4096x512, .f32⟩
  | 48 => ⟨S4096x512, .f32⟩
  | 49 => ⟨S4096x128, .f32⟩
  | 50 => ⟨S4096x128, .f32⟩
  | 51 => ⟨S4096x128, .f32⟩
  | 52 => ⟨S2x128, .f32⟩
  | 53 => ⟨S4094x128, .f32⟩
  | 54 => ⟨S_, .f32⟩
  | 55 => ⟨S4096x128, .f32⟩
  | 56 => ⟨S4096x128, .f32⟩
  | 57 => ⟨S_, .f32⟩
  | 58 => ⟨S4096x512, .f32⟩
  | 59 => ⟨S4096x512, .f32⟩
  | 60 => ⟨S_, .f32⟩
  | 61 => ⟨S_, .f32⟩
  | 62 => ⟨S4096x512, .f32⟩
  | 63 => ⟨S4096x512, .f32⟩
  | 64 => ⟨S4096x4256, .f32⟩
  | 65 => ⟨S4096x1024, .f32⟩
  | 66 => ⟨S4096x1024, .f32⟩
  | 67 => ⟨S_, .f32⟩
  | 68 => ⟨S1024, .f32⟩
  | 69 => ⟨S1x1024, .f32⟩
  | 70 => ⟨S4096x1024, .f32⟩
  | 71 => ⟨S4096x1024, .f32⟩
  | 72 => ⟨S_, .f32⟩
  | 73 => ⟨S1024, .f32⟩
  | 74 => ⟨S4096x1024, .f32⟩
  | 75 => ⟨S_, .f32⟩
  | 76 => ⟨S4096, .f32⟩
  | 77 => ⟨S4096x1, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S384, .f32⟩
  | 93 => ⟨S2048, .f32⟩
  | 94 => ⟨S16x128, .f32⟩
  | 95 => ⟨S4096x1024, .f32⟩
  | 96 => ⟨S4256x4096, .f32⟩
  | 97 => ⟨S4x1064x4096, .f32⟩
  | 98 => ⟨S4x1064x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_call0_cst : Ref sig .tc := ⟨.hbm, 41, rfl⟩
abbrev main_call0_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_19 : Ref sig .tc := ⟨.hbm, 138, rfl⟩
abbrev main_v102 : Ref sig .tc := ⟨.hbm, 139, rfl⟩
abbrev main_v103 : Ref sig .tc := ⟨.hbm, 140, rfl⟩
abbrev main_cst_20 : Ref sig .tc := ⟨.hbm, 141, rfl⟩
abbrev main_v104 : Ref sig .tc := ⟨.hbm, 142, rfl⟩
abbrev main_v105 : Ref sig .tc := ⟨.hbm, 143, rfl⟩
abbrev main_cst_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_22 : Ref sig .tc := ⟨.hbm, 152, rfl⟩
abbrev main_v113 : Ref sig .tc := ⟨.hbm, 153, rfl⟩
abbrev main_v114 : Ref sig .tc := ⟨.hbm, 154, rfl⟩
abbrev main_cst_23 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_24 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_25 : Ref sig .tc := ⟨.hbm, 167, rfl⟩
abbrev main_v125 : Ref sig .tc := ⟨.hbm, 168, rfl⟩
abbrev main_v126 : Ref sig .tc := ⟨.hbm, 169, rfl⟩
abbrev main_cst_26 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_27 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_28 : Ref sig .tc := ⟨.hbm, 182, rfl⟩
abbrev main_v137 : Ref sig .tc := ⟨.hbm, 183, rfl⟩
abbrev main_v138 : Ref sig .tc := ⟨.hbm, 184, rfl⟩
abbrev main_cst_29 : Ref sig .tc := ⟨.hbm, 185, rfl⟩
abbrev main_v139 : Ref sig .tc := ⟨.hbm, 186, rfl⟩
abbrev main_v140 : Ref sig .tc := ⟨.hbm, 187, rfl⟩
abbrev main_call1_call0_cst : Ref sig .tc := ⟨.hbm, 188, rfl⟩
abbrev main_call1_call0_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_30 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_31 : Ref sig .tc := ⟨.hbm, 200, rfl⟩
abbrev main_v150 : Ref sig .tc := ⟨.hbm, 201, rfl⟩
abbrev main_v151 : Ref sig .tc := ⟨.hbm, 202, rfl⟩
abbrev main_cst_32 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_33 : Ref sig .tc := ⟨.hbm, 209, rfl⟩
abbrev main_v157 : Ref sig .tc := ⟨.hbm, 210, rfl⟩
abbrev main_v158 : Ref sig .tc := ⟨.hbm, 211, rfl⟩
abbrev main_cst_34 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_35 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩

abbrev nD : Nat := 1
abbrev τ : Topo := Topo.v7x

variable {F : FTy → Type} [FloatOps F]
-- ==== AKernel.lean ====
abbrev S4096x8x64 : Shape := ⟨3, ![4096, 8, 64]⟩
abbrev S4096x8x32 : Shape := ⟨3, ![4096, 8, 32]⟩
abbrev S4096x32 : Shape := ⟨2, ![4096, 32]⟩
abbrev S4096x512 : Shape := ⟨2, ![4096, 512]⟩
abbrev S4096x1x32 : Shape := ⟨3, ![4096, 1, 32]⟩
abbrev S4096 : Shape := ⟨1, ![4096]⟩
abbrev S_ : Shape := ⟨0, ![]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x128 : Shape := ⟨3, ![4096, 8, 128]⟩
abbrev S4096x1024 : Shape := ⟨2, ![4096, 1024]⟩
abbrev S1024x4096 : Shape := ⟨2, ![1024, 4096]⟩
abbrev S4096x8x1 : Shape := ⟨3, ![4096, 8, 1]⟩
abbrev S512x4096 : Shape := ⟨2, ![512, 4096]⟩
abbrev S512x512 : Shape := ⟨2, ![512, 512]⟩
abbrev S512x256 : Shape := ⟨2, ![512, 256]⟩
abbrev S4096x256 : Shape := ⟨2, ![4096, 256]⟩
abbrev S256x4096 : Shape := ⟨2, ![256, 4096]⟩
abbrev S512x128 : Shape := ⟨2, ![512, 128]⟩
abbrev S128x512 : Shape := ⟨2, ![128, 512]⟩
abbrev S512x64 : Shape := ⟨2, ![512, 64]⟩
abbrev S256x512 : Shape := ⟨2, ![256, 512]⟩
abbrev S64x512 : Shape := ⟨2, ![64, 512]⟩

abbrev nBuf : Space → Nat
  | .hbm => 92
  | .vmem => 18
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x512, .f32⟩
  | .hbm, ⟨6, _⟩ => ⟨S4096x1x32, .f32⟩
  | .hbm, ⟨7, _⟩ => ⟨S4096x8x32, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S8x4096x4096, .i1⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x64x4096, .f32⟩
  | .hbm, ⟨56, _⟩ => ⟨S4096x8x64, .f32⟩
  | .hbm, ⟨57, _⟩ => ⟨S4096x512, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096, .f32⟩
  | .hbm, ⟨65, _⟩ => ⟨S4096x8, .f32⟩
  | .hbm, ⟨66, _⟩ => ⟨S4096x512, .f32⟩
  | .hbm, ⟨67, _⟩ => ⟨S4096x8x64, .f32⟩
  | .hbm, ⟨68, _⟩ => ⟨S_, .f32⟩
  | .hbm, ⟨69, _⟩ => ⟨S4096x8, .f32⟩
  | .hbm, ⟨70, _⟩ => ⟨S_, .f32⟩
  | .hbm, ⟨71, _⟩ => ⟨S4096x8x32, .f32⟩
  | .hbm, ⟨72, _⟩ => ⟨S4096x8x128, .f32⟩
  | .hbm, ⟨73, _⟩ => ⟨S4096x1024, .f32⟩
  | .hbm, ⟨74, _⟩ => ⟨S4096x1024, .bf16⟩
  | .hbm, ⟨75, _⟩ => ⟨S_, .f32⟩
  | .hbm, ⟨76, _⟩ => ⟨S4096x8x32, .f32⟩
  | .hbm, ⟨77, _⟩ => ⟨S4096x8x128, .f32⟩
  | .hbm, ⟨78, _⟩ => ⟨S4096x1024, .f32⟩
  | .hbm, ⟨79, _⟩ => ⟨S4096x1024, .bf16⟩
  | .hbm, ⟨80, _⟩ => ⟨S1024x4096, .bf16⟩
  | .hbm, ⟨81, _⟩ => ⟨S4096x512, .f32⟩
  | .hbm, ⟨82, _⟩ => ⟨S4096x512, .bf16⟩
  | .hbm, ⟨83, _⟩ => ⟨S4096x8x1, .f32⟩
  | .hbm, ⟨84, _⟩ => ⟨S4096x8x128, .f32⟩
  | .hbm, ⟨85, _⟩ => ⟨S4096x1024, .f32⟩
  | .hbm, ⟨86, _⟩ => ⟨S4096x8x1, .f32⟩
  | .hbm, ⟨87, _⟩ => ⟨S4096x8x128, .f32⟩
  | .hbm, ⟨88, _⟩ => ⟨S4096x1024, .f32⟩
  | .hbm, ⟨89, _⟩ => ⟨S4096x1024, .f32⟩
  | .hbm, ⟨90, _⟩ => ⟨S1024x4096, .f32⟩
  | .hbm, ⟨91, _⟩ => ⟨S512x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S4096x512, .bf16⟩
  | .local _ .vmem, ⟨11, _⟩ => ⟨S4096x256, .bf16⟩
  | .local _ .vmem, ⟨12, _⟩ => ⟨S512x512, .f32⟩
  | .local _ .vmem, ⟨13, _⟩ => ⟨S512x512, .f32⟩
  | .local _ .vmem, ⟨14, _⟩ => ⟨S512x4096, .f32⟩
  | .local _ .vmem, ⟨15, _⟩ => ⟨S512x4096, .f32⟩
  | .local _ .vmem, ⟨16, _⟩ => ⟨S256x4096, .f32⟩
  | .local _ .vmem, ⟨17, _⟩ => ⟨S256x4096, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_4 : Ref sig .tc := ⟨.hbm, 68, rfl⟩
abbrev main_v37 : Ref sig .tc := ⟨.hbm, 69, rfl⟩
abbrev main_cst_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55_0 : Ref sig .tc := ⟨.hbm, 89, rfl⟩
abbrev main_v55_1 : Ref sig .tc := ⟨.hbm, 90, rfl⟩
abbrev main_v55_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_51 : BitVec 32 := 1#32
  ⟨c0_i32_49, v114, c1_i32_51⟩
def k0_mult1 (i : grid0.Coords) (k0_t1 : Fin (k0_t1_loop i).trips) : BitVec 32 :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  v275
def k0_off1 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v277 : Index := Scalar.indexCast v276
  let c0_122 : Index := 0#32
  ![v277.toNat, 0]
def k0_off2 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v280 : Index := Scalar.indexCast v276
  let c0_123 : Index := 0#32
  ![v280.toNat, 0]
def k0_off3 (i : grid0.Coords) (k0_t1 : Fin (k0_t1_loop i).trips) : Fin 2 → Nat :=
  let c0_127 : Index := 0#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v292 : Index := Scalar.indexCast v276
  ![0, v292.toNat]
def k0_off4 (i : grid0.Coords) (k0_t1 : Fin (k0_t1_loop i).trips) : Fin 2 → Nat :=
  let c0_130 : Index := 0#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v300 : Index := Scalar.indexCast v276
  ![0, v300.toNat]
def k0_off5 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v311 : Index := Scalar.indexCast v276
  let c128_135 : Index := 128#32
  ![v311.toNat, 128]
def k0_off6 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v314 : Index := Scalar.indexCast v276
  let c64_136 : Index := 64#32
  ![v314.toNat, 64]
def k0_off7 (i : grid0.Coords) (k0_t1 : Fin (k0_t1_loop i).trips) : Fin 2 → Nat :=
  let c64_140 : Index := 64#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v326 : Index := Scalar.indexCast v276
  ![64, v326.toNat]
def k0_off8 (i : grid0.Coords) (k0_t1 : Fin (k0_t1_loop i).trips) : Fin 2 → Nat :=
  let c128_143 : Index := 128#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v334 : Index := Scalar.indexCast v276
  ![128, v334.toNat]
def k0_off9 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v345 : Index := Scalar.indexCast v276
  let c256_148 : Index := 256#32
  ![v345.toNat, 256]
def k0_off10 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v348 : Index := Scalar.indexCast v276
  let c128_149 : Index := 128#32
  ![v348.toNat, 128]
def k0_off11 (i : grid0.Coords) (k0_t1 : Fin (k0_t1_loop i).trips) : Fin 2 → Nat :=
  let c128_153 : Index := 128#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v360 : Index := Scalar.indexCast v276
  ![128, v360.toNat]
def k0_off12 (i : grid0.Coords) (k0_t1 : Fin (k0_t1_loop i).trips) : Fin 2 → Nat :=
  let c256_156 : Index := 256#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v368 : Index := Scalar.indexCast v276
  ![256, v368.toNat]
def k0_off13 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v379 : Index := Scalar.indexCast v276
  let c384_161 : Index := 384#32
  ![v379.toNat, 384]
def k0_off14 (i : grid0.Coords) (k0_t1 : Fin (k0_t1_loop i).trips) : Fin 2 → Nat :=
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v382 : Index := Scalar.indexCast v276
  let c192_162 : Index := 192#32
  ![v382.toNat, 192]
def k0_off15 (i : grid0.Coords) (k0_t1 : Fin (k0_t1_loop i).trips) : Fin 2 → Nat :=
  let c192_166 : Index := 192#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v394 : Index := Scalar.indexCast v276
  ![192, v394.toNat]
def k0_off16 (i : grid0.Coords) (k0_t1 : Fin (k0_t1_loop i).trips) : Fin 2 → Nat :=
  let c384_169 : Index := 384#32
  let c0_i32_49 : BitVec 32 := 0#32
  let c1_i32_51 : BitVec 32 := 1#32
  let arg12 : BitVec 32 := Scf.iv c0_i32_49 c1_i32_51 k0_t1
  let c512_i32_121 : BitVec 32 := 512#32
  let v275 : BitVec 32 := Scalar.muli arg12 c512_i32_121
  let v276 : BitVec 32 := v275
  let v402 : Index := Scalar.indexCast v276
  ![384, v402.toNat]
@[reducible] def k0_t2_loop (i : grid0.Coords) : Scf.Loop 32 :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let v111 : BitVec 32 := Scalar.addi c0_i32_49 v110
  let c1_i32_52 : BitVec 32 := 1#32
  ⟨v114, v111, c1_i32_52⟩
def k0_mult2 (i : grid0.Coords) (k0_t2 : Fin (k0_t2_loop i).trips) : BitVec 32 :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  v275
def k0_off17 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v277 : Index := Scalar.indexCast v276
  let c0_122 : Index := 0#32
  ![v277.toNat, 0]
def k0_off18 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v280 : Index := Scalar.indexCast v276
  let c0_123 : Index := 0#32
  ![v280.toNat, 0]
def k0_off19 (i : grid0.Coords) (k0_t2 : Fin (k0_t2_loop i).trips) : Fin 2 → Nat :=
  let c0_127 : Index := 0#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v292 : Index := Scalar.indexCast v276
  ![0, v292.toNat]
def k0_off20 (i : grid0.Coords) (k0_t2 : Fin (k0_t2_loop i).trips) : Fin 2 → Nat :=
  let c0_130 : Index := 0#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v300 : Index := Scalar.indexCast v276
  ![0, v300.toNat]
def k0_off21 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v311 : Index := Scalar.indexCast v276
  let c128_135 : Index := 128#32
  ![v311.toNat, 128]
def k0_off22 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v314 : Index := Scalar.indexCast v276
  let c64_136 : Index := 64#32
  ![v314.toNat, 64]
def k0_off23 (i : grid0.Coords) (k0_t2 : Fin (k0_t2_loop i).trips) : Fin 2 → Nat :=
  let c64_140 : Index := 64#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v326 : Index := Scalar.indexCast v276
  ![64, v326.toNat]
def k0_off24 (i : grid0.Coords) (k0_t2 : Fin (k0_t2_loop i).trips) : Fin 2 → Nat :=
  let c128_143 : Index := 128#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v334 : Index := Scalar.indexCast v276
  ![128, v334.toNat]
def k0_off25 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v345 : Index := Scalar.indexCast v276
  let c256_148 : Index := 256#32
  ![v345.toNat, 256]
def k0_off26 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v348 : Index := Scalar.indexCast v276
  let c128_149 : Index := 128#32
  ![v348.toNat, 128]
def k0_off27 (i : grid0.Coords) (k0_t2 : Fin (k0_t2_loop i).trips) : Fin 2 → Nat :=
  let c128_153 : Index := 128#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v360 : Index := Scalar.indexCast v276
  ![128, v360.toNat]
def k0_off28 (i : grid0.Coords) (k0_t2 : Fin (k0_t2_loop i).trips) : Fin 2 → Nat :=
  let c256_156 : Index := 256#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v368 : Index := Scalar.indexCast v276
  ![256, v368.toNat]
def k0_off29 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v379 : Index := Scalar.indexCast v276
  let c384_161 : Index := 384#32
  ![v379.toNat, 384]
def k0_off30 (i : grid0.Coords) (k0_t2 : Fin (k0_t2_loop i).trips) : Fin 2 → Nat :=
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v382 : Index := Scalar.indexCast v276
  let c192_162 : Index := 192#32
  ![v382.toNat, 192]
def k0_off31 (i : grid0.Coords) (k0_t2 : Fin (k0_t2_loop i).trips) : Fin 2 → Nat :=
  let c192_166 : Index := 192#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v394 : Index := Scalar.indexCast v276
  ![192, v394.toNat]
def k0_off32 (i : grid0.Coords) (k0_t2 : Fin (k0_t2_loop i).trips) : Fin 2 → Nat :=
  let c384_169 : Index := 384#32
  let c0_i32_49 : BitVec 32 := 0#32
  let arg1 : BitVec 32 := BitVec.ofNat 32 (i 1).val
  let v110 : BitVec 32 := Scalar.subi arg1 c0_i32_49
  let c1_i32_50 : BitVec 32 := 1#32
  let v112 : BitVec 32 := Scalar.divsi v110 c1_i32_50
  let v113 : BitVec 32 := Scalar.muli v112 c1_i32_50
  let v114 : BitVec 32 := Scalar.addi c0_i32_49 v113
  let c1_i32_52 : BitVec 32 := 1#32
  let arg12 : BitVec 32 := Scf.iv v114 c1_i32_52 k0_t2
  let c512_i32_121 : BitVec 32 := 512#32
  let v275 : BitVec 32 := Scalar.muli arg12 c512_i32_121
  let v276 : BitVec 32 := v275
  let v402 : Index := Scalar.indexCast v276
  ![384, v402.toNat]
def k0_mult3 (i : grid0.Coords) : BitVec 32 :=
  let arg1 : BitVec 32 := BitVec.ofNat 32 (i 1).val
  let c512_i32 : BitVec 32 := 512#32
  let v117 : BitVec 32 := Scalar.muli arg1 c512_i32
  v117
def k0_off33 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v119 : Index := Scalar.indexCast v118
  let c0_53 : Index := 0#32
  ![v119.toNat, 0]
def k0_off34 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v122 : Index := Scalar.indexCast v118
  let c0_54 : Index := 0#32
  ![v122.toNat, 0]
def k0_off35 (i : grid0.Coords) : Fin 2 → Nat :=
  let c0_59 : Index := 0#32
  let arg1 : BitVec 32 := BitVec.ofNat 32 (i 1).val
  let c512_i32 : BitVec 32 := 512#32
  let v117 : BitVec 32 := Scalar.muli arg1 c512_i32
  let v118 : BitVec 32 := v117
  let v136 : Index := Scalar.indexCast v118
  ![0, v136.toNat]
def k0_off36 (i : grid0.Coords) : Fin 2 → Nat :=
  let c0_62 : Index := 0#32
  let arg1 : BitVec 32 := BitVec.ofNat 32 (i 1).val
  let c512_i32 : BitVec 32 := 512#32
  let v117 : BitVec 32 := Scalar.muli arg1 c512_i32
  let v118 : BitVec 32 := v117
  let v144 : Index := Scalar.indexCast v118
  ![0, v144.toNat]
def k0_off37 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v155 : Index := Scalar.indexCast v118
  let c128_67 : Index := 128#32
  ![v155.toNat, 128]
def k0_off38 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v158 : Index := Scalar.indexCast v118
  let c64_68 : Index := 64#32
  ![v158.toNat, 64]
def k0_off39 (i : grid0.Coords) : Fin 2 → Nat :=
  let c64_73 : Index := 64#32
  let arg1 : BitVec 32 := BitVec.ofNat 32 (i 1).val
  let c512_i32 : BitVec 32 := 512#32
  let v117 : BitVec 32 := Scalar.muli arg1 c512_i32
  let v118 : BitVec 32 := v117
  let v172 : Index := Scalar.indexCast v118
  ![64, v172.toNat]
def k0_off40 (i : grid0.Coords) : Fin 2 → Nat :=
  let c128_76 : Index := 128#32
  let arg1 : BitVec 32 := BitVec.ofNat 32 (i 1).val
  let c512_i32 : BitVec 32 := 512#32
  let v117 : BitVec 32 := Scalar.muli arg1 c512_i32
  let v118 : BitVec 32 := v117
  let v180 : Index := Scalar.indexCast v118
  ![128, v180.toNat]
def k0_off41 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v191 : Index := Scalar.indexCast v118
  let c256_81 : Index := 256#32
  ![v191.toNat, 256]
def k0_off42 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v194 : Index := Scalar.indexCast v118
  let c128_82 : Index := 128#32
  ![v194.toNat, 128]
def k0_off43 (i : grid0.Coords) : Fin 2 → Nat :=
  let c128_87 : Index := 128#32
  let arg1 : BitVec 32 := BitVec.ofNat 32 (i 1).val
  let c512_i32 : BitVec 32 := 512#32
  let v117 : BitVec 32 := Scalar.muli arg1 c512_i32
  let v118 : BitVec 32 := v117
  let v208 : Index := Scalar.indexCast v118
  ![128, v208.toNat]
def k0_off44 (i : grid0.Coords) : Fin 2 → Nat :=
  let c256_90 : Index := 256#32
  let arg1 : BitVec 32 := BitVec.ofNat 32 (i 1).val
  let c512_i32 : BitVec 32 := 512#32
  let v117 : BitVec 32 := Scalar.muli arg1 c512_i32
  let v118 : BitVec 32 := v117
  let v216 : Index := Scalar.indexCast v118
  ![256, v216.toNat]
def k0_off45 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v227 : Index := Scalar.indexCast v118
  let c384_95 : Index := 384#32
  ![v227.toNat, 384]
def k0_off46 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v230 : Index := Scalar.indexCast v118
  let c192_96 : Index := 192#32
  ![v230.toNat, 192]
def k0_off47 (i : grid0.Coords) : Fin 2 → Nat :=
  let c192_101 : Index := 192#32
  let arg1 : BitVec 32 := BitVec.ofNat 32 (i 1).val
  let c512_i32 : BitVec 32 := 512#32
  let v117 : BitVec 32 := Scalar.muli arg1 c512_i32
  let v118 : BitVec 32 := v117
  let v244 : Index := Scalar.indexCast v118
  ![192, v244.toNat]
def k0_off48 (i : grid0.Coords) : Fin 2 → Nat :=
  let c384_104 : Index := 384#32
  let arg1 : BitVec 32 := BitVec.ofNat 32 (i 1).val
  let c512_i32 : BitVec 32 := 512#32
  let v117 : BitVec 32 := Scalar.muli arg1 c512_i32
  let v118 : BitVec 32 := v117
  let v252 : Index := Scalar.indexCast v118
  ![384, v252.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AKernelIdeal.lean ====
variable {F : FTy → Type} [FloatOps F] [Named F]
def κ : String → Option EReal := fun
  | "scale_log2e" => some (((3424635 / 33554432) * (Real.log 2)⁻¹ : ℝ) : EReal)
  | _ => none
-- ==== AReferenceIdeal.lean ====
abbrev S4096x8x64 : Shape := ⟨3, ![4096, 8, 64]⟩
abbrev S4096x8x32 : Shape := ⟨3, ![4096, 8, 32]⟩
abbrev S4096x32 : Shape := ⟨2, ![4096, 32]⟩
abbrev S4096x512 : Shape := ⟨2, ![4096, 512]⟩
abbrev S4096x1x32 : Shape := ⟨3, ![4096, 1, 32]⟩
abbrev S4096 : Shape := ⟨1, ![4096]⟩
abbrev S_ : Shape := ⟨0, ![]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x32 : Shape := ⟨3, ![8, 4096, 32]⟩
abbrev S8x4096x64 : Shape := ⟨3, ![8, 4096, 64]⟩
abbrev S4096x8x128 : Shape := ⟨3, ![4096, 8, 128]⟩
abbrev S4096x1024 : Shape := ⟨2, ![4096, 1024]⟩
abbrev S1024x4096 : Shape := ⟨2, ![1024, 4096]⟩
abbrev S512x4096 : Shape := ⟨2, ![512, 4096]⟩

abbrev nBuf : Space → Nat
  | .hbm => 129
  | .vmem => 0
  | .smem => 0
  | _ => 0

abbrev hbmTy0_0 (i : Nat) : BufTy := match i % 128 with
  | 0 => ⟨S4096x8x64, .f32⟩
  | 1 => ⟨S4096x8x32, .f32⟩
  | 2 => ⟨S4096x8x64, .f32⟩
  | 3 => ⟨S4096x32, .f32⟩
  | 4 => ⟨S4096x8x64, .f32⟩
  | 5 => ⟨S4096x512, .f32⟩
  | 6 => ⟨S4096x1x32, .f32⟩
  | 7 => ⟨S4096x8x32, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S8x4096x4096, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S1x4096, .i32⟩
  | 34 => ⟨S4096x1, .i32⟩
  | 35 => ⟨S4096x4096, .i32⟩
  | 36 => ⟨S4096x4096, .i32⟩
  | 37 => ⟨S4096x4096, .i1⟩
  | 38 => ⟨S1x4096x4096, .i1⟩
  | 39 => ⟨S_, .f32⟩
  | 40 => ⟨S_, .f32⟩
  | 41 => ⟨S8x4096x4096, .i1⟩
  | 42 => ⟨S8x4096x4096, .f32⟩
  | 43 => ⟨S8x4096x4096, .f32⟩
  | 44 => ⟨S_, .f32⟩
  | 45 => ⟨S8x4096x4096, .f32⟩
  | 46 => ⟨S_, .f32⟩
  | 47 => ⟨S8x4096, .f32⟩
  | 48 => ⟨S8x4096x1, .f32⟩
  | 49 => ⟨S8x4096x4096, .f32⟩
  | 50 => ⟨S8x4096x4096, .i1⟩
  | 51 => ⟨S8x4096x4096, .f32⟩
  | 52 => ⟨S_, .f32⟩
  | 53 => ⟨S8x4096, .f32⟩
  | 54 => ⟨S_, .f32⟩
  | 55 => ⟨S8x4096, .f32⟩
  | 56 => ⟨S8x4096, .f32⟩
  | 57 => ⟨S_, .f32⟩
  | 58 => ⟨S8x4096, .f32⟩
  | 59 => ⟨S8x4096, .i1⟩
  | 60 => ⟨S_, .f32⟩
  | 61 => ⟨S8x4096, .f32⟩
  | 62 => ⟨S8x4096, .i1⟩
  | 63 => ⟨S_, .f32⟩
  | 64 => ⟨S8x4096, .f32⟩
  | 65 => ⟨S_, .f32⟩
  | 66 => ⟨S8x4096, .f32⟩
  | 67 => ⟨S_, .f32⟩
  | 68 => ⟨S8x4096, .f32⟩
  | 69 => ⟨S8x4096, .f32⟩
  | 70 => ⟨S8x4096, .f32⟩
  | 71 => ⟨S8x4096x1, .f32⟩
  | 72 => ⟨S8x4096x4096, .f32⟩
  | 73 => ⟨S8x4096x4096, .f32⟩
  | 74 => ⟨S8x4096x4096, .f32⟩
  | 75 => ⟨S_, .f32⟩
  | 76 => ⟨S8x4096, .f32⟩
  | 77 => ⟨S8x4096x1, .f32⟩
  | 78 => ⟨S8x4096x4096, .f32⟩
  | 79 => ⟨S8x4096x4096, .f32⟩
  | 80 => ⟨S8x4096x1, .f32⟩
  | 81 => ⟨S_, .f32⟩
  | 82 => ⟨S8x4096x1, .f32⟩
  | 83 => ⟨S8x4096x1, .f32⟩
  | 84 => ⟨S8x64x4096, .f32⟩
  | 85 => ⟨S4096x8x64, .f32⟩
  | 86 => ⟨S4096x512, .f32⟩
  | 87 => ⟨S4096x8x64, .f32⟩
  | 88 => ⟨S8x64x4096, .f32⟩
  | 89 => ⟨S8x4096x4096, .f32⟩
  | 90 => ⟨S8x64x4096, .f32⟩
  | 91 => ⟨S4096x8x64, .f32⟩
  | 92 => ⟨S8x4096x4096, .f32⟩
  | 93 => ⟨S8x4096x4096, .f32⟩
  | 94 => ⟨S8x4096x4096, .f32⟩
  | 95 => ⟨S_, .f32⟩
  | 96 => ⟨S8x4096, .f32⟩
  | 97 => ⟨S8x4096x1, .f32⟩
  | 98 => ⟨S8x4096x1, .f32⟩
  | 99 => ⟨S8x4096x4096, .f32⟩
  | 100 => ⟨S8x4096x4096, .f32⟩
  | 101 => ⟨S_, .f32⟩
  | 102 => ⟨S8x4096, .f32⟩
  | 103 => ⟨S8x4096x4096, .f32⟩
  | 104 => ⟨S8x4096x4096, .f32⟩
  | 105 => ⟨S8x4096x4096, .f32⟩
  | 106 => ⟨S_, .f32⟩
  | 107 => ⟨S8x4096x4096, .f32⟩
  | 108 => ⟨S8x4096x4096, .f32⟩
  | 109 => ⟨S_, .f32⟩
  | 110 => ⟨S8x4096x4096, .f32⟩
  | 111 => ⟨S8x4096x4096, .f32⟩
  | 112 => ⟨S8x4096x32, .f32⟩
  | 113 => ⟨S4096x8x32, .f32⟩
  | 114 => ⟨S8x4096x32, .f32⟩
  | 115 => ⟨S4096x8x32, .f32⟩
  | 116 => ⟨S8x4096x64, .f32⟩
  | 117 => ⟨S4096x8x64, .f32⟩
  | 118 => ⟨S8x4096x64, .f32⟩
  | 119 => ⟨S4096x8x64, .f32⟩
  | 120 => ⟨S_, .f32⟩
  | 121 => ⟨S4096x8x32, .f32⟩
  | 122 => ⟨S4096x8x128, .f32⟩
  | 123 => ⟨S4096x1024, .f32⟩
  | 124 => ⟨S4096x8x128, .f32⟩
  | 125 => ⟨S4096x1024, .f32⟩
  | 126 => ⟨S1024x4096, .f32⟩
  | 127 => ⟨S4096x512, .f32⟩
  | _ => ⟨S4096x8x64, .f32⟩

abbrev hbmTy0_1 (i : Nat) : BufTy := match i % 128 with
  | 0 => ⟨S512x4096, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_v15_1 : Ref sig .tc := ⟨.hbm, 41, rfl⟩
abbrev main_call1_v2 : Ref sig .tc := ⟨.hbm, 42, rfl⟩
abbrev main_v15_0 : Ref sig .tc := ⟨.hbm, 43, rfl⟩
abbrev main_call1_cst : Ref sig .tc := ⟨.hbm, 44, rfl⟩
abbrev main_v15_2 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_12 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call2_cst : Ref sig .tc := ⟨.hbm, 106, rfl⟩
abbrev main_call2_v0 : Ref sig .tc := ⟨.hbm, 107, rfl⟩
abbrev main_v64 : Ref sig .tc := ⟨.hbm, 108, rfl⟩
abbrev main_cst_13 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_14 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩

abbrev nD : Nat := 1
abbrev τ : Topo := Topo.v7x

variable {F : FTy → Type} [FloatOps F]
-- ==== QKernel.lean ====
abbrev S4096x4256 : Shape := ⟨2, ![4096, 4256]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S4096x8x64 : Shape := ⟨3, ![4096, 8, 64]⟩
abbrev S4096x8x32 : Shape := ⟨3, ![4096, 8, 32]⟩
abbrev S4096x4x1064 : Shape := ⟨3, ![4096, 4, 1064]⟩
abbrev S4x4096x1064 : Shape := ⟨3, ![4, 4096, 1064]⟩
abbrev S_ : Shape := ⟨0, ![]⟩
abbrev S384x8x32 : Shape := ⟨3, ![384, 8, 32]⟩
abbrev S384x8x128 : Shape := ⟨3, ![384, 8, 128]⟩
abbrev S384x1024 : Shape := ⟨2, ![384, 1024]⟩
abbrev S256x8x64 : Shape := ⟨3, ![256, 8, 64]⟩
abbrev S256x512 : Shape := ⟨2, ![256, 512]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S4096x8x128 : Shape := ⟨3, ![4096, 8, 128]⟩
abbrev S4096x1024 : Shape := ⟨2, ![4096, 1024]⟩
abbrev S1024x4096 : Shape := ⟨2, ![1024, 4096]⟩
abbrev S4096x512 : Shape := ⟨2, ![4096, 512]⟩
abbrev S512x4096 : Shape := ⟨2, ![512, 4096]⟩
abbrev S3x128 : Shape := ⟨2, ![3, 128]⟩
abbrev S1x256 : Shape := ⟨2, ![1, 256]⟩
abbrev S256x1024 : Shape := ⟨2, ![256, 1024]⟩
abbrev S4096x384 : Shape := ⟨2, ![4096, 384]⟩
abbrev S4096x256 : Shape := ⟨2, ![4096, 256]⟩
abbrev S4x96x768 : Shape := ⟨3, ![4, 96, 768]⟩
abbrev S4x64x1024 : Shape := ⟨3, ![4, 64, 1024]⟩
abbrev S1x384 : Shape := ⟨2, ![1, 384]⟩
abbrev S512x1024 : Shape := ⟨2, ![512, 1024]⟩
abbrev S1024x512 : Shape := ⟨2, ![1024, 512]⟩
abbrev S512x512 : Shape := ⟨2, ![512, 512]⟩
abbrev S1x512x1064 : Shape := ⟨3, ![1, 512, 1064]⟩
abbrev S512x128 : Shape := ⟨2, ![512, 128]⟩
abbrev S512x384 : Shape := ⟨2, ![512, 384]⟩
abbrev S512x256 : Shape := ⟨2, ![512, 256]⟩
abbrev S1x128 : Shape := ⟨2, ![1, 128]⟩
abbrev S512x1064 : Shape := ⟨2, ![512, 1064]⟩
abbrev S512 : Shape := ⟨1, ![512]⟩
abbrev S512x1 : Shape := ⟨2, ![512, 1]⟩
abbrev S384x96 : Shape := ⟨2, ![384, 96]⟩
abbrev S384x768 : Shape := ⟨2, ![384, 768]⟩
abbrev S256x64 : Shape := ⟨2, ![256, 64]⟩
abbrev S96x768 : Shape := ⟨2, ![96, 768]⟩
abbrev S1x96x768 : Shape := ⟨3, ![1, 96, 768]⟩
abbrev S64x1024 : Shape := ⟨2, ![64, 1024]⟩
abbrev S1x64x1024 : Shape := ⟨3, ![1, 64, 1024]⟩

abbrev nBuf : Space → Nat
  | .hbm => 74
  | .vmem => 32
  | .smem => 0
  | _ => 0

abbrev bufTy : (tb : Table) → Fin (tcTables nBuf tb) → BufTy
  | .hbm, ⟨0, _⟩ => ⟨S4096x4256, .f32⟩
  | .hbm, ⟨1, _⟩ => ⟨S384, .f32⟩
  | .hbm, ⟨2, _⟩ => ⟨S384x8x96, .f32⟩
  | .hbm, ⟨3, _⟩ => ⟨S256, .f32⟩
  | .hbm, ⟨4, _⟩ => ⟨S256x8x128, .f32⟩
  | .hbm, ⟨5, _⟩ => ⟨S4096x8x64, .f32⟩
  | .hbm, ⟨6, _⟩ => ⟨S4096x8x32, .f32⟩
  | .hbm, ⟨7, _⟩ => ⟨S4096x8x64, .f32⟩
  | .hbm, ⟨8, _⟩ => ⟨S4096x8x32, .f32⟩
  | .hbm, ⟨9, _⟩ => ⟨S4096x8x64, .f32⟩
  | .hbm, ⟨10, _⟩ => ⟨S4096x4x1064, .f32⟩
  | .hbm, ⟨11, _⟩ => ⟨S4x4096x1064, .f32⟩
  | .hbm, ⟨12, _⟩ => ⟨S_, .f32⟩
  | .hbm, ⟨13, _⟩ => ⟨S384x8x32, .f32⟩
  | .hbm, ⟨14, _⟩ => ⟨S384x8x128, .f32⟩
  | .hbm, ⟨15, _⟩ => ⟨S384x1024, .f32⟩
  | .hbm, ⟨16, _⟩ => ⟨S256x8x64, .f32⟩
  | .hbm, ⟨17, _⟩ => ⟨S_, .f32⟩
  | .hbm, ⟨18, _⟩ => ⟨S256x8x64, .f32⟩
  | .hbm, ⟨19, _⟩ => ⟨S256x8x128, .f32⟩
  | .hbm, ⟨20, _⟩ => ⟨S256x8x64, .f32⟩
  | .hbm, ⟨21, _⟩ => ⟨S256x512, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S4096, .f32⟩
  | .hbm, ⟨31, _⟩ => ⟨S4096x1, .f32⟩
  | .hbm, ⟨32, _⟩ => ⟨S1x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S_, .f32⟩
  | .hbm, ⟨39, _⟩ => ⟨S4096x16, .f32⟩
  | .hbm, ⟨40, _⟩ => ⟨S_, .f32⟩
  | .hbm, ⟨41, _⟩ => ⟨S4096x32, .f32⟩
  | .hbm, ⟨42, _⟩ => ⟨S_, .f32⟩
  | .hbm, ⟨43, _⟩ => ⟨S4096x64, .f32⟩
  | .hbm, ⟨44, _⟩ => ⟨S_, .f32⟩
  | .hbm, ⟨45, _⟩ => ⟨S4096x64, .f32⟩
  | .hbm, ⟨46, _⟩ => ⟨S4096x128, .f32⟩
  | .hbm, ⟨47, _⟩ => ⟨S4096x16, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x8x32, .f32⟩
  | .hbm, ⟨52, _⟩ => ⟨S4096x8x128, .f32⟩
  | .hbm, ⟨53, _⟩ => ⟨S4096x1024, .f32⟩
  | .hbm, ⟨54, _⟩ => ⟨S_, .f32⟩
  | .hbm, ⟨55, _⟩ => ⟨S4096x8x32, .f32⟩
  | .hbm, ⟨56, _⟩ => ⟨S4096x8x128, .f32⟩
  | .hbm, ⟨57, _⟩ => ⟨S4096x1024, .f32⟩
  | .hbm, ⟨58, _⟩ => ⟨S1024x4096, .f32⟩
  | .hbm, ⟨59, _⟩ => ⟨S4096x512, .f32⟩
  | .hbm, ⟨60, _⟩ => ⟨S512x4096, .f32⟩
  | .hbm, ⟨61, _⟩ => ⟨S3x128, .f32⟩
  | .hbm, ⟨62, _⟩ => ⟨S1x256, .f32⟩
  | .hbm, ⟨63, _⟩ => ⟨S384x1024, .bf16⟩
  | .hbm, ⟨64, _⟩ => ⟨S256x1024, .f32⟩
  | .hbm, ⟨65, _⟩ => ⟨S256x1024, .bf16⟩
  | .hbm, ⟨66, _⟩ => ⟨S256x512, .bf16⟩
  | .hbm, ⟨67, _⟩ => ⟨S4096x384, .bf16⟩
  | .hbm, ⟨68, _⟩ => ⟨S4096x256, .bf16⟩
  | .hbm, ⟨69, _⟩ => ⟨S4096x128, .bf16⟩
  | .hbm, ⟨70, _⟩ => ⟨S4x96x768, .bf16⟩
  | .hbm, ⟨71, _⟩ => ⟨S4x64x1024, .bf16⟩
  | .hbm, ⟨72, _⟩ => ⟨S1x384, .f32⟩
  | .hbm, ⟨73, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S1x512x1064, .f32⟩
  | .local _ .vmem, ⟨7, _⟩ => ⟨S1x512x1064, .f32⟩
  | .local _ .vmem, ⟨8, _⟩ => ⟨S3x128, .f32⟩
  | .local _ .vmem, ⟨9, _⟩ => ⟨S1x256, .f32⟩
  | .local _ .vmem, ⟨10, _⟩ => ⟨S384x1024, .bf16⟩
  | .local _ .vmem, ⟨11, _⟩ => ⟨S256x1024, .bf16⟩
  | .local _ .vmem, ⟨12, _⟩ => ⟨S256x512, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x384, .bf16⟩
  | .local _ .vmem, ⟨20, _⟩ => ⟨S512x384, .bf16⟩
  | .local _ .vmem, ⟨21, _⟩ => ⟨S512x256, .bf16⟩
  | .local _ .vmem, ⟨22, _⟩ => ⟨S512x256, .bf16⟩
  | .local _ .vmem, ⟨23, _⟩ => ⟨S512x128, .bf16⟩
  | .local _ .vmem, ⟨24, _⟩ => ⟨S512x128, .bf16⟩
  | .local _ .vmem, ⟨25, _⟩ => ⟨S4x96x768, .bf16⟩
  | .local _ .vmem, ⟨26, _⟩ => ⟨S4x64x1024, .bf16⟩
  | .local _ .vmem, ⟨27, _⟩ => ⟨S1x384, .f32⟩
  | .local _ .vmem, ⟨28, _⟩ => ⟨S1x256, .f32⟩
  | .local _ .vmem, ⟨29, _⟩ => ⟨S384x1024, .f32⟩
  | .local _ .vmem, ⟨30, _⟩ => ⟨S256x1024, .f32⟩
  | .local _ .vmem, ⟨31, _⟩ => ⟨S256x512, .f32⟩
  | _, _ => ⟨S4096x4256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_v47_2 : Ref sig .tc := ⟨.hbm, 69, rfl⟩
abbrev main_v47_3 : Ref sig .tc := ⟨.hbm, 70, rfl⟩
abbrev main_v47_4 : Ref sig .tc := ⟨.hbm, 71, rfl⟩
abbrev main_v47_5 : Ref sig .tc := ⟨.hbm, 72, rfl⟩
abbrev main_v47_6 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v229 : BitVec 1 := Scalar.cmpi .eq arg0 c7_i32
  let v230 : BitVec 32 := Scalar.extui v229
  let c0_i32_92 : BitVec 32 := 0#32
  let v231 : BitVec 1 := Scalar.cmpi .ne v230 c0_i32_92
  v231

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1064 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x96x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x64x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== QReferenceIdeal.lean ====
abbrev S4096x4256 : Shape := ⟨2, ![4096, 4256]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S4096x8x64 : Shape := ⟨3, ![4096, 8, 64]⟩
abbrev S4096x8x32 : Shape := ⟨3, ![4096, 8, 32]⟩
abbrev S4096x384 : Shape := ⟨2, ![4096, 384]⟩
abbrev S4096x256 : Shape := ⟨2, ![4096, 256]⟩
abbrev S4096x32 : Shape := ⟨2, ![4096, 32]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x384 : Shape := ⟨2, ![1, 384]⟩
abbrev S4096x8x96 : Shape := ⟨3, ![4096, 8, 96]⟩
abbrev S4096x1x16 : Shape := ⟨3, ![4096, 1, 16]⟩
abbrev S4096x8x16 : Shape := ⟨3, ![4096, 8, 16]⟩
abbrev S1x256 : Shape := ⟨2, ![1, 256]⟩
abbrev S4096x8x128 : Shape := ⟨3, ![4096, 8, 128]⟩
abbrev S4096x1x32 : Shape := ⟨3, ![4096, 1, 32]⟩
abbrev S8x128x256 : Shape := ⟨3, ![8, 128, 256]⟩
abbrev S8x96x384 : Shape := ⟨3, ![8, 96, 384]⟩
abbrev S4096x96 : Shape := ⟨2, ![4096, 96]⟩
abbrev S4096x128 : Shape := ⟨2, ![4096, 128]⟩
abbrev S4x96x768 : Shape := ⟨3, ![4, 96, 768]⟩
abbrev S4x64x1024 : Shape := ⟨3, ![4, 64, 1024]⟩

abbrev nBuf : Space → Nat
  | .hbm => 208
  | .vmem => 0
  | .smem => 0
  | _ => 0

abbrev hbmTy0_0 (i : Nat) : BufTy := match i % 128 with
  | 0 => ⟨S4096x4256, .f32⟩
  | 1 => ⟨S384, .f32⟩
  | 2 => ⟨S384x8x96, .f32⟩
  | 3 => ⟨S256, .f32⟩
  | 4 => ⟨S256x8x128, .f32⟩
  | 5 => ⟨S4096x8x64, .f32⟩
  | 6 => ⟨S4096x8x32, .f32⟩
  | 7 => ⟨S4096x8x64, .f32⟩
  | 8 => ⟨S4096x8x32, .f32⟩
  | 9 => ⟨S4096x8x64, .f32⟩
  | 10 => ⟨S4096x384, .f32⟩
  | 11 => ⟨S4096x256, .f32⟩
  | 12 => ⟨S4096x32, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4096, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S4096x384, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x384, .f32⟩
  | 45 => ⟨S4096x384, .f32⟩
  | 46 => ⟨S1x384, .f32⟩
  | 47 => ⟨S4096x384, .f32⟩
  | 48 => ⟨S4096x384, .f32⟩
  | 49 => ⟨S4096x8x96, .f32⟩
  | 50 => ⟨S4096x8x64, .f32⟩
  | 51 => ⟨S4096x8x32, .f32⟩
  | 52 => ⟨S4096x1x16, .f32⟩
  | 53 => ⟨S4096x1x16, .f32⟩
  | 54 => ⟨S4096x8x16, .f32⟩
  | 55 => ⟨S4096x8x16, .f32⟩
  | 56 => ⟨S4096x8x16, .f32⟩
  | 57 => ⟨S4096x8x16, .f32⟩
  | 58 => ⟨S4096x8x16, .f32⟩
  | 59 => ⟨S4096x8x16, .f32⟩
  | 60 => ⟨S4096x8x16, .f32⟩
  | 61 => ⟨S4096x8x16, .f32⟩
  | 62 => ⟨S4096x8x16, .f32⟩
  | 63 => ⟨S4096x8x16, .f32⟩
  | 64 => ⟨S4096x8x16, .f32⟩
  | 65 => ⟨S4096x8x16, .f32⟩
  | 66 => ⟨S4096x8x32, .f32⟩
  | 67 => ⟨S4096x256, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x256, .f32⟩
  | 83 => ⟨S4096x256, .f32⟩
  | 84 => ⟨S1x256, .f32⟩
  | 85 => ⟨S4096x256, .f32⟩
  | 86 => ⟨S4096x256, .f32⟩
  | 87 => ⟨S4096x8x128, .f32⟩
  | 88 => ⟨S4096x8x64, .f32⟩
  | 89 => ⟨S4096x8x64, .f32⟩
  | 90 => ⟨S4096x16, .f32⟩
  | 91 => ⟨S4096x16, .f32⟩
  | 92 => ⟨S4096x16, .f32⟩
  | 93 => ⟨S4096x16, .f32⟩
  | 94 => ⟨S4096x16, .f32⟩
  | 95 => ⟨S4096x16, .f32⟩
  | 96 => ⟨S4096x16, .f32⟩
  | 97 => ⟨S4096x16, .f32⟩
  | 98 => ⟨S4096x32, .f32⟩
  | 99 => ⟨S4096x1x32, .f32⟩
  | 100 => ⟨S4096x8x32, .f32⟩
  | 101 => ⟨S_, .f32⟩
  | 102 => ⟨S4096x32, .f32⟩
  | 103 => ⟨S4096x1x32, .f32⟩
  | 104 => ⟨S_, .f32⟩
  | 105 => ⟨S4096x32, .f32⟩
  | 106 => ⟨S4096x16, .f32⟩
  | 107 => ⟨S4096x16, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S4096x16, .f32⟩
  | 114 => ⟨S4096x16, .f32⟩
  | 115 => ⟨S4096x32, .f32⟩
  | 116 => ⟨S_, .f32⟩
  | 117 => ⟨S4096x8x128, .f32⟩
  | 118 => ⟨S_, .f32⟩
  | 119 => ⟨S4096x8x128, .f32⟩
  | 120 => ⟨S4096x8x128, .f32⟩
  | 121 => ⟨S8x128x256, .f32⟩
  | 122 => ⟨S256x8x128, .f32⟩
  | 123 => ⟨S4096x256, .f32⟩
  | 124 => ⟨S4096x256, .f32⟩
  | 125 => ⟨S_, .f32⟩
  | 126 => ⟨S256, .f32⟩
  | 127 => ⟨S1x256, .f32⟩
  | _ => ⟨S4096x4256, .f32⟩

abbrev hbmTy0_1 (i : Nat) : BufTy := match i % 128 with
  | 0 => ⟨S4096x256, .f32⟩
  | 1 => ⟨S4096x256, .f32⟩
  | 2 => ⟨S_, .f32⟩
  | 3 => ⟨S256, .f32⟩
  | 4 => ⟨S4096x256, .f32⟩
  | 5 => ⟨S_, .f32⟩
  | 6 => ⟨S4096, .f32⟩
  | 7 => ⟨S4096x1, .f32⟩
  | 8 => ⟨S4096x256, .f32⟩
  | 9 => ⟨S4096x256, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096, .f32⟩
  | 16 => ⟨S4096x256, .f32⟩
  | 17 => ⟨S4096x256, .f32⟩
  | 18 => ⟨S4096x256, .f32⟩
  | 19 => ⟨S4096x256, .f32⟩
  | 20 => ⟨S4096x256, .f32⟩
  | 21 => ⟨S4096x8x16, .f32⟩
  | 22 => ⟨S4096x8x16, .f32⟩
  | 23 => ⟨S4096x8x16, .f32⟩
  | 24 => ⟨S4096x8x16, .f32⟩
  | 25 => ⟨S4096x8x16, .f32⟩
  | 26 => ⟨S4096x8x16, .f32⟩
  | 27 => ⟨S4096x8x16, .f32⟩
  | 28 => ⟨S4096x8x16, .f32⟩
  | 29 => ⟨S4096x8x16, .f32⟩
  | 30 => ⟨S4096x8x16, .f32⟩
  | 31 => ⟨S4096x8x16, .f32⟩
  | 32 => ⟨S4096x8x16, .f32⟩
  | 33 => ⟨S4096x8x16, .f32⟩
  | 34 => ⟨S4096x8x32, .f32⟩
  | 35 => ⟨S_, .f32⟩
  | 36 => ⟨S4096x8x96, .f32⟩
  | 37 => ⟨S_, .f32⟩
  | 38 => ⟨S4096x8x96, .f32⟩
  | 39 => ⟨S4096x8x96, .f32⟩
  | 40 => ⟨S8x96x384, .f32⟩
  | 41 => ⟨S384x8x96, .f32⟩
  | 42 => ⟨S4096x384, .f32⟩
  | 43 => ⟨S4096x384, .f32⟩
  | 44 => ⟨S_, .f32⟩
  | 45 => ⟨S384, .f32⟩
  | 46 => ⟨S1x384, .f32⟩
  | 47 => ⟨S4096x384, .f32⟩
  | 48 => ⟨S4096x384, .f32⟩
  | 49 => ⟨S_, .f32⟩
  | 50 => ⟨S384, .f32⟩
  | 51 => ⟨S4096x384, .f32⟩
  | 52 => ⟨S_, .f32⟩
  | 53 => ⟨S4096, .f32⟩
  | 54 => ⟨S4096x1, .f32⟩
  | 55 => ⟨S4096x384, .f32⟩
  | 56 => ⟨S4096x384, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x384, .f32⟩
  | 64 => ⟨S4096x384, .f32⟩
  | 65 => ⟨S4096x384, .f32⟩
  | 66 => ⟨S4096x384, .f32⟩
  | 67 => ⟨S4096x384, .f32⟩
  | 68 => ⟨S_, .f32⟩
  | 69 => ⟨S4096x96, .f32⟩
  | 70 => ⟨S4096x128, .f32⟩
  | 71 => ⟨S4096x384, .bf16⟩
  | 72 => ⟨S4096x256, .bf16⟩
  | 73 => ⟨S4096x128, .bf16⟩
  | 74 => ⟨S4x96x768, .f32⟩
  | 75 => ⟨S4x96x768, .bf16⟩
  | 76 => ⟨S4x64x1024, .f32⟩
  | 77 => ⟨S4x64x1024, .bf16⟩
  | 78 => ⟨S1x384, .f32⟩
  | 79 => ⟨S1x256, .f32⟩
  | _ => ⟨S4096x4256, .f32⟩

abbrev hbmTy (i : Nat) : BufTy := match i / 128 with
  | 0 => hbmTy0_0 i
  | 1 => hbmTy0_1 i
  | _ => ⟨S4096x4256, .f32⟩

abbrev bufTy : (tb : Table) → Fin (tcTables nBuf tb) → BufTy
  | .hbm, ⟨i, _⟩ => hbmTy i
  | _, _ => ⟨S4096x4256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_11 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_14 : Ref sig .tc := ⟨.hbm, 130, rfl⟩
abbrev main_v105 : Ref sig .tc := ⟨.hbm, 131, rfl⟩
abbrev main_v106 : Ref sig .tc := ⟨.hbm, 132, rfl⟩
abbrev main_cst_15 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_16 : Ref sig .tc := ⟨.hbm, 139, rfl⟩
abbrev main_v112 : Ref sig .tc := ⟨.hbm, 140, rfl⟩
abbrev main_v113 : Ref sig .tc := ⟨.hbm, 141, rfl⟩
abbrev main_cst_17 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_18 : Ref sig .tc := ⟨.hbm, 163, rfl⟩
abbrev main_v134 : Ref sig .tc := ⟨.hbm, 164, rfl⟩
abbrev main_cst_19 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_20 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_21 : Ref sig .tc := ⟨.hbm, 177, rfl⟩
abbrev main_v145 : Ref sig .tc := ⟨.hbm, 178, rfl⟩
abbrev main_v146 : Ref sig .tc := ⟨.hbm, 179, rfl⟩
abbrev main_cst_22 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_23 : Ref sig .tc := ⟨.hbm, 186, rfl⟩
abbrev main_v152 : Ref sig .tc := ⟨.hbm, 187, rfl⟩
abbrev main_v153 : Ref sig .tc := ⟨.hbm, 188, rfl⟩
abbrev main_cst_24 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_25 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩

abbrev nD : Nat := 1
abbrev τ : Topo := Topo.v7x

variable {F : FTy → Type} [FloatOps F]
-- ==== FKernel.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S_ : Shape := ⟨0, ![]⟩
abbrev S4096x8x128 : Shape := ⟨3, ![4096, 8, 128]⟩
abbrev S4096x1024 : Shape := ⟨2, ![4096, 1024]⟩
abbrev S4096x512 : Shape := ⟨2, ![4096, 512]⟩
abbrev S1024x4096 : Shape := ⟨2, ![1024, 4096]⟩
abbrev S512x4096 : Shape := ⟨2, ![512, 4096]⟩
abbrev S1024x512 : Shape := ⟨2, ![1024, 512]⟩
abbrev S512x512 : Shape := ⟨2, ![512, 512]⟩
abbrev S512x1024 : Shape := ⟨2, ![512, 1024]⟩
abbrev S128x512 : Shape := ⟨2, ![128, 512]⟩
abbrev S1x512 : Shape := ⟨2, ![1, 512]⟩
abbrev S64x512 : Shape := ⟨2, ![64, 512]⟩
abbrev S512x128 : Shape := ⟨2, ![512, 128]⟩
abbrev S512 : Shape := ⟨1, ![512]⟩

abbrev nBuf : Space → Nat
  | .hbm => 23
  | .vmem => 9
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x1x32, .f32⟩
  | .hbm, ⟨6, _⟩ => ⟨S4096x8x32, .f32⟩
  | .hbm, ⟨7, _⟩ => ⟨S_, .f32⟩
  | .hbm, ⟨8, _⟩ => ⟨S4096x8x32, .f32⟩
  | .hbm, ⟨9, _⟩ => ⟨S4096x8x128, .f32⟩
  | .hbm, ⟨10, _⟩ => ⟨S4096x1024, .f32⟩
  | .hbm, ⟨11, _⟩ => ⟨S4096x1024, .bf16⟩
  | .hbm, ⟨12, _⟩ => ⟨S_, .f32⟩
  | .hbm, ⟨13, _⟩ => ⟨S4096x8x32, .f32⟩
  | .hbm, ⟨14, _⟩ => ⟨S4096x8x128, .f32⟩
  | .hbm, ⟨15, _⟩ => ⟨S4096x1024, .f32⟩
  | .hbm, ⟨16, _⟩ => ⟨S4096x1024, .bf16⟩
  | .hbm, ⟨17, _⟩ => ⟨S4096x512, .f32⟩
  | .hbm, ⟨18, _⟩ => ⟨S4096x512, .bf16⟩
  | .hbm, ⟨19, _⟩ => ⟨S1024x4096, .bf16⟩
  | .hbm, ⟨20, _⟩ => ⟨S512x4096, .bf16⟩
  | .hbm, ⟨21, _⟩ => ⟨S4096x512, .f32⟩
  | .hbm, ⟨22, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x4096, .bf16⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 8], ![false, false]⟩

@[reducible] def k0_t1_loop (i : grid0.Coords) : Scf.Loop 32 :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_23 : BitVec 32 := 1#32
  ⟨c0_i32_21, v74, c1_i32_23⟩
def k0_mult1 (i : grid0.Coords) (k0_t1 : Fin (k0_t1_loop i).trips) : BitVec 32 :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  v466
def k0_off1 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v468 : Index := Scalar.indexCast v467
  let c0_152 : Index := 0#32
  ![v468.toNat, 0]
def k0_off2 (i : grid0.Coords) (k0_t1 : Fin (k0_t1_loop i).trips) : Fin 2 → Nat :=
  let c0_160 : Index := 0#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v494 : Index := Scalar.indexCast v467
  ![0, v494.toNat]
def k0_off3 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v500 : Index := Scalar.indexCast v467
  let c128_162 : Index := 128#32
  ![v500.toNat, 128]
def k0_off4 (i : grid0.Coords) (k0_t1 : Fin (k0_t1_loop i).trips) : Fin 2 → Nat :=
  let c64_170 : Index := 64#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v526 : Index := Scalar.indexCast v467
  ![64, v526.toNat]
def k0_off5 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v532 : Index := Scalar.indexCast v467
  let c256_172 : Index := 256#32
  ![v532.toNat, 256]
def k0_off6 (i : grid0.Coords) (k0_t1 : Fin (k0_t1_loop i).trips) : Fin 2 → Nat :=
  let c128_180 : Index := 128#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v558 : Index := Scalar.indexCast v467
  ![128, v558.toNat]
def k0_off7 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v564 : Index := Scalar.indexCast v467
  let c384_182 : Index := 384#32
  ![v564.toNat, 384]
def k0_off8 (i : grid0.Coords) (k0_t1 : Fin (k0_t1_loop i).trips) : Fin 2 → Nat :=
  let c192_190 : Index := 192#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v590 : Index := Scalar.indexCast v467
  ![192, v590.toNat]
def k0_off9 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v596 : Index := Scalar.indexCast v467
  let c512_192 : Index := 512#32
  ![v596.toNat, 512]
def k0_off10 (i : grid0.Coords) (k0_t1 : Fin (k0_t1_loop i).trips) : Fin 2 → Nat :=
  let c256_200 : Index := 256#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v622 : Index := Scalar.indexCast v467
  ![256, v622.toNat]
def k0_off11 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v628 : Index := Scalar.indexCast v467
  let c640_202 : Index := 640#32
  ![v628.toNat, 640]
def k0_off12 (i : grid0.Coords) (k0_t1 : Fin (k0_t1_loop i).trips) : Fin 2 → Nat :=
  let c320_210 : Index := 320#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v654 : Index := Scalar.indexCast v467
  ![320, v654.toNat]
def k0_off13 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v660 : Index := Scalar.indexCast v467
  let c768_212 : Index := 768#32
  ![v660.toNat, 768]
def k0_off14 (i : grid0.Coords) (k0_t1 : Fin (k0_t1_loop i).trips) : Fin 2 → Nat :=
  let c384_220 : Index := 384#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v686 : Index := Scalar.indexCast v467
  ![384, v686.toNat]
def k0_off15 (i : grid0.Coords) (k0_t1 : Fin (k0_t1_loop i).trips) : Fin 2 → Nat :=
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v692 : Index := Scalar.indexCast v467
  let c896_222 : Index := 896#32
  ![v692.toNat, 896]
def k0_off16 (i : grid0.Coords) (k0_t1 : Fin (k0_t1_loop i).trips) : Fin 2 → Nat :=
  let c448_230 : Index := 448#32
  let c0_i32_21 : BitVec 32 := 0#32
  let c1_i32_23 : BitVec 32 := 1#32
  let arg8 : BitVec 32 := Scf.iv c0_i32_21 c1_i32_23 k0_t1
  let c512_i32_151 : BitVec 32 := 512#32
  let v466 : BitVec 32 := Scalar.muli arg8 c512_i32_151
  let v467 : BitVec 32 := v466
  let v718 : Index := Scalar.indexCast v467
  ![448, v718.toNat]
@[reducible] def k0_t2_loop (i : grid0.Coords) : Scf.Loop 32 :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let v71 : BitVec 32 := Scalar.addi c0_i32_21 v70
  let c1_i32_24 : BitVec 32 := 1#32
  ⟨v74, v71, c1_i32_24⟩
def k0_mult2 (i : grid0.Coords) (k0_t2 : Fin (k0_t2_loop i).trips) : BitVec 32 :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  v466
def k0_off17 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v468 : Index := Scalar.indexCast v467
  let c0_152 : Index := 0#32
  ![v468.toNat, 0]
def k0_off18 (i : grid0.Coords) (k0_t2 : Fin (k0_t2_loop i).trips) : Fin 2 → Nat :=
  let c0_160 : Index := 0#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v494 : Index := Scalar.indexCast v467
  ![0, v494.toNat]
def k0_off19 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v500 : Index := Scalar.indexCast v467
  let c128_162 : Index := 128#32
  ![v500.toNat, 128]
def k0_off20 (i : grid0.Coords) (k0_t2 : Fin (k0_t2_loop i).trips) : Fin 2 → Nat :=
  let c64_170 : Index := 64#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v526 : Index := Scalar.indexCast v467
  ![64, v526.toNat]
def k0_off21 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v532 : Index := Scalar.indexCast v467
  let c256_172 : Index := 256#32
  ![v532.toNat, 256]
def k0_off22 (i : grid0.Coords) (k0_t2 : Fin (k0_t2_loop i).trips) : Fin 2 → Nat :=
  let c128_180 : Index := 128#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v558 : Index := Scalar.indexCast v467
  ![128, v558.toNat]
def k0_off23 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v564 : Index := Scalar.indexCast v467
  let c384_182 : Index := 384#32
  ![v564.toNat, 384]
def k0_off24 (i : grid0.Coords) (k0_t2 : Fin (k0_t2_loop i).trips) : Fin 2 → Nat :=
  let c192_190 : Index := 192#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v590 : Index := Scalar.indexCast v467
  ![192, v590.toNat]
def k0_off25 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v596 : Index := Scalar.indexCast v467
  let c512_192 : Index := 512#32
  ![v596.toNat, 512]
def k0_off26 (i : grid0.Coords) (k0_t2 : Fin (k0_t2_loop i).trips) : Fin 2 → Nat :=
  let c256_200 : Index := 256#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v622 : Index := Scalar.indexCast v467
  ![256, v622.toNat]
def k0_off27 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v628 : Index := Scalar.indexCast v467
  let c640_202 : Index := 640#32
  ![v628.toNat, 640]
def k0_off28 (i : grid0.Coords) (k0_t2 : Fin (k0_t2_loop i).trips) : Fin 2 → Nat :=
  let c320_210 : Index := 320#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v654 : Index := Scalar.indexCast v467
  ![320, v654.toNat]
def k0_off29 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v660 : Index := Scalar.indexCast v467
  let c768_212 : Index := 768#32
  ![v660.toNat, 768]
def k0_off30 (i : grid0.Coords) (k0_t2 : Fin (k0_t2_loop i).trips) : Fin 2 → Nat :=
  let c384_220 : Index := 384#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v686 : Index := Scalar.indexCast v467
  ![384, v686.toNat]
def k0_off31 (i : grid0.Coords) (k0_t2 : Fin (k0_t2_loop i).trips) : Fin 2 → Nat :=
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v692 : Index := Scalar.indexCast v467
  let c896_222 : Index := 896#32
  ![v692.toNat, 896]
def k0_off32 (i : grid0.Coords) (k0_t2 : Fin (k0_t2_loop i).trips) : Fin 2 → Nat :=
  let c448_230 : Index := 448#32
  let c0_i32_21 : BitVec 32 := 0#32
  let arg1 : BitVec 32 := BitVec.ofNat 32 (i 1).val
  let v70 : BitVec 32 := Scalar.subi arg1 c0_i32_21
  let c1_i32_22 : BitVec 32 := 1#32
  let v72 : BitVec 32 := Scalar.divsi v70 c1_i32_22
  let v73 : BitVec 32 := Scalar.muli v72 c1_i32_22
  let v74 : BitVec 32 := Scalar.addi c0_i32_21 v73
  let c1_i32_24 : BitVec 32 := 1#32
  let arg8 : BitVec 32 := Scf.iv v74 c1_i32_24 k0_t2
  let c512_i32_151 : BitVec 32 := 512#32
  let v466 : BitVec 32 := Scalar.muli arg8 c512_i32_151
  let v467 : BitVec 32 := v466
  let v718 : Index := Scalar.indexCast v467
  ![448, v718.toNat]
def k0_mult3 (i : grid0.Coords) : BitVec 32 :=
  let arg1 : BitVec 32 := BitVec.ofNat 32 (i 1).val
  let c512_i32 : BitVec 32 := 512#32
  let v77 : BitVec 32 := Scalar.muli arg1 c512_i32
  v77
def k0_off33 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v79 : Index := Scalar.indexCast v78
  let c0_25 : Index := 0#32
  ![v79.toNat, 0]
def k0_off34 (i : grid0.Coords) : Fin 2 → Nat :=
  let c0_35 : Index := 0#32
  let arg1 : BitVec 32 := BitVec.ofNat 32 (i 1).val
  let c512_i32 : BitVec 32 := 512#32
  let v77 : BitVec 32 := Scalar.muli arg1 c512_i32
  let v78 : BitVec 32 := v77
  let v109 : Index := Scalar.indexCast v78
  ![0, v109.toNat]
def k0_off35 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v115 : Index := Scalar.indexCast v78
  let c128_37 : Index := 128#32
  ![v115.toNat, 128]
def k0_off36 (i : grid0.Coords) : Fin 2 → Nat :=
  let c64 : Index := 64#32
  let arg1 : BitVec 32 := BitVec.ofNat 32 (i 1).val
  let c512_i32 : BitVec 32 := 512#32
  let v77 : BitVec 32 := Scalar.muli arg1 c512_i32
  let v78 : BitVec 32 := v77
  let v145 : Index := Scalar.indexCast v78
  ![64, v145.toNat]
def k0_off37 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v151 : Index := Scalar.indexCast v78
  let c256_48 : Index := 256#32
  ![v151.toNat, 256]
def k0_off38 (i : grid0.Coords) : Fin 2 → Nat :=
  let c128_58 : Index := 128#32
  let arg1 : BitVec 32 := BitVec.ofNat 32 (i 1).val
  let c512_i32 : BitVec 32 := 512#32
  let v77 : BitVec 32 := Scalar.muli arg1 c512_i32
  let v78 : BitVec 32 := v77
  let v181 : Index := Scalar.indexCast v78
  ![128, v181.toNat]
def k0_off39 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v187 : Index := Scalar.indexCast v78
  let c384_60 : Index := 384#32
  ![v187.toNat, 384]
def k0_off40 (i : grid0.Coords) : Fin 2 → Nat :=
  let c192 : Index := 192#32
  let arg1 : BitVec 32 := BitVec.ofNat 32 (i 1).val
  let c512_i32 : BitVec 32 := 512#32
  let v77 : BitVec 32 := Scalar.muli arg1 c512_i32
  let v78 : BitVec 32 := v77
  let v217 : Index := Scalar.indexCast v78
  ![192, v217.toNat]
def k0_off41 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v223 : Index := Scalar.indexCast v78
  let c512_71 : Index := 512#32
  ![v223.toNat, 512]
def k0_off42 (i : grid0.Coords) : Fin 2 → Nat :=
  let c256_81 : Index := 256#32
  let arg1 : BitVec 32 := BitVec.ofNat 32 (i 1).val
  let c512_i32 : BitVec 32 := 512#32
  let v77 : BitVec 32 := Scalar.muli arg1 c512_i32
  let v78 : BitVec 32 := v77
  let v253 : Index := Scalar.indexCast v78
  ![256, v253.toNat]
def k0_off43 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v259 : Index := Scalar.indexCast v78
  let c640_83 : Index := 640#32
  ![v259.toNat, 640]
def k0_off44 (i : grid0.Coords) : Fin 2 → Nat :=
  let c320 : Index := 320#32
  let arg1 : BitVec 32 := BitVec.ofNat 32 (i 1).val
  let c512_i32 : BitVec 32 := 512#32
  let v77 : BitVec 32 := Scalar.muli arg1 c512_i32
  let v78 : BitVec 32 := v77
  let v289 : Index := Scalar.indexCast v78
  ![320, v289.toNat]
def k0_off45 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v295 : Index := Scalar.indexCast v78
  let c768_94 : Index := 768#32
  ![v295.toNat, 768]
def k0_off46 (i : grid0.Coords) : Fin 2 → Nat :=
  let c384_104 : Index := 384#32
  let arg1 : BitVec 32 := BitVec.ofNat 32 (i 1).val
  let c512_i32 : BitVec 32 := 512#32
  let v77 : BitVec 32 := Scalar.muli arg1 c512_i32
  let v78 : BitVec 32 := v77
  let v325 : Index := Scalar.indexCast v78
  ![384, v325.toNat]
def k0_off47 (i : grid0.Coords) : Fin 2 → Nat :=
  let arg1 : BitVec 32 := BitVec.ofNat 32 (i 1).val
  let c512_i32 : BitVec 32 := 512#32
  let v77 : BitVec 32 := Scalar.muli arg1 c512_i32
  let v78 : BitVec 32 := v77
  let v331 : Index := Scalar.indexCast v78
  let c896_106 : Index := 896#32
  ![v331.toNat, 896]
def k0_off48 (i : grid0.Coords) : Fin 2 → Nat :=
  let c448 : Index := 448#32
  let arg1 : BitVec 32 := BitVec.ofNat 32 (i 1).val
  let c512_i32 : BitVec 32 := 512#32
  let v77 : BitVec 32 := Scalar.muli arg1 c512_i32
  let v78 : BitVec 32 := v77
  let v361 : Index := Scalar.indexCast v78
  ![448, v361.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FKernelIdeal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== FReferenceIdeal.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S4096 : Shape := ⟨1, ![4096]⟩
abbrev S_ : Shape := ⟨0, ![]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S4096x8 : Shape := ⟨2, ![4096, 8]⟩
abbrev S4096x8x1 : Shape := ⟨3, ![4096, 8, 1]⟩
abbrev S4096x8x128 : Shape := ⟨3, ![4096, 8, 128]⟩
abbrev S4096x1024 : Shape := ⟨2, ![4096, 1024]⟩
abbrev S8x64x4096 : Shape := ⟨3, ![8, 64, 4096]⟩
abbrev S4096x512 : Shape := ⟨2, ![4096, 512]⟩

abbrev nBuf : Space → Nat
  | .hbm => 116
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x1x32, .f32⟩
  | .hbm, ⟨6, _⟩ => ⟨S4096x8x32, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x4096x4096, .i1⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S_, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096, .f32⟩
  | .hbm, ⟨59, _⟩ => ⟨S4096x8, .f32⟩
  | .hbm, ⟨60, _⟩ => ⟨S4096x8x1, .f32⟩
  | .hbm, ⟨61, _⟩ => ⟨S4096x8x128, .f32⟩
  | .hbm, ⟨62, _⟩ => ⟨S4096x1024, .f32⟩
  | .hbm, ⟨63, _⟩ => ⟨S4096, .i32⟩
  | .hbm, ⟨64, _⟩ => ⟨S_, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S1x4096, .i32⟩
  | .hbm, ⟨89, _⟩ => ⟨S4096x1, .i32⟩
  | .hbm, ⟨90, _⟩ => ⟨S4096x4096, .i32⟩
  | .hbm, ⟨91, _⟩ => ⟨S4096x4096, .i32⟩
  | .hbm, ⟨92, _⟩ => ⟨S4096x4096, .i1⟩
  | .hbm, ⟨93, _⟩ => ⟨S1x4096x4096, .i1⟩
  | .hbm, ⟨94, _⟩ => ⟨S_, .f32⟩
  | .hbm, ⟨95, _⟩ => ⟨S_, .f32⟩
  | .hbm, ⟨96, _⟩ => ⟨S8x4096x4096, .i1⟩
  | .hbm, ⟨97, _⟩ => ⟨S8x4096x4096, .f32⟩
  | .hbm, ⟨98, _⟩ => ⟨S8x4096x4096, .f32⟩
  | .hbm, ⟨99, _⟩ => ⟨S_, .f32⟩
  | .hbm, ⟨100, _⟩ => ⟨S8x4096, .f32⟩
  | .hbm, ⟨101, _⟩ => ⟨S_, .f32⟩
  | .hbm, ⟨102, _⟩ => ⟨S8x4096, .f32⟩
  | .hbm, ⟨103, _⟩ => ⟨S8x4096, .f32⟩
  | .hbm, ⟨104, _⟩ => ⟨S8x4096x1, .f32⟩
  | .hbm, ⟨105, _⟩ => ⟨S8x4096x4096, .f32⟩
  | .hbm, ⟨106, _⟩ => ⟨S8x4096x4096, .f32⟩
  | .hbm, ⟨107, _⟩ => ⟨S8x4096x4096, .f32⟩
  | .hbm, ⟨108, _⟩ => ⟨S_, .f32⟩
  | .hbm, ⟨109, _⟩ => ⟨S8x4096, .f32⟩
  | .hbm, ⟨110, _⟩ => ⟨S8x4096x1, .f32⟩
  | .hbm, ⟨111, _⟩ => ⟨S8x4096x4096, .f32⟩
  | .hbm, ⟨112, _⟩ => ⟨S8x4096x4096, .f32⟩
  | .hbm, ⟨113, _⟩ => ⟨S8x64x4096, .f32⟩
  | .hbm, ⟨114, _⟩ => ⟨S4096x8x64, .f32⟩
  | .hbm, ⟨115, _⟩ => ⟨S4096x512, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_4 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_5 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_6 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v46 : Ref sig .tc := ⟨.hbm, 98, rfl⟩
abbrev main_cst_7 : Ref sig .tc := ⟨.hbm, 99, rfl⟩
abbrev main_v47 : Ref sig .tc := ⟨.hbm, 100, rfl⟩
abbrev main_cst_8 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_9 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩

abbrev nD : Nat := 1
abbrev τ : Topo := Topo.v7x

variable {F : FTy → Type} [FloatOps F]
-- ==== Proof.Reals.lean ====
/- Real numbers inside the extended reals: an array all of whose elements are finite is the image of a real array; the operations of the two programs
   on such elements, and the preconditions' test "every element's absolute value is below infinity" read element by element. -/
module

public import Idealize.ShloMosaic.Lib.Pointwise
public import Idealize.ShloMosaic.Lib.StableHlo
public import Idealize.ShloMosaic.PureOps

@[expose] public section

namespace Cert.Proof.Reals

open Idealize.ShloMosaic

/-- Every element of the array is a real number. -/
def Finite {s : Shape} {φ : FTy} (x : FVec Ideal s φ) : Prop := ∀ i, ((x i : EReal).toReal : EReal) = x i

theorem real_iff {x : EReal} : (x.toReal : EReal) = x ↔ x ≠ ⊤ ∧ x ≠ ⊥ := by
  constructor
  · intro h; constructor <;> · intro e; rw [e] at h; simp at h
  · intro h; exact EReal.coe_toReal h.1 h.2

theorem andi_one {a b : BitVec 1} : IntOp.andi a b = 1#1 ↔ a = 1#1 ∧ b = 1#1 := by
  rcases BitVec.eq_zero_or_eq_one a with rfl | rfl <;> rcases BitVec.eq_zero_or_eq_one b with rfl | rfl <;> decide

theorem foldl_andi {ι : Type} (L : List ι) (p : ι → BitVec 1) (b : BitVec 1) :
    L.foldl (fun r n => IntOp.andi r (p n)) b = 1#1 → b = 1#1 ∧ ∀ n ∈ L, p n = 1#1 := by
  induction L generalizing b with
  | nil => intro h; exact ⟨h, by simp⟩
  | cons a L ih =>
    intro h
    obtain ⟨h1, h2⟩ := ih _ h
    obtain ⟨h3, h4⟩ := andi_one.1 h1
    exact ⟨h3, by simpa [h4] using h2⟩

theorem inf_f32 : Ideal.ofBits .f32 0x7F800000#32 = ⊤ := by simp [Ideal.ofBits, Ideal.ieee]

/-- The precondition's test of one array, "all of `|x| < ∞`", gives that the array is finite. -/
theorem finite_of_all {s : Shape} {axes : List (Fin s.rank)} (hb : (⟨0, ![]⟩ : Shape).BroadcastsInDim s (![] : Fin 0 → Fin s.rank))
    (hr : s.ReducesTo axes ⟨0, ![]⟩) (hu : 0 < (⟨0, ![]⟩ : Shape).numel) (x : FVec Ideal s .f32) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) :
    Finite x := by
  intro i
  have h2 := (foldl_andi _ _ _ h).2 (s.rowMajor i)
    (by rw [List.mem_filter]; exact ⟨List.mem_finRange _, by simpa using funext fun k => k.elim0⟩)
  rw [Equiv.symm_apply_apply] at h2
  rw [real_iff]
  have h3 : Ideal.cmp .olt (max (x i) (-(x i))) (Ideal.ofBits .f32 0x7F800000#32) = 1#1 := h2
  rw [inf_f32] at h3
  have h4 : max (x i : EReal) (-(x i)) < ⊤ := by
    by_contra hc
    simp only [Ideal.cmp] at h3
    simp [hc] at h3
  constructor
  · intro e; rw [e] at h4; simp at h4
  · intro e; rw [e] at h4; simp at h4

/-- A finite sum of reals, inside the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The constant added under the root of the row norms. -/
noncomputable def eps : ℝ := 8796093 / 8796093022208

theorem eps_pos : 0 < eps := by unfold eps; norm_num

theorem eps_f32 : Ideal.ofBits .f32 0x358637BD#32 = (eps : EReal) := by
  simp [Ideal.ofBits, Ideal.ieee, eps, -EReal.coe_mul]; norm_num

theorem c1024_f32 : Ideal.ofBits .f32 0x44800000#32 = ((1024 : ℝ) : EReal) := by
  simp [Ideal.ofBits, Ideal.ieee, -EReal.coe_mul]; norm_num

theorem mhalf_f32 : Ideal.ofBits .f32 0xBF000000#32 = ((-(1 / 2) : ℝ) : EReal) := by
  simp [Ideal.ofBits, Ideal.ieee, -EReal.coe_mul, -EReal.coe_neg]; norm_num

/-- The reciprocal root of a row's mean square plus `eps`. -/
noncomputable def inv {n : ℕ} (X : Fin n → ℝ) : ℝ := (Real.sqrt ((∑ k, X k * X k) / n + eps))⁻¹

theorem ms_pos {n : ℕ} (X : Fin n → ℝ) : 0 < (∑ k, X k * X k) / n + eps := by
  have h : 0 ≤ ∑ k, X k * X k := Finset.sum_nonneg fun k _ => mul_self_nonneg _
  have := eps_pos
  positivity

/-- Row normalisation's derivative: the form with the mean of the products with the normalised row, against the derivative taken through the reciprocal
    root, whose two halves come from the two factors of the square. -/
theorem rms_bwd {n : ℕ} (hn : 0 < n) (X D : Fin n → ℝ) (c : Fin n) :
    inv X * (D c - X c * inv X * ((∑ k, D k * (X k * inv X)) / n))
      = D c * inv X + X c * ((∑ k, X k * D k) * (-(1 / 2) * (inv X / ((∑ k, X k * X k) / n + eps))) / n)
        + (∑ k, X k * D k) * (-(1 / 2) * (inv X / ((∑ k, X k * X k) / n + eps))) / n * X c := by
  have hp := ms_pos X
  have h2 : inv X / ((∑ k, X k * X k) / n + eps) = inv X * inv X * inv X := by
    have : inv X * inv X = ((∑ k, X k * X k) / n + eps)⁻¹ := by
      unfold inv; rw [← mul_inv, Real.mul_self_sqrt hp.le]
    rw [div_eq_mul_inv, ← this]; ring
  have h3 : ∑ k, D k * (X k * inv X) = (∑ k, X k * D k) * inv X := by
    rw [Finset.sum_mul]; exact Finset.sum_congr rfl fun k _ => by ring
  have hn' : (n : ℝ) ≠ 0 := by positivity
  rw [h2, h3]
  field_simp
  ring

theorem toInt_word {n : ℕ} (h : n < 2 ^ 31) : (BitVec.ofNat 32 n).toInt = (n : ℤ) := by
  rw [BitVec.toInt_eq_toNat_of_lt] <;> rw [BitVec.toNat_ofNat, Nat.mod_eq_of_lt (by omega)]
  omega

/-- A word holding a small number, read as a float. -/
theorem sitofp_word {n : ℕ} (h : n < 2 ^ 31) : FloatOps.sitofp (F := Ideal) .f32 (BitVec.ofNat 32 n) = ((n : ℝ) : EReal) := by
  show (((BitVec.ofNat 32 n).toInt : ℝ) : EReal) = _
  rw [show (BitVec.ofNat 32 n).toInt = (n : ℤ) from toInt_word h]
  simp

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [BitVec.slt, toInt_word ha, toInt_word hb]
  by_cases h : a < b
  · rw [if_pos (by simpa using h), min_eq_left h.le]
  · rw [if_neg (by simpa using h), min_eq_right (by omega)]

end Cert.Proof.Reals
-- ==== Proof.Pool.lean ====
/- The sums of the pooling gradient: a host cumulative sum taken from the back, read at an index, and the identity that makes it a sum of at most `w` rows. -/
module

public import Idealize.ShloMosaic.Lib.Pointwise
public import Idealize.ShloMosaic.PureOps
public import Mathlib.Algebra.BigOperators.Intervals

@[expose] public section

namespace Cert.Proof.Pool

open Idealize.ShloMosaic

theorem foldl_eq_sum {M : Type*} [AddCommMonoid M] {n : ℕ} (f : Fin n → M) : (List.finRange n).foldl (fun r k => r + f k) 0 = ∑ k, f k := by
  rw [Fin.sum_univ_def, List.sum_eq_foldl, List.foldl_map]

/-- The cumulative sum from the back along the rows (`reduce_window` of the whole height, padded behind), at `(s, c)`: the rows from `s` on. -/
theorem reverse_cumsum {N C H : ℕ} (hH : H + 1 = N) (x : FVec Ideal ⟨2, ![N, C]⟩ .f32) (init : FVec Ideal ⟨0, ![]⟩ .f32) (h0 : ∀ i, init i = (0 : EReal))
    (h : (⟨2, ![N, C]⟩ : Shape).ReduceWindows (![N, 1] : Fin 2 → Nat) ![1, 1] ![0, 0] ![H, 0] ⟨2, ![N, C]⟩) (hu : 0 < (⟨0, ![]⟩ : Shape).numel)
    (s : Fin N) (c : Fin C) :
    Host.reduceWindowAdd (F := Ideal) (![N, 1] : Fin 2 → Nat) ![1, 1] ![0, 0] ![H, 0] x init h hu (ix2 s c)
      = ∑ k : Fin N, (if hk : s.val + k.val < N then x (ix2 ⟨s.val + k.val, hk⟩ c) else (0 : EReal)) := by
  unfold Host.reduceWindowAdd
  have hd : ∀ v : EReal, FloatOps.hostReduceWindowAdd (F := Ideal) (φ := .f32) (![N, 1] : Fin 2 → Nat) ![1, 1] ![0, 0] ![H, 0] h .single x v
      = Ideal.hostReduceWindowAdd (![N, 1] : Fin 2 → Nat) ![1, 1] ![0, 0] ![H, 0] h x v := fun _ => rfl
  rw [hd, h0]
  unfold Ideal.hostReduceWindowAdd Host.reduceWindow
  dsimp only
  rw [foldl_eq_sum, ← Equiv.sum_comp (Shape.rowMajor ⟨2, ![N, 1]⟩)]
  simp only [Equiv.symm_apply_apply]
  rw [sum_idx2]
  refine Finset.sum_congr rfl fun k _ => ?_
  rw [Fin.sum_univ_one]
  by_cases hk : s.val + k.val < N
  · have hin : ∀ a : Fin 2, (![0, 0] : Fin 2 → ℕ) a ≤ ((ix2 s c) (a.cast h.1.symm)).val * (![1, 1] : Fin 2 → ℕ) a + ((ix2 k (0 : Fin 1)) a).val
        ∧ ((ix2 s c) (a.cast h.1.symm)).val * (![1, 1] : Fin 2 → ℕ) a + ((ix2 k (0 : Fin 1)) a).val - (![0, 0] : Fin 2 → ℕ) a < (⟨2, ![N, C]⟩ : Shape).size a := by
      intro a
      match a with
      | ⟨0, _⟩ => exact ⟨Nat.zero_le _, by show s.val * 1 + k.val - 0 < N; omega⟩
      | ⟨1, _⟩ => exact ⟨Nat.zero_le _, by show c.val * 1 + 0 - 0 < C; have := c.isLt; omega⟩
    rw [dif_pos hin, dif_pos hk]
    refine congrArg x (funext fun a => Fin.ext ?_)
    match a with
    | ⟨0, _⟩ => show s.val * 1 + k.val - 0 = s.val + k.val; omega
    | ⟨1, _⟩ => show c.val * 1 + 0 - 0 = c.val; omega
  · rw [dif_neg hk, dif_neg]
    intro hin
    have := (hin 0).2
    change s.val * 1 + k.val - 0 < N at this
    omega

/-- From a row on, each row's entry less the entry `w` rows further: what is left is the sum of the first `w`. -/
theorem telescope (N w s : ℕ) (hs : s < N) (q : ℕ → ℝ) (hq : ∀ n, N ≤ n → q n = 0) :
    ∑ k : Fin N, (if s + k.val < N then q (s + k.val) - q (s + k.val + w) else 0) = ∑ k : Fin w, q (s + k.val) := by
  have h1 : ∀ k : Fin N, (if s + k.val < N then q (s + k.val) - q (s + k.val + w) else 0) = q (s + k.val) - q (s + k.val + w) := by
    intro k
    split
    · rfl
    · rw [hq _ (by omega), hq _ (by omega), sub_zero]
  rw [Finset.sum_congr rfl fun k _ => h1 k, Finset.sum_sub_distrib, Fin.sum_univ_eq_sum_range (fun k => q (s + k)),
    Fin.sum_univ_eq_sum_range (fun k => q (s + k + w)), Fin.sum_univ_eq_sum_range (fun k => q (s + k))]
  have h2 := Finset.sum_range_add (fun k => q (s + k)) w N
  have h3 := Finset.sum_range_add (fun k => q (s + k)) N w
  rw [Nat.add_comm N w, h2] at h3
  have h4 : ∑ k ∈ Finset.range w, q (s + (N + k)) = 0 := Finset.sum_eq_zero fun k _ => hq _ (by omega)
  have h5 : ∑ k ∈ Finset.range N, q (s + (w + k)) = ∑ k ∈ Finset.range N, q (s + k + w) := Finset.sum_congr rfl fun k _ => by rw [Nat.add_assoc s k, Nat.add_comm k]
  rw [h4, h5] at h3
  linarith

end Cert.Proof.Pool
-- ==== Proof.XMath.lean ====
/- The quantities of the input projection's gradient, over the reals: what both programs compute. -/
module

public import proofs.«01_k».proof.Proof.Reals
public import proofs.«01_k».proof.Proof.Pool

@[expose] public section

noncomputable section

namespace Cert.Proof.XMath

open Idealize.ShloMosaic Cert.Proof.Reals

/-- The window of a column of the pooled branch: 2, 4, 8 and 16 rows for the four groups of 128 columns. -/
def win (c : ℕ) : ℕ := 2 ^ (c / 128 + 1)

/-- A column's cotangent over the number of rows its mean was taken over, zero past the last row. -/
def share (w : ℕ) (d : Fin 4096 → ℝ) (n : ℕ) : ℝ := if h : n < 4096 then d ⟨n, h⟩ / ((min (n + 1) w : ℕ) : ℝ) else 0

/-- The gradient of "trailing mean less the row itself" with respect to row `s`. -/
def pool (w : ℕ) (d : Fin 4096 → ℝ) (s : Fin 4096) : ℝ := (∑ k : Fin w, share w d (s.val + k.val)) - d s

/-- The gradient of the projected row, the seven pieces side by side. -/
def dz (zq : Fin 4096 → Fin 384 → ℝ) (zkv : Fin 4096 → Fin 256 → ℝ) (zkr : Fin 4096 → Fin 32 → ℝ) (ga d gp : Fin 4096 → Fin 512 → ℝ)
    (gm : Fin 4096 → Fin 2048 → ℝ) (s : Fin 4096) (e : Fin 4256) : ℝ :=
  if h : e.val < 384 then zq s ⟨e.val, h⟩
  else if h : e.val - 384 < 256 then zkv s ⟨e.val - 384, h⟩
  else if h : e.val - 384 - 256 < 32 then zkr s ⟨e.val - 384 - 256, h⟩
  else if h : e.val - 384 - 256 - 32 < 512 then ga s ⟨e.val - 384 - 256 - 32, h⟩
  else if h : e.val - 384 - 256 - 32 - 512 < 512 then
    pool (win (e.val - 384 - 256 - 32 - 512)) (fun t => d t ⟨e.val - 384 - 256 - 32 - 512, h⟩) s
  else if h : e.val - 384 - 256 - 32 - 512 - 512 < 512 then gp s ⟨e.val - 384 - 256 - 32 - 512 - 512, h⟩
  else gm s ⟨e.val - 384 - 256 - 32 - 512 - 512 - 512, by have := e.isLt; omega⟩

/-- The gradient of a normalised row times its gain. -/
def dhn (W : Fin 1024 → Fin 4256 → ℝ) (Z : Fin 4256 → ℝ) (k : Fin 1024) : ℝ := ∑ e, Z e * W k e

/-- The gradient that comes to a row of `x` through the norm. -/
def gx (X G : Fin 1024 → ℝ) (D : Fin 1024 → ℝ) (k : Fin 1024) : ℝ :=
  inv X * (D k * G k - X k * inv X * ((∑ j, D j * G j * (X j * inv X)) / (1024 : ℕ)))

end Cert.Proof.XMath

end
-- ==== Proof.XTile.lean ====
/- One tile of the input projection's gradient: the window sums over the staged rows, the gradient of the projected rows, and what goes through the norm. -/
module

public import proofs.«01_k».proof.Proof.Gen.XKernelIdeal.Skeleton
public import proofs.«01_k».proof.Proof.XMath
public import Idealize.ShloMosaic.Lib.Pipeline.ValueKit
public import Idealize.ShloMosaic.Lib.Pointwise

@[expose] public section

set_option maxRecDepth 16384

noncomputable section

namespace Cert.Proof.XTile

open Idealize.ShloMosaic Cert.XKernelIdeal Cert.XKernelIdeal.Gen Cert.Proof.Reals Cert.Proof.XMath

/-- 512 rows from row `o` and 128 columns from column `k` of the staged rows. -/
def rows (o k : ℕ) (D : Vec Ideal S528x512 .f32) : Vec Ideal S512x128 .f32 := fun j =>
  D (ix2 ⟨(o + (j 0).val) % 528, Nat.mod_lt _ (by norm_num)⟩ ⟨(k + (j 1).val) % 512, Nat.mod_lt _ (by norm_num)⟩)

/-- A load of the staged rows. -/
theorem load (L : List (View.Piece (Elt Ideal) S528x512 .f32)) (o k : ℕ) (inb : ∀ a, (![o, k] : Fin 2 → ℕ) a + (![512, 128] : Fin 2 → ℕ) a ≤ S528x512.size a) :
    (View.whole cc0_scratch1).readCov L (Rect.unit (s := S528x512) ![o, k] ![512, 128] inb).toLoadRect = rows o k (View.canon L) := by
  rw [View.readCov_eq_canon']
  funext j
  have h0 : o + 512 ≤ 528 := inb 0
  have h1 : k + 128 ≤ 512 := inb 1
  have j0 : (j 0).val < 512 := (j 0).isLt
  have j1 : (j 1).val < 128 := (j 1).isLt
  refine congrArg (View.canon L) (funext fun a => ?_)
  match a with
  | ⟨0, _⟩ => exact Fin.ext (show o + 1 * (j 0).val = (o + (j 0).val) % 528 by omega)
  | ⟨1, _⟩ => exact Fin.ext (show k + 1 * (j 1).val = (k + (j 1).val) % 512 by omega)

theorem off1 {u : ℕ} (h : ¬u < 128) : u = 128 + (u - 128) := by omega
theorem off2 {u : ℕ} (h : ¬u < 128) (h' : ¬u - 128 < 128) : u = 256 + (u - 128 - 128) := by omega
theorem off3 {u : ℕ} (h : ¬u < 128) (h' : ¬u - 128 < 128) (h'' : ¬u - 128 - 128 < 128) : u = 384 + (u - 128 - 128 - 128) := by omega
theorem lt3 {u : ℕ} (h : u < 512) : u - 128 - 128 - 128 < 128 := by omega

/-- The row's number in the whole array, as a word. -/
theorem row_word (i : grid0.Coords) (r : Fin 512) (l : Fin 128) : k0_pay22 i (ix2 r l) = BitVec.ofNat 32 (512 * (i 0).val + r.val) := by
  pointwise [k0_pay22]
  rw [show (512 * (i 0).val + r.val) = r.val + (i 0).val * 512 by omega, BitVec.ofNat_add, BitVec.ofNat_mul]
  rfl

theorem pool_word (w : ℕ) (hw : 0 < w) (hw' : w < 2 ^ 31) (d : Fin 4096 → ℝ) (s : Fin 4096) (A B : EReal) (hA : A = ((∑ k : Fin w, share w d (s.val + k.val) : ℝ) : EReal))
    (hB : B = ((share w d s.val : ℝ) : EReal)) (row : BitVec 32) (hrow : row = BitVec.ofNat 32 s.val) :
    A - B * FloatOps.sitofp (F := Ideal) .f32 (IntOp.minsi (IntOp.addi row 1#32) (BitVec.ofNat 32 w)) = ((XMath.pool w d s : ℝ) : EReal) := by
  have hs := s.isLt
  have e : IntOp.addi row 1#32 = BitVec.ofNat 32 (s.val + 1) := by rw [hrow]; exact (BitVec.ofNat_add _ _).symm
  rw [e, minsi_word (by omega) hw', sitofp_word (by omega), hA, hB, ← EReal.coe_mul, ← EReal.coe_sub, XMath.pool, share, dif_pos hs]
  have : 0 < min (s.val + 1) w := by omega
  rw [div_mul_cancel₀ _ (by positivity)]

section

variable (i : grid0.Coords) (D : Vec Ideal S528x512 .f32) (d : Fin 4096 → Fin 512 → ℝ)
  (hD : ∀ r c, D (ix2 r c) = ((share (win c.val) (fun t => d t c) (512 * (i 0).val + r.val) : ℝ) : EReal))
include hD

theorem grp0 (r : Fin 512) (l : Fin 128) (s : Fin 4096) (hs : s.val = 512 * (i 0).val + r.val) (c : Fin 512) (hc : c.val = l.val) :
    k0_pay23 i (rows 0 0 D) (rows 1 0 D) (rows 0 0 D) (ix2 r l) = ((XMath.pool (win c.val) (fun t => d t c) s : ℝ) : EReal) := by
  pointwise [k0_pay23, rows]
  have hw : win c.val = 2 := by unfold win; rw [show c.val / 128 + 1 = 1 by omega]; rfl
  have e : ∀ k, k < 16 → 512 * (i 0).val + (k + r.val) % 528 = s.val + k := fun k hk => by omega
  have e0 : 512 * (i 0).val + r.val % 528 = s.val := by omega
  have e0' : 512 * (i 0).val + r.val = s.val := by omega
  have ec : ∀ p, (⟨l.val % 512, p⟩ : Fin 512) = c := fun p => Fin.ext (by show l.val % 512 = c.val; omega)
  simp only [ec, hD, hw, e0, e0', e 1 (by norm_num), ← EReal.coe_add]
  refine pool_word 2 (by norm_num) (by norm_num) _ s _ _ ?_ rfl _ (by rw [hs]; exact row_word i r l)
  simp [Fin.sum_univ_castSucc]

theorem grp1 (r : Fin 512) (l : Fin 128) (s : Fin 4096) (hs : s.val = 512 * (i 0).val + r.val) (c : Fin 512) (hc : c.val = 128 + l.val) :
    k0_pay24 (k0_pay22 i) (rows 0 128 D) (rows 1 128 D) (rows 2 128 D) (rows 3 128 D) (rows 0 128 D) (ix2 r l) = ((XMath.pool (win c.val) (fun t => d t c) s : ℝ) : EReal) := by
  pointwise [k0_pay24, rows]
  have hw : win c.val = 4 := by unfold win; rw [show c.val / 128 + 1 = 2 by omega]; rfl
  have e : ∀ k, k < 16 → 512 * (i 0).val + (k + r.val) % 528 = s.val + k := fun k hk => by omega
  have e0 : 512 * (i 0).val + r.val % 528 = s.val := by omega
  have e0' : 512 * (i 0).val + r.val = s.val := by omega
  have ec : ∀ p, (⟨(128 + l.val) % 512, p⟩ : Fin 512) = c := fun p => Fin.ext (by show (128 + l.val) % 512 = c.val; omega)
  simp only [ec, hD, hw, e0, e0', e 1 (by norm_num), e 2 (by norm_num), e 3 (by norm_num), ← EReal.coe_add]
  refine pool_word 4 (by norm_num) (by norm_num) _ s _ _ ?_ rfl _ (by rw [hs]; exact row_word i r l)
  simp [Fin.sum_univ_castSucc]

theorem grp2 (r : Fin 512) (l : Fin 128) (s : Fin 4096) (hs : s.val = 512 * (i 0).val + r.val) (c : Fin 512) (hc : c.val = 256 + l.val) :
    k0_pay27 (k0_pay25 (rows 0 256 D) (rows 1 256 D) (rows 2 256 D) (rows 3 256 D) (rows 4 256 D) (rows 5 256 D) (rows 6 256 D) (rows 7 256 D)) (rows 0 256 D) (k0_pay26 (k0_pay22 i)) (ix2 r l) = ((XMath.pool (win c.val) (fun t => d t c) s : ℝ) : EReal) := by
  pointwise [k0_pay27, k0_pay26, k0_pay25, rows]
  have hw : win c.val = 8 := by unfold win; rw [show c.val / 128 + 1 = 3 by omega]; rfl
  have e : ∀ k, k < 16 → 512 * (i 0).val + (k + r.val) % 528 = s.val + k := fun k hk => by omega
  have e0 : 512 * (i 0).val + r.val % 528 = s.val := by omega
  have e0' : 512 * (i 0).val + r.val = s.val := by omega
  have ec : ∀ p, (⟨(256 + l.val) % 512, p⟩ : Fin 512) = c := fun p => Fin.ext (by show (256 + l.val) % 512 = c.val; omega)
  simp only [ec, hD, hw, e0, e0', e 1 (by norm_num), e 2 (by norm_num), e 3 (by norm_num), e 4 (by norm_num), e 5 (by norm_num), e 6 (by norm_num), e 7 (by norm_num), ← EReal.coe_add]
  refine pool_word 8 (by norm_num) (by norm_num) _ s _ _ ?_ rfl _ (by rw [hs]; exact row_word i r l)
  simp [Fin.sum_univ_castSucc]

theorem grp3 (r : Fin 512) (l : Fin 128) (s : Fin 4096) (hs : s.val = 512 * (i 0).val + r.val) (c : Fin 512) (hc : c.val = 384 + l.val) :
    k0_pay28 (rows 0 384 D) (rows 1 384 D) (rows 2 384 D) (rows 3 384 D) (rows 4 384 D) (rows 5 384 D) (rows 6 384 D) (rows 7 384 D) (rows 8 384 D) (rows 9 384 D) (rows 10 384 D) (rows 11 384 D) (rows 12 384 D) (ix2 r l) + rows 13 384 D (ix2 r l) + rows 14 384 D (ix2 r l) + rows 15 384 D (ix2 r l)
      - rows 0 384 D (ix2 r l) * FloatOps.sitofp (F := Ideal) .f32 (IntOp.minsi (IntOp.addi (k0_pay22 i (ix2 r l)) 1#32) 16#32)
      = ((XMath.pool (win c.val) (fun t => d t c) s : ℝ) : EReal) := by
  pointwise [k0_pay28, rows]
  have hw : win c.val = 16 := by unfold win; rw [show c.val / 128 + 1 = 4 by omega]; rfl
  have e : ∀ k, k < 16 → 512 * (i 0).val + (k + r.val) % 528 = s.val + k := fun k hk => by omega
  have e0 : 512 * (i 0).val + r.val % 528 = s.val := by omega
  have e0' : 512 * (i 0).val + r.val = s.val := by omega
  have ec : ∀ p, (⟨(384 + l.val) % 512, p⟩ : Fin 512) = c := fun p => Fin.ext (by show (384 + l.val) % 512 = c.val; omega)
  simp only [ec, hD, hw, e0, e0', e 1 (by norm_num), e 2 (by norm_num), e 3 (by norm_num), e 4 (by norm_num), e 5 (by norm_num), e 6 (by norm_num), e 7 (by norm_num), e 8 (by norm_num), e 9 (by norm_num), e 10 (by norm_num), e 11 (by norm_num), e 12 (by norm_num), e 13 (by norm_num), e 14 (by norm_num), e 15 (by norm_num), ← EReal.coe_add]
  refine pool_word 16 (by norm_num) (by norm_num) _ s _ _ ?_ rfl _ (by rw [hs]; exact row_word i r l)
  simp [Fin.sum_univ_castSucc]

/-- The gradient of a tile's projected rows. -/
def dzt (x0 : Vec Ideal S512x384 .bf16) (x1 : Vec Ideal S512x256 .bf16) (x2 : Vec Ideal S512x128 .bf16) (x3 : Vec Ideal S512x512 .bf16) (x6 : Vec Ideal S512x512 .bf16) (x7 : Vec Ideal S512x2048 .bf16) : Vec Ideal S512x4256 .bf16 :=
  k0_pay29 (k0_pay22 i) (k0_pay23 i (rows 0 0 D) (rows 1 0 D) (rows 0 0 D)) (k0_pay24 (k0_pay22 i) (rows 0 128 D) (rows 1 128 D) (rows 2 128 D) (rows 3 128 D) (rows 0 128 D))
    (k0_pay27 (k0_pay25 (rows 0 256 D) (rows 1 256 D) (rows 2 256 D) (rows 3 256 D) (rows 4 256 D) (rows 5 256 D) (rows 6 256 D) (rows 7 256 D)) (rows 0 256 D) (k0_pay26 (k0_pay22 i)))
    (k0_pay28 (rows 0 384 D) (rows 1 384 D) (rows 2 384 D) (rows 3 384 D) (rows 4 384 D) (rows 5 384 D) (rows 6 384 D) (rows 7 384 D) (rows 8 384 D) (rows 9 384 D) (rows 10 384 D) (rows 11 384 D) (rows 12 384 D)) (rows 13 384 D) (rows 14 384 D) (rows 15 384 D) (rows 0 384 D)
    x0 x1 x2 x3 x6 x7

theorem dzt_apply (x0 : Vec Ideal S512x384 .bf16) (x1 : Vec Ideal S512x256 .bf16) (x2 : Vec Ideal S512x128 .bf16) (x3 : Vec Ideal S512x512 .bf16) (x6 : Vec Ideal S512x512 .bf16) (x7 : Vec Ideal S512x2048 .bf16)
    {zq : Fin 4096 → Fin 384 → ℝ} {zkv : Fin 4096 → Fin 256 → ℝ} {zkr : Fin 4096 → Fin 32 → ℝ} {ga gp : Fin 4096 → Fin 512 → ℝ} {gm : Fin 4096 → Fin 2048 → ℝ}
    (r : Fin 512) (s : Fin 4096) (hs : s.val = 512 * (i 0).val + r.val)
    (h0 : ∀ e, x0 (ix2 r e) = ((zq s e : ℝ) : EReal)) (h1 : ∀ e, x1 (ix2 r e) = ((zkv s e : ℝ) : EReal)) (h2 : ∀ (e : Fin 32) (f : Fin 128), f.val = e.val → x2 (ix2 r f) = ((zkr s e : ℝ) : EReal))
    (h3 : ∀ e, x3 (ix2 r e) = ((ga s e : ℝ) : EReal)) (h6 : ∀ e, x6 (ix2 r e) = ((gp s e : ℝ) : EReal)) (h7 : ∀ e, x7 (ix2 r e) = ((gm s e : ℝ) : EReal)) (e : Fin 4256) :
    dzt i D x0 x1 x2 x3 x6 x7 (ix2 r e) = ((dz zq zkv zkr ga d gp gm s e : ℝ) : EReal) := by
  pointwise [dzt, k0_pay29]
  simp only [h0, h1, h3, h6, h7]
  unfold dz
  have he := e.isLt
  by_cases b0 : e.val < 384
  · simp only [b0, dite_true]
  simp only [b0, dite_false]
  by_cases b1 : e.val - 384 < 256
  · simp only [b1, dite_true]
  simp only [b1, dite_false]
  by_cases b2 : e.val - 384 - 256 < 32
  · simp only [b2, dite_true]
    exact h2 ⟨e.val - 384 - 256, b2⟩ ⟨e.val - 384 - 256, b2.trans (by norm_num)⟩ rfl
  simp only [b2, dite_false]
  by_cases b3 : e.val - 384 - 256 - 32 < 512
  · simp only [b3, dite_true]
  simp only [b3, dite_false]
  by_cases b4 : e.val - 384 - 256 - 32 - 512 < 512
  · simp only [b4, dite_true]
    by_cases b5 : e.val - 384 - 256 - 32 - 512 < 128
    · simp only [b5, dite_true]
      exact grp0 i D d hD r ⟨e.val - 384 - 256 - 32 - 512, b5⟩ s hs ⟨e.val - 384 - 256 - 32 - 512, b4⟩ rfl
    simp only [b5, dite_false]
    by_cases b6 : e.val - 384 - 256 - 32 - 512 - 128 < 128
    · simp only [b6, dite_true]
      exact grp1 i D d hD r ⟨e.val - 384 - 256 - 32 - 512 - 128, b6⟩ s hs ⟨e.val - 384 - 256 - 32 - 512, b4⟩ (off1 b5)
    simp only [b6, dite_false]
    by_cases b7 : e.val - 384 - 256 - 32 - 512 - 128 - 128 < 128
    · simp only [b7, dite_true]
      exact grp2 i D d hD r ⟨e.val - 384 - 256 - 32 - 512 - 128 - 128, b7⟩ s hs ⟨e.val - 384 - 256 - 32 - 512, b4⟩ (off2 b5 b6)
    simp only [b7, dite_false]
    exact grp3 i D d hD r ⟨e.val - 384 - 256 - 32 - 512 - 128 - 128 - 128, lt3 b4⟩ s hs ⟨e.val - 384 - 256 - 32 - 512, b4⟩ (off3 b5 b6 b7)
  simp only [b4, dite_false]
  by_cases b8 : e.val - 384 - 256 - 32 - 512 - 512 < 512
  · simp only [b8, dite_true]
  · simp only [b8, dite_false]

end

/-- What the norm's part of the tile is made of, as reals. -/
structure Norm (x8 : Vec Ideal S512x1024 .f32) (x10 : Vec Ideal S1x1024 .f32) (Wt : Vec Ideal S4256x1024 .bf16) (Dz : Vec Ideal S512x4256 .bf16)
    (X : Fin 512 → Fin 1024 → ℝ) (G : Fin 1024 → ℝ) (W : Fin 1024 → Fin 4256 → ℝ) (Z : Fin 512 → Fin 4256 → ℝ) : Prop where
  x : ∀ r k, x8 (ix2 r k) = ((X r k : ℝ) : EReal)
  g : ∀ z k, x10 (ix2 z k) = ((G k : ℝ) : EReal)
  w : ∀ e k, Wt (ix2 e k) = ((W k e : ℝ) : EReal)
  z : ∀ r e, Dz (ix2 r e) = ((Z r e : ℝ) : EReal)

section

variable {x8 : Vec Ideal S512x1024 .f32} {x10 : Vec Ideal S1x1024 .f32} {Wt : Vec Ideal S4256x1024 .bf16} {Dz : Vec Ideal S512x4256 .bf16}
  {X : Fin 512 → Fin 1024 → ℝ} {G : Fin 1024 → ℝ} {W : Fin 1024 → Fin 4256 → ℝ} {Z : Fin 512 → Fin 4256 → ℝ} (h : Norm x8 x10 Wt Dz X G W Z)
include h

theorem pay35 (r : Fin 512) (k : Fin 1024) : k0_pay35 Dz Wt (ix2 r k) = ((dhn W (Z r) k : ℝ) : EReal) := by
  pointwise [k0_pay35]
  simp only [h.z, h.w, ← EReal.coe_mul, ← coe_sum]
  rfl

theorem pay37 (r : Fin 512) (z : Fin 1) : k0_pay37 x8 (ix2 r z) = ((inv (X r) : ℝ) : EReal) := by
  pointwise [k0_pay37]
  simp only [h.x, c1024_f32, eps_f32, ← EReal.coe_mul, ← coe_sum]
  rw [div_real _ (by norm_num), ← EReal.coe_add, show (1024 : ℝ) = ((1024 : ℕ) : ℝ) by norm_num, rsqrt_real (ms_pos _)]
  rfl

theorem pay38 (r : Fin 512) (k : Fin 1024) : k0_pay38 x8 (ix2 r k) = ((X r k * inv (X r) : ℝ) : EReal) := by
  pointwise [k0_pay38]
  rw [pay37 h, h.x, ← EReal.coe_mul]

theorem pay2 (x9 : Vec Ideal S512x1024 .f32) (r : Fin 512) (k : Fin 1024) :
    k0_pay2 (k0_pay35 Dz Wt) (k0_pay36 x10) (k0_pay37 x8) (k0_pay38 x8) x9 (ix2 r k) = x9 (ix2 r k) + ((gx (X r) G (dhn W (Z r)) k : ℝ) : EReal) := by
  pointwise [k0_pay2, k0_pay36]
  simp only [pay35 h, pay37 h, pay38 h, h.g, c1024_f32, ← EReal.coe_mul, ← coe_sum]
  rw [div_real _ (by norm_num), ← EReal.coe_mul, ← EReal.coe_sub, ← EReal.coe_mul, show (1024 : ℝ) = ((1024 : ℕ) : ℝ) by norm_num]
  rfl

theorem pay39 (acc : Vec Ideal S1x1024 .f32) (z : Fin 1) (k : Fin 1024) :
    k0_pay39 Dz Wt x8 acc (ix2 z k) = acc (ix2 z k) + ((∑ r, dhn W (Z r) k * (X r k * inv (X r)) : ℝ) : EReal) := by
  pointwise [k0_pay39]
  simp only [pay35 h, pay38 h, ← EReal.coe_mul, ← coe_sum]

end

end Cert.Proof.XTile

end
-- ==== Proof.XRef.lean ====
/- The reference's three results at an index: the pooled branch's gradient, the projected row's, and what comes through the norm, over the reals. -/
module

public import proofs.«01_k».proof.Proof.Gen.XReferenceIdeal.Read
public import proofs.«01_k».proof.Proof.XMath
public import Idealize.ShloMosaic.Lib.Pipeline.ValueKit

@[expose] public section

set_option maxRecDepth 16384

noncomputable section

namespace Cert.Proof.XRef

open Idealize.ShloMosaic Cert.XReferenceIdeal Cert.XReferenceIdeal.Gen Cert.XReferenceIdeal.Read
open Cert.Proof.Reals Cert.Proof.XMath Cert.Proof.Pool

theorem addi_one (n : ℕ) : IntOp.addi (BitVec.ofNat 32 n) 1#32 = BitVec.ofNat 32 (n + 1) := (BitVec.ofNat_add _ _).symm

/-- How many rows the trailing mean of row `s` takes, in the four groups of columns. -/
theorem cnt0 (s : Fin 4096) (z : Fin 1) : val_main_v36 (F := Ideal) (ix2 s z) = ((min (s.val + 1) 2 : ℕ) : ℝ) := by
  pointwise [val_main_v36, val_main_v35, val_main_v34, val_main_v33, val_main_v32, val_main_v31, val_main_v25, val_main_c, val_main_c_5]
  rw [addi_one, minsi_word (by omega) (by omega), sitofp_word (by omega)]

theorem cnt1 (s : Fin 4096) (z : Fin 1) : val_main_v52 (F := Ideal) (ix2 s z) = ((min (s.val + 1) 4 : ℕ) : ℝ) := by
  pointwise [val_main_v52, val_main_v51, val_main_v50, val_main_v49, val_main_v48, val_main_v47, val_main_v25, val_main_c_8, val_main_c_9]
  rw [addi_one, minsi_word (by omega) (by omega), sitofp_word (by omega)]

theorem cnt2 (s : Fin 4096) (z : Fin 1) : val_main_v68 (F := Ideal) (ix2 s z) = ((min (s.val + 1) 8 : ℕ) : ℝ) := by
  pointwise [val_main_v68, val_main_v67, val_main_v66, val_main_v65, val_main_v64, val_main_v63, val_main_v25, val_main_c_12, val_main_c_13]
  rw [addi_one, minsi_word (by omega) (by omega), sitofp_word (by omega)]

theorem cnt3 (s : Fin 4096) (z : Fin 1) : val_main_v84 (F := Ideal) (ix2 s z) = ((min (s.val + 1) 16 : ℕ) : ℝ) := by
  pointwise [val_main_v84, val_main_v83, val_main_v82, val_main_v81, val_main_v80, val_main_v79, val_main_v25, val_main_c_16, val_main_c_17]
  rw [addi_one, minsi_word (by omega) (by omega), sitofp_word (by omega)]

/-- One group's entry of the array whose sums from the back are taken. -/
theorem piece (w : ℕ) (hw : 0 < w) (d : Fin 4096 → ℝ) (s : Fin 4096) {P : Prop} [Decidable P] (hP : P ↔ s.val + w < 4096) (B : P → EReal)
    (hB : ∀ p : P, B p = -Ideal.div ((d ⟨s.val + w, hP.1 p⟩ : ℝ) : EReal) ((((min (s.val + w + 1) w : ℕ) : ℝ)) : EReal)) :
    Ideal.div ((d s : ℝ) : EReal) (((min (s.val + 1) w : ℕ) : ℝ) : EReal) + (if h : P then B h else 0)
      = ((share w d s.val - share w d (s.val + w) : ℝ) : EReal) := by
  have hc : ∀ n : ℕ, ((min (n + 1) w : ℕ) : ℝ) ≠ 0 := fun n => by
    have : 0 < min (n + 1) w := by omega
    positivity
  rw [div_real _ (hc _), share, dif_pos s.isLt, share]
  by_cases h : P
  · rw [dif_pos h, hB h, div_real _ (hc _), dif_pos (hP.1 h), ← EReal.coe_neg, ← EReal.coe_add]
    rfl
  · rw [dif_neg h, dif_neg (fun hh => h (hP.2 hh)), sub_zero, add_zero]

/-- Four pieces put side by side, of which exactly one is there. -/
theorem ladder {P3 P2 P1 P0 : Prop} [Decidable P3] [Decidable P2] [Decidable P1] [Decidable P0] {A3 : P3 → EReal} {A2 : P2 → EReal} {A1 : P1 → EReal} {A0 : P0 → EReal} {T : EReal}
    (h3 : ∀ h, A3 h = T) (h2 : ∀ h, A2 h = T) (h1 : ∀ h, A1 h = T) (h0 : ∀ h, A0 h = T)
    (hx : (P3 ∧ ¬P2 ∧ ¬P1 ∧ ¬P0) ∨ (¬P3 ∧ P2 ∧ ¬P1 ∧ ¬P0) ∨ (¬P3 ∧ ¬P2 ∧ P1 ∧ ¬P0) ∨ (¬P3 ∧ ¬P2 ∧ ¬P1 ∧ P0)) :
    ((((if h : P3 then A3 h else 0) + if h : P2 then A2 h else 0) + if h : P1 then A1 h else 0) + if h : P0 then A0 h else 0) = T := by
  rcases hx with ⟨p3, p2, p1, p0⟩ | ⟨p3, p2, p1, p0⟩ | ⟨p3, p2, p1, p0⟩ | ⟨p3, p2, p1, p0⟩ <;> simp [p3, p2, p1, p0, h3, h2, h1, h0]

section

variable (x7 : FVec Ideal S4096x512 .f32) (d : Fin 4096 → Fin 512 → ℝ) (h7 : ∀ t c, x7 (ix2 t c) = ((d t c : ℝ) : EReal))

include h7

theorem v140 (s : Fin 4096) (c : Fin 512) :
    val_main_v140 (F := Ideal) x7 (ix2 s c) = ((share (win c.val) (fun t => d t c) s.val - share (win c.val) (fun t => d t c) (s.val + win c.val) : ℝ) : EReal) := by
  pointwise [val_main_v140, val_main_v139, val_main_v138, val_main_v137, val_main_v136, val_main_v134, val_main_v133, val_main_v132, val_main_v91, val_main_cst_29, val_main_cst_28,
    val_main_v128, val_main_v127, val_main_v126, val_main_v125, val_main_v124, val_main_v122, val_main_v121, val_main_v120, val_main_v92, val_main_cst_26, val_main_cst_25,
    val_main_v116, val_main_v115, val_main_v114, val_main_v113, val_main_v112, val_main_v110, val_main_v109, val_main_v108, val_main_v93, val_main_cst_23, val_main_cst_22,
    val_main_v104, val_main_v103, val_main_v102, val_main_v101, val_main_v99, val_main_v98, val_main_v97, val_main_v94, val_main_cst_20, val_main_cst_19]
  simp only [cnt0, cnt1, cnt2, cnt3, h7]
  have hc := c.isLt
  refine ladder (fun h => ?_) (fun h => ?_) (fun h => ?_) (fun h => ?_) (by omega)
  · have hw : win c.val = 16 := by unfold win; rw [show c.val / 128 + 1 = 4 by omega]; rfl
    have e : ∀ p, (⟨384 + (c.val - 384), p⟩ : Fin 512) = c := fun p => Fin.ext (by show 384 + (c.val - 384) = c.val; omega)
    simp only [hw, e, Nat.add_comm 16]
    exact piece 16 (by omega) (fun t => d t c) s ⟨fun p => by omega, fun p => by omega⟩ _ fun p => rfl
  · have hw : win c.val = 8 := by unfold win; rw [show c.val / 128 + 1 = 3 by omega]; rfl
    have e : ∀ p, (⟨256 + (c.val - 256), p⟩ : Fin 512) = c := fun p => Fin.ext (by show 256 + (c.val - 256) = c.val; omega)
    simp only [hw, e, Nat.add_comm 8]
    exact piece 8 (by omega) (fun t => d t c) s ⟨fun p => by omega, fun p => by omega⟩ _ fun p => rfl
  · have hw : win c.val = 4 := by unfold win; rw [show c.val / 128 + 1 = 2 by omega]; rfl
    have e : ∀ p, (⟨128 + (c.val - 128), p⟩ : Fin 512) = c := fun p => Fin.ext (by show 128 + (c.val - 128) = c.val; omega)
    simp only [hw, e, Nat.add_comm 4]
    exact piece 4 (by omega) (fun t => d t c) s ⟨fun p => by omega, fun p => by omega⟩ _ fun p => rfl
  · have hw : win c.val = 2 := by unfold win; rw [show c.val / 128 + 1 = 1 by omega]; rfl
    simp only [hw, Nat.add_comm 2]
    exact piece 2 (by omega) (fun t => d t c) s ⟨fun p => by omega, fun p => by omega⟩ _ fun p => rfl

theorem v131 (s : Fin 4096) (c : Fin 512) : val_main_v131 (F := Ideal) x7 (ix2 s c) = ((-d s c : ℝ) : EReal) := by
  pointwise [val_main_v131, val_main_v130, val_main_v129, val_main_v119, val_main_v118, val_main_v117, val_main_v107, val_main_v106, val_main_v105, val_main_v96, val_main_v95,
    val_main_v94, val_main_v93, val_main_v92, val_main_v91, val_main_cst_18, val_main_cst_21, val_main_cst_24, val_main_cst_27]
  simp only [h7]
  have hc := c.isLt
  have e : ∀ o p, o ≤ c.val → (⟨o + (c.val - o), p⟩ : Fin 512) = c := fun o p ho => Fin.ext (by show o + (c.val - o) = c.val; omega)
  rcases (by omega : c.val / 128 = 0 ∨ c.val / 128 = 1 ∨ c.val / 128 = 2 ∨ c.val / 128 = 3) with h | h | h | h
  · simp [show ¬384 ≤ c.val by omega, show ¬256 ≤ c.val by omega, show ¬128 ≤ c.val by omega, show c.val < 128 by omega]
  · simp [show ¬384 ≤ c.val by omega, show ¬256 ≤ c.val by omega, show 128 ≤ c.val by omega, show c.val - 128 < 128 by omega, show ¬c.val < 128 by omega, e]
  · simp [show ¬384 ≤ c.val by omega, show 256 ≤ c.val by omega, show c.val - 256 < 128 by omega, show ¬c.val - 128 < 128 by omega, show ¬c.val < 128 by omega, e]
  · simp [show 384 ≤ c.val by omega, show c.val - 384 < 128 by omega, show ¬c.val - 256 < 128 by omega, show ¬c.val - 128 < 128 by omega, show ¬c.val < 128 by omega, e]

/-- The gradient of the pooled branch. -/
theorem v142 (s : Fin 4096) (c : Fin 512) : val_main_v142 (F := Ideal) x7 (ix2 s c) = ((pool (win c.val) (fun t => d t c) s : ℝ) : EReal) := by
  rw [val_main_v142_apply, v131 x7 d h7]
  show _ + val_main_v141 (F := Ideal) x7 (ix2 s c) = _
  unfold val_main_v141
  rw [reverse_cumsum (H := 4095) rfl _ _ (fun i => by pointwise [val_main_call1_call0_v0, val_main_call1_call0_cst])]
  simp only [v140 x7 d h7]
  have h := telescope 4096 (win c.val) s.val s.isLt (share (win c.val) fun t => d t c) (fun n hn => dif_neg (by omega))
  have e : (∑ k : Fin 4096, if hk : s.val + k.val < 4096 then
      ((share (win c.val) (fun t => d t c) (s.val + k.val) - share (win c.val) (fun t => d t c) (s.val + k.val + win c.val) : ℝ) : EReal) else 0)
      = ((∑ k : Fin (win c.val), share (win c.val) (fun t => d t c) (s.val + k.val) : ℝ) : EReal) := by
    rw [← h, coe_sum]
    refine Finset.sum_congr rfl fun k _ => ?_
    split <;> rfl
  refine (congrArg (fun v => ((-d s c : ℝ) : EReal) + v) e).trans ?_
  rw [← EReal.coe_add, XMath.pool]
  congr 1
  ring

end

end Cert.Proof.XRef

end
-- ==== Proof.XGrad.lean ====
/- What the reference of the input projection's gradient computes, read at an index. -/
module

public import proofs.«01_k».proof.Proof.XRef

@[expose] public section

set_option maxRecDepth 16384

noncomputable section

namespace Cert.Proof.XGrad

open Idealize.ShloMosaic Cert.Proof.Reals Cert.Proof.XMath Cert.Proof.XRef Cert.XReferenceIdeal Cert.XReferenceIdeal.Gen Cert.XReferenceIdeal.Read

variable (x0 : FVec Ideal S4096x1024 .f32) (x1 : FVec Ideal S1024 .f32) (x2 : FVec Ideal S1024x4256 .f32) (x3 : FVec Ideal S4096x384 .f32) (x4 : FVec Ideal S4096x256 .f32)
  (x5 : FVec Ideal S4096x32 .f32) (x6 x7 x8 : FVec Ideal S4096x512 .f32) (x9 : FVec Ideal S4096x2048 .f32)

/-- The arguments the gradients are made of, as reals. -/
structure Reads (X : Fin 4096 → Fin 1024 → ℝ) (G : Fin 1024 → ℝ) (W : Fin 1024 → Fin 4256 → ℝ) (Z : Fin 4096 → Fin 4256 → ℝ) : Prop where
  x : ∀ s k, x0 (ix2 s k) = ((X s k : ℝ) : EReal)
  g : ∀ k, x1 (ix1 k) = ((G k : ℝ) : EReal)
  w : ∀ k e, x2 (ix2 k e) = ((W k e : ℝ) : EReal)
  z : ∀ s e, val_main_v143 (F := Ideal) x3 x4 x5 x6 x7 x8 x9 (ix2 s e) = ((Z s e : ℝ) : EReal)

theorem v143 {zq : Fin 4096 → Fin 384 → ℝ} {zkv : Fin 4096 → Fin 256 → ℝ} {zkr : Fin 4096 → Fin 32 → ℝ} {ga d gp : Fin 4096 → Fin 512 → ℝ} {gm : Fin 4096 → Fin 2048 → ℝ}
    (h3 : ∀ t c, x3 (ix2 t c) = ((zq t c : ℝ) : EReal)) (h4 : ∀ t c, x4 (ix2 t c) = ((zkv t c : ℝ) : EReal)) (h5 : ∀ t c, x5 (ix2 t c) = ((zkr t c : ℝ) : EReal))
    (h6 : ∀ t c, x6 (ix2 t c) = ((ga t c : ℝ) : EReal)) (h7 : ∀ t c, x7 (ix2 t c) = ((d t c : ℝ) : EReal)) (h8 : ∀ t c, x8 (ix2 t c) = ((gp t c : ℝ) : EReal))
    (h9 : ∀ t c, x9 (ix2 t c) = ((gm t c : ℝ) : EReal)) (s : Fin 4096) (e : Fin 4256) :
    val_main_v143 (F := Ideal) x3 x4 x5 x6 x7 x8 x9 (ix2 s e) = ((dz zq zkv zkr ga d gp gm s e : ℝ) : EReal) := by
  pointwise [val_main_v143]
  simp only [h3, h4, h5, h6, v142 x7 d h7, h8, h9]
  unfold dz
  split_ifs <;> rfl

variable {x0 x1 x2 x3 x4 x5 x6 x7 x8 x9} {X : Fin 4096 → Fin 1024 → ℝ} {G : Fin 1024 → ℝ} {W : Fin 1024 → Fin 4256 → ℝ} {Z : Fin 4096 → Fin 4256 → ℝ}
  (h : Reads x0 x1 x2 x3 x4 x5 x6 x7 x8 x9 X G W Z)
include h

theorem v6 (s : Fin 4096) (z : Fin 1) : val_main_v6 (F := Ideal) x0 (ix2 s z) = (((∑ k, X s k * X s k) / (1024 : ℕ) + eps : ℝ) : EReal) := by
  pointwise [val_main_v6, val_main_v5, val_main_v4, val_main_v3, val_main_v2, val_main_v1, val_main_v0, val_main_cst, val_main_cst_0, val_main_cst_1]
  simp only [h.x, c1024_f32, eps_f32, ← EReal.coe_mul, ← coe_sum]
  rw [div_real _ (by norm_num), ← EReal.coe_add]
  norm_num

theorem v7 (s : Fin 4096) (z : Fin 1) : val_main_v7 (F := Ideal) x0 (ix2 s z) = ((inv (X s) : ℝ) : EReal) := by
  show Ideal.rsqrt (val_main_v6 (F := Ideal) x0 (ix2 s z)) = _
  rw [v6 h, rsqrt_real (ms_pos _)]
  rfl

theorem v10 (s : Fin 4096) (z : Fin 1) :
    val_main_v10 (F := Ideal) x0 (ix2 s z) = ((-(1 / 2) * (inv (X s) / ((∑ k, X s k * X s k) / (1024 : ℕ) + eps)) : ℝ) : EReal) := by
  pointwise [val_main_v10, val_main_v9, val_main_v8, val_main_cst_2]
  rw [v6 h, v7 h, mhalf_f32, div_real _ (ms_pos _).ne', ← EReal.coe_mul]

theorem v144 (s : Fin 4096) (k : Fin 1024) : val_main_v144 (F := Ideal) x2 x3 x4 x5 x6 x7 x8 x9 (ix2 s k) = ((dhn W (Z s) k : ℝ) : EReal) := by
  pointwise [val_main_v144]
  simp only [h.z, h.w, ← EReal.coe_mul, ← coe_sum]
  rfl

/-- The gain's gradient. -/
theorem v150 (k : Fin 1024) : val_main_v150 (F := Ideal) x0 x2 x3 x4 x5 x6 x7 x8 x9 (ix1 k) = ((∑ s, dhn W (Z s) k * (X s k * inv (X s)) : ℝ) : EReal) := by
  pointwise [val_main_v150, val_main_v147, val_main_v146, val_main_v145, val_main_v12, val_main_v11, val_main_cst_30, val_main_cst_31]
  simp only [h.x, v7 h, v144 h, ← EReal.coe_mul, ← coe_sum]
  rw [Fin.sum_univ_one]
  exact congrArg _ (Finset.sum_congr rfl fun s _ => by ring)

/-- The gradient of a row of `x`. -/
theorem v164 (s : Fin 4096) (k : Fin 1024) : val_main_v164 (F := Ideal) x0 x1 x2 x3 x4 x5 x6 x7 x8 x9 (ix2 s k) = ((gx (X s) G (dhn W (Z s)) k : ℝ) : EReal) := by
  pointwise [val_main_v164, val_main_v163, val_main_v162, val_main_v161, val_main_v160, val_main_v159, val_main_v158, val_main_v157, val_main_v156, val_main_v155, val_main_v154,
    val_main_v153, val_main_v152, val_main_v151, val_main_v149, val_main_v148, val_main_v13, val_main_cst_31, val_main_cst_32, val_main_cst_33, val_main_cst_34]
  simp only [h.x, h.g, v7 h, v144 h, v10 h, c1024_f32, ← EReal.coe_mul, ← coe_sum]
  simp only [div_real _ (show (1024 : ℝ) ≠ 0 by norm_num), Fin.sum_univ_one, ← EReal.coe_mul, ← EReal.coe_add]
  have e := rms_bwd (n := 1024) (by norm_num) (X s) (fun k => dhn W (Z s) k * G k) k
  rw [show ((1024 : ℕ) : ℝ) = 1024 by norm_num] at e ⊢
  rw [gx, show ((1024 : ℕ) : ℝ) = 1024 by norm_num, e]

/-- The first result. -/
theorem v168 (x10 : FVec Ideal S4096x1024 .f32) (s : Fin 4096) (k : Fin 1024) :
    val_main_v168 (F := Ideal) x0 x1 x2 x3 x4 x5 x6 x7 x8 x9 x10 (ix2 s k) = x10 (ix2 s k) + ((gx (X s) G (dhn W (Z s)) k : ℝ) : EReal) := by
  rw [val_main_v168_apply, v164 h]
  rfl

/-- The second result: 1024 numbers of the gain's gradient, the two other gains', and zeros, 128 in a row. -/
def small (A : Fin 1024 → EReal) (x11 : FVec Ideal S384 .f32) (x12 : FVec Ideal S256 .f32) (n : ℕ) : EReal :=
  if h : n < 1024 then A ⟨n, h⟩
  else if h : n - 1024 < 384 then x11 (ix1 ⟨n - 1024, h⟩)
  else if h : n - 1024 - 384 < 256 then x12 (ix1 ⟨n - 1024 - 384, h⟩) else 0

theorem v167 (x11 : FVec Ideal S384 .f32) (x12 : FVec Ideal S256 .f32) (r : Fin 16) (l : Fin 128) :
    val_main_v167 (F := Ideal) x0 x2 x3 x4 x5 x6 x7 x8 x9 x11 x12 (ix2 r l) =
      small (fun k => ((∑ s, dhn W (Z s) k * (X s k * inv (X s)) : ℝ) : EReal)) x11 x12 (r.val * 128 + l.val) := by
  pointwise [val_main_v167, val_main_v166, val_main_v165, val_main_cst_35]
  simp only [v150 h]
  rfl

omit h in
/-- The third result. -/
theorem v171 (j : Fin 4) (e : Fin 1064) (s : Fin 4096) :
    val_main_v171 (F := Ideal) x3 x4 x5 x6 x7 x8 x9 (ix3 j e s) = val_main_v143 (F := Ideal) x3 x4 x5 x6 x7 x8 x9 (ix2 s ⟨j.val * 1064 + e.val, by omega⟩) := by
  rw [val_main_v171_apply, val_main_v170_apply, val_main_v169_apply]
  generalize val_main_v143 (F := Ideal) x3 x4 x5 x6 x7 x8 x9 = y
  have hj := j.isLt
  have he := e.isLt
  have hs := s.isLt
  refine congrArg y (funext fun a => ?_)
  match a with
  | ⟨0, _⟩ => exact Fin.ext (show ((j.val * 1064 + e.val) * 4096 + s.val) % 4096 = s.val by omega)
  | ⟨1, _⟩ => exact Fin.ext (show ((j.val * 1064 + e.val) * 4096 + s.val) / 4096 = j.val * 1064 + e.val by omega)

end Cert.Proof.XGrad

end
-- ==== Proof.XPoint.lean ====
/- What one point of the input projection's gradient kernel leaves. -/
module

public import proofs.«01_k».proof.Proof.Gen.XKernelIdeal.Value
public import proofs.«01_k».proof.Proof.XTile
public import proofs.«01_k».proof.Proof.XGrad
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.XPoint

open Idealize.ShloMosaic Cert.XKernelIdeal Cert.XKernelIdeal.Gen

variable (m : (ℓ : Loc nD τ sig) → Buf (Elt Ideal) ℓ) (c : Dev nD)

/-- The weight's copy in scratch is written at the first point and stays. -/
theorem held (t : Fin cfg0.N) : (outsAt0 m c t.val t.isLt).2.2.2.1 = V m c main_v44 := by
  refine Pipeline.eq_of_write_hold (fun n h => (outsAt0 m c n h).2.2.2.1) 8 (fun _ => V m c main_v44) (fun t h => ?_) (fun t h => ?_) t
  · rw [outsAt0_A m c t h (by omega)]
    frame_out
    rw [View.read_whole]
    exact View.canon_unit_zero rfl _ _
  · by_cases h7 : t.val % 8 = 7
    · rw [outsAt0_C m c t h h7]
      rfl
    · rw [outsAt0_B m c t h h7]
      rfl

theorem held_before (t : Fin cfg0.N) (h : ¬t.val % 8 = 0) :
    (outsAt0 m c (t.val - 1) (Nat.lt_of_le_of_lt (Nat.sub_le _ _) t.isLt)).2.2.2.1 = V m c main_v44 :=
  held m c ⟨t.val - 1, Nat.lt_of_le_of_lt (Nat.sub_le _ _) t.isLt⟩

/-- A load of the whole of a buffer that one copy filled reads what was copied. -/
theorem filled {S : Shape} {e : EltTy} {sp : Space} {κ : Kind} (v : View sig κ sp S e) {off : Fin S.rank → Nat} (h : off = fun _ => 0)
    (inb : ∀ a, off a + S.size a ≤ S.size a) (w : S.Idx → Elt Ideal e) :
    v.readCov [⟨Rect.whole S, w⟩] (Rect.unit off S.size inb).toLoadRect = w := by
  subst h
  exact View.readCov_unit_zero v rfl inb w

/-- The staged rows of a point: the tile's own and the first sixteen of the next, zeros after the last tile. -/
def dbuf (t : Fin cfg0.N) : Vec Ideal S528x512 .f32 :=
  View.canon [⟨Rect.unit ![512, 0] ![16, 512] inb_S528x512_S16x512_512_0, k0_pay21 (grid0.coords t) (iblk m c 5 t)⟩,
    ⟨Rect.unit ![0, 0] ![512, 512] inb_S528x512_S512x512_0_0, k0_pay20 (iblk m c 4 t)⟩]

/-- The gradient of the tile's projected rows. -/
def dzs (t : Fin cfg0.N) : Vec Ideal S512x4256 .bf16 :=
  XTile.dzt (grid0.coords t) (dbuf m c t) (iblk m c 0 t) (iblk m c 1 t) (iblk m c 2 t) (iblk m c 3 t) (iblk m c 6 t) (iblk m c 7 t)

theorem out13 (t : Fin cfg0.N) : (outsAt0 m c t.val t.isLt).1 =
    k0_pay2 (k0_pay35 (dzs m c t) (V m c main_v44)) (k0_pay36 (iblk m c 10 t)) (k0_pay37 (iblk m c 8 t)) (k0_pay38 (iblk m c 8 t)) (iblk m c 9 t) := by
  have hN := lt_of_lt_of_eq t.isLt N_0
  by_cases h : t.val % 8 = 0
  · rw [outsAt0_A m c t h (by omega)]
    frame_out
    rw [filled _ (by funext a; fin_cases a <;> rfl)]
    simp only [XTile.load, View.read_whole, ReadAs.apply, dzs, XTile.dzt, dbuf]
  · by_cases h7 : t.val % 8 = 7
    · rw [outsAt0_C m c t h h7]
      frame_out
      simp only [XTile.load, read_unread_whole, held_before m c t h, dzs, XTile.dzt, dbuf]
    · rw [outsAt0_B m c t h h7]
      frame_out
      simp only [XTile.load, read_unread_whole, held_before m c t h, dzs, XTile.dzt, dbuf]

/-- The first and second quarter of the tile's gradient, transposed. -/
def first (T : Vec Ideal S512x4256 .bf16) : Vec Ideal S1x1064x512 .bf16 :=
  shapeCast S1x1064x512 (transpose S1064x512 [1, 0] (extractStridedSlice S512x1064 ![0, 0] T slices_S512x4256_o0_0_S512x1064) transposes_S512x1064_p1_0_S1064x512) shapeCasts_S1064x512_S1x1064x512
def second (T : Vec Ideal S512x4256 .bf16) : Vec Ideal S1064x512 .bf16 :=
  transpose S1064x512 [1, 0] (extractStridedSlice S512x1064 ![0, 1064] T slices_S512x4256_o0_1064_S512x1064) transposes_S512x1064_p1_0_S1064x512

theorem first_eq (a0 : IVec S512x128 32) (a1 a2 a3 a4 : FVec Ideal S512x128 .f32) (a5 a6 a7 a8 : Vec Ideal S512x128 .f32) (a9 : Vec Ideal S512x384 .bf16) (a10 : Vec Ideal S512x256 .bf16) (a11 : Vec Ideal S512x128 .bf16) (a12 a13 : Vec Ideal S512x512 .bf16) (a14 : Vec Ideal S512x2048 .bf16) :
    k0_pay30 a0 a1 a2 a3 a4 a5 a6 a7 a8 a9 a10 a11 a12 a13 a14 = first (k0_pay29 a0 a1 a2 a3 a4 a5 a6 a7 a8 a9 a10 a11 a12 a13 a14) := rfl
theorem second_eq (a0 : IVec S512x128 32) (a1 a2 a3 a4 : FVec Ideal S512x128 .f32) (a5 a6 a7 a8 : Vec Ideal S512x128 .f32) (a9 : Vec Ideal S512x384 .bf16) (a10 : Vec Ideal S512x256 .bf16) (a11 : Vec Ideal S512x128 .bf16) (a12 a13 : Vec Ideal S512x512 .bf16) (a14 : Vec Ideal S512x2048 .bf16) :
    k0_pay31 a0 a1 a2 a3 a4 a5 a6 a7 a8 a9 a10 a11 a12 a13 a14 = second (k0_pay29 a0 a1 a2 a3 a4 a5 a6 a7 a8 a9 a10 a11 a12 a13 a14) := rfl

/-- The four stores of the transposed quarters, read at an index. -/
theorem quarters (T : Vec Ideal S512x4256 .bf16) (y : S4x1064x512.Idx) :
    View.canon (Val := Elt Ideal) [⟨Rect.unit ![3, 0, 0] ![1, 1064, 512] inb_S4x1064x512_S1x1064x512_3_0_0, k0_pay34 (F := Ideal) T⟩,
      ⟨Rect.unit ![2, 0, 0] ![1, 1064, 512] inb_S4x1064x512_S1x1064x512_2_0_0, k0_pay33 (F := Ideal) T⟩,
      ⟨Rect.unit ![1, 0, 0] ![1, 1064, 512] inb_S4x1064x512_S1x1064x512_1_0_0, k0_pay32 (F := Ideal) (second T)⟩,
      ⟨Rect.unit ![0, 0, 0] ![1, 1064, 512] inb_S4x1064x512_S1x1064x512_0_0_0, first T⟩] y
    = T (ix2 (y 2) ⟨(y 0).val * 1064 + (y 1).val, by have h0 : (y 0).val < 4 := (y 0).isLt; have h1 : (y 1).val < 1064 := (y 1).isLt; omega⟩) := by
  canon_tiles x h
  all_goals (pointwise [k0_pay34, k0_pay33, k0_pay32, first, second]; blk_ext)

/-- The tile's gradient, transposed and cut in four along the columns. -/
theorem out15 (t : Fin cfg0.N) (j : Fin 4) (e : Fin 1064) (r : Fin 512) : (outsAt0 m c t.val t.isLt).2.2.1 (ix3 j e r)
    = dzs m c t (ix2 r ⟨j.val * 1064 + e.val, by omega⟩) := by
  have hN := lt_of_lt_of_eq t.isLt N_0
  by_cases h : t.val % 8 = 0
  · rw [outsAt0_A m c t h (by omega)]
    frame_out
    simp only [XTile.load, first_eq, second_eq, dzs, XTile.dzt, dbuf]
    exact quarters _ _
  · by_cases h7 : t.val % 8 = 7
    · rw [outsAt0_C m c t h h7]
      frame_out
      simp only [XTile.load, first_eq, second_eq, dzs, XTile.dzt, dbuf]
      exact quarters _ _
    · rw [outsAt0_B m c t h h7]
      frame_out
      simp only [XTile.load, first_eq, second_eq, dzs, XTile.dzt, dbuf]
      exact quarters _ _

theorem stored (v : FVec Ideal S1x1024 .f32) : k0_pay1 v = v := by
  funext y
  pointwise [k0_pay1]
  blk_ext

/-- A point adds its tile's column sums to the scale's gradient held in scratch. -/
theorem acc0 (t : Fin cfg0.N) (h : t.val % 8 = 0) : (outsAt0 m c t.val t.isLt).2.2.2.2
    = k0_pay39 (dzs m c t) (V m c main_v44) (iblk m c 8 t) (k0_pay19 (F := Ideal)) := by
  rw [outsAt0_A m c t h (by omega)]
  frame_out
  rw [filled _ (by funext a; fin_cases a <;> rfl)]
  simp only [XTile.load, View.read_whole, ReadAs.apply, dzs, XTile.dzt, dbuf]
  exact stored _

theorem acc1 (t : Fin cfg0.N) (h : ¬t.val % 8 = 0) : (outsAt0 m c t.val t.isLt).2.2.2.2
    = k0_pay39 (dzs m c t) (V m c main_v44) (iblk m c 8 t) (outsAt0 m c (t.val - 1) (Nat.lt_of_le_of_lt (Nat.sub_le _ _) t.isLt)).2.2.2.2 := by
  by_cases h7 : t.val % 8 = 7
  · rw [outsAt0_C m c t h h7]
    frame_out
    simp only [XTile.load, read_unread_whole, held_before m c t h, dzs, XTile.dzt, dbuf]
    exact stored _
  · rw [outsAt0_B m c t h h7]
    frame_out
    simp only [XTile.load, read_unread_whole, held_before m c t h, dzs, XTile.dzt, dbuf]
    exact stored _

section Small
variable (A : Fin 1024 → EReal) (x11 : FVec Ideal S384 .f32) (x12 : FVec Ideal S256 .f32) {n : ℕ}
theorem small_gain (h : n < 1024) : XGrad.small A x11 x12 n = A ⟨n, h⟩ := by
  simp only [XGrad.small, h, dite_true]
theorem small_q (h1 : 1024 ≤ n) (h : n - 1024 < 384) : XGrad.small A x11 x12 n = x11 (ix1 ⟨n - 1024, h⟩) := by
  have e1 : ¬ n < 1024 := by omega
  simp only [XGrad.small, e1, h, dite_true, dite_false]
theorem small_kv (h1 : 1408 ≤ n) (h : n - 1024 - 384 < 256) : XGrad.small A x11 x12 n = x12 (ix1 ⟨n - 1024 - 384, h⟩) := by
  have e1 : ¬ n < 1024 := by omega
  have e2 : ¬ n - 1024 < 384 := by omega
  simp only [XGrad.small, e1, e2, h, dite_true, dite_false]
theorem small_zero (h : 1664 ≤ n) : XGrad.small A x11 x12 n = 0 := by
  have e1 : ¬ n < 1024 := by omega
  have e2 : ¬ n - 1024 < 384 := by omega
  have e3 : ¬ n - 1024 - 384 < 256 := by omega
  simp only [XGrad.small, e1, e2, e3, dite_false]
end Small

/-- The last point's sixteen rows of 128: the scale's gradient, then the two other gradients, then zeros. -/
theorem packed (A : Vec Ideal S1x1024 .f32) (q : Vec Ideal S1x384 .f32) (kv : Vec Ideal S1x256 .f32) (y : S16x128.Idx) :
    View.canon (Val := Elt Ideal) (e := .f32) [⟨Rect.unit ![13, 0] ![3, 128] inb_S16x128_S3x128_13_0, k0_pay6 (F := Ideal)⟩,
        ⟨Rect.unit ![12, 0] ![1, 128] inb_S16x128_S1x128_12_0, k0_pay5 (F := Ideal) (k0_pay8 kv)⟩,
        ⟨Rect.unit ![11, 0] ![1, 128] inb_S16x128_S1x128_11_0, k0_pay4 (F := Ideal) (k0_pay8 kv)⟩,
        ⟨Rect.unit ![10, 0] ![1, 128] inb_S16x128_S1x128_10_0, k0_pay3 (F := Ideal) (k0_pay7 q)⟩,
        ⟨Rect.unit ![9, 0] ![1, 128] inb_S16x128_S1x128_9_0, k0_pay18 (F := Ideal) q⟩,
        ⟨Rect.unit ![8, 0] ![1, 128] inb_S16x128_S1x128_8_0, k0_pay17 (F := Ideal) q⟩,
        ⟨Rect.unit ![7, 0] ![1, 128] inb_S16x128_S1x128_7_0, k0_pay16 (F := Ideal) A⟩,
        ⟨Rect.unit ![6, 0] ![1, 128] inb_S16x128_S1x128_6_0, k0_pay15 (F := Ideal) A⟩,
        ⟨Rect.unit ![5, 0] ![1, 128] inb_S16x128_S1x128_5_0, k0_pay14 (F := Ideal) A⟩,
        ⟨Rect.unit ![4, 0] ![1, 128] inb_S16x128_S1x128_4_0, k0_pay13 (F := Ideal) A⟩,
        ⟨Rect.unit ![3, 0] ![1, 128] inb_S16x128_S1x128_3_0, k0_pay12 (F := Ideal) A⟩,
        ⟨Rect.unit ![2, 0] ![1, 128] inb_S16x128_S1x128_2_0, k0_pay11 (F := Ideal) A⟩,
        ⟨Rect.unit ![1, 0] ![1, 128] inb_S16x128_S1x128_1_0, k0_pay10 (F := Ideal) A⟩,
        ⟨Rect.unit ![0, 0] ![1, 128] inb_S16x128_S1x128_0_0, k0_pay9 (F := Ideal) A⟩] y
    = XGrad.small (fun k => A (ix2 0 k)) (fun e => q (ix2 0 (e 0))) (fun e => kv (ix2 0 (e 0))) ((y 0).val * 128 + (y 1).val) := by
  canon_tiles x h using View.cover_of_tiledBy _ ![1, 128] (by sl_kernel_rfl) y
  all_goals (pointwise [k0_pay3, k0_pay4, k0_pay5, k0_pay6, k0_pay7, k0_pay8, k0_pay9, k0_pay10, k0_pay11, k0_pay12, k0_pay13, k0_pay14, k0_pay15, k0_pay16, k0_pay17, k0_pay18])
  · exact (small_zero _ _ _ (by omega)).symm
  · (rw [small_kv _ _ _ (by omega) (by omega)]; blk_ext)
  · (rw [small_kv _ _ _ (by omega) (by omega)]; blk_ext)
  · (rw [small_q _ _ _ (by omega) (by omega)]; blk_ext)
  · (rw [small_q _ _ _ (by omega) (by omega)]; blk_ext)
  · (rw [small_q _ _ _ (by omega) (by omega)]; blk_ext)
  all_goals (rw [small_gain _ _ _ (by omega)]; blk_ext)

theorem out14 (t : Fin cfg0.N) (h7 : t.val % 8 = 7) (y : S16x128.Idx) : (outsAt0 m c t.val t.isLt).2.1 y =
    XGrad.small (fun k => (outsAt0 m c t.val t.isLt).2.2.2.2 (ix2 0 k)) (fun e => iblk m c 11 t (ix2 0 (e 0))) (fun e => iblk m c 12 t (ix2 0 (e 0))) ((y 0).val * 128 + (y 1).val) := by
  have h : ¬ t.val % 8 = 0 := by omega
  rw [acc1 m c t h, outsAt0_C m c t h h7]
  frame_out
  simp only [XTile.load, read_unread_whole, held_before m c t h, stored, dzs, XTile.dzt, dbuf]
  exact packed _ _ _ _

end Cert.Proof.XPoint

end
-- ==== Proof.XHost.lean ====
/- What the input projection's gradient kernel reads: its blocks of the arrays that the host line prepares. -/
module

public import proofs.«01_k».proof.Proof.XPoint
public import Idealize.ShloMosaic.Lib.StableHlo.ReadAt

@[expose] public section

set_option maxRecDepth 16384

noncomputable section

namespace Cert.Proof.XHost

open Idealize.ShloMosaic Cert.XKernelIdeal Cert.XKernelIdeal.Gen Cert.Proof.Reals Cert.Proof.XMath

variable (m : (ℓ : Loc nD τ sig) → Buf (Elt Ideal) ℓ) (c : Dev nD)

/-- The arguments that must be finite, as reals. -/
structure Args (X : Fin 4096 → Fin 1024 → ℝ) (G : Fin 1024 → ℝ) (W : Fin 1024 → Fin 4256 → ℝ)
    (zq : Fin 4096 → Fin 384 → ℝ) (zkv : Fin 4096 → Fin 256 → ℝ) (zkr : Fin 4096 → Fin 32 → ℝ) (ga d gp : Fin 4096 → Fin 512 → ℝ) (gm : Fin 4096 → Fin 2048 → ℝ) : Prop where
  x : ∀ s k, (show FVec Ideal S4096x1024 .f32 from m ((c.tc : Thread nD τ).loc main_arg0)) (ix2 s k) = ((X s k : ℝ) : EReal)
  g : ∀ k, (show FVec Ideal S1024 .f32 from m ((c.tc : Thread nD τ).loc main_arg1)) (ix1 k) = ((G k : ℝ) : EReal)
  w : ∀ k e, (show FVec Ideal S1024x4256 .f32 from m ((c.tc : Thread nD τ).loc main_arg2)) (ix2 k e) = ((W k e : ℝ) : EReal)
  zq : ∀ s e, (show FVec Ideal S4096x384 .f32 from m ((c.tc : Thread nD τ).loc main_arg3)) (ix2 s e) = ((zq s e : ℝ) : EReal)
  zkv : ∀ s e, (show FVec Ideal S4096x256 .f32 from m ((c.tc : Thread nD τ).loc main_arg4)) (ix2 s e) = ((zkv s e : ℝ) : EReal)
  zkr : ∀ s e, (show FVec Ideal S4096x32 .f32 from m ((c.tc : Thread nD τ).loc main_arg5)) (ix2 s e) = ((zkr s e : ℝ) : EReal)
  ga : ∀ s e, (show FVec Ideal S4096x512 .f32 from m ((c.tc : Thread nD τ).loc main_arg6)) (ix2 s e) = ((ga s e : ℝ) : EReal)
  d : ∀ s e, (show FVec Ideal S4096x512 .f32 from m ((c.tc : Thread nD τ).loc main_arg7)) (ix2 s e) = ((d s e : ℝ) : EReal)
  gp : ∀ s e, (show FVec Ideal S4096x512 .f32 from m ((c.tc : Thread nD τ).loc main_arg8)) (ix2 s e) = ((gp s e : ℝ) : EReal)
  gm : ∀ s e, (show FVec Ideal S4096x2048 .f32 from m ((c.tc : Thread nD τ).loc main_arg9)) (ix2 s e) = ((gm s e : ℝ) : EReal)

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![min ((t.val + 1) * 32) 255, 0] ∧ win0_6.index t = ![t.val, 0] ∧ win0_7.index t = ![t.val, 0] ∧ win0_8.index t = ![t.val, 0] ∧ win0_9.index t = ![t.val, 0]
    ∧ win0_10.index t = ![0, 0] ∧ win0_11.index t = ![0, 0] ∧ win0_12.index t = ![0, 0] ∧ win0_13.index t = ![t.val, 0] ∧ win0_14.index t = ![0, 0] ∧ win0_15.index t = ![0, 0, t.val]
    ∧ (grid0.coords t 0).val = t.val :=
  (by decide +kernel : ∀ t : Fin grid0.N, _)

theorem count (w : ℕ) (hw : w < 2 ^ 31) (s : Fin 4096) : FloatOps.sitofp (F := Ideal) .f32 (IntOp.minsi (IntOp.addi (BitVec.ofNat 32 s.val) 1#32) (BitVec.ofNat 32 w))
    = (((min (s.val + 1) w : ℕ) : ℝ) : EReal) := by
  have e : IntOp.addi (BitVec.ofNat 32 s.val) 1#32 = BitVec.ofNat 32 (s.val + 1) := by rw [BitVec.ofNat_add]; rfl
  rw [e, minsi_word (by omega) hw, sitofp_word (by omega)]

variable {m c} {X : Fin 4096 → Fin 1024 → ℝ} {G : Fin 1024 → ℝ} {W : Fin 1024 → Fin 4256 → ℝ}
  {zq : Fin 4096 → Fin 384 → ℝ} {zkv : Fin 4096 → Fin 256 → ℝ} {zkr : Fin 4096 → Fin 32 → ℝ} {ga d gp : Fin 4096 → Fin 512 → ℝ} {gm : Fin 4096 → Fin 2048 → ℝ}
  (h : Args m c X G W zq zkv zkr ga d gp gm)
include h

theorem v44 (e : Fin 4256) (k : Fin 1024) : V m c main_v44 (ix2 e k) = ((W k e : ℝ) : EReal) := by
  rw [← h.w]
  simp only [V, hostOps0, hostOps0_1, hostOps0_2, List.flatten_cons, List.flatten_nil, List.cons_append, List.nil_append, List.append_nil]
  entry_read
  pointwise

theorem v35 (s : Fin 4096) (e : Fin 512) : V m c main_v35 (ix2 s e) = ((share (win e.val) (fun t => d t e) s.val : ℝ) : EReal) := by
  simp only [V, hostOps0, hostOps0_1, hostOps0_2, List.flatten_cons, List.flatten_nil, List.cons_append, List.nil_append, List.append_nil]
  after_reads_simp
  generalize hu : StableHlo.upto _ _ 44 = u
  show Host.divf (F := Ideal) (φ := .f32) (show FVec Ideal S4096x512 .f32 from m ((c.tc : Thread nD τ).loc main_arg7)) (concatenate (α := EReal) S4096x512 1 [⟨S4096x128, u (Proc.tc.devRef main_v12)⟩, ⟨S4096x128, u (Proc.tc.devRef main_v19)⟩, ⟨S4096x128, u (Proc.tc.devRef main_v26)⟩, ⟨S4096x128, u (Proc.tc.devRef main_v33)⟩] concatenates_S4096x128_S4096x128_S4096x128_S4096x128_S4096x512_d1) (ix2 s e) = _
  have h12 : ∀ f, u (Proc.tc.devRef main_v12) (ix2 s f) = (((min (s.val + 1) 2 : ℕ) : ℝ) : EReal) := fun f => by
    rw [← hu, ← count 2 (by omega) s]; after_reads_simp; pointwise
  have h19 : ∀ f, u (Proc.tc.devRef main_v19) (ix2 s f) = (((min (s.val + 1) 4 : ℕ) : ℝ) : EReal) := fun f => by
    rw [← hu, ← count 4 (by omega) s]; after_reads_simp; pointwise
  have h26 : ∀ f, u (Proc.tc.devRef main_v26) (ix2 s f) = (((min (s.val + 1) 8 : ℕ) : ℝ) : EReal) := fun f => by
    rw [← hu, ← count 8 (by omega) s]; after_reads_simp; pointwise
  have h33 : ∀ f, u (Proc.tc.devRef main_v33) (ix2 s f) = (((min (s.val + 1) 16 : ℕ) : ℝ) : EReal) := fun f => by
    rw [← hu, ← count 16 (by omega) s]; after_reads_simp; pointwise
  clear hu
  pointwise
  refine (congrArg (fun v => Ideal.div v _) (h.d s e)).trans ?_
  have hp : 0 < win e.val := by unfold win; positivity
  have hp' : 0 < min (s.val + 1) (win e.val) := by omega
  rw [share, dif_pos s.isLt, ← div_real _ (by positivity)]
  have he := e.isLt
  refine congrArg (Ideal.div _) ?_
  unfold win
  split
  · rw [show e.val / 128 + 1 = 1 by omega]; exact h12 _
  · split
    · rw [show e.val / 128 + 1 = 2 by omega]; exact h19 _
    · split
      · rw [show e.val / 128 + 1 = 3 by omega]; exact h26 _
      · rw [show e.val / 128 + 1 = 4 by omega]; exact h33 _

theorem v3 (s : Fin 4096) (e : Fin 32) (f : Fin 128) (hf : f.val = e.val) : V m c main_v3 (ix2 s f) = ((zkr s e : ℝ) : EReal) := by
  rw [← h.zkr]
  simp only [V, hostOps0, hostOps0_1, hostOps0_2, List.flatten_cons, List.flatten_nil, List.cons_append, List.nil_append, List.append_nil]
  entry_read
  show pad (α := EReal) S4096x128 ![0, 0] ![0, 96] ![0, 0] (show FVec Ideal S4096x32 .f32 from m ((c.tc : Thread nD τ).loc main_arg5)) (sitofp (F := Ideal) .f32 (constantI S_ 32 0#32)) pads_S4096x32_S4096x128_000_0960 h_S_ (ix2 s f) = _
  pointwise
  simp only [hf, e.isLt, dite_true]

theorem b0 (t : Fin cfg0.N) (r : Fin 512) (s : Fin 4096) (hs : s.val = 512 * t.val + r.val) (e : Fin 384) : iblk m c 0 t (ix2 r e) = ((zq s e : ℝ) : EReal) := by
  rw [← h.zq]
  blk_point [iblk, V, idx t]

theorem b1 (t : Fin cfg0.N) (r : Fin 512) (s : Fin 4096) (hs : s.val = 512 * t.val + r.val) (e : Fin 256) : iblk m c 1 t (ix2 r e) = ((zkv s e : ℝ) : EReal) := by
  rw [← h.zkv]
  blk_point [iblk, V, idx t]

theorem b3 (t : Fin cfg0.N) (r : Fin 512) (s : Fin 4096) (hs : s.val = 512 * t.val + r.val) (e : Fin 512) : iblk m c 3 t (ix2 r e) = ((ga s e : ℝ) : EReal) := by
  rw [← h.ga]
  blk_point [iblk, V, idx t]

theorem b6 (t : Fin cfg0.N) (r : Fin 512) (s : Fin 4096) (hs : s.val = 512 * t.val + r.val) (e : Fin 512) : iblk m c 6 t (ix2 r e) = ((gp s e : ℝ) : EReal) := by
  rw [← h.gp]
  blk_point [iblk, V, idx t]

theorem b7 (t : Fin cfg0.N) (r : Fin 512) (s : Fin 4096) (hs : s.val = 512 * t.val + r.val) (e : Fin 2048) : iblk m c 7 t (ix2 r e) = ((gm s e : ℝ) : EReal) := by
  rw [← h.gm]
  blk_point [iblk, V, idx t]

theorem b8 (t : Fin cfg0.N) (r : Fin 512) (s : Fin 4096) (hs : s.val = 512 * t.val + r.val) (e : Fin 1024) : iblk m c 8 t (ix2 r e) = ((X s e : ℝ) : EReal) := by
  rw [← h.x]
  blk_point [iblk, V, idx t]

theorem b2 (t : Fin cfg0.N) (r : Fin 512) (s : Fin 4096) (hs : s.val = 512 * t.val + r.val) (e : Fin 32) (f : Fin 128) (hf : f.val = e.val) : iblk m c 2 t (ix2 r f) = ((zkr s e : ℝ) : EReal) := by
  rw [← v3 h s e f hf]
  blk_ext [iblk, idx t]

theorem b4 (t : Fin cfg0.N) (r : Fin 512) (s : Fin 4096) (hs : s.val = 512 * t.val + r.val) (e : Fin 512) : iblk m c 4 t (ix2 r e) = ((share (win e.val) (fun t => d t e) s.val : ℝ) : EReal) := by
  rw [← v35 h s e]
  blk_ext [iblk, idx t]

theorem b5 (t : Fin cfg0.N) (r : Fin 16) (s : Fin 4096) (hs : s.val = 512 * (t.val + 1) + r.val) (e : Fin 512) : iblk m c 5 t (ix2 r e) = ((share (win e.val) (fun t => d t e) s.val : ℝ) : EReal) := by
  rw [← v35 h s e]
  blk_ext [iblk, idx t]

omit h in
theorem v38 (z : Fin 1) (k : Fin 1024) : V m c main_v38 (ix2 z k) = (show FVec Ideal S1024 .f32 from m ((c.tc : Thread nD τ).loc main_arg1)) (ix1 k) := by
  simp only [V, hostOps0, hostOps0_1, hostOps0_2, List.flatten_cons, List.flatten_nil, List.cons_append, List.nil_append, List.append_nil]
  entry_read
  pointwise

theorem b10 (t : Fin cfg0.N) (z : Fin 1) (k : Fin 1024) : iblk m c 10 t (ix2 z k) = ((G k : ℝ) : EReal) := by
  rw [← h.g]
  refine Eq.trans ?_ (v38 (m := m) (c := c) z k)
  blk_ext [iblk, idx t]

omit h in
theorem b9 (t : Fin cfg0.N) (r : Fin 512) (s : Fin 4096) (hs : s.val = 512 * t.val + r.val) (k : Fin 1024) : iblk m c 9 t (ix2 r k) = (show FVec Ideal S4096x1024 .f32 from m ((c.tc : Thread nD τ).loc main_arg10)) (ix2 s k) := by
  blk_point [iblk, V, idx t]

omit h in
theorem v39 (z : Fin 1) (k : Fin 384) : V m c main_v39 (ix2 z k) = (show FVec Ideal S384 .f32 from m ((c.tc : Thread nD τ).loc main_arg11)) (ix1 k) := by
  simp only [V, hostOps0, hostOps0_1, hostOps0_2, List.flatten_cons, List.flatten_nil, List.cons_append, List.nil_append, List.append_nil]
  entry_read
  pointwise

omit h in
theorem b11 (t : Fin cfg0.N) (z : Fin 1) (k : Fin 384) : iblk m c 11 t (ix2 z k) = (show FVec Ideal S384 .f32 from m ((c.tc : Thread nD τ).loc main_arg11)) (ix1 k) := by
  refine Eq.trans ?_ (v39 (m := m) (c := c) z k)
  blk_ext [iblk, idx t]

omit h in
theorem v40 (z : Fin 1) (k : Fin 256) : V m c main_v40 (ix2 z k) = (show FVec Ideal S256 .f32 from m ((c.tc : Thread nD τ).loc main_arg12)) (ix1 k) := by
  simp only [V, hostOps0, hostOps0_1, hostOps0_2, List.flatten_cons, List.flatten_nil, List.cons_append, List.nil_append, List.append_nil]
  entry_read
  pointwise

omit h in
theorem b12 (t : Fin cfg0.N) (z : Fin 1) (k : Fin 256) : iblk m c 12 t (ix2 z k) = (show FVec Ideal S256 .f32 from m ((c.tc : Thread nD τ).loc main_arg12)) (ix1 k) := by
  refine Eq.trans ?_ (v40 (m := m) (c := c) z k)
  blk_ext [iblk, idx t]

/-- The staged rows: the tile's own and the sixteen that follow, zeros past the last. -/
theorem dbuf_apply (t : Fin cfg0.N) (r : Fin 528) (e : Fin 512) : XPoint.dbuf m c t (ix2 r e) = ((share (win e.val) (fun t => d t e) (512 * (grid0.coords t 0).val + r.val) : ℝ) : EReal) := by
  have hN := lt_of_lt_of_eq t.isLt N_0
  have hi := (idx t).2.2.2.2.2.2.2.2.2.2.2.2.2.2.2.2
  rw [hi]
  unfold XPoint.dbuf
  by_cases hr : r.val < 512
  · rw [View.canon_cons_of_not_mem _ _ (fun hm => ?_)]
    · rw [show ix2 r e = (Rect.unit (s := S528x512) ![0, 0] ![512, 512] inb_S528x512_S512x512_0_0).emb (ix2 (⟨r.val, hr⟩ : Fin 512) e) by blk_ext, View.canon_cons_emb]
      pointwise [k0_pay20]
      exact b4 h t ⟨r.val, hr⟩ ⟨512 * t.val + r.val, by omega⟩ rfl e
    · have := ((Rect.mem_set_unit (inb := inb_S528x512_S16x512_512_0).1 hm) 0).1
      exact absurd hr (Nat.not_lt.2 this)
  · have hr' := r.isLt
    rw [show ix2 r e = (Rect.unit (s := S528x512) ![512, 0] ![16, 512] inb_S528x512_S16x512_512_0).emb (ix2 (⟨r.val - 512, by omega⟩ : Fin 16) e) by blk_ext, View.canon_cons_emb]
    pointwise [k0_pay21]
    rw [hi]
    by_cases h7 : t.val < 7
    · rw [show Scalar.cmpi .slt (BitVec.ofNat 32 t.val) 7#32 = 1#1 by interval_cases t.val <;> rfl]
      exact b5 h t ⟨r.val - 512, by omega⟩ ⟨512 * t.val + r.val, by omega⟩ (by show 512 * t.val + r.val = 512 * (t.val + 1) + (r.val - 512); omega) e
    · rw [show Scalar.cmpi .slt (BitVec.ofNat 32 t.val) 7#32 = 0#1 by (have : t.val = 7 := by omega); rw [this]; rfl, share, dif_neg (by omega)]
      exact EReal.coe_zero.symm

theorem dzs_apply (t : Fin cfg0.N) (r : Fin 512) (s : Fin 4096) (hs : s.val = 512 * t.val + r.val) (e : Fin 4256) :
    XPoint.dzs m c t (ix2 r e) = ((dz zq zkv zkr ga d gp gm s e : ℝ) : EReal) :=
  XTile.dzt_apply (grid0.coords t) (XPoint.dbuf m c t) d (dbuf_apply h t) _ _ _ _ _ _ r s (by rw [(idx t).2.2.2.2.2.2.2.2.2.2.2.2.2.2.2.2]; exact hs)
    (b0 h t r s hs) (b1 h t r s hs) (b2 h t r s hs) (b3 h t r s hs) (b6 h t r s hs) (b7 h t r s hs) e

theorem norm (t : Fin cfg0.N) : XTile.Norm (iblk m c 8 t) (iblk m c 10 t) (V m c main_v44) (XPoint.dzs m c t)
    (fun r => X ⟨512 * t.val + r.val, by have := lt_of_lt_of_eq t.isLt N_0; omega⟩) G W
    (fun r => dz zq zkv zkr ga d gp gm ⟨512 * t.val + r.val, by have := lt_of_lt_of_eq t.isLt N_0; omega⟩) where
  x r k := b8 h t r _ rfl k
  g := b10 h t
  w e k := v44 h e k
  z r e := dzs_apply h t r _ rfl e

end Cert.Proof.XHost

end
-- ==== Proof.XValue.lean ====
/- What the input projection's gradient kernel's three output arrays hold after its run. -/
module

public import proofs.«01_k».proof.Proof.XHost

@[expose] public section

set_option maxRecDepth 16384

noncomputable section

namespace Cert.Proof.XValue

open Idealize.ShloMosaic Cert.XKernelIdeal Cert.XKernelIdeal.Gen Cert.Proof.Reals Cert.Proof.XMath Cert.Proof.XHost

variable {m : (ℓ : Loc nD τ sig) → Buf (Elt Ideal) ℓ} {c : Dev nD} {X : Fin 4096 → Fin 1024 → ℝ} {G : Fin 1024 → ℝ} {W : Fin 1024 → Fin 4256 → ℝ}
  {zq : Fin 4096 → Fin 384 → ℝ} {zkv : Fin 4096 → Fin 256 → ℝ} {zkr : Fin 4096 → Fin 32 → ℝ} {ga d gp : Fin 4096 → Fin 512 → ℝ} {gm : Fin 4096 → Fin 2048 → ℝ}
  (h : Args m c X G W zq zkv zkr ga d gp gm)
include h

theorem arr13 (s : Fin 4096) (k : Fin 1024) : (dats m 0 c).arrAt 13 cfg0.N (ix2 s k)
    = (show FVec Ideal S4096x1024 .f32 from m ((c.tc : Thread nD τ).loc main_arg10)) (ix2 s k) + ((gx (X s) G (dhn W (dz zq zkv zkr ga d gp gm s)) k : ℝ) : EReal) := by
  refine congrFun ((dats m 0 c).arrAt_eq_of_covers 13 (fun i : S4096x1024.Idx => (show FVec Ideal S4096x1024 .f32 from m ((c.tc : Thread nD τ).loc main_arg10)) i
    + ((gx (X (i 0)) G (dhn W (dz zq zkv zkr ga d gp gm (i 0))) (i 1) : ℝ) : EReal)) (by decide +kernel) fun t hf y => ?_) (ix2 s k)
  have hN := lt_of_lt_of_eq t.isLt N_0
  blk_simp
  rw [after0_13, XPoint.out13]
  obtain ⟨r, l, rfl⟩ : ∃ (r : Fin 512) (l : Fin 1024), y = ix2 r l := ⟨⟨(y 0).val, (y 0).isLt⟩, ⟨(y 1).val, (y 1).isLt⟩, by blk_ext⟩
  have hi : (win0_13.blk t).view.emb (ix2 r l) = ix2 (⟨512 * t.val + r.val, by omega⟩ : Fin 4096) l := by blk_ext [idx t]
  rw [hi, XTile.pay2 (norm h t), b9 t r (⟨512 * t.val + r.val, by omega⟩ : Fin 4096) rfl]
  rfl

/-- The third output as a function of its index. -/
def rows (Z : Fin 4096 → Fin 4256 → ℝ) (i : S4x1064x4096.Idx) : EReal :=
  ((Z (i 2) ⟨(i 0).val * 1064 + (i 1).val, by
    have h0 : (i 0).val < 4 := (i 0).isLt
    have h1 : (i 1).val < 1064 := (i 1).isLt
    omega⟩ : ℝ) : EReal)

theorem arr15 (j : Fin 4) (e : Fin 1064) (s : Fin 4096) : (dats m 0 c).arrAt 15 cfg0.N (ix3 j e s)
    = ((dz zq zkv zkr ga d gp gm s ⟨j.val * 1064 + e.val, by omega⟩ : ℝ) : EReal) := by
  refine congrFun ((dats m 0 c).arrAt_eq_of_covers 15 (rows (dz zq zkv zkr ga d gp gm)) (by decide +kernel) fun t hf y => ?_) (ix3 j e s)
  have hN := lt_of_lt_of_eq t.isLt N_0
  blk_simp
  rw [after0_15]
  obtain ⟨j, e, r, rfl⟩ : ∃ (j : Fin 4) (e : Fin 1064) (r : Fin 512), y = ix3 j e r := ⟨⟨(y 0).val, (y 0).isLt⟩, ⟨(y 1).val, (y 1).isLt⟩, ⟨(y 2).val, (y 2).isLt⟩, by blk_ext⟩
  have hi : (win0_15.blk t).view.emb (ix3 j e r) = ix3 j e (⟨512 * t.val + r.val, by omega⟩ : Fin 4096) := by blk_ext [idx t]
  rw [hi, XPoint.out15, dzs_apply h t r (⟨512 * t.val + r.val, by omega⟩ : Fin 4096) rfl]
  rfl

/-- The gain's gradient, summed over the points. -/
theorem acc (z : Fin 1) (k : Fin 1024) : (outsAt0 m c t0_7.val t0_7.isLt).2.2.2.2 (ix2 z k)
    = ((∑ s, dhn W (dz zq zkv zkr ga d gp gm s) k * (X s k * inv (X s)) : ℝ) : EReal) := by
  rw [Pipeline.eq_sum_fin_of_reset_step_apply_last (fun n h => (outsAt0 m c n h).2.2.2.2) 8 (fun _ => 0)
    (fun t j => ((∑ r : Fin 512, dhn W (dz zq zkv zkr ga d gp gm ⟨512 * t.val + r.val, by have := lt_of_lt_of_eq t.isLt N_0; omega⟩) (j 1)
      * (X ⟨512 * t.val + r.val, by have := lt_of_lt_of_eq t.isLt N_0; omega⟩ (j 1) * inv (X ⟨512 * t.val + r.val, by have := lt_of_lt_of_eq t.isLt N_0; omega⟩)) : ℝ) : EReal))
    (fun t h0 j => ?_) (fun t h0 j => ?_) (le_of_eq N_0) t0_7 rfl (ix2 z k)]
  · rw [zero_add, ← coe_sum]
    congr 1
    exact Fin.sum_mul_add_congr (fun t r hl => by
      rw [show (⟨512 * t.val + r.val, by have := lt_of_lt_of_eq t.isLt N_0; omega⟩ : Fin 4096) = ⟨t.val * 512 + r.val, hl⟩ from Fin.ext (by show 512 * t.val + r.val = t.val * 512 + r.val; omega)]
      rfl) (by rw [show cfg0.N = 8 from N_0])
  · rw [XPoint.acc0 m c t h0, show j = ix2 (0 : Fin 1) (⟨(j 1).val, (j 1).isLt⟩ : Fin 1024) by blk_ext, XTile.pay39 (norm h t)]
    congr 1
    pointwise [k0_pay19]
  · rw [XPoint.acc1 m c t h0, show j = ix2 (0 : Fin 1) (⟨(j 1).val, (j 1).isLt⟩ : Fin 1024) by blk_ext, XTile.pay39 (norm h t)]
    rfl

theorem arr14 (r : Fin 16) (l : Fin 128) : (dats m 0 c).arrAt 14 cfg0.N (ix2 r l)
    = XGrad.small (fun k => ((∑ s, dhn W (dz zq zkv zkr ga d gp gm s) k * (X s k * inv (X s)) : ℝ) : EReal))
      (show FVec Ideal S384 .f32 from m ((c.tc : Thread nD τ).loc main_arg11)) (show FVec Ideal S256 .f32 from m ((c.tc : Thread nD τ).loc main_arg12)) (r.val * 128 + l.val) := by
  rw [(dats m 0 c).arrAt_eq_of_after_last 14 t0_7 (by decide +kernel) (fun i : S16x128.Idx => XGrad.small (fun k => ((∑ s, dhn W (dz zq zkv zkr ga d gp gm s) k * (X s k * inv (X s)) : ℝ) : EReal))
      (show FVec Ideal S384 .f32 from m ((c.tc : Thread nD τ).loc main_arg11)) (show FVec Ideal S256 .f32 from m ((c.tc : Thread nD τ).loc main_arg12)) ((i 0).val * 128 + (i 1).val)) fun y => ?_]
  blk_simp
  rw [after0_14, XPoint.out14 m c t0_7 rfl]
  simp only [acc h]
  refine (cast_eq _ _).trans ?_
  rw [show (fun e : S384.Idx => iblk m c 11 t0_7 (ix2 0 (e 0))) = (show FVec Ideal S384 .f32 from m ((c.tc : Thread nD τ).loc main_arg11)) from funext fun e => (b11 t0_7 0 (e 0)).trans (congrArg _ (by blk_ext)),
    show (fun e : S256.Idx => iblk m c 12 t0_7 (ix2 0 (e 0))) = (show FVec Ideal S256 .f32 from m ((c.tc : Thread nD τ).loc main_arg12)) from funext fun e => (b12 t0_7 0 (e 0)).trans (congrArg _ (by blk_ext))]
  rfl

end Cert.Proof.XValue

end
-- ==== Proof.XClaim.lean ====
/- The gradient of the input projection's rows: the kernel's three results are the reference's. -/
module

public import proofs.«01_k».proof.Proof.XValue
public import proofs.«01_k».proof.Proof.Gen.XReferenceIdeal.Run
public import proofs.«01_k».proof.Defs
public import Idealize.ShloMosaic.Lib.Claim

@[expose] public section

set_option maxRecDepth 16384

noncomputable section

namespace Cert.Proof.XClaim

open Idealize.ShloMosaic Cert.Proof.Reals Cert.Proof.XMath

local instance : Cert.XKernelIdeal.Facts := Cert.XKernelIdeal.Gen.facts
local instance : Cert.XReferenceIdeal.Facts := Cert.XReferenceIdeal.Gen.facts

variable [hP : Cert.Pre_x_finite.Facts]

/-- The precondition: each of the ten arrays is finite. -/
theorem finite (x0 : FVec Ideal ⟨2, ![4096, 1024]⟩ .f32) (x1 : FVec Ideal ⟨1, ![1024]⟩ .f32) (x2 : FVec Ideal ⟨2, ![1024, 4256]⟩ .f32) (x3 : FVec Ideal ⟨2, ![4096, 384]⟩ .f32)
    (x4 : FVec Ideal ⟨2, ![4096, 256]⟩ .f32) (x5 : FVec Ideal ⟨2, ![4096, 32]⟩ .f32) (x6 x7 x8 : FVec Ideal ⟨2, ![4096, 512]⟩ .f32) (x9 : FVec Ideal ⟨2, ![4096, 2048]⟩ .f32)
    (x10 : FVec Ideal ⟨2, ![4096, 1024]⟩ .f32) (x11 : FVec Ideal ⟨1, ![384]⟩ .f32) (x12 : FVec Ideal ⟨1, ![256]⟩ .f32) (j : (⟨0, ![]⟩ : Shape).Idx)
    (h : Cert.Pre_x_finite.fn (F := Ideal) x0 x1 x2 x3 x4 x5 x6 x7 x8 x9 x10 x11 x12 j = 1#1) :
    Finite x0 ∧ Finite x1 ∧ Finite x2 ∧ Finite x3 ∧ Finite x4 ∧ Finite x5 ∧ Finite x6 ∧ Finite x7 ∧ Finite x8 ∧ Finite x9 := by
  unfold Cert.Pre_x_finite.fn Cert.Pre_x_finite.fn_part1 Cert.Pre_x_finite.fn_part2 at h
  obtain ⟨h, h9⟩ := andi_one.1 h
  obtain ⟨h, h8⟩ := andi_one.1 h
  obtain ⟨h, h7⟩ := andi_one.1 h
  obtain ⟨h, h6⟩ := andi_one.1 h
  obtain ⟨h, h5⟩ := andi_one.1 h
  obtain ⟨h, h4⟩ := andi_one.1 h
  obtain ⟨h, h3⟩ := andi_one.1 h
  obtain ⟨h, h2⟩ := andi_one.1 h
  obtain ⟨h0, h1⟩ := andi_one.1 h
  exact ⟨finite_of_all _ _ _ x0 j h0, finite_of_all _ _ _ x1 j h1, finite_of_all _ _ _ x2 j h2, finite_of_all _ _ _ x3 j h3, finite_of_all _ _ _ x4 j h4,
    finite_of_all _ _ _ x5 j h5, finite_of_all _ _ _ x6 j h6, finite_of_all _ _ _ x7 j h7, finite_of_all _ _ _ x8 j h8, finite_of_all _ _ _ x9 j h9⟩

omit hP in
theorem facts : Cert.Pre_x_finite.Facts := by constructor <;> decide

/-- The kernel's arguments as reals. -/
theorem args (m : (ℓ : Loc Cert.XKernelIdeal.nD Cert.XKernelIdeal.τ Cert.XKernelIdeal.sig) → Buf (Elt Ideal) ℓ) (hpre : Cert.Pre_XKernelIdeal_x_finite m) (c : Dev Cert.XKernelIdeal.nD) :
    ∃ X G W zq zkv zkr ga d gp gm, XHost.Args m c X G W zq zkv zkr ga d gp gm := by
  obtain ⟨f0, f1, f2, f3, f4, f5, f6, f7, f8, f9⟩ := finite _ _ _ _ _ _ _ _ _ _ _ _ _ (fun a => a.elim0) (congrFun (hpre c) fun a => a.elim0)
  exact ⟨fun s k => ((show FVec Ideal ⟨2, ![4096, 1024]⟩ .f32 from m ((c.tc : Thread Cert.XKernelIdeal.nD Cert.XKernelIdeal.τ).loc Cert.XKernelIdeal.main_arg0)) (ix2 s k) : EReal).toReal,
    fun k => ((show FVec Ideal ⟨1, ![1024]⟩ .f32 from m ((c.tc : Thread Cert.XKernelIdeal.nD Cert.XKernelIdeal.τ).loc Cert.XKernelIdeal.main_arg1)) (ix1 k) : EReal).toReal,
    fun s k => ((show FVec Ideal ⟨2, ![1024, 4256]⟩ .f32 from m ((c.tc : Thread Cert.XKernelIdeal.nD Cert.XKernelIdeal.τ).loc Cert.XKernelIdeal.main_arg2)) (ix2 s k) : EReal).toReal,
    fun s k => ((show FVec Ideal ⟨2, ![4096, 384]⟩ .f32 from m ((c.tc : Thread Cert.XKernelIdeal.nD Cert.XKernelIdeal.τ).loc Cert.XKernelIdeal.main_arg3)) (ix2 s k) : EReal).toReal,
    fun s k => ((show FVec Ideal ⟨2, ![4096, 256]⟩ .f32 from m ((c.tc : Thread Cert.XKernelIdeal.nD Cert.XKernelIdeal.τ).loc Cert.XKernelIdeal.main_arg4)) (ix2 s k) : EReal).toReal,
    fun s k => ((show FVec Ideal ⟨2, ![4096, 32]⟩ .f32 from m ((c.tc : Thread Cert.XKernelIdeal.nD Cert.XKernelIdeal.τ).loc Cert.XKernelIdeal.main_arg5)) (ix2 s k) : EReal).toReal,
    fun s k => ((show FVec Ideal ⟨2, ![4096, 512]⟩ .f32 from m ((c.tc : Thread Cert.XKernelIdeal.nD Cert.XKernelIdeal.τ).loc Cert.XKernelIdeal.main_arg6)) (ix2 s k) : EReal).toReal,
    fun s k => ((show FVec Ideal ⟨2, ![4096, 512]⟩ .f32 from m ((c.tc : Thread Cert.XKernelIdeal.nD Cert.XKernelIdeal.τ).loc Cert.XKernelIdeal.main_arg7)) (ix2 s k) : EReal).toReal,
    fun s k => ((show FVec Ideal ⟨2, ![4096, 512]⟩ .f32 from m ((c.tc : Thread Cert.XKernelIdeal.nD Cert.XKernelIdeal.τ).loc Cert.XKernelIdeal.main_arg8)) (ix2 s k) : EReal).toReal,
    fun s k => ((show FVec Ideal ⟨2, ![4096, 2048]⟩ .f32 from m ((c.tc : Thread Cert.XKernelIdeal.nD Cert.XKernelIdeal.τ).loc Cert.XKernelIdeal.main_arg9)) (ix2 s k) : EReal).toReal,
    fun _ _ => (f0 _).symm, fun _ => (f1 _).symm, fun _ _ => (f2 _).symm, fun _ _ => (f3 _).symm, fun _ _ => (f4 _).symm, fun _ _ => (f5 _).symm, fun _ _ => (f6 _).symm, fun _ _ => (f7 _).symm, fun _ _ => (f8 _).symm, fun _ _ => (f9 _).symm⟩

/-- From memories that agree on the arguments, both programs leave the same three arrays. -/
theorem algebraic : Cert.algebraic_XKernelIdeal_XReferenceIdeal_pre_x_finite := by
  pair_intro
  · run_from Cert.XKernelIdeal.Value.run_blocks m g
  · run_from Cert.XReferenceIdeal.Value.run m' g'
    all_goals
      obtain ⟨X, G, W, zq, zkv, zkr, ga, d, gp, gm, h⟩ := args m hpre c
      obtain ⟨a0, a1, a2, a3, a4, a5, a6, a7, a8, a9, a10, a11, a12⟩ := hagree c
      have hz := XGrad.v143 _ _ _ _ _ _ _ (fun t c => (congrFun a3 (ix2 t c)).trans (h.zq t c)) (fun t c => (congrFun a4 (ix2 t c)).trans (h.zkv t c)) (fun t c => (congrFun a5 (ix2 t c)).trans (h.zkr t c))
        (fun t c => (congrFun a6 (ix2 t c)).trans (h.ga t c)) (fun t c => (congrFun a7 (ix2 t c)).trans (h.d t c)) (fun t c => (congrFun a8 (ix2 t c)).trans (h.gp t c)) (fun t c => (congrFun a9 (ix2 t c)).trans (h.gm t c))
      have hr := XGrad.Reads.mk (fun s k => (congrFun a0 (ix2 s k)).trans (h.x s k)) (fun k => (congrFun a1 (ix1 k)).trans (h.g k)) (fun k e => (congrFun a2 (ix2 k e)).trans (h.w k e)) hz
    · rw [← a0, ← a10]
      refine (Cert.XReferenceIdeal.Read.val_main_v168_eq (StableHlo.launchContents m' c)).trans ?_
      funext i
      obtain ⟨s, k, rfl⟩ : ∃ (s : Fin 4096) (k : Fin 1024), i = ix2 s k := ⟨⟨(i 0).val, (i 0).isLt⟩, ⟨(i 1).val, (i 1).isLt⟩, by blk_ext⟩
      refine Eq.trans ?_ (XValue.arr13 h s k).symm
      refine (XGrad.v168 hr _ s k).trans ?_
      exact congrArg (· + _) (congrFun a10 (ix2 s k))
    · refine (Cert.XReferenceIdeal.Read.val_main_v167_eq (StableHlo.launchContents m' c)).trans ?_
      funext i
      obtain ⟨r, l, rfl⟩ : ∃ (r : Fin 16) (l : Fin 128), i = ix2 r l := ⟨⟨(i 0).val, (i 0).isLt⟩, ⟨(i 1).val, (i 1).isLt⟩, by blk_ext⟩
      refine Eq.trans ?_ (XValue.arr14 h r l).symm
      refine (XGrad.v167 hr _ _ r l).trans ?_
      exact congrArg₂ (fun u v => XGrad.small _ u v _) a11 a12
    · refine (Cert.XReferenceIdeal.Read.val_main_v171_eq (StableHlo.launchContents m' c)).trans ?_
      funext i
      obtain ⟨j, e, s, rfl⟩ : ∃ (j : Fin 4) (e : Fin 1064) (s : Fin 4096), i = ix3 j e s := ⟨⟨(i 0).val, (i 0).isLt⟩, ⟨(i 1).val, (i 1).isLt⟩, ⟨(i 2).val, (i 2).isLt⟩, by blk_ext⟩
      refine Eq.trans ?_ (XValue.arr15 h j e s).symm
      exact (XGrad.v171 j e s).trans (hz s _)

omit hP in
/-- The reference runs to its end and leaves its arguments as they were. -/
theorem ref_frame : Cert.quiescent_XReferenceIdeal := by
  intro m g _
  exact (θ_run Cert.XReferenceIdeal.defs _ _).mono (fun r h => ⟨fun c => (h c).2.2.2, sem_eq_zero_of_no_sems (by decide) r.2⟩)
    (Cert.XReferenceIdeal.Value.run m g)

end Cert.Proof.XClaim

end
-- ==== Proof.AMath.lean ====
/- The attention gradients over the reals: scores under the chunk mask, their softmax, and the gradients with respect to queries, keys and values. -/
module

public import proofs.«01_k».proof.Proof.Reals

@[expose] public section

noncomputable section

namespace Cert.Proof.AMath

open Idealize.ShloMosaic Cert.Proof.Reals

/-- The arguments as real tables by row, head and column; the rotated part of the keys belongs to all heads. -/
structure Data where
  qn : ℕ → ℕ → ℕ → ℝ
  qr : ℕ → ℕ → ℕ → ℝ
  kn : ℕ → ℕ → ℕ → ℝ
  kr : ℕ → ℕ → ℝ
  v : ℕ → ℕ → ℕ → ℝ
  g : ℕ → ℕ → ℕ → ℝ

/-- The factor of the scores, as the program's constant has it. -/
def scale : ℝ := 3424635 / 33554432

theorem scale_f32 : Ideal.ofBits .f32 0x3DD105EC#32 = (scale : EReal) := by
  simp [Ideal.ofBits, Ideal.ieee, scale, -EReal.coe_mul]; norm_num

theorem one_f32 : Ideal.ofBits .f32 0x3F800000#32 = ((1 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem ninf_f32 : Ideal.ofBits .f32 0xFF800000#32 = ⊥ := by simp [Ideal.ofBits, Ideal.ieee]

theorem zero_f32 : Ideal.ofBits .f32 0x00000000#32 = ((0 : ℝ) : EReal) := by simp [Ideal.ofBits, Ideal.ieee]

namespace Data

variable (D : Data)

/-- A head's query row, filled up with zeros. -/
def Q (h s c : ℕ) : ℝ := if c < 64 then D.qn s h c else if c - 64 < 32 then D.qr s h (c - 64) else 0

/-- A head's key row, filled up with zeros. -/
def K (h t c : ℕ) : ℝ := if c < 64 then D.kn t h c else if c - 64 < 32 then D.kr t (c - 64) else 0

/-- The score of query `s` and key `t`. -/
def S (h s t : ℕ) : ℝ := (∑ c : Fin 128, D.Q h s c * D.K h t c) * scale

/-- The weight before normalising: zero for keys of later chunks. -/
def w (h s t : ℕ) : ℝ := if t / 64 ≤ s / 64 then Real.exp (D.S h s t) else 0

def Z (h s : ℕ) : ℝ := ∑ t : Fin 4096, D.w h s t

def p (h s t : ℕ) : ℝ := D.w h s t / D.Z h s

def dP (h s t : ℕ) : ℝ := ∑ d : Fin 64, D.g s h d * D.v t h d

def delta (h s : ℕ) : ℝ := ∑ t : Fin 4096, D.p h s t * D.dP h s t

/-- The gradient of a score, before the factor. -/
def ds (h s t : ℕ) : ℝ := D.p h s t * (D.dP h s t - D.delta h s)

def dq (h s c : ℕ) : ℝ := (∑ t : Fin 4096, D.ds h s t * D.K h t c) * scale

def dk (h c t : ℕ) : ℝ := (∑ s : Fin 4096, D.Q h s c * D.ds h s t) * scale

def dv (h d t : ℕ) : ℝ := ∑ s : Fin 4096, D.g s h d * D.p h s t

theorem w_nonneg (h s t : ℕ) : 0 ≤ D.w h s t := by
  unfold w; split_ifs
  · exact (Real.exp_pos _).le
  · exact le_rfl

theorem w_self (h s : ℕ) : 0 < D.w h s s := by
  unfold w; rw [if_pos le_rfl]; exact Real.exp_pos _

theorem Z_pos (h : ℕ) (s : Fin 4096) : 0 < D.Z h s :=
  Finset.sum_pos' (fun t _ => D.w_nonneg h s t) ⟨s, Finset.mem_univ _, D.w_self h s⟩

theorem p_late {h s t : ℕ} (ht : ¬t / 64 ≤ s / 64) : D.p h s t = 0 := by
  unfold p w; rw [if_neg ht, zero_div]

theorem ds_late {h s t : ℕ} (ht : ¬t / 64 ≤ s / 64) : D.ds h s t = 0 := by
  unfold ds; rw [D.p_late ht, zero_mul]

/-- The score as the sum over the plain columns and the sum over the rotated ones. -/
theorem S_split (h s t : ℕ) :
    D.S h s t = (∑ d : Fin 64, D.qn s h d * D.kn t h d + ∑ r : Fin 32, D.qr s h r * D.kr t r) * scale := by
  unfold S
  rw [Fin.sum_univ_add (a := 64) (b := 64) (fun c : Fin 128 => D.Q h s c * D.K h t c)]
  rw [Fin.sum_univ_add (a := 32) (b := 32) (fun c : Fin 64 => D.Q h s (Fin.natAdd 64 c : Fin 128) * D.K h t (Fin.natAdd 64 c : Fin 128))]
  have e1 : ∀ c : Fin 64, D.Q h s (Fin.castAdd 64 c : Fin 128) * D.K h t (Fin.castAdd 64 c : Fin 128) = D.qn s h c * D.kn t h c := fun c => by
    simp [Q, K, c.isLt]
  have e2 : ∀ c : Fin 32, D.Q h s (Fin.natAdd 64 (Fin.castAdd 32 c) : Fin 128) * D.K h t (Fin.natAdd 64 (Fin.castAdd 32 c) : Fin 128) = D.qr s h c * D.kr t c := fun c => by
    simp [Q, K, c.isLt]
  have e3 : ∀ c : Fin 32, D.Q h s (Fin.natAdd 64 (Fin.natAdd 32 c) : Fin 128) * D.K h t (Fin.natAdd 64 (Fin.natAdd 32 c) : Fin 128) = 0 := fun c => by
    simp [Q]
  rw [Finset.sum_congr rfl fun c _ => e1 c, Finset.sum_congr rfl fun c _ => e2 c, Finset.sum_congr rfl fun c _ => e3 c]
  simp

/-- A weight over its row's sum, as the power of two of the score less the row's logarithm to base two. -/
theorem pow_two (h : ℕ) (s : Fin 4096) (t : ℕ) :
    Real.rpow 2 ((∑ c : Fin 128, D.Q h s c * D.K h t c) * (scale * (Real.log 2)⁻¹) - Real.log (D.Z h s) / Real.log 2)
      = Real.exp (D.S h s t) / D.Z h s := by
  have h2 : Real.log 2 ≠ 0 := (Real.log_pos one_lt_two).ne'
  show (2 : ℝ) ^ (_ : ℝ) = _
  rw [Real.rpow_def_of_pos two_pos]
  have : Real.log 2 * ((∑ c : Fin 128, D.Q h s c * D.K h t c) * (scale * (Real.log 2)⁻¹) - Real.log (D.Z h s) / Real.log 2)
      = D.S h s t - Real.log (D.Z h s) := by
    unfold S; field_simp
  rw [this, Real.exp_sub, Real.exp_log (D.Z_pos h s)]

end Data

/-- The greatest of values each real or `−∞`, one of them real, is real. -/
theorem rowmax {n : ℕ} (f : Fin n → EReal) (hf : ∀ t, f t = ⊥ ∨ ∃ r : ℝ, f t = r) {t0 : Fin n} {r0 : ℝ} (h0 : f t0 = r0) :
    ∃ M : ℝ, Finset.fold max ⊥ f Finset.univ = M := by
  have key : ∀ s : Finset (Fin n), Finset.fold max ⊥ f s = ⊥ ∨ ∃ r : ℝ, Finset.fold max ⊥ f s = r := by
    intro s
    induction s using Finset.induction_on with
    | empty => left; rfl
    | insert a s ha ih =>
      rw [Finset.fold_insert ha]
      rcases hf a with e | ⟨r, e⟩
      · rw [e, max_eq_right bot_le]; exact ih
      · rcases ih with e' | ⟨r', e'⟩
        · rw [e, e', max_eq_left bot_le]; exact Or.inr ⟨r, rfl⟩
        · rw [e, e']; exact Or.inr ⟨max r r', (EReal.coe_strictMono.monotone.map_max).symm⟩
  rcases key Finset.univ with e | h
  · have h1 : f t0 ≤ Finset.fold max ⊥ f Finset.univ := (Finset.le_fold_max (f t0)).2 (Or.inr ⟨t0, Finset.mem_univ _, le_rfl⟩)
    rw [e, h0] at h1
    exact absurd (le_bot_iff.1 h1) (EReal.coe_ne_bot _)
  · exact h

/-- The masked score. -/
def masked (D : Data) (h s t : ℕ) : EReal := if t / 64 ≤ s / 64 then (D.S h s t : EReal) else ⊥

/-- A row's greatest masked score. -/
def rowMax (D : Data) (h s : ℕ) : EReal := Finset.fold max ⊥ (fun t : Fin 4096 => masked D h s t) Finset.univ

theorem masked_max (D : Data) (h : ℕ) (s : Fin 4096) : ∃ M : ℝ, rowMax D h s = M :=
  rowmax _ (fun t => by unfold masked; split_ifs; exacts [Or.inr ⟨_, rfl⟩, Or.inl rfl]) (t0 := s) (by unfold masked; rw [if_pos le_rfl])

theorem exp_masked (D : Data) (h s t : ℕ) (M : ℝ) : Ideal.exp (masked D h s t - (M : EReal)) = ((D.w h s t * Real.exp (-M) : ℝ) : EReal) := by
  unfold masked Data.w
  split_ifs
  · rw [← EReal.coe_sub, Ideal.exp_coe, ← Real.exp_add, sub_eq_add_neg]
  · rw [EReal.bot_sub, Ideal.exp_bot, zero_mul, EReal.coe_zero]

end Cert.Proof.AMath

end
-- ==== Proof.APay.lean ====
/- The values of one block step at an index: weights, score gradients and what a step adds to the gradients of the queries, keys and values. -/
module

public import proofs.«01_k».proof.Proof.AMath
public import proofs.«01_k».proof.Proof.Gen.AKernelIdeal.Skeleton
public import Idealize.ShloMosaic.Lib.Pointwise

@[expose] public section

set_option maxRecDepth 16384

noncomputable section

namespace Cert.Proof.APay

open Idealize.ShloMosaic Cert.Proof.Reals Cert.Proof.AMath
open Cert.AKernelIdeal Cert.AKernelIdeal.Gen

/-- A head's query-side arrays of 512 rows from row `s`. -/
structure Rows (D : Data) (h s : ℕ) (q : FVec Ideal S512x128 .bf16) (qt : FVec Ideal S128x512 .bf16)
    (o : FVec Ideal S512x64 .bf16) (ot : FVec Ideal S64x512 .bf16) (l e : FVec Ideal S512x512 .f32) : Prop where
  q (r : Fin 512) (c : Fin 128) : q (ix2 r c) = (D.Q h (s + r.val) c.val : EReal)
  qt (c : Fin 128) (r : Fin 512) : qt (ix2 c r) = (D.Q h (s + r.val) c.val : EReal)
  o (r : Fin 512) (d : Fin 64) : o (ix2 r d) = (D.g (s + r.val) h d.val : EReal)
  ot (d : Fin 64) (r : Fin 512) : ot (ix2 d r) = (D.g (s + r.val) h d.val : EReal)
  l (r j : Fin 512) : l (ix2 r j) = ((Real.log (D.Z h (s + r.val)) / Real.log 2 : ℝ) : EReal)
  e (r j : Fin 512) : e (ix2 r j) = (D.delta h (s + r.val) : EReal)

/-- A head's keys and values of 512 rows from row `t`. -/
structure Keys (D : Data) (h t : ℕ) (k : Vec Ideal S512x128 .bf16) (v : Vec Ideal S512x64 .bf16) : Prop where
  k (j : Fin 512) (c : Fin 128) : k (ix2 j c) = (D.K h (t + j.val) c.val : EReal)
  v (j : Fin 512) (d : Fin 64) : v (ix2 j d) = (D.v (t + j.val) h d.val : EReal)

theorem named : (Named.named κ "scale_log2e" 0x3E16C740#32 : Ideal .f32) = ((scale * (Real.log 2)⁻¹ : ℝ) : EReal) :=
  IdealRules.named_const.ideal_named_scalar _ _ _ _ rfl

variable {D : Data} {h s t : ℕ} {q : FVec Ideal S512x128 .bf16} {qt : FVec Ideal S128x512 .bf16}
  {o : FVec Ideal S512x64 .bf16} {ot : FVec Ideal S64x512 .bf16} {l e : FVec Ideal S512x512 .f32}
  {k : Vec Ideal S512x128 .bf16} {v : Vec Ideal S512x64 .bf16}

theorem pay2_at (R : Rows D h s q qt o ot l e) (T : Keys D h t k v) (r j : Fin 512) :
    k0_pay2 q l k (ix2 r j) = (Real.rpow 2 ((∑ c : Fin 128, D.Q h (s + r.val) c.val * D.K h (t + j.val) c.val) * (scale * (Real.log 2)⁻¹)
        - Real.log (D.Z h (s + r.val)) / Real.log 2) : EReal) := by
  pointwise [k0_pay2, k0_pay1]
  simp only [R.q, R.l, T.k, named, ← EReal.coe_mul, ← coe_sum, ← EReal.coe_sub]
  exact Ideal.exp2_coe _

/-- Two to a visible pair's scaled score, less the saved row value, is the pair's weight. -/
theorem pow_visible {a b : ℕ} (ha : a < 4096) (hv : b / 64 ≤ a / 64) :
    Real.rpow 2 ((∑ c : Fin 128, D.Q h a c.val * D.K h b c.val) * (scale * (Real.log 2)⁻¹) - Real.log (D.Z h a) / Real.log 2) = D.p h a b := by
  have := D.pow_two h ⟨a, ha⟩ b
  simp only at this
  rw [this]
  unfold Data.p Data.w Data.S
  rw [if_pos hv]

/-- The weights of a block whose keys are all visible. -/
theorem weights (R : Rows D h s q qt o ot l e) (T : Keys D h t k v) (hs : s + 512 ≤ 4096) (hv : t + 512 ≤ s) (r j : Fin 512) :
    k0_pay2 q l k (ix2 r j) = (D.p h (s + r.val) (t + j.val) : EReal) := by
  rw [pay2_at R T, pow_visible (by omega) (by omega)]

/-- The weights of the block on the diagonal. -/
theorem weights_mask {m : IVec S512x512 1} (R : Rows D h s q qt o ot l e) (T : Keys D h s k v) (hs : s + 512 ≤ 4096) (h64 : 64 ∣ s)
    (hm : ∀ r j : Fin 512, m (ix2 r j) = BitVec.ofBool (decide (j.val / 64 ≤ r.val / 64))) (r j : Fin 512) :
    k0_pay84 m q l k (ix2 r j) = (D.p h (s + r.val) (s + j.val) : EReal) := by
  have e : k0_pay84 m q l k (ix2 r j) = Scalar.select (m (ix2 r j)) (k0_pay2 q l k (ix2 r j)) (0 : EReal) := by
    pointwise [k0_pay84, k0_pay83, k0_pay2, k0_pay1]
  rw [e, hm, pay2_at R T]
  by_cases b : j.val / 64 ≤ r.val / 64
  · rw [pow_visible (by omega) (by omega)]
    simp [b, Scalar.select]
  · rw [D.p_late (by omega)]
    simp [b, Scalar.select]

theorem dP_at (R : Rows D h s q qt o ot l e) (T : Keys D h t k v) (r j : Fin 512) :
    (∑ x, o (ix2 r x) * v (ix2 j x) - e (ix2 r j) : EReal) = ((D.dP h (s + r.val) (t + j.val) - D.delta h (s + r.val) : ℝ) : EReal) := by
  simp only [R.o, R.e, T.v, ← EReal.coe_mul, ← coe_sum, ← EReal.coe_sub, Data.dP]

theorem grads (R : Rows D h s q qt o ot l e) (T : Keys D h t k v) (r j : Fin 512)
    (hw : k0_pay2 q l k (ix2 r j) = (D.p h (s + r.val) (t + j.val) : EReal)) :
    k0_pay3 q o l e k v (ix2 r j) = (D.ds h (s + r.val) (t + j.val) : EReal) := by
  have e : k0_pay3 q o l e k v (ix2 r j) = k0_pay2 q l k (ix2 r j) * (∑ x, o (ix2 r x) * v (ix2 j x) - e (ix2 r j) : EReal) := by
    pointwise [k0_pay3]
  rw [e, hw, dP_at R T, ← EReal.coe_mul]
  rfl

theorem grads_mask {m : IVec S512x512 1} (R : Rows D h s q qt o ot l e) (T : Keys D h t k v) (r j : Fin 512)
    (hw : k0_pay84 m q l k (ix2 r j) = (D.p h (s + r.val) (t + j.val) : EReal)) :
    k0_pay85 m q o l e k v (ix2 r j) = (D.ds h (s + r.val) (t + j.val) : EReal) := by
  have e : k0_pay85 m q o l e k v (ix2 r j) = k0_pay84 m q l k (ix2 r j) * (∑ x, o (ix2 r x) * v (ix2 j x) - e (ix2 r j) : EReal) := by
    pointwise [k0_pay85]
  rw [e, hw, dP_at R T, ← EReal.coe_mul]
  rfl

/-- What 512 query rows from row `s` add to the gradient of a value. -/
def addV (D : Data) (h s d t : ℕ) : ℝ := ∑ r : Fin 512, D.g (s + r.val) h d * D.p h (s + r.val) t

/-- What 512 query rows from row `s` add to the gradient of a key. -/
def addK (D : Data) (h s c t : ℕ) : ℝ := (∑ r : Fin 512, D.Q h (s + r.val) c * D.ds h (s + r.val) t) * scale

/-- What 512 keys from row `t` add to the gradient of a query, before the factor. -/
def addQ (D : Data) (h s c t : ℕ) : ℝ := ∑ j : Fin 512, D.ds h s (t + j.val) * D.K h (t + j.val) c

theorem pay4_at (R : Rows D h s q qt o ot l e) (T : Keys D h t k v) (hs : s + 512 ≤ 4096) (hv : t + 512 ≤ s) (x : Vec Ideal S64x512 .f32)
    (d : Fin 64) (j : Fin 512) : k0_pay4 q ot l k x (ix2 d j) = x (ix2 d j) + (addV D h s d.val (t + j.val) : EReal) := by
  pointwise [k0_pay4]
  simp only [weights R T hs hv, R.ot, ← EReal.coe_mul, ← coe_sum, addV]

theorem pay5_at (R : Rows D h s q qt o ot l e) (T : Keys D h t k v) (hs : s + 512 ≤ 4096) (hv : t + 512 ≤ s) (x : Vec Ideal S128x512 .f32)
    (c : Fin 128) (j : Fin 512) : k0_pay5 q qt o l e k v x (ix2 c j) = x (ix2 c j) + (addK D h s c.val (t + j.val) : EReal) := by
  pointwise [k0_pay5]
  simp only [grads R T _ _ (weights R T hs hv _ _), R.qt, scale_f32, ← EReal.coe_mul, ← coe_sum, addK]

theorem pay6_at (R : Rows D h s q qt o ot l e) (T : Keys D h t k v) (hs : s + 512 ≤ 4096) (hv : t + 512 ≤ s) (x : FVec Ideal S512x128 .f32)
    (r : Fin 512) (c : Fin 128) : k0_pay6 q o l e x k v (ix2 r c) = x (ix2 r c) + (addQ D h (s + r.val) c.val t : EReal) := by
  pointwise [k0_pay6, k0_pay1]
  simp only [grads R T _ _ (weights R T hs hv _ _), T.k, ← EReal.coe_mul, ← coe_sum, addQ]

variable {m : IVec S512x512 1}

theorem pay86_at (R : Rows D h s q qt o ot l e) (T : Keys D h s k v) (hs : s + 512 ≤ 4096) (h64 : 64 ∣ s)
    (hm : ∀ r j : Fin 512, m (ix2 r j) = BitVec.ofBool (decide (j.val / 64 ≤ r.val / 64))) (x : Vec Ideal S64x512 .f32)
    (d : Fin 64) (j : Fin 512) : k0_pay86 m q ot l k x (ix2 d j) = x (ix2 d j) + (addV D h s d.val (s + j.val) : EReal) := by
  pointwise [k0_pay86]
  simp only [weights_mask R T hs h64 hm, R.ot, ← EReal.coe_mul, ← coe_sum, addV]

theorem pay87_at (R : Rows D h s q qt o ot l e) (T : Keys D h s k v) (hs : s + 512 ≤ 4096) (h64 : 64 ∣ s)
    (hm : ∀ r j : Fin 512, m (ix2 r j) = BitVec.ofBool (decide (j.val / 64 ≤ r.val / 64))) (x : Vec Ideal S128x512 .f32)
    (c : Fin 128) (j : Fin 512) : k0_pay87 m q qt o l e k v x (ix2 c j) = x (ix2 c j) + (addK D h s c.val (s + j.val) : EReal) := by
  pointwise [k0_pay87]
  simp only [grads_mask R T _ _ (weights_mask R T hs h64 hm _ _), R.qt, scale_f32, ← EReal.coe_mul, ← coe_sum, addK]

theorem pay88_at (R : Rows D h s q qt o ot l e) (T : Keys D h s k v) (hs : s + 512 ≤ 4096) (h64 : 64 ∣ s)
    (hm : ∀ r j : Fin 512, m (ix2 r j) = BitVec.ofBool (decide (j.val / 64 ≤ r.val / 64))) (x : FVec Ideal S512x128 .f32)
    (r : Fin 512) (c : Fin 128) : k0_pay88 m q o l e x k v (ix2 r c) = x (ix2 r c) + (addQ D h (s + r.val) c.val s : EReal) := by
  pointwise [k0_pay88, k0_pay83]
  simp only [grads_mask R T _ _ (weights_mask R T hs h64 hm _ _), T.k, ← EReal.coe_mul, ← coe_sum, addQ]

/-- The chunk of a row or column, as the program's words compute it. -/
def chunk (n : ℕ) : BitVec 32 :=
  Scalar.select
    (IntOp.andi
      (IntOp.cmpi .ne (IntOp.subi (BitVec.setWidth 32 (IntOp.cmpi .sgt (BitVec.ofNat 32 n) 0#32))
        (BitVec.setWidth 32 (IntOp.cmpi .slt (BitVec.ofNat 32 n) 0#32))) 1#32)
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem chunk_eq : ∀ n : Fin 512, chunk n.val = BitVec.ofNat 32 (n.val / 64) := by decide +kernel

theorem sle_chunks : ∀ a b : Fin 8, IntOp.cmpi .sle (BitVec.ofNat 32 a.val) (BitVec.ofNat 32 b.val) = BitVec.ofBool (decide (a.val ≤ b.val)) := by
  decide +kernel

theorem mask_at (r j : Fin 512) : k0_pay52 k0_pay49 (iota .tc S512x512 32 [1] iota_S512x512_d1_w32) 64#32 k0_pay50 k0_pay51 1#32 (ix2 r j)
    = BitVec.ofBool (decide (j.val / 64 ≤ r.val / 64)) := by
  have e : k0_pay52 k0_pay49 (iota .tc S512x512 32 [1] iota_S512x512_d1_w32) 64#32 k0_pay50 k0_pay51 1#32 (ix2 r j)
      = IntOp.cmpi .sle (chunk j.val) (chunk r.val) := by
    pointwise [k0_pay52, k0_pay49, k0_pay50, k0_pay51]
    rfl
  rw [e, chunk_eq, chunk_eq]
  exact sle_chunks ⟨j.val / 64, by omega⟩ ⟨r.val / 64, by omega⟩

end Cert.Proof.APay
-- ==== Proof.ATrip.lean ====
/- One trip of the loop over earlier key blocks: what it yields and writes. -/
module

public import proofs.«01_k».proof.Proof.APay
public import proofs.«01_k».proof.Proof.Gen.AKernelIdeal.Loops
import all proofs.«01_k».proof.Proof.Gen.AKernelIdeal.Loops

@[expose] public section

set_option maxRecDepth 16384

noncomputable section

namespace Cert.Proof.ATrip

open Idealize.ShloMosaic Cert.Proof.AMath Cert.Proof.APay
open Cert.AKernelIdeal Cert.AKernelIdeal.Gen

/-- The keys loaded from the rows and columns at `off`. -/
abbrev keyTile (a : Memref sig .tc .vmem S4096x512 .bf16) (X : BufTy.Contents (Elt Ideal) a.view.ty) {off : Fin 2 → ℕ}
    (inb : ∀ j, off j + S512x128.size j ≤ S4096x512.size j) : Vec Ideal S512x128 .bf16 :=
  View.readAt (Elt Ideal) a.view (Rect.unit (s := S4096x512) off S512x128.size inb).toLoadRect X

/-- The values loaded at `off`. -/
abbrev valTile (a : Memref sig .tc .vmem S4096x256 .bf16) (X : BufTy.Contents (Elt Ideal) a.view.ty) {off : Fin 2 → ℕ}
    (inb : ∀ j, off j + S512x64.size j ≤ S4096x256.size j) : Vec Ideal S512x64 .bf16 :=
  View.readAt (Elt Ideal) a.view (Rect.unit (s := S4096x256) off S512x64.size inb).toLoadRect X

/-- The part of the keys' gradient loaded at `off`. -/
abbrev dkTile (a : Memref sig .tc .vmem S512x4096 .f32) (X : BufTy.Contents (Elt Ideal) a.view.ty) {off : Fin 2 → ℕ}
    (inb : ∀ j, off j + S128x512.size j ≤ S512x4096.size j) : Vec Ideal S128x512 .f32 :=
  View.readAt (Elt Ideal) a.view (Rect.unit (s := S512x4096) off S128x512.size inb).toLoadRect X

/-- The part of the values' gradient loaded at `off`. -/
abbrev dvTile (a : Memref sig .tc .vmem S256x4096 .f32) (X : BufTy.Contents (Elt Ideal) a.view.ty) {off : Fin 2 → ℕ}
    (inb : ∀ j, off j + S64x512.size j ≤ S256x4096.size j) : Vec Ideal S64x512 .f32 :=
  View.readAt (Elt Ideal) a.view (Rect.unit (s := S256x4096) off S64x512.size inb).toLoadRect X

variable (𝒱 : Variants) (c : Dev nD) (bd : Option 𝒱.V) (i : grid0.Coords)
  (a2 : Memref sig .tc .vmem S512x512 .bf16) (w2 : a2.IsWhole)
  (a3 : Memref sig .tc .vmem S512x512 .bf16) (w3 : a3.IsWhole)
  (a4 : Memref sig .tc .vmem S512x256 .f32) (w4 : a4.IsWhole)
  (a5 : Memref sig .tc .vmem S512x512 .f32) (w5 : a5.IsWhole)
  (a6 : Memref sig .tc .vmem S512x512 .f32) (w6 : a6.IsWhole)
  (a7 : Memref sig .tc .vmem S4096x512 .bf16) (w7 : a7.IsWhole)
  (a8 : Memref sig .tc .vmem S4096x256 .bf16) (w8 : a8.IsWhole)
  (a9 : Memref sig .tc .vmem S512x512 .f32) (w9 : a9.IsWhole)
  (a10 : Memref sig .tc .vmem S512x4096 .f32) (w10 : a10.IsWhole)
  (a11 : Memref sig .tc .vmem S256x4096 .f32) (w11 : a11.IsWhole)
  (b : BitVec 32) (m : IVec S512x512 1) (q0 q1 q2 q3 : FVec Ideal S512x128 .bf16) (t0 t1 t2 t3 : FVec Ideal S128x512 .bf16)
  (o0 o1 o2 o3 : FVec Ideal S512x64 .bf16) (u0 u1 u2 u3 : FVec Ideal S64x512 .bf16) (l0 l1 l2 l3 e0 e1 e2 e3 : FVec Ideal S512x512 .f32)
  (z : FVec Ideal S512x128 .f32) (z0 z1 z2 : BitVec 32) (X : BufTy.Contents (Elt Ideal) a7.view.ty) (Y : BufTy.Contents (Elt Ideal) a8.view.ty)

/-- What a trip yields: each head's payload is the first head's. -/
theorem yields (k : Fin (k0_t1_loop i).trips) (acc : FVec Ideal S512x128 .f32 × FVec Ideal S512x128 .f32 × FVec Ideal S512x128 .f32 × FVec Ideal S512x128 .f32)
    (f : BufTy.Contents (Elt Ideal) a10.view.ty) (g : BufTy.Contents (Elt Ideal) a11.view.ty) :
    tripR_k0_t1 (F := Ideal) 𝒱 c bd i a2 w2 a3 w3 a4 w4 a5 w5 a6 w6 a7 w7 a8 w8 a9 w9 a10 w10 a11 w11 b m q0 q1 q2 q3 t0 t1 t2 t3 o0 o1 o2 o3 u0 u1 u2 u3 l0 l1 l2 l3 e0 e1 e2 e3 z z0 z1 z2 X Y k acc f g
      = (k0_pay6 q0 o0 l0 e0 acc.1 (keyTile a7 X (k0_off1_inb i k)) (valTile a8 Y (k0_off2_inb i k)),
        k0_pay6 q1 o1 l1 e1 acc.2.1 (keyTile a7 X (k0_off5_inb i k)) (valTile a8 Y (k0_off6_inb i k)),
        k0_pay6 q2 o2 l2 e2 acc.2.2.1 (keyTile a7 X (k0_off9_inb i k)) (valTile a8 Y (k0_off10_inb i k)),
        k0_pay6 q3 o3 l3 e3 acc.2.2.2 (keyTile a7 X (k0_off13_inb i k)) (valTile a8 Y (k0_off14_inb i k))) := by
  unfold tripR_k0_t1 trip_k0_t1
  rfl

theorem pieces (k : Fin (k0_t1_loop i).trips) (acc : FVec Ideal S512x128 .f32 × FVec Ideal S512x128 .f32 × FVec Ideal S512x128 .f32 × FVec Ideal S512x128 .f32)
    (f : BufTy.Contents (Elt Ideal) a10.view.ty) (g : BufTy.Contents (Elt Ideal) a11.view.ty) :
    tripL_k0_t1 (F := Ideal) 𝒱 c bd i a2 w2 a3 w3 a4 w4 a5 w5 a6 w6 a7 w7 a8 w8 a9 w9 a10 w10 a11 w11 b m q0 q1 q2 q3 t0 t1 t2 t3 o0 o1 o2 o3 u0 u1 u2 u3 l0 l1 l2 l3 e0 e1 e2 e3 z z0 z1 z2 X Y k acc f g
      = ([⟨Rect.unit (k0_off16 i k) S128x512.size (k0_off16_inb i k), k0_pay5 q3 t3 o3 l3 e3 (keyTile a7 X (k0_off13_inb i k)) (valTile a8 Y (k0_off14_inb i k)) (dkTile a10 f (k0_off16_inb i k))⟩,
        ⟨Rect.unit (k0_off12 i k) S128x512.size (k0_off12_inb i k), k0_pay5 q2 t2 o2 l2 e2 (keyTile a7 X (k0_off9_inb i k)) (valTile a8 Y (k0_off10_inb i k)) (dkTile a10 f (k0_off12_inb i k))⟩,
        ⟨Rect.unit (k0_off8 i k) S128x512.size (k0_off8_inb i k), k0_pay5 q1 t1 o1 l1 e1 (keyTile a7 X (k0_off5_inb i k)) (valTile a8 Y (k0_off6_inb i k)) (dkTile a10 f (k0_off8_inb i k))⟩,
        ⟨Rect.unit (k0_off4 i k) S128x512.size (k0_off4_inb i k), k0_pay5 q0 t0 o0 l0 e0 (keyTile a7 X (k0_off1_inb i k)) (valTile a8 Y (k0_off2_inb i k)) (dkTile a10 f (k0_off4_inb i k))⟩],
       [⟨Rect.unit (k0_off15 i k) S64x512.size (k0_off15_inb i k), k0_pay4 q3 u3 l3 (keyTile a7 X (k0_off13_inb i k)) (dvTile a11 g (k0_off15_inb i k))⟩,
        ⟨Rect.unit (k0_off11 i k) S64x512.size (k0_off11_inb i k), k0_pay4 q2 u2 l2 (keyTile a7 X (k0_off9_inb i k)) (dvTile a11 g (k0_off11_inb i k))⟩,
        ⟨Rect.unit (k0_off7 i k) S64x512.size (k0_off7_inb i k), k0_pay4 q1 u1 l1 (keyTile a7 X (k0_off5_inb i k)) (dvTile a11 g (k0_off7_inb i k))⟩,
        ⟨Rect.unit (k0_off3 i k) S64x512.size (k0_off3_inb i k), k0_pay4 q0 u0 l0 (keyTile a7 X (k0_off1_inb i k)) (dvTile a11 g (k0_off3_inb i k))⟩]) := by
  unfold tripL_k0_t1 trip_k0_t1
  rfl

end Cert.Proof.ATrip
-- ==== Proof.AView.lean ====
/- Arrays written in pieces: what four heads' pieces, each adding to what it finds, leave at an index. -/
module

public import proofs.«01_k».proof.Proof.ATrip
public import Idealize.ShloMosaic.Lib.WritesUnit
public import Idealize.ShloMosaic.Lib.VecWindow

@[expose] public section

set_option maxRecDepth 16384

noncomputable section

namespace Cert.Proof.AView

open Idealize.ShloMosaic Cert.Proof.ATrip
open Cert.AKernelIdeal Cert.AKernelIdeal.Gen

section
variable (a : Memref sig .tc .vmem S512x4096 .f32) (f : BufTy.Contents (Elt Ideal) a.view.ty) (L : List (View.Piece (Elt Ideal) S512x4096 .f32))
  {p0 p1 p2 p3 : Fin 2 → ℕ} (i0 : ∀ j, p0 j + S128x512.size j ≤ S512x4096.size j) (i1 : ∀ j, p1 j + S128x512.size j ≤ S512x4096.size j) (i2 : ∀ j, p2 j + S128x512.size j ≤ S512x4096.size j) (i3 : ∀ j, p3 j + S128x512.size j ≤ S512x4096.size j)
  (x0 x1 x2 x3 : Vec Ideal S128x512 .f32) (G : ℕ → ℕ → ℕ → ℝ) (col : ℕ) (hc : col + 512 ≤ 4096)
  (n0 : p0 = ![0, col]) (n1 : p1 = ![128, col]) (n2 : p2 = ![256, col]) (n3 : p3 = ![384, col])

/-- A part loaded at `off` is the array there. -/
theorem dkTile_at {off : Fin 2 → ℕ} (inb : ∀ j, off j + S128x512.size j ≤ S512x4096.size j) {n col : ℕ} (e : off = ![n, col]) (r : Fin 128) (j : Fin 512)
    (h1 : n + r.val < 512) (h2 : col + j.val < 4096) :
    dkTile a f inb (ix2 r j) = a.view.read (Elt Ideal) f (ix2 (⟨n + r.val, h1⟩ : Fin 512) (⟨col + j.val, h2⟩ : Fin 4096)) := by
  subst e
  exact congrArg (a.view.read (Elt Ideal) f) (funext fun b => Fin.ext (by
    match b with
    | ⟨0, _⟩ => show n + 1 * r.val = n + r.val; omega
    | ⟨1, _⟩ => show col + 1 * j.val = col + j.val; omega))

/-- A piece of other rows leaves a row as it was. -/
theorem dk_other {off : Fin 2 → ℕ} (inb : ∀ j, off j + S128x512.size j ≤ S512x4096.size j) {n col : ℕ} (e : off = ![n, col]) (w : Vec Ideal S128x512 .f32)
    (x : Fin 512) (y : Fin 4096) (h : x.val < n ∨ n + 128 ≤ x.val) :
    a.view.read (Elt Ideal) (a.view.writes (Elt Ideal) f ((⟨Rect.unit (s := S512x4096) off S128x512.size inb, w⟩ : View.Piece (Elt Ideal) S512x4096 .f32) :: L)) (ix2 x y)
      = a.view.read (Elt Ideal) (a.view.writes (Elt Ideal) f L) (ix2 x y) :=
  View.read_writes_cons_unit_of_not_mem a.view f inb w L _ e 0 h

/-- A piece that adds to what it finds in its own window adds nothing elsewhere. -/
theorem dk_own {off : Fin 2 → ℕ} (inb : ∀ j, off j + S128x512.size j ≤ S512x4096.size j) {n col : ℕ} (e : off = ![n, col]) (hn : n + 128 ≤ 512) (hc : col + 512 ≤ 4096)
    (w : Vec Ideal S128x512 .f32) (G : ℕ → ℕ → ℝ) (u : EReal) (x : Fin 512) (y : Fin 4096) (h : n ≤ x.val ∧ x.val < n + 128)
    (hu : a.view.read (Elt Ideal) (a.view.writes (Elt Ideal) f L) (ix2 x y) = u)
    (hw : ∀ (r : Fin 128) (j : Fin 512), n + r.val = x.val → col + j.val = y.val → w (ix2 r j) = u + (G r.val (col + j.val) : EReal)) :
    a.view.read (Elt Ideal) (a.view.writes (Elt Ideal) f ((⟨Rect.unit (s := S512x4096) off S128x512.size inb, w⟩ : View.Piece (Elt Ideal) S512x4096 .f32) :: L)) (ix2 x y)
      = u + ((if col ≤ y.val ∧ y.val < col + 512 then G (x.val - n) y.val else 0 : ℝ) : EReal) := by
  by_cases b : col ≤ y.val ∧ y.val < col + 512
  · have k := hw ⟨x.val - n, by omega⟩ ⟨y.val - col, by omega⟩ (by simp only; omega) (by simp only; omega)
    have e1 : col + (y.val - col) = y.val := by omega
    rw [if_pos b]
    simp only [e1] at k
    rw [← k]
    exact View.read_writes_cons_unit_of_mem a.view f inb w L _ (ix2 (⟨x.val - n, by omega⟩ : Fin 128) (⟨y.val - col, by omega⟩ : Fin 512)) e fun b => by
      match b with
      | ⟨0, _⟩ => show x.val = n + (x.val - n); omega
      | ⟨1, _⟩ => show y.val = col + (y.val - col); omega
  · rw [if_neg b, EReal.coe_zero, add_zero, ← hu]
    refine View.read_writes_cons_unit_of_not_mem a.view f inb w L _ e 1 ?_
    show y.val < col ∨ col + 512 ≤ y.val
    omega

include n0 n1 n2 n3 hc in
/-- Four heads' pieces, each adding to what it finds: the array gains each head's share in the columns written. -/
theorem dk_four
    (h0 : ∀ (r : Fin 128) (j : Fin 512), x0 (ix2 r j) = a.view.read (Elt Ideal) (a.view.writes (Elt Ideal) f L) (ix2 (⟨0 + r.val, by omega⟩ : Fin 512) (⟨col + j.val, by omega⟩ : Fin 4096)) + (G 0 r.val (col + j.val) : EReal))
    (h1 : ∀ (r : Fin 128) (j : Fin 512), x1 (ix2 r j) = a.view.read (Elt Ideal) (a.view.writes (Elt Ideal) f L) (ix2 (⟨128 + r.val, by omega⟩ : Fin 512) (⟨col + j.val, by omega⟩ : Fin 4096)) + (G 1 r.val (col + j.val) : EReal))
    (h2 : ∀ (r : Fin 128) (j : Fin 512), x2 (ix2 r j) = a.view.read (Elt Ideal) (a.view.writes (Elt Ideal) f L) (ix2 (⟨256 + r.val, by omega⟩ : Fin 512) (⟨col + j.val, by omega⟩ : Fin 4096)) + (G 2 r.val (col + j.val) : EReal))
    (h3 : ∀ (r : Fin 128) (j : Fin 512), x3 (ix2 r j) = a.view.read (Elt Ideal) (a.view.writes (Elt Ideal) f L) (ix2 (⟨384 + r.val, by omega⟩ : Fin 512) (⟨col + j.val, by omega⟩ : Fin 4096)) + (G 3 r.val (col + j.val) : EReal))
    (x : Fin 512) (y : Fin 4096) :
    a.view.read (Elt Ideal) (a.view.writes (Elt Ideal) f ((⟨Rect.unit (s := S512x4096) p3 S128x512.size i3, x3⟩ : View.Piece (Elt Ideal) S512x4096 .f32) :: (⟨Rect.unit (s := S512x4096) p2 S128x512.size i2, x2⟩ : View.Piece (Elt Ideal) S512x4096 .f32) :: (⟨Rect.unit (s := S512x4096) p1 S128x512.size i1, x1⟩ : View.Piece (Elt Ideal) S512x4096 .f32) :: (⟨Rect.unit (s := S512x4096) p0 S128x512.size i0, x0⟩ : View.Piece (Elt Ideal) S512x4096 .f32) :: L)) (ix2 x y)
      = a.view.read (Elt Ideal) (a.view.writes (Elt Ideal) f L) (ix2 x y) + ((if col ≤ y.val ∧ y.val < col + 512 then G (x.val / 128) (x.val % 128) y.val else 0 : ℝ) : EReal) := by
  have hx : x.val / 128 = 0 ∨ x.val / 128 = 1 ∨ x.val / 128 = 2 ∨ x.val / 128 = 3 := by omega
  rcases hx with hx | hx | hx | hx
  · have e1 : x.val % 128 = x.val - 0 := by omega
    rw [hx, e1]
    rw [dk_other a f _ i3 n3 x3 x y (by omega)]
    rw [dk_other a f _ i2 n2 x2 x y (by omega)]
    rw [dk_other a f _ i1 n1 x1 x y (by omega)]
    refine dk_own a f _ i0 n0 (by omega) hc x0 (G 0) _ x y (by omega) (rfl) fun r j e2 e3 => ?_
    rw [h0]
    refine congrArg (· + _) (congrArg _ ?_)
    exact congrArg₂ ix2 (Fin.ext e2) (Fin.ext e3)
  · have e1 : x.val % 128 = x.val - 128 := by omega
    rw [hx, e1]
    rw [dk_other a f _ i3 n3 x3 x y (by omega)]
    rw [dk_other a f _ i2 n2 x2 x y (by omega)]
    refine dk_own a f _ i1 n1 (by omega) hc x1 (G 1) _ x y (by omega) (by rw [dk_other a f _ i0 n0 x0 x y (by omega)]) fun r j e2 e3 => ?_
    rw [h1]
    refine congrArg (· + _) (congrArg _ ?_)
    exact congrArg₂ ix2 (Fin.ext e2) (Fin.ext e3)
  · have e1 : x.val % 128 = x.val - 256 := by omega
    rw [hx, e1]
    rw [dk_other a f _ i3 n3 x3 x y (by omega)]
    refine dk_own a f _ i2 n2 (by omega) hc x2 (G 2) _ x y (by omega) (by rw [dk_other a f _ i1 n1 x1 x y (by omega), dk_other a f _ i0 n0 x0 x y (by omega)]) fun r j e2 e3 => ?_
    rw [h2]
    refine congrArg (· + _) (congrArg _ ?_)
    exact congrArg₂ ix2 (Fin.ext e2) (Fin.ext e3)
  · have e1 : x.val % 128 = x.val - 384 := by omega
    rw [hx, e1]
    refine dk_own a f _ i3 n3 (by omega) hc x3 (G 3) _ x y (by omega) (by rw [dk_other a f _ i2 n2 x2 x y (by omega), dk_other a f _ i1 n1 x1 x y (by omega), dk_other a f _ i0 n0 x0 x y (by omega)]) fun r j e2 e3 => ?_
    rw [h3]
    refine congrArg (· + _) (congrArg _ ?_)
    exact congrArg₂ ix2 (Fin.ext e2) (Fin.ext e3)

end

section
variable (a : Memref sig .tc .vmem S256x4096 .f32) (f : BufTy.Contents (Elt Ideal) a.view.ty) (L : List (View.Piece (Elt Ideal) S256x4096 .f32))
  {p0 p1 p2 p3 : Fin 2 → ℕ} (i0 : ∀ j, p0 j + S64x512.size j ≤ S256x4096.size j) (i1 : ∀ j, p1 j + S64x512.size j ≤ S256x4096.size j) (i2 : ∀ j, p2 j + S64x512.size j ≤ S256x4096.size j) (i3 : ∀ j, p3 j + S64x512.size j ≤ S256x4096.size j)
  (x0 x1 x2 x3 : Vec Ideal S64x512 .f32) (G : ℕ → ℕ → ℕ → ℝ) (col : ℕ) (hc : col + 512 ≤ 4096)
  (n0 : p0 = ![0, col]) (n1 : p1 = ![64, col]) (n2 : p2 = ![128, col]) (n3 : p3 = ![192, col])

/-- A part loaded at `off` is the array there. -/
theorem dvTile_at {off : Fin 2 → ℕ} (inb : ∀ j, off j + S64x512.size j ≤ S256x4096.size j) {n col : ℕ} (e : off = ![n, col]) (r : Fin 64) (j : Fin 512)
    (h1 : n + r.val < 256) (h2 : col + j.val < 4096) :
    dvTile a f inb (ix2 r j) = a.view.read (Elt Ideal) f (ix2 (⟨n + r.val, h1⟩ : Fin 256) (⟨col + j.val, h2⟩ : Fin 4096)) := by
  subst e
  exact congrArg (a.view.read (Elt Ideal) f) (funext fun b => Fin.ext (by
    match b with
    | ⟨0, _⟩ => show n + 1 * r.val = n + r.val; omega
    | ⟨1, _⟩ => show col + 1 * j.val = col + j.val; omega))

/-- A piece of other rows leaves a row as it was. -/
theorem dv_other {off : Fin 2 → ℕ} (inb : ∀ j, off j + S64x512.size j ≤ S256x4096.size j) {n col : ℕ} (e : off = ![n, col]) (w : Vec Ideal S64x512 .f32)
    (x : Fin 256) (y : Fin 4096) (h : x.val < n ∨ n + 64 ≤ x.val) :
    a.view.read (Elt Ideal) (a.view.writes (Elt Ideal) f ((⟨Rect.unit (s := S256x4096) off S64x512.size inb, w⟩ : View.Piece (Elt Ideal) S256x4096 .f32) :: L)) (ix2 x y)
      = a.view.read (Elt Ideal) (a.view.writes (Elt Ideal) f L) (ix2 x y) :=
  View.read_writes_cons_unit_of_not_mem a.view f inb w L _ e 0 h

/-- A piece that adds to what it finds in its own window adds nothing elsewhere. -/
theorem dv_own {off : Fin 2 → ℕ} (inb : ∀ j, off j + S64x512.size j ≤ S256x4096.size j) {n col : ℕ} (e : off = ![n, col]) (hn : n + 64 ≤ 256) (hc : col + 512 ≤ 4096)
    (w : Vec Ideal S64x512 .f32) (G : ℕ → ℕ → ℝ) (u : EReal) (x : Fin 256) (y : Fin 4096) (h : n ≤ x.val ∧ x.val < n + 64)
    (hu : a.view.read (Elt Ideal) (a.view.writes (Elt Ideal) f L) (ix2 x y) = u)
    (hw : ∀ (r : Fin 64) (j : Fin 512), n + r.val = x.val → col + j.val = y.val → w (ix2 r j) = u + (G r.val (col + j.val) : EReal)) :
    a.view.read (Elt Ideal) (a.view.writes (Elt Ideal) f ((⟨Rect.unit (s := S256x4096) off S64x512.size inb, w⟩ : View.Piece (Elt Ideal) S256x4096 .f32) :: L)) (ix2 x y)
      = u + ((if col ≤ y.val ∧ y.val < col + 512 then G (x.val - n) y.val else 0 : ℝ) : EReal) := by
  by_cases b : col ≤ y.val ∧ y.val < col + 512
  · have k := hw ⟨x.val - n, by omega⟩ ⟨y.val - col, by omega⟩ (by simp only; omega) (by simp only; omega)
    have e1 : col + (y.val - col) = y.val := by omega
    rw [if_pos b]
    simp only [e1] at k
    rw [← k]
    exact View.read_writes_cons_unit_of_mem a.view f inb w L _ (ix2 (⟨x.val - n, by omega⟩ : Fin 64) (⟨y.val - col, by omega⟩ : Fin 512)) e fun b => by
      match b with
      | ⟨0, _⟩ => show x.val = n + (x.val - n); omega
      | ⟨1, _⟩ => show y.val = col + (y.val - col); omega
  · rw [if_neg b, EReal.coe_zero, add_zero, ← hu]
    refine View.read_writes_cons_unit_of_not_mem a.view f inb w L _ e 1 ?_
    show y.val < col ∨ col + 512 ≤ y.val
    omega

include n0 n1 n2 n3 hc in
/-- Four heads' pieces, each adding to what it finds: the array gains each head's share in the columns written. -/
theorem dv_four
    (h0 : ∀ (r : Fin 64) (j : Fin 512), x0 (ix2 r j) = a.view.read (Elt Ideal) (a.view.writes (Elt Ideal) f L) (ix2 (⟨0 + r.val, by omega⟩ : Fin 256) (⟨col + j.val, by omega⟩ : Fin 4096)) + (G 0 r.val (col + j.val) : EReal))
    (h1 : ∀ (r : Fin 64) (j : Fin 512), x1 (ix2 r j) = a.view.read (Elt Ideal) (a.view.writes (Elt Ideal) f L) (ix2 (⟨64 + r.val, by omega⟩ : Fin 256) (⟨col + j.val, by omega⟩ : Fin 4096)) + (G 1 r.val (col + j.val) : EReal))
    (h2 : ∀ (r : Fin 64) (j : Fin 512), x2 (ix2 r j) = a.view.read (Elt Ideal) (a.view.writes (Elt Ideal) f L) (ix2 (⟨128 + r.val, by omega⟩ : Fin 256) (⟨col + j.val, by omega⟩ : Fin 4096)) + (G 2 r.val (col + j.val) : EReal))
    (h3 : ∀ (r : Fin 64) (j : Fin 512), x3 (ix2 r j) = a.view.read (Elt Ideal) (a.view.writes (Elt Ideal) f L) (ix2 (⟨192 + r.val, by omega⟩ : Fin 256) (⟨col + j.val, by omega⟩ : Fin 4096)) + (G 3 r.val (col + j.val) : EReal))
    (x : Fin 256) (y : Fin 4096) :
    a.view.read (Elt Ideal) (a.view.writes (Elt Ideal) f ((⟨Rect.unit (s := S256x4096) p3 S64x512.size i3, x3⟩ : View.Piece (Elt Ideal) S256x4096 .f32) :: (⟨Rect.unit (s := S256x4096) p2 S64x512.size i2, x2⟩ : View.Piece (Elt Ideal) S256x4096 .f32) :: (⟨Rect.unit (s := S256x4096) p1 S64x512.size i1, x1⟩ : View.Piece (Elt Ideal) S256x4096 .f32) :: (⟨Rect.unit (s := S256x4096) p0 S64x512.size i0, x0⟩ : View.Piece (Elt Ideal) S256x4096 .f32) :: L)) (ix2 x y)
      = a.view.read (Elt Ideal) (a.view.writes (Elt Ideal) f L) (ix2 x y) + ((if col ≤ y.val ∧ y.val < col + 512 then G (x.val / 64) (x.val % 64) y.val else 0 : ℝ) : EReal) := by
  have hx : x.val / 64 = 0 ∨ x.val / 64 = 1 ∨ x.val / 64 = 2 ∨ x.val / 64 = 3 := by omega
  rcases hx with hx | hx | hx | hx
  · have e1 : x.val % 64 = x.val - 0 := by omega
    rw [hx, e1]
    rw [dv_other a f _ i3 n3 x3 x y (by omega)]
    rw [dv_other a f _ i2 n2 x2 x y (by omega)]
    rw [dv_other a f _ i1 n1 x1 x y (by omega)]
    refine dv_own a f _ i0 n0 (by omega) hc x0 (G 0) _ x y (by omega) (rfl) fun r j e2 e3 => ?_
    rw [h0]
    refine congrArg (· + _) (congrArg _ ?_)
    exact congrArg₂ ix2 (Fin.ext e2) (Fin.ext e3)
  · have e1 : x.val % 64 = x.val - 64 := by omega
    rw [hx, e1]
    rw [dv_other a f _ i3 n3 x3 x y (by omega)]
    rw [dv_other a f _ i2 n2 x2 x y (by omega)]
    refine dv_own a f _ i1 n1 (by omega) hc x1 (G 1) _ x y (by omega) (by rw [dv_other a f _ i0 n0 x0 x y (by omega)]) fun r j e2 e3 => ?_
    rw [h1]
    refine congrArg (· + _) (congrArg _ ?_)
    exact congrArg₂ ix2 (Fin.ext e2) (Fin.ext e3)
  · have e1 : x.val % 64 = x.val - 128 := by omega
    rw [hx, e1]
    rw [dv_other a f _ i3 n3 x3 x y (by omega)]
    refine dv_own a f _ i2 n2 (by omega) hc x2 (G 2) _ x y (by omega) (by rw [dv_other a f _ i1 n1 x1 x y (by omega), dv_other a f _ i0 n0 x0 x y (by omega)]) fun r j e2 e3 => ?_
    rw [h2]
    refine congrArg (· + _) (congrArg _ ?_)
    exact congrArg₂ ix2 (Fin.ext e2) (Fin.ext e3)
  · have e1 : x.val % 64 = x.val - 192 := by omega
    rw [hx, e1]
    refine dv_own a f _ i3 n3 (by omega) hc x3 (G 3) _ x y (by omega) (by rw [dv_other a f _ i2 n2 x2 x y (by omega), dv_other a f _ i1 n1 x1 x y (by omega), dv_other a f _ i0 n0 x0 x y (by omega)]) fun r j e2 e3 => ?_
    rw [h3]
    refine congrArg (· + _) (congrArg _ ?_)
    exact congrArg₂ ix2 (Fin.ext e2) (Fin.ext e3)

end

end Cert.Proof.AView
-- ==== Proof.ALoop.lean ====
/- The loop over earlier key blocks: what it carries and what it has written after each trip. -/
module

public import proofs.«01_k».proof.Proof.AView

@[expose] public section

set_option maxRecDepth 16384

noncomputable section

namespace Cert.Proof.ALoop

open Idealize.ShloMosaic Cert.Proof.AMath Cert.Proof.APay Cert.Proof.ATrip Cert.Proof.AView
open Cert.AKernelIdeal Cert.AKernelIdeal.Gen

/-- A query block loops over the key blocks before its own. -/
theorem trips_eq (i : grid0.Coords) : (k0_t1_loop i).trips = (i 1).val := by
  have e : ∀ n : Fin 8, Scf.trips 0#32 (Scalar.addi 0#32 (Scalar.muli (Scalar.divsi (Scalar.subi (BitVec.ofNat 32 n.val) 0#32) 1#32) 1#32)) 1#32 = n.val := by
    decide +kernel
  exact e (i 1)

theorem early (i : grid0.Coords) (k : Fin (k0_t1_loop i).trips) : k.val < (i 1).val ∧ (i 1).val < 8 := by
  exact ⟨lt_of_lt_of_eq k.isLt (trips_eq i), (i 1).isLt⟩

theorem word (i : grid0.Coords) (k : Fin (k0_t1_loop i).trips) : (Scalar.indexCast (Scalar.muli (Scf.iv 0#32 1#32 k.val) 512#32)).toNat = 512 * k.val := by
  have e : ∀ n : Fin 8, (Scalar.indexCast (Scalar.muli (Scf.iv 0#32 1#32 n.val) 512#32)).toNat = 512 * n.val := by decide +kernel
  exact e ⟨k.val, by have := early i k; omega⟩

theorem off1 (i : grid0.Coords) (k : Fin (k0_t1_loop i).trips) : k0_off1 i k = ![512 * k.val, 0] := congrArg (fun n => ![n, 0]) (word i k)
theorem off2 (i : grid0.Coords) (k : Fin (k0_t1_loop i).trips) : k0_off2 i k = ![512 * k.val, 0] := congrArg (fun n => ![n, 0]) (word i k)
theorem off3 (i : grid0.Coords) (k : Fin (k0_t1_loop i).trips) : k0_off3 i k = ![0, 512 * k.val] := congrArg (fun n => ![0, n]) (word i k)
theorem off4 (i : grid0.Coords) (k : Fin (k0_t1_loop i).trips) : k0_off4 i k = ![0, 512 * k.val] := congrArg (fun n => ![0, n]) (word i k)
theorem off5 (i : grid0.Coords) (k : Fin (k0_t1_loop i).trips) : k0_off5 i k = ![512 * k.val, 128] := congrArg (fun n => ![n, 128]) (word i k)
theorem off6 (i : grid0.Coords) (k : Fin (k0_t1_loop i).trips) : k0_off6 i k = ![512 * k.val, 64] := congrArg (fun n => ![n, 64]) (word i k)
theorem off7 (i : grid0.Coords) (k : Fin (k0_t1_loop i).trips) : k0_off7 i k = ![64, 512 * k.val] := congrArg (fun n => ![64, n]) (word i k)
theorem off8 (i : grid0.Coords) (k : Fin (k0_t1_loop i).trips) : k0_off8 i k = ![128, 512 * k.val] := congrArg (fun n => ![128, n]) (word i k)
theorem off9 (i : grid0.Coords) (k : Fin (k0_t1_loop i).trips) : k0_off9 i k = ![512 * k.val, 256] := congrArg (fun n => ![n, 256]) (word i k)
theorem off10 (i : grid0.Coords) (k : Fin (k0_t1_loop i).trips) : k0_off10 i k = ![512 * k.val, 128] := congrArg (fun n => ![n, 128]) (word i k)
theorem off11 (i : grid0.Coords) (k : Fin (k0_t1_loop i).trips) : k0_off11 i k = ![128, 512 * k.val] := congrArg (fun n => ![128, n]) (word i k)
theorem off12 (i : grid0.Coords) (k : Fin (k0_t1_loop i).trips) : k0_off12 i k = ![256, 512 * k.val] := congrArg (fun n => ![256, n]) (word i k)
theorem off13 (i : grid0.Coords) (k : Fin (k0_t1_loop i).trips) : k0_off13 i k = ![512 * k.val, 384] := congrArg (fun n => ![n, 384]) (word i k)
theorem off14 (i : grid0.Coords) (k : Fin (k0_t1_loop i).trips) : k0_off14 i k = ![512 * k.val, 192] := congrArg (fun n => ![n, 192]) (word i k)
theorem off15 (i : grid0.Coords) (k : Fin (k0_t1_loop i).trips) : k0_off15 i k = ![192, 512 * k.val] := congrArg (fun n => ![192, n]) (word i k)
theorem off16 (i : grid0.Coords) (k : Fin (k0_t1_loop i).trips) : k0_off16 i k = ![384, 512 * k.val] := congrArg (fun n => ![384, n]) (word i k)

theorem keyTile_at (a : Memref sig .tc .vmem S4096x512 .bf16) (X : BufTy.Contents (Elt Ideal) a.view.ty) {off : Fin 2 → ℕ}
    (inb : ∀ j, off j + S512x128.size j ≤ S4096x512.size j) {n m : ℕ} (e : off = ![n, m]) (hn : n + 512 ≤ 4096) (hm : m + 128 ≤ 512) (j : Fin 512) (c : Fin 128) :
    keyTile a X inb (ix2 j c) = a.view.read (Elt Ideal) X (ix2 (⟨n + j.val, by omega⟩ : Fin 4096) (⟨m + c.val, by omega⟩ : Fin 512)) := by
  subst e
  exact congrArg (a.view.read (Elt Ideal) X) (funext fun b => Fin.ext (by
    match b with
    | ⟨0, _⟩ => show n + 1 * j.val = n + j.val; omega
    | ⟨1, _⟩ => show m + 1 * c.val = m + c.val; omega))

theorem valTile_at (a : Memref sig .tc .vmem S4096x256 .bf16) (X : BufTy.Contents (Elt Ideal) a.view.ty) {off : Fin 2 → ℕ}
    (inb : ∀ j, off j + S512x64.size j ≤ S4096x256.size j) {n m : ℕ} (e : off = ![n, m]) (hn : n + 512 ≤ 4096) (hm : m + 64 ≤ 256) (j : Fin 512) (c : Fin 64) :
    valTile a X inb (ix2 j c) = a.view.read (Elt Ideal) X (ix2 (⟨n + j.val, by omega⟩ : Fin 4096) (⟨m + c.val, by omega⟩ : Fin 256)) := by
  subst e
  exact congrArg (a.view.read (Elt Ideal) X) (funext fun b => Fin.ext (by
    match b with
    | ⟨0, _⟩ => show n + 1 * j.val = n + j.val; omega
    | ⟨1, _⟩ => show m + 1 * c.val = m + c.val; omega))

/-- The keys and values of four heads, all rows. -/
structure Held (D : Data) (p : ℕ) (x : Vec Ideal S4096x512 .bf16) (y : Vec Ideal S4096x256 .bf16) : Prop where
  k (t : Fin 4096) (c : Fin 512) : x (ix2 t c) = (D.K (4 * p + c.val / 128) t.val (c.val % 128) : EReal)
  v (t : Fin 4096) (c : Fin 256) : y (ix2 t c) = (D.v t.val (4 * p + c.val / 64) (c.val % 64) : EReal)

theorem Held.keys {D : Data} {p : ℕ} {a : Memref sig .tc .vmem S4096x512 .bf16} {a' : Memref sig .tc .vmem S4096x256 .bf16}
    {X : BufTy.Contents (Elt Ideal) a.view.ty} {Y : BufTy.Contents (Elt Ideal) a'.view.ty} (T : Held D p (a.view.read (Elt Ideal) X) (a'.view.read (Elt Ideal) Y))
    (h t : ℕ) (hh : h < 4) (ht : t + 512 ≤ 4096) {off off' : Fin 2 → ℕ}
    (inb : ∀ j, off j + S512x128.size j ≤ S4096x512.size j) (inb' : ∀ j, off' j + S512x64.size j ≤ S4096x256.size j)
    (e : off = ![t, 128 * h]) (e' : off' = ![t, 64 * h]) : Keys D (4 * p + h) t (keyTile a X inb) (valTile a' Y inb') where
  k j c := by
    rw [keyTile_at a X inb e ht (by omega), T.k]
    have e1 : (128 * h + c.val) / 128 = h := by omega
    have e2 : (128 * h + c.val) % 128 = c.val := by omega
    simp only [e1, e2]
  v j c := by
    rw [valTile_at a' Y inb' e' ht (by omega), T.v]
    have e1 : (64 * h + c.val) / 64 = h := by omega
    have e2 : (64 * h + c.val) % 64 = c.val := by omega
    simp only [e1, e2]

/-- What the carried gradients of the queries hold: the share of the keys before row `n`. -/
def Carried (D : Data) (h s n : ℕ) (x : FVec Ideal S512x128 .f32) : Prop :=
  ∀ (r : Fin 512) (c : Fin 128), x (ix2 r c) = ((∑ t ∈ Finset.range n, D.ds h (s + r.val) t * D.K h t c.val : ℝ) : EReal)

theorem Carried.add {D : Data} {h s n : ℕ} {x y : FVec Ideal S512x128 .f32} (H : Carried D h s n x)
    (e : ∀ (r : Fin 512) (c : Fin 128), y (ix2 r c) = x (ix2 r c) + (addQ D h (s + r.val) c.val n : EReal)) : Carried D h s (n + 512) y := by
  intro r c
  rw [e, H, ← EReal.coe_add, Finset.sum_range_add, addQ, Finset.sum_range (n := 512)]

variable (D : Data) (p : ℕ)
variable (𝒱 : Variants) (c : Dev nD) (bd : Option 𝒱.V) (i : grid0.Coords)
  (a2 : Memref sig .tc .vmem S512x512 .bf16) (w2 : a2.IsWhole)
  (a3 : Memref sig .tc .vmem S512x512 .bf16) (w3 : a3.IsWhole)
  (a4 : Memref sig .tc .vmem S512x256 .f32) (w4 : a4.IsWhole)
  (a5 : Memref sig .tc .vmem S512x512 .f32) (w5 : a5.IsWhole)
  (a6 : Memref sig .tc .vmem S512x512 .f32) (w6 : a6.IsWhole)
  (a7 : Memref sig .tc .vmem S4096x512 .bf16) (w7 : a7.IsWhole)
  (a8 : Memref sig .tc .vmem S4096x256 .bf16) (w8 : a8.IsWhole)
  (a9 : Memref sig .tc .vmem S512x512 .f32) (w9 : a9.IsWhole)
  (a10 : Memref sig .tc .vmem S512x4096 .f32) (w10 : a10.IsWhole)
  (a11 : Memref sig .tc .vmem S256x4096 .f32) (w11 : a11.IsWhole)
  (b : BitVec 32) (m : IVec S512x512 1) (q0 q1 q2 q3 : FVec Ideal S512x128 .bf16) (t0 t1 t2 t3 : FVec Ideal S128x512 .bf16)
  (o0 o1 o2 o3 : FVec Ideal S512x64 .bf16) (u0 u1 u2 u3 : FVec Ideal S64x512 .bf16) (l0 l1 l2 l3 e0 e1 e2 e3 : FVec Ideal S512x512 .f32)
  (z : FVec Ideal S512x128 .f32) (z0 z1 z2 : BitVec 32) (X : BufTy.Contents (Elt Ideal) a7.view.ty) (Y : BufTy.Contents (Elt Ideal) a8.view.ty)
  (f : BufTy.Contents (Elt Ideal) a10.view.ty) (g : BufTy.Contents (Elt Ideal) a11.view.ty)
  (hz : ∀ j, z j = 0) (T : Held D p (a7.view.read (Elt Ideal) X) (a8.view.read (Elt Ideal) Y))
  (R0 : Rows D (4 * p + 0) (512 * (i 1).val) q0 t0 o0 u0 l0 e0)
  (R1 : Rows D (4 * p + 1) (512 * (i 1).val) q1 t1 o1 u1 l1 e1)
  (R2 : Rows D (4 * p + 2) (512 * (i 1).val) q2 t2 o2 u2 l2 e2)
  (R3 : Rows D (4 * p + 3) (512 * (i 1).val) q3 t3 o3 u3 l3 e3)

/-- The state after `k` trips. -/
structure At (n : ℕ) (S : (FVec Ideal S512x128 .f32 × FVec Ideal S512x128 .f32 × FVec Ideal S512x128 .f32 × FVec Ideal S512x128 .f32)
    × List (View.Piece (Elt Ideal) S512x4096 .f32) × List (View.Piece (Elt Ideal) S256x4096 .f32)) : Prop where
  q0 : Carried D (4 * p + 0) (512 * (i 1).val) (512 * n) S.1.1
  q1 : Carried D (4 * p + 1) (512 * (i 1).val) (512 * n) S.1.2.1
  q2 : Carried D (4 * p + 2) (512 * (i 1).val) (512 * n) S.1.2.2.1
  q3 : Carried D (4 * p + 3) (512 * (i 1).val) (512 * n) S.1.2.2.2
  dk (x : Fin 512) (y : Fin 4096) : a10.view.read (Elt Ideal) (a10.view.writes (Elt Ideal) f S.2.1) (ix2 x y)
    = a10.view.read (Elt Ideal) f (ix2 x y) + ((if y.val < 512 * n then addK D (4 * p + x.val / 128) (512 * (i 1).val) (x.val % 128) y.val else 0 : ℝ) : EReal)
  dv (x : Fin 256) (y : Fin 4096) : a11.view.read (Elt Ideal) (a11.view.writes (Elt Ideal) g S.2.2) (ix2 x y)
    = a11.view.read (Elt Ideal) g (ix2 x y) + ((if y.val < 512 * n then addV D (4 * p + x.val / 64) (512 * (i 1).val) (x.val % 64) y.val else 0 : ℝ) : EReal)

/-- A block's columns join those before it. -/
theorem join (n y : ℕ) (G : ℝ) : ((if y < 512 * n then G else 0 : ℝ) : EReal) + ((if 512 * n ≤ y ∧ y < 512 * n + 512 then G else 0 : ℝ) : EReal)
    = ((if y < 512 * (n + 1) then G else 0 : ℝ) : EReal) := by
  rw [← EReal.coe_add]
  refine congrArg _ ?_
  split_ifs <;> first | omega | simp

include hz T R0 R1 R2 R3 in
theorem after (k : ℕ) (hk : k ≤ (k0_t1_loop i).trips) : At D p i a10 a11 f g k (st_k0_t1 (F := Ideal) 𝒱 c bd i a2 w2 a3 w3 a4 w4 a5 w5 a6 w6 a7 w7 a8 w8 a9 w9 a10 w10 a11 w11 b m q0 q1 q2 q3 t0 t1 t2 t3 o0 o1 o2 o3 u0 u1 u2 u3 l0 l1 l2 l3 e0 e1 e2 e3 z z0 z1 z2 X Y f g (z, z, z, z) k) := by
  induction k with
  | zero =>
    rw [st_k0_t1.eq_1]
    refine ⟨?_, ?_, ?_, ?_, fun x y => ?_, fun x y => ?_⟩
    · intro r c; simpa using hz _
    · intro r c; simpa using hz _
    · intro r c; simpa using hz _
    · intro r c; simpa using hz _
    · simp
    · simp
  | succ k ih =>
    have H := ih (by omega)
    have hlt : k < (k0_t1_loop i).trips := by omega
    have hb := early i ⟨k, hlt⟩
    simp only at hb
    have K0 := T.keys 0 (512 * k) (by omega) (by omega) (k0_off1_inb i ⟨k, hlt⟩) (k0_off2_inb i ⟨k, hlt⟩) (off1 i ⟨k, hlt⟩) (off2 i ⟨k, hlt⟩)
    have K1 := T.keys 1 (512 * k) (by omega) (by omega) (k0_off5_inb i ⟨k, hlt⟩) (k0_off6_inb i ⟨k, hlt⟩) (off5 i ⟨k, hlt⟩) (off6 i ⟨k, hlt⟩)
    have K2 := T.keys 2 (512 * k) (by omega) (by omega) (k0_off9_inb i ⟨k, hlt⟩) (k0_off10_inb i ⟨k, hlt⟩) (off9 i ⟨k, hlt⟩) (off10 i ⟨k, hlt⟩)
    have K3 := T.keys 3 (512 * k) (by omega) (by omega) (k0_off13_inb i ⟨k, hlt⟩) (k0_off14_inb i ⟨k, hlt⟩) (off13 i ⟨k, hlt⟩) (off14 i ⟨k, hlt⟩)
    rw [st_k0_t1_succ 𝒱 c bd i a2 w2 a3 w3 a4 w4 a5 w5 a6 w6 a7 w7 a8 w8 a9 w9 a10 w10 a11 w11 b m q0 q1 q2 q3 t0 t1 t2 t3 o0 o1 o2 o3 u0 u1 u2 u3 l0 l1 l2 l3 e0 e1 e2 e3 z z0 z1 z2 X Y f g (z, z, z, z) ⟨k, hlt⟩, yields, pieces]
    generalize st_k0_t1 (F := Ideal) 𝒱 c bd i a2 w2 a3 w3 a4 w4 a5 w5 a6 w6 a7 w7 a8 w8 a9 w9 a10 w10 a11 w11 b m q0 q1 q2 q3 t0 t1 t2 t3 o0 o1 o2 o3 u0 u1 u2 u3 l0 l1 l2 l3 e0 e1 e2 e3 z z0 z1 z2 X Y f g (z, z, z, z) k = S at H ⊢
    have hs : 512 * (i 1).val + 512 ≤ 4096 := by omega
    have hv : 512 * k + 512 ≤ 512 * (i 1).val := by omega
    refine ⟨H.q0.add fun r c => pay6_at R0 K0 hs hv _ r c, H.q1.add fun r c => pay6_at R1 K1 hs hv _ r c, H.q2.add fun r c => pay6_at R2 K2 hs hv _ r c,
      H.q3.add fun r c => pay6_at R3 K3 hs hv _ r c, fun x y => ?_, fun x y => ?_⟩
    · refine (dk_four a10 f S.2.1 _ _ _ _ _ _ _ _ (fun h c t => addK D (4 * p + h) (512 * (i 1).val) c t) (512 * k) (by omega)
        (off4 i ⟨k, hlt⟩) (off8 i ⟨k, hlt⟩) (off12 i ⟨k, hlt⟩) (off16 i ⟨k, hlt⟩) (fun r j => ?_) (fun r j => ?_) (fun r j => ?_) (fun r j => ?_) x y).trans ?_
      · rw [pay5_at R0 K0 hs hv, dkTile_at _ _ _ (off4 i ⟨k, hlt⟩)]
      · rw [pay5_at R1 K1 hs hv, dkTile_at _ _ _ (off8 i ⟨k, hlt⟩)]
      · rw [pay5_at R2 K2 hs hv, dkTile_at _ _ _ (off12 i ⟨k, hlt⟩)]
      · rw [pay5_at R3 K3 hs hv, dkTile_at _ _ _ (off16 i ⟨k, hlt⟩)]
      · rw [H.dk, add_assoc, join]
    · refine (dv_four a11 g S.2.2 _ _ _ _ _ _ _ _ (fun h c t => addV D (4 * p + h) (512 * (i 1).val) c t) (512 * k) (by omega)
        (off3 i ⟨k, hlt⟩) (off7 i ⟨k, hlt⟩) (off11 i ⟨k, hlt⟩) (off15 i ⟨k, hlt⟩) (fun r j => ?_) (fun r j => ?_) (fun r j => ?_) (fun r j => ?_) x y).trans ?_
      · rw [pay4_at R0 K0 hs hv, dvTile_at _ _ _ (off3 i ⟨k, hlt⟩)]
      · rw [pay4_at R1 K1 hs hv, dvTile_at _ _ _ (off7 i ⟨k, hlt⟩)]
      · rw [pay4_at R2 K2 hs hv, dvTile_at _ _ _ (off11 i ⟨k, hlt⟩)]
      · rw [pay4_at R3 K3 hs hv, dvTile_at _ _ _ (off15 i ⟨k, hlt⟩)]
      · rw [H.dv, add_assoc, join]

end Cert.Proof.ALoop
-- ==== Proof.ADiag.lean ====
/- One grid point: the arrays it loads, the loop over earlier blocks, and the block on the diagonal. -/
module

public import proofs.«01_k».proof.Proof.ALoop
public import proofs.«01_k».proof.Proof.Gen.AKernelIdeal.Frame
import all proofs.«01_k».proof.Proof.Gen.AKernelIdeal.Frame.RunA
import all proofs.«01_k».proof.Proof.Gen.AKernelIdeal.Frame.RunB

@[expose] public section

set_option maxRecDepth 16384

noncomputable section

namespace Cert.Proof.ADiag

open Idealize.ShloMosaic Cert.Proof.AMath Cert.Proof.APay Cert.Proof.ATrip Cert.Proof.AView Cert.Proof.ALoop
open Cert.AKernelIdeal Cert.AKernelIdeal.Gen

/-- The pieces after one more update of some rows and columns: what stands there, passed through `pay`. -/
def put {s : Shape} (a : Memref sig .tc .vmem s .f32) (f : BufTy.Contents (Elt Ideal) a.view.ty) {off size : Fin s.rank → ℕ}
    (inb : ∀ j, off j + size j ≤ s.size j)
    (pay : Vec Ideal (Rect.unit off size inb).shape .f32 → FVec Ideal (Rect.unit off size inb).shape .f32) (L : List (View.Piece (Elt Ideal) s .f32)) :
    List (View.Piece (Elt Ideal) s .f32) :=
  ⟨Rect.unit off size inb, pay (View.readAt (Elt Ideal) a.view (Rect.unit off size inb).toLoadRect (a.view.writes (Elt Ideal) f L))⟩ :: L

/-- The mask of the diagonal block. -/
abbrev mask : IVec S512x512 1 := k0_pay52 k0_pay49 (iota .tc S512x512 32 [1] iota_S512x512_d1_w32) 64#32 k0_pay50 k0_pay51 1#32

/-- The queries of head 0. -/
abbrev q0 (a : Memref sig .tc .vmem S512x512 .bf16) (w : a.IsWhole) (x : Vec Ideal S512x512 .bf16) : FVec Ideal S512x128 .bf16 :=
  k0_pay53 (View.readAt (Elt Ideal) a.view (Rect.unit (s := S512x512) ![0, 0] S512x128.size inb_S512x512_S512x128_0_0).toLoadRect (w.unread x))

/-- The transposed queries of head 0. -/
abbrev t0 (a : Memref sig .tc .vmem S512x512 .bf16) (w : a.IsWhole) (x : Vec Ideal S512x512 .bf16) : FVec Ideal S128x512 .bf16 :=
  k0_pay57 (View.readAt (Elt Ideal) a.view (Rect.unit (s := S512x512) ![0, 0] S128x512.size inb_S512x512_S128x512_0_0).toLoadRect (w.unread x))

/-- The cotangents of head 0. -/
abbrev o0 (a : Memref sig .tc .vmem S512x256 .f32) (w : a.IsWhole) (x : Vec Ideal S512x256 .f32) : FVec Ideal S512x64 .bf16 :=
  k0_pay61 (View.readAt (Elt Ideal) a.view (Rect.unit (s := S512x256) ![0, 0] S512x64.size inb_S512x256_S512x64_0_0).toLoadRect (w.unread x))

/-- The transposed cotangents of head 0. -/
abbrev u0 (a : Memref sig .tc .vmem S512x256 .f32) (w : a.IsWhole) (x : Vec Ideal S512x256 .f32) : FVec Ideal S64x512 .bf16 :=
  k0_pay66 (View.readAt (Elt Ideal) a.view (Rect.unit (s := S512x256) ![0, 0] S512x256.size inb_S512x256_S512x256_0_0).toLoadRect (w.unread x))

/-- The saved row logarithms of head 0. -/
abbrev l0 (a : Memref sig .tc .vmem S512x512 .f32) (w : a.IsWhole) (x : Vec Ideal S512x512 .f32) : FVec Ideal S512x512 .f32 :=
  k0_pay70 (View.readAt (Elt Ideal) a.view (Rect.unit (s := S512x512) ![0, 0] S512x128.size inb_S512x512_S512x128_0_0).toLoadRect (w.unread x))

/-- The queries of head 1. -/
abbrev q1 (a : Memref sig .tc .vmem S512x512 .bf16) (w : a.IsWhole) (x : Vec Ideal S512x512 .bf16) : FVec Ideal S512x128 .bf16 :=
  k0_pay53 (View.readAt (Elt Ideal) a.view (Rect.unit (s := S512x512) ![0, 128] S512x128.size inb_S512x512_S512x128_0_128).toLoadRect (w.unread x))

/-- The transposed queries of head 1. -/
abbrev t1 (a : Memref sig .tc .vmem S512x512 .bf16) (w : a.IsWhole) (x : Vec Ideal S512x512 .bf16) : FVec Ideal S128x512 .bf16 :=
  k0_pay57 (View.readAt (Elt Ideal) a.view (Rect.unit (s := S512x512) ![128, 0] S128x512.size inb_S512x512_S128x512_128_0).toLoadRect (w.unread x))

/-- The cotangents of head 1. -/
abbrev o1 (a : Memref sig .tc .vmem S512x256 .f32) (w : a.IsWhole) (x : Vec Ideal S512x256 .f32) : FVec Ideal S512x64 .bf16 :=
  k0_pay61 (View.readAt (Elt Ideal) a.view (Rect.unit (s := S512x256) ![0, 64] S512x64.size inb_S512x256_S512x64_0_64).toLoadRect (w.unread x))

/-- The transposed cotangents of head 1. -/
abbrev u1 (a : Memref sig .tc .vmem S512x256 .f32) (w : a.IsWhole) (x : Vec Ideal S512x256 .f32) : FVec Ideal S64x512 .bf16 :=
  k0_pay67 (View.readAt (Elt Ideal) a.view (Rect.unit (s := S512x256) ![0, 0] S512x256.size inb_S512x256_S512x256_0_0).toLoadRect (w.unread x))

/-- The saved row logarithms of head 1. -/
abbrev l1 (a : Memref sig .tc .vmem S512x512 .f32) (w : a.IsWhole) (x : Vec Ideal S512x512 .f32) : FVec Ideal S512x512 .f32 :=
  k0_pay70 (View.readAt (Elt Ideal) a.view (Rect.unit (s := S512x512) ![0, 128] S512x128.size inb_S512x512_S512x128_0_128).toLoadRect (w.unread x))

/-- The queries of head 2. -/
abbrev q2 (a : Memref sig .tc .vmem S512x512 .bf16) (w : a.IsWhole) (x : Vec Ideal S512x512 .bf16) : FVec Ideal S512x128 .bf16 :=
  k0_pay53 (View.readAt (Elt Ideal) a.view (Rect.unit (s := S512x512) ![0, 256] S512x128.size inb_S512x512_S512x128_0_256).toLoadRect (w.unread x))

/-- The transposed queries of head 2. -/
abbrev t2 (a : Memref sig .tc .vmem S512x512 .bf16) (w : a.IsWhole) (x : Vec Ideal S512x512 .bf16) : FVec Ideal S128x512 .bf16 :=
  k0_pay57 (View.readAt (Elt Ideal) a.view (Rect.unit (s := S512x512) ![256, 0] S128x512.size inb_S512x512_S128x512_256_0).toLoadRect (w.unread x))

/-- The cotangents of head 2. -/
abbrev o2 (a : Memref sig .tc .vmem S512x256 .f32) (w : a.IsWhole) (x : Vec Ideal S512x256 .f32) : FVec Ideal S512x64 .bf16 :=
  k0_pay61 (View.readAt (Elt Ideal) a.view (Rect.unit (s := S512x256) ![0, 128] S512x64.size inb_S512x256_S512x64_0_128).toLoadRect (w.unread x))

/-- The transposed cotangents of head 2. -/
abbrev u2 (a : Memref sig .tc .vmem S512x256 .f32) (w : a.IsWhole) (x : Vec Ideal S512x256 .f32) : FVec Ideal S64x512 .bf16 :=
  k0_pay68 (View.readAt (Elt Ideal) a.view (Rect.unit (s := S512x256) ![0, 0] S512x256.size inb_S512x256_S512x256_0_0).toLoadRect (w.unread x))

/-- The saved row logarithms of head 2. -/
abbrev l2 (a : Memref sig .tc .vmem S512x512 .f32) (w : a.IsWhole) (x : Vec Ideal S512x512 .f32) : FVec Ideal S512x512 .f32 :=
  k0_pay70 (View.readAt (Elt Ideal) a.view (Rect.unit (s := S512x512) ![0, 256] S512x128.size inb_S512x512_S512x128_0_256).toLoadRect (w.unread x))

/-- The queries of head 3. -/
abbrev q3 (a : Memref sig .tc .vmem S512x512 .bf16) (w : a.IsWhole) (x : Vec Ideal S512x512 .bf16) : FVec Ideal S512x128 .bf16 :=
  k0_pay53 (View.readAt (Elt Ideal) a.view (Rect.unit (s := S512x512) ![0, 384] S512x128.size inb_S512x512_S512x128_0_384).toLoadRect (w.unread x))

/-- The transposed queries of head 3. -/
abbrev t3 (a : Memref sig .tc .vmem S512x512 .bf16) (w : a.IsWhole) (x : Vec Ideal S512x512 .bf16) : FVec Ideal S128x512 .bf16 :=
  k0_pay57 (View.readAt (Elt Ideal) a.view (Rect.unit (s := S512x512) ![384, 0] S128x512.size inb_S512x512_S128x512_384_0).toLoadRect (w.unread x))

/-- The cotangents of head 3. -/
abbrev o3 (a : Memref sig .tc .vmem S512x256 .f32) (w : a.IsWhole) (x : Vec Ideal S512x256 .f32) : FVec Ideal S512x64 .bf16 :=
  k0_pay61 (View.readAt (Elt Ideal) a.view (Rect.unit (s := S512x256) ![0, 192] S512x64.size inb_S512x256_S512x64_0_192).toLoadRect (w.unread x))

/-- The transposed cotangents of head 3. -/
abbrev u3 (a : Memref sig .tc .vmem S512x256 .f32) (w : a.IsWhole) (x : Vec Ideal S512x256 .f32) : FVec Ideal S64x512 .bf16 :=
  k0_pay69 (View.readAt (Elt Ideal) a.view (Rect.unit (s := S512x256) ![0, 0] S512x256.size inb_S512x256_S512x256_0_0).toLoadRect (w.unread x))

/-- The saved row logarithms of head 3. -/
abbrev l3 (a : Memref sig .tc .vmem S512x512 .f32) (w : a.IsWhole) (x : Vec Ideal S512x512 .f32) : FVec Ideal S512x512 .f32 :=
  k0_pay70 (View.readAt (Elt Ideal) a.view (Rect.unit (s := S512x512) ![0, 384] S512x128.size inb_S512x512_S512x128_0_384).toLoadRect (w.unread x))

variable (c : Dev nD) (i : grid0.Coords)
  (a2 : Memref sig .tc .vmem S512x512 .bf16) (w2 : a2.IsWhole)
  (a3 : Memref sig .tc .vmem S512x512 .bf16) (w3 : a3.IsWhole)
  (a4 : Memref sig .tc .vmem S512x256 .f32) (w4 : a4.IsWhole)
  (a5 : Memref sig .tc .vmem S512x512 .f32) (w5 : a5.IsWhole)
  (a6 : Memref sig .tc .vmem S512x512 .f32) (w6 : a6.IsWhole)
  (a7 : Memref sig .tc .vmem S4096x512 .bf16) (w7 : a7.IsWhole)
  (a8 : Memref sig .tc .vmem S4096x256 .bf16) (w8 : a8.IsWhole)
  (a9 : Memref sig .tc .vmem S512x512 .f32) (w9 : a9.IsWhole)
  (a10 : Memref sig .tc .vmem S512x4096 .f32) (w10 : a10.IsWhole)
  (a11 : Memref sig .tc .vmem S256x4096 .f32) (w11 : a11.IsWhole)
  (x0 x1 : Vec Ideal S512x512 .bf16) (x2 : Vec Ideal S512x256 .f32) (x3 x4 : Vec Ideal S512x512 .f32) (x5 : Vec Ideal S4096x512 .bf16) (x6 : Vec Ideal S4096x256 .bf16)

/-- The loop over earlier blocks, from contents `f` and `g`. -/
abbrev loop (f : BufTy.Contents (Elt Ideal) a10.view.ty) (g : BufTy.Contents (Elt Ideal) a11.view.ty) :=
  st_k0_t1 (F := Ideal) Variants.none c none i a2 w2 a3 w3 a4 w4 a5 w5 a6 w6 a7 w7 a8 w8 a9 w9 a10 w10 a11 w11 (BitVec.ofNat 32 (i 1).val) mask (q0 a2 w2 x0) (q1 a2 w2 x0) (q2 a2 w2 x0) (q3 a2 w2 x0) (t0 a3 w3 x1) (t1 a3 w3 x1) (t2 a3 w3 x1) (t3 a3 w3 x1) (o0 a4 w4 x2) (o1 a4 w4 x2) (o2 a4 w4 x2) (o3 a4 w4 x2) (u0 a4 w4 x2) (u1 a4 w4 x2) (u2 a4 w4 x2) (u3 a4 w4 x2) (l0 a5 w5 x3) (l1 a5 w5 x3) (l2 a5 w5 x3) (l3 a5 w5 x3) (l0 a6 w6 x4) (l1 a6 w6 x4) (l2 a6 w6 x4) (l3 a6 w6 x4) k0_pay78 0#32 (k0_t1_loop i).ub 1#32 (w7.unread x5) (w8.unread x6) f g (k0_pay78, k0_pay78, k0_pay78, k0_pay78) (k0_t1_loop i).trips

/-- The second loop, which makes no trip. -/
abbrev rest (f : BufTy.Contents (Elt Ideal) a10.view.ty) (g : BufTy.Contents (Elt Ideal) a11.view.ty)
    (z : FVec Ideal S512x128 .f32 × FVec Ideal S512x128 .f32 × FVec Ideal S512x128 .f32 × FVec Ideal S512x128 .f32) :=
  st_k0_t2 (F := Ideal) Variants.none c none i a2 w2 a3 w3 a4 w4 a5 w5 a6 w6 a7 w7 a8 w8 a9 w9 a10 w10 a11 w11 (BitVec.ofNat 32 (i 1).val) mask (q0 a2 w2 x0) (q1 a2 w2 x0) (q2 a2 w2 x0) (q3 a2 w2 x0) (t0 a3 w3 x1) (t1 a3 w3 x1) (t2 a3 w3 x1) (t3 a3 w3 x1) (o0 a4 w4 x2) (o1 a4 w4 x2) (o2 a4 w4 x2) (o3 a4 w4 x2) (u0 a4 w4 x2) (u1 a4 w4 x2) (u2 a4 w4 x2) (u3 a4 w4 x2) (l0 a5 w5 x3) (l1 a5 w5 x3) (l2 a5 w5 x3) (l3 a5 w5 x3) (l0 a6 w6 x4) (l1 a6 w6 x4) (l2 a6 w6 x4) (l3 a6 w6 x4) k0_pay78 0#32 (k0_t1_loop i).ub 1#32 (w7.unread x5) (w8.unread x6) f g z (k0_t2_loop i).trips

theorem rest_eq (f : BufTy.Contents (Elt Ideal) a10.view.ty) (g : BufTy.Contents (Elt Ideal) a11.view.ty)
    (z : FVec Ideal S512x128 .f32 × FVec Ideal S512x128 .f32 × FVec Ideal S512x128 .f32 × FVec Ideal S512x128 .f32) :
    rest c i a2 w2 a3 w3 a4 w4 a5 w5 a6 w6 a7 w7 a8 w8 a9 w9 a10 w10 a11 w11 x0 x1 x2 x3 x4 x5 x6 f g z = (z, [], []) := by
  have e : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  have e2 : (k0_t2_loop i).trips = 0 := e (i 1)
  unfold rest
  rw [e2, st_k0_t2.eq_1]

/-- The pieces of the queries' gradient. -/
def dqAll (S : (FVec Ideal S512x128 .f32 × FVec Ideal S512x128 .f32 × FVec Ideal S512x128 .f32 × FVec Ideal S512x128 .f32)
    × List (View.Piece (Elt Ideal) S512x4096 .f32) × List (View.Piece (Elt Ideal) S256x4096 .f32)) : List (View.Piece (Elt Ideal) S512x512 .f32) :=
  [⟨Rect.unit (s := S512x512) ![0, 384] S512x128.size inb_S512x512_S512x128_0_384, k0_pay112 (o3 a4 w4 x2) (l3 a6 w6 x4) S.1.2.2.2 (k0_pay103 (keyTile a7 (w7.unread x5) (k0_off45_inb i))) (k0_pay104 (valTile a8 (w8.unread x6) (k0_off46_inb i))) (k0_pay105 mask (q3 a2 w2 x0) (l3 a5 w5 x3) (keyTile a7 (w7.unread x5) (k0_off45_inb i)))⟩,
   ⟨Rect.unit (s := S512x512) ![0, 256] S512x128.size inb_S512x512_S512x128_0_256, k0_pay111 (k0_pay102 mask (o2 a4 w4 x2) (l2 a5 w5 x3) (l2 a6 w6 x4) S.1.2.2.1 (k0_pay95 (keyTile a7 (w7.unread x5) (k0_off41_inb i))) (k0_pay96 (valTile a8 (w8.unread x6) (k0_off42_inb i))) (k0_pay97 (q2 a2 w2 x0) (keyTile a7 (w7.unread x5) (k0_off41_inb i))))⟩,
   ⟨Rect.unit (s := S512x512) ![0, 128] S512x128.size inb_S512x512_S512x128_0_128, k0_pay110 (k0_pay94 mask (q1 a2 w2 x0) (o1 a4 w4 x2) (l1 a5 w5 x3) (l1 a6 w6 x4) S.1.2.1 (keyTile a7 (w7.unread x5) (k0_off37_inb i)) (valTile a8 (w8.unread x6) (k0_off38_inb i)))⟩,
   ⟨Rect.unit (s := S512x512) ![0, 0] S512x128.size inb_S512x512_S512x128_0_0, k0_pay109 (k0_pay88 mask (q0 a2 w2 x0) (o0 a4 w4 x2) (l0 a5 w5 x3) (l0 a6 w6 x4) S.1.1 (keyTile a7 (w7.unread x5) (k0_off33_inb i)) (valTile a8 (w8.unread x6) (k0_off34_inb i)))⟩]

/-- The pieces of the keys' gradient. -/
def dkAll (f : BufTy.Contents (Elt Ideal) a10.view.ty) (L : List (View.Piece (Elt Ideal) S512x4096 .f32)) : List (View.Piece (Elt Ideal) S512x4096 .f32) :=
  put a10 f (size := S128x512.size) (k0_off48_inb i) (k0_pay108 (t3 a3 w3 x1) (o3 a4 w4 x2) (l3 a6 w6 x4) (k0_pay104 (valTile a8 (w8.unread x6) (k0_off46_inb i))) (k0_pay105 mask (q3 a2 w2 x0) (l3 a5 w5 x3) (keyTile a7 (w7.unread x5) (k0_off45_inb i))))
      (put a10 f (size := S128x512.size) (k0_off44_inb i) (k0_pay101 mask (t2 a3 w3 x1) (o2 a4 w4 x2) (l2 a5 w5 x3) (l2 a6 w6 x4) (k0_pay96 (valTile a8 (w8.unread x6) (k0_off42_inb i))) (k0_pay97 (q2 a2 w2 x0) (keyTile a7 (w7.unread x5) (k0_off41_inb i))))
      (put a10 f (size := S128x512.size) (k0_off40_inb i) (k0_pay93 mask (q1 a2 w2 x0) (t1 a3 w3 x1) (o1 a4 w4 x2) (l1 a5 w5 x3) (l1 a6 w6 x4) (keyTile a7 (w7.unread x5) (k0_off37_inb i)) (valTile a8 (w8.unread x6) (k0_off38_inb i)))
      (put a10 f (size := S128x512.size) (k0_off36_inb i) (k0_pay87 mask (q0 a2 w2 x0) (t0 a3 w3 x1) (o0 a4 w4 x2) (l0 a5 w5 x3) (l0 a6 w6 x4) (keyTile a7 (w7.unread x5) (k0_off33_inb i)) (valTile a8 (w8.unread x6) (k0_off34_inb i)))
      (L))))

/-- The pieces of the values' gradient. -/
def dvAll (f : BufTy.Contents (Elt Ideal) a11.view.ty) (L : List (View.Piece (Elt Ideal) S256x4096 .f32)) : List (View.Piece (Elt Ideal) S256x4096 .f32) :=
  put a11 f (size := S64x512.size) (k0_off47_inb i) (k0_pay107 (u3 a4 w4 x2) (k0_pay105 mask (q3 a2 w2 x0) (l3 a5 w5 x3) (keyTile a7 (w7.unread x5) (k0_off45_inb i))))
      (put a11 f (size := S64x512.size) (k0_off43_inb i) (k0_pay100 mask (u2 a4 w4 x2) (l2 a5 w5 x3) (k0_pay97 (q2 a2 w2 x0) (keyTile a7 (w7.unread x5) (k0_off41_inb i))))
      (put a11 f (size := S64x512.size) (k0_off39_inb i) (k0_pay92 mask (q1 a2 w2 x0) (u1 a4 w4 x2) (l1 a5 w5 x3) (keyTile a7 (w7.unread x5) (k0_off37_inb i)))
      (put a11 f (size := S64x512.size) (k0_off35_inb i) (k0_pay86 mask (q0 a2 w2 x0) (u0 a4 w4 x2) (l0 a5 w5 x3) (keyTile a7 (w7.unread x5) (k0_off33_inb i)))
      (L))))

section B
variable (y8 : Vec Ideal S512x4096 .f32) (y9 : Vec Ideal S256x4096 .f32) (hc : ¬cond0_0 i)

/-- The second loop's state at a later block. -/
abbrev endB :=
  let S := loop c i a2 w2 a3 w3 a4 w4 a5 w5 a6 w6 a7 w7 a8 w8 a9 w9 a10 w10 a11 w11 x0 x1 x2 x3 x4 x5 x6 (w10.unread y8) (w11.unread y9)
  rest c i a2 w2 a3 w3 a4 w4 a5 w5 a6 w6 a7 w7 a8 w8 a9 w9 a10 w10 a11 w11 x0 x1 x2 x3 x4 x5 x6 (a10.view.writes (Elt Ideal) (w10.unread y8) S.2.1) (a11.view.writes (Elt Ideal) (w11.unread y9) S.2.2)
    (S.1.1, S.1.2.1, S.1.2.2.1, S.1.2.2.2)

theorem runB_q : (kernelRun0_B (F := Ideal) c i a2 w2 a3 w3 a4 w4 a5 w5 a6 w6 a7 w7 a8 w8 a9 w9 a10 w10 a11 w11 hc x0 x1 x2 x3 x4 x5 x6 y8 y9).1
    = dqAll i a2 w2 a4 w4 a5 w5 a6 w6 a7 w7 a8 w8 x0 x2 x3 x4 x5 x6 (endB c i a2 w2 a3 w3 a4 w4 a5 w5 a6 w6 a7 w7 a8 w8 a9 w9 a10 w10 a11 w11 x0 x1 x2 x3 x4 x5 x6 y8 y9) := by
  unfold kernelRun0_B dqAll
  rfl

theorem runB_k : (kernelRun0_B (F := Ideal) c i a2 w2 a3 w3 a4 w4 a5 w5 a6 w6 a7 w7 a8 w8 a9 w9 a10 w10 a11 w11 hc x0 x1 x2 x3 x4 x5 x6 y8 y9).2.1
    = dkAll i a2 w2 a3 w3 a4 w4 a5 w5 a6 w6 a7 w7 a8 w8 a10 x0 x1 x2 x3 x4 x5 x6 (w10.unread y8)
      ((endB c i a2 w2 a3 w3 a4 w4 a5 w5 a6 w6 a7 w7 a8 w8 a9 w9 a10 w10 a11 w11 x0 x1 x2 x3 x4 x5 x6 y8 y9).2.1 ++ (loop c i a2 w2 a3 w3 a4 w4 a5 w5 a6 w6 a7 w7 a8 w8 a9 w9 a10 w10 a11 w11 x0 x1 x2 x3 x4 x5 x6 (w10.unread y8) (w11.unread y9)).2.1) := by
  unfold kernelRun0_B dkAll put
  rfl

theorem runB_v : (kernelRun0_B (F := Ideal) c i a2 w2 a3 w3 a4 w4 a5 w5 a6 w6 a7 w7 a8 w8 a9 w9 a10 w10 a11 w11 hc x0 x1 x2 x3 x4 x5 x6 y8 y9).2.2.1
    = dvAll i a2 w2 a4 w4 a5 w5 a7 w7 a11 x0 x2 x3 x5 (w11.unread y9)
      ((endB c i a2 w2 a3 w3 a4 w4 a5 w5 a6 w6 a7 w7 a8 w8 a9 w9 a10 w10 a11 w11 x0 x1 x2 x3 x4 x5 x6 y8 y9).2.2 ++ (loop c i a2 w2 a3 w3 a4 w4 a5 w5 a6 w6 a7 w7 a8 w8 a9 w9 a10 w10 a11 w11 x0 x1 x2 x3 x4 x5 x6 (w10.unread y8) (w11.unread y9)).2.2) := by
  unfold kernelRun0_B dvAll put
  rfl
end B

section A
variable (hc : cond0_0 i)

/-- The zeros that the keys' gradient starts from. -/
abbrev dkZero : List (View.Piece (Elt Ideal) S512x4096 .f32) := [⟨Rect.unit (s := S512x4096) ![0, 0] S512x4096.size inb_S512x4096_S512x4096_0_0, k0_pay47 (F := Ideal)⟩]

/-- The zeros that the values' gradient starts from. -/
abbrev dvZero : List (View.Piece (Elt Ideal) S256x4096 .f32) := [⟨Rect.unit (s := S256x4096) ![0, 0] S256x4096.size inb_S256x4096_S256x4096_0_0, k0_pay48 (F := Ideal)⟩]

/-- The loop's state at the first block. -/
abbrev loopA := loop c i a2 w2 a3 w3 a4 w4 a5 w5 a6 w6 a7 w7 a8 w8 a9 w9 a10 w10 a11 w11 x0 x1 x2 x3 x4 x5 x6 (a10.view.writes (Elt Ideal) a10.view.junk dkZero) (a11.view.writes (Elt Ideal) a11.view.junk dvZero)

/-- The second loop's state at the first block. -/
abbrev endA :=
  let S := loopA c i a2 w2 a3 w3 a4 w4 a5 w5 a6 w6 a7 w7 a8 w8 a9 w9 a10 w10 a11 w11 x0 x1 x2 x3 x4 x5 x6
  rest c i a2 w2 a3 w3 a4 w4 a5 w5 a6 w6 a7 w7 a8 w8 a9 w9 a10 w10 a11 w11 x0 x1 x2 x3 x4 x5 x6 (a10.view.writes (Elt Ideal) a10.view.junk (S.2.1 ++ dkZero)) (a11.view.writes (Elt Ideal) a11.view.junk (S.2.2 ++ dvZero))
    (S.1.1, S.1.2.1, S.1.2.2.1, S.1.2.2.2)

theorem runA_q : (kernelRun0_A (F := Ideal) c i a2 w2 a3 w3 a4 w4 a5 w5 a6 w6 a7 w7 a8 w8 a9 w9 a10 w10 a11 w11 hc x0 x1 x2 x3 x4 x5 x6).1
    = dqAll i a2 w2 a4 w4 a5 w5 a6 w6 a7 w7 a8 w8 x0 x2 x3 x4 x5 x6 (endA c i a2 w2 a3 w3 a4 w4 a5 w5 a6 w6 a7 w7 a8 w8 a9 w9 a10 w10 a11 w11 x0 x1 x2 x3 x4 x5 x6) := by
  unfold kernelRun0_A dqAll
  rfl

theorem runA_k : (kernelRun0_A (F := Ideal) c i a2 w2 a3 w3 a4 w4 a5 w5 a6 w6 a7 w7 a8 w8 a9 w9 a10 w10 a11 w11 hc x0 x1 x2 x3 x4 x5 x6).2.1
    = dkAll i a2 w2 a3 w3 a4 w4 a5 w5 a6 w6 a7 w7 a8 w8 a10 x0 x1 x2 x3 x4 x5 x6 a10.view.junk
      ((endA c i a2 w2 a3 w3 a4 w4 a5 w5 a6 w6 a7 w7 a8 w8 a9 w9 a10 w10 a11 w11 x0 x1 x2 x3 x4 x5 x6).2.1 ++ ((loopA c i a2 w2 a3 w3 a4 w4 a5 w5 a6 w6 a7 w7 a8 w8 a9 w9 a10 w10 a11 w11 x0 x1 x2 x3 x4 x5 x6).2.1 ++ dkZero)) := by
  unfold kernelRun0_A dkAll put
  rfl

theorem runA_v : (kernelRun0_A (F := Ideal) c i a2 w2 a3 w3 a4 w4 a5 w5 a6 w6 a7 w7 a8 w8 a9 w9 a10 w10 a11 w11 hc x0 x1 x2 x3 x4 x5 x6).2.2.1
    = dvAll i a2 w2 a4 w4 a5 w5 a7 w7 a11 x0 x2 x3 x5 a11.view.junk
      ((endA c i a2 w2 a3 w3 a4 w4 a5 w5 a6 w6 a7 w7 a8 w8 a9 w9 a10 w10 a11 w11 x0 x1 x2 x3 x4 x5 x6).2.2 ++ ((loopA c i a2 w2 a3 w3 a4 w4 a5 w5 a6 w6 a7 w7 a8 w8 a9 w9 a10 w10 a11 w11 x0 x1 x2 x3 x4 x5 x6).2.2 ++ dvZero)) := by
  unfold kernelRun0_A dvAll put
  rfl
end A

end Cert.Proof.ADiag
-- ==== Proof.ABlock.lean ====
/- The rows of queries that one grid point holds, read from its arrays. -/
module

public import proofs.«01_k».proof.Proof.ADiag
public import Idealize.ShloMosaic.Lib.Pointwise

@[expose] public section

set_option maxRecDepth 16384

noncomputable section

namespace Cert.Proof.ABlock

open Idealize.ShloMosaic Cert.Proof.AMath Cert.Proof.APay Cert.Proof.ADiag
open Cert.AKernelIdeal Cert.AKernelIdeal.Gen

theorem place (i : grid0.Coords) : (Scalar.indexCast (Scalar.muli (BitVec.ofNat 32 (i 1).val) 512#32)).toNat = 512 * (i 1).val := by
  have e : ∀ n : Fin 8, (Scalar.indexCast (Scalar.muli (BitVec.ofNat 32 n.val) 512#32)).toNat = 512 * n.val := by decide +kernel
  exact e (i 1)

theorem off33 (i : grid0.Coords) : k0_off33 i = ![512 * (i 1).val, 0] := congrArg (fun n => ![n, 0]) (place i)
theorem off34 (i : grid0.Coords) : k0_off34 i = ![512 * (i 1).val, 0] := congrArg (fun n => ![n, 0]) (place i)
theorem off35 (i : grid0.Coords) : k0_off35 i = ![0, 512 * (i 1).val] := congrArg (fun n => ![0, n]) (place i)
theorem off36 (i : grid0.Coords) : k0_off36 i = ![0, 512 * (i 1).val] := congrArg (fun n => ![0, n]) (place i)
theorem off37 (i : grid0.Coords) : k0_off37 i = ![512 * (i 1).val, 128] := congrArg (fun n => ![n, 128]) (place i)
theorem off38 (i : grid0.Coords) : k0_off38 i = ![512 * (i 1).val, 64] := congrArg (fun n => ![n, 64]) (place i)
theorem off39 (i : grid0.Coords) : k0_off39 i = ![64, 512 * (i 1).val] := congrArg (fun n => ![64, n]) (place i)
theorem off40 (i : grid0.Coords) : k0_off40 i = ![128, 512 * (i 1).val] := congrArg (fun n => ![128, n]) (place i)
theorem off41 (i : grid0.Coords) : k0_off41 i = ![512 * (i 1).val, 256] := congrArg (fun n => ![n, 256]) (place i)
theorem off42 (i : grid0.Coords) : k0_off42 i = ![512 * (i 1).val, 128] := congrArg (fun n => ![n, 128]) (place i)
theorem off43 (i : grid0.Coords) : k0_off43 i = ![128, 512 * (i 1).val] := congrArg (fun n => ![128, n]) (place i)
theorem off44 (i : grid0.Coords) : k0_off44 i = ![256, 512 * (i 1).val] := congrArg (fun n => ![256, n]) (place i)
theorem off45 (i : grid0.Coords) : k0_off45 i = ![512 * (i 1).val, 384] := congrArg (fun n => ![n, 384]) (place i)
theorem off46 (i : grid0.Coords) : k0_off46 i = ![512 * (i 1).val, 192] := congrArg (fun n => ![n, 192]) (place i)
theorem off47 (i : grid0.Coords) : k0_off47 i = ![192, 512 * (i 1).val] := congrArg (fun n => ![192, n]) (place i)
theorem off48 (i : grid0.Coords) : k0_off48 i = ![384, 512 * (i 1).val] := congrArg (fun n => ![384, n]) (place i)

/-- What the blocks of one grid point hold: of four heads' rows from `s` the queries, their transpose, the cotangents, the rows' logarithms and their inner products. -/
structure Block (D : Data) (p s : ℕ) (x0 x1 : Vec Ideal S512x512 .bf16) (x2 : Vec Ideal S512x256 .f32) (x3 x4 : Vec Ideal S512x512 .f32) : Prop where
  q (r c : Fin 512) : x0 (ix2 r c) = (D.Q (4 * p + c.val / 128) (s + r.val) (c.val % 128) : EReal)
  t (c r : Fin 512) : x1 (ix2 c r) = (D.Q (4 * p + c.val / 128) (s + r.val) (c.val % 128) : EReal)
  o (r : Fin 512) (c : Fin 256) : x2 (ix2 r c) = (D.g (s + r.val) (4 * p + c.val / 64) (c.val % 64) : EReal)
  l (r c : Fin 512) : x3 (ix2 r c) = ((Real.log (D.Z (4 * p + c.val / 128) (s + r.val)) / Real.log 2 : ℝ) : EReal)
  e (r c : Fin 512) : x4 (ix2 r c) = (D.delta (4 * p + c.val / 128) (s + r.val) : EReal)

section
variable {D : Data} {p s : ℕ} {x0 x1 : Vec Ideal S512x512 .bf16} {x2 : Vec Ideal S512x256 .f32} {x3 x4 : Vec Ideal S512x512 .f32}

theorem Block.q' (B : Block D p s x0 x1 x2 x3 x4) (h : ℕ) (hh : h < 4) (r : Fin 512) (c : Fin 128) (j : Fin 512) (e : j.val = 128 * h + c.val) :
    x0 (ix2 r j) = (D.Q (4 * p + h) (s + r.val) c.val : EReal) := by
  rw [B.q, show j.val / 128 = h by omega, show j.val % 128 = c.val by omega]

theorem Block.t' (B : Block D p s x0 x1 x2 x3 x4) (h : ℕ) (hh : h < 4) (r : Fin 512) (c : Fin 128) (j : Fin 512) (e : j.val = 128 * h + c.val) :
    x1 (ix2 j r) = (D.Q (4 * p + h) (s + r.val) c.val : EReal) := by
  rw [B.t, show j.val / 128 = h by omega, show j.val % 128 = c.val by omega]

theorem Block.o' (B : Block D p s x0 x1 x2 x3 x4) (h : ℕ) (hh : h < 4) (r : Fin 512) (d : Fin 64) (j : Fin 256) (e : j.val = 64 * h + d.val) :
    x2 (ix2 r j) = (D.g (s + r.val) (4 * p + h) d.val : EReal) := by
  rw [B.o, show j.val / 64 = h by omega, show j.val % 64 = d.val by omega]

theorem Block.l' (B : Block D p s x0 x1 x2 x3 x4) (h : ℕ) (hh : h < 4) (r j : Fin 512) (e : 128 * h ≤ j.val ∧ j.val < 128 * h + 128) :
    x3 (ix2 r j) = ((Real.log (D.Z (4 * p + h) (s + r.val)) / Real.log 2 : ℝ) : EReal) := by
  rw [B.l, show j.val / 128 = h by omega]

theorem Block.e' (B : Block D p s x0 x1 x2 x3 x4) (h : ℕ) (hh : h < 4) (r j : Fin 512) (e : 128 * h ≤ j.val ∧ j.val < 128 * h + 128) :
    x4 (ix2 r j) = (D.delta (4 * p + h) (s + r.val) : EReal) := by
  rw [B.e, show j.val / 128 = h by omega]

variable (a2 a3 : Memref sig .tc .vmem S512x512 .bf16) (w2 : a2.IsWhole) (w3 : a3.IsWhole) (a4 : Memref sig .tc .vmem S512x256 .f32) (w4 : a4.IsWhole)
  (a5 a6 : Memref sig .tc .vmem S512x512 .f32) (w5 : a5.IsWhole) (w6 : a6.IsWhole)

/-- A row's value, repeated along the lanes. -/
theorem pay70_at (x : Vec Ideal S512x128 .f32) (r j : Fin 512) : ∃ c : Fin 128, k0_pay70 x (ix2 r j) = x (ix2 r c) := by
  pointwise [k0_pay70]
  split_ifs
  all_goals exact ⟨_, rfl⟩

theorem rows0 (B : Block D p s x0 x1 x2 x3 x4) : Rows D (4 * p + 0) s (q0 a2 w2 x0) (t0 a3 w3 x1) (o0 a4 w4 x2) (u0 a4 w4 x2) (l0 a5 w5 x3) (l0 a6 w6 x4) where
  q r c := by
    unfold q0; simp only [View.readAt_eq_ld, Memref.IsWhole.read_unread]; pointwise [k0_pay53]
    exact B.q' 0 (by omega) r c _ (by simp)
  qt c r := by
    unfold t0; simp only [View.readAt_eq_ld, Memref.IsWhole.read_unread]; pointwise [k0_pay57]
    exact B.t' 0 (by omega) r c _ (by simp)
  o r d := by
    unfold o0; simp only [View.readAt_eq_ld, Memref.IsWhole.read_unread]; pointwise [k0_pay61]
    exact B.o' 0 (by omega) r d _ (by simp)
  ot d r := by
    unfold u0; simp only [View.readAt_eq_ld, Memref.IsWhole.read_unread]; pointwise [k0_pay66, k0_pay65]
    exact B.o' 0 (by omega) r d _ (by simp)
  l r j := by
    obtain ⟨c, hc⟩ := pay70_at (View.readAt (Elt Ideal) a5.view (Rect.unit (s := S512x512) ![0, 0] S512x128.size inb_S512x512_S512x128_0_0).toLoadRect (w5.unread x3)) r j
    unfold l0; rw [hc]; simp only [View.readAt_eq_ld, Memref.IsWhole.read_unread]; pointwise []
    exact B.l' 0 (by omega) r _ (by simp only; omega)
  e r j := by
    obtain ⟨c, hc⟩ := pay70_at (View.readAt (Elt Ideal) a6.view (Rect.unit (s := S512x512) ![0, 0] S512x128.size inb_S512x512_S512x128_0_0).toLoadRect (w6.unread x4)) r j
    unfold l0; rw [hc]; simp only [View.readAt_eq_ld, Memref.IsWhole.read_unread]; pointwise []
    exact B.e' 0 (by omega) r _ (by simp only; omega)

theorem rows1 (B : Block D p s x0 x1 x2 x3 x4) : Rows D (4 * p + 1) s (q1 a2 w2 x0) (t1 a3 w3 x1) (o1 a4 w4 x2) (u1 a4 w4 x2) (l1 a5 w5 x3) (l1 a6 w6 x4) where
  q r c := by
    unfold q1; simp only [View.readAt_eq_ld, Memref.IsWhole.read_unread]; pointwise [k0_pay53]
    exact B.q' 1 (by omega) r c _ (by simp)
  qt c r := by
    unfold t1; simp only [View.readAt_eq_ld, Memref.IsWhole.read_unread]; pointwise [k0_pay57]
    exact B.t' 1 (by omega) r c _ (by simp)
  o r d := by
    unfold o1; simp only [View.readAt_eq_ld, Memref.IsWhole.read_unread]; pointwise [k0_pay61]
    exact B.o' 1 (by omega) r d _ (by simp)
  ot d r := by
    unfold u1; simp only [View.readAt_eq_ld, Memref.IsWhole.read_unread]; pointwise [k0_pay67, k0_pay65]
    exact B.o' 1 (by omega) r d _ (by simp)
  l r j := by
    obtain ⟨c, hc⟩ := pay70_at (View.readAt (Elt Ideal) a5.view (Rect.unit (s := S512x512) ![0, 128] S512x128.size inb_S512x512_S512x128_0_128).toLoadRect (w5.unread x3)) r j
    unfold l1; rw [hc]; simp only [View.readAt_eq_ld, Memref.IsWhole.read_unread]; pointwise []
    exact B.l' 1 (by omega) r _ (by simp only; omega)
  e r j := by
    obtain ⟨c, hc⟩ := pay70_at (View.readAt (Elt Ideal) a6.view (Rect.unit (s := S512x512) ![0, 128] S512x128.size inb_S512x512_S512x128_0_128).toLoadRect (w6.unread x4)) r j
    unfold l1; rw [hc]; simp only [View.readAt_eq_ld, Memref.IsWhole.read_unread]; pointwise []
    exact B.e' 1 (by omega) r _ (by simp only; omega)

theorem rows2 (B : Block D p s x0 x1 x2 x3 x4) : Rows D (4 * p + 2) s (q2 a2 w2 x0) (t2 a3 w3 x1) (o2 a4 w4 x2) (u2 a4 w4 x2) (l2 a5 w5 x3) (l2 a6 w6 x4) where
  q r c := by
    unfold q2; simp only [View.readAt_eq_ld, Memref.IsWhole.read_unread]; pointwise [k0_pay53]
    exact B.q' 2 (by omega) r c _ (by simp)
  qt c r := by
    unfold t2; simp only [View.readAt_eq_ld, Memref.IsWhole.read_unread]; pointwise [k0_pay57]
    exact B.t' 2 (by omega) r c _ (by simp)
  o r d := by
    unfold o2; simp only [View.readAt_eq_ld, Memref.IsWhole.read_unread]; pointwise [k0_pay61]
    exact B.o' 2 (by omega) r d _ (by simp)
  ot d r := by
    unfold u2; simp only [View.readAt_eq_ld, Memref.IsWhole.read_unread]; pointwise [k0_pay68, k0_pay65]
    exact B.o' 2 (by omega) r d _ (by simp)
  l r j := by
    obtain ⟨c, hc⟩ := pay70_at (View.readAt (Elt Ideal) a5.view (Rect.unit (s := S512x512) ![0, 256] S512x128.size inb_S512x512_S512x128_0_256).toLoadRect (w5.unread x3)) r j
    unfold l2; rw [hc]; simp only [View.readAt_eq_ld, Memref.IsWhole.read_unread]; pointwise []
    exact B.l' 2 (by omega) r _ (by simp only; omega)
  e r j := by
    obtain ⟨c, hc⟩ := pay70_at (View.readAt (Elt Ideal) a6.view (Rect.unit (s := S512x512) ![0, 256] S512x128.size inb_S512x512_S512x128_0_256).toLoadRect (w6.unread x4)) r j
    unfold l2; rw [hc]; simp only [View.readAt_eq_ld, Memref.IsWhole.read_unread]; pointwise []
    exact B.e' 2 (by omega) r _ (by simp only; omega)

theorem rows3 (B : Block D p s x0 x1 x2 x3 x4) : Rows D (4 * p + 3) s (q3 a2 w2 x0) (t3 a3 w3 x1) (o3 a4 w4 x2) (u3 a4 w4 x2) (l3 a5 w5 x3) (l3 a6 w6 x4) where
  q r c := by
    unfold q3; simp only [View.readAt_eq_ld, Memref.IsWhole.read_unread]; pointwise [k0_pay53]
    exact B.q' 3 (by omega) r c _ (by simp)
  qt c r := by
    unfold t3; simp only [View.readAt_eq_ld, Memref.IsWhole.read_unread]; pointwise [k0_pay57]
    exact B.t' 3 (by omega) r c _ (by simp)
  o r d := by
    unfold o3; simp only [View.readAt_eq_ld, Memref.IsWhole.read_unread]; pointwise [k0_pay61]
    exact B.o' 3 (by omega) r d _ (by simp)
  ot d r := by
    unfold u3; simp only [View.readAt_eq_ld, Memref.IsWhole.read_unread]; pointwise [k0_pay69, k0_pay65]
    exact B.o' 3 (by omega) r d _ (by simp)
  l r j := by
    obtain ⟨c, hc⟩ := pay70_at (View.readAt (Elt Ideal) a5.view (Rect.unit (s := S512x512) ![0, 384] S512x128.size inb_S512x512_S512x128_0_384).toLoadRect (w5.unread x3)) r j
    unfold l3; rw [hc]; simp only [View.readAt_eq_ld, Memref.IsWhole.read_unread]; pointwise []
    exact B.l' 3 (by omega) r _ (by simp only; omega)
  e r j := by
    obtain ⟨c, hc⟩ := pay70_at (View.readAt (Elt Ideal) a6.view (Rect.unit (s := S512x512) ![0, 384] S512x128.size inb_S512x512_S512x128_0_384).toLoadRect (w6.unread x4)) r j
    unfold l3; rw [hc]; simp only [View.readAt_eq_ld, Memref.IsWhole.read_unread]; pointwise []
    exact B.e' 3 (by omega) r _ (by simp only; omega)

end

end Cert.Proof.ABlock
-- ==== Proof.APoint.lean ====
/- What one grid point leaves in the three gradients' windows. -/
module

public import proofs.«01_k».proof.Proof.ABlock

@[expose] public section

set_option maxRecDepth 16384

noncomputable section

namespace Cert.Proof.APoint

open Idealize.ShloMosaic Cert.Proof.AMath Cert.Proof.APay Cert.Proof.ATrip Cert.Proof.AView Cert.Proof.ALoop Cert.Proof.ADiag Cert.Proof.ABlock
open Cert.AKernelIdeal Cert.AKernelIdeal.Gen

section
variable (m : IVec S512x512 1) (q : FVec Ideal S512x128 .bf16) (t : FVec Ideal S128x512 .bf16) (o : FVec Ideal S512x64 .bf16) (u : FVec Ideal S64x512 .bf16)
  (l e : FVec Ideal S512x512 .f32) (k : Vec Ideal S512x128 .bf16) (v : Vec Ideal S512x64 .bf16)

theorem same93 (d : Vec Ideal S128x512 .f32) j : k0_pay93 m q t o l e k v d j = k0_pay87 m q t o l e k v d j := rfl
theorem same101 (d : Vec Ideal S128x512 .f32) j : k0_pay101 m t o l e (k0_pay96 v) (k0_pay97 q k) d j = k0_pay87 m q t o l e k v d j := rfl
theorem same108 (d : Vec Ideal S128x512 .f32) j : k0_pay108 t o e (k0_pay104 v) (k0_pay105 m q l k) d j = k0_pay87 m q t o l e k v d j := rfl
theorem same92 (d : Vec Ideal S64x512 .f32) j : k0_pay92 m q u l k d j = k0_pay86 m q u l k d j := rfl
theorem same100 (d : Vec Ideal S64x512 .f32) j : k0_pay100 m u l (k0_pay97 q k) d j = k0_pay86 m q u l k d j := rfl
theorem same107 (d : Vec Ideal S64x512 .f32) j : k0_pay107 u (k0_pay105 m q l k) d j = k0_pay86 m q u l k d j := rfl

theorem scaled109 (z : FVec Ideal S512x128 .f32) (r : Fin 512) (c : Fin 128) : k0_pay109 z (ix2 r c) = z (ix2 r c) * (scale : EReal) := by
  pointwise [k0_pay109]; rw [scale_f32]
theorem scaled110 (z : FVec Ideal S512x128 .f32) (r : Fin 512) (c : Fin 128) :
    k0_pay110 (k0_pay94 m q o l e z k v) (ix2 r c) = k0_pay88 m q o l e z k v (ix2 r c) * (scale : EReal) := scaled109 _ r c
theorem scaled111 (z : FVec Ideal S512x128 .f32) (r : Fin 512) (c : Fin 128) :
    k0_pay111 (k0_pay102 m o l e z (k0_pay95 k) (k0_pay96 v) (k0_pay97 q k)) (ix2 r c) = k0_pay88 m q o l e z k v (ix2 r c) * (scale : EReal) := scaled109 _ r c
theorem scaled112 (z : FVec Ideal S512x128 .f32) (r : Fin 512) (c : Fin 128) :
    k0_pay112 o e z (k0_pay103 k) (k0_pay104 v) (k0_pay105 m q l k) (ix2 r c) = k0_pay88 m q o l e z k v (ix2 r c) * (scale : EReal) := scaled109 _ r c
end

/-- Keys of later chunks give the keys' gradient nothing. -/
theorem addK_late (D : Data) (h n c y : ℕ) (hy : 512 * n + 512 ≤ y) : addK D h (512 * n) c y = 0 := by
  unfold addK
  rw [Finset.sum_eq_zero, zero_mul]
  intro r _
  rw [D.ds_late (by have := r.isLt; omega), mul_zero]

theorem addV_late (D : Data) (h n d y : ℕ) (hy : 512 * n + 512 ≤ y) : addV D h (512 * n) d y = 0 := by
  refine Finset.sum_eq_zero fun r _ => ?_
  rw [D.p_late (by have := r.isLt; omega), mul_zero]

/-- The sum over the blocks up to the diagonal is the whole sum. -/
theorem gain {D : Data} {h n : ℕ} {x : FVec Ideal S512x128 .f32} (H : Carried D h (512 * n) (512 * n + 512) x) (hn : n < 8) (r : Fin 512) (c : Fin 128) :
    x (ix2 r c) * (scale : EReal) = (D.dq h (512 * n + r.val) c.val : EReal) := by
  rw [H r c, ← EReal.coe_mul]
  refine congrArg (fun e : ℝ => (e : EReal)) ?_
  unfold Data.dq
  refine congrArg (· * scale) ?_
  rw [Fin.sum_univ_eq_sum_range (fun t => D.ds h (512 * n + r.val) t * D.K h t c.val) 4096]
  refine Finset.sum_subset (fun t ht => ?_) fun t _ ht => ?_
  · rw [Finset.mem_range] at ht ⊢; omega
  · rw [Finset.mem_range] at ht
    rw [D.ds_late (by have := r.isLt; omega), zero_mul]

/-- Four heads' tiles side by side, written into one window. -/
theorem dq_four (v : View sig .tc .vmem S512x512 .f32) (f : BufTy.Contents (Elt Ideal) v.ty) (y0 y1 y2 y3 : Vec Ideal S512x128 .f32) (G : ℕ → ℕ → ℕ → ℝ)
    (h0 : ∀ (r : Fin 512) (c : Fin 128), y0 (ix2 r c) = (G 0 r.val c.val : EReal)) (h1 : ∀ (r : Fin 512) (c : Fin 128), y1 (ix2 r c) = (G 1 r.val c.val : EReal))
    (h2 : ∀ (r : Fin 512) (c : Fin 128), y2 (ix2 r c) = (G 2 r.val c.val : EReal)) (h3 : ∀ (r : Fin 512) (c : Fin 128), y3 (ix2 r c) = (G 3 r.val c.val : EReal))
    (r c : Fin 512) :
    v.read (Elt Ideal) (v.writes (Elt Ideal) f [⟨Rect.unit (s := S512x512) ![0, 384] S512x128.size inb_S512x512_S512x128_0_384, y3⟩,
      ⟨Rect.unit (s := S512x512) ![0, 256] S512x128.size inb_S512x512_S512x128_0_256, y2⟩, ⟨Rect.unit (s := S512x512) ![0, 128] S512x128.size inb_S512x512_S512x128_0_128, y1⟩,
      ⟨Rect.unit (s := S512x512) ![0, 0] S512x128.size inb_S512x512_S512x128_0_0, y0⟩]) (ix2 r c) = (G (c.val / 128) r.val (c.val % 128) : EReal) := by
  have skip : ∀ (n : ℕ) (inb : ∀ a, (![0, n] : Fin 2 → ℕ) a + S512x128.size a ≤ S512x512.size a) (w : Vec Ideal S512x128 .f32) (L : List (View.Piece (Elt Ideal) S512x512 .f32)),
      c.val < n → v.read (Elt Ideal) (v.writes (Elt Ideal) f ((⟨Rect.unit (s := S512x512) ![0, n] S512x128.size inb, w⟩ : View.Piece (Elt Ideal) S512x512 .f32) :: L)) (ix2 r c)
        = v.read (Elt Ideal) (v.writes (Elt Ideal) f L) (ix2 r c) :=
    fun n inb w L h => View.read_writes_cons_unit_of_not_mem v f inb w L _ rfl 1 (Or.inl h)
  have take : ∀ (k n : ℕ) (inb : ∀ a, (![0, n] : Fin 2 → ℕ) a + S512x128.size a ≤ S512x512.size a) (w : Vec Ideal S512x128 .f32) (L : List (View.Piece (Elt Ideal) S512x512 .f32)),
      n = 128 * k → 128 * k ≤ c.val → c.val < 128 * k + 128 → (∀ (r : Fin 512) (c : Fin 128), w (ix2 r c) = (G k r.val c.val : EReal)) →
      v.read (Elt Ideal) (v.writes (Elt Ideal) f ((⟨Rect.unit (s := S512x512) ![0, n] S512x128.size inb, w⟩ : View.Piece (Elt Ideal) S512x512 .f32) :: L)) (ix2 r c)
        = (G (c.val / 128) r.val (c.val % 128) : EReal) := by
    intro k n inb w L hk hl hu hw
    subst hk
    rw [show c.val / 128 = k by omega, show c.val % 128 = c.val - 128 * k by omega]
    refine (View.read_writes_cons_unit_of_mem v f inb w L _ (ix2 (r : Fin 512) (⟨c.val - 128 * k, by omega⟩ : Fin 128)) rfl fun b => ?_).trans (hw r _)
    match b with
    | ⟨0, _⟩ => show r.val = 0 + r.val; omega
    | ⟨1, _⟩ => show c.val = 128 * k + (c.val - 128 * k); omega
  have hx : c.val / 128 = 0 ∨ c.val / 128 = 1 ∨ c.val / 128 = 2 ∨ c.val / 128 = 3 := by omega
  rcases hx with hx | hx | hx | hx
  · exact (skip 384 _ _ _ (by omega)).trans ((skip 256 _ _ _ (by omega)).trans ((skip 128 _ _ _ (by omega)).trans (take 0 0 _ _ _ rfl (by omega) (by omega) h0)))
  · exact (skip 384 _ _ _ (by omega)).trans ((skip 256 _ _ _ (by omega)).trans (take 1 128 _ _ _ rfl (by omega) (by omega) h1))
  · exact (skip 384 _ _ _ (by omega)).trans (take 2 256 _ _ _ rfl (by omega) (by omega) h2)
  · exact take 3 384 _ _ _ rfl (by omega) (by omega) h3

theorem whole_k (D : Data) (p n : ℕ) (x : Fin 512) (y : Fin 4096) (u : EReal) :
    u + ((if y.val < 512 * n then addK D (4 * p + x.val / 128) (512 * n) (x.val % 128) y.val else 0 : ℝ) : EReal)
      + ((if 512 * n ≤ y.val ∧ y.val < 512 * n + 512 then addK D (4 * p + x.val / 128) (512 * n) (x.val % 128) y.val else 0 : ℝ) : EReal)
      = u + (addK D (4 * p + x.val / 128) (512 * n) (x.val % 128) y.val : EReal) := by
  rw [add_assoc, join]
  by_cases h : y.val < 512 * (n + 1)
  · rw [if_pos h]
  · rw [if_neg h, addK_late _ _ _ _ _ (by omega)]

theorem whole_v (D : Data) (p n : ℕ) (x : Fin 256) (y : Fin 4096) (u : EReal) :
    u + ((if y.val < 512 * n then addV D (4 * p + x.val / 64) (512 * n) (x.val % 64) y.val else 0 : ℝ) : EReal)
      + ((if 512 * n ≤ y.val ∧ y.val < 512 * n + 512 then addV D (4 * p + x.val / 64) (512 * n) (x.val % 64) y.val else 0 : ℝ) : EReal)
      = u + (addV D (4 * p + x.val / 64) (512 * n) (x.val % 64) y.val : EReal) := by
  rw [add_assoc, join]
  by_cases h : y.val < 512 * (n + 1)
  · rw [if_pos h]
  · rw [if_neg h, addV_late _ _ _ _ _ (by omega)]

variable (D : Data) (p : ℕ)
variable (c : Dev nD) (i : grid0.Coords)
  (a2 : Memref sig .tc .vmem S512x512 .bf16) (w2 : a2.IsWhole)
  (a3 : Memref sig .tc .vmem S512x512 .bf16) (w3 : a3.IsWhole)
  (a4 : Memref sig .tc .vmem S512x256 .f32) (w4 : a4.IsWhole)
  (a5 : Memref sig .tc .vmem S512x512 .f32) (w5 : a5.IsWhole)
  (a6 : Memref sig .tc .vmem S512x512 .f32) (w6 : a6.IsWhole)
  (a7 : Memref sig .tc .vmem S4096x512 .bf16) (w7 : a7.IsWhole)
  (a8 : Memref sig .tc .vmem S4096x256 .bf16) (w8 : a8.IsWhole)
  (a9 : Memref sig .tc .vmem S512x512 .f32) (w9 : a9.IsWhole)
  (a10 : Memref sig .tc .vmem S512x4096 .f32) (w10 : a10.IsWhole)
  (a11 : Memref sig .tc .vmem S256x4096 .f32) (w11 : a11.IsWhole)
  (x0 x1 : Vec Ideal S512x512 .bf16) (x2 : Vec Ideal S512x256 .f32) (x3 x4 : Vec Ideal S512x512 .f32) (x5 : Vec Ideal S4096x512 .bf16) (x6 : Vec Ideal S4096x256 .bf16)

  (B : Block D p (512 * (i 1).val) x0 x1 x2 x3 x4) (T : Held D p (a7.view.read (Elt Ideal) (w7.unread x5)) (a8.view.read (Elt Ideal) (w8.unread x6)))

include w3 w6 B T

theorem dk_gain (f : BufTy.Contents (Elt Ideal) a10.view.ty) (L : List (View.Piece (Elt Ideal) S512x4096 .f32)) (x : Fin 512) (y : Fin 4096) :
    a10.view.read (Elt Ideal) (a10.view.writes (Elt Ideal) f (dkAll i a2 w2 a3 w3 a4 w4 a5 w5 a6 w6 a7 w7 a8 w8 a10 x0 x1 x2 x3 x4 x5 x6 f L)) (ix2 x y)
      = a10.view.read (Elt Ideal) (a10.view.writes (Elt Ideal) f L) (ix2 x y)
        + ((if 512 * (i 1).val ≤ y.val ∧ y.val < 512 * (i 1).val + 512 then addK D (4 * p + x.val / 128) (512 * (i 1).val) (x.val % 128) y.val else 0 : ℝ) : EReal) := by
  have hi : (i 1).val < 8 := (i 1).isLt
  have hs : 512 * (i 1).val + 512 ≤ 4096 := by omega
  have h64 : 64 ∣ 512 * (i 1).val := ⟨8 * (i 1).val, by omega⟩
  unfold dkAll put
  refine dk_four a10 f L _ _ _ _ _ _ _ _ (fun h c y => addK D (4 * p + h) (512 * (i 1).val) c y) (512 * (i 1).val) hs (off36 i) (off40 i) (off44 i) (off48 i) ?_ ?_ ?_ ?_ x y
  · intro r j
    refine ((pay87_at (rows0 a2 a3 w2 w3 a4 w4 a5 a6 w5 w6 B) (T.keys 0 (512 * (i 1).val) (by omega) hs (k0_off33_inb i) (k0_off34_inb i) (off33 i) (off34 i)) hs h64 mask_at _ r j)).trans ?_
    refine congrArg (· + _) ?_
    refine (dkTile_at a10 _ _ (off36 i) r j (by omega) (by omega)).trans ?_
    rfl
  · intro r j
    refine ((same93 ..).trans (pay87_at (rows1 a2 a3 w2 w3 a4 w4 a5 a6 w5 w6 B) (T.keys 1 (512 * (i 1).val) (by omega) hs (k0_off37_inb i) (k0_off38_inb i) (off37 i) (off38 i)) hs h64 mask_at _ r j)).trans ?_
    refine congrArg (· + _) ?_
    refine (dkTile_at a10 _ _ (off40 i) r j (by omega) (by omega)).trans ?_
    refine (dk_other a10 _ _ _ (off36 i) _ _ _ (Or.inr (by simp only; omega))).trans ?_
    rfl
  · intro r j
    refine ((same101 ..).trans (pay87_at (rows2 a2 a3 w2 w3 a4 w4 a5 a6 w5 w6 B) (T.keys 2 (512 * (i 1).val) (by omega) hs (k0_off41_inb i) (k0_off42_inb i) (off41 i) (off42 i)) hs h64 mask_at _ r j)).trans ?_
    refine congrArg (· + _) ?_
    refine (dkTile_at a10 _ _ (off44 i) r j (by omega) (by omega)).trans ?_
    refine (dk_other a10 _ _ _ (off40 i) _ _ _ (Or.inr (by simp only; omega))).trans ?_
    refine (dk_other a10 _ _ _ (off36 i) _ _ _ (Or.inr (by simp only; omega))).trans ?_
    rfl
  · intro r j
    refine ((same108 ..).trans (pay87_at (rows3 a2 a3 w2 w3 a4 w4 a5 a6 w5 w6 B) (T.keys 3 (512 * (i 1).val) (by omega) hs (k0_off45_inb i) (k0_off46_inb i) (off45 i) (off46 i)) hs h64 mask_at _ r j)).trans ?_
    refine congrArg (· + _) ?_
    refine (dkTile_at a10 _ _ (off48 i) r j (by omega) (by omega)).trans ?_
    refine (dk_other a10 _ _ _ (off44 i) _ _ _ (Or.inr (by simp only; omega))).trans ?_
    refine (dk_other a10 _ _ _ (off40 i) _ _ _ (Or.inr (by simp only; omega))).trans ?_
    refine (dk_other a10 _ _ _ (off36 i) _ _ _ (Or.inr (by simp only; omega))).trans ?_
    rfl

theorem dv_gain (g : BufTy.Contents (Elt Ideal) a11.view.ty) (L : List (View.Piece (Elt Ideal) S256x4096 .f32)) (x : Fin 256) (y : Fin 4096) :
    a11.view.read (Elt Ideal) (a11.view.writes (Elt Ideal) g (dvAll i a2 w2 a4 w4 a5 w5 a7 w7 a11 x0 x2 x3 x5 g L)) (ix2 x y)
      = a11.view.read (Elt Ideal) (a11.view.writes (Elt Ideal) g L) (ix2 x y)
        + ((if 512 * (i 1).val ≤ y.val ∧ y.val < 512 * (i 1).val + 512 then addV D (4 * p + x.val / 64) (512 * (i 1).val) (x.val % 64) y.val else 0 : ℝ) : EReal) := by
  have hi : (i 1).val < 8 := (i 1).isLt
  have hs : 512 * (i 1).val + 512 ≤ 4096 := by omega
  have h64 : 64 ∣ 512 * (i 1).val := ⟨8 * (i 1).val, by omega⟩
  unfold dvAll put
  refine dv_four a11 g L _ _ _ _ _ _ _ _ (fun h c y => addV D (4 * p + h) (512 * (i 1).val) c y) (512 * (i 1).val) hs (off35 i) (off39 i) (off43 i) (off47 i) ?_ ?_ ?_ ?_ x y
  · intro r j
    refine ((pay86_at (rows0 a2 a3 w2 w3 a4 w4 a5 a6 w5 w6 B) (T.keys 0 (512 * (i 1).val) (by omega) hs (k0_off33_inb i) (k0_off34_inb i) (off33 i) (off34 i)) hs h64 mask_at _ r j)).trans ?_
    refine congrArg (· + _) ?_
    refine (dvTile_at a11 _ _ (off35 i) r j (by omega) (by omega)).trans ?_
    rfl
  · intro r j
    refine ((same92 ..).trans (pay86_at (rows1 a2 a3 w2 w3 a4 w4 a5 a6 w5 w6 B) (T.keys 1 (512 * (i 1).val) (by omega) hs (k0_off37_inb i) (k0_off38_inb i) (off37 i) (off38 i)) hs h64 mask_at _ r j)).trans ?_
    refine congrArg (· + _) ?_
    refine (dvTile_at a11 _ _ (off39 i) r j (by omega) (by omega)).trans ?_
    refine (dv_other a11 _ _ _ (off35 i) _ _ _ (Or.inr (by simp only; omega))).trans ?_
    rfl
  · intro r j
    refine ((same100 ..).trans (pay86_at (rows2 a2 a3 w2 w3 a4 w4 a5 a6 w5 w6 B) (T.keys 2 (512 * (i 1).val) (by omega) hs (k0_off41_inb i) (k0_off42_inb i) (off41 i) (off42 i)) hs h64 mask_at _ r j)).trans ?_
    refine congrArg (· + _) ?_
    refine (dvTile_at a11 _ _ (off43 i) r j (by omega) (by omega)).trans ?_
    refine (dv_other a11 _ _ _ (off39 i) _ _ _ (Or.inr (by simp only; omega))).trans ?_
    refine (dv_other a11 _ _ _ (off35 i) _ _ _ (Or.inr (by simp only; omega))).trans ?_
    rfl
  · intro r j
    refine ((same107 ..).trans (pay86_at (rows3 a2 a3 w2 w3 a4 w4 a5 a6 w5 w6 B) (T.keys 3 (512 * (i 1).val) (by omega) hs (k0_off45_inb i) (k0_off46_inb i) (off45 i) (off46 i)) hs h64 mask_at _ r j)).trans ?_
    refine congrArg (· + _) ?_
    refine (dvTile_at a11 _ _ (off47 i) r j (by omega) (by omega)).trans ?_
    refine (dv_other a11 _ _ _ (off43 i) _ _ _ (Or.inr (by simp only; omega))).trans ?_
    refine (dv_other a11 _ _ _ (off39 i) _ _ _ (Or.inr (by simp only; omega))).trans ?_
    refine (dv_other a11 _ _ _ (off35 i) _ _ _ (Or.inr (by simp only; omega))).trans ?_
    rfl

theorem loop_at (f : BufTy.Contents (Elt Ideal) a10.view.ty) (g : BufTy.Contents (Elt Ideal) a11.view.ty) :
    At D p i a10 a11 f g (i 1).val (loop c i a2 w2 a3 w3 a4 w4 a5 w5 a6 w6 a7 w7 a8 w8 a9 w9 a10 w10 a11 w11 x0 x1 x2 x3 x4 x5 x6 f g) := by
  have h := after D p Variants.none c none i a2 w2 a3 w3 a4 w4 a5 w5 a6 w6 a7 w7 a8 w8 a9 w9 a10 w10 a11 w11 (BitVec.ofNat 32 (i 1).val) mask (q0 a2 w2 x0) (q1 a2 w2 x0) (q2 a2 w2 x0) (q3 a2 w2 x0) (t0 a3 w3 x1) (t1 a3 w3 x1) (t2 a3 w3 x1) (t3 a3 w3 x1) (o0 a4 w4 x2) (o1 a4 w4 x2) (o2 a4 w4 x2) (o3 a4 w4 x2) (u0 a4 w4 x2) (u1 a4 w4 x2) (u2 a4 w4 x2) (u3 a4 w4 x2) (l0 a5 w5 x3) (l1 a5 w5 x3) (l2 a5 w5 x3) (l3 a5 w5 x3) (l0 a6 w6 x4) (l1 a6 w6 x4) (l2 a6 w6 x4) (l3 a6 w6 x4) k0_pay78 0#32 (k0_t1_loop i).ub 1#32 (w7.unread x5) (w8.unread x6) f g
    (fun j => by unfold k0_pay78; exact zero_f32) T (rows0 a2 a3 w2 w3 a4 w4 a5 a6 w5 w6 B) (rows1 a2 a3 w2 w3 a4 w4 a5 a6 w5 w6 B) (rows2 a2 a3 w2 w3 a4 w4 a5 a6 w5 w6 B) (rows3 a2 a3 w2 w3 a4 w4 a5 a6 w5 w6 B) (k0_t1_loop i).trips le_rfl
  have e := trips_eq i
  unfold loop
  generalize (k0_t1_loop i).trips = n at h e
  subst e
  exact h

theorem dq_gain {S : (FVec Ideal S512x128 .f32 × FVec Ideal S512x128 .f32 × FVec Ideal S512x128 .f32 × FVec Ideal S512x128 .f32)
    × List (View.Piece (Elt Ideal) S512x4096 .f32) × List (View.Piece (Elt Ideal) S256x4096 .f32)}
    (v : View sig .tc .vmem S512x512 .f32) (F : BufTy.Contents (Elt Ideal) v.ty) (r c : Fin 512)
    (H0 : Carried D (4 * p + 0) (512 * (i 1).val) (512 * (i 1).val) S.1.1) (H1 : Carried D (4 * p + 1) (512 * (i 1).val) (512 * (i 1).val) S.1.2.1)
    (H2 : Carried D (4 * p + 2) (512 * (i 1).val) (512 * (i 1).val) S.1.2.2.1) (H3 : Carried D (4 * p + 3) (512 * (i 1).val) (512 * (i 1).val) S.1.2.2.2) :
    v.read (Elt Ideal) (v.writes (Elt Ideal) F (dqAll i a2 w2 a4 w4 a5 w5 a6 w6 a7 w7 a8 w8 x0 x2 x3 x4 x5 x6 S)) (ix2 r c)
      = (D.dq (4 * p + c.val / 128) (512 * (i 1).val + r.val) (c.val % 128) : EReal) := by
  have hi : (i 1).val < 8 := (i 1).isLt
  have hs : 512 * (i 1).val + 512 ≤ 4096 := by omega
  have h64 : 64 ∣ 512 * (i 1).val := ⟨8 * (i 1).val, by omega⟩
  unfold dqAll
  refine dq_four v F _ _ _ _ (fun h r c => D.dq (4 * p + h) (512 * (i 1).val + r) c) ?_ ?_ ?_ ?_ r c
  · intro r c
    refine ((scaled109 ..)).trans ?_
    exact gain (H0.add fun r c => pay88_at (rows0 a2 a3 w2 w3 a4 w4 a5 a6 w5 w6 B) (T.keys 0 (512 * (i 1).val) (by omega) hs (k0_off33_inb i) (k0_off34_inb i) (off33 i) (off34 i)) hs h64 mask_at _ r c) hi r c
  · intro r c
    refine ((scaled110 ..)).trans ?_
    exact gain (H1.add fun r c => pay88_at (rows1 a2 a3 w2 w3 a4 w4 a5 a6 w5 w6 B) (T.keys 1 (512 * (i 1).val) (by omega) hs (k0_off37_inb i) (k0_off38_inb i) (off37 i) (off38 i)) hs h64 mask_at _ r c) hi r c
  · intro r c
    refine ((scaled111 ..)).trans ?_
    exact gain (H2.add fun r c => pay88_at (rows2 a2 a3 w2 w3 a4 w4 a5 a6 w5 w6 B) (T.keys 2 (512 * (i 1).val) (by omega) hs (k0_off41_inb i) (k0_off42_inb i) (off41 i) (off42 i)) hs h64 mask_at _ r c) hi r c
  · intro r c
    refine ((scaled112 ..)).trans ?_
    exact gain (H3.add fun r c => pay88_at (rows3 a2 a3 w2 w3 a4 w4 a5 a6 w5 w6 B) (T.keys 3 (512 * (i 1).val) (by omega) hs (k0_off45_inb i) (k0_off46_inb i) (off45 i) (off46 i)) hs h64 mask_at _ r c) hi r c

theorem first_q (hc : cond0_0 i) (v : View sig .tc .vmem S512x512 .f32) (F : BufTy.Contents (Elt Ideal) v.ty) (r c' : Fin 512) :
    v.read (Elt Ideal) (v.writes (Elt Ideal) F (kernelRun0_A (F := Ideal) c i a2 w2 a3 w3 a4 w4 a5 w5 a6 w6 a7 w7 a8 w8 a9 w9 a10 w10 a11 w11 hc x0 x1 x2 x3 x4 x5 x6).1) (ix2 r c')
      = (D.dq (4 * p + c'.val / 128) (512 * (i 1).val + r.val) (c'.val % 128) : EReal) := by
  have H := loop_at D p c i a2 w2 a3 w3 a4 w4 a5 w5 a6 w6 a7 w7 a8 w8 a9 w9 a10 w10 a11 w11 x0 x1 x2 x3 x4 x5 x6 B T (a10.view.writes (Elt Ideal) a10.view.junk dkZero) (a11.view.writes (Elt Ideal) a11.view.junk dvZero)
  rw [runA_q, show endA c i a2 w2 a3 w3 a4 w4 a5 w5 a6 w6 a7 w7 a8 w8 a9 w9 a10 w10 a11 w11 x0 x1 x2 x3 x4 x5 x6 = _ from rest_eq ..]
  exact dq_gain D p i a2 w2 a3 w3 a4 w4 a5 w5 a6 w6 a7 w7 a8 w8 x0 x1 x2 x3 x4 x5 x6 B T v F r c' (by exact H.q0) (by exact H.q1) (by exact H.q2) (by exact H.q3)

theorem first_k (hc : cond0_0 i) (x : Fin 512) (y : Fin 4096) :
    a10.view.read (Elt Ideal) (a10.view.writes (Elt Ideal) a10.view.junk (kernelRun0_A (F := Ideal) c i a2 w2 a3 w3 a4 w4 a5 w5 a6 w6 a7 w7 a8 w8 a9 w9 a10 w10 a11 w11 hc x0 x1 x2 x3 x4 x5 x6).2.1) (ix2 x y)
      = (addK D (4 * p + x.val / 128) (512 * (i 1).val) (x.val % 128) y.val : EReal) := by
  have H := loop_at D p c i a2 w2 a3 w3 a4 w4 a5 w5 a6 w6 a7 w7 a8 w8 a9 w9 a10 w10 a11 w11 x0 x1 x2 x3 x4 x5 x6 B T (a10.view.writes (Elt Ideal) a10.view.junk dkZero) (a11.view.writes (Elt Ideal) a11.view.junk dvZero)
  have z : a10.view.read (Elt Ideal) (a10.view.writes (Elt Ideal) a10.view.junk dkZero) (ix2 x y) = 0 :=
    (View.read_writes_cons_unit_of_mem a10.view _ _ _ _ _ (ix2 x y) rfl fun b => by
      match b with
      | ⟨0, _⟩ => show x.val = 0 + x.val; omega
      | ⟨1, _⟩ => show y.val = 0 + y.val; omega).trans zero_f32
  rw [runA_k, show endA c i a2 w2 a3 w3 a4 w4 a5 w5 a6 w6 a7 w7 a8 w8 a9 w9 a10 w10 a11 w11 x0 x1 x2 x3 x4 x5 x6 = _ from rest_eq .., List.nil_append, dk_gain (w3 := w3) (w6 := w6) (B := B) (T := T), View.writes_append, H.dk, z,
    whole_k D p _ x y, zero_add]

theorem first_v (hc : cond0_0 i) (x : Fin 256) (y : Fin 4096) :
    a11.view.read (Elt Ideal) (a11.view.writes (Elt Ideal) a11.view.junk (kernelRun0_A (F := Ideal) c i a2 w2 a3 w3 a4 w4 a5 w5 a6 w6 a7 w7 a8 w8 a9 w9 a10 w10 a11 w11 hc x0 x1 x2 x3 x4 x5 x6).2.2.1) (ix2 x y)
      = (addV D (4 * p + x.val / 64) (512 * (i 1).val) (x.val % 64) y.val : EReal) := by
  have H := loop_at D p c i a2 w2 a3 w3 a4 w4 a5 w5 a6 w6 a7 w7 a8 w8 a9 w9 a10 w10 a11 w11 x0 x1 x2 x3 x4 x5 x6 B T (a10.view.writes (Elt Ideal) a10.view.junk dkZero) (a11.view.writes (Elt Ideal) a11.view.junk dvZero)
  have z : a11.view.read (Elt Ideal) (a11.view.writes (Elt Ideal) a11.view.junk dvZero) (ix2 x y) = 0 :=
    (View.read_writes_cons_unit_of_mem a11.view _ _ _ _ _ (ix2 x y) rfl fun b => by
      match b with
      | ⟨0, _⟩ => show x.val = 0 + x.val; omega
      | ⟨1, _⟩ => show y.val = 0 + y.val; omega).trans zero_f32
  rw [runA_v, show endA c i a2 w2 a3 w3 a4 w4 a5 w5 a6 w6 a7 w7 a8 w8 a9 w9 a10 w10 a11 w11 x0 x1 x2 x3 x4 x5 x6 = _ from rest_eq .., List.nil_append, dv_gain (w3 := w3) (w6 := w6) (B := B) (T := T), View.writes_append, H.dv, z,
    whole_v D p _ x y, zero_add]

variable (y8 : Vec Ideal S512x4096 .f32) (y9 : Vec Ideal S256x4096 .f32)

theorem later_q (hc : ¬cond0_0 i) (v : View sig .tc .vmem S512x512 .f32) (F : BufTy.Contents (Elt Ideal) v.ty) (r c' : Fin 512) :
    v.read (Elt Ideal) (v.writes (Elt Ideal) F (kernelRun0_B (F := Ideal) c i a2 w2 a3 w3 a4 w4 a5 w5 a6 w6 a7 w7 a8 w8 a9 w9 a10 w10 a11 w11 hc x0 x1 x2 x3 x4 x5 x6 y8 y9).1) (ix2 r c')
      = (D.dq (4 * p + c'.val / 128) (512 * (i 1).val + r.val) (c'.val % 128) : EReal) := by
  have H := loop_at D p c i a2 w2 a3 w3 a4 w4 a5 w5 a6 w6 a7 w7 a8 w8 a9 w9 a10 w10 a11 w11 x0 x1 x2 x3 x4 x5 x6 B T (w10.unread y8) (w11.unread y9)
  rw [runB_q, show endB c i a2 w2 a3 w3 a4 w4 a5 w5 a6 w6 a7 w7 a8 w8 a9 w9 a10 w10 a11 w11 x0 x1 x2 x3 x4 x5 x6 y8 y9 = _ from rest_eq ..]
  exact dq_gain D p i a2 w2 a3 w3 a4 w4 a5 w5 a6 w6 a7 w7 a8 w8 x0 x1 x2 x3 x4 x5 x6 B T v F r c' (by exact H.q0) (by exact H.q1) (by exact H.q2) (by exact H.q3)

theorem later_k (hc : ¬cond0_0 i) (x : Fin 512) (y : Fin 4096) :
    a10.view.read (Elt Ideal) (a10.view.writes (Elt Ideal) (w10.unread y8) (kernelRun0_B (F := Ideal) c i a2 w2 a3 w3 a4 w4 a5 w5 a6 w6 a7 w7 a8 w8 a9 w9 a10 w10 a11 w11 hc x0 x1 x2 x3 x4 x5 x6 y8 y9).2.1) (ix2 x y)
      = y8 (ix2 x y) + (addK D (4 * p + x.val / 128) (512 * (i 1).val) (x.val % 128) y.val : EReal) := by
  have H := loop_at D p c i a2 w2 a3 w3 a4 w4 a5 w5 a6 w6 a7 w7 a8 w8 a9 w9 a10 w10 a11 w11 x0 x1 x2 x3 x4 x5 x6 B T (w10.unread y8) (w11.unread y9)
  rw [runB_k, show endB c i a2 w2 a3 w3 a4 w4 a5 w5 a6 w6 a7 w7 a8 w8 a9 w9 a10 w10 a11 w11 x0 x1 x2 x3 x4 x5 x6 y8 y9 = _ from rest_eq .., List.nil_append, dk_gain (w3 := w3) (w6 := w6) (B := B) (T := T), H.dk, w10.read_unread,
    whole_k D p _ x y]

theorem later_v (hc : ¬cond0_0 i) (x : Fin 256) (y : Fin 4096) :
    a11.view.read (Elt Ideal) (a11.view.writes (Elt Ideal) (w11.unread y9) (kernelRun0_B (F := Ideal) c i a2 w2 a3 w3 a4 w4 a5 w5 a6 w6 a7 w7 a8 w8 a9 w9 a10 w10 a11 w11 hc x0 x1 x2 x3 x4 x5 x6 y8 y9).2.2.1) (ix2 x y)
      = y9 (ix2 x y) + (addV D (4 * p + x.val / 64) (512 * (i 1).val) (x.val % 64) y.val : EReal) := by
  have H := loop_at D p c i a2 w2 a3 w3 a4 w4 a5 w5 a6 w6 a7 w7 a8 w8 a9 w9 a10 w10 a11 w11 x0 x1 x2 x3 x4 x5 x6 B T (w10.unread y8) (w11.unread y9)
  rw [runB_v, show endB c i a2 w2 a3 w3 a4 w4 a5 w5 a6 w6 a7 w7 a8 w8 a9 w9 a10 w10 a11 w11 x0 x1 x2 x3 x4 x5 x6 y8 y9 = _ from rest_eq .., List.nil_append, dv_gain (w3 := w3) (w6 := w6) (B := B) (T := T), H.dv, w11.read_unread,
    whole_v D p _ x y]

end Cert.Proof.APoint
-- ==== Proof.ARef.lean ====
/- The reference of the attention's gradient, read at an index: scores, mask, weights and the gradient of a score. -/
module

public import proofs.«01_k».proof.Proof.AMath
public import proofs.«01_k».proof.Proof.Gen.AReferenceIdeal.Read
public import Idealize.ShloMosaic.Lib.Pointwise

@[expose] public section

set_option maxRecDepth 16384

noncomputable section

namespace Cert.Proof.ARef

open Idealize.ShloMosaic Cert.Proof.Reals Cert.Proof.AMath Cert.AReferenceIdeal Cert.AReferenceIdeal.Gen Cert.AReferenceIdeal.Read

variable {x0 : FVec Ideal S4096x8x64 .f32} {x1 : FVec Ideal S4096x8x32 .f32} {x2 : FVec Ideal S4096x8x64 .f32} {x3 : FVec Ideal S4096x32 .f32}
  {x4 : FVec Ideal S4096x8x64 .f32} {x5 : FVec Ideal S4096x512 .f32}

/-- The six arguments are the real tables. -/
structure Reads (x0 : FVec Ideal S4096x8x64 .f32) (x1 : FVec Ideal S4096x8x32 .f32) (x2 : FVec Ideal S4096x8x64 .f32) (x3 : FVec Ideal S4096x32 .f32)
    (x4 : FVec Ideal S4096x8x64 .f32) (x5 : FVec Ideal S4096x512 .f32) (D : Data) : Prop where
  qn : ∀ s h d, x0 (ix3 s h d) = ((D.qn s h d : ℝ) : EReal)
  qr : ∀ s h d, x1 (ix3 s h d) = ((D.qr s h d : ℝ) : EReal)
  kn : ∀ s h d, x2 (ix3 s h d) = ((D.kn s h d : ℝ) : EReal)
  kr : ∀ s d, x3 (ix2 s d) = ((D.kr s d : ℝ) : EReal)
  v : ∀ s h d, x4 (ix3 s h d) = ((D.v s h d : ℝ) : EReal)
  g : ∀ (s : Fin 4096) (c : Fin 512), x5 (ix2 s c) = ((D.g s (c.val / 64) (c.val % 64) : ℝ) : EReal)

/-- The chunk of a row. -/
theorem v3 (s : Fin 4096) : val_main_v3 (F := Ideal) (ix1 s) = BitVec.ofNat 32 (s.val / 64) := by
  pointwise [val_main_v3, val_main_call0_v0, val_main_call0_v1, val_main_call0_v2, val_main_call0_v3, val_main_call0_v4, val_main_call0_v5, val_main_call0_v6,
    val_main_call0_v7, val_main_call0_v8, val_main_call0_v9, val_main_call0_v10, val_main_call0_v11, val_main_call0_v12, val_main_call0_v13, val_main_call0_c,
    val_main_call0_c_0, val_main_v2, val_main_c]
  revert s
  decide +kernel

theorem sle_word {a b : ℕ} (ha : a < 2 ^ 31) (hb : b < 2 ^ 31) : IntOp.cmpi .sle (BitVec.ofNat 32 a) (BitVec.ofNat 32 b) = if a ≤ b then 1#1 else 0#1 := by
  have h1 : (BitVec.ofNat 32 a).toInt = a := toInt_word ha
  have h2 : (BitVec.ofNat 32 b).toInt = b := toInt_word hb
  simp only [IntOp.cmpi, BitVec.sle, h1, h2]
  by_cases h : a ≤ b <;> simp [h]

/-- The mask: key chunks up to the query's own. -/
theorem mask (h : Fin 8) (s t : Fin 4096) : val_main_v15_1 (F := Ideal) (ix3 h s t) = if t.val / 64 ≤ s.val / 64 then 1#1 else 0#1 := by
  pointwise [val_main_v15_1, val_main_v14, val_main_v13, val_main_v12, val_main_v11, val_main_v10, val_main_v9]
  rw [v3, v3, sle_word (by omega) (by omega)]

variable {D : Data} (r : Reads x0 x1 x2 x3 x4 x5 D)
include r

theorem v8 (h : Fin 8) (s t : Fin 4096) : val_main_v8 (F := Ideal) x0 x1 x2 x3 (ix3 h s t) = ((D.S h s t : ℝ) : EReal) := by
  pointwise [val_main_v8, val_main_v7, val_main_cst, val_main_v6, val_main_v5, val_main_v4, val_main_v1, val_main_v0]
  simp only [r.qn, r.qr, r.kn, r.kr, scale_f32, ← EReal.coe_mul, ← coe_sum, ← EReal.coe_add]
  rw [D.S_split]

theorem v15 (h : Fin 8) (s t : Fin 4096) : val_main_v15_0 (F := Ideal) x0 x1 x2 x3 (ix3 h s t) = masked D h s t := by
  pointwise [val_main_v15_0, val_main_call1_v2, val_main_call1_v0, val_main_cst_0]
  rw [mask, v8 r]
  show Scalar.select _ _ (Ideal.ofBits .f32 0xFF800000#32) = _
  rw [ninf_f32]
  unfold masked
  split_ifs <;> rfl

theorem v16 (h : Fin 8) (s : Fin 4096) : val_main_v16 (F := Ideal) x0 x1 x2 x3 (ix2 h s) = rowMax D h s := by
  pointwise [val_main_v16, val_main_cst_1]
  simp only [v15 r, ninf_f32]
  rfl

/-- The row's greatest score is a real number, whatever it is. -/
theorem v23 (h : Fin 8) (s : Fin 4096) : ∃ M : ℝ, val_main_v23 (F := Ideal) x0 x1 x2 x3 (ix2 h s) = (M : EReal) := by
  obtain ⟨M, hM⟩ := masked_max D h s
  refine ⟨M, ?_⟩
  rw [val_main_v23_apply, v16 r, hM, val_main_v22_apply]
  show max (Ideal.ofBits .f32 0xFF800000#32) (M : EReal) = M
  rw [ninf_f32]
  exact max_eq_right bot_le

theorem v36 (h : Fin 8) (s : Fin 4096) :
    ∃ M : ℝ, ∀ t, val_main_v36 (F := Ideal) x0 x1 x2 x3 (ix3 h s t) = ((D.w h s t * Real.exp (-M) : ℝ) : EReal) := by
  obtain ⟨M, hM⟩ := v23 r h s
  refine ⟨M, fun t => ?_⟩
  pointwise [val_main_v36, val_main_v35, val_main_v34, val_main_v33]
  rw [v15 r, hM]
  exact exp_masked D h s t M

end Cert.Proof.ARef

end
-- ==== Proof.AHost.lean ====
/- What the attention's gradient kernel reads: its blocks of the arrays that the host lines prepare. -/
module

public import proofs.«01_k».proof.Proof.APoint
public import proofs.«01_k».proof.Proof.ARef
public import Idealize.ShloMosaic.Lib.StableHlo.ReadAt

@[expose] public section

set_option maxRecDepth 16384

noncomputable section

namespace Cert.Proof.AHost

open Cert.Proof.ARef (sle_word)

open Idealize.ShloMosaic Cert.AKernelIdeal Cert.AKernelIdeal.Gen Cert.Proof.Reals Cert.Proof.AMath

variable (m : (ℓ : Loc nD τ sig) → Buf (Elt Ideal) ℓ) (c : Dev nD)

/-- The six arguments are the real tables. -/
structure Args (D : Data) : Prop where
  qn : ∀ s h d, (show FVec Ideal S4096x8x64 .f32 from m ((c.tc : Thread nD τ).loc main_arg0)) (ix3 s h d) = ((D.qn s h d : ℝ) : EReal)
  qr : ∀ s h d, (show FVec Ideal S4096x8x32 .f32 from m ((c.tc : Thread nD τ).loc main_arg1)) (ix3 s h d) = ((D.qr s h d : ℝ) : EReal)
  kn : ∀ s h d, (show FVec Ideal S4096x8x64 .f32 from m ((c.tc : Thread nD τ).loc main_arg2)) (ix3 s h d) = ((D.kn s h d : ℝ) : EReal)
  kr : ∀ s d, (show FVec Ideal S4096x32 .f32 from m ((c.tc : Thread nD τ).loc main_arg3)) (ix2 s d) = ((D.kr s d : ℝ) : EReal)
  v : ∀ s h d, (show FVec Ideal S4096x8x64 .f32 from m ((c.tc : Thread nD τ).loc main_arg4)) (ix3 s h d) = ((D.v s h d : ℝ) : EReal)
  g : ∀ (s : Fin 4096) (e : Fin 512), (show FVec Ideal S4096x512 .f32 from m ((c.tc : Thread nD τ).loc main_arg5)) (ix2 s e) = ((D.g s (e.val / 64) (e.val % 64) : ℝ) : EReal)

theorem after_append {Val : EltTy → Type} (l l' : List (HloOp τ sig Val)) (V : Valuation τ sig Val) :
    StableHlo.after (l ++ l') V = StableHlo.after l' (StableHlo.after l V) := by
  induction l generalizing V with
  | nil => rfl
  | cons op l ih => exact ih _

/-- The buffers after the chunks of the rows. -/
def U : Valuation τ sig (Elt Ideal) := StableHlo.after (List.flatten [hostOps0, hostOps0_1]) (fun b => m (c, b))

/-- The buffers after the masked scores. -/
def W : Valuation τ sig (Elt Ideal) := StableHlo.after (List.flatten [hostOps0_2, hostOps0_3]) (U m c)

theorem flat {α : Type _} (a b c d e : List α) : List.flatten [a, b, c, d, e] = List.flatten [a, b] ++ (List.flatten [c, d] ++ e) := by simp

theorem V_W (b : Ref sig .tc) : V m c b = StableHlo.after hostOps0_4 (W m c) (Proc.tc.devRef b) := by
  unfold V W U
  rw [flat, after_append, after_append]

/-- The arguments and what the first host lines make of them, in a valuation. -/
structure Mid (u : Valuation τ sig (Elt Ideal)) (D : Data) : Prop where
  qn : ∀ s h d, (u (Proc.tc.devRef main_arg0) : FVec Ideal S4096x8x64 .f32) (ix3 s h d) = ((D.qn s h d : ℝ) : EReal)
  qr : ∀ s h d, (u (Proc.tc.devRef main_arg1) : FVec Ideal S4096x8x32 .f32) (ix3 s h d) = ((D.qr s h d : ℝ) : EReal)
  kn : ∀ s h d, (u (Proc.tc.devRef main_arg2) : FVec Ideal S4096x8x64 .f32) (ix3 s h d) = ((D.kn s h d : ℝ) : EReal)
  kr : ∀ s h d, (u (Proc.tc.devRef main_v1) : FVec Ideal S4096x8x32 .f32) (ix3 s h d) = ((D.kr s d : ℝ) : EReal)
  v : ∀ s h d, (u (Proc.tc.devRef main_arg4) : FVec Ideal S4096x8x64 .f32) (ix3 s h d) = ((D.v s h d : ℝ) : EReal)
  g : ∀ (s : Fin 4096) (e : Fin 512), (u (Proc.tc.devRef main_arg5) : FVec Ideal S4096x512 .f32) (ix2 s e) = ((D.g s (e.val / 64) (e.val % 64) : ℝ) : EReal)

theorem u_v3 (s : Fin 4096) : (U m c (Proc.tc.devRef main_v3) : IVec S4096 32) (ix1 s) = BitVec.ofNat 32 (s.val / 64) := by
  simp only [U, hostOps0, hostOps0_1, List.flatten_cons, List.flatten_nil, List.cons_append, List.nil_append, List.append_nil]
  after_reads_simp
  pointwise
  revert s
  decide +kernel

theorem u_args {D : Data} (h : Args m c D) : Mid (U m c) D := by
  constructor
  all_goals simp only [U, hostOps0, hostOps0_1, List.flatten_cons, List.flatten_nil, List.cons_append, List.nil_append, List.append_nil]
  all_goals after_reads_simp
  · exact h.qn
  · exact h.qr
  · exact h.kn
  · intro s a d
    rw [← h.kr]
    pointwise
  · exact h.v
  · exact h.g

theorem w_args {D : Data} {u : Valuation τ sig (Elt Ideal)} (h : Mid u D) : Mid (StableHlo.after (List.flatten [hostOps0_2, hostOps0_3]) u) D := by
  constructor
  all_goals simp only [hostOps0_2, hostOps0_3, List.flatten_cons, List.flatten_nil, List.cons_append, List.nil_append, List.append_nil]
  all_goals after_reads_simp
  · exact h.qn
  · exact h.qr
  · exact h.kn
  · exact h.kr
  · exact h.v
  · exact h.g

theorem w_v15 {D : Data} {u : Valuation τ sig (Elt Ideal)} (h : Mid u D) (hc : ∀ s, (u (Proc.tc.devRef main_v3) : IVec S4096 32) (ix1 s) = BitVec.ofNat 32 (s.val / 64))
    (a : Fin 8) (s t : Fin 4096) :
    (StableHlo.after (List.flatten [hostOps0_2, hostOps0_3]) u (Proc.tc.devRef main_v15) : FVec Ideal S8x4096x4096 .f32) (ix3 a s t) = masked D a s t := by
  simp only [hostOps0_2, hostOps0_3, List.flatten_cons, List.flatten_nil, List.cons_append, List.nil_append, List.append_nil]
  after_reads_at
  simp only [hc, sle_word (show t.val / 64 < 2 ^ 31 by omega) (show s.val / 64 < 2 ^ 31 by omega), h.qn, h.qr, h.kn, h.kr, scale_f32, ← EReal.coe_mul, ← coe_sum, ← EReal.coe_add]
  rw [← D.S_split]
  show Scalar.select _ _ (Ideal.ofBits .f32 0xFF800000#32) = _
  rw [ninf_f32]
  unfold masked
  split_ifs <;> rfl

/-- The last host lines in three parts: the weights; the saved row log-sum and row sum; the kernel's operands. -/
def partA : List (HloOp τ sig (Elt Ideal)) := hostOps0_4.take 11
def partB : List (HloOp τ sig (Elt Ideal)) := (hostOps0_4.drop 11).take 15
def partC : List (HloOp τ sig (Elt Ideal)) := hostOps0_4.drop 26

theorem parts (u : Valuation τ sig (Elt Ideal)) :
    StableHlo.after hostOps0_4 u = StableHlo.after partC (StableHlo.after partB (StableHlo.after partA u)) := by
  rw [← after_append, ← after_append]
  rfl

variable {D : Data} {u : Valuation τ sig (Elt Ideal)}

theorem a_args (h : Mid u D) : Mid (StableHlo.after partA u) D := by
  constructor
  all_goals simp only [partA, hostOps0_4, List.take_succ_cons, List.take_zero]
  all_goals after_reads_simp
  exacts [h.qn, h.qr, h.kn, h.kr, h.v, h.g]

theorem b_args (h : Mid u D) : Mid (StableHlo.after partB u) D := by
  constructor
  all_goals simp only [partB, hostOps0_4, List.take_succ_cons, List.take_zero, List.drop_succ_cons, List.drop_zero]
  all_goals after_reads_simp
  exacts [h.qn, h.qr, h.kn, h.kr, h.v, h.g]

theorem z_v41 (h : Mid u D) (s : Fin 4096) (e : Fin 1024) :
    (StableHlo.after partC u (Proc.tc.devRef main_v41) : FVec Ideal S4096x1024 .bf16) (ix2 s e) = ((D.Q (e.val / 128) s (e.val % 128) : ℝ) : EReal) := by
  simp only [partC, hostOps0_4, List.drop_succ_cons, List.drop_zero]
  after_reads_at
  generalize hw : StableHlo.upto _ _ _ = w
  have h0 : ∀ s a d, (w (Proc.tc.devRef main_arg0) : FVec Ideal S4096x8x64 .f32) (ix3 s a d) = ((D.qn s a d : ℝ) : EReal) := fun s a d => by
    rw [← hw, ← h.qn]; after_reads_simp
  have h1 : ∀ s a d, (w (Proc.tc.devRef main_arg1) : FVec Ideal S4096x8x32 .f32) (ix3 s a d) = ((D.qr s a d : ℝ) : EReal) := fun s a d => by
    rw [← hw, ← h.qr]; after_reads_simp
  have h2 : ∀ s a d, (w (Proc.tc.devRef main_v38) : FVec Ideal S4096x8x32 .f32) (ix3 s a d) = ((0 : ℝ) : EReal) := fun s a d => by
    rw [← hw, ← zero_f32]; after_reads_simp; pointwise
  clear hw
  unfold Data.Q
  by_cases b : e.val % 128 < 64
  · simp only [b, dite_true, if_true]
    exact h0 ..
  · by_cases b' : e.val % 128 - 64 < 32
    · simp only [b, b', dite_true, dite_false, if_true, if_false]
      exact h1 ..
    · simp only [b, b', dite_false, if_false]
      exact h2 ..

theorem z_v45 (h : Mid u D) (s : Fin 4096) (e : Fin 1024) :
    (StableHlo.after partC u (Proc.tc.devRef main_v45) : FVec Ideal S4096x1024 .bf16) (ix2 s e) = ((D.K (e.val / 128) s (e.val % 128) : ℝ) : EReal) := by
  simp only [partC, hostOps0_4, List.drop_succ_cons, List.drop_zero]
  after_reads_at
  generalize hw : StableHlo.upto _ _ _ = w
  have h0 : ∀ s a d, (w (Proc.tc.devRef main_arg2) : FVec Ideal S4096x8x64 .f32) (ix3 s a d) = ((D.kn s a d : ℝ) : EReal) := fun s a d => by
    rw [← hw, ← h.kn]; after_reads_simp
  have h1 : ∀ s a d, (w (Proc.tc.devRef main_v1) : FVec Ideal S4096x8x32 .f32) (ix3 s a d) = ((D.kr s d : ℝ) : EReal) := fun s a d => by
    rw [← hw, ← h.kr s a d]; after_reads_simp
  have h2 : ∀ s a d, (w (Proc.tc.devRef main_v42) : FVec Ideal S4096x8x32 .f32) (ix3 s a d) = ((0 : ℝ) : EReal) := fun s a d => by
    rw [← hw, ← zero_f32]; after_reads_simp; pointwise
  clear hw
  unfold Data.K
  by_cases b : e.val % 128 < 64
  · simp only [b, dite_true, if_true]
    exact h0 ..
  · by_cases b' : e.val % 128 - 64 < 32
    · simp only [b, b', dite_true, dite_false, if_true, if_false]
      exact h1 ..
    · simp only [b, b', dite_false, if_false]
      exact h2 ..

theorem z_v46 (h : Mid u D) (s : Fin 4096) (e : Fin 1024) :
    (StableHlo.after partC u (Proc.tc.devRef main_v46) : FVec Ideal S1024x4096 .bf16) (ix2 e s) = ((D.Q (e.val / 128) s (e.val % 128) : ℝ) : EReal) := by
  rw [← z_v41 h]
  simp only [partC, hostOps0_4, List.drop_succ_cons, List.drop_zero]
  after_reads_simp
  pointwise

theorem z_v48 (h : Mid u D) (s : Fin 4096) (e : Fin 512) :
    (StableHlo.after partC u (Proc.tc.devRef main_v48) : FVec Ideal S4096x512 .bf16) (ix2 s e) = ((D.v s (e.val / 64) (e.val % 64) : ℝ) : EReal) := by
  simp only [partC, hostOps0_4, List.drop_succ_cons, List.drop_zero]
  after_reads_at
  exact h.v ..

theorem z_v51 (s : Fin 4096) (e : Fin 1024) : (StableHlo.after partC u (Proc.tc.devRef main_v51) : FVec Ideal S4096x1024 .f32) (ix2 s e)
    = (u (Proc.tc.devRef main_v34) : FVec Ideal S4096x8 .f32) (ix2 s ⟨e.val / 128, by omega⟩) := by
  simp only [partC, hostOps0_4, List.drop_succ_cons, List.drop_zero]
  after_reads_at

theorem z_v54 (s : Fin 4096) (e : Fin 1024) : (StableHlo.after partC u (Proc.tc.devRef main_v54) : FVec Ideal S4096x1024 .f32) (ix2 s e)
    = (u (Proc.tc.devRef main_v37) : FVec Ideal S4096x8 .f32) (ix2 s ⟨e.val / 128, by omega⟩) := by
  simp only [partC, hostOps0_4, List.drop_succ_cons, List.drop_zero]
  after_reads_at

theorem y_v34 {M Z : ℝ} (hZ : 0 < Z) (a : Fin 8) (s : Fin 4096) (h1 : (u (Proc.tc.devRef main_v17) : FVec Ideal S8x4096x1 .f32) (ix3 a s 0) = (M : EReal))
    (h2 : (u (Proc.tc.devRef main_v22) : FVec Ideal S8x4096x1 .f32) (ix3 a s 0) = ((Z * Real.exp (-M) : ℝ) : EReal)) :
    (StableHlo.after partB u (Proc.tc.devRef main_v34) : FVec Ideal S4096x8 .f32) (ix2 s a) = ((Real.log Z / Real.log 2 : ℝ) : EReal) := by
  simp only [partB, hostOps0_4, List.take_succ_cons, List.take_zero, List.drop_succ_cons, List.drop_zero]
  after_reads_at
  have e := Real.exp_pos (-M)
  rw [h1, h2, two_f32, Ideal.log_coe, Ideal.log_coe, if_neg (not_le.2 (mul_pos hZ e)), if_neg (by norm_num), Real.log_mul hZ.ne' e.ne', Real.log_exp, ← EReal.coe_add,
    div_real _ (Real.log_pos one_lt_two).ne', show M + (Real.log Z + -M) = Real.log Z by ring]

theorem y_v37 (h : Mid u D) (hp : ∀ (a : Fin 8) (s t : Fin 4096), (u (Proc.tc.devRef main_v24) : FVec Ideal S8x4096x4096 .f32) (ix3 a s t) = ((D.p a s t : ℝ) : EReal))
    (a : Fin 8) (s : Fin 4096) : (StableHlo.after partB u (Proc.tc.devRef main_v37) : FVec Ideal S4096x8 .f32) (ix2 s a) = ((D.delta a s : ℝ) : EReal) := by
  simp only [partB, hostOps0_4, List.take_succ_cons, List.take_zero, List.drop_succ_cons, List.drop_zero]
  after_reads_at
  have e1 : ∀ x : Fin 64, (a.val * 64 + x.val) / 64 = a.val := fun x => by omega
  have e2 : ∀ x : Fin 64, (a.val * 64 + x.val) % 64 = x.val := fun x => by omega
  simp only [h.g, h.v, hp, e1, e2, ← EReal.coe_mul, ← coe_sum]
  refine congrArg _ ?_
  unfold Data.delta Data.dP
  simp only [Finset.mul_sum]
  rw [Finset.sum_comm]
  exact Finset.sum_congr rfl fun t _ => Finset.sum_congr rfl fun d _ => by ring

section weights

variable (hs : ∀ (a : Fin 8) (s t : Fin 4096), (u (Proc.tc.devRef main_v15) : FVec Ideal S8x4096x4096 .f32) (ix3 a s t) = masked D a s t)
include hs

theorem x_v17 (a : Fin 8) (s : Fin 4096) : (StableHlo.after partA u (Proc.tc.devRef main_v17) : FVec Ideal S8x4096x1 .f32) (ix3 a s 0) = rowMax D a s := by
  simp only [partA, hostOps0_4, List.take_succ_cons, List.take_zero]
  after_reads_at
  simp only [hs, ninf_f32]
  rfl

theorem x_v24 (a : Fin 8) (s t : Fin 4096) : (StableHlo.after partA u (Proc.tc.devRef main_v24) : FVec Ideal S8x4096x4096 .f32) (ix3 a s t) = ((D.p a s t : ℝ) : EReal) := by
  simp only [partA, hostOps0_4, List.take_succ_cons, List.take_zero]
  after_reads_at
  simp only [hs, ninf_f32]
  obtain ⟨M, hM⟩ := masked_max D a s
  unfold rowMax at hM
  have e := Real.exp_pos (-M)
  have z := D.Z_pos a s
  simp only [hM, exp_masked, ← coe_sum]
  rw [← Finset.sum_mul, show (∑ i : Fin 4096, D.w a s i) = D.Z a s from rfl, div_real _ (mul_pos z e).ne', mul_div_mul_right _ _ e.ne']
  rfl

theorem x_v22 {M : ℝ} (a : Fin 8) (s : Fin 4096) (hM : rowMax D a s = M) :
    (StableHlo.after partA u (Proc.tc.devRef main_v22) : FVec Ideal S8x4096x1 .f32) (ix3 a s 0) = ((D.Z a s * Real.exp (-M) : ℝ) : EReal) := by
  simp only [partA, hostOps0_4, List.take_succ_cons, List.take_zero]
  after_reads_at
  simp only [hs, ninf_f32]
  unfold rowMax at hM
  simp only [hM, exp_masked, ← coe_sum]
  rw [← Finset.sum_mul]
  rfl

end weights

/-- What the host lines leave for the kernel. -/
theorem w_all {D : Data} (h : Args m c D) : Mid (W m c) D ∧ ∀ (a : Fin 8) (s t : Fin 4096), (W m c (Proc.tc.devRef main_v15) : FVec Ideal S8x4096x4096 .f32) (ix3 a s t) = masked D a s t :=
  ⟨w_args (u_args m c h), fun a s t => w_v15 (u_args m c h) (u_v3 m c) a s t⟩

variable {m c} (h : Args m c D)
include h

theorem mid : Mid (StableHlo.after partB (StableHlo.after partA (W m c))) D := b_args (a_args (w_all m c h).1)

theorem q (s : Fin 4096) (e : Fin 1024) : (V m c main_v41 : FVec Ideal S4096x1024 .bf16) (ix2 s e) = ((D.Q (e.val / 128) s (e.val % 128) : ℝ) : EReal) := by
  rw [V_W, parts]
  exact z_v41 (mid h) s e

theorem qT (s : Fin 4096) (e : Fin 1024) : (V m c main_v46 : FVec Ideal S1024x4096 .bf16) (ix2 e s) = ((D.Q (e.val / 128) s (e.val % 128) : ℝ) : EReal) := by
  rw [V_W, parts]
  exact z_v46 (mid h) s e

theorem k (s : Fin 4096) (e : Fin 1024) : (V m c main_v45 : FVec Ideal S4096x1024 .bf16) (ix2 s e) = ((D.K (e.val / 128) s (e.val % 128) : ℝ) : EReal) := by
  rw [V_W, parts]
  exact z_v45 (mid h) s e

theorem v (s : Fin 4096) (e : Fin 512) : (V m c main_v48 : FVec Ideal S4096x512 .bf16) (ix2 s e) = ((D.v s (e.val / 64) (e.val % 64) : ℝ) : EReal) := by
  rw [V_W, parts]
  exact z_v48 (mid h) s e

theorem lse (s : Fin 4096) (e : Fin 1024) : (V m c main_v51 : FVec Ideal S4096x1024 .f32) (ix2 s e) = ((Real.log (D.Z (e.val / 128) s) / Real.log 2 : ℝ) : EReal) := by
  rw [V_W, parts, z_v51]
  obtain ⟨M, hM⟩ := masked_max D (e.val / 128) s
  exact y_v34 (D.Z_pos _ s) ⟨e.val / 128, by omega⟩ s ((x_v17 (w_all m c h).2 ⟨e.val / 128, by omega⟩ s).trans hM) (x_v22 (w_all m c h).2 ⟨e.val / 128, by omega⟩ s hM)

theorem delta (s : Fin 4096) (e : Fin 1024) : (V m c main_v54 : FVec Ideal S4096x1024 .f32) (ix2 s e) = ((D.delta (e.val / 128) s : ℝ) : EReal) := by
  rw [V_W, parts, z_v54]
  exact y_v37 (a_args (w_all m c h).1) (x_v24 (w_all m c h).2) ⟨e.val / 128, by omega⟩ s

end Cert.Proof.AHost

end
-- ==== Proof.AValue.lean ====
/- What the attention's gradient kernel's three output arrays hold after its run. -/
module

public import proofs.«01_k».proof.Proof.AHost
public import Idealize.ShloMosaic.Lib.Pipeline.ValueKit
public import Idealize.ShloMosaic.Lib.Pipeline.ValueKit.Held

@[expose] public section

set_option maxRecDepth 16384
set_option maxHeartbeats 2000000

noncomputable section

namespace Cert.Proof.AValue

open Idealize.ShloMosaic Cert.AKernelIdeal Cert.AKernelIdeal.Gen Cert.Proof.Reals Cert.Proof.AMath Cert.Proof.AHost
open Cert.Proof.APay (addK addV)
open Cert.Proof.ALoop (Held)
open Cert.Proof.ABlock (Block)

/-- Which block each window holds at a point: heads `t / 8`, query rows `t % 8`. -/
theorem idx : ∀ t : Fin cfg0.N, win0_0.index t = ![t.val % 8, t.val / 8] ∧ win0_1.index t = ![t.val / 8, t.val % 8] ∧ win0_2.index t = ![t.val % 8, t.val / 8]
    ∧ win0_3.index t = ![t.val % 8, t.val / 8] ∧ win0_4.index t = ![t.val % 8, t.val / 8] ∧ win0_5.index t = ![0, t.val / 8] ∧ win0_6.index t = ![0, t.val / 8]
    ∧ win0_7.index t = ![t.val % 8, t.val / 8] ∧ win0_8.index t = ![t.val / 8, 0] ∧ win0_9.index t = ![t.val / 8, 0] ∧ (grid0.coords t 1).val = t.val % 8 :=
  (by decide +kernel : ∀ t : Fin grid0.N, _)

variable {m : (ℓ : Loc nD τ sig) → Buf (Elt Ideal) ℓ} {c : Dev nD} {D : Data} (h : Args m c D)
include h

theorem block (t : Fin cfg0.N) : Block D (t.val / 8) (512 * (grid0.coords t 1).val) (iblk m c 0 t) (iblk m c 1 t) (iblk m c 2 t) (iblk m c 3 t) (iblk m c 4 t) := by
  have hN := lt_of_lt_of_eq t.isLt N_0
  have hi := (idx t).2.2.2.2.2.2.2.2.2.2
  rw [hi]
  have e1 : ∀ x : Fin 512, (512 * (t.val / 8) + x.val) / 128 = 4 * (t.val / 8) + x.val / 128 := fun x => by omega
  have e2 : ∀ x : Fin 512, (512 * (t.val / 8) + x.val) % 128 = x.val % 128 := fun x => by omega
  have e3 : ∀ x : Fin 256, (256 * (t.val / 8) + x.val) / 64 = 4 * (t.val / 8) + x.val / 64 := fun x => by omega
  have e4 : ∀ x : Fin 256, (256 * (t.val / 8) + x.val) % 64 = x.val % 64 := fun x => by omega
  constructor
  · intro r x
    rw [← e1, ← e2]
    refine Eq.trans ?_ (q h ⟨512 * (t.val % 8) + r.val, by omega⟩ ⟨512 * (t.val / 8) + x.val, by omega⟩)
    blk_ext [iblk, idx t]
  · intro x r
    rw [← e1, ← e2]
    refine Eq.trans ?_ (qT h ⟨512 * (t.val % 8) + r.val, by omega⟩ ⟨512 * (t.val / 8) + x.val, by omega⟩)
    blk_ext [iblk, idx t]
  · intro r x
    rw [← e3, ← e4]
    refine Eq.trans ?_ ((congrFun (V_main_arg5 m c) _).trans (h.g ⟨512 * (t.val % 8) + r.val, by omega⟩ ⟨256 * (t.val / 8) + x.val, by omega⟩))
    blk_ext [iblk, idx t]
  · intro r x
    rw [← e1]
    refine Eq.trans ?_ (lse h ⟨512 * (t.val % 8) + r.val, by omega⟩ ⟨512 * (t.val / 8) + x.val, by omega⟩)
    blk_ext [iblk, idx t]
  · intro r x
    rw [← e1]
    refine Eq.trans ?_ (delta h ⟨512 * (t.val % 8) + r.val, by omega⟩ ⟨512 * (t.val / 8) + x.val, by omega⟩)
    blk_ext [iblk, idx t]

theorem held (t : Fin cfg0.N) (a7 : Memref sig .tc .vmem S4096x512 .bf16) (w7 : a7.IsWhole) (a8 : Memref sig .tc .vmem S4096x256 .bf16) (w8 : a8.IsWhole) :
    Held D (t.val / 8) (a7.view.read (Elt Ideal) (w7.unread (iblk m c 5 t))) (a8.view.read (Elt Ideal) (w8.unread (iblk m c 6 t))) := by
  have hN := lt_of_lt_of_eq t.isLt N_0
  have e1 : ∀ x : Fin 512, (512 * (t.val / 8) + x.val) / 128 = 4 * (t.val / 8) + x.val / 128 := fun x => by omega
  have e2 : ∀ x : Fin 512, (512 * (t.val / 8) + x.val) % 128 = x.val % 128 := fun x => by omega
  have e3 : ∀ x : Fin 256, (256 * (t.val / 8) + x.val) / 64 = 4 * (t.val / 8) + x.val / 64 := fun x => by omega
  have e4 : ∀ x : Fin 256, (256 * (t.val / 8) + x.val) % 64 = x.val % 64 := fun x => by omega
  rw [w7.read_unread, w8.read_unread]
  constructor
  · intro r x
    rw [← e1, ← e2]
    refine Eq.trans ?_ (k h r ⟨512 * (t.val / 8) + x.val, by omega⟩)
    blk_ext [iblk, idx t]
  · intro r x
    rw [← e3, ← e4]
    refine Eq.trans ?_ (v h r ⟨256 * (t.val / 8) + x.val, by omega⟩)
    blk_ext [iblk, idx t]

theorem out7 (t : Fin cfg0.N) (r x : Fin 512) : (outsAt0 m c t.val t.isLt).1 (ix2 r x)
    = ((D.dq (4 * (t.val / 8) + x.val / 128) (512 * (t.val % 8) + r.val) (x.val % 128) : ℝ) : EReal) := by
  rw [← (idx t).2.2.2.2.2.2.2.2.2.2]
  by_cases h0 : t.val % 8 = 0
  · rw [outsAt0_A m c t h0]
    dsimp only
    unfold out0_A_7
    exact APoint.first_q D (t.val / 8) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (block h t) (held h t _ _ _ _) ((hcond0_0 t).mpr h0) VO0_7 _ r x
  · rw [outsAt0_B m c t h0]
    dsimp only
    unfold out0_B_7
    exact APoint.later_q D (t.val / 8) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (block h t) (held h t _ _ _ _) (outsAt0 m c (t.val - 1) (Nat.lt_of_le_of_lt (Nat.sub_le _ _) t.isLt)).2.1 (outsAt0 m c (t.val - 1) (Nat.lt_of_le_of_lt (Nat.sub_le _ _) t.isLt)).2.2 (fun e => h0 ((hcond0_0 t).mp e)) VO0_7 _ r x

theorem out8_A (t : Fin cfg0.N) (h0 : t.val % 8 = 0) (x : Fin 512) (y : Fin 4096) : (outsAt0 m c t.val t.isLt).2.1 (ix2 x y)
    = ((addK D (4 * (t.val / 8) + x.val / 128) (512 * (t.val % 8)) (x.val % 128) y.val : ℝ) : EReal) := by
  rw [← (idx t).2.2.2.2.2.2.2.2.2.2, outsAt0_A m c t h0]
  dsimp only
  unfold out0_A_8
  refine Eq.trans ?_ (APoint.first_k D (t.val / 8) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (block h t) (held h t _ _ _ _) ((hcond0_0 t).mpr h0) x y)
  · exact congrFun ((View.read_writes_junk_eq_canon (Val := Elt Ideal) VO0_8 _).trans (View.read_writes_junk_eq_canon (Val := Elt Ideal) (ms0_8 t).view _).symm) (ix2 x y)

theorem out9_A (t : Fin cfg0.N) (h0 : t.val % 8 = 0) (x : Fin 256) (y : Fin 4096) : (outsAt0 m c t.val t.isLt).2.2 (ix2 x y)
    = ((addV D (4 * (t.val / 8) + x.val / 64) (512 * (t.val % 8)) (x.val % 64) y.val : ℝ) : EReal) := by
  rw [← (idx t).2.2.2.2.2.2.2.2.2.2, outsAt0_A m c t h0]
  dsimp only
  unfold out0_A_9
  refine Eq.trans ?_ (APoint.first_v D (t.val / 8) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (block h t) (held h t _ _ _ _) ((hcond0_0 t).mpr h0) x y)
  · exact congrFun ((View.read_writes_junk_eq_canon (Val := Elt Ideal) VO0_9 _).trans (View.read_writes_junk_eq_canon (Val := Elt Ideal) (ms0_9 t).view _).symm) (ix2 x y)

theorem out8_B (t : Fin cfg0.N) (h0 : ¬t.val % 8 = 0) (x : Fin 512) (y : Fin 4096) : (outsAt0 m c t.val t.isLt).2.1 (ix2 x y)
    = (outsAt0 m c (t.val - 1) (Nat.lt_of_le_of_lt (Nat.sub_le _ _) t.isLt)).2.1 (ix2 x y) + ((addK D (4 * (t.val / 8) + x.val / 128) (512 * (t.val % 8)) (x.val % 128) y.val : ℝ) : EReal) := by
  rw [← (idx t).2.2.2.2.2.2.2.2.2.2, outsAt0_B m c t h0]
  dsimp only
  unfold out0_B_8
  exact APoint.later_k D (t.val / 8) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (block h t) (held h t _ _ _ _) (outsAt0 m c (t.val - 1) (Nat.lt_of_le_of_lt (Nat.sub_le _ _) t.isLt)).2.1 (outsAt0 m c (t.val - 1) (Nat.lt_of_le_of_lt (Nat.sub_le _ _) t.isLt)).2.2 (fun e => h0 ((hcond0_0 t).mp e)) x y

theorem out9_B (t : Fin cfg0.N) (h0 : ¬t.val % 8 = 0) (x : Fin 256) (y : Fin 4096) : (outsAt0 m c t.val t.isLt).2.2 (ix2 x y)
    = (outsAt0 m c (t.val - 1) (Nat.lt_of_le_of_lt (Nat.sub_le _ _) t.isLt)).2.2 (ix2 x y) + ((addV D (4 * (t.val / 8) + x.val / 64) (512 * (t.val % 8)) (x.val % 64) y.val : ℝ) : EReal) := by
  rw [← (idx t).2.2.2.2.2.2.2.2.2.2, outsAt0_B m c t h0]
  dsimp only
  unfold out0_B_9
  exact APoint.later_v D (t.val / 8) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (block h t) (held h t _ _ _ _) (outsAt0 m c (t.val - 1) (Nat.lt_of_le_of_lt (Nat.sub_le _ _) t.isLt)).2.1 (outsAt0 m c (t.val - 1) (Nat.lt_of_le_of_lt (Nat.sub_le _ _) t.isLt)).2.2 (fun e => h0 ((hcond0_0 t).mp e)) x y

/-- The key gradient's block after a point: the query rows so far. -/
theorem acc8 (n : ℕ) (hn : n < cfg0.N) (x : Fin 512) (y : Fin 4096) : (outsAt0 m c n hn).2.1 (ix2 x y)
    = ((∑ j ∈ Finset.range (n % 8 + 1), addK D (4 * (n / 8) + x.val / 128) (512 * j) (x.val % 128) y.val : ℝ) : EReal) := by
  induction n with
  | zero => rw [out8_A h ⟨0, hn⟩ rfl x y]; simp
  | succ n ih =>
    by_cases h0 : (n + 1) % 8 = 0
    · rw [out8_A h ⟨n + 1, hn⟩ h0 x y]; simp [h0]
    · rw [out8_B h ⟨n + 1, hn⟩ h0 x y]
      have e := ih (Nat.lt_of_succ_lt hn)
      rw [Finset.sum_range_succ, show (n + 1) % 8 = n % 8 + 1 by omega, show (n + 1) / 8 = n / 8 by omega, EReal.coe_add, ← e]
      simp only [Nat.add_sub_cancel, show (n + 1) % 8 = n % 8 + 1 by omega, show (n + 1) / 8 = n / 8 by omega]

theorem acc9 (n : ℕ) (hn : n < cfg0.N) (x : Fin 256) (y : Fin 4096) : (outsAt0 m c n hn).2.2 (ix2 x y)
    = ((∑ j ∈ Finset.range (n % 8 + 1), addV D (4 * (n / 8) + x.val / 64) (512 * j) (x.val % 64) y.val : ℝ) : EReal) := by
  induction n with
  | zero => rw [out9_A h ⟨0, hn⟩ rfl x y]; simp
  | succ n ih =>
    by_cases h0 : (n + 1) % 8 = 0
    · rw [out9_A h ⟨n + 1, hn⟩ h0 x y]; simp [h0]
    · rw [out9_B h ⟨n + 1, hn⟩ h0 x y]
      have e := ih (Nat.lt_of_succ_lt hn)
      rw [Finset.sum_range_succ, show (n + 1) % 8 = n % 8 + 1 by omega, show (n + 1) / 8 = n / 8 by omega, EReal.coe_add, ← e]
      simp only [Nat.add_sub_cancel, show (n + 1) % 8 = n % 8 + 1 by omega, show (n + 1) / 8 = n / 8 by omega]

omit h in
/-- A sum over the rows, block by block. -/
theorem rows_sum (f : ℕ → ℝ) : ∑ j ∈ Finset.range 8, ∑ r : Fin 512, f (512 * j + r.val) = ∑ s : Fin 4096, f s.val := by
  rw [Finset.sum_range]
  exact Fin.sum_mul_add_congr (fun t r hl => by rw [show 512 * t.val + r.val = t.val * 512 + r.val by omega]) rfl

omit h in
theorem all8 (a x y : ℕ) : ∑ j ∈ Finset.range 8, addK D a (512 * j) x y = D.dk a x y := by
  unfold addK Data.dk
  rw [← Finset.sum_mul, rows_sum (fun s => D.Q a s x * D.ds a s y)]

omit h in
theorem all9 (a x y : ℕ) : ∑ j ∈ Finset.range 8, addV D a (512 * j) x y = D.dv a x y := by
  unfold addV Data.dv
  rw [rows_sum (fun s => D.g s a x * D.p a s y)]

def q7 (D : Data) (i : S4096x1024.Idx) : EReal := ((D.dq ((i 1).val / 128) (i 0).val ((i 1).val % 128) : ℝ) : EReal)
def k8 (D : Data) (i : S1024x4096.Idx) : EReal := ((D.dk ((i 0).val / 128) ((i 0).val % 128) (i 1).val : ℝ) : EReal)
def v9 (D : Data) (i : S512x4096.Idx) : EReal := ((D.dv ((i 0).val / 64) ((i 0).val % 64) (i 1).val : ℝ) : EReal)

theorem arr7 : (dats m 0 c).arrAt 7 cfg0.N = q7 D := by
  refine (dats m 0 c).arrAt_eq_of_covers 7 (q7 D) (by decide +kernel) fun t hf y => ?_
  have hN := lt_of_lt_of_eq t.isLt N_0
  blk_simp
  rw [after0_7]
  obtain ⟨r, l, rfl⟩ : ∃ (r : Fin 512) (l : Fin 512), y = ix2 r l := ⟨⟨(y 0).val, (y 0).isLt⟩, ⟨(y 1).val, (y 1).isLt⟩, by blk_ext⟩
  have hi : (win0_7.blk t).view.emb (ix2 r l) = ix2 (⟨512 * (t.val % 8) + r.val, by omega⟩ : Fin 4096) (⟨512 * (t.val / 8) + l.val, by omega⟩ : Fin 1024) := by blk_ext [idx t]
  rw [hi, out7 h]
  show _ = ((D.dq ((512 * (t.val / 8) + l.val) / 128) (512 * (t.val % 8) + r.val) ((512 * (t.val / 8) + l.val) % 128) : ℝ) : EReal)
  rw [show (512 * (t.val / 8) + l.val) / 128 = 4 * (t.val / 8) + l.val / 128 by omega, show (512 * (t.val / 8) + l.val) % 128 = l.val % 128 by omega]

omit h in
theorem last : ∀ t : Fin cfg0.N, (win0_8.flush t = true → t.val % 8 = 7) ∧ (win0_9.flush t = true → t.val % 8 = 7) :=
  (by decide +kernel : ∀ t : Fin grid0.N, _)

theorem arr8 : (dats m 0 c).arrAt 8 cfg0.N = k8 D := by
  refine (dats m 0 c).arrAt_eq_of_covers 8 (k8 D) (by decide +kernel) fun t hf y => ?_
  have hN := lt_of_lt_of_eq t.isLt N_0
  have ht := (last t).1 hf
  blk_simp
  rw [after0_8]
  obtain ⟨r, l, rfl⟩ : ∃ (r : Fin 512) (l : Fin 4096), y = ix2 r l := ⟨⟨(y 0).val, (y 0).isLt⟩, ⟨(y 1).val, (y 1).isLt⟩, by blk_ext⟩
  have hi : (win0_8.blk t).view.emb (ix2 r l) = ix2 (⟨512 * (t.val / 8) + r.val, by omega⟩ : Fin 1024) l := by blk_ext [idx t]
  rw [hi, acc8 h, ht, all8]
  show _ = ((D.dk ((512 * (t.val / 8) + r.val) / 128) ((512 * (t.val / 8) + r.val) % 128) l.val : ℝ) : EReal)
  rw [show (512 * (t.val / 8) + r.val) / 128 = 4 * (t.val / 8) + r.val / 128 by omega, show (512 * (t.val / 8) + r.val) % 128 = r.val % 128 by omega]

theorem arr9 : (dats m 0 c).arrAt 9 cfg0.N = v9 D := by
  refine (dats m 0 c).arrAt_eq_of_covers 9 (v9 D) (by decide +kernel) fun t hf y => ?_
  have hN := lt_of_lt_of_eq t.isLt N_0
  have ht := (last t).2 hf
  blk_simp
  rw [after0_9]
  obtain ⟨r, l, rfl⟩ : ∃ (r : Fin 256) (l : Fin 4096), y = ix2 r l := ⟨⟨(y 0).val, (y 0).isLt⟩, ⟨(y 1).val, (y 1).isLt⟩, by blk_ext⟩
  have hi : (win0_9.blk t).view.emb (ix2 r l) = ix2 (⟨256 * (t.val / 8) + r.val, by omega⟩ : Fin 512) l := by blk_ext [idx t]
  rw [hi, acc9 h, ht, all9]
  show _ = ((D.dv ((256 * (t.val / 8) + r.val) / 64) ((256 * (t.val / 8) + r.val) % 64) l.val : ℝ) : EReal)
  rw [show (256 * (t.val / 8) + r.val) / 64 = 4 * (t.val / 8) + r.val / 64 by omega, show (256 * (t.val / 8) + r.val) % 64 = r.val % 64 by omega]

end Cert.Proof.AValue

end
-- ==== Proof.AGrad.lean ====
/- The gradients the reference of the attention returns, read at an index. -/
module

public import proofs.«01_k».proof.Proof.ARef

@[expose] public section

set_option maxRecDepth 16384

noncomputable section

namespace Cert.Proof.AGrad

open Idealize.ShloMosaic Cert.Proof.Reals Cert.Proof.AMath Cert.Proof.ARef Cert.AReferenceIdeal Cert.AReferenceIdeal.Gen Cert.AReferenceIdeal.Read

variable {x0 : FVec Ideal S4096x8x64 .f32} {x1 : FVec Ideal S4096x8x32 .f32} {x2 : FVec Ideal S4096x8x64 .f32} {x3 : FVec Ideal S4096x32 .f32}
  {x4 : FVec Ideal S4096x8x64 .f32} {x5 : FVec Ideal S4096x512 .f32} {D : Data} (r : Reads x0 x1 x2 x3 x4 x5 D)
include r

theorem v37 {h : Fin 8} {s : Fin 4096} {M : ℝ} (hM : ∀ t, val_main_v36 (F := Ideal) x0 x1 x2 x3 (ix3 h s t) = ((D.w h s t * Real.exp (-M) : ℝ) : EReal)) :
    val_main_v37 (F := Ideal) x0 x1 x2 x3 (ix2 h s) = ((D.Z h s * Real.exp (-M) : ℝ) : EReal) := by
  pointwise [val_main_v37, val_main_cst_9]
  simp only [hM, ← coe_sum]
  rw [← Finset.sum_mul]
  simp [Data.Z]

theorem v40 (h : Fin 8) (s t : Fin 4096) : val_main_v40 (F := Ideal) x0 x1 x2 x3 (ix3 h s t) = ((D.p h s t : ℝ) : EReal) := by
  obtain ⟨M, hM⟩ := v36 r h s
  pointwise [val_main_v40, val_main_v39, val_main_v38]
  rw [hM, v37 r hM, div_real _ (mul_pos (D.Z_pos h s) (Real.exp_pos _)).ne', mul_div_mul_right _ _ (Real.exp_pos _).ne']
  rfl

theorem v49 (h : Fin 8) (s t : Fin 4096) : val_main_v49 (F := Ideal) x4 x5 (ix3 h s t) = ((D.dP h s t : ℝ) : EReal) := by
  pointwise [val_main_v49, val_main_v48, val_main_v47]
  rw [Data.dP, coe_sum]
  refine Finset.sum_congr rfl fun d _ => ?_
  rw [r.g, r.v, ← EReal.coe_mul]
  have e1 : (h.val * 64 + d.val) / 64 = h.val := by omega
  have e2 : (h.val * 64 + d.val) % 64 = d.val := by omega
  simp only [e1, e2]

theorem v64 (h : Fin 8) (s t : Fin 4096) : val_main_v64 (F := Ideal) x0 x1 x2 x3 x4 x5 (ix3 h s t) = ((D.ds h s t : ℝ) : EReal) := by
  obtain ⟨M, hM⟩ := v36 r h s
  pointwise [val_main_v64, val_main_call2_v0, val_main_call2_cst, val_main_v63, val_main_v62, val_main_v61, val_main_v60, val_main_cst_12, val_main_v59, val_main_v58, val_main_v57, val_main_v56,
    val_main_v55, val_main_cst_11, val_main_v54, val_main_v53, val_main_v52, val_main_v43, val_main_v42, val_main_cst_10, val_main_v41, val_main_v38]
  have hZ := D.Z_pos h s
  have hE := Real.exp_pos (-M)
  have hl := (mul_pos hZ hE).ne'
  rw [mask, v37 r hM, show (1 : EReal) = ((1 : ℝ) : EReal) from rfl, ← EReal.coe_mul, div_real _ (mul_ne_zero hl hl)]
  simp only [v49 r, hM, ← EReal.coe_mul, div_real _ hl, ← coe_sum, ← EReal.coe_neg, ← EReal.coe_add]
  by_cases b : t.val / 64 ≤ s.val / 64
  · rw [if_pos b]
    show ((_ : ℝ) : EReal) = _
    refine congrArg _ ?_
    have e : ∑ x : Fin 4096, D.dP h s x * (1 / (D.Z h s * Real.exp (-M) * (D.Z h s * Real.exp (-M)))) * (D.w h s x * Real.exp (-M))
        = D.delta h s / (D.Z h s * Real.exp (-M)) := by
      unfold Data.delta Data.p
      rw [Finset.sum_div]
      refine Finset.sum_congr rfl fun x _ => ?_
      field_simp
    rw [e]
    unfold Data.ds Data.p
    simp only [Finset.univ_unique, Finset.sum_singleton]
    field_simp
    ring
  · rw [if_neg b, D.ds_late b]
    rfl

theorem v66 (h : Fin 8) (s t : Fin 4096) : val_main_v66 (F := Ideal) x0 x1 x2 x3 x4 x5 (ix3 h s t) = ((D.ds h s t * scale : ℝ) : EReal) := by
  pointwise [val_main_v66, val_main_v65, val_main_cst_13]
  rw [v64 r, scale_f32, ← EReal.coe_mul]

theorem v82 (c : Fin 512) (t : Fin 4096) : val_main_v82 (F := Ideal) x0 x1 x2 x3 x5 (ix2 c t) = ((D.dv (c.val / 64) (c.val % 64) t : ℝ) : EReal) := by
  pointwise [val_main_v82, val_main_v81, val_main_v51, val_main_v50, val_main_v48, val_main_v47]
  rw [Data.dv, coe_sum]
  refine Finset.sum_congr rfl fun s _ => ?_
  rw [r.g, v40 r, ← EReal.coe_mul]

theorem v80 (c : Fin 1024) (t : Fin 4096) : val_main_v80 (F := Ideal) x0 x1 x2 x3 x4 x5 (ix2 c t) = ((D.dk (c.val / 128) (c.val % 128) t : ℝ) : EReal) := by
  pointwise [val_main_v80, val_main_v79, val_main_v78, val_main_v72, val_main_v71, val_main_v68, val_main_v67, val_main_v75, val_main_cst_14]
  have e (s : Fin 4096) (a : ℝ) : D.ds (c.val / 128) s t * scale * a = a * D.ds (c.val / 128) s t * scale := by ring
  rw [Data.dk, Finset.sum_mul]
  simp only [v66 r, r.qn, r.qr, ← EReal.coe_mul, ← coe_sum, e, Data.Q]
  split_ifs <;> simp

theorem v77 (s : Fin 4096) (c : Fin 1024) : val_main_v77 (F := Ideal) x0 x1 x2 x3 x4 x5 (ix2 s c) = ((D.dq (c.val / 128) s (c.val % 128) : ℝ) : EReal) := by
  pointwise [val_main_v77, val_main_v76, val_main_v74, val_main_v73, val_main_v70, val_main_v69, val_main_v75, val_main_cst_14, val_main_v1, val_main_v0]
  have e (t : Fin 4096) (a : ℝ) : D.ds (c.val / 128) s t * scale * a = D.ds (c.val / 128) s t * a * scale := by ring
  rw [Data.dq, Finset.sum_mul]
  simp only [v66 r, r.kn, r.kr, ← EReal.coe_mul, ← coe_sum, e, Data.K]
  split_ifs <;> simp

end Cert.Proof.AGrad

end
-- ==== Proof.AClaim.lean ====
/- The attention's gradient: the kernel's three results are the reference's. -/
module

public import proofs.«01_k».proof.Proof.AValue
public import proofs.«01_k».proof.Proof.AGrad
public import proofs.«01_k».proof.Proof.Gen.AKernelIdeal.Value
public import proofs.«01_k».proof.Proof.Gen.AReferenceIdeal.Run
public import proofs.«01_k».proof.Defs
public import Idealize.ShloMosaic.Lib.Claim

@[expose] public section

set_option maxRecDepth 16384

noncomputable section

namespace Cert.Proof.AClaim

open Idealize.ShloMosaic Cert.Proof.Reals Cert.Proof.AMath

local instance : Cert.AKernelIdeal.Facts := Cert.AKernelIdeal.Gen.facts
local instance : Cert.AReferenceIdeal.Facts := Cert.AReferenceIdeal.Gen.facts

variable [hP : Cert.Pre_a_finite.Facts]

/-- The precondition: each of the six arrays is finite. -/
theorem finite (x0 : FVec Ideal ⟨3, ![4096, 8, 64]⟩ .f32) (x1 : FVec Ideal ⟨3, ![4096, 8, 32]⟩ .f32) (x2 : FVec Ideal ⟨3, ![4096, 8, 64]⟩ .f32) (x3 : FVec Ideal ⟨2, ![4096, 32]⟩ .f32)
    (x4 : FVec Ideal ⟨3, ![4096, 8, 64]⟩ .f32) (x5 : FVec Ideal ⟨2, ![4096, 512]⟩ .f32) (j : (⟨0, ![]⟩ : Shape).Idx)
    (h : Cert.Pre_a_finite.fn (F := Ideal) x0 x1 x2 x3 x4 x5 j = 1#1) : Finite x0 ∧ Finite x1 ∧ Finite x2 ∧ Finite x3 ∧ Finite x4 ∧ Finite x5 := by
  unfold Cert.Pre_a_finite.fn Cert.Pre_a_finite.fn_part1 at h
  obtain ⟨h, h5⟩ := andi_one.1 h
  obtain ⟨h, h4⟩ := andi_one.1 h
  obtain ⟨h, h3⟩ := andi_one.1 h
  obtain ⟨h, h2⟩ := andi_one.1 h
  obtain ⟨h0, h1⟩ := andi_one.1 h
  exact ⟨finite_of_all _ _ _ x0 j h0, finite_of_all _ _ _ x1 j h1, finite_of_all _ _ _ x2 j h2, finite_of_all _ _ _ x3 j h3, finite_of_all _ _ _ x4 j h4, finite_of_all _ _ _ x5 j h5⟩

omit hP in
theorem facts : Cert.Pre_a_finite.Facts := by constructor <;> decide

/-- An array of three axes as a real table, zero outside. -/
def table3 {a b d : ℕ} (x : FVec Ideal ⟨3, ![a, b, d]⟩ .f32) (i j k : ℕ) : ℝ :=
  if h : i < a ∧ j < b ∧ k < d then (x (ix3 ⟨i, h.1⟩ ⟨j, h.2.1⟩ ⟨k, h.2.2⟩) : EReal).toReal else 0

/-- An array of two axes as a real table, zero outside. -/
def table2 {a b : ℕ} (x : FVec Ideal ⟨2, ![a, b]⟩ .f32) (i j : ℕ) : ℝ :=
  if h : i < a ∧ j < b then (x (ix2 ⟨i, h.1⟩ ⟨j, h.2⟩) : EReal).toReal else 0

omit hP in
theorem table3_eq {a b d : ℕ} {x : FVec Ideal ⟨3, ![a, b, d]⟩ .f32} (f : Finite x) (i : Fin a) (j : Fin b) (k : Fin d) : x (ix3 i j k) = ((table3 x i j k : ℝ) : EReal) := by
  rw [table3, dif_pos ⟨i.isLt, j.isLt, k.isLt⟩]
  exact (f _).symm

omit hP in
theorem table2_eq {a b : ℕ} {x : FVec Ideal ⟨2, ![a, b]⟩ .f32} (f : Finite x) (i : Fin a) (j : Fin b) : x (ix2 i j) = ((table2 x i j : ℝ) : EReal) := by
  rw [table2, dif_pos ⟨i.isLt, j.isLt⟩]
  exact (f _).symm

/-- The kernel's arguments as reals. -/
theorem args (m : (ℓ : Loc Cert.AKernelIdeal.nD Cert.AKernelIdeal.τ Cert.AKernelIdeal.sig) → Buf (Elt Ideal) ℓ) (hpre : Cert.Pre_AKernelIdeal_a_finite m) (c : Dev Cert.AKernelIdeal.nD) :
    ∃ D, AHost.Args m c D := by
  obtain ⟨f0, f1, f2, f3, f4, f5⟩ := finite _ _ _ _ _ _ (fun a => a.elim0) (congrFun (hpre c) fun a => a.elim0)
  refine ⟨⟨table3 _, table3 _, table3 _, table2 _, table3 _, fun s a d => table2 (show FVec Ideal ⟨2, ![4096, 512]⟩ .f32 from m ((c.tc : Thread Cert.AKernelIdeal.nD Cert.AKernelIdeal.τ).loc Cert.AKernelIdeal.main_arg5)) s (a * 64 + d)⟩, table3_eq f0, table3_eq f1, table3_eq f2, table2_eq f3, table3_eq f4, fun s e => (table2_eq f5 s e).trans ?_⟩
  show _ = ((table2 _ s.val (e.val / 64 * 64 + e.val % 64) : ℝ) : EReal)
  rw [show e.val / 64 * 64 + e.val % 64 = e.val by omega]

/-- From memories that agree on the arguments, both programs leave the same three arrays. -/
theorem algebraic : Cert.algebraic_AKernelIdeal_AReferenceIdeal_pre_a_finite := by
  pair_intro
  · run_from Cert.AKernelIdeal.Value.run_blocks m g
  · run_from Cert.AReferenceIdeal.Value.run m' g'
    all_goals
      obtain ⟨D, h⟩ := args m hpre c
      obtain ⟨a0, a1, a2, a3, a4, a5⟩ := hagree c
      have hr := ARef.Reads.mk (D := D) (fun s a d => (congrFun a0 (ix3 s a d)).trans (h.qn s a d)) (fun s a d => (congrFun a1 (ix3 s a d)).trans (h.qr s a d)) (fun s a d => (congrFun a2 (ix3 s a d)).trans (h.kn s a d))
        (fun s d => (congrFun a3 (ix2 s d)).trans (h.kr s d)) (fun s a d => (congrFun a4 (ix3 s a d)).trans (h.v s a d)) (fun s e => (congrFun a5 (ix2 s e)).trans (h.g s e))
    · refine (Cert.AReferenceIdeal.Read.val_main_v77_eq m' c).trans ?_
      refine Eq.trans ?_ (AValue.arr7 h).symm
      funext i
      obtain ⟨s, k, rfl⟩ : ∃ (s : Fin 4096) (k : Fin 1024), i = ix2 s k := ⟨⟨(i 0).val, (i 0).isLt⟩, ⟨(i 1).val, (i 1).isLt⟩, by blk_ext⟩
      exact AGrad.v77 hr s k
    · refine (Cert.AReferenceIdeal.Read.val_main_v80_eq m' c).trans ?_
      refine Eq.trans ?_ (AValue.arr8 h).symm
      funext i
      obtain ⟨s, k, rfl⟩ : ∃ (s : Fin 1024) (k : Fin 4096), i = ix2 s k := ⟨⟨(i 0).val, (i 0).isLt⟩, ⟨(i 1).val, (i 1).isLt⟩, by blk_ext⟩
      exact AGrad.v80 hr s k
    · refine (Cert.AReferenceIdeal.Read.val_main_v82_eq m' c).trans ?_
      refine Eq.trans ?_ (AValue.arr9 h).symm
      funext i
      obtain ⟨s, k, rfl⟩ : ∃ (s : Fin 512) (k : Fin 4096), i = ix2 s k := ⟨⟨(i 0).val, (i 0).isLt⟩, ⟨(i 1).val, (i 1).isLt⟩, by blk_ext⟩
      exact AGrad.v82 hr s k

omit hP in
/-- The reference runs to its end and leaves its arguments as they were. -/
theorem ref_frame : Cert.quiescent_AReferenceIdeal := by
  intro m g _
  exact (θ_run Cert.AReferenceIdeal.defs _ _).mono (fun r h => ⟨fun c => (h c).2.2.2, sem_eq_zero_of_no_sems (by decide) r.2⟩)
    (Cert.AReferenceIdeal.Value.run m g)

omit hP in
/-- The named constant lies where its word does. -/
theorem preserves : Cert.preserves_AKernel_AKernelIdeal :=
  IdealRules.named_const.statement Cert.AKernelIdeal.κ "scale_log2e" .f32 0x3E16C740#32 (((3424635 / 33554432) * (Real.log 2)⁻¹ : ℝ) : EReal) rfl

end Cert.Proof.AClaim

end
-- ==== Proof.QMath.lean ====
/- The quantities of the latent projections' gradient, over the reals: what both programs compute. -/
module

public import proofs.«01_k».proof.Proof.Reals

@[expose] public section

noncomputable section

namespace Cert.Proof.QMath

open Idealize.ShloMosaic Cert.Proof.Reals

/-- The angle's cosine at row `s` for the pair of columns `e`. -/
def cosT (s : Fin 4096) (e : Fin 16) : ℝ := Real.cos ((s.val : ℝ) * Real.rpow 10000 (-(e.val : ℝ) / 16))
/-- The angle's sine. -/
def sinT (s : Fin 4096) (e : Fin 16) : ℝ := Real.sin ((s.val : ℝ) * Real.rpow 10000 (-(e.val : ℝ) / 16))

/-- The rotation turned back, on the two halves of 32 columns. -/
def turn (d : Fin 32 → ℝ) (s : Fin 4096) (j : Fin 32) : ℝ :=
  if h : j.val < 16 then d j * cosT s ⟨j.val, h⟩ + d ⟨j.val + 16, by omega⟩ * sinT s ⟨j.val, h⟩
  else d j * cosT s ⟨j.val - 16, by omega⟩ - d ⟨j.val - 16, by omega⟩ * sinT s ⟨j.val - 16, by omega⟩

/-- The gradient of a head's 96 query columns before the rotation. -/
def dqu (dn : Fin 8 → Fin 64 → ℝ) (dr : Fin 8 → Fin 32 → ℝ) (s : Fin 4096) (h : Fin 8) (d : Fin 96) : ℝ :=
  if b : d.val < 64 then dn h ⟨d.val, b⟩ else turn (dr h) s ⟨d.val - 64, by omega⟩

/-- The gradient of a head's 128 columns of keys and values. -/
def dkv (dn dv : Fin 8 → Fin 64 → ℝ) (h : Fin 8) (d : Fin 128) : ℝ :=
  if b : d.val < 64 then dn h ⟨d.val, b⟩ else dv h ⟨d.val - 64, by omega⟩

/-- The gradient of a normalised row times its gain: the columns' gradients through the weight. -/
def back {n w : ℕ} (D : Fin 8 → Fin w → ℝ) (W : Fin n → Fin 8 → Fin w → ℝ) (r : Fin n) : ℝ := ∑ h, ∑ d, D h d * W r h d

/-- The gradient that comes to a row through its norm. -/
def gx {n : ℕ} (X G D : Fin n → ℝ) (k : Fin n) : ℝ :=
  inv X * (D k * G k - X k * inv X * ((∑ j, D j * G j * (X j * inv X)) / n))

/-- The arguments as reals: projected rows, gains, weights, and the cotangents of queries, keys and values. -/
structure Tab where
  z : Fin 4096 → Fin 4256 → ℝ
  gq : Fin 384 → ℝ
  u : Fin 384 → Fin 8 → Fin 96 → ℝ
  gk : Fin 256 → ℝ
  v : Fin 256 → Fin 8 → Fin 128 → ℝ
  qn : Fin 4096 → Fin 8 → Fin 64 → ℝ
  qr : Fin 4096 → Fin 8 → Fin 32 → ℝ
  kn : Fin 4096 → Fin 8 → Fin 64 → ℝ
  kr : Fin 4096 → Fin 8 → Fin 32 → ℝ
  dv : Fin 4096 → Fin 8 → Fin 64 → ℝ

namespace Tab
variable (T : Tab)

/-- The 384 columns the queries come from. -/
def zq (s : Fin 4096) (r : Fin 384) : ℝ := T.z s ⟨r.val, by omega⟩
/-- The 256 columns the keys and values come from. -/
def zk (s : Fin 4096) (r : Fin 256) : ℝ := T.z s ⟨384 + r.val, by omega⟩
def dq (s : Fin 4096) : Fin 8 → Fin 96 → ℝ := dqu (T.qn s) (T.qr s) s
def dk (s : Fin 4096) : Fin 8 → Fin 128 → ℝ := dkv (T.kn s) (T.dv s)
/-- The gradient of the normalised query row and of the key row. -/
def cq (s : Fin 4096) (r : Fin 384) : ℝ := back (T.dq s) T.u r
def ck (s : Fin 4096) (r : Fin 256) : ℝ := back (T.dk s) T.v r
def dzq (s : Fin 4096) (r : Fin 384) : ℝ := gx (T.zq s) T.gq (T.cq s) r
def dzk (s : Fin 4096) (r : Fin 256) : ℝ := gx (T.zk s) T.gk (T.ck s) r
/-- The shared rotated columns' gradient: the heads' summed, turned back. -/
def dzr (s : Fin 4096) (j : Fin 32) : ℝ := turn (fun i => ∑ h, T.kr s h i) s j
/-- The weights' gradients. -/
def du (r : Fin 384) (h : Fin 8) (d : Fin 96) : ℝ := ∑ s, T.dq s h d * (T.zq s r * inv (T.zq s) * T.gq r)
def dw (r : Fin 256) (h : Fin 8) (d : Fin 128) : ℝ := ∑ s, T.dk s h d * (T.zk s r * inv (T.zk s) * T.gk r)
/-- The gains' gradients. -/
def dgq (r : Fin 384) : ℝ := ∑ s, T.cq s r * (T.zq s r * inv (T.zq s))
def dgk (r : Fin 256) : ℝ := ∑ s, T.ck s r * (T.zk s r * inv (T.zk s))
end Tab

/-- A sum over 1024 columns is a sum over 8 heads of 128. -/
theorem sum_heads (F : Fin 8 → Fin 128 → ℝ) : ∑ e : Fin 1024, F ⟨e.val / 128, by omega⟩ ⟨e.val % 128, by omega⟩ = ∑ h, ∑ l, F h l := by
  rw [← Fintype.sum_prod_type']
  exact Fintype.sum_equiv (finProdFinEquiv (m := 8) (n := 128)).symm _ _ (fun _ => rfl)

/-- A sum over 512 columns is a sum over 8 heads of 64. -/
theorem sum_heads64 (F : Fin 8 → Fin 64 → ℝ) : ∑ e : Fin 512, F ⟨e.val / 64, by omega⟩ ⟨e.val % 64, by omega⟩ = ∑ h, ∑ l, F h l := by
  rw [← Fintype.sum_prod_type']
  exact Fintype.sum_equiv (finProdFinEquiv (m := 8) (n := 64)).symm _ _ (fun _ => rfl)

/-- A head's query columns of which only the first 96 count. -/
theorem sum96 (F : Fin 128 → ℝ) (hz : ∀ l : Fin 128, 96 ≤ l.val → F l = 0) : ∑ l, F l = ∑ d : Fin 96, F ⟨d.val, by omega⟩ := by
  refine (Fin.sum_univ_add (a := 96) (b := 32) F).trans ?_
  rw [Finset.sum_eq_zero (f := fun i : Fin 32 => F (Fin.natAdd 96 i)) fun i _ => hz _ (by simp), add_zero]
  rfl

/-- A head's 128 columns are its 64 of the keys and its 64 of the values. -/
theorem sum64 (F : Fin 128 → ℝ) : ∑ l, F l = ∑ d : Fin 64, F ⟨d.val, by omega⟩ + ∑ d : Fin 64, F ⟨64 + d.val, by omega⟩ :=
  Fin.sum_univ_add (a := 64) (b := 64) F

/-- The three tables of 128 columns the rotation is turned back with. -/
def tc (s : Fin 4096) (l : Fin 128) : ℝ :=
  if l.val < 64 then 1 else if b : l.val - 64 < 16 then cosT s ⟨l.val - 64, b⟩ else if b : l.val - 80 < 16 then cosT s ⟨l.val - 80, b⟩ else 0
def ta (s : Fin 4096) (l : Fin 128) : ℝ :=
  if l.val < 64 then 0 else if b : l.val - 64 < 16 then -sinT s ⟨l.val - 64, b⟩ else 0
def tb (s : Fin 4096) (l : Fin 128) : ℝ :=
  if l.val < 80 then 0 else if b : l.val - 80 < 16 then sinT s ⟨l.val - 80, b⟩ else 0

/-- A head's 128 columns with the rotation turned back. -/
def turned (D : Fin 128 → ℝ) (s : Fin 4096) (l : Fin 128) : ℝ :=
  if l.val < 64 then D l else if b : l.val - 64 < 32 then turn (fun j => D ⟨64 + j.val, by omega⟩) s ⟨l.val - 64, b⟩ else 0

theorem tables (D : Fin 128 → ℝ) (s : Fin 4096) (l a b : Fin 128) (ha : a.val = (l.val + 112) % 128) (hb : b.val = (l.val + 16) % 128) :
    D l * tc s l + D a * ta s a + D b * tb s b = turned D s l := by
  have hl := l.isLt
  unfold turned
  by_cases h1 : l.val < 64
  · have e1 : ta s a = 0 := by
      unfold ta
      by_cases p : a.val < 64
      · rw [if_pos p]
      · rw [if_neg p, dif_neg (by omega)]
    have e2 : tb s b = 0 := by unfold tb; rw [if_pos (by omega)]
    rw [if_pos h1, e1, e2, tc, if_pos h1]
    ring
  rw [if_neg h1]
  by_cases h2 : l.val - 64 < 32
  · rw [dif_pos h2]
    unfold turn
    by_cases h3 : l.val - 64 < 16
    · have e1 : ta s a = 0 := by unfold ta; rw [if_pos (by omega)]
      have e2 : tb s b = sinT s ⟨l.val - 64, h3⟩ := by
        unfold tb
        rw [if_neg (by omega), dif_pos (by omega)]
        exact congrArg (sinT s) (Fin.ext (by show b.val - 80 = l.val - 64; omega))
      rw [dif_pos h3, e1, e2, tc, if_neg h1, dif_pos h3, mul_zero, add_zero]
      congr 2
      · exact congrArg D (Fin.ext (by show l.val = 64 + (l.val - 64); omega))
      · exact congrArg D (Fin.ext (by show b.val = 64 + (l.val - 64 + 16); omega))
    · have e1 : ta s a = -sinT s ⟨l.val - 64 - 16, by omega⟩ := by
        unfold ta
        rw [if_neg (by omega), dif_pos (by omega)]
        exact congrArg (fun x => -sinT s x) (Fin.ext (by show a.val - 64 = l.val - 64 - 16; omega))
      have e2 : tb s b = 0 := by
        unfold tb
        by_cases p : b.val < 80
        · rw [if_pos p]
        · rw [if_neg p, dif_neg (by omega)]
      rw [dif_neg h3, e1, e2, tc, if_neg h1, dif_neg h3, dif_pos (by omega), mul_zero, add_zero, mul_neg, ← sub_eq_add_neg]
      congr 2
      · exact congrArg D (Fin.ext (by show l.val = 64 + (l.val - 64); omega))
      · exact congrArg D (Fin.ext (by show a.val = 64 + (l.val - 64 - 16); omega))
  · have e1 : ta s a = 0 := by unfold ta; rw [if_neg (by omega), dif_neg (by omega)]
    have e2 : tb s b = 0 := by
      unfold tb
      by_cases p : b.val < 80
      · rw [if_pos p]
      · rw [if_neg p, dif_neg (by omega)]
    rw [dif_neg h2, e1, e2, tc, if_neg h1, dif_neg (by omega), dif_neg (by omega)]
    ring

/-- A head's 64 plain and 32 rotated columns, filled up to 128. -/
def head (dn : Fin 8 → Fin 64 → ℝ) (dr : Fin 8 → Fin 32 → ℝ) (h : Fin 8) (l : Fin 128) : ℝ :=
  if b : l.val < 64 then dn h ⟨l.val, b⟩ else if b : l.val - 64 < 32 then dr h ⟨l.val - 64, b⟩ else 0

/-- Turned back, a head's 96 columns are the gradient before the rotation, and the rest is zero. -/
theorem turned_head (dn : Fin 8 → Fin 64 → ℝ) (dr : Fin 8 → Fin 32 → ℝ) (s : Fin 4096) (h : Fin 8) (l : Fin 128) :
    turned (head dn dr h) s l = if b : l.val < 96 then dqu dn dr s h ⟨l.val, b⟩ else 0 := by
  unfold turned dqu
  by_cases h1 : l.val < 64
  · have h2 : l.val < 96 := by omega
    simp only [h1, h2, if_true, dite_true, head]
  by_cases h2 : l.val - 64 < 32
  · have h3 : l.val < 96 := by omega
    simp only [h1, h2, h3, if_false, dite_true, dite_false]
    congr 1
    funext j
    have hj := j.isLt
    have a1 : ¬ 64 + j.val < 64 := by omega
    have a2 : 64 + j.val - 64 < 32 := by omega
    simp only [head, a1, a2, dite_true, dite_false]
    exact congrArg (dr h) (Fin.ext (by show 64 + j.val - 64 = j.val; omega))
  · have h3 : ¬ l.val < 96 := by omega
    simp only [h1, h2, h3, if_false, dite_false]

end Cert.Proof.QMath

end
-- ==== Proof.QTile.lean ====
/- One tile of the latent projections' gradient: what each stored value holds at an index. -/
module

public import proofs.«01_k».proof.Proof.Gen.QKernelIdeal.Skeleton
public import proofs.«01_k».proof.Proof.QMath
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.QTile

open Idealize.ShloMosaic Cert.QKernelIdeal Cert.QKernelIdeal.Gen Cert.Proof.Reals Cert.Proof.QMath

/-- 128 columns from column `o` of the queries' gradient. -/
def cols (o : ℕ) (D : Vec Ideal S512x1024 .f32) : Vec Ideal S512x128 .f32 := fun j => D (ix2 (j 0) ⟨(o + (j 1).val) % 1024, Nat.mod_lt _ (by norm_num)⟩)

theorem load (D : Vec Ideal S512x1024 .f32) (o : ℕ) (inb : ∀ a, (![0, o] : Fin 2 → ℕ) a + (![512, 128] : Fin 2 → ℕ) a ≤ S512x1024.size a) :
    View.ld D (Rect.unit (s := S512x1024) ![0, o] ![512, 128] inb) = cols o D := by
  funext j
  have h1 : o + 128 ≤ 1024 := inb 1
  have j1 : (j 1).val < 128 := (j 1).isLt
  refine congrArg D (funext fun a => ?_)
  match a with
  | ⟨0, _⟩ => exact Fin.ext (show 0 + 1 * (j 0).val = (j 0).val by omega)
  | ⟨1, _⟩ => exact Fin.ext (show o + 1 * (j 1).val = (o + (j 1).val) % 1024 by omega)

variable {x0 : Vec Ideal S512x1024 .f32} {x1 : Vec Ideal S1024x512 .f32} {x2 : Vec Ideal S512x512 .f32} {x3 : Vec Ideal S1x512x1064 .f32} {x4 : Vec Ideal S3x128 .f32} {x5 : Vec Ideal S1x256 .f32}
  {x6 : Vec Ideal S384x1024 .bf16} {x7 : Vec Ideal S256x1024 .bf16} {x8 : Vec Ideal S256x512 .bf16} {x9 x10 x11 : Vec Ideal S512x128 .f32}

/-- What a tile is made of, as reals: its 512 rows are `s r` of the whole array. -/
structure Tile (x0 : Vec Ideal S512x1024 .f32) (x1 : Vec Ideal S1024x512 .f32) (x2 : Vec Ideal S512x512 .f32) (x3 : Vec Ideal S1x512x1064 .f32) (x4 : Vec Ideal S3x128 .f32) (x5 : Vec Ideal S1x256 .f32)
    (x6 : Vec Ideal S384x1024 .bf16) (x7 : Vec Ideal S256x1024 .bf16) (x8 : Vec Ideal S256x512 .bf16) (x9 x10 x11 : Vec Ideal S512x128 .f32) (T : Tab) (s : Fin 512 → Fin 4096) : Prop where
  q : ∀ r (e : Fin 1024), x0 (ix2 r e) = ((head (T.qn (s r)) (T.qr (s r)) ⟨e.val / 128, by omega⟩ ⟨e.val % 128, by omega⟩ : ℝ) : EReal)
  k : ∀ (e : Fin 1024) r, x1 (ix2 e r) = ((head (T.kn (s r)) (T.kr (s r)) ⟨e.val / 128, by omega⟩ ⟨e.val % 128, by omega⟩ : ℝ) : EReal)
  v : ∀ (e : Fin 512) r, x2 (ix2 e r) = ((T.dv (s r) ⟨e.val / 64, by omega⟩ ⟨e.val % 64, by omega⟩ : ℝ) : EReal)
  z : ∀ o r (j : Fin 1064), x3 (ix3 o r j) = ((T.z (s r) ⟨j.val, by omega⟩ : ℝ) : EReal)
  gq : ∀ (a : Fin 3) (l : Fin 128), x4 (ix2 a l) = ((T.gq ⟨a.val * 128 + l.val, by omega⟩ : ℝ) : EReal)
  gk : ∀ o k, x5 (ix2 o k) = ((T.gk k : ℝ) : EReal)
  wu : ∀ r (e : Fin 1024), x6 (ix2 r e) = ((if b : e.val % 128 < 96 then T.u r ⟨e.val / 128, by omega⟩ ⟨e.val % 128, b⟩ else 0 : ℝ) : EReal)
  wk : ∀ r (e : Fin 1024), x7 (ix2 r e) = ((if e.val % 128 < 64 then T.v r ⟨e.val / 128, by omega⟩ ⟨e.val % 128, by omega⟩ else 0 : ℝ) : EReal)
  wv : ∀ r (e : Fin 512), x8 (ix2 r e) = ((T.v r ⟨e.val / 64, by omega⟩ ⟨64 + e.val % 64, by omega⟩ : ℝ) : EReal)
  c : ∀ r l, x9 (ix2 r l) = ((tc (s r) l : ℝ) : EReal)
  a : ∀ r l, x10 (ix2 r l) = ((ta (s r) l : ℝ) : EReal)
  b : ∀ r l, x11 (ix2 r l) = ((tb (s r) l : ℝ) : EReal)

variable {T : Tab} {s : Fin 512 → Fin 4096} (h : Tile x0 x1 x2 x3 x4 x5 x6 x7 x8 x9 x10 x11 T s)

theorem c384_f32 : Ideal.ofBits .f32 0x43C00000#32 = ((384 : ℝ) : EReal) := by simp [Ideal.ofBits, Ideal.ieee]; rw [← EReal.coe_mul]; norm_num
theorem c256_f32 : Ideal.ofBits .f32 0x43800000#32 = ((256 : ℝ) : EReal) := by simp [Ideal.ofBits, Ideal.ieee]; rw [← EReal.coe_mul]; norm_num

/-- The weight's query columns of a head as the kernel holds them: 96 and 32 zeros. -/
def wide (D : Fin 96 → ℝ) (l : Fin 128) : ℝ := if b : l.val < 96 then D ⟨l.val, b⟩ else 0

include h

/-- The rotation turned back over 128 columns of row `r`. -/
theorem spun (r : Fin 512) (l : Fin 128) (E : Fin 128 → EReal) (D : Fin 128 → ℝ) (hE : ∀ l, E l = ((D l : ℝ) : EReal)) (p q : Fin 128)
    (hp : p.val = (l.val + 128 - 16) % 128) (hq : q.val = (l.val + 128 - 112) % 128) :
    E l * x9 (ix2 r l) + E p * x10 (ix2 r p) + E q * x11 (ix2 r q) = ((turned D (s r) l : ℝ) : EReal) := by
  rw [hE, hE, hE, h.c, h.a, h.b, ← EReal.coe_mul, ← EReal.coe_mul, ← EReal.coe_mul, ← EReal.coe_add, ← EReal.coe_add, tables D (s r) l p q (by omega) (by omega)]

theorem cols_apply (n : Fin 8) (o : ℕ) (ho : o = 128 * n.val) (r : Fin 512) (l : Fin 128) :
    cols o x0 (ix2 r l) = ((head (T.qn (s r)) (T.qr (s r)) n l : ℝ) : EReal) := by
  have hn := n.isLt
  have hl := l.isLt
  subst ho
  refine (h.q r ⟨(128 * n.val + l.val) % 1024, Nat.mod_lt _ (by norm_num)⟩).trans ?_
  congr 2
  · exact Fin.ext (by show (128 * n.val + l.val) % 1024 / 128 = n.val; omega)
  · exact Fin.ext (by show (128 * n.val + l.val) % 1024 % 128 = l.val; omega)

/-- A head's 128 columns of the queries' gradient, turned back. -/
theorem spun_head (n : Fin 8) (o : ℕ) (ho : o = 128 * n.val) (r : Fin 512) (l : Fin 128) (p q : Fin 128)
    (hp : p.val = (l.val + 128 - 16) % 128) (hq : q.val = (l.val + 128 - 112) % 128) :
    cols o x0 (ix2 r l) * x9 (ix2 r l) + cols o x0 (ix2 r p) * x10 (ix2 r p) + cols o x0 (ix2 r q) * x11 (ix2 r q) = ((wide (T.dq (s r) n) l : ℝ) : EReal) := by
  rw [spun h r l (fun l => cols o x0 (ix2 r l)) _ (cols_apply h n o ho r) p q hp hq, turned_head]
  rfl

omit h in
/-- The queries' gradient of a tile, turned back, 8 heads of 128 columns. -/
def dqp (x0 : Vec Ideal S512x1024 .f32) (x9 x10 x11 : Vec Ideal S512x128 .f32) : Vec Ideal S512x1024 .bf16 :=
  k0_pay37 (k0_pay19 x9) (k0_pay20 x10) (k0_pay21 x11) (k0_pay32 (k0_pay21 x11) (k0_pay29 (cols 0 x0)) (k0_pay30 x9 (cols 0 x0)) (k0_pay31 x10 (cols 0 x0)))
    (k0_pay33 (k0_pay19 x9) (k0_pay20 x10) (k0_pay21 x11) (cols 128 x0)) (k0_pay34 (k0_pay19 x9) (k0_pay20 x10) (k0_pay21 x11) (cols 256 x0))
    (k0_pay35 (k0_pay19 x9) (k0_pay20 x10) (k0_pay21 x11) (cols 384 x0)) (k0_pay36 (k0_pay19 x9) (k0_pay20 x10) (k0_pay21 x11) (cols 512 x0)) (cols 640 x0) (cols 768 x0) (cols 896 x0)

theorem head0 (r : Fin 512) (l : Fin 128) : k0_pay32 (k0_pay21 x11) (k0_pay29 (cols 0 x0)) (k0_pay30 x9 (cols 0 x0)) (k0_pay31 x10 (cols 0 x0)) (ix2 r l) = ((wide (T.dq (s r) 0) l : ℝ) : EReal) := by
  pointwise [k0_pay32, k0_pay29, k0_pay30, k0_pay31, k0_pay19, k0_pay20, k0_pay21]
  exact spun_head h 0 0 rfl r l _ _ rfl rfl

theorem head1 (r : Fin 512) (l : Fin 128) : k0_pay33 (k0_pay19 x9) (k0_pay20 x10) (k0_pay21 x11) (cols 128 x0) (ix2 r l) = ((wide (T.dq (s r) 1) l : ℝ) : EReal) := by
  pointwise [k0_pay33, k0_pay19, k0_pay20, k0_pay21]
  exact spun_head h 1 128 rfl r l _ _ rfl rfl

theorem head2 (r : Fin 512) (l : Fin 128) : k0_pay34 (k0_pay19 x9) (k0_pay20 x10) (k0_pay21 x11) (cols 256 x0) (ix2 r l) = ((wide (T.dq (s r) 2) l : ℝ) : EReal) := by
  pointwise [k0_pay34, k0_pay19, k0_pay20, k0_pay21]
  exact spun_head h 2 256 rfl r l _ _ rfl rfl

theorem head3 (r : Fin 512) (l : Fin 128) : k0_pay35 (k0_pay19 x9) (k0_pay20 x10) (k0_pay21 x11) (cols 384 x0) (ix2 r l) = ((wide (T.dq (s r) 3) l : ℝ) : EReal) := by
  pointwise [k0_pay35, k0_pay19, k0_pay20, k0_pay21]
  exact spun_head h 3 384 rfl r l _ _ rfl rfl

theorem head4 (r : Fin 512) (l : Fin 128) : k0_pay36 (k0_pay19 x9) (k0_pay20 x10) (k0_pay21 x11) (cols 512 x0) (ix2 r l) = ((wide (T.dq (s r) 4) l : ℝ) : EReal) := by
  pointwise [k0_pay36, k0_pay19, k0_pay20, k0_pay21]
  exact spun_head h 4 512 rfl r l _ _ rfl rfl

theorem head5 (r : Fin 512) (l : Fin 128) : k0_pay36 (k0_pay19 x9) (k0_pay20 x10) (k0_pay21 x11) (cols 640 x0) (ix2 r l) = ((wide (T.dq (s r) 5) l : ℝ) : EReal) := by
  pointwise [k0_pay36, k0_pay19, k0_pay20, k0_pay21]
  exact spun_head h 5 640 rfl r l _ _ rfl rfl

theorem head6 (r : Fin 512) (l : Fin 128) : k0_pay36 (k0_pay19 x9) (k0_pay20 x10) (k0_pay21 x11) (cols 768 x0) (ix2 r l) = ((wide (T.dq (s r) 6) l : ℝ) : EReal) := by
  pointwise [k0_pay36, k0_pay19, k0_pay20, k0_pay21]
  exact spun_head h 6 768 rfl r l _ _ rfl rfl

theorem head7 (r : Fin 512) (l : Fin 128) : k0_pay36 (k0_pay19 x9) (k0_pay20 x10) (k0_pay21 x11) (cols 896 x0) (ix2 r l) = ((wide (T.dq (s r) 7) l : ℝ) : EReal) := by
  pointwise [k0_pay36, k0_pay19, k0_pay20, k0_pay21]
  exact spun_head h 7 896 rfl r l _ _ rfl rfl

omit h in
/-- Eight heads of 128 columns side by side. -/
def side (a0 a1 a2 a3 a4 a5 a6 a7 : FVec Ideal S512x128 .f32) : Vec Ideal S512x1024 .bf16 :=
  truncf .bf16 (concatenate S512x1024 1 [⟨S512x128, a0⟩, ⟨S512x128, a1⟩, ⟨S512x128, a2⟩, ⟨S512x128, a3⟩, ⟨S512x128, a4⟩, ⟨S512x128, a5⟩, ⟨S512x128, a6⟩, ⟨S512x128, a7⟩] concatenates_S512x128_S512x128_S512x128_S512x128_S512x128_S512x128_S512x128_S512x128_S512x1024_d1) bitsLt_bf16_f32

omit h in
theorem side_apply (a0 a1 a2 a3 a4 a5 a6 a7 : FVec Ideal S512x128 .f32) (V : Fin 8 → Fin 128 → ℝ) (r : Fin 512)
    (h0 : ∀ l, a0 (ix2 r l) = ((V 0 l : ℝ) : EReal)) (h1 : ∀ l, a1 (ix2 r l) = ((V 1 l : ℝ) : EReal)) (h2 : ∀ l, a2 (ix2 r l) = ((V 2 l : ℝ) : EReal))
    (h3 : ∀ l, a3 (ix2 r l) = ((V 3 l : ℝ) : EReal)) (h4 : ∀ l, a4 (ix2 r l) = ((V 4 l : ℝ) : EReal)) (h5 : ∀ l, a5 (ix2 r l) = ((V 5 l : ℝ) : EReal))
    (h6 : ∀ l, a6 (ix2 r l) = ((V 6 l : ℝ) : EReal)) (h7 : ∀ l, a7 (ix2 r l) = ((V 7 l : ℝ) : EReal)) (e : Fin 1024) :
    side a0 a1 a2 a3 a4 a5 a6 a7 (ix2 r e) = ((V ⟨e.val / 128, by omega⟩ ⟨e.val % 128, by omega⟩ : ℝ) : EReal) := by
  have he := e.isLt
  have key : ∀ (n : Fin 8) (l : Fin 128), e.val = 128 * n.val + l.val → ((V n l : ℝ) : EReal) = ((V ⟨e.val / 128, by omega⟩ ⟨e.val % 128, by omega⟩ : ℝ) : EReal) := fun n l hn => by
    have hl := l.isLt
    congr 2
    · exact Fin.ext (by show n.val = e.val / 128; omega)
    · exact Fin.ext (by show l.val = e.val % 128; omega)
  pointwise [side]
  by_cases b0 : e.val < 128
  · simp only [b0, dite_true]
    exact (h0 ⟨e.val, b0⟩).trans (key 0 _ (by show e.val = 128 * 0 + (e.val); omega))
  by_cases b1 : e.val - 128 < 128
  · simp only [b0, b1, dite_true, dite_false]
    exact (h1 ⟨e.val - 128, b1⟩).trans (key 1 _ (by show e.val = 128 * 1 + (e.val - 128); omega))
  by_cases b2 : e.val - 128 - 128 < 128
  · simp only [b0, b1, b2, dite_true, dite_false]
    exact (h2 ⟨e.val - 128 - 128, b2⟩).trans (key 2 _ (by show e.val = 128 * 2 + (e.val - 128 - 128); omega))
  by_cases b3 : e.val - 128 - 128 - 128 < 128
  · simp only [b0, b1, b2, b3, dite_true, dite_false]
    exact (h3 ⟨e.val - 128 - 128 - 128, b3⟩).trans (key 3 _ (by show e.val = 128 * 3 + (e.val - 128 - 128 - 128); omega))
  by_cases b4 : e.val - 128 - 128 - 128 - 128 < 128
  · simp only [b0, b1, b2, b3, b4, dite_true, dite_false]
    exact (h4 ⟨e.val - 128 - 128 - 128 - 128, b4⟩).trans (key 4 _ (by show e.val = 128 * 4 + (e.val - 128 - 128 - 128 - 128); omega))
  by_cases b5 : e.val - 128 - 128 - 128 - 128 - 128 < 128
  · simp only [b0, b1, b2, b3, b4, b5, dite_true, dite_false]
    exact (h5 ⟨e.val - 128 - 128 - 128 - 128 - 128, b5⟩).trans (key 5 _ (by show e.val = 128 * 5 + (e.val - 128 - 128 - 128 - 128 - 128); omega))
  by_cases b6 : e.val - 128 - 128 - 128 - 128 - 128 - 128 < 128
  · simp only [b0, b1, b2, b3, b4, b5, b6, dite_true, dite_false]
    exact (h6 ⟨e.val - 128 - 128 - 128 - 128 - 128 - 128, b6⟩).trans (key 6 _ (by show e.val = 128 * 6 + (e.val - 128 - 128 - 128 - 128 - 128 - 128); omega))
  simp only [b0, b1, b2, b3, b4, b5, b6, dite_false]
  exact (h7 ⟨e.val - 128 - 128 - 128 - 128 - 128 - 128 - 128, by omega⟩).trans (key 7 ⟨e.val - 128 - 128 - 128 - 128 - 128 - 128 - 128, by omega⟩ (by show e.val = 128 * 7 + (e.val - 128 - 128 - 128 - 128 - 128 - 128 - 128); omega))

theorem dqp_apply (r : Fin 512) (e : Fin 1024) : dqp x0 x9 x10 x11 (ix2 r e) = ((wide (T.dq (s r) ⟨e.val / 128, by omega⟩) ⟨e.val % 128, by omega⟩ : ℝ) : EReal) := by
  refine Eq.trans ?_ (side_apply _ _ _ _ _ _ _ _ (fun n l => wide (T.dq (s r) n) l) r (head0 h r) (head1 h r) (head2 h r) (head3 h r) (head4 h r) (head5 h r) (head6 h r) (head7 h r) e)
  rfl

/-! The queries' half. -/

theorem p25 (r : Fin 512) (k : Fin 384) : k0_pay25 x3 (ix2 r k) = ((T.zq (s r) k : ℝ) : EReal) := by
  pointwise [k0_pay25, k0_pay24]
  exact h.z 0 r ⟨k.val, by omega⟩

theorem p26 (r : Fin 512) (o : Fin 1) : k0_pay26 x3 (ix2 r o) = ((inv (T.zq (s r)) : ℝ) : EReal) := by
  pointwise [k0_pay26]
  simp only [p25 h, c384_f32, eps_f32, ← EReal.coe_mul, ← coe_sum]
  rw [div_real _ (by norm_num), ← EReal.coe_add, show (384 : ℝ) = ((384 : ℕ) : ℝ) by norm_num, rsqrt_real (ms_pos _)]
  rfl

theorem p27 (r : Fin 512) (k : Fin 384) : k0_pay27 x3 (ix2 r k) = ((T.zq (s r) k * inv (T.zq (s r)) : ℝ) : EReal) := by
  pointwise [k0_pay27]
  rw [p25 h, p26 h, ← EReal.coe_mul]

theorem p22 (o : Fin 1) (k : Fin 384) : k0_pay22 x4 (ix2 o k) = ((T.gq k : ℝ) : EReal) := by
  have hk := k.isLt
  pointwise [k0_pay22]
  by_cases b0 : k.val < 128
  · simp only [b0, dite_true]
    exact (h.gq 0 ⟨k.val, b0⟩).trans (by congr 2; exact Fin.ext (by show 0 * 128 + k.val = k.val; omega))
  by_cases b1 : k.val - 128 < 128
  · simp only [b0, b1, dite_true, dite_false]
    exact (h.gq 1 ⟨k.val - 128, b1⟩).trans (by congr 2; exact Fin.ext (by show 1 * 128 + (k.val - 128) = k.val; omega))
  · simp only [b0, b1, dite_false]
    exact (h.gq 2 ⟨k.val - 128 - 128, by omega⟩).trans (by congr 2; exact Fin.ext (by show 2 * 128 + (k.val - 128 - 128) = k.val; omega))

theorem p28 (r : Fin 512) (k : Fin 384) : k0_pay28 x4 x3 (ix2 r k) = ((T.zq (s r) k * inv (T.zq (s r)) * T.gq k : ℝ) : EReal) := by
  pointwise [k0_pay28]
  rw [p27 h, p22 h, ← EReal.coe_mul]

omit h in
/-- The product back through the queries' weight. -/
def dcq (x0 : Vec Ideal S512x1024 .f32) (x6 : Vec Ideal S384x1024 .bf16) (x9 x10 x11 : Vec Ideal S512x128 .f32) : FVec Ideal S512x384 .f32 :=
  k0_pay39 (k0_pay19 x9) (k0_pay20 x10) (k0_pay21 x11) (k0_pay32 (k0_pay21 x11) (k0_pay29 (cols 0 x0)) (k0_pay30 x9 (cols 0 x0)) (k0_pay31 x10 (cols 0 x0)))
    (k0_pay33 (k0_pay19 x9) (k0_pay20 x10) (k0_pay21 x11) (cols 128 x0)) (k0_pay34 (k0_pay19 x9) (k0_pay20 x10) (k0_pay21 x11) (cols 256 x0))
    (k0_pay35 (k0_pay19 x9) (k0_pay20 x10) (k0_pay21 x11) (cols 384 x0)) (k0_pay36 (k0_pay19 x9) (k0_pay20 x10) (k0_pay21 x11) (cols 512 x0)) (cols 640 x0) (cols 768 x0) (cols 896 x0) x6

theorem dcq_apply (r : Fin 512) (k : Fin 384) : dcq x0 x6 x9 x10 x11 (ix2 r k) = ((T.cq (s r) k : ℝ) : EReal) := by
  have e : dcq x0 x6 x9 x10 x11 (ix2 r k) = ∑ e : Fin 1024, dqp x0 x9 x10 x11 (ix2 r e) * x6 (ix2 k e) := by
    pointwise [dcq, k0_pay39, dqp]
  rw [e]
  simp only [dqp_apply h, h.wu, ← EReal.coe_mul, ← coe_sum]
  refine congrArg _ ((sum_heads (fun n l => wide (T.dq (s r) n) l * wide (T.u k n) l)).trans ?_)
  unfold Tab.cq back
  refine Finset.sum_congr rfl fun n _ => (sum96 _ fun l hl => ?_).trans ?_
  · have : ¬ l.val < 96 := by omega
    simp only [wide, this, dite_false, mul_zero]
  · exact Finset.sum_congr rfl fun d _ => by simp only [wide, d.isLt, dite_true]

omit h in
/-- What a point adds to the queries' weight's gradient. -/
def upu (x0 : Vec Ideal S512x1024 .f32) (x3 : Vec Ideal S1x512x1064 .f32) (x4 : Vec Ideal S3x128 .f32) (x9 x10 x11 : Vec Ideal S512x128 .f32) (acc : Vec Ideal S384x1024 .f32) : FVec Ideal S384x1024 .f32 :=
  k0_pay38 (k0_pay19 x9) (k0_pay20 x10) (k0_pay21 x11) (k0_pay28 x4 x3) (k0_pay32 (k0_pay21 x11) (k0_pay29 (cols 0 x0)) (k0_pay30 x9 (cols 0 x0)) (k0_pay31 x10 (cols 0 x0)))
    (k0_pay33 (k0_pay19 x9) (k0_pay20 x10) (k0_pay21 x11) (cols 128 x0)) (k0_pay34 (k0_pay19 x9) (k0_pay20 x10) (k0_pay21 x11) (cols 256 x0))
    (k0_pay35 (k0_pay19 x9) (k0_pay20 x10) (k0_pay21 x11) (cols 384 x0)) (k0_pay36 (k0_pay19 x9) (k0_pay20 x10) (k0_pay21 x11) (cols 512 x0)) (cols 640 x0) (cols 768 x0) (cols 896 x0) acc

theorem upu_apply (acc : Vec Ideal S384x1024 .f32) (k : Fin 384) (e : Fin 1024) : upu x0 x3 x4 x9 x10 x11 acc (ix2 k e) = acc (ix2 k e)
    + ((∑ r, T.zq (s r) k * inv (T.zq (s r)) * T.gq k * wide (T.dq (s r) ⟨e.val / 128, by omega⟩) ⟨e.val % 128, by omega⟩ : ℝ) : EReal) := by
  have e' : upu x0 x3 x4 x9 x10 x11 acc (ix2 k e) = acc (ix2 k e) + ∑ r : Fin 512, k0_pay28 x4 x3 (ix2 r k) * dqp x0 x9 x10 x11 (ix2 r e) := by
    pointwise [upu, k0_pay38, dqp]
  rw [e']
  simp only [dqp_apply h, p28 h, ← EReal.coe_mul, ← coe_sum]

theorem p40 (acc : Vec Ideal S1x384 .f32) (o : Fin 1) (k : Fin 384) : k0_pay40 (k0_pay27 x3) (dcq x0 x6 x9 x10 x11) acc (ix2 o k)
    = acc (ix2 o k) + ((∑ r, T.cq (s r) k * (T.zq (s r) k * inv (T.zq (s r))) : ℝ) : EReal) := by
  pointwise [k0_pay40]
  simp only [p27 h, dcq_apply h, ← EReal.coe_mul, ← coe_sum]

theorem p41 (r : Fin 512) (k : Fin 384) : k0_pay41 (k0_pay22 x4) (k0_pay26 x3) (k0_pay27 x3) (dcq x0 x6 x9 x10 x11) (ix2 r k) = ((T.dzq (s r) k : ℝ) : EReal) := by
  pointwise [k0_pay41]
  simp only [p22 h, p26 h, p27 h, dcq_apply h, c384_f32, ← EReal.coe_mul, ← coe_sum]
  rw [div_real _ (by norm_num), ← EReal.coe_mul, ← EReal.coe_sub, ← EReal.coe_mul, show (384 : ℝ) = ((384 : ℕ) : ℝ) by norm_num]
  rfl

/-! The half of the keys and values. -/

theorem p42 (r : Fin 512) (k : Fin 256) : k0_pay42 (k0_pay24 x3) (ix2 r k) = ((T.zk (s r) k : ℝ) : EReal) := by
  pointwise [k0_pay42, k0_pay24]
  exact h.z 0 r ⟨384 + k.val, by omega⟩

theorem p43 (r : Fin 512) (o : Fin 1) : k0_pay43 (k0_pay24 x3) (ix2 r o) = ((inv (T.zk (s r)) : ℝ) : EReal) := by
  pointwise [k0_pay43]
  simp only [p42 h, c256_f32, eps_f32, ← EReal.coe_mul, ← coe_sum]
  rw [div_real _ (by norm_num), ← EReal.coe_add, show (256 : ℝ) = ((256 : ℕ) : ℝ) by norm_num, rsqrt_real (ms_pos _)]
  rfl

theorem p44 (r : Fin 512) (k : Fin 256) : k0_pay44 (k0_pay24 x3) (ix2 r k) = ((T.zk (s r) k * inv (T.zk (s r)) : ℝ) : EReal) := by
  pointwise [k0_pay44]
  rw [p42 h, p43 h, ← EReal.coe_mul]

theorem p23 (o : Fin 1) (k : Fin 256) : k0_pay23 x5 (ix2 o k) = ((T.gk k : ℝ) : EReal) := by
  pointwise [k0_pay23]
  exact h.gk _ _

theorem p45 (r : Fin 512) (k : Fin 256) : k0_pay45 (k0_pay23 x5) (k0_pay24 x3) (ix2 r k) = ((T.zk (s r) k * inv (T.zk (s r)) * T.gk k : ℝ) : EReal) := by
  pointwise [k0_pay45]
  rw [p44 h, p23 h, ← EReal.coe_mul]

theorem p46 (r : Fin 512) (e : Fin 1024) : k0_pay46 x1 (ix2 r e) = ((head (T.kn (s r)) (T.kr (s r)) ⟨e.val / 128, by omega⟩ ⟨e.val % 128, by omega⟩ : ℝ) : EReal) := by
  pointwise [k0_pay46]
  exact h.k e r

theorem p47 (r : Fin 512) (e : Fin 1024) : k0_pay47 x1 (ix2 r e) = ((head (T.kn (s r)) (T.kr (s r)) ⟨e.val / 128, by omega⟩ ⟨e.val % 128, by omega⟩ : ℝ) : EReal) := by
  pointwise [k0_pay47]
  exact p46 h r e

theorem p48 (r : Fin 512) (e : Fin 512) : k0_pay48 x2 (ix2 r e) = ((T.dv (s r) ⟨e.val / 64, by omega⟩ ⟨e.val % 64, by omega⟩ : ℝ) : EReal) := by
  pointwise [k0_pay48]
  exact h.v e r

theorem p49 (acc : Vec Ideal S256x1024 .f32) (k : Fin 256) (e : Fin 1024) : k0_pay49 (k0_pay45 (k0_pay23 x5) (k0_pay24 x3)) (k0_pay47 x1) acc (ix2 k e) = acc (ix2 k e)
    + ((∑ r, T.zk (s r) k * inv (T.zk (s r)) * T.gk k * head (T.kn (s r)) (T.kr (s r)) ⟨e.val / 128, by omega⟩ ⟨e.val % 128, by omega⟩ : ℝ) : EReal) := by
  pointwise [k0_pay49]
  simp only [p45 h, p47 h, ← EReal.coe_mul, ← coe_sum]

theorem p50 (acc : Vec Ideal S256x512 .f32) (k : Fin 256) (e : Fin 512) : k0_pay50 (k0_pay45 (k0_pay23 x5) (k0_pay24 x3)) (k0_pay48 x2) acc (ix2 k e) = acc (ix2 k e)
    + ((∑ r, T.zk (s r) k * inv (T.zk (s r)) * T.gk k * T.dv (s r) ⟨e.val / 64, by omega⟩ ⟨e.val % 64, by omega⟩ : ℝ) : EReal) := by
  pointwise [k0_pay50]
  simp only [p45 h, p48 h, ← EReal.coe_mul, ← coe_sum]

theorem p51 (r : Fin 512) (k : Fin 256) : k0_pay51 (k0_pay47 x1) (k0_pay48 x2) x7 x8 (ix2 r k) = ((T.ck (s r) k : ℝ) : EReal) := by
  pointwise [k0_pay51]
  simp only [p47 h, p48 h, h.wk, h.wv, ← EReal.coe_mul, ← coe_sum, ← EReal.coe_add]
  refine congrArg _ ((congrArg₂ (· + ·) (sum_heads (fun n l => head (T.kn (s r)) (T.kr (s r)) n l * if l.val < 64 then T.v k n l else 0))
    (sum_heads64 (fun n l => T.dv (s r) n l * T.v k n ⟨64 + l.val, by omega⟩))).trans ?_)
  unfold Tab.ck back
  rw [← Finset.sum_add_distrib]
  refine Finset.sum_congr rfl fun n _ => ?_
  rw [sum64, sum64]
  rw [Finset.sum_eq_zero (s := Finset.univ) (f := fun d : Fin 64 => head (T.kn (s r)) (T.kr (s r)) n ⟨64 + d.val, by omega⟩ * if (⟨64 + d.val, by omega⟩ : Fin 128).val < 64 then T.v k n ⟨64 + d.val, by omega⟩ else 0)
    fun d _ => by rw [if_neg (by show ¬ 64 + d.val < 64; omega), mul_zero], add_zero]
  congr 1

theorem p52 (acc : Vec Ideal S1x256 .f32) (o : Fin 1) (k : Fin 256) : k0_pay52 (k0_pay44 (k0_pay24 x3)) (k0_pay47 x1) (k0_pay48 x2) x7 x8 acc (ix2 o k)
    = acc (ix2 o k) + ((∑ r, T.ck (s r) k * (T.zk (s r) k * inv (T.zk (s r))) : ℝ) : EReal) := by
  pointwise [k0_pay52]
  simp only [p44 h, p51 h, ← EReal.coe_mul, ← coe_sum]

theorem p1 (r : Fin 512) (k : Fin 256) : k0_pay1 (k0_pay43 (k0_pay24 x3)) (k0_pay53 (k0_pay23 x5) (k0_pay44 (k0_pay24 x3)) (k0_pay47 x1) (k0_pay48 x2) x7 x8) (ix2 r k) = ((T.dzk (s r) k : ℝ) : EReal) := by
  pointwise [k0_pay1, k0_pay53]
  simp only [p23 h, p43 h, p44 h, p51 h, c256_f32, ← EReal.coe_mul, ← coe_sum]
  rw [div_real _ (by norm_num), ← EReal.coe_mul, ← EReal.coe_sub, ← EReal.coe_mul, show (256 : ℝ) = ((256 : ℕ) : ℝ) by norm_num]
  rfl

/-- The heads' summed columns. -/
theorem ksum (r : Fin 512) (l : ℕ) (hl : l < 128) :
    x1 (ix2 ⟨l, by omega⟩ r) + x1 (ix2 ⟨128 + l, by omega⟩ r) + x1 (ix2 ⟨256 + l, by omega⟩ r) + x1 (ix2 ⟨384 + l, by omega⟩ r) + x1 (ix2 ⟨512 + l, by omega⟩ r)
      + x1 (ix2 ⟨640 + l, by omega⟩ r) + x1 (ix2 ⟨768 + l, by omega⟩ r) + x1 (ix2 ⟨896 + l, by omega⟩ r)
      = ((∑ n, head (T.kn (s r)) (T.kr (s r)) n ⟨l, hl⟩ : ℝ) : EReal) := by
  have key : ∀ (n : Fin 8) (e : Fin 1024), e.val = 128 * n.val + l → x1 (ix2 e r) = ((head (T.kn (s r)) (T.kr (s r)) n ⟨l, hl⟩ : ℝ) : EReal) := fun n e he => by
    rw [h.k]
    congr 2
    · exact Fin.ext (by show e.val / 128 = n.val; omega)
    · exact Fin.ext (by show e.val % 128 = l; omega)
  rw [key 0 _ (by show l = 128 * 0 + l; omega), key 1 _ rfl, key 2 _ rfl, key 3 _ rfl, key 4 _ rfl, key 5 _ rfl, key 6 _ rfl, key 7 _ rfl]
  simp only [← EReal.coe_add, Fin.sum_univ_eight]

set_option maxHeartbeats 2000000 in
theorem p2 (r : Fin 512) (l : Fin 128) : k0_pay2 (k0_pay19 x9) (k0_pay20 x10) (k0_pay21 x11) (k0_pay46 x1) (ix2 r l) = ((if b : l.val < 32 then T.dzr (s r) ⟨l.val, b⟩ else 0 : ℝ) : EReal) := by
  have hl := l.isLt
  pointwise [k0_pay2, k0_pay46, k0_pay19, k0_pay20, k0_pay21]
  rw [ksum h r _ (Nat.mod_lt _ (by norm_num)), ksum h r _ (Nat.mod_lt _ (by norm_num)), ksum h r _ (Nat.mod_lt _ (by norm_num))]
  rw [spun h r ⟨(l.val + 128 - 64) % 128, Nat.mod_lt _ (by norm_num)⟩ (fun l => ((∑ n, head (T.kn (s r)) (T.kr (s r)) n l : ℝ) : EReal)) (fun l => ∑ n, head (T.kn (s r)) (T.kr (s r)) n l) (fun _ => rfl) _ _ rfl rfl]
  rw [show turned (fun l => ∑ n, head (T.kn (s r)) (T.kr (s r)) n l) (s r) ⟨(l.val + 128 - 64) % 128, Nat.mod_lt _ (by norm_num)⟩
      = if b : l.val < 32 then T.dzr (s r) ⟨l.val, b⟩ else turned (fun l => ∑ n, head (T.kn (s r)) (T.kr (s r)) n l) (s r) ⟨(l.val + 128 - 64) % 128, Nat.mod_lt _ (by norm_num)⟩ from ?_]
  · have e : IntOp.cmpi .slt (BitVec.ofNat 32 l.val) 32#32 = if l.val < 32 then 1#1 else 0#1 := (by decide : ∀ l : Fin 128, IntOp.cmpi .slt (BitVec.ofNat 32 l.val) 32#32 = if l.val < 32 then 1#1 else 0#1) l
    rw [e]
    by_cases b : l.val < 32
    · simp [b, Scalar.select]
    · simp [b, Scalar.select]
  · by_cases b : l.val < 32
    · have e1 : ¬ (l.val + 128 - 64) % 128 < 64 := by omega
      have e2 : (l.val + 128 - 64) % 128 - 64 < 32 := by omega
      simp only [b, turned, e1, e2, dite_true, if_false, Tab.dzr]
      congr 1
      · funext j
        refine Finset.sum_congr rfl fun n _ => ?_
        have hj := j.isLt
        have e3 : ¬ 64 + j.val < 64 := by omega
        have e4 : 64 + j.val - 64 < 32 := by omega
        simp only [head, e3, e4, dite_true, dite_false]
        congr 1
        exact Fin.ext (by show 64 + j.val - 64 = j.val; omega)
      · exact Fin.ext (by show (l.val + 128 - 64) % 128 - 64 = l.val; omega)
    · simp only [b, dite_false]

end Cert.Proof.QTile

end
-- ==== Proof.QPoint.lean ====
/- What one point of the latent projections' gradient kernel leaves. -/
module

public import proofs.«01_k».proof.Proof.Gen.QKernelIdeal.Value
public import proofs.«01_k».proof.Proof.QTile

@[expose] public section

set_option maxRecDepth 16384

noncomputable section

namespace Cert.Proof.QPoint

open Idealize.ShloMosaic Cert.QKernelIdeal Cert.QKernelIdeal.Gen

variable (m : (ℓ : Loc nD τ sig) → Buf (Elt Ideal) ℓ) (c : Dev nD)

theorem out12 (t : Fin cfg0.N) : (outsAt0 m c t.val t.isLt).1
    = k0_pay41 (k0_pay22 (iblk m c 4 t)) (k0_pay26 (iblk m c 3 t)) (k0_pay27 (iblk m c 3 t)) (QTile.dcq (iblk m c 0 t) (iblk m c 6 t) (iblk m c 9 t) (iblk m c 10 t) (iblk m c 11 t)) := by
  by_cases h : t.val % 8 = 0
  · rw [outsAt0_A m c t h (by omega)]
    frame_out
    simp only [QTile.load, QTile.dcq]
  · by_cases h7 : t.val % 8 = 7
    · rw [outsAt0_C m c t h h7]
      frame_out
      simp only [QTile.load, QTile.dcq]
    · rw [outsAt0_B m c t h h7]
      frame_out
      simp only [QTile.load, QTile.dcq]

theorem out13 (t : Fin cfg0.N) : (outsAt0 m c t.val t.isLt).2.1 = k0_pay1 (k0_pay43 (k0_pay24 (iblk m c 3 t)))
    (k0_pay53 (k0_pay23 (iblk m c 5 t)) (k0_pay44 (k0_pay24 (iblk m c 3 t))) (k0_pay47 (iblk m c 1 t)) (k0_pay48 (iblk m c 2 t)) (iblk m c 7 t) (iblk m c 8 t)) := by
  by_cases h : t.val % 8 = 0
  · rw [outsAt0_A m c t h (by omega)]
    frame_out
  · by_cases h7 : t.val % 8 = 7
    · rw [outsAt0_C m c t h h7]
      frame_out
    · rw [outsAt0_B m c t h h7]
      frame_out

theorem out14 (t : Fin cfg0.N) : (outsAt0 m c t.val t.isLt).2.2.1 = k0_pay2 (k0_pay19 (iblk m c 9 t)) (k0_pay20 (iblk m c 10 t)) (k0_pay21 (iblk m c 11 t)) (k0_pay46 (iblk m c 1 t)) := by
  by_cases h : t.val % 8 = 0
  · rw [outsAt0_A m c t h (by omega)]
    frame_out
  · by_cases h7 : t.val % 8 = 7
    · rw [outsAt0_C m c t h h7]
      frame_out
    · rw [outsAt0_B m c t h h7]
      frame_out

/-! The five sums over the points. -/

abbrev before (t : Fin cfg0.N) := outsAt0 m c (t.val - 1) (Nat.lt_of_le_of_lt (Nat.sub_le _ _) t.isLt)

def add17 (t : Fin cfg0.N) (acc : Vec Ideal S1x384 .f32) : Vec Ideal S1x384 .f32 :=
  k0_pay40 (k0_pay27 (iblk m c 3 t)) (QTile.dcq (iblk m c 0 t) (iblk m c 6 t) (iblk m c 9 t) (iblk m c 10 t) (iblk m c 11 t)) acc
def add18 (t : Fin cfg0.N) (acc : Vec Ideal S1x256 .f32) : Vec Ideal S1x256 .f32 :=
  k0_pay52 (k0_pay44 (k0_pay24 (iblk m c 3 t))) (k0_pay47 (iblk m c 1 t)) (k0_pay48 (iblk m c 2 t)) (iblk m c 7 t) (iblk m c 8 t) acc
def addU (t : Fin cfg0.N) (acc : Vec Ideal S384x1024 .f32) : Vec Ideal S384x1024 .f32 :=
  QTile.upu (iblk m c 0 t) (iblk m c 3 t) (iblk m c 4 t) (iblk m c 9 t) (iblk m c 10 t) (iblk m c 11 t) acc
def addK (t : Fin cfg0.N) (acc : Vec Ideal S256x1024 .f32) : Vec Ideal S256x1024 .f32 :=
  k0_pay49 (k0_pay45 (k0_pay23 (iblk m c 5 t)) (k0_pay24 (iblk m c 3 t))) (k0_pay47 (iblk m c 1 t)) acc
def addV (t : Fin cfg0.N) (acc : Vec Ideal S256x512 .f32) : Vec Ideal S256x512 .f32 :=
  k0_pay50 (k0_pay45 (k0_pay23 (iblk m c 5 t)) (k0_pay24 (iblk m c 3 t))) (k0_pay48 (iblk m c 2 t)) acc

theorem first17 (t : Fin cfg0.N) (h : t.val % 8 = 0) : (outsAt0 m c t.val t.isLt).2.2.2.2.2.1 = add17 m c t (k0_pay17 (F := Ideal)) := by
  rw [outsAt0_A m c t h (by omega)]
  frame_out
  simp only [QTile.load, QTile.dcq, add17]
theorem first18 (t : Fin cfg0.N) (h : t.val % 8 = 0) : (outsAt0 m c t.val t.isLt).2.2.2.2.2.2.1 = add18 m c t (k0_pay18 (F := Ideal)) := by
  rw [outsAt0_A m c t h (by omega)]
  frame_out
  simp only [add18]
theorem firstU (t : Fin cfg0.N) (h : t.val % 8 = 0) : (outsAt0 m c t.val t.isLt).2.2.2.2.2.2.2.1 = addU m c t (k0_pay14 (F := Ideal)) := by
  rw [outsAt0_A m c t h (by omega)]
  frame_out
  simp only [QTile.load, QTile.upu, addU]
theorem firstK (t : Fin cfg0.N) (h : t.val % 8 = 0) : (outsAt0 m c t.val t.isLt).2.2.2.2.2.2.2.2.1 = addK m c t (k0_pay15 (F := Ideal)) := by
  rw [outsAt0_A m c t h (by omega)]
  frame_out
  simp only [addK]
theorem firstV (t : Fin cfg0.N) (h : t.val % 8 = 0) : (outsAt0 m c t.val t.isLt).2.2.2.2.2.2.2.2.2 = addV m c t (k0_pay16 (F := Ideal)) := by
  rw [outsAt0_A m c t h (by omega)]
  frame_out
  simp only [addV]

theorem next17 (t : Fin cfg0.N) (h : ¬t.val % 8 = 0) : (outsAt0 m c t.val t.isLt).2.2.2.2.2.1 = add17 m c t (before m c t).2.2.2.2.2.1 := by
  by_cases h7 : t.val % 8 = 7
  · rw [outsAt0_C m c t h h7]
    frame_out
    simp only [QTile.load, QTile.dcq, add17, read_unread_whole]
  · rw [outsAt0_B m c t h h7]
    frame_out
    simp only [QTile.load, QTile.dcq, add17, read_unread_whole]
theorem next18 (t : Fin cfg0.N) (h : ¬t.val % 8 = 0) : (outsAt0 m c t.val t.isLt).2.2.2.2.2.2.1 = add18 m c t (before m c t).2.2.2.2.2.2.1 := by
  by_cases h7 : t.val % 8 = 7
  · rw [outsAt0_C m c t h h7]
    frame_out
    simp only [add18, read_unread_whole]
  · rw [outsAt0_B m c t h h7]
    frame_out
    simp only [add18, read_unread_whole]
theorem nextU (t : Fin cfg0.N) (h : ¬t.val % 8 = 0) : (outsAt0 m c t.val t.isLt).2.2.2.2.2.2.2.1 = addU m c t (before m c t).2.2.2.2.2.2.2.1 := by
  by_cases h7 : t.val % 8 = 7
  · rw [outsAt0_C m c t h h7]
    frame_out
    simp only [QTile.load, QTile.upu, addU, read_unread_whole]
  · rw [outsAt0_B m c t h h7]
    frame_out
    simp only [QTile.load, QTile.upu, addU, read_unread_whole]
theorem nextK (t : Fin cfg0.N) (h : ¬t.val % 8 = 0) : (outsAt0 m c t.val t.isLt).2.2.2.2.2.2.2.2.1 = addK m c t (before m c t).2.2.2.2.2.2.2.2.1 := by
  by_cases h7 : t.val % 8 = 7
  · rw [outsAt0_C m c t h h7]
    frame_out
    simp only [addK, read_unread_whole]
  · rw [outsAt0_B m c t h h7]
    frame_out
    simp only [addK, read_unread_whole]
theorem nextV (t : Fin cfg0.N) (h : ¬t.val % 8 = 0) : (outsAt0 m c t.val t.isLt).2.2.2.2.2.2.2.2.2 = addV m c t (before m c t).2.2.2.2.2.2.2.2.2 := by
  by_cases h7 : t.val % 8 = 7
  · rw [outsAt0_C m c t h h7]
    frame_out
    simp only [addV, read_unread_whole]
  · rw [outsAt0_B m c t h h7]
    frame_out
    simp only [addV, read_unread_whole]

/-! The last point puts the weights' gradients in the order of the reference. -/

/-- 96 columns from column `o`. -/
def cut96 (o : ℕ) (A : Vec Ideal S384x1024 .f32) : Vec Ideal S384x96 .f32 := fun j => A (ix2 (j 0) ⟨(o + (j 1).val) % 1024, Nat.mod_lt _ (by norm_num)⟩)

theorem cut96_eq (v : View sig .tc .vmem S384x1024 .f32) (A : Vec Ideal S384x1024 .f32) (o : ℕ) (inb : ∀ a, (![0, 0] : Fin 2 → ℕ) a + (![384, 1024] : Fin 2 → ℕ) a ≤ S384x1024.size a)
    (inb' : ∀ a, (![0, o] : Fin 2 → ℕ) a + (![384, 96] : Fin 2 → ℕ) a ≤ S384x1024.size a) :
    v.readCov (Val := Elt Ideal) [⟨Rect.unit (s := S384x1024) ![0, 0] ![384, 1024] inb, A⟩] (Rect.unit (s := S384x1024) ![0, o] ![384, 96] inb').toLoadRect = cut96 o A := by
  rw [View.readCov_eq_canon']
  funext j
  have h1 : o + 96 ≤ 1024 := inb' 1
  have j1 : (j 1).val < 96 := (j 1).isLt
  refine (congrFun (View.canon_unit_zero (by funext a; fin_cases a <;> rfl) inb A) _).trans (congrArg A (funext fun a => ?_))
  match a with
  | ⟨0, _⟩ => exact Fin.ext (show 0 + 1 * (j 0).val = (j 0).val by omega)
  | ⟨1, _⟩ => exact Fin.ext (show o + 1 * (j 1).val = (o + (j 1).val) % 1024 by omega)

/-- 64 columns from column `o`. -/
def cut64 (o : ℕ) (A : Vec Ideal S256x1024 .f32) : Vec Ideal S256x64 .f32 := fun j => A (ix2 (j 0) ⟨(o + (j 1).val) % 1024, Nat.mod_lt _ (by norm_num)⟩)

theorem cut64_eq (v : View sig .tc .vmem S256x1024 .f32) (A : Vec Ideal S256x1024 .f32) (o : ℕ) (inb : ∀ a, (![0, 0] : Fin 2 → ℕ) a + (![256, 1024] : Fin 2 → ℕ) a ≤ S256x1024.size a)
    (inb' : ∀ a, (![0, o] : Fin 2 → ℕ) a + (![256, 64] : Fin 2 → ℕ) a ≤ S256x1024.size a) :
    v.readCov (Val := Elt Ideal) [⟨Rect.unit (s := S256x1024) ![0, 0] ![256, 1024] inb, A⟩] (Rect.unit (s := S256x1024) ![0, o] ![256, 64] inb').toLoadRect = cut64 o A := by
  rw [View.readCov_eq_canon']
  funext j
  have h1 : o + 64 ≤ 1024 := inb' 1
  have j1 : (j 1).val < 64 := (j 1).isLt
  refine (congrFun (View.canon_unit_zero (by funext a; fin_cases a <;> rfl) inb A) _).trans (congrArg A (funext fun a => ?_))
  match a with
  | ⟨0, _⟩ => exact Fin.ext (show 0 + 1 * (j 0).val = (j 0).val by omega)
  | ⟨1, _⟩ => exact Fin.ext (show o + 1 * (j 1).val = (o + (j 1).val) % 1024 by omega)

/-- 64 columns from column `o` of the values' half. -/
def cut64v (o : ℕ) (A : Vec Ideal S256x512 .f32) : Vec Ideal S256x64 .f32 := fun j => A (ix2 (j 0) ⟨(o + (j 1).val) % 512, Nat.mod_lt _ (by norm_num)⟩)

theorem cut64v_eq (v : View sig .tc .vmem S256x512 .f32) (A : Vec Ideal S256x512 .f32) (o : ℕ) (inb : ∀ a, (![0, 0] : Fin 2 → ℕ) a + (![256, 512] : Fin 2 → ℕ) a ≤ S256x512.size a)
    (inb' : ∀ a, (![0, o] : Fin 2 → ℕ) a + (![256, 64] : Fin 2 → ℕ) a ≤ S256x512.size a) :
    v.readCov (Val := Elt Ideal) [⟨Rect.unit (s := S256x512) ![0, 0] ![256, 512] inb, A⟩] (Rect.unit (s := S256x512) ![0, o] ![256, 64] inb').toLoadRect = cut64v o A := by
  rw [View.readCov_eq_canon']
  funext j
  have h1 : o + 64 ≤ 512 := inb' 1
  have j1 : (j 1).val < 64 := (j 1).isLt
  refine (congrFun (View.canon_unit_zero (by funext a; fin_cases a <;> rfl) inb A) _).trans (congrArg A (funext fun a => ?_))
  match a with
  | ⟨0, _⟩ => exact Fin.ext (show 0 + 1 * (j 0).val = (j 0).val by omega)
  | ⟨1, _⟩ => exact Fin.ext (show o + 1 * (j 1).val = (o + (j 1).val) % 512 by omega)

/-- The queries' weight's gradient without the gaps. -/
def packU (A : Vec Ideal S384x1024 .f32) : FVec Ideal S384x768 .bf16 := k0_pay6 (cut96 0 A) (cut96 128 A) (cut96 256 A) (cut96 384 A) (cut96 512 A) (cut96 640 A) (cut96 768 A) (cut96 896 A)

theorem packU_apply (A : Vec Ideal S384x1024 .f32) (k : Fin 384) (e : Fin 768) : packU A (ix2 k e) = A (ix2 k ⟨128 * (e.val / 96) + e.val % 96, by omega⟩) := by
  have he := e.isLt
  refine (concatenate_ofFn_apply (s₁ := S384x96) (t := S384x768) 1 (fun n : Fin 8 => cut96 (128 * n.val) A) concatenates_S384x96_S384x96_S384x96_S384x96_S384x96_S384x96_S384x96_S384x96_S384x768_d1 rfl 96 rfl (ix2 k e) ⟨e.val / 96, by omega⟩ rfl
    (ix2 k ⟨e.val % 96, by omega⟩) rfl fun b hb => ?_).trans (congrArg A ?_)
  · fin_cases b
    · rfl
    · exact absurd rfl hb
  · refine congrArg (ix2 k) (Fin.ext ?_)
    show (128 * (e.val / 96) + e.val % 96) % 1024 = 128 * (e.val / 96) + e.val % 96
    omega

/-- The keys' and values' weight's gradients, head by head. -/
def packK (A : Vec Ideal S256x1024 .f32) (B : Vec Ideal S256x512 .f32) : FVec Ideal S256x1024 .bf16 := k0_pay7 (cut64 0 A) (cut64v 0 B) (cut64 128 A) (cut64v 64 B) (cut64 256 A) (cut64v 128 B) (cut64 384 A) (cut64v 192 B) (cut64 512 A) (cut64v 256 B) (cut64 640 A) (cut64v 320 B) (cut64 768 A) (cut64v 384 B) (cut64 896 A) (cut64v 448 B)

theorem packK_apply (A : Vec Ideal S256x1024 .f32) (B : Vec Ideal S256x512 .f32) (k : Fin 256) (e : Fin 1024) : packK A B (ix2 k e)
    = if e.val % 128 < 64 then A (ix2 k e) else B (ix2 k ⟨64 * (e.val / 128) + (e.val % 128 - 64), by omega⟩) := by
  have he := e.isLt
  refine (concatenate_ofFn_apply (s₁ := S256x64) (t := S256x1024) 1 (fun n : Fin 16 => if n.val % 2 = 0 then cut64 (128 * (n.val / 2)) A else cut64v (64 * (n.val / 2)) B)
    concatenates_S256x64_S256x64_S256x64_S256x64_S256x64_S256x64_S256x64_S256x64_S256x64_S256x64_S256x64_S256x64_S256x64_S256x64_S256x64_S256x64_S256x1024_d1 rfl 64 rfl (ix2 k e) ⟨e.val / 64, by omega⟩ rfl (ix2 k ⟨e.val % 64, by omega⟩) rfl fun b hb => ?_).trans ?_
  · fin_cases b
    · rfl
    · exact absurd rfl hb
  · by_cases b : e.val % 128 < 64
    · have b' : e.val / 64 % 2 = 0 := by omega
      simp only [b, b', if_true]
      refine congrArg A (congrArg (ix2 k) (Fin.ext ?_))
      show (128 * (e.val / 64 / 2) + e.val % 64) % 1024 = e.val
      omega
    · have b' : ¬ e.val / 64 % 2 = 0 := by omega
      simp only [b, b', if_false]
      refine congrArg B (congrArg (ix2 k) (Fin.ext ?_))
      show (64 * (e.val / 64 / 2) + e.val % 64) % 512 = 64 * (e.val / 128) + (e.val % 128 - 64)
      omega

theorem blocksU (G : FVec Ideal S384x768 .bf16) (y : S4x96x768.Idx) :
    View.canon (Val := Elt Ideal) (e := .bf16) [⟨Rect.unit ![3, 0, 0] ![1, 96, 768] inb_S4x96x768_S1x96x768_3_0_0, k0_pay4 (F := Ideal) G⟩,
      ⟨Rect.unit ![2, 0, 0] ![1, 96, 768] inb_S4x96x768_S1x96x768_2_0_0, k0_pay12 (F := Ideal) G⟩,
      ⟨Rect.unit ![1, 0, 0] ![1, 96, 768] inb_S4x96x768_S1x96x768_1_0_0, k0_pay10 (F := Ideal) G⟩,
      ⟨Rect.unit ![0, 0, 0] ![1, 96, 768] inb_S4x96x768_S1x96x768_0_0_0, k0_pay8 (F := Ideal) G⟩] y
    = G (ix2 ⟨(y 0).val * 96 + (y 1).val, by have h0 : (y 0).val < 4 := (y 0).isLt; have h1 : (y 1).val < 96 := (y 1).isLt; omega⟩ (y 2)) := by
  canon_tiles x h
  all_goals (pointwise [k0_pay4, k0_pay12, k0_pay10, k0_pay8]; blk_ext)

/-- Rows `o` to `o + 64`. -/
def rows (o : ℕ) (h : S256x1024.Slices ![o, 0] S64x1024) (G : FVec Ideal S256x1024 .bf16) : FVec Ideal S1x64x1024 .bf16 :=
  shapeCast S1x64x1024 (extractStridedSlice S64x1024 ![o, 0] G h) shapeCasts_S64x1024_S1x64x1024

theorem blocksK (G : FVec Ideal S256x1024 .bf16) (y : S4x64x1024.Idx) :
    View.canon (Val := Elt Ideal) (e := .bf16) [⟨Rect.unit ![3, 0, 0] ![1, 64, 1024] inb_S4x64x1024_S1x64x1024_3_0_0, rows 192 slices_S256x1024_o192_0_S64x1024 G⟩,
      ⟨Rect.unit ![2, 0, 0] ![1, 64, 1024] inb_S4x64x1024_S1x64x1024_2_0_0, rows 128 slices_S256x1024_o128_0_S64x1024 G⟩,
      ⟨Rect.unit ![1, 0, 0] ![1, 64, 1024] inb_S4x64x1024_S1x64x1024_1_0_0, rows 64 slices_S256x1024_o64_0_S64x1024 G⟩,
      ⟨Rect.unit ![0, 0, 0] ![1, 64, 1024] inb_S4x64x1024_S1x64x1024_0_0_0, rows 0 slices_S256x1024_o0_0_S64x1024 G⟩] y
    = G (ix2 ⟨(y 0).val * 64 + (y 1).val, by have h0 : (y 0).val < 4 := (y 0).isLt; have h1 : (y 1).val < 64 := (y 1).isLt; omega⟩ (y 2)) := by
  canon_tiles x h
  all_goals (pointwise [rows]; blk_ext)

theorem out15 (t : Fin cfg0.N) (h7 : t.val % 8 = 7) (y : S4x96x768.Idx) : (outsAt0 m c t.val t.isLt).2.2.2.1 y
    = packU (outsAt0 m c t.val t.isLt).2.2.2.2.2.2.2.1 (ix2 ⟨(y 0).val * 96 + (y 1).val, by have h0 : (y 0).val < 4 := (y 0).isLt; have h1 : (y 1).val < 96 := (y 1).isLt; omega⟩ (y 2)) := by
  have h : ¬ t.val % 8 = 0 := by omega
  rw [nextU m c t h, outsAt0_C m c t h h7]
  frame_out
  simp only [QTile.load, read_unread_whole, cut96_eq]
  exact blocksU (packU (addU m c t (before m c t).2.2.2.2.2.2.2.1)) y

theorem out16 (t : Fin cfg0.N) (h7 : t.val % 8 = 7) (y : S4x64x1024.Idx) : (outsAt0 m c t.val t.isLt).2.2.2.2.1 y
    = packK (outsAt0 m c t.val t.isLt).2.2.2.2.2.2.2.2.1 (outsAt0 m c t.val t.isLt).2.2.2.2.2.2.2.2.2
      (ix2 ⟨(y 0).val * 64 + (y 1).val, by have h0 : (y 0).val < 4 := (y 0).isLt; have h1 : (y 1).val < 64 := (y 1).isLt; omega⟩ (y 2)) := by
  have h : ¬ t.val % 8 = 0 := by omega
  rw [nextK m c t h, nextV m c t h, outsAt0_C m c t h h7]
  frame_out
  simp only [read_unread_whole, cut64_eq, cut64v_eq]
  exact blocksK (packK (addK m c t (before m c t).2.2.2.2.2.2.2.2.1) (addV m c t (before m c t).2.2.2.2.2.2.2.2.2)) y

end Cert.Proof.QPoint

end
-- ==== Proof.QRef.lean ====
/- What the reference of the latent projections' gradient computes, read at an index. -/
module

public import proofs.«01_k».proof.Proof.Gen.QReferenceIdeal.Read
public import proofs.«01_k».proof.Proof.QMath
public import Idealize.ShloMosaic.Lib.Pipeline.ValueKit
public import Idealize.ShloMosaic.Lib.Pointwise

@[expose] public section

set_option maxRecDepth 16384

noncomputable section

namespace Cert.Proof.QRef

open Idealize.ShloMosaic Cert.QReferenceIdeal Cert.QReferenceIdeal.Gen Cert.QReferenceIdeal.Read Cert.Proof.Reals Cert.Proof.QMath

theorem c384_f32 : Ideal.ofBits .f32 0x43C00000#32 = ((384 : ℝ) : EReal) := by simp [Ideal.ofBits, Ideal.ieee]; rw [← EReal.coe_mul]; norm_num
theorem c256_f32 : Ideal.ofBits .f32 0x43800000#32 = ((256 : ℝ) : EReal) := by simp [Ideal.ofBits, Ideal.ieee]; rw [← EReal.coe_mul]; norm_num
theorem c16_f32 : Ideal.ofBits .f32 0x41800000#32 = ((16 : ℝ) : EReal) := by simp [Ideal.ofBits, Ideal.ieee]; rw [← EReal.coe_mul]; norm_num
theorem theta_f32 : Ideal.ofBits .f32 0x461C4000#32 = ((10000 : ℝ) : EReal) := by simp [Ideal.ofBits, Ideal.ieee]; rw [← EReal.coe_mul]; norm_num

theorem v14 (s : Fin 4096) (e : Fin 16) : val_main_v14 (F := Ideal) (ix2 s e) = (((s.val : ℝ) * Real.rpow 10000 (-(e.val : ℝ) / 16) : ℝ) : EReal) := by
  pointwise [val_main_v14, val_main_v13, val_main_v12, val_main_v11, val_main_v10, val_main_v9, val_main_v8, val_main_v7, val_main_v6, val_main_v5, val_main_v4, val_main_v3, val_main_cst, val_main_cst_0]
  rw [sitofp_word (by omega), sitofp_word (by omega), c16_f32, theta_f32, ← EReal.coe_neg, div_real _ (by norm_num), Ideal.pow_coe_coe, ← EReal.coe_mul]

theorem v15 (s : Fin 4096) (e : Fin 16) : val_main_v15 (F := Ideal) (ix2 s e) = ((cosT s e : ℝ) : EReal) := by
  pointwise [val_main_v15]
  rw [v14]
  rfl

theorem v16 (s : Fin 4096) (e : Fin 16) : val_main_v16 (F := Ideal) (ix2 s e) = ((sinT s e : ℝ) : EReal) := by
  pointwise [val_main_v16]
  rw [v14]
  rfl

variable {x0 : FVec Ideal S4096x4256 .f32} {x1 : FVec Ideal S384 .f32} {x2 : FVec Ideal S384x8x96 .f32} {x3 : FVec Ideal S256 .f32} {x4 : FVec Ideal S256x8x128 .f32}
  {x5 : FVec Ideal S4096x8x64 .f32} {x6 : FVec Ideal S4096x8x32 .f32} {x7 : FVec Ideal S4096x8x64 .f32} {x8 : FVec Ideal S4096x8x32 .f32} {x9 : FVec Ideal S4096x8x64 .f32} {T : Tab}

/-- The arguments hold the real tables. -/
structure Reads (x0 : FVec Ideal S4096x4256 .f32) (x1 : FVec Ideal S384 .f32) (x2 : FVec Ideal S384x8x96 .f32) (x3 : FVec Ideal S256 .f32) (x4 : FVec Ideal S256x8x128 .f32)
    (x5 : FVec Ideal S4096x8x64 .f32) (x6 : FVec Ideal S4096x8x32 .f32) (x7 : FVec Ideal S4096x8x64 .f32) (x8 : FVec Ideal S4096x8x32 .f32) (x9 : FVec Ideal S4096x8x64 .f32) (T : Tab) : Prop where
  z : ∀ s k, x0 (ix2 s k) = ((T.z s k : ℝ) : EReal)
  gq : ∀ k, x1 (ix1 k) = ((T.gq k : ℝ) : EReal)
  u : ∀ r h d, x2 (ix3 r h d) = ((T.u r h d : ℝ) : EReal)
  gk : ∀ k, x3 (ix1 k) = ((T.gk k : ℝ) : EReal)
  v : ∀ r h d, x4 (ix3 r h d) = ((T.v r h d : ℝ) : EReal)
  qn : ∀ s h d, x5 (ix3 s h d) = ((T.qn s h d : ℝ) : EReal)
  qr : ∀ s h d, x6 (ix3 s h d) = ((T.qr s h d : ℝ) : EReal)
  kn : ∀ s h d, x7 (ix3 s h d) = ((T.kn s h d : ℝ) : EReal)
  kr : ∀ s h d, x8 (ix3 s h d) = ((T.kr s h d : ℝ) : EReal)
  dv : ∀ s h d, x9 (ix3 s h d) = ((T.dv s h d : ℝ) : EReal)

variable (h : Reads x0 x1 x2 x3 x4 x5 x6 x7 x8 x9 T)
include h

/-! The queries' norm. -/

theorem v0 (s : Fin 4096) (r : Fin 384) : val_main_v0 (F := Ideal) x0 (ix2 s r) = ((T.zq s r : ℝ) : EReal) := by
  pointwise [val_main_v0]
  exact (congrArg x0 (by blk_ext)).trans (h.z s ⟨r.val, by omega⟩)

theorem v1 (s : Fin 4096) (r : Fin 256) : val_main_v1 (F := Ideal) x0 (ix2 s r) = ((T.zk s r : ℝ) : EReal) := by
  pointwise [val_main_v1]
  exact (congrArg x0 (by blk_ext)).trans (h.z s ⟨384 + r.val, by omega⟩)

theorem v23 (s : Fin 4096) (z : Fin 1) : val_main_v23 (F := Ideal) x0 (ix2 s z) = (((∑ k, T.zq s k * T.zq s k) / (384 : ℕ) + eps : ℝ) : EReal) := by
  pointwise [val_main_v23, val_main_v22, val_main_v21, val_main_v20, val_main_v19, val_main_v18, val_main_v17, val_main_cst_1, val_main_cst_2, val_main_cst_3]
  simp only [v0 h, c384_f32, eps_f32, ← EReal.coe_mul, ← coe_sum]
  rw [div_real _ (by norm_num), ← EReal.coe_add]
  norm_num

theorem v24 (s : Fin 4096) (z : Fin 1) : val_main_v24 (F := Ideal) x0 (ix2 s z) = ((inv (T.zq s) : ℝ) : EReal) := by
  show Ideal.rsqrt (val_main_v23 (F := Ideal) x0 (ix2 s z)) = _
  rw [v23 h, rsqrt_real (ms_pos _)]
  rfl

theorem v27 (s : Fin 4096) (z : Fin 1) :
    val_main_v27 (F := Ideal) x0 (ix2 s z) = ((-(1 / 2) * (inv (T.zq s) / ((∑ k, T.zq s k * T.zq s k) / (384 : ℕ) + eps)) : ℝ) : EReal) := by
  pointwise [val_main_v27, val_main_v26, val_main_v25, val_main_cst_4]
  rw [v23 h, v24 h, mhalf_f32, div_real _ (ms_pos _).ne', ← EReal.coe_mul]

theorem v29 (s : Fin 4096) (r : Fin 384) : val_main_v29 (F := Ideal) x0 (ix2 s r) = ((T.zq s r * inv (T.zq s) : ℝ) : EReal) := by
  pointwise [val_main_v29, val_main_v28]
  rw [v0 h, v24 h, ← EReal.coe_mul]

theorem v32 (s : Fin 4096) (r : Fin 384) : val_main_v32 (F := Ideal) x0 x1 (ix2 s r) = ((T.zq s r * inv (T.zq s) * T.gq r : ℝ) : EReal) := by
  pointwise [val_main_v32, val_main_v31, val_main_v30]
  rw [v29 h, h.gq, ← EReal.coe_mul]

theorem v57 (s : Fin 4096) (z : Fin 1) : val_main_v57 (F := Ideal) x0 (ix2 s z) = (((∑ k, T.zk s k * T.zk s k) / (256 : ℕ) + eps : ℝ) : EReal) := by
  pointwise [val_main_v57, val_main_v56, val_main_v55, val_main_v54, val_main_v53, val_main_v52, val_main_v51, val_main_cst_5, val_main_cst_6, val_main_cst_7]
  simp only [v1 h, c256_f32, eps_f32, ← EReal.coe_mul, ← coe_sum]
  rw [div_real _ (by norm_num), ← EReal.coe_add]
  norm_num

theorem v58 (s : Fin 4096) (z : Fin 1) : val_main_v58 (F := Ideal) x0 (ix2 s z) = ((inv (T.zk s) : ℝ) : EReal) := by
  show Ideal.rsqrt (val_main_v57 (F := Ideal) x0 (ix2 s z)) = _
  rw [v57 h, rsqrt_real (ms_pos _)]
  rfl

theorem v61 (s : Fin 4096) (z : Fin 1) :
    val_main_v61 (F := Ideal) x0 (ix2 s z) = ((-(1 / 2) * (inv (T.zk s) / ((∑ k, T.zk s k * T.zk s k) / (256 : ℕ) + eps)) : ℝ) : EReal) := by
  pointwise [val_main_v61, val_main_v60, val_main_v59, val_main_cst_8]
  rw [v57 h, v58 h, mhalf_f32, div_real _ (ms_pos _).ne', ← EReal.coe_mul]

theorem v63 (s : Fin 4096) (r : Fin 256) : val_main_v63 (F := Ideal) x0 (ix2 s r) = ((T.zk s r * inv (T.zk s) : ℝ) : EReal) := by
  pointwise [val_main_v63, val_main_v62]
  rw [v1 h, v58 h, ← EReal.coe_mul]

theorem v66 (s : Fin 4096) (r : Fin 256) : val_main_v66 (F := Ideal) x0 x3 (ix2 s r) = ((T.zk s r * inv (T.zk s) * T.gk r : ℝ) : EReal) := by
  pointwise [val_main_v66, val_main_v65, val_main_v64]
  rw [v63 h, h.gk, ← EReal.coe_mul]

/-! The columns' gradients. -/

omit h in
/-- The turned-back pair of halves as the two products print it. -/
theorem turn_eq (d : Fin 32 → ℝ) (s : Fin 4096) (j : ℕ) (hj : j < 32) :
    (if p : j < 16 then ((d ⟨16 + j, by omega⟩ : ℝ) : EReal) * ((sinT s ⟨j, p⟩ : ℝ) : EReal) + ((d ⟨j, hj⟩ : ℝ) : EReal) * ((cosT s ⟨j, p⟩ : ℝ) : EReal)
      else ((d ⟨16 + (j - 16), by omega⟩ : ℝ) : EReal) * ((cosT s ⟨j - 16, by omega⟩ : ℝ) : EReal) + -((d ⟨j - 16, by omega⟩ : ℝ) : EReal) * ((sinT s ⟨j - 16, by omega⟩ : ℝ) : EReal))
      = ((turn d s ⟨j, hj⟩ : ℝ) : EReal) := by
  unfold turn
  by_cases p : j < 16
  · simp only [p, dite_true, ← EReal.coe_mul, ← EReal.coe_add]
    rw [add_comm, show (⟨16 + j, by omega⟩ : Fin 32) = ⟨j + 16, by omega⟩ from Fin.ext (Nat.add_comm _ _)]
  · simp only [p, dite_false, ← EReal.coe_mul, ← EReal.coe_add, ← EReal.coe_neg]
    rw [show (⟨16 + (j - 16), by omega⟩ : Fin 32) = ⟨j, hj⟩ from Fin.ext (by show 16 + (j - 16) = j; omega)]
    congr 1
    ring

theorem v136 (s : Fin 4096) (n : Fin 8) (d : Fin 96) : val_main_v136 (F := Ideal) x5 x6 (ix3 s n d) = ((T.dq s n d : ℝ) : EReal) := by
  pointwise [val_main_v136, val_main_v135, val_main_v134, val_main_v133, val_main_v132, val_main_v131, val_main_v130, val_main_v129, val_main_v128, val_main_v127, val_main_v126, val_main_v125, val_main_v124, val_main_v123, val_main_v122, val_main_v121, val_main_v120, val_main_v36, val_main_v37, val_main_cst_18, val_main_cst_19]
  simp only [h.qr, h.qn, v15, v16]
  have hd := d.isLt
  unfold Tab.dq dqu
  by_cases b : d.val < 64
  · have b' : ¬(64 ≤ d.val ∧ d.val - 64 < 32) := by omega
    simp only [b, b', dite_true, dite_false, zero_add]
  · have b' : 64 ≤ d.val ∧ d.val - 64 < 32 := by omega
    simp only [b, b', and_self, dite_true, dite_false, add_zero]
    exact turn_eq (T.qr s n) s (d.val - 64) (by omega)

theorem v96 (s : Fin 4096) (n : Fin 8) (d : Fin 128) : val_main_v96 (F := Ideal) x7 x9 (ix3 s n d) = ((T.dk s n d : ℝ) : EReal) := by
  pointwise [val_main_v96, val_main_v95, val_main_v94, val_main_cst_11, val_main_cst_12]
  simp only [h.kn, h.dv]
  have hd := d.isLt
  unfold Tab.dk dkv
  by_cases b : d.val < 64
  · have b' : ¬(64 ≤ d.val ∧ d.val - 64 < 64) := by omega
    simp only [b, b', dite_true, dite_false, zero_add]
  · have b' : 64 ≤ d.val ∧ d.val - 64 < 64 := by omega
    simp only [b, b', and_self, dite_true, dite_false, add_zero]

theorem v139 (s : Fin 4096) (r : Fin 384) : val_main_v139 (F := Ideal) x2 x5 x6 (ix2 s r) = ((T.cq s r : ℝ) : EReal) := by
  pointwise [val_main_v139]
  simp only [v136 h, h.u, ← EReal.coe_mul, ← coe_sum]
  rfl

theorem v99 (s : Fin 4096) (r : Fin 256) : val_main_v99 (F := Ideal) x4 x7 x9 (ix2 s r) = ((T.ck s r : ℝ) : EReal) := by
  pointwise [val_main_v99]
  simp only [v96 h, h.v, ← EReal.coe_mul, ← coe_sum]
  rfl

/-! The results. -/

theorem v159 (s : Fin 4096) (r : Fin 384) : val_main_v162 (F := Ideal) x0 x1 x2 x5 x6 (ix2 s r) = ((T.dzq s r : ℝ) : EReal) := by
  pointwise [val_main_v162, val_main_v159, val_main_v158, val_main_v157, val_main_v156, val_main_v155, val_main_v154, val_main_v153, val_main_v152, val_main_v151, val_main_v150, val_main_v149, val_main_v148, val_main_v147, val_main_v146, val_main_v144, val_main_v143, val_main_v30, val_main_cst_22, val_main_cst_23, val_main_cst_24]
  simp only [v0 h, h.gq, v24 h, v139 h, v27 h, c384_f32, ← EReal.coe_mul, ← coe_sum]
  simp only [div_real _ (show (384 : ℝ) ≠ 0 by norm_num), Fin.sum_univ_one, ← EReal.coe_mul, ← EReal.coe_add]
  have e := rms_bwd (n := 384) (by norm_num) (T.zq s) (fun k => T.cq s k * T.gq k) r
  rw [show ((384 : ℕ) : ℝ) = 384 by norm_num] at e ⊢
  rw [Tab.dzq, gx, show ((384 : ℕ) : ℝ) = 384 by norm_num, e]

theorem v119 (s : Fin 4096) (r : Fin 256) : val_main_v163 (F := Ideal) x0 x3 x4 x7 x9 (ix2 s r) = ((T.dzk s r : ℝ) : EReal) := by
  pointwise [val_main_v163, val_main_v119, val_main_v118, val_main_v117, val_main_v116, val_main_v115, val_main_v114, val_main_v113, val_main_v112, val_main_v111, val_main_v110, val_main_v109, val_main_v108, val_main_v107, val_main_v106, val_main_v104, val_main_v103, val_main_v64, val_main_cst_15, val_main_cst_16, val_main_cst_17]
  simp only [v1 h, h.gk, v58 h, v99 h, v61 h, c256_f32, ← EReal.coe_mul, ← coe_sum]
  simp only [div_real _ (show (256 : ℝ) ≠ 0 by norm_num), Fin.sum_univ_one, ← EReal.coe_mul, ← EReal.coe_add]
  have e := rms_bwd (n := 256) (by norm_num) (T.zk s) (fun k => T.ck s k * T.gk k) r
  rw [show ((256 : ℕ) : ℝ) = 256 by norm_num] at e ⊢
  rw [Tab.dzk, gx, show ((256 : ℕ) : ℝ) = 256 by norm_num, e]

theorem v164 (s : Fin 4096) (j : Fin 128) : val_main_v164 (F := Ideal) x8 (ix2 s j) = ((if b : j.val < 32 then T.dzr s ⟨j.val, b⟩ else 0 : ℝ) : EReal) := by
  pointwise [val_main_v164, val_main_v161, val_main_v160, val_main_cst_25, val_main_v93, val_main_v92, val_main_v91, val_main_v90, val_main_v89, val_main_v88, val_main_v87, val_main_v86, val_main_v85, val_main_v84, val_main_v83, val_main_v82, val_main_v81, val_main_cst_9, val_main_cst_10]
  simp only [h.kr, v15, v16, Fin.sum_univ_one, ← coe_sum]
  by_cases b : j.val < 32
  · simp only [b, dite_true]
    exact turn_eq (fun i => ∑ n, T.kr s n i) s j.val b
  · simp only [b, dite_false, EReal.coe_zero]

theorem v166 (j : Fin 4) (a : Fin 96) (e : Fin 768) : val_main_v166 (F := Ideal) x0 x1 x5 x6 (ix3 j a e)
    = ((T.du ⟨j.val * 96 + a.val, by omega⟩ ⟨e.val / 96, by omega⟩ ⟨e.val % 96, by omega⟩ : ℝ) : EReal) := by
  have hj := j.isLt
  have ha := a.isLt
  have he := e.isLt
  have key : ∀ (r : Fin 384) (n : Fin 8) (d : Fin 96), val_main_v138 (F := Ideal) x0 x1 x5 x6 (ix3 r n d) = ((T.du r n d : ℝ) : EReal) := fun r n d => by
    pointwise [val_main_v138, val_main_v137]
    simp only [v136 h, v32 h, ← EReal.coe_mul, ← coe_sum]
    rfl
  rw [← key, val_main_v166_apply, val_main_v165_apply]
  refine congrArg (val_main_v138 (F := Ideal) x0 x1 x5 x6) ?_
  blk_ext

theorem v168 (j : Fin 4) (a : Fin 64) (e : Fin 1024) : val_main_v168 (F := Ideal) x0 x3 x7 x9 (ix3 j a e)
    = ((T.dw ⟨j.val * 64 + a.val, by omega⟩ ⟨e.val / 128, by omega⟩ ⟨e.val % 128, by omega⟩ : ℝ) : EReal) := by
  have hj := j.isLt
  have ha := a.isLt
  have he := e.isLt
  have key : ∀ (r : Fin 256) (n : Fin 8) (d : Fin 128), val_main_v98 (F := Ideal) x0 x3 x7 x9 (ix3 r n d) = ((T.dw r n d : ℝ) : EReal) := fun r n d => by
    pointwise [val_main_v98, val_main_v97]
    simp only [v96 h, v66 h, ← EReal.coe_mul, ← coe_sum]
    rfl
  rw [← key, val_main_v168_apply, val_main_v167_apply]
  refine congrArg (val_main_v98 (F := Ideal) x0 x3 x7 x9) ?_
  blk_ext

theorem v169 (z : Fin 1) (r : Fin 384) : val_main_v169 (F := Ideal) x0 x2 x5 x6 (ix2 z r) = ((T.dgq r : ℝ) : EReal) := by
  pointwise [val_main_v169, val_main_v145, val_main_v142, val_main_v141, val_main_v140, val_main_cst_20, val_main_cst_21]
  simp only [v29 h, v139 h, ← EReal.coe_mul, ← coe_sum]
  rw [Fin.sum_univ_one]
  exact congrArg _ (Finset.sum_congr rfl fun s _ => by ring)

theorem v170 (z : Fin 1) (r : Fin 256) : val_main_v170 (F := Ideal) x0 x4 x7 x9 (ix2 z r) = ((T.dgk r : ℝ) : EReal) := by
  pointwise [val_main_v170, val_main_v105, val_main_v102, val_main_v101, val_main_v100, val_main_cst_13, val_main_cst_14]
  simp only [v63 h, v99 h, ← EReal.coe_mul, ← coe_sum]
  rw [Fin.sum_univ_one]
  exact congrArg _ (Finset.sum_congr rfl fun s _ => by ring)

end Cert.Proof.QRef

end
-- ==== Proof.QHost.lean ====
/- What the latent projections' gradient kernel reads: its blocks of the arrays that the host lines prepare. -/
module

public import proofs.«01_k».proof.Proof.QPoint
public import proofs.«01_k».proof.Proof.QRef
public import Idealize.ShloMosaic.Lib.StableHlo.ReadAt

@[expose] public section

set_option maxRecDepth 16384
set_option maxHeartbeats 2000000

noncomputable section

namespace Cert.Proof.QHost

open Idealize.ShloMosaic Cert.QKernelIdeal Cert.QKernelIdeal.Gen Cert.Proof.Reals Cert.Proof.QMath
open Cert.Proof.QRef (c16_f32 theta_f32)

/-- The ten arguments, in a valuation, are the real tables. -/
structure Args (w : Valuation τ sig (Elt Ideal)) (T : Tab) : Prop where
  z : ∀ s k, (w (Proc.tc.devRef main_arg0) : FVec Ideal S4096x4256 .f32) (ix2 s k) = ((T.z s k : ℝ) : EReal)
  gq : ∀ k, (w (Proc.tc.devRef main_arg1) : FVec Ideal S384 .f32) (ix1 k) = ((T.gq k : ℝ) : EReal)
  u : ∀ r h d, (w (Proc.tc.devRef main_arg2) : FVec Ideal S384x8x96 .f32) (ix3 r h d) = ((T.u r h d : ℝ) : EReal)
  gk : ∀ k, (w (Proc.tc.devRef main_arg3) : FVec Ideal S256 .f32) (ix1 k) = ((T.gk k : ℝ) : EReal)
  v : ∀ r h d, (w (Proc.tc.devRef main_arg4) : FVec Ideal S256x8x128 .f32) (ix3 r h d) = ((T.v r h d : ℝ) : EReal)
  qn : ∀ s h d, (w (Proc.tc.devRef main_arg5) : FVec Ideal S4096x8x64 .f32) (ix3 s h d) = ((T.qn s h d : ℝ) : EReal)
  qr : ∀ s h d, (w (Proc.tc.devRef main_arg6) : FVec Ideal S4096x8x32 .f32) (ix3 s h d) = ((T.qr s h d : ℝ) : EReal)
  kn : ∀ s h d, (w (Proc.tc.devRef main_arg7) : FVec Ideal S4096x8x64 .f32) (ix3 s h d) = ((T.kn s h d : ℝ) : EReal)
  kr : ∀ s h d, (w (Proc.tc.devRef main_arg8) : FVec Ideal S4096x8x32 .f32) (ix3 s h d) = ((T.kr s h d : ℝ) : EReal)
  dv : ∀ s h d, (w (Proc.tc.devRef main_arg9) : FVec Ideal S4096x8x64 .f32) (ix3 s h d) = ((T.dv s h d : ℝ) : EReal)

theorem zero_f32 : Ideal.ofBits .f32 0x00000000#32 = ((0 : ℝ) : EReal) := by simp [Ideal.ofBits, Ideal.ieee]

theorem after_append {Val : EltTy → Type} (l l' : List (HloOp τ sig Val)) (V : Valuation τ sig Val) :
    StableHlo.after (l ++ l') V = StableHlo.after l' (StableHlo.after l V) := by
  induction l generalizing V with
  | nil => rfl
  | cons op l ih => exact ih _

/-- The host lines in three parts: the projected rows, the weights and the angles; the rotation's first table; the kernel's operands. -/
def partA : List (HloOp τ sig (Elt Ideal)) := hostOps0.take 36
def partM : List (HloOp τ sig (Elt Ideal)) := (hostOps0.drop 36).take 2
def partB : List (HloOp τ sig (Elt Ideal)) := hostOps0.drop 38

theorem parts (u : Valuation τ sig (Elt Ideal)) : StableHlo.after hostOps0 u = StableHlo.after partB (StableHlo.after partM (StableHlo.after partA u)) := by
  rw [← after_append, ← after_append]
  rfl

variable {T : Tab} {u : Valuation τ sig (Elt Ideal)}

theorem a_args (h : Args u T) : Args (StableHlo.after partA u) T := by
  constructor
  all_goals simp only [partA, hostOps0, List.take_succ_cons, List.take_zero]
  all_goals after_reads_simp
  exacts [h.z, h.gq, h.u, h.gk, h.v, h.qn, h.qr, h.kn, h.kr, h.dv]

theorem a_v1 (h : Args u T) (j : Fin 4) (s : Fin 4096) (k : Fin 1064) :
    (StableHlo.after partA u (Proc.tc.devRef main_v1) : FVec Ideal S4x4096x1064 .f32) (ix3 j s k) = ((T.z s ⟨j.val * 1064 + k.val, by omega⟩ : ℝ) : EReal) := by
  rw [← h.z]
  simp only [partA, hostOps0, List.take_succ_cons, List.take_zero]
  after_reads_at

theorem a_v4 (h : Args u T) (r : Fin 384) (e : Fin 1024) : (StableHlo.after partA u (Proc.tc.devRef main_v4) : FVec Ideal S384x1024 .f32) (ix2 r e)
    = ((if b : e.val % 128 < 96 then T.u r ⟨e.val / 128, by omega⟩ ⟨e.val % 128, b⟩ else 0 : ℝ) : EReal) := by
  simp only [partA, hostOps0, List.take_succ_cons, List.take_zero]
  after_reads_at
  by_cases b : e.val % 128 < 96
  · simp only [b, dite_true]
    exact h.u ..
  · simp only [b, dite_false]
    exact zero_f32

theorem a_v7 (h : Args u T) (r : Fin 256) (n : Fin 8) (l : Fin 128) : (StableHlo.after partA u (Proc.tc.devRef main_v7) : FVec Ideal S256x8x128 .f32) (ix3 r n l)
    = ((if l.val < 64 then T.v r n l else 0 : ℝ) : EReal) := by
  simp only [partA, hostOps0, List.take_succ_cons, List.take_zero]
  after_reads_at
  by_cases b : l.val < 64
  · simp only [b, dite_true, if_true]
    exact h.v ..
  · simp only [b, dite_false, if_false]
    exact EReal.coe_zero.symm

theorem a_v9 (h : Args u T) (r : Fin 256) (e : Fin 512) : (StableHlo.after partA u (Proc.tc.devRef main_v9) : FVec Ideal S256x512 .f32) (ix2 r e)
    = ((T.v r ⟨e.val / 64, by omega⟩ ⟨64 + e.val % 64, by omega⟩ : ℝ) : EReal) := by
  rw [← h.v]
  simp only [partA, hostOps0, List.take_succ_cons, List.take_zero]
  after_reads_at

/-- The angles' cosines and sines, and the constants beside them. -/
structure Rope (u : Valuation τ sig (Elt Ideal)) : Prop where
  cos : ∀ s e, (u (Proc.tc.devRef main_v22) : FVec Ideal S4096x16 .f32) (ix2 s e) = ((cosT s e : ℝ) : EReal)
  sin : ∀ s e, (u (Proc.tc.devRef main_v23) : FVec Ideal S4096x16 .f32) (ix2 s e) = ((sinT s e : ℝ) : EReal)
  z16 : ∀ s e, (u (Proc.tc.devRef main_v24) : FVec Ideal S4096x16 .f32) (ix2 s e) = ((0 : ℝ) : EReal)
  z32 : ∀ s e, (u (Proc.tc.devRef main_v25) : FVec Ideal S4096x32 .f32) (ix2 s e) = ((0 : ℝ) : EReal)
  z64 : ∀ s e, (u (Proc.tc.devRef main_v26) : FVec Ideal S4096x64 .f32) (ix2 s e) = ((0 : ℝ) : EReal)
  one : ∀ s e, (u (Proc.tc.devRef main_v27) : FVec Ideal S4096x64 .f32) (ix2 s e) = ((1 : ℝ) : EReal)

theorem a_angle (s : Fin 4096) (e : Fin 16) : (StableHlo.after partA u (Proc.tc.devRef main_v21) : FVec Ideal S4096x16 .f32) (ix2 s e)
    = (((s.val : ℝ) * Real.rpow 10000 (-(e.val : ℝ) / 16) : ℝ) : EReal) := by
  simp only [partA, hostOps0, List.take_succ_cons, List.take_zero]
  after_reads_at
  rw [sitofp_word (by omega), sitofp_word (by omega), c16_f32, theta_f32, ← EReal.coe_neg, div_real _ (by norm_num), Ideal.pow_coe_coe, ← EReal.coe_mul]

theorem a_rope : Rope (StableHlo.after partA u) := by
  constructor
  · intro s e
    refine Eq.trans (b := Ideal.cos ((StableHlo.after partA u (Proc.tc.devRef main_v21) : FVec Ideal S4096x16 .f32) (ix2 s e))) ?_ (by rw [a_angle]; rfl)
    simp only [partA, hostOps0, List.take_succ_cons, List.take_zero]
    after_reads_simp
    rfl
  · intro s e
    refine Eq.trans (b := Ideal.sin ((StableHlo.after partA u (Proc.tc.devRef main_v21) : FVec Ideal S4096x16 .f32) (ix2 s e))) ?_ (by rw [a_angle]; rfl)
    simp only [partA, hostOps0, List.take_succ_cons, List.take_zero]
    after_reads_simp
    rfl
  all_goals
    intro s e
    simp only [partA, hostOps0, List.take_succ_cons, List.take_zero]
    after_reads_at
  exacts [EReal.coe_zero.symm, EReal.coe_zero.symm, EReal.coe_zero.symm, EReal.coe_one.symm]

theorem m_v28 (h : Rope u) (s : Fin 4096) (l : Fin 128) : (StableHlo.after partM u (Proc.tc.devRef main_v28) : FVec Ideal S4096x128 .f32) (ix2 s l) = ((tc s l : ℝ) : EReal) := by
  simp only [partM, hostOps0, List.take_succ_cons, List.take_zero, List.drop_succ_cons, List.drop_zero]
  after_reads_at
  unfold tc
  by_cases b : l.val < 64
  · simp only [b, dite_true, if_true]
    exact h.one ..
  · by_cases b1 : l.val - 64 < 16
    · simp only [b, b1, dite_true, dite_false, if_false]
      exact h.cos ..
    · by_cases b2 : l.val - 80 < 16
      · have b2' : l.val - 64 - 16 < 16 := by omega
        simp only [b, b1, b2, b2', dite_true, dite_false, if_false]
        exact h.cos ..
      · have b2' : ¬l.val - 64 - 16 < 16 := by omega
        simp only [b, b1, b2, b2', dite_false, if_false]
        exact h.z32 ..

theorem m_v29 (h : Rope u) (s : Fin 4096) (e : Fin 16) : (StableHlo.after partM u (Proc.tc.devRef main_v29) : FVec Ideal S4096x16 .f32) (ix2 s e) = ((-sinT s e : ℝ) : EReal) := by
  rw [EReal.coe_neg, ← h.sin s e]
  simp only [partM, hostOps0, List.take_succ_cons, List.take_zero, List.drop_succ_cons, List.drop_zero]
  after_reads_at

theorem m_rope (h : Rope u) : Rope (StableHlo.after partM u) := by
  constructor
  all_goals simp only [partM, hostOps0, List.take_succ_cons, List.take_zero, List.drop_succ_cons, List.drop_zero]
  all_goals after_reads_simp
  exacts [h.cos, h.sin, h.z16, h.z32, h.z64, h.one]

theorem m_args (h : Args u T) : Args (StableHlo.after partM u) T := by
  constructor
  all_goals simp only [partM, hostOps0, List.take_succ_cons, List.take_zero, List.drop_succ_cons, List.drop_zero]
  all_goals after_reads_simp
  exacts [h.z, h.gq, h.u, h.gk, h.v, h.qn, h.qr, h.kn, h.kr, h.dv]

/-- What the first host lines leave is still there. -/
theorem m_keep (b : Ref sig .tc) (hb : b ∈ [main_v1, main_v4, main_v7, main_v9]) : StableHlo.after partM u (Proc.tc.devRef b) = u (Proc.tc.devRef b) := by
  simp only [List.mem_cons, List.not_mem_nil, or_false] at hb
  simp only [partM, hostOps0, List.take_succ_cons, List.take_zero, List.drop_succ_cons, List.drop_zero]
  rcases hb with rfl | rfl | rfl | rfl <;> after_reads_simp

theorem b_v28 (s : Fin 4096) (l : Fin 128) : (StableHlo.after partB u (Proc.tc.devRef main_v28) : FVec Ideal S4096x128 .f32) (ix2 s l)
    = (u (Proc.tc.devRef main_v28) : FVec Ideal S4096x128 .f32) (ix2 s l) := by
  simp only [partB, hostOps0, List.drop_succ_cons, List.drop_zero]
  after_reads_simp

theorem b_v30 (h : Rope u) (hn : ∀ s e, (u (Proc.tc.devRef main_v29) : FVec Ideal S4096x16 .f32) (ix2 s e) = ((-sinT s e : ℝ) : EReal))
    (s : Fin 4096) (l : Fin 128) : (StableHlo.after partB u (Proc.tc.devRef main_v30) : FVec Ideal S4096x128 .f32) (ix2 s l) = ((ta s l : ℝ) : EReal) := by
  simp only [partB, hostOps0, List.drop_succ_cons, List.drop_zero]
  after_reads_at
  unfold ta
  by_cases b : l.val < 64
  · simp only [b, dite_true, if_true]
    exact h.z64 ..
  · by_cases b1 : l.val - 64 < 16
    · simp only [b, b1, dite_true, dite_false, if_false]
      exact hn ..
    · by_cases b2' : l.val - 64 - 16 < 16
      · simp only [b, b1, b2', dite_true, dite_false, if_false]
        exact h.z16 ..
      · simp only [b, b1, b2', dite_false, if_false]
        exact h.z32 ..

theorem b_v31 (h : Rope u) (s : Fin 4096) (l : Fin 128) : (StableHlo.after partB u (Proc.tc.devRef main_v31) : FVec Ideal S4096x128 .f32) (ix2 s l) = ((tb s l : ℝ) : EReal) := by
  simp only [partB, hostOps0, List.drop_succ_cons, List.drop_zero]
  after_reads_at
  unfold tb
  by_cases b : l.val < 64
  · have c : l.val < 80 := by omega
    simp only [b, c, dite_true, if_true]
    exact h.z64 ..
  · by_cases b1 : l.val - 64 < 16
    · have c : l.val < 80 := by omega
      simp only [b, b1, c, dite_true, dite_false, if_true]
      exact h.z16 ..
    · have c : ¬l.val < 80 := by omega
      by_cases b2 : l.val - 80 < 16
      · have b2' : l.val - 64 - 16 < 16 := by omega
        simp only [b, b1, b2, b2', c, dite_true, dite_false, if_false]
        exact h.sin ..
      · have b2' : ¬l.val - 64 - 16 < 16 := by omega
        simp only [b, b1, b2, b2', c, dite_false, if_false]
        exact h.z32 ..

theorem b_v34 (h : Args u T) (s : Fin 4096) (e : Fin 1024) : (StableHlo.after partB u (Proc.tc.devRef main_v34) : FVec Ideal S4096x1024 .f32) (ix2 s e)
    = ((head (T.qn s) (T.qr s) ⟨e.val / 128, by omega⟩ ⟨e.val % 128, by omega⟩ : ℝ) : EReal) := by
  simp only [partB, hostOps0, List.drop_succ_cons, List.drop_zero]
  after_reads_at
  generalize hw : StableHlo.upto _ _ _ = w
  have h0 : ∀ s a d, (w (Proc.tc.devRef main_arg5) : FVec Ideal S4096x8x64 .f32) (ix3 s a d) = ((T.qn s a d : ℝ) : EReal) := fun s a d => by
    rw [← hw, ← h.qn]; after_reads_simp
  have h1 : ∀ s a d, (w (Proc.tc.devRef main_arg6) : FVec Ideal S4096x8x32 .f32) (ix3 s a d) = ((T.qr s a d : ℝ) : EReal) := fun s a d => by
    rw [← hw, ← h.qr]; after_reads_simp
  have h2 : ∀ s a d, (w (Proc.tc.devRef main_v32) : FVec Ideal S4096x8x32 .f32) (ix3 s a d) = ((0 : ℝ) : EReal) := fun s a d => by
    rw [← hw, ← zero_f32]; after_reads_simp; pointwise
  clear hw
  unfold head
  by_cases b : e.val % 128 < 64
  · simp only [b, dite_true]
    exact h0 ..
  · by_cases b' : e.val % 128 - 64 < 32
    · simp only [b, b', dite_true, dite_false]
      exact h1 ..
    · simp only [b, b', dite_false]
      exact h2 ..

theorem b_v38 (h : Args u T) (e : Fin 1024) (s : Fin 4096) : (StableHlo.after partB u (Proc.tc.devRef main_v38) : FVec Ideal S1024x4096 .f32) (ix2 e s)
    = ((head (T.kn s) (T.kr s) ⟨e.val / 128, by omega⟩ ⟨e.val % 128, by omega⟩ : ℝ) : EReal) := by
  simp only [partB, hostOps0, List.drop_succ_cons, List.drop_zero]
  after_reads_at
  generalize hw : StableHlo.upto _ _ _ = w
  have h0 : ∀ s a d, (w (Proc.tc.devRef main_arg7) : FVec Ideal S4096x8x64 .f32) (ix3 s a d) = ((T.kn s a d : ℝ) : EReal) := fun s a d => by
    rw [← hw, ← h.kn]; after_reads_simp
  have h1 : ∀ s a d, (w (Proc.tc.devRef main_arg8) : FVec Ideal S4096x8x32 .f32) (ix3 s a d) = ((T.kr s a d : ℝ) : EReal) := fun s a d => by
    rw [← hw, ← h.kr]; after_reads_simp
  have h2 : ∀ s a d, (w (Proc.tc.devRef main_v35) : FVec Ideal S4096x8x32 .f32) (ix3 s a d) = ((0 : ℝ) : EReal) := fun s a d => by
    rw [← hw, ← zero_f32]; after_reads_simp; pointwise
  clear hw
  unfold head
  by_cases b : e.val % 128 < 64
  · simp only [b, dite_true]
    exact h0 ..
  · by_cases b' : e.val % 128 - 64 < 32
    · simp only [b, b', dite_true, dite_false]
      exact h1 ..
    · simp only [b, b', dite_false]
      exact h2 ..

theorem b_v40 (h : Args u T) (e : Fin 512) (s : Fin 4096) : (StableHlo.after partB u (Proc.tc.devRef main_v40) : FVec Ideal S512x4096 .f32) (ix2 e s)
    = ((T.dv s ⟨e.val / 64, by omega⟩ ⟨e.val % 64, by omega⟩ : ℝ) : EReal) := by
  rw [← h.dv]
  simp only [partB, hostOps0, List.drop_succ_cons, List.drop_zero]
  after_reads_at

theorem b_v41 (h : Args u T) (a : Fin 3) (l : Fin 128) : (StableHlo.after partB u (Proc.tc.devRef main_v41) : FVec Ideal S3x128 .f32) (ix2 a l)
    = ((T.gq ⟨a.val * 128 + l.val, by omega⟩ : ℝ) : EReal) := by
  rw [← h.gq]
  simp only [partB, hostOps0, List.drop_succ_cons, List.drop_zero]
  after_reads_at

theorem b_v42 (h : Args u T) (o : Fin 1) (k : Fin 256) : (StableHlo.after partB u (Proc.tc.devRef main_v42) : FVec Ideal S1x256 .f32) (ix2 o k) = ((T.gk k : ℝ) : EReal) := by
  rw [← h.gk]
  simp only [partB, hostOps0, List.drop_succ_cons, List.drop_zero]
  after_reads_at

theorem b_v1 (j : Fin 4) (s : Fin 4096) (k : Fin 1064) : (StableHlo.after partB u (Proc.tc.devRef main_v1) : FVec Ideal S4x4096x1064 .f32) (ix3 j s k)
    = (u (Proc.tc.devRef main_v1) : FVec Ideal S4x4096x1064 .f32) (ix3 j s k) := by
  simp only [partB, hostOps0, List.drop_succ_cons, List.drop_zero]
  after_reads_simp

theorem b_v43 (r : Fin 384) (e : Fin 1024) : (StableHlo.after partB u (Proc.tc.devRef main_v43) : FVec Ideal S384x1024 .bf16) (ix2 r e)
    = (u (Proc.tc.devRef main_v4) : FVec Ideal S384x1024 .f32) (ix2 r e) := by
  simp only [partB, hostOps0, List.drop_succ_cons, List.drop_zero]
  after_reads_at

theorem b_v45 (r : Fin 256) (e : Fin 1024) : (StableHlo.after partB u (Proc.tc.devRef main_v45) : FVec Ideal S256x1024 .bf16) (ix2 r e)
    = (u (Proc.tc.devRef main_v7) : FVec Ideal S256x8x128 .f32) (ix3 r ⟨e.val / 128, by omega⟩ ⟨e.val % 128, by omega⟩) := by
  simp only [partB, hostOps0, List.drop_succ_cons, List.drop_zero]
  after_reads_at

theorem b_v46 (r : Fin 256) (e : Fin 512) : (StableHlo.after partB u (Proc.tc.devRef main_v46) : FVec Ideal S256x512 .bf16) (ix2 r e)
    = (u (Proc.tc.devRef main_v9) : FVec Ideal S256x512 .f32) (ix2 r e) := by
  simp only [partB, hostOps0, List.drop_succ_cons, List.drop_zero]
  after_reads_at

/-- Which block each window holds at a point. -/
theorem idx : ∀ t : Fin cfg0.N, win0_0.index t = ![t.val, 0] ∧ win0_1.index t = ![0, t.val] ∧ win0_2.index t = ![0, t.val] ∧ win0_3.index t = ![0, t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

variable {m : (ℓ : Loc nD τ sig) → Buf (Elt Ideal) ℓ} {c : Dev nD} (h : Args (fun b => m (c, b)) T)

theorem V_parts (b : Ref sig .tc) : V m c b = StableHlo.after partB (StableHlo.after partM (StableHlo.after partA (fun b => m (c, b)))) (Proc.tc.devRef b) := by
  rw [← parts]

include h in
/-- What the windows hold at a point. -/
theorem tile (t : Fin cfg0.N) : QTile.Tile (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) T (fun r => ⟨512 * t.val + r.val, by have := lt_of_lt_of_eq t.isLt N_0; omega⟩) := by
  have hN := lt_of_lt_of_eq t.isLt N_0
  constructor
  · intro r e
    refine Eq.trans ?_ ((congrFun (V_parts (m := m) (c := c) main_v34) _).trans (b_v34 (m_args (a_args h)) ⟨512 * t.val + r.val, by omega⟩ e))
    blk_ext [iblk, idx t]
  · intro e r
    refine Eq.trans ?_ ((congrFun (V_parts (m := m) (c := c) main_v38) _).trans (b_v38 (m_args (a_args h)) e ⟨512 * t.val + r.val, by omega⟩))
    blk_ext [iblk, idx t]
  · intro e r
    refine Eq.trans ?_ ((congrFun (V_parts (m := m) (c := c) main_v40) _).trans (b_v40 (m_args (a_args h)) e ⟨512 * t.val + r.val, by omega⟩))
    blk_ext [iblk, idx t]
  · intro o r j
    have ho := o.isLt
    refine Eq.trans ?_ (((congrFun (V_parts (m := m) (c := c) main_v1) _).trans (b_v1 0 ⟨512 * t.val + r.val, by omega⟩ j)).trans (((congrFun (m_keep main_v1 (by simp)) _).trans (a_v1 h 0 ⟨512 * t.val + r.val, by omega⟩ j)).trans ?_))
    · blk_ext [iblk, idx t]
    · exact congrArg (fun k => ((T.z _ k : ℝ) : EReal)) (Fin.ext (by show 0 * 1064 + j.val = j.val; omega))
  · intro a l
    refine Eq.trans ?_ ((congrFun (V_parts (m := m) (c := c) main_v41) _).trans (b_v41 (m_args (a_args h)) a l))
    blk_ext [iblk, idx t]
  · intro o k
    refine Eq.trans ?_ ((congrFun (V_parts (m := m) (c := c) main_v42) _).trans (b_v42 (m_args (a_args h)) o k))
    blk_ext [iblk, idx t]
  · intro r e
    refine Eq.trans ?_ (((congrFun (V_parts (m := m) (c := c) main_v43) _).trans (b_v43 r e)).trans ((congrFun (m_keep main_v4 (by simp)) _).trans (a_v4 h r e)))
    blk_ext [iblk, idx t]
  · intro r e
    refine Eq.trans ?_ (((congrFun (V_parts (m := m) (c := c) main_v45) _).trans (b_v45 r e)).trans ((congrFun (m_keep main_v7 (by simp)) _).trans (a_v7 h r _ _)))
    blk_ext [iblk, idx t]
  · intro r e
    refine Eq.trans ?_ (((congrFun (V_parts (m := m) (c := c) main_v46) _).trans (b_v46 r e)).trans ((congrFun (m_keep main_v9 (by simp)) _).trans (a_v9 h r e)))
    blk_ext [iblk, idx t]
  · intro r l
    refine Eq.trans ?_ ((congrFun (V_parts (m := m) (c := c) main_v28) _).trans ((b_v28 ..).trans (m_v28 a_rope ⟨512 * t.val + r.val, by omega⟩ l)))
    blk_ext [iblk, idx t]
  · intro r l
    refine Eq.trans ?_ ((congrFun (V_parts (m := m) (c := c) main_v30) _).trans (b_v30 (m_rope a_rope) (m_v29 a_rope) ⟨512 * t.val + r.val, by omega⟩ l))
    blk_ext [iblk, idx t]
  · intro r l
    refine Eq.trans ?_ ((congrFun (V_parts (m := m) (c := c) main_v31) _).trans (b_v31 (m_rope a_rope) ⟨512 * t.val + r.val, by omega⟩ l))
    blk_ext [iblk, idx t]

end Cert.Proof.QHost

end
-- ==== Proof.QValue.lean ====
/- What the latent projections' gradient kernel's seven output arrays hold after its run. -/
module

public import proofs.«01_k».proof.Proof.QHost

@[expose] public section

set_option maxRecDepth 16384
set_option maxHeartbeats 2000000

noncomputable section

namespace Cert.Proof.QValue

open Idealize.ShloMosaic Cert.QKernelIdeal Cert.QKernelIdeal.Gen Cert.Proof.Reals Cert.Proof.QMath Cert.Proof.QHost

/-- A sum over the points of sums over a point's rows is the sum over all rows. -/
theorem sum_rows (f : Fin 4096 → ℝ) : ∑ t : Fin cfg0.N, ((∑ r : Fin 512, f ⟨512 * t.val + r.val, by have := lt_of_lt_of_eq t.isLt N_0; omega⟩ : ℝ) : EReal) = ((∑ s, f s : ℝ) : EReal) := by
  rw [← coe_sum]
  congr 1
  exact Fin.sum_mul_add_congr (fun t r hl => by
    rw [show (⟨512 * t.val + r.val, by have := lt_of_lt_of_eq t.isLt N_0; omega⟩ : Fin 4096) = ⟨t.val * 512 + r.val, hl⟩ from Fin.ext (by show 512 * t.val + r.val = t.val * 512 + r.val; omega)])
    (by rw [show cfg0.N = 8 from N_0])

/-- An accumulator that starts at zero and takes a point's rows at each point ends as the sum over all rows. -/
theorem total {s : Shape} (A : (n : ℕ) → n < cfg0.N → s.Idx → EReal) (f : Fin 4096 → s.Idx → ℝ)
    (h0 : ∀ t : Fin cfg0.N, t.val % 8 = 0 → ∀ j, A t.val t.isLt j = 0 + ((∑ r : Fin 512, f ⟨512 * t.val + r.val, by have := lt_of_lt_of_eq t.isLt N_0; omega⟩ j : ℝ) : EReal))
    (h1 : ∀ t : Fin cfg0.N, ¬t.val % 8 = 0 → ∀ j, A t.val t.isLt j = A (t.val - 1) (Nat.lt_of_le_of_lt (Nat.sub_le _ _) t.isLt) j
      + ((∑ r : Fin 512, f ⟨512 * t.val + r.val, by have := lt_of_lt_of_eq t.isLt N_0; omega⟩ j : ℝ) : EReal)) (j : s.Idx) :
    A t0_7.val t0_7.isLt j = ((∑ r, f r j : ℝ) : EReal) := by
  rw [Pipeline.eq_sum_fin_of_reset_step_apply_last A 8 (fun _ => 0)
    (fun t j => ((∑ r : Fin 512, f ⟨512 * t.val + r.val, by have := lt_of_lt_of_eq t.isLt N_0; omega⟩ j : ℝ) : EReal)) h0 h1 (le_of_eq N_0) t0_7 rfl j, zero_add]
  exact sum_rows fun r => f r j

variable {m : (ℓ : Loc nD τ sig) → Buf (Elt Ideal) ℓ} {c : Dev nD} {T : Tab} (h : Args (fun b => m (c, b)) T)
include h

theorem arr12 (s : Fin 4096) (k : Fin 384) : (dats m 0 c).arrAt 12 cfg0.N (ix2 s k) = ((T.dzq s k : ℝ) : EReal) := by
  refine congrFun ((dats m 0 c).arrAt_eq_of_covers 12 (fun i : S4096x384.Idx => ((T.dzq (i 0) (i 1) : ℝ) : EReal)) (by decide +kernel) fun t hf y => ?_) (ix2 s k)
  have hN := lt_of_lt_of_eq t.isLt N_0
  blk_simp
  rw [after0_12, QPoint.out12]
  obtain ⟨r, l, rfl⟩ : ∃ (r : Fin 512) (l : Fin 384), y = ix2 r l := ⟨⟨(y 0).val, (y 0).isLt⟩, ⟨(y 1).val, (y 1).isLt⟩, by blk_ext⟩
  have hi : (win0_12.blk t).view.emb (ix2 r l) = ix2 (⟨512 * t.val + r.val, by omega⟩ : Fin 4096) l := by blk_ext [idx t]
  rw [hi, QTile.p41 (tile h t)]
  rfl

theorem arr13 (s : Fin 4096) (k : Fin 256) : (dats m 0 c).arrAt 13 cfg0.N (ix2 s k) = ((T.dzk s k : ℝ) : EReal) := by
  refine congrFun ((dats m 0 c).arrAt_eq_of_covers 13 (fun i : S4096x256.Idx => ((T.dzk (i 0) (i 1) : ℝ) : EReal)) (by decide +kernel) fun t hf y => ?_) (ix2 s k)
  have hN := lt_of_lt_of_eq t.isLt N_0
  blk_simp
  rw [after0_13, QPoint.out13]
  obtain ⟨r, l, rfl⟩ : ∃ (r : Fin 512) (l : Fin 256), y = ix2 r l := ⟨⟨(y 0).val, (y 0).isLt⟩, ⟨(y 1).val, (y 1).isLt⟩, by blk_ext⟩
  have hi : (win0_13.blk t).view.emb (ix2 r l) = ix2 (⟨512 * t.val + r.val, by omega⟩ : Fin 4096) l := by blk_ext [idx t]
  rw [hi, QTile.p1 (tile h t)]
  rfl

/-- The shared rotated columns' gradient and 96 zeros. -/
def rot (T : Tab) (s : Fin 4096) (j : Fin 128) : ℝ := if b : j.val < 32 then T.dzr s ⟨j.val, b⟩ else 0

theorem arr14 (s : Fin 4096) (k : Fin 128) : (dats m 0 c).arrAt 14 cfg0.N (ix2 s k) = ((rot T s k : ℝ) : EReal) := by
  refine congrFun ((dats m 0 c).arrAt_eq_of_covers 14 (fun i : S4096x128.Idx => ((rot T (i 0) (i 1) : ℝ) : EReal)) (by decide +kernel) fun t hf y => ?_) (ix2 s k)
  have hN := lt_of_lt_of_eq t.isLt N_0
  blk_simp
  rw [after0_14, QPoint.out14]
  obtain ⟨r, l, rfl⟩ : ∃ (r : Fin 512) (l : Fin 128), y = ix2 r l := ⟨⟨(y 0).val, (y 0).isLt⟩, ⟨(y 1).val, (y 1).isLt⟩, by blk_ext⟩
  have hi : (win0_14.blk t).view.emb (ix2 r l) = ix2 (⟨512 * t.val + r.val, by omega⟩ : Fin 4096) l := by blk_ext [idx t]
  rw [hi, QTile.p2 (tile h t)]
  rfl

theorem acc17 (j : S1x384.Idx) : (outsAt0 m c t0_7.val t0_7.isLt).2.2.2.2.2.1 j = ((T.dgq (j 1) : ℝ) : EReal) := by
  refine total (fun n h => (outsAt0 m c n h).2.2.2.2.2.1) (fun s j => T.cq s (j 1) * (T.zq s (j 1) * inv (T.zq s))) (fun t h0 j => ?_) (fun t h0 j => ?_) j
  all_goals obtain ⟨z, k, rfl⟩ : ∃ (z : Fin 1) (k : Fin 384), j = ix2 z k := ⟨⟨(j 0).val, (j 0).isLt⟩, ⟨(j 1).val, (j 1).isLt⟩, by blk_ext⟩
  · refine (congrFun (QPoint.first17 m c t h0) _).trans ((QTile.p40 (tile h t) _ z k).trans ?_)
    exact congrArg (· + _) (by pointwise [k0_pay17])
  · exact (congrFun (QPoint.next17 m c t h0) _).trans (QTile.p40 (tile h t) _ z k)

theorem acc18 (j : S1x256.Idx) : (outsAt0 m c t0_7.val t0_7.isLt).2.2.2.2.2.2.1 j = ((T.dgk (j 1) : ℝ) : EReal) := by
  refine total (fun n h => (outsAt0 m c n h).2.2.2.2.2.2.1) (fun s j => T.ck s (j 1) * (T.zk s (j 1) * inv (T.zk s))) (fun t h0 j => ?_) (fun t h0 j => ?_) j
  all_goals obtain ⟨z, k, rfl⟩ : ∃ (z : Fin 1) (k : Fin 256), j = ix2 z k := ⟨⟨(j 0).val, (j 0).isLt⟩, ⟨(j 1).val, (j 1).isLt⟩, by blk_ext⟩
  · refine (congrFun (QPoint.first18 m c t h0) _).trans ((QTile.p52 (tile h t) _ z k).trans ?_)
    exact congrArg (· + _) (by pointwise [k0_pay18])
  · exact (congrFun (QPoint.next18 m c t h0) _).trans (QTile.p52 (tile h t) _ z k)

theorem accU (j : S384x1024.Idx) : (outsAt0 m c t0_7.val t0_7.isLt).2.2.2.2.2.2.2.1 j
    = ((∑ s, T.zq s (j 0) * inv (T.zq s) * T.gq (j 0) * QTile.wide (T.dq s ⟨(j 1).val / 128, by have := (j 1).isLt; change (j 1).val < 1024 at this; omega⟩) ⟨(j 1).val % 128, by omega⟩ : ℝ) : EReal) := by
  refine total (fun n h => (outsAt0 m c n h).2.2.2.2.2.2.2.1) (fun s j => T.zq s (j 0) * inv (T.zq s) * T.gq (j 0) * QTile.wide (T.dq s ⟨(j 1).val / 128, by have := (j 1).isLt; change (j 1).val < 1024 at this; omega⟩) ⟨(j 1).val % 128, by omega⟩)
    (fun t h0 j => ?_) (fun t h0 j => ?_) j
  all_goals obtain ⟨k, e, rfl⟩ : ∃ (k : Fin 384) (e : Fin 1024), j = ix2 k e := ⟨⟨(j 0).val, (j 0).isLt⟩, ⟨(j 1).val, (j 1).isLt⟩, by blk_ext⟩
  · refine (congrFun (QPoint.firstU m c t h0) _).trans ((QTile.upu_apply (tile h t) _ k e).trans ?_)
    exact congrArg (· + _) (by pointwise [k0_pay14])
  · exact (congrFun (QPoint.nextU m c t h0) _).trans (QTile.upu_apply (tile h t) _ k e)

theorem accK (j : S256x1024.Idx) : (outsAt0 m c t0_7.val t0_7.isLt).2.2.2.2.2.2.2.2.1 j
    = ((∑ s, T.zk s (j 0) * inv (T.zk s) * T.gk (j 0) * head (T.kn s) (T.kr s) ⟨(j 1).val / 128, by have := (j 1).isLt; change (j 1).val < 1024 at this; omega⟩ ⟨(j 1).val % 128, by omega⟩ : ℝ) : EReal) := by
  refine total (fun n h => (outsAt0 m c n h).2.2.2.2.2.2.2.2.1) (fun s j => T.zk s (j 0) * inv (T.zk s) * T.gk (j 0) * head (T.kn s) (T.kr s) ⟨(j 1).val / 128, by have := (j 1).isLt; change (j 1).val < 1024 at this; omega⟩ ⟨(j 1).val % 128, by omega⟩)
    (fun t h0 j => ?_) (fun t h0 j => ?_) j
  all_goals obtain ⟨k, e, rfl⟩ : ∃ (k : Fin 256) (e : Fin 1024), j = ix2 k e := ⟨⟨(j 0).val, (j 0).isLt⟩, ⟨(j 1).val, (j 1).isLt⟩, by blk_ext⟩
  · refine (congrFun (QPoint.firstK m c t h0) _).trans ((QTile.p49 (tile h t) _ k e).trans ?_)
    exact congrArg (· + _) (by pointwise [k0_pay15])
  · exact (congrFun (QPoint.nextK m c t h0) _).trans (QTile.p49 (tile h t) _ k e)

theorem accV (j : S256x512.Idx) : (outsAt0 m c t0_7.val t0_7.isLt).2.2.2.2.2.2.2.2.2 j
    = ((∑ s, T.zk s (j 0) * inv (T.zk s) * T.gk (j 0) * T.dv s ⟨(j 1).val / 64, by have := (j 1).isLt; change (j 1).val < 512 at this; omega⟩ ⟨(j 1).val % 64, by omega⟩ : ℝ) : EReal) := by
  refine total (fun n h => (outsAt0 m c n h).2.2.2.2.2.2.2.2.2) (fun s j => T.zk s (j 0) * inv (T.zk s) * T.gk (j 0) * T.dv s ⟨(j 1).val / 64, by have := (j 1).isLt; change (j 1).val < 512 at this; omega⟩ ⟨(j 1).val % 64, by omega⟩)
    (fun t h0 j => ?_) (fun t h0 j => ?_) j
  all_goals obtain ⟨k, e, rfl⟩ : ∃ (k : Fin 256) (e : Fin 512), j = ix2 k e := ⟨⟨(j 0).val, (j 0).isLt⟩, ⟨(j 1).val, (j 1).isLt⟩, by blk_ext⟩
  · refine (congrFun (QPoint.firstV m c t h0) _).trans ((QTile.p50 (tile h t) _ k e).trans ?_)
    exact congrArg (· + _) (by pointwise [k0_pay16])
  · exact (congrFun (QPoint.nextV m c t h0) _).trans (QTile.p50 (tile h t) _ k e)

/-- The queries' weight's gradient by columns. -/
theorem packU_val (k : Fin 384) (e : Fin 768) : QPoint.packU (outsAt0 m c t0_7.val t0_7.isLt).2.2.2.2.2.2.2.1 (ix2 k e)
    = ((T.du k ⟨e.val / 96, by omega⟩ ⟨e.val % 96, by omega⟩ : ℝ) : EReal) := by
  have he := e.isLt
  rw [QPoint.packU_apply, accU h]
  refine congrArg _ (Finset.sum_congr rfl fun s _ => ?_)
  have e1 : (⟨(128 * (e.val / 96) + e.val % 96) / 128, by omega⟩ : Fin 8) = ⟨e.val / 96, by omega⟩ := Fin.ext (by show (128 * (e.val / 96) + e.val % 96) / 128 = e.val / 96; omega)
  have e2 : (⟨(128 * (e.val / 96) + e.val % 96) % 128, by omega⟩ : Fin 128) = ⟨e.val % 96, by omega⟩ := Fin.ext (by show (128 * (e.val / 96) + e.val % 96) % 128 = e.val % 96; omega)
  show T.zq s k * inv (T.zq s) * T.gq k * QTile.wide (T.dq s ⟨(128 * (e.val / 96) + e.val % 96) / 128, _⟩) ⟨(128 * (e.val / 96) + e.val % 96) % 128, _⟩ = _
  rw [e1, e2, QTile.wide, dif_pos (show e.val % 96 < 96 by omega), mul_comm]

/-- The keys' and values' weight's gradient by columns. -/
theorem packK_val (k : Fin 256) (e : Fin 1024) : QPoint.packK (outsAt0 m c t0_7.val t0_7.isLt).2.2.2.2.2.2.2.2.1 (outsAt0 m c t0_7.val t0_7.isLt).2.2.2.2.2.2.2.2.2 (ix2 k e)
    = ((T.dw k ⟨e.val / 128, by omega⟩ ⟨e.val % 128, by omega⟩ : ℝ) : EReal) := by
  have he := e.isLt
  rw [QPoint.packK_apply, accK h, accV h]
  by_cases b : e.val % 128 < 64
  · rw [if_pos b]
    refine congrArg _ (Finset.sum_congr rfl fun s _ => ?_)
    show T.zk s k * inv (T.zk s) * T.gk k * head (T.kn s) (T.kr s) ⟨e.val / 128, _⟩ ⟨e.val % 128, _⟩ = dkv (T.kn s) (T.dv s) ⟨e.val / 128, _⟩ ⟨e.val % 128, _⟩ * _
    rw [head, dkv, dif_pos b, dif_pos b, mul_comm]
  · rw [if_neg b]
    refine congrArg _ (Finset.sum_congr rfl fun s _ => ?_)
    have e1 : (⟨(64 * (e.val / 128) + (e.val % 128 - 64)) / 64, by omega⟩ : Fin 8) = ⟨e.val / 128, by omega⟩ := Fin.ext (by show (64 * (e.val / 128) + (e.val % 128 - 64)) / 64 = e.val / 128; omega)
    have e2 : (⟨(64 * (e.val / 128) + (e.val % 128 - 64)) % 64, by omega⟩ : Fin 64) = ⟨e.val % 128 - 64, by omega⟩ := Fin.ext (by show (64 * (e.val / 128) + (e.val % 128 - 64)) % 64 = e.val % 128 - 64; omega)
    show T.zk s k * inv (T.zk s) * T.gk k * T.dv s ⟨(64 * (e.val / 128) + (e.val % 128 - 64)) / 64, _⟩ ⟨(64 * (e.val / 128) + (e.val % 128 - 64)) % 64, _⟩ = dkv (T.kn s) (T.dv s) ⟨e.val / 128, _⟩ ⟨e.val % 128, _⟩ * _
    rw [e1, e2, dkv, dif_neg b, mul_comm]

/-- The queries' weight's gradient in its four parts. -/
def partsU (T : Tab) (i : S4x96x768.Idx) : EReal :=
  ((T.du ⟨(i 0).val * 96 + (i 1).val, by
    have h0 : (i 0).val < 4 := (i 0).isLt
    have h1 : (i 1).val < 96 := (i 1).isLt
    omega⟩ ⟨(i 2).val / 96, by have h2 : (i 2).val < 768 := (i 2).isLt; omega⟩ ⟨(i 2).val % 96, by omega⟩ : ℝ) : EReal)

/-- The keys' and values' weight's gradient in its four parts. -/
def partsK (T : Tab) (i : S4x64x1024.Idx) : EReal :=
  ((T.dw ⟨(i 0).val * 64 + (i 1).val, by
    have h0 : (i 0).val < 4 := (i 0).isLt
    have h1 : (i 1).val < 64 := (i 1).isLt
    omega⟩ ⟨(i 2).val / 128, by have h2 : (i 2).val < 1024 := (i 2).isLt; omega⟩ ⟨(i 2).val % 128, by omega⟩ : ℝ) : EReal)

theorem arr15 : (dats m 0 c).arrAt 15 cfg0.N = partsU T := by
  refine (dats m 0 c).arrAt_eq_of_after_last 15 t0_7 (by decide +kernel) (partsU T) fun y => ?_
  blk_simp
  rw [after0_15, QPoint.out15 m c t0_7 rfl]
  exact packU_val h _ _

theorem arr16 : (dats m 0 c).arrAt 16 cfg0.N = partsK T := by
  refine (dats m 0 c).arrAt_eq_of_after_last 16 t0_7 (by decide +kernel) (partsK T) fun y => ?_
  blk_simp
  rw [after0_16, QPoint.out16 m c t0_7 rfl]
  exact packK_val h _ _

theorem arr17 : (dats m 0 c).arrAt 17 cfg0.N = fun i : S1x384.Idx => ((T.dgq (i 1) : ℝ) : EReal) := by
  refine (dats m 0 c).arrAt_eq_of_after_last 17 t0_7 (by decide +kernel) (fun i : S1x384.Idx => ((T.dgq (i 1) : ℝ) : EReal)) fun y => ?_
  blk_simp
  rw [after0_17]
  exact acc17 h _

theorem arr18 : (dats m 0 c).arrAt 18 cfg0.N = fun i : S1x256.Idx => ((T.dgk (i 1) : ℝ) : EReal) := by
  refine (dats m 0 c).arrAt_eq_of_after_last 18 t0_7 (by decide +kernel) (fun i : S1x256.Idx => ((T.dgk (i 1) : ℝ) : EReal)) fun y => ?_
  blk_simp
  rw [after0_18]
  exact acc18 h _

end Cert.Proof.QValue

end
-- ==== Proof.QClaim.lean ====
/- The latent projections' gradient: the kernel's seven results are the reference's. -/
module

public import proofs.«01_k».proof.Proof.QValue
public import proofs.«01_k».proof.Proof.Gen.QKernelIdeal.Value
public import proofs.«01_k».proof.Proof.Gen.QReferenceIdeal.Run
public import proofs.«01_k».proof.Defs
public import Idealize.ShloMosaic.Lib.Claim

@[expose] public section

set_option maxRecDepth 16384
set_option maxHeartbeats 4000000

noncomputable section

namespace Cert.Proof.QClaim

open Idealize.ShloMosaic Cert.Proof.Reals Cert.Proof.QMath

local instance : Cert.QKernelIdeal.Facts := Cert.QKernelIdeal.Gen.facts
local instance : Cert.QReferenceIdeal.Facts := Cert.QReferenceIdeal.Gen.facts

variable [hP : Cert.Pre_q_finite.Facts]

/-- The precondition: each of the ten arrays is finite. -/
theorem finite (x0 : FVec Ideal ⟨2, ![4096, 4256]⟩ .f32) (x1 : FVec Ideal ⟨1, ![384]⟩ .f32) (x2 : FVec Ideal ⟨3, ![384, 8, 96]⟩ .f32) (x3 : FVec Ideal ⟨1, ![256]⟩ .f32)
    (x4 : FVec Ideal ⟨3, ![256, 8, 128]⟩ .f32) (x5 : FVec Ideal ⟨3, ![4096, 8, 64]⟩ .f32) (x6 : FVec Ideal ⟨3, ![4096, 8, 32]⟩ .f32) (x7 : FVec Ideal ⟨3, ![4096, 8, 64]⟩ .f32)
    (x8 : FVec Ideal ⟨3, ![4096, 8, 32]⟩ .f32) (x9 : FVec Ideal ⟨3, ![4096, 8, 64]⟩ .f32) (j : (⟨0, ![]⟩ : Shape).Idx)
    (h : Cert.Pre_q_finite.fn (F := Ideal) x0 x1 x2 x3 x4 x5 x6 x7 x8 x9 j = 1#1) :
    Finite x0 ∧ Finite x1 ∧ Finite x2 ∧ Finite x3 ∧ Finite x4 ∧ Finite x5 ∧ Finite x6 ∧ Finite x7 ∧ Finite x8 ∧ Finite x9 := by
  unfold Cert.Pre_q_finite.fn Cert.Pre_q_finite.fn_part1 Cert.Pre_q_finite.fn_part2 at h
  obtain ⟨h, h9⟩ := andi_one.1 h
  obtain ⟨h, h8⟩ := andi_one.1 h
  obtain ⟨h, h7⟩ := andi_one.1 h
  obtain ⟨h, h6⟩ := andi_one.1 h
  obtain ⟨h, h5⟩ := andi_one.1 h
  obtain ⟨h, h4⟩ := andi_one.1 h
  obtain ⟨h, h3⟩ := andi_one.1 h
  obtain ⟨h, h2⟩ := andi_one.1 h
  obtain ⟨h0, h1⟩ := andi_one.1 h
  exact ⟨finite_of_all _ _ _ x0 j h0, finite_of_all _ _ _ x1 j h1, finite_of_all _ _ _ x2 j h2, finite_of_all _ _ _ x3 j h3, finite_of_all _ _ _ x4 j h4,
    finite_of_all _ _ _ x5 j h5, finite_of_all _ _ _ x6 j h6, finite_of_all _ _ _ x7 j h7, finite_of_all _ _ _ x8 j h8, finite_of_all _ _ _ x9 j h9⟩

omit hP in
theorem facts : Cert.Pre_q_finite.Facts := by constructor <;> decide

/-- The kernel's arguments as reals. -/
theorem args (m : (ℓ : Loc Cert.QKernelIdeal.nD Cert.QKernelIdeal.τ Cert.QKernelIdeal.sig) → Buf (Elt Ideal) ℓ) (hpre : Cert.Pre_QKernelIdeal_q_finite m) (c : Dev Cert.QKernelIdeal.nD) :
    ∃ T, QHost.Args (fun b => m (c, b)) T := by
  obtain ⟨f0, f1, f2, f3, f4, f5, f6, f7, f8, f9⟩ := finite _ _ _ _ _ _ _ _ _ _ (fun a => a.elim0) (congrFun (hpre c) fun a => a.elim0)
  exact ⟨⟨fun a b => EReal.toReal _, fun a => EReal.toReal _, fun a b d => EReal.toReal _, fun a => EReal.toReal _, fun a b d => EReal.toReal _, fun a b d => EReal.toReal _,
      fun a b d => EReal.toReal _, fun a b d => EReal.toReal _, fun a b d => EReal.toReal _, fun a b d => EReal.toReal _⟩,
    fun a b => (f0 (ix2 a b)).symm, fun a => (f1 (ix1 a)).symm, fun a b d => (f2 (ix3 a b d)).symm, fun a => (f3 (ix1 a)).symm, fun a b d => (f4 (ix3 a b d)).symm,
    fun a b d => (f5 (ix3 a b d)).symm, fun a b d => (f6 (ix3 a b d)).symm, fun a b d => (f7 (ix3 a b d)).symm, fun a b d => (f8 (ix3 a b d)).symm, fun a b d => (f9 (ix3 a b d)).symm⟩

/-- From memories that agree on the arguments, both programs leave the same seven arrays. -/
theorem algebraic : Cert.algebraic_QKernelIdeal_QReferenceIdeal_pre_q_finite := by
  pair_intro
  · run_from Cert.QKernelIdeal.Value.run_blocks m g
  · run_from Cert.QReferenceIdeal.Value.run m' g'
    all_goals
      obtain ⟨T, h⟩ := args m hpre c
      obtain ⟨a0, a1, a2, a3, a4, a5, a6, a7, a8, a9⟩ := hagree c
      have hr := QRef.Reads.mk (T := T) (fun a b => (congrFun a0 (ix2 a b)).trans (h.z a b)) (fun a => (congrFun a1 (ix1 a)).trans (h.gq a)) (fun a b d => (congrFun a2 (ix3 a b d)).trans (h.u a b d))
        (fun a => (congrFun a3 (ix1 a)).trans (h.gk a)) (fun a b d => (congrFun a4 (ix3 a b d)).trans (h.v a b d)) (fun a b d => (congrFun a5 (ix3 a b d)).trans (h.qn a b d))
        (fun a b d => (congrFun a6 (ix3 a b d)).trans (h.qr a b d)) (fun a b d => (congrFun a7 (ix3 a b d)).trans (h.kn a b d)) (fun a b d => (congrFun a8 (ix3 a b d)).trans (h.kr a b d))
        (fun a b d => (congrFun a9 (ix3 a b d)).trans (h.dv a b d))
    · refine (Cert.QReferenceIdeal.Read.val_main_v162_eq (StableHlo.launchContents m' c)).trans ?_
      funext i
      obtain ⟨s, k, rfl⟩ : ∃ (s : Fin 4096) (k : Fin 384), i = ix2 s k := ⟨⟨(i 0).val, (i 0).isLt⟩, ⟨(i 1).val, (i 1).isLt⟩, by blk_ext⟩
      exact (QRef.v159 hr s k).trans (QValue.arr12 h s k).symm
    · refine (Cert.QReferenceIdeal.Read.val_main_v163_eq (StableHlo.launchContents m' c)).trans ?_
      funext i
      obtain ⟨s, k, rfl⟩ : ∃ (s : Fin 4096) (k : Fin 256), i = ix2 s k := ⟨⟨(i 0).val, (i 0).isLt⟩, ⟨(i 1).val, (i 1).isLt⟩, by blk_ext⟩
      exact (QRef.v119 hr s k).trans (QValue.arr13 h s k).symm
    · refine (Cert.QReferenceIdeal.Read.val_main_v164_eq (StableHlo.launchContents m' c)).trans ?_
      funext i
      obtain ⟨s, k, rfl⟩ : ∃ (s : Fin 4096) (k : Fin 128), i = ix2 s k := ⟨⟨(i 0).val, (i 0).isLt⟩, ⟨(i 1).val, (i 1).isLt⟩, by blk_ext⟩
      exact (QRef.v164 hr s k).trans (QValue.arr14 h s k).symm
    · refine (Cert.QReferenceIdeal.Read.val_main_v166_eq (StableHlo.launchContents m' c)).trans ?_
      refine Eq.trans ?_ (QValue.arr15 h).symm
      funext i
      obtain ⟨j, a, e, rfl⟩ : ∃ (j : Fin 4) (a : Fin 96) (e : Fin 768), i = ix3 j a e := ⟨⟨(i 0).val, (i 0).isLt⟩, ⟨(i 1).val, (i 1).isLt⟩, ⟨(i 2).val, (i 2).isLt⟩, by blk_ext⟩
      exact QRef.v166 hr j a e
    · refine (Cert.QReferenceIdeal.Read.val_main_v168_eq (StableHlo.launchContents m' c)).trans ?_
      refine Eq.trans ?_ (QValue.arr16 h).symm
      funext i
      obtain ⟨j, a, e, rfl⟩ : ∃ (j : Fin 4) (a : Fin 64) (e : Fin 1024), i = ix3 j a e := ⟨⟨(i 0).val, (i 0).isLt⟩, ⟨(i 1).val, (i 1).isLt⟩, ⟨(i 2).val, (i 2).isLt⟩, by blk_ext⟩
      exact QRef.v168 hr j a e
    · refine (Cert.QReferenceIdeal.Read.val_main_v169_eq (StableHlo.launchContents m' c)).trans ?_
      refine Eq.trans ?_ (QValue.arr17 h).symm
      funext i
      obtain ⟨s, k, rfl⟩ : ∃ (s : Fin 1) (k : Fin 384), i = ix2 s k := ⟨⟨(i 0).val, (i 0).isLt⟩, ⟨(i 1).val, (i 1).isLt⟩, by blk_ext⟩
      exact QRef.v169 hr s k
    · refine (Cert.QReferenceIdeal.Read.val_main_v170_eq (StableHlo.launchContents m' c)).trans ?_
      refine Eq.trans ?_ (QValue.arr18 h).symm
      funext i
      obtain ⟨s, k, rfl⟩ : ∃ (s : Fin 1) (k : Fin 256), i = ix2 s k := ⟨⟨(i 0).val, (i 0).isLt⟩, ⟨(i 1).val, (i 1).isLt⟩, by blk_ext⟩
      exact QRef.v170 hr s k

omit hP in
/-- The reference runs to its end and leaves its arguments as they were. -/
theorem ref_frame : Cert.quiescent_QReferenceIdeal := by
  intro m g _
  exact (θ_run Cert.QReferenceIdeal.defs _ _).mono (fun r h => ⟨fun c => (h c).2.2.2.2.2.2.2, sem_eq_zero_of_no_sems (by decide) r.2⟩)
    (Cert.QReferenceIdeal.Value.run m g)

end Cert.Proof.QClaim

end
-- ==== Proof.FMath.lean ====
/- The running maximum, sum and weighted values of a softmax taken block by block, over the reals. -/
module

public import proofs.«01_k».proof.Proof.AMath

@[expose] public section

noncomputable section

namespace Cert.Proof.FMath

open Idealize.ShloMosaic Cert.Proof.Reals Cert.Proof.AMath

/-- The product of a query's row and a key's, before the factor. -/
def U (D : Data) (h s t : ℕ) : ℝ := ∑ c : Fin 128, D.Q h s c * D.K h t c

/-- The factor of the exponents to the base two. -/
def kap : ℝ := scale * (Real.log 2)⁻¹

theorem scale_pos : 0 < scale := by unfold scale; norm_num

theorem kap_pos : 0 < kap := mul_pos scale_pos (inv_pos.2 (Real.log_pos one_lt_two))

/-- Two to the power of a scaled difference. -/
theorem pow2 (x : ℝ) : Ideal.exp2 ((x * kap : ℝ) : EReal) = ((Real.exp (x * scale) : ℝ) : EReal) := by
  rw [Ideal.exp2_coe]
  refine congrArg _ ?_
  show (2 : ℝ) ^ (_ : ℝ) = _
  rw [Real.rpow_def_of_pos two_pos]
  have h2 : Real.log 2 ≠ 0 := (Real.log_pos one_lt_two).ne'
  unfold kap
  congr 1
  field_simp

/-- The running maximum `m`, sum `l` and weighted values `a` after the keys before row `n`. -/
def Carry (D : Data) (h s n : ℕ) (m l : EReal) (a : Fin 64 → EReal) : Prop :=
  (n = 0 ∧ m = ⊥ ∧ l = 0 ∧ ∀ d, a d = 0) ∨
    ∃ M : ℝ, m = M ∧ l = ((Real.exp (-(M * scale)) * ∑ t ∈ Finset.range n, D.w h s t : ℝ) : EReal) ∧
      ∀ d, a d = ((Real.exp (-(M * scale)) * ∑ t ∈ Finset.range n, D.v t h d.val * D.w h s t : ℝ) : EReal)

/-- What one key adds, at the maximum `M`. -/
theorem weight (D : Data) (h s t : ℕ) (M : ℝ) :
    (if t / 64 ≤ s / 64 then Ideal.exp2 (((U D h s t : EReal) - (M : EReal)) * (kap : EReal)) else 0)
      = ((Real.exp (-(M * scale)) * D.w h s t : ℝ) : EReal) := by
  unfold Data.w
  split_ifs
  · rw [← EReal.coe_sub, ← EReal.coe_mul, pow2, ← Real.exp_add]
    congr 2
    unfold Data.S U
    ring
  · simp

/-- One block of 512 keys more. -/
theorem Carry.step {D : Data} {h s n : ℕ} {m l : EReal} {a : Fin 64 → EReal} (H : Carry D h s n m l a)
    (x p : Fin 512 → EReal) (m' : EReal)
    (hx : ∀ j : Fin 512, x j = if (n + j.val) / 64 ≤ s / 64 then (U D h s (n + j.val) : EReal) else ⊥)
    (hv : n / 64 ≤ s / 64) (hm : m' = max m (Finset.fold max ⊥ x Finset.univ))
    (hp : ∀ j : Fin 512, p j = if (n + j.val) / 64 ≤ s / 64 then Ideal.exp2 (((U D h s (n + j.val) : EReal) - m') * (kap : EReal)) else 0) :
    Carry D h s (n + 512) m' (Ideal.exp2 ((m - m') * (kap : EReal)) * l + ∑ j, p j)
      (fun d => Ideal.exp2 ((m - m') * (kap : EReal)) * a d + ∑ j : Fin 512, (D.v (n + j.val) h d.val : EReal) * p j) := by
  obtain ⟨M1, e1⟩ := rowmax x (fun j => by rw [hx]; split_ifs; exacts [Or.inr ⟨_, rfl⟩, Or.inl rfl]) (t0 := 0)
    (by rw [hx]; simp only [Fin.val_zero, Nat.add_zero]; rw [if_pos hv])
  rw [e1] at hm
  obtain ⟨M', e⟩ : ∃ M' : ℝ, m' = M' := by
    rcases H with ⟨-, h1, -⟩ | ⟨M, h1, -⟩
    · exact ⟨M1, by rw [hm, h1, max_eq_right bot_le]⟩
    · exact ⟨max M M1, by rw [hm, h1]; exact (EReal.coe_strictMono.monotone.map_max).symm⟩
  have hp' : ∀ j, p j = ((Real.exp (-(M' * scale)) * D.w h s (n + j.val) : ℝ) : EReal) := fun j => by rw [hp, e, weight]
  have e2 : ∑ j, p j = ((Real.exp (-(M' * scale)) * ∑ j : Fin 512, D.w h s (n + j.val) : ℝ) : EReal) := by
    simp only [hp', ← coe_sum, Finset.mul_sum]
  have e3 : ∀ d : Fin 64, ∑ j : Fin 512, (D.v (n + j.val) h d.val : EReal) * p j
      = ((Real.exp (-(M' * scale)) * ∑ j : Fin 512, D.v (n + j.val) h d.val * D.w h s (n + j.val) : ℝ) : EReal) := fun d => by
    simp only [hp', ← EReal.coe_mul, ← coe_sum, Finset.mul_sum]
    refine congrArg _ (Finset.sum_congr rfl fun j _ => ?_)
    ring
  refine Or.inr ⟨M', e, ?_, fun d => ?_⟩
  · rw [e2, Finset.sum_range_add, ← Fin.sum_univ_eq_sum_range (fun j => D.w h s (n + j)) 512]
    rcases H with ⟨h0, h1, h2, -⟩ | ⟨M, h1, h2, -⟩
    · subst h0; rw [h2, mul_zero, zero_add]; simp
    · rw [h1, h2, e, ← EReal.coe_sub, ← EReal.coe_mul, pow2, ← EReal.coe_mul, ← EReal.coe_add, ← mul_assoc, ← Real.exp_add, mul_add]
      congr 4; ring
  · show _ * a d + _ = _
    rw [e3, Finset.sum_range_add, ← Fin.sum_univ_eq_sum_range (fun j => D.v (n + j) h d.val * D.w h s (n + j)) 512]
    rcases H with ⟨h0, h1, -, h2⟩ | ⟨M, h1, -, h2⟩
    · subst h0; rw [h2, mul_zero, zero_add]; simp
    · rw [h1, h2, e, ← EReal.coe_sub, ← EReal.coe_mul, pow2, ← EReal.coe_mul, ← EReal.coe_add, ← mul_assoc, ← Real.exp_add, mul_add]
      congr 4; ring

theorem Carry.start (D : Data) (h s : ℕ) {m l : EReal} {a : Fin 64 → EReal} (hm : m = ⊥) (hl : l = 0) (ha : ∀ d, a d = 0) : Carry D h s 0 m l a :=
  Or.inl ⟨rfl, hm, hl, ha⟩

/-- The head's output row: the values weighted by the softmax. -/
def out (D : Data) (h s d : ℕ) : ℝ := ∑ t : Fin 4096, D.p h s t * D.v t h d

/-- Keys past the row's own block carry no weight. -/
theorem range_all (D : Data) (h s n : ℕ) (hn : n ≤ 4096) (hs : s / 64 < n / 64) (f : ℕ → ℝ) :
    ∑ t ∈ Finset.range n, f t * D.w h s t = ∑ t : Fin 4096, f t * D.w h s t := by
  rw [Fin.sum_univ_eq_sum_range (fun t => f t * D.w h s t) 4096]
  refine Finset.sum_subset (Finset.range_mono hn) fun t _ ht => ?_
  have : n ≤ t := by simpa using ht
  unfold Data.w
  rw [if_neg (by have := Nat.div_le_div_right (c := 64) this; omega), mul_zero]

theorem Carry.done {D : Data} {h s n : ℕ} {m l : EReal} {a : Fin 64 → EReal} (H : Carry D h s n m l a) (hn : n ≤ 4096) (hs : s / 64 < n / 64)
    (hs' : s < 4096) :
    (∀ d, a d / l = (out D h s d.val : EReal)) ∧
      m * (kap : EReal) + Ideal.log l * (((Real.log 2)⁻¹ : ℝ) : EReal) = ((Real.log (D.Z h s) / Real.log 2 : ℝ) : EReal) := by
  have hZ : 0 < D.Z h s := D.Z_pos h ⟨s, hs'⟩
  have hw : ∑ t ∈ Finset.range n, D.w h s t = D.Z h s := by
    have := range_all D h s n hn hs (fun _ => 1)
    simpa [Data.Z] using this
  rcases H with ⟨h0, -⟩ | ⟨M, h1, h2, h3⟩
  · subst h0; omega
  rw [hw] at h2
  have hl : 0 < Real.exp (-(M * scale)) * D.Z h s := mul_pos (Real.exp_pos _) hZ
  refine ⟨fun d => ?_, ?_⟩
  · rw [h3, h2, range_all D h s n hn hs (fun t => D.v t h d.val), ← EReal.coe_div]
    refine congrArg _ ?_
    rw [mul_div_mul_left _ _ (Real.exp_pos _).ne', Finset.sum_div]
    unfold out Data.p
    refine Finset.sum_congr rfl fun t _ => ?_
    ring
  · rw [h1, h2]
    have : Ideal.log ((Real.exp (-(M * scale)) * D.Z h s : ℝ) : EReal) = ((-(M * scale) + Real.log (D.Z h s) : ℝ) : EReal) := by
      show (if _ then _ else _) = _
      rw [if_neg (not_le.2 hl), Real.log_mul (Real.exp_pos _).ne' hZ.ne', Real.log_exp]
    rw [this, ← EReal.coe_mul, ← EReal.coe_mul, ← EReal.coe_add]
    refine congrArg _ ?_
    unfold kap
    ring

end Cert.Proof.FMath

end
-- ==== Proof.FPay.lean ====
/- One block of keys: the running maximum, sum and weighted values of one head after it. -/
module

public import proofs.«01_k».proof.Proof.FMath
public import proofs.«01_k».proof.Proof.Gen.FKernelIdeal.Skeleton
public import Idealize.ShloMosaic.Lib.Pointwise

@[expose] public section

set_option maxRecDepth 16384

noncomputable section

namespace Cert.Proof.FPay

open Idealize.ShloMosaic Cert.Proof.Reals Cert.Proof.AMath Cert.Proof.FMath
open Cert.FKernelIdeal Cert.FKernelIdeal.Gen

/-- A head's keys and values of 512 rows from row `t`. -/
structure Keys (D : Data) (h t : ℕ) (k : Vec Ideal S512x128 .bf16) (v : Vec Ideal S64x512 .bf16) : Prop where
  k (j : Fin 512) (c : Fin 128) : k (ix2 j c) = (D.K h (t + j.val) c.val : EReal)
  v (d : Fin 64) (j : Fin 512) : v (ix2 d j) = (D.v (t + j.val) h d.val : EReal)

/-- A head's transposed queries of 512 rows from row `s`. -/
def Rows (D : Data) (h s : ℕ) (q : FVec Ideal S128x512 .bf16) : Prop :=
  ∀ (c : Fin 128) (r : Fin 512), q (ix2 c r) = (D.Q h (s + r.val) c.val : EReal)

theorem named : (Named.named κ "scale_log2e" 0x3E16C740#32 : Ideal .f32) = ((scale * (Real.log 2)⁻¹ : ℝ) : EReal) :=
  IdealRules.named_const.ideal_named_scalar _ _ _ _ rfl

theorem named2 : (Named.named κ "log2e" 0x3FB8AA3B#32 : Ideal .f32) = (((Real.log 2)⁻¹ : ℝ) : EReal) :=
  IdealRules.named_const.ideal_named_scalar _ _ _ _ rfl

variable {D : Data} {h s t : ℕ} {q : FVec Ideal S128x512 .bf16} {k : Vec Ideal S512x128 .bf16} {v : Vec Ideal S64x512 .bf16}

/-- A key's row times a query's column. -/
theorem score (R : Rows D h s q) (T : Keys D h t k v) (j r : Fin 512) :
    (∑ c : Fin 128, k (ix2 j c) * q (ix2 c r) : EReal) = (U D h (s + r.val) (t + j.val) : EReal) := by
  simp only [R _ _, T.k, ← EReal.coe_mul, ← coe_sum]
  refine congrArg _ (Finset.sum_congr rfl fun c _ => mul_comm _ _)

theorem max_at (R : Rows D h s q) (T : Keys D h t k v) (m : FVec Ideal S1x512 .f32) (r : Fin 512) :
    k0_pay4 q m k (ix2 (0 : Fin 1) r) = max (m (ix2 (0 : Fin 1) r)) (Finset.fold max ⊥ (fun j : Fin 512 => (U D h (s + r.val) (t + j.val) : EReal)) Finset.univ) := by
  pointwise [k0_pay4]
  rw [ninf_f32]
  simp only [score R T]

theorem max_mask (R : Rows D h s q) (T : Keys D h t k v) (b : IVec S512x512 1) (m : FVec Ideal S1x512 .f32) (r : Fin 512) :
    k0_pay107 b q m k (ix2 (0 : Fin 1) r) = max (m (ix2 (0 : Fin 1) r)) (Finset.fold max ⊥ (fun j : Fin 512 =>
      Scalar.select (b (ix2 j r)) (U D h (s + r.val) (t + j.val) : EReal) ⊥) Finset.univ) := by
  pointwise [k0_pay107]
  rw [ninf_f32]
  simp only [score R T]

theorem weight_at (R : Rows D h s q) (T : Keys D h t k v) (m : FVec Ideal S1x512 .f32) (j r : Fin 512) :
    k0_pay6 q m k k (ix2 j r) = Ideal.exp2 (((U D h (s + r.val) (t + j.val) : EReal) - k0_pay4 q m k (ix2 (0 : Fin 1) r)) * (kap : EReal)) := by
  generalize hx : k0_pay4 q m k = x
  pointwise [k0_pay6]
  simp only [hx, score R T, named]
  rfl

theorem weight_mask (R : Rows D h s q) (T : Keys D h t k v) (b : IVec S512x512 1) (m : FVec Ideal S1x512 .f32) (j r : Fin 512) :
    k0_pay109 b q m k k (ix2 j r) = Scalar.select (b (ix2 j r))
      (Ideal.exp2 (((U D h (s + r.val) (t + j.val) : EReal) - k0_pay107 b q m k (ix2 (0 : Fin 1) r)) * (kap : EReal))) 0 := by
  generalize hx : k0_pay107 b q m k = x
  pointwise [k0_pay109]
  simp only [hx, score R T, named]
  rfl

/-- A block whose keys are all visible. -/
theorem early (R : Rows D h s q) (T : Keys D h t k v) (hv : t + 512 ≤ s) (m l : FVec Ideal S1x512 .f32) (a : FVec Ideal S64x512 .f32) (r : Fin 512)
    (H : Carry D h (s + r.val) t (m (ix2 (0 : Fin 1) r)) (l (ix2 (0 : Fin 1) r)) (fun d => a (ix2 d r))) :
    Carry D h (s + r.val) (t + 512) (k0_pay4 q m k (ix2 (0 : Fin 1) r)) (k0_pay7 q m l k k (ix2 (0 : Fin 1) r)) (fun d => k0_pay8 q m a k k v (ix2 d r)) := by
  have e := H.step (fun j => (U D h (s + r.val) (t + j.val) : EReal)) (fun j => k0_pay6 q m k k (ix2 j r)) (k0_pay4 q m k (ix2 (0 : Fin 1) r))
    (fun j => (if_pos (by omega)).symm) (by omega) (max_at R T m r) (fun j => by rw [weight_at R T, if_pos (by omega)])
  have e1 : k0_pay7 q m l k k (ix2 (0 : Fin 1) r)
      = Ideal.exp2 ((m (ix2 (0 : Fin 1) r) - k0_pay4 q m k (ix2 (0 : Fin 1) r)) * (kap : EReal)) * l (ix2 (0 : Fin 1) r) + ∑ j : Fin 512, k0_pay6 q m k k (ix2 j r) := by
    generalize hx : k0_pay4 q m k = x
    generalize hy : k0_pay6 q m k k = y
    pointwise [k0_pay7, k0_pay5]
    simp only [hx, hy, named]
    rfl
  have e2 : ∀ d : Fin 64, k0_pay8 q m a k k v (ix2 d r)
      = Ideal.exp2 ((m (ix2 (0 : Fin 1) r) - k0_pay4 q m k (ix2 (0 : Fin 1) r)) * (kap : EReal)) * a (ix2 d r)
        + ∑ j : Fin 512, (D.v (t + j.val) h d.val : EReal) * k0_pay6 q m k k (ix2 j r) := fun d => by
    generalize hx : k0_pay4 q m k = x
    generalize hy : k0_pay6 q m k k = y
    pointwise [k0_pay8, k0_pay5]
    simp only [hx, hy, named, T.v]
    rfl
  rw [e1]
  simp only [e2]
  exact e

/-- The block on the diagonal. -/
theorem last (R : Rows D h s q) (T : Keys D h s k v) (b : IVec S512x512 1) (h64 : 64 ∣ s)
    (hb : ∀ j r : Fin 512, b (ix2 j r) = BitVec.ofBool (decide (j.val / 64 ≤ r.val / 64)))
    (m l : FVec Ideal S1x512 .f32) (a : FVec Ideal S64x512 .f32) (r : Fin 512)
    (H : Carry D h (s + r.val) s (m (ix2 (0 : Fin 1) r)) (l (ix2 (0 : Fin 1) r)) (fun d => a (ix2 d r))) :
    Carry D h (s + r.val) (s + 512) (k0_pay107 b q m k (ix2 (0 : Fin 1) r)) (k0_pay110 b q m l k k (ix2 (0 : Fin 1) r))
      (fun d => k0_pay111 b q m a k k v (ix2 d r)) := by
  have hs : ∀ (j : Fin 512) (x y : EReal), Scalar.select (b (ix2 j r)) x y = if (s + j.val) / 64 ≤ (s + r.val) / 64 then x else y := fun j x y => by
    rw [hb]
    by_cases c : j.val / 64 ≤ r.val / 64
    · rw [if_pos (by omega)]; simp [c, Scalar.select]
    · rw [if_neg (by omega)]; simp [c, Scalar.select]
  have e := H.step (fun j => Scalar.select (b (ix2 j r)) (U D h (s + r.val) (s + j.val) : EReal) ⊥) (fun j => k0_pay109 b q m k k (ix2 j r))
    (k0_pay107 b q m k (ix2 (0 : Fin 1) r)) (fun j => hs j _ _) (by omega) (max_mask R T b m r) (fun j => by rw [weight_mask R T, hs])
  have e1 : k0_pay110 b q m l k k (ix2 (0 : Fin 1) r)
      = Ideal.exp2 ((m (ix2 (0 : Fin 1) r) - k0_pay107 b q m k (ix2 (0 : Fin 1) r)) * (kap : EReal)) * l (ix2 (0 : Fin 1) r)
        + ∑ j : Fin 512, k0_pay109 b q m k k (ix2 j r) := by
    generalize hx : k0_pay107 b q m k = x
    generalize hy : k0_pay109 b q m k k = y
    pointwise [k0_pay110, k0_pay108]
    simp only [hx, hy, named]
    rfl
  have e2 : ∀ d : Fin 64, k0_pay111 b q m a k k v (ix2 d r)
      = Ideal.exp2 ((m (ix2 (0 : Fin 1) r) - k0_pay107 b q m k (ix2 (0 : Fin 1) r)) * (kap : EReal)) * a (ix2 d r)
        + ∑ j : Fin 512, (D.v (s + j.val) h d.val : EReal) * k0_pay109 b q m k k (ix2 j r) := fun d => by
    generalize hx : k0_pay107 b q m k = x
    generalize hy : k0_pay109 b q m k k = y
    pointwise [k0_pay111, k0_pay108]
    simp only [hx, hy, named, T.v]
    rfl
  rw [e1]
  simp only [e2]
  exact e

/-- The row's logarithm to the base two. -/
theorem lse_at (m l : FVec Ideal S1x512 .f32) (r : Fin 512) (c : Fin 128) :
    k0_pay153 m l (ix2 r c) = m (ix2 (0 : Fin 1) r) * (kap : EReal) + Ideal.log (l (ix2 (0 : Fin 1) r)) * (((Real.log 2)⁻¹ : ℝ) : EReal) := by
  pointwise [k0_pay153]
  simp only [named, named2]
  rfl

end Cert.Proof.FPay

end
-- ==== Proof.FTrip.lean ====
/- One trip of the loop over earlier key blocks: what it yields. -/
module

public import proofs.«01_k».proof.Proof.FPay
public import proofs.«01_k».proof.Proof.Gen.FKernelIdeal.Loops
import all proofs.«01_k».proof.Proof.Gen.FKernelIdeal.Loops

@[expose] public section

set_option maxRecDepth 16384

noncomputable section

namespace Cert.Proof.FTrip

open Idealize.ShloMosaic Cert.Proof.AMath Cert.Proof.FMath Cert.Proof.FPay
open Cert.FKernelIdeal Cert.FKernelIdeal.Gen

/-- The keys loaded from the rows and columns at `off`. -/
abbrev keyTile (a : Memref sig .tc .vmem S4096x1024 .bf16) (X : BufTy.Contents (Elt Ideal) a.view.ty) {off : Fin 2 → ℕ}
    (inb : ∀ j, off j + S512x128.size j ≤ S4096x1024.size j) : Vec Ideal S512x128 .bf16 :=
  View.readAt (Elt Ideal) a.view (Rect.unit (s := S4096x1024) off S512x128.size inb).toLoadRect X

/-- The transposed values loaded at `off`. -/
abbrev valTile (a : Memref sig .tc .vmem S512x4096 .bf16) (X : BufTy.Contents (Elt Ideal) a.view.ty) {off : Fin 2 → ℕ}
    (inb : ∀ j, off j + S64x512.size j ≤ S512x4096.size j) : Vec Ideal S64x512 .bf16 :=
  View.readAt (Elt Ideal) a.view (Rect.unit (s := S512x4096) off S64x512.size inb).toLoadRect X

/-- One head's running maximum, sum and weighted values. -/
abbrev One := FVec Ideal S1x512 .f32 × FVec Ideal S1x512 .f32 × FVec Ideal S64x512 .f32

/-- What eight heads carry. -/
abbrev Eight := FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32

/-- Head `h`'s part of them. -/
def pick (S : Eight) (h : Fin 8) : One := match h with
  | 0 => (S.1, S.2.1, S.2.2.1)
  | 1 => (S.2.2.2.1, S.2.2.2.2.1, S.2.2.2.2.2.1)
  | 2 => (S.2.2.2.2.2.2.1, S.2.2.2.2.2.2.2.1, S.2.2.2.2.2.2.2.2.1)
  | 3 => (S.2.2.2.2.2.2.2.2.2.1, S.2.2.2.2.2.2.2.2.2.2.1, S.2.2.2.2.2.2.2.2.2.2.2.1)
  | 4 => (S.2.2.2.2.2.2.2.2.2.2.2.2.1, S.2.2.2.2.2.2.2.2.2.2.2.2.2.1, S.2.2.2.2.2.2.2.2.2.2.2.2.2.2.1)
  | 5 => (S.2.2.2.2.2.2.2.2.2.2.2.2.2.2.2.1, S.2.2.2.2.2.2.2.2.2.2.2.2.2.2.2.2.1, S.2.2.2.2.2.2.2.2.2.2.2.2.2.2.2.2.2.1)
  | 6 => (S.2.2.2.2.2.2.2.2.2.2.2.2.2.2.2.2.2.2.1, S.2.2.2.2.2.2.2.2.2.2.2.2.2.2.2.2.2.2.2.1, S.2.2.2.2.2.2.2.2.2.2.2.2.2.2.2.2.2.2.2.2.1)
  | 7 => (S.2.2.2.2.2.2.2.2.2.2.2.2.2.2.2.2.2.2.2.2.2.1, S.2.2.2.2.2.2.2.2.2.2.2.2.2.2.2.2.2.2.2.2.2.2.1, S.2.2.2.2.2.2.2.2.2.2.2.2.2.2.2.2.2.2.2.2.2.2.2)

/-- One head's step over a block of keys. -/
abbrev stepOne (q : FVec Ideal S128x512 .bf16) (A : One) (k k' : FVec Ideal S512x128 .bf16) (v : FVec Ideal S64x512 .bf16) : One :=
  (k0_pay4 q A.1 k, k0_pay7 q A.1 A.2.1 k k', k0_pay8 q A.1 A.2.2 k k' v)

variable (𝒱 : Variants) (c : Dev nD) (bd : Option 𝒱.V) (i : grid0.Coords)
  (a2 : Memref sig .tc .vmem S1024x512 .bf16) (w2 : a2.IsWhole)
  (a3 : Memref sig .tc .vmem S4096x1024 .bf16) (w3 : a3.IsWhole)
  (a4 : Memref sig .tc .vmem S4096x1024 .bf16) (w4 : a4.IsWhole)
  (a5 : Memref sig .tc .vmem S512x4096 .bf16) (w5 : a5.IsWhole)
  (a6 : Memref sig .tc .vmem S512x512 .f32) (w6 : a6.IsWhole)
  (a7 : Memref sig .tc .vmem S512x1024 .f32) (w7 : a7.IsWhole)
  (b : BitVec 32) (m0 m1 : IVec S512x512 32) (m2 : IVec S512x512 1) (m3 m4 : IVec S512x512 32)
  (q0 q1 q2 q3 q4 q5 q6 q7 : Vec Ideal S128x512 .bf16)
  (X : BufTy.Contents (Elt Ideal) a3.view.ty) (X' : BufTy.Contents (Elt Ideal) a4.view.ty) (Y : BufTy.Contents (Elt Ideal) a5.view.ty)

/-- What a trip yields, from `T` on: each head's payloads are the first head's. -/
abbrev Yields (k : Fin (k0_t1_loop i).trips) (S T : Eight) : Prop :=
  pick T 0 = stepOne (k0_pay86 q0) (pick S 0) (keyTile a3 X (k0_off1_inb i k)) (keyTile a4 X' (k0_off1_inb i k)) (valTile a5 Y (k0_off2_inb i k)) ∧
  pick T 1 = stepOne (k0_pay86 q1) (pick S 1) (keyTile a3 X (k0_off3_inb i k)) (keyTile a4 X' (k0_off3_inb i k)) (valTile a5 Y (k0_off4_inb i k)) ∧
  pick T 2 = stepOne (k0_pay86 q2) (pick S 2) (keyTile a3 X (k0_off5_inb i k)) (keyTile a4 X' (k0_off5_inb i k)) (valTile a5 Y (k0_off6_inb i k)) ∧
  pick T 3 = stepOne (k0_pay86 q3) (pick S 3) (keyTile a3 X (k0_off7_inb i k)) (keyTile a4 X' (k0_off7_inb i k)) (valTile a5 Y (k0_off8_inb i k)) ∧
  pick T 4 = stepOne (k0_pay86 q4) (pick S 4) (keyTile a3 X (k0_off9_inb i k)) (keyTile a4 X' (k0_off9_inb i k)) (valTile a5 Y (k0_off10_inb i k)) ∧
  pick T 5 = stepOne (k0_pay86 q5) (pick S 5) (keyTile a3 X (k0_off11_inb i k)) (keyTile a4 X' (k0_off11_inb i k)) (valTile a5 Y (k0_off12_inb i k)) ∧
  pick T 6 = stepOne (k0_pay86 q6) (pick S 6) (keyTile a3 X (k0_off13_inb i k)) (keyTile a4 X' (k0_off13_inb i k)) (valTile a5 Y (k0_off14_inb i k)) ∧
  pick T 7 = stepOne (k0_pay86 q7) (pick S 7) (keyTile a3 X (k0_off15_inb i k)) (keyTile a4 X' (k0_off15_inb i k)) (valTile a5 Y (k0_off16_inb i k))

theorem yields (k : Fin (k0_t1_loop i).trips) (S : Eight) : Yields i a3 a4 a5 q0 q1 q2 q3 q4 q5 q6 q7 X X' Y k S
    (tripR_k0_t1 (F := Ideal) 𝒱 c bd i a2 w2 a3 w3 a4 w4 a5 w5 a6 w6 a7 w7 b m0 m1 m2 m3 m4 q0 q1 q2 q3 q4 q5 q6 q7 X X' Y k S) := by
  unfold tripR_k0_t1 trip_k0_t1
  refine ⟨?_, ?_, ?_, ?_, ?_, ?_, ?_, ?_⟩ <;> rfl

end Cert.Proof.FTrip
-- ==== Proof.FLoop.lean ====
/- The loop over earlier key blocks: what it carries after each trip. -/
module

public import proofs.«01_k».proof.Proof.FTrip

@[expose] public section

set_option maxRecDepth 16384

noncomputable section

namespace Cert.Proof.FLoop

open Idealize.ShloMosaic Cert.Proof.AMath Cert.Proof.FMath Cert.Proof.FPay Cert.Proof.FTrip
open Cert.FKernelIdeal Cert.FKernelIdeal.Gen

/-- A query block loops over the key blocks before its own. -/
theorem trips_eq (i : grid0.Coords) : (k0_t1_loop i).trips = (i 1).val := by
  have e : ∀ n : Fin 8, Scf.trips 0#32 (Scalar.addi 0#32 (Scalar.muli (Scalar.divsi (Scalar.subi (BitVec.ofNat 32 n.val) 0#32) 1#32) 1#32)) 1#32 = n.val := by
    decide +kernel
  exact e (i 1)

theorem earlier (i : grid0.Coords) (k : Fin (k0_t1_loop i).trips) : k.val < (i 1).val ∧ (i 1).val < 8 := by
  exact ⟨lt_of_lt_of_eq k.isLt (trips_eq i), (i 1).isLt⟩

theorem word (i : grid0.Coords) (k : Fin (k0_t1_loop i).trips) : (Scalar.indexCast (Scalar.muli (Scf.iv 0#32 1#32 k.val) 512#32)).toNat = 512 * k.val := by
  have e : ∀ n : Fin 8, (Scalar.indexCast (Scalar.muli (Scf.iv 0#32 1#32 n.val) 512#32)).toNat = 512 * n.val := by decide +kernel
  exact e ⟨k.val, by have := earlier i k; omega⟩

theorem off1 (i : grid0.Coords) (k : Fin (k0_t1_loop i).trips) : k0_off1 i k = ![512 * k.val, 0] := congrArg (fun n => ![n, 0]) (word i k)
theorem off2 (i : grid0.Coords) (k : Fin (k0_t1_loop i).trips) : k0_off2 i k = ![0, 512 * k.val] := congrArg (fun n => ![0, n]) (word i k)
theorem off3 (i : grid0.Coords) (k : Fin (k0_t1_loop i).trips) : k0_off3 i k = ![512 * k.val, 128] := congrArg (fun n => ![n, 128]) (word i k)
theorem off4 (i : grid0.Coords) (k : Fin (k0_t1_loop i).trips) : k0_off4 i k = ![64, 512 * k.val] := congrArg (fun n => ![64, n]) (word i k)
theorem off5 (i : grid0.Coords) (k : Fin (k0_t1_loop i).trips) : k0_off5 i k = ![512 * k.val, 256] := congrArg (fun n => ![n, 256]) (word i k)
theorem off6 (i : grid0.Coords) (k : Fin (k0_t1_loop i).trips) : k0_off6 i k = ![128, 512 * k.val] := congrArg (fun n => ![128, n]) (word i k)
theorem off7 (i : grid0.Coords) (k : Fin (k0_t1_loop i).trips) : k0_off7 i k = ![512 * k.val, 384] := congrArg (fun n => ![n, 384]) (word i k)
theorem off8 (i : grid0.Coords) (k : Fin (k0_t1_loop i).trips) : k0_off8 i k = ![192, 512 * k.val] := congrArg (fun n => ![192, n]) (word i k)
theorem off9 (i : grid0.Coords) (k : Fin (k0_t1_loop i).trips) : k0_off9 i k = ![512 * k.val, 512] := congrArg (fun n => ![n, 512]) (word i k)
theorem off10 (i : grid0.Coords) (k : Fin (k0_t1_loop i).trips) : k0_off10 i k = ![256, 512 * k.val] := congrArg (fun n => ![256, n]) (word i k)
theorem off11 (i : grid0.Coords) (k : Fin (k0_t1_loop i).trips) : k0_off11 i k = ![512 * k.val, 640] := congrArg (fun n => ![n, 640]) (word i k)
theorem off12 (i : grid0.Coords) (k : Fin (k0_t1_loop i).trips) : k0_off12 i k = ![320, 512 * k.val] := congrArg (fun n => ![320, n]) (word i k)
theorem off13 (i : grid0.Coords) (k : Fin (k0_t1_loop i).trips) : k0_off13 i k = ![512 * k.val, 768] := congrArg (fun n => ![n, 768]) (word i k)
theorem off14 (i : grid0.Coords) (k : Fin (k0_t1_loop i).trips) : k0_off14 i k = ![384, 512 * k.val] := congrArg (fun n => ![384, n]) (word i k)
theorem off15 (i : grid0.Coords) (k : Fin (k0_t1_loop i).trips) : k0_off15 i k = ![512 * k.val, 896] := congrArg (fun n => ![n, 896]) (word i k)
theorem off16 (i : grid0.Coords) (k : Fin (k0_t1_loop i).trips) : k0_off16 i k = ![448, 512 * k.val] := congrArg (fun n => ![448, n]) (word i k)

theorem keyTile_at (a : Memref sig .tc .vmem S4096x1024 .bf16) (X : BufTy.Contents (Elt Ideal) a.view.ty) {off : Fin 2 → ℕ}
    (inb : ∀ j, off j + S512x128.size j ≤ S4096x1024.size j) {n m : ℕ} (e : off = ![n, m]) (hn : n + 512 ≤ 4096) (hm : m + 128 ≤ 1024) (j : Fin 512) (c : Fin 128) :
    keyTile a X inb (ix2 j c) = a.view.read (Elt Ideal) X (ix2 (⟨n + j.val, by omega⟩ : Fin 4096) (⟨m + c.val, by omega⟩ : Fin 1024)) := by
  subst e
  exact congrArg (a.view.read (Elt Ideal) X) (funext fun b => Fin.ext (by
    match b with
    | ⟨0, _⟩ => show n + 1 * j.val = n + j.val; omega
    | ⟨1, _⟩ => show m + 1 * c.val = m + c.val; omega))

theorem valTile_at (a : Memref sig .tc .vmem S512x4096 .bf16) (X : BufTy.Contents (Elt Ideal) a.view.ty) {off : Fin 2 → ℕ}
    (inb : ∀ j, off j + S64x512.size j ≤ S512x4096.size j) {n m : ℕ} (e : off = ![m, n]) (hn : n + 512 ≤ 4096) (hm : m + 64 ≤ 512) (c : Fin 64) (j : Fin 512) :
    valTile a X inb (ix2 c j) = a.view.read (Elt Ideal) X (ix2 (⟨m + c.val, by omega⟩ : Fin 512) (⟨n + j.val, by omega⟩ : Fin 4096)) := by
  subst e
  exact congrArg (a.view.read (Elt Ideal) X) (funext fun b => Fin.ext (by
    match b with
    | ⟨0, _⟩ => show m + 1 * c.val = m + c.val; omega
    | ⟨1, _⟩ => show n + 1 * j.val = n + j.val; omega))

/-- The keys and transposed values of the eight heads, all rows. -/
structure Held (D : Data) (x x' : Vec Ideal S4096x1024 .bf16) (y : Vec Ideal S512x4096 .bf16) : Prop where
  k (t : Fin 4096) (c : Fin 1024) : x (ix2 t c) = (D.K (c.val / 128) t.val (c.val % 128) : EReal)
  same : x' = x
  v (c : Fin 512) (t : Fin 4096) : y (ix2 c t) = (D.v t.val (c.val / 64) (c.val % 64) : EReal)

theorem Held.keys {D : Data} {a a' : Memref sig .tc .vmem S4096x1024 .bf16} {a'' : Memref sig .tc .vmem S512x4096 .bf16}
    {X : BufTy.Contents (Elt Ideal) a.view.ty} {X' : BufTy.Contents (Elt Ideal) a'.view.ty} {Y : BufTy.Contents (Elt Ideal) a''.view.ty}
    (T : Held D (a.view.read (Elt Ideal) X) (a'.view.read (Elt Ideal) X') (a''.view.read (Elt Ideal) Y))
    (h t : ℕ) (hh : h < 8) (ht : t + 512 ≤ 4096) {off off' : Fin 2 → ℕ}
    (inb : ∀ j, off j + S512x128.size j ≤ S4096x1024.size j) (inb' : ∀ j, off' j + S64x512.size j ≤ S512x4096.size j)
    (e : off = ![t, 128 * h]) (e' : off' = ![64 * h, t]) :
    keyTile a' X' inb = keyTile a X inb ∧ Keys D h t (keyTile a X inb) (valTile a'' Y inb') := by
  refine ⟨funext fun j => congrFun T.same _, ⟨fun j c => ?_, fun d j => ?_⟩⟩
  · rw [keyTile_at a X inb e ht (by omega), T.k]
    have e1 : (128 * h + c.val) / 128 = h := by omega
    have e2 : (128 * h + c.val) % 128 = c.val := by omega
    simp only [e1, e2]
  · rw [valTile_at a'' Y inb' e' ht (by omega), T.v]
    have e1 : (64 * h + d.val) / 64 = h := by omega
    have e2 : (64 * h + d.val) % 64 = d.val := by omega
    simp only [e1, e2]

/-- One head's carried vectors after the keys before row `n`. -/
def Has (D : Data) (h s n : ℕ) (A : One) : Prop :=
  ∀ r : Fin 512, Carry D h (s + r.val) n (A.1 (ix2 (0 : Fin 1) r)) (A.2.1 (ix2 (0 : Fin 1) r)) (fun d => A.2.2 (ix2 d r))

theorem Has.step {D : Data} {h s t : ℕ} {q : FVec Ideal S128x512 .bf16} {k k' : FVec Ideal S512x128 .bf16} {v : FVec Ideal S64x512 .bf16} {A : One}
    (H : Has D h s t A) (R : Rows D h s q) (T : k' = k ∧ Keys D h t k v) (hv : t + 512 ≤ s) : Has D h s (t + 512) (stepOne q A k k' v) := by
  rw [T.1]
  exact fun r => early R T.2 hv A.1 A.2.1 A.2.2 r (H r)

variable (D : Data)
variable (𝒱 : Variants) (c : Dev nD) (bd : Option 𝒱.V) (i : grid0.Coords)
  (a2 : Memref sig .tc .vmem S1024x512 .bf16) (w2 : a2.IsWhole)
  (a3 : Memref sig .tc .vmem S4096x1024 .bf16) (w3 : a3.IsWhole)
  (a4 : Memref sig .tc .vmem S4096x1024 .bf16) (w4 : a4.IsWhole)
  (a5 : Memref sig .tc .vmem S512x4096 .bf16) (w5 : a5.IsWhole)
  (a6 : Memref sig .tc .vmem S512x512 .f32) (w6 : a6.IsWhole)
  (a7 : Memref sig .tc .vmem S512x1024 .f32) (w7 : a7.IsWhole)
  (b : BitVec 32) (m0 m1 : IVec S512x512 32) (m2 : IVec S512x512 1) (m3 m4 : IVec S512x512 32)
  (q0 q1 q2 q3 q4 q5 q6 q7 : Vec Ideal S128x512 .bf16)
  (X : BufTy.Contents (Elt Ideal) a3.view.ty) (X' : BufTy.Contents (Elt Ideal) a4.view.ty) (Y : BufTy.Contents (Elt Ideal) a5.view.ty)
  (T : Held D (a3.view.read (Elt Ideal) X) (a4.view.read (Elt Ideal) X') (a5.view.read (Elt Ideal) Y))
  (R0 : Rows D 0 (512 * (i 1).val) (k0_pay86 q0))
  (R1 : Rows D 1 (512 * (i 1).val) (k0_pay86 q1))
  (R2 : Rows D 2 (512 * (i 1).val) (k0_pay86 q2))
  (R3 : Rows D 3 (512 * (i 1).val) (k0_pay86 q3))
  (R4 : Rows D 4 (512 * (i 1).val) (k0_pay86 q4))
  (R5 : Rows D 5 (512 * (i 1).val) (k0_pay86 q5))
  (R6 : Rows D 6 (512 * (i 1).val) (k0_pay86 q6))
  (R7 : Rows D 7 (512 * (i 1).val) (k0_pay86 q7))

include T R0 R1 R2 R3 R4 R5 R6 R7 in
theorem after (S0 : Eight) (h0 : ∀ h : Fin 8, Has D h.val (512 * (i 1).val) 0 (pick S0 h)) (k : ℕ) (hk : k ≤ (k0_t1_loop i).trips) (h : Fin 8) :
    Has D h.val (512 * (i 1).val) (512 * k) (pick (st_k0_t1 (F := Ideal) 𝒱 c bd i a2 w2 a3 w3 a4 w4 a5 w5 a6 w6 a7 w7 b m0 m1 m2 m3 m4 q0 q1 q2 q3 q4 q5 q6 q7 X X' Y S0 k) h) := by
  induction k generalizing h with
  | zero =>
    rw [st_k0_t1.eq_1]
    exact h0 h
  | succ k ih =>
    have H := ih (by omega)
    have hlt : k < (k0_t1_loop i).trips := by omega
    have hb := earlier i ⟨k, hlt⟩
    simp only at hb
    have hv : 512 * k + 512 ≤ 512 * (i 1).val := by omega
    have hs : 512 * k + 512 ≤ 4096 := by omega
    have Z := yields 𝒱 c bd i a2 w2 a3 w3 a4 w4 a5 w5 a6 w6 a7 w7 b m0 m1 m2 m3 m4 q0 q1 q2 q3 q4 q5 q6 q7 X X' Y ⟨k, hlt⟩ (st_k0_t1 (F := Ideal) 𝒱 c bd i a2 w2 a3 w3 a4 w4 a5 w5 a6 w6 a7 w7 b m0 m1 m2 m3 m4 q0 q1 q2 q3 q4 q5 q6 q7 X X' Y S0 k)
    rw [st_k0_t1_succ 𝒱 c bd i a2 w2 a3 w3 a4 w4 a5 w5 a6 w6 a7 w7 b m0 m1 m2 m3 m4 q0 q1 q2 q3 q4 q5 q6 q7 X X' Y S0 ⟨k, hlt⟩]
    generalize st_k0_t1 (F := Ideal) 𝒱 c bd i a2 w2 a3 w3 a4 w4 a5 w5 a6 w6 a7 w7 b m0 m1 m2 m3 m4 q0 q1 q2 q3 q4 q5 q6 q7 X X' Y S0 k = S at H Z ⊢
    obtain ⟨z0, z1, z2, z3, z4, z5, z6, z7⟩ := Z
    match h with
    | 0 => rw [z0]; exact (H 0).step R0 (T.keys 0 (512 * k) (by omega) hs _ _ (off1 i ⟨k, hlt⟩) (off2 i ⟨k, hlt⟩)) hv
    | 1 => rw [z1]; exact (H 1).step R1 (T.keys 1 (512 * k) (by omega) hs _ _ (off3 i ⟨k, hlt⟩) (off4 i ⟨k, hlt⟩)) hv
    | 2 => rw [z2]; exact (H 2).step R2 (T.keys 2 (512 * k) (by omega) hs _ _ (off5 i ⟨k, hlt⟩) (off6 i ⟨k, hlt⟩)) hv
    | 3 => rw [z3]; exact (H 3).step R3 (T.keys 3 (512 * k) (by omega) hs _ _ (off7 i ⟨k, hlt⟩) (off8 i ⟨k, hlt⟩)) hv
    | 4 => rw [z4]; exact (H 4).step R4 (T.keys 4 (512 * k) (by omega) hs _ _ (off9 i ⟨k, hlt⟩) (off10 i ⟨k, hlt⟩)) hv
    | 5 => rw [z5]; exact (H 5).step R5 (T.keys 5 (512 * k) (by omega) hs _ _ (off11 i ⟨k, hlt⟩) (off12 i ⟨k, hlt⟩)) hv
    | 6 => rw [z6]; exact (H 6).step R6 (T.keys 6 (512 * k) (by omega) hs _ _ (off13 i ⟨k, hlt⟩) (off14 i ⟨k, hlt⟩)) hv
    | 7 => rw [z7]; exact (H 7).step R7 (T.keys 7 (512 * k) (by omega) hs _ _ (off15 i ⟨k, hlt⟩) (off16 i ⟨k, hlt⟩)) hv

end Cert.Proof.FLoop

end
-- ==== Proof.FRun.lean ====
/- What the body of one grid point writes: the block on the diagonal follows the loop. -/
module

public import proofs.«01_k».proof.Proof.FLoop
public import proofs.«01_k».proof.Proof.Gen.FKernelIdeal.Frame.RunA
import all proofs.«01_k».proof.Proof.Gen.FKernelIdeal.Frame.RunA

@[expose] public section

set_option maxRecDepth 16384
set_option maxHeartbeats 4000000

noncomputable section

namespace Cert.Proof.FRun

open Idealize.ShloMosaic Cert.Proof.AMath Cert.Proof.FMath Cert.Proof.FPay Cert.Proof.FTrip Cert.Proof.FLoop
open Cert.FKernelIdeal Cert.FKernelIdeal.Gen

/-- One head's queries, transposed, before their cast. -/
abbrev rowsOf (a : Memref sig .tc .vmem S1024x512 .bf16) (w : a.IsWhole) (x : Vec Ideal S1024x512 .bf16) (off : Fin 2 → ℕ)
    (inb : ∀ j, off j + S128x512.size j ≤ S1024x512.size j) : Vec Ideal S128x512 .bf16 :=
  View.readAt (Elt Ideal) a.view (Rect.unit (s := S1024x512) off S128x512.size inb).toLoadRect (w.unread x)

/-- Which keys of the diagonal block a query sees. -/
abbrev seen : IVec S512x512 1 := k0_pay85 k0_pay80 k0_pay81 k0_pay82 k0_pay83 k0_pay84

/-- What every head starts from. -/
abbrev start : Eight := (k0_pay94, k0_pay95, k0_pay96, k0_pay94, k0_pay95, k0_pay96, k0_pay94, k0_pay95, k0_pay96, k0_pay94, k0_pay95, k0_pay96, k0_pay94, k0_pay95, k0_pay96, k0_pay94, k0_pay95, k0_pay96, k0_pay94, k0_pay95, k0_pay96, k0_pay94, k0_pay95, k0_pay96)

/-- One head's step over the diagonal block. -/
abbrev lastOne (q : FVec Ideal S128x512 .bf16) (A : One) (k k' : FVec Ideal S512x128 .bf16) (v : FVec Ideal S64x512 .bf16) : One :=
  (k0_pay107 seen q A.1 k, k0_pay110 seen q A.1 A.2.1 k k', k0_pay111 seen q A.1 A.2.2 k k' v)

/-- The heads' outputs, side by side. -/
def assemble (y0 y1 y2 y3 y4 y5 y6 y7 : One) : FVec Ideal S512x512 .f32 :=
  transpose S512x512 [1, 0] (concatenate S512x512 0 [⟨S64x512, divf y0.2.2 (broadcastTo S64x512 y0.2.1 broadcasts_S1x512_S64x512)⟩, ⟨S64x512, divf y1.2.2 (broadcastTo S64x512 y1.2.1 broadcasts_S1x512_S64x512)⟩, ⟨S64x512, divf y2.2.2 (broadcastTo S64x512 y2.2.1 broadcasts_S1x512_S64x512)⟩, ⟨S64x512, divf y3.2.2 (broadcastTo S64x512 y3.2.1 broadcasts_S1x512_S64x512)⟩, ⟨S64x512, divf y4.2.2 (broadcastTo S64x512 y4.2.1 broadcasts_S1x512_S64x512)⟩, ⟨S64x512, divf y5.2.2 (broadcastTo S64x512 y5.2.1 broadcasts_S1x512_S64x512)⟩, ⟨S64x512, divf y6.2.2 (broadcastTo S64x512 y6.2.1 broadcasts_S1x512_S64x512)⟩, ⟨S64x512, divf y7.2.2 (broadcastTo S64x512 y7.2.1 broadcasts_S1x512_S64x512)⟩]
    concatenates_S64x512_S64x512_S64x512_S64x512_S64x512_S64x512_S64x512_S64x512_S512x512_d0) transposes_S512x512_p1_0_S512x512

variable (c : Dev nD) (i : grid0.Coords)
  (a2 : Memref sig .tc .vmem S1024x512 .bf16) (w2 : a2.IsWhole)
  (a3 : Memref sig .tc .vmem S4096x1024 .bf16) (w3 : a3.IsWhole)
  (a4 : Memref sig .tc .vmem S4096x1024 .bf16) (w4 : a4.IsWhole)
  (a5 : Memref sig .tc .vmem S512x4096 .bf16) (w5 : a5.IsWhole)
  (a6 : Memref sig .tc .vmem S512x512 .f32) (w6 : a6.IsWhole)
  (a7 : Memref sig .tc .vmem S512x1024 .f32) (w7 : a7.IsWhole)
  (x0 : Vec Ideal S1024x512 .bf16) (x1 x2 : Vec Ideal S4096x1024 .bf16) (x3 : Vec Ideal S512x4096 .bf16)

/-- What the loop over earlier blocks leaves. -/
def loop : Eight :=
  st_k0_t1 (F := Ideal) Variants.none c none i a2 w2 a3 w3 a4 w4 a5 w5 a6 w6 a7 w7 (BitVec.ofNat 32 (i 1).val) k0_pay80 k0_pay81 k0_pay82 k0_pay83 k0_pay84
    (rowsOf a2 w2 x0 ![0, 0] inb_S1024x512_S128x512_0_0) (rowsOf a2 w2 x0 ![128, 0] inb_S1024x512_S128x512_128_0) (rowsOf a2 w2 x0 ![256, 0] inb_S1024x512_S128x512_256_0) (rowsOf a2 w2 x0 ![384, 0] inb_S1024x512_S128x512_384_0) (rowsOf a2 w2 x0 ![512, 0] inb_S1024x512_S128x512_512_0) (rowsOf a2 w2 x0 ![640, 0] inb_S1024x512_S128x512_640_0) (rowsOf a2 w2 x0 ![768, 0] inb_S1024x512_S128x512_768_0) (rowsOf a2 w2 x0 ![896, 0] inb_S1024x512_S128x512_896_0)
    (w3.unread x1) (w4.unread x2) (w5.unread x3) start (k0_t1_loop i).trips

/-- The loop's remainder, which has no trips. -/
def loop' : Eight :=
  st_k0_t2 (F := Ideal) Variants.none c none i a2 w2 a3 w3 a4 w4 a5 w5 a6 w6 a7 w7 (BitVec.ofNat 32 (i 1).val) k0_pay80 k0_pay81 k0_pay82 k0_pay83 k0_pay84
    (rowsOf a2 w2 x0 ![0, 0] inb_S1024x512_S128x512_0_0) (rowsOf a2 w2 x0 ![128, 0] inb_S1024x512_S128x512_128_0) (rowsOf a2 w2 x0 ![256, 0] inb_S1024x512_S128x512_256_0) (rowsOf a2 w2 x0 ![384, 0] inb_S1024x512_S128x512_384_0) (rowsOf a2 w2 x0 ![512, 0] inb_S1024x512_S128x512_512_0) (rowsOf a2 w2 x0 ![640, 0] inb_S1024x512_S128x512_640_0) (rowsOf a2 w2 x0 ![768, 0] inb_S1024x512_S128x512_768_0) (rowsOf a2 w2 x0 ![896, 0] inb_S1024x512_S128x512_896_0)
    (kernelRun0_A.sl.v74 i) (w3.unread x1) (w4.unread x2) (w5.unread x3) (loop c i a2 w2 a3 w3 a4 w4 a5 w5 a6 w6 a7 w7 x0 x1 x2 x3) (k0_t2_loop i).trips

theorem trips2 : (k0_t2_loop i).trips = 0 := by
  have e : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact e (i 1)

theorem loop'_eq : loop' c i a2 w2 a3 w3 a4 w4 a5 w5 a6 w6 a7 w7 x0 x1 x2 x3 = loop c i a2 w2 a3 w3 a4 w4 a5 w5 a6 w6 a7 w7 x0 x1 x2 x3 := by
  unfold loop'
  rw [trips2]
  rfl

/-- Head 0 after the diagonal block. -/
abbrev fin0 (S : Eight) : One := lastOne (k0_pay86 (rowsOf a2 w2 x0 ![0, 0] inb_S1024x512_S128x512_0_0)) (pick S 0)
  (keyTile a3 (w3.unread x1) (k0_off33_inb i)) (keyTile a4 (w4.unread x2) (k0_off33_inb i)) (valTile a5 (w5.unread x3) (k0_off34_inb i))

/-- Head 1 after the diagonal block. -/
abbrev fin1 (S : Eight) : One := lastOne (k0_pay86 (rowsOf a2 w2 x0 ![128, 0] inb_S1024x512_S128x512_128_0)) (pick S 1)
  (keyTile a3 (w3.unread x1) (k0_off35_inb i)) (keyTile a4 (w4.unread x2) (k0_off35_inb i)) (valTile a5 (w5.unread x3) (k0_off36_inb i))

/-- Head 2 after the diagonal block. -/
abbrev fin2 (S : Eight) : One := lastOne (k0_pay86 (rowsOf a2 w2 x0 ![256, 0] inb_S1024x512_S128x512_256_0)) (pick S 2)
  (keyTile a3 (w3.unread x1) (k0_off37_inb i)) (keyTile a4 (w4.unread x2) (k0_off37_inb i)) (valTile a5 (w5.unread x3) (k0_off38_inb i))

/-- Head 3 after the diagonal block. -/
abbrev fin3 (S : Eight) : One := lastOne (k0_pay86 (rowsOf a2 w2 x0 ![384, 0] inb_S1024x512_S128x512_384_0)) (pick S 3)
  (keyTile a3 (w3.unread x1) (k0_off39_inb i)) (keyTile a4 (w4.unread x2) (k0_off39_inb i)) (valTile a5 (w5.unread x3) (k0_off40_inb i))

/-- Head 4 after the diagonal block. -/
abbrev fin4 (S : Eight) : One := lastOne (k0_pay86 (rowsOf a2 w2 x0 ![512, 0] inb_S1024x512_S128x512_512_0)) (pick S 4)
  (keyTile a3 (w3.unread x1) (k0_off41_inb i)) (keyTile a4 (w4.unread x2) (k0_off41_inb i)) (valTile a5 (w5.unread x3) (k0_off42_inb i))

/-- Head 5 after the diagonal block. -/
abbrev fin5 (S : Eight) : One := lastOne (k0_pay86 (rowsOf a2 w2 x0 ![640, 0] inb_S1024x512_S128x512_640_0)) (pick S 5)
  (keyTile a3 (w3.unread x1) (k0_off43_inb i)) (keyTile a4 (w4.unread x2) (k0_off43_inb i)) (valTile a5 (w5.unread x3) (k0_off44_inb i))

/-- Head 6 after the diagonal block. -/
abbrev fin6 (S : Eight) : One := lastOne (k0_pay86 (rowsOf a2 w2 x0 ![768, 0] inb_S1024x512_S128x512_768_0)) (pick S 6)
  (keyTile a3 (w3.unread x1) (k0_off45_inb i)) (keyTile a4 (w4.unread x2) (k0_off45_inb i)) (valTile a5 (w5.unread x3) (k0_off46_inb i))

/-- Head 7 after the diagonal block. -/
abbrev fin7 (S : Eight) : One := lastOne (k0_pay86 (rowsOf a2 w2 x0 ![896, 0] inb_S1024x512_S128x512_896_0)) (pick S 7)
  (keyTile a3 (w3.unread x1) (k0_off47_inb i)) (keyTile a4 (w4.unread x2) (k0_off47_inb i)) (valTile a5 (w5.unread x3) (k0_off48_inb i))

/-- The body's own names of what the loop leaves. -/
abbrev named : Eight := (kernelRun0_A.sl.r_8 (F := Ideal) c i a2 w2 a3 w3 a4 w4 a5 w5 a6 w6 a7 w7 x0 x1 x2 x3, kernelRun0_A.sl.r_9 (F := Ideal) c i a2 w2 a3 w3 a4 w4 a5 w5 a6 w6 a7 w7 x0 x1 x2 x3, kernelRun0_A.sl.r_10 (F := Ideal) c i a2 w2 a3 w3 a4 w4 a5 w5 a6 w6 a7 w7 x0 x1 x2 x3, kernelRun0_A.sl.r_11 (F := Ideal) c i a2 w2 a3 w3 a4 w4 a5 w5 a6 w6 a7 w7 x0 x1 x2 x3, kernelRun0_A.sl.r_12 (F := Ideal) c i a2 w2 a3 w3 a4 w4 a5 w5 a6 w6 a7 w7 x0 x1 x2 x3, kernelRun0_A.sl.r_13 (F := Ideal) c i a2 w2 a3 w3 a4 w4 a5 w5 a6 w6 a7 w7 x0 x1 x2 x3, kernelRun0_A.sl.r_14 (F := Ideal) c i a2 w2 a3 w3 a4 w4 a5 w5 a6 w6 a7 w7 x0 x1 x2 x3, kernelRun0_A.sl.r_15 (F := Ideal) c i a2 w2 a3 w3 a4 w4 a5 w5 a6 w6 a7 w7 x0 x1 x2 x3, kernelRun0_A.sl.r_16 (F := Ideal) c i a2 w2 a3 w3 a4 w4 a5 w5 a6 w6 a7 w7 x0 x1 x2 x3, kernelRun0_A.sl.r_17 (F := Ideal) c i a2 w2 a3 w3 a4 w4 a5 w5 a6 w6 a7 w7 x0 x1 x2 x3, kernelRun0_A.sl.r_18 (F := Ideal) c i a2 w2 a3 w3 a4 w4 a5 w5 a6 w6 a7 w7 x0 x1 x2 x3, kernelRun0_A.sl.r_19 (F := Ideal) c i a2 w2 a3 w3 a4 w4 a5 w5 a6 w6 a7 w7 x0 x1 x2 x3, kernelRun0_A.sl.r_20 (F := Ideal) c i a2 w2 a3 w3 a4 w4 a5 w5 a6 w6 a7 w7 x0 x1 x2 x3, kernelRun0_A.sl.r_21 (F := Ideal) c i a2 w2 a3 w3 a4 w4 a5 w5 a6 w6 a7 w7 x0 x1 x2 x3, kernelRun0_A.sl.r_22 (F := Ideal) c i a2 w2 a3 w3 a4 w4 a5 w5 a6 w6 a7 w7 x0 x1 x2 x3, kernelRun0_A.sl.r_23 (F := Ideal) c i a2 w2 a3 w3 a4 w4 a5 w5 a6 w6 a7 w7 x0 x1 x2 x3, kernelRun0_A.sl.r_24 (F := Ideal) c i a2 w2 a3 w3 a4 w4 a5 w5 a6 w6 a7 w7 x0 x1 x2 x3, kernelRun0_A.sl.r_25 (F := Ideal) c i a2 w2 a3 w3 a4 w4 a5 w5 a6 w6 a7 w7 x0 x1 x2 x3, kernelRun0_A.sl.r_26 (F := Ideal) c i a2 w2 a3 w3 a4 w4 a5 w5 a6 w6 a7 w7 x0 x1 x2 x3, kernelRun0_A.sl.r_27 (F := Ideal) c i a2 w2 a3 w3 a4 w4 a5 w5 a6 w6 a7 w7 x0 x1 x2 x3, kernelRun0_A.sl.r_28 (F := Ideal) c i a2 w2 a3 w3 a4 w4 a5 w5 a6 w6 a7 w7 x0 x1 x2 x3, kernelRun0_A.sl.r_29 (F := Ideal) c i a2 w2 a3 w3 a4 w4 a5 w5 a6 w6 a7 w7 x0 x1 x2 x3, kernelRun0_A.sl.r_30 (F := Ideal) c i a2 w2 a3 w3 a4 w4 a5 w5 a6 w6 a7 w7 x0 x1 x2 x3, kernelRun0_A.sl.r_31 (F := Ideal) c i a2 w2 a3 w3 a4 w4 a5 w5 a6 w6 a7 w7 x0 x1 x2 x3)

theorem named_eq : named c i a2 w2 a3 w3 a4 w4 a5 w5 a6 w6 a7 w7 x0 x1 x2 x3 = loop c i a2 w2 a3 w3 a4 w4 a5 w5 a6 w6 a7 w7 x0 x1 x2 x3 := by
  rw [← loop'_eq]
  unfold named kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31
  simp only [Prod.mk.eta]
  unfold loop' loop
  rfl

theorem run5 : (kernelRun0_A (F := Ideal) c i a2 w2 a3 w3 a4 w4 a5 w5 a6 w6 a7 w7 x0 x1 x2 x3).2.1 =
    [⟨Rect.unit (s := S512x1024) ![0, 896] S512x128.size inb_S512x1024_S512x128_0_896, k0_pay153 (fin7 i a2 w2 a3 w3 a4 w4 a5 w5 x0 x1 x2 x3 (loop c i a2 w2 a3 w3 a4 w4 a5 w5 a6 w6 a7 w7 x0 x1 x2 x3)).1 (fin7 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 768] S512x128.size inb_S512x1024_S512x128_0_768, k0_pay153 (fin6 i a2 w2 a3 w3 a4 w4 a5 w5 x0 x1 x2 x3 (loop c i a2 w2 a3 w3 a4 w4 a5 w5 a6 w6 a7 w7 x0 x1 x2 x3)).1 (fin6 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 640] S512x128.size inb_S512x1024_S512x128_0_640, k0_pay153 (fin5 i a2 w2 a3 w3 a4 w4 a5 w5 x0 x1 x2 x3 (loop c i a2 w2 a3 w3 a4 w4 a5 w5 a6 w6 a7 w7 x0 x1 x2 x3)).1 (fin5 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 512] S512x128.size inb_S512x1024_S512x128_0_512, k0_pay153 (fin4 i a2 w2 a3 w3 a4 w4 a5 w5 x0 x1 x2 x3 (loop c i a2 w2 a3 w3 a4 w4 a5 w5 a6 w6 a7 w7 x0 x1 x2 x3)).1 (fin4 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 384] S512x128.size inb_S512x1024_S512x128_0_384, k0_pay153 (fin3 i a2 w2 a3 w3 a4 w4 a5 w5 x0 x1 x2 x3 (loop c i a2 w2 a3 w3 a4 w4 a5 w5 a6 w6 a7 w7 x0 x1 x2 x3)).1 (fin3 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 256] S512x128.size inb_S512x1024_S512x128_0_256, k0_pay153 (fin2 i a2 w2 a3 w3 a4 w4 a5 w5 x0 x1 x2 x3 (loop c i a2 w2 a3 w3 a4 w4 a5 w5 a6 w6 a7 w7 x0 x1 x2 x3)).1 (fin2 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 128] S512x128.size inb_S512x1024_S512x128_0_128, k0_pay153 (fin1 i a2 w2 a3 w3 a4 w4 a5 w5 x0 x1 x2 x3 (loop c i a2 w2 a3 w3 a4 w4 a5 w5 a6 w6 a7 w7 x0 x1 x2 x3)).1 (fin1 i a2 w2 a3 w3 a4 w4 a5 w5 x0 x1 x2 x3 (loop c i a2 w2 a3 w3 a4 w4 a5 w5 a6 w6 a7 w7 x0 x1 x2 x3)).2.1⟩,
      ⟨Rect.unit (s := S512x1024) ![0, 0] S512x128.size inb_S512x1024_S512x128_0_0, k0_pay153 (fin0 i a2 w2 a3 w3 a4 w4 a5 w5 x0 x1 x2 x3 (loop c i a2 w2 a3 w3 a4 w4 a5 w5 a6 w6 a7 w7 x0 x1 x2 x3)).1 (fin0 i a2 w2 a3 w3 a4 w4 a5 w5 x0 x1 x2 x3 (loop c i a2 w2 a3 w3 a4 w4 a5 w5 a6 w6 a7 w7 x0 x1 x2 x3)).2.1⟩] := by
  rw [← named_eq]
  unfold kernelRun0_A
  rfl

theorem run4 : (kernelRun0_A (F := Ideal) c i a2 w2 a3 w3 a4 w4 a5 w5 a6 w6 a7 w7 x0 x1 x2 x3).1 =
    [⟨Rect.unit (s := S512x512) ![0, 0] S512x512.size inb_S512x512_S512x512_0_0, assemble (fin0 i a2 w2 a3 w3 a4 w4 a5 w5 x0 x1 x2 x3 (loop c i a2 w2 a3 w3 a4 w4 a5 w5 a6 w6 a7 w7 x0 x1 x2 x3)) (fin1 i a2 w2 a3 w3 a4 w4 a5 w5 x0 x1 x2 x3 (loop c i a2 w2 a3 w3 a4 w4 a5 w5 a6 w6 a7 w7 x0 x1 x2 x3)) (fin2 i a2 w2 a3 w3 a4 w4 a5 w5 x0 x1 x2 x3 (loop c i a2 w2 a3 w3 a4 w4 a5 w5 a6 w6 a7 w7 x0 x1 x2 x3)) (fin3 i a2 w2 a3 w3 a4 w4 a5 w5 x0 x1 x2 x3 (loop c i a2 w2 a3 w3 a4 w4 a5 w5 a6 w6 a7 w7 x0 x1 x2 x3)) (fin4 i a2 w2 a3 w3 a4 w4 a5 w5 x0 x1 x2 x3 (loop c i a2 w2 a3 w3 a4 w4 a5 w5 a6 w6 a7 w7 x0 x1 x2 x3)) (fin5 i a2 w2 a3 w3 a4 w4 a5 w5 x0 x1 x2 x3 (loop c i a2 w2 a3 w3 a4 w4 a5 w5 a6 w6 a7 w7 x0 x1 x2 x3)) (fin6 i a2 w2 a3 w3 a4 w4 a5 w5 x0 x1 x2 x3 (loop c i a2 w2 a3 w3 a4 w4 a5 w5 a6 w6 a7 w7 x0 x1 x2 x3)) (fin7 i a2 w2 a3 w3 a4 w4 a5 w5 x0 x1 x2 x3 (loop c i a2 w2 a3 w3 a4 w4 a5 w5 a6 w6 a7 w7 x0 x1 x2 x3))⟩] := by
  rw [← named_eq]
  unfold kernelRun0_A assemble
  rfl

end Cert.Proof.FRun

end
-- ==== Proof.FBlock.lean ====
/- What one grid point leaves in the two results' windows. -/
module

public import Idealize.ShloMosaic.Lib.WritesUnit
public import proofs.«01_k».proof.Proof.FRun

@[expose] public section

set_option maxRecDepth 16384
set_option maxHeartbeats 1000000

noncomputable section

namespace Cert.Proof.FBlock

open Idealize.ShloMosaic Cert.Proof.AMath Cert.Proof.FMath Cert.Proof.FPay Cert.Proof.FTrip Cert.Proof.FLoop Cert.Proof.FRun
open Cert.FKernelIdeal Cert.FKernelIdeal.Gen

/-- The last row of a block is one of the rows. -/
theorem top (i : grid0.Coords) : 512 * (i 1).val + 512 ≤ 4096 := by
  have e : (i 1).val < 8 := (i 1).isLt
  omega

theorem place (i : grid0.Coords) : (Scalar.indexCast (Scalar.muli (BitVec.ofNat 32 (i 1).val) 512#32)).toNat = 512 * (i 1).val := by
  have e : ∀ n : Fin 8, (Scalar.indexCast (Scalar.muli (BitVec.ofNat 32 n.val) 512#32)).toNat = 512 * n.val := by decide +kernel
  exact e (i 1)

theorem off33 (i : grid0.Coords) : k0_off33 i = ![512 * (i 1).val, 0] := congrArg (fun n => ![n, 0]) (place i)
theorem off34 (i : grid0.Coords) : k0_off34 i = ![0, 512 * (i 1).val] := congrArg (fun n => ![0, n]) (place i)
theorem off35 (i : grid0.Coords) : k0_off35 i = ![512 * (i 1).val, 128] := congrArg (fun n => ![n, 128]) (place i)
theorem off36 (i : grid0.Coords) : k0_off36 i = ![64, 512 * (i 1).val] := congrArg (fun n => ![64, n]) (place i)
theorem off37 (i : grid0.Coords) : k0_off37 i = ![512 * (i 1).val, 256] := congrArg (fun n => ![n, 256]) (place i)
theorem off38 (i : grid0.Coords) : k0_off38 i = ![128, 512 * (i 1).val] := congrArg (fun n => ![128, n]) (place i)
theorem off39 (i : grid0.Coords) : k0_off39 i = ![512 * (i 1).val, 384] := congrArg (fun n => ![n, 384]) (place i)
theorem off40 (i : grid0.Coords) : k0_off40 i = ![192, 512 * (i 1).val] := congrArg (fun n => ![192, n]) (place i)
theorem off41 (i : grid0.Coords) : k0_off41 i = ![512 * (i 1).val, 512] := congrArg (fun n => ![n, 512]) (place i)
theorem off42 (i : grid0.Coords) : k0_off42 i = ![256, 512 * (i 1).val] := congrArg (fun n => ![256, n]) (place i)
theorem off43 (i : grid0.Coords) : k0_off43 i = ![512 * (i 1).val, 640] := congrArg (fun n => ![n, 640]) (place i)
theorem off44 (i : grid0.Coords) : k0_off44 i = ![320, 512 * (i 1).val] := congrArg (fun n => ![320, n]) (place i)
theorem off45 (i : grid0.Coords) : k0_off45 i = ![512 * (i 1).val, 768] := congrArg (fun n => ![n, 768]) (place i)
theorem off46 (i : grid0.Coords) : k0_off46 i = ![384, 512 * (i 1).val] := congrArg (fun n => ![384, n]) (place i)
theorem off47 (i : grid0.Coords) : k0_off47 i = ![512 * (i 1).val, 896] := congrArg (fun n => ![n, 896]) (place i)
theorem off48 (i : grid0.Coords) : k0_off48 i = ![448, 512 * (i 1).val] := congrArg (fun n => ![448, n]) (place i)

/-- The chunk of a row or column, as the program's words compute it. -/
def chunk (n : ℕ) : BitVec 32 :=
  Scalar.select
    (IntOp.andi
      (IntOp.cmpi .ne (IntOp.subi (BitVec.setWidth 32 (IntOp.cmpi .sgt (BitVec.ofNat 32 n) 0#32))
        (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem chunk_eq : ∀ n : Fin 512, chunk n.val = BitVec.ofNat 32 (n.val / 64) := by decide +kernel

theorem sle_chunks : ∀ a b : Fin 8, IntOp.cmpi .sle (BitVec.ofNat 32 a.val) (BitVec.ofNat 32 b.val) = BitVec.ofBool (decide (a.val ≤ b.val)) := by
  decide +kernel

/-- A key of the diagonal block is seen from its chunk on. -/
theorem seen_at (j r : Fin 512) : seen (ix2 j r) = BitVec.ofBool (decide (j.val / 64 ≤ r.val / 64)) := by
  have e : seen (ix2 j r) = IntOp.cmpi .sle (chunk j.val) (chunk r.val) := by
    pointwise [k0_pay80, k0_pay81, k0_pay82, k0_pay83, k0_pay84, k0_pay85]
    rfl
  rw [e, chunk_eq, chunk_eq]
  exact sle_chunks ⟨j.val / 64, by omega⟩ ⟨r.val / 64, by omega⟩

theorem Has.last {D : Data} {h s : ℕ} {q : FVec Ideal S128x512 .bf16} {k k' : FVec Ideal S512x128 .bf16} {v : FVec Ideal S64x512 .bf16} {A : One}
    (H : Has D h s s A) (R : Rows D h s q) (T : k' = k ∧ Keys D h s k v) (h64 : 64 ∣ s) : Has D h s (s + 512) (lastOne q A k k' v) := by
  rw [T.1]
  exact fun r => FPay.last R T.2 seen h64 seen_at A.1 A.2.1 A.2.2 r (H r)

theorem start_has (D : Data) (s : ℕ) (h : Fin 8) : Has D h.val s 0 (pick start h) := by
  have e : pick start h = (k0_pay94, k0_pay95, k0_pay96) := by
    match h with
    | 0 => rfl
    | 1 => rfl
    | 2 => rfl
    | 3 => rfl
    | 4 => rfl
    | 5 => rfl
    | 6 => rfl
    | 7 => rfl
  rw [e]
  refine fun r => Carry.start D _ _ ?_ ?_ fun d => ?_
  · exact ninf_f32
  · exact zero_f32
  · exact zero_f32

variable {D : Data} (c : Dev nD) (i : grid0.Coords)
  (a2 : Memref sig .tc .vmem S1024x512 .bf16) (w2 : a2.IsWhole)
  (a3 : Memref sig .tc .vmem S4096x1024 .bf16) (w3 : a3.IsWhole)
  (a4 : Memref sig .tc .vmem S4096x1024 .bf16) (w4 : a4.IsWhole)
  (a5 : Memref sig .tc .vmem S512x4096 .bf16) (w5 : a5.IsWhole)
  (a6 : Memref sig .tc .vmem S512x512 .f32) (w6 : a6.IsWhole)
  (a7 : Memref sig .tc .vmem S512x1024 .f32) (w7 : a7.IsWhole)
  (x0 : Vec Ideal S1024x512 .bf16) (x1 x2 : Vec Ideal S4096x1024 .bf16) (x3 : Vec Ideal S512x4096 .bf16)

/-- The transposed queries of eight heads, 512 rows from row `s`. -/
def Queries (D : Data) (s : ℕ) (x : Vec Ideal S1024x512 .bf16) : Prop :=
  ∀ (y : Fin 1024) (r : Fin 512), x (ix2 y r) = (D.Q (y.val / 128) (s + r.val) (y.val % 128) : EReal)

theorem Queries.rows {s : ℕ} (R : Queries D s x0) (h : ℕ) (hh : h < 8) {off : Fin 2 → ℕ} (inb : ∀ j, off j + S128x512.size j ≤ S1024x512.size j) (e : off = ![128 * h, 0]) :
    Rows D h s (k0_pay86 (rowsOf a2 w2 x0 off inb)) := by
  subst e
  intro c r
  simp only [View.readAt_eq_ld, Memref.IsWhole.read_unread]
  pointwise [k0_pay86]
  rw [R]
  simp only
  rw [show (128 * h + c.val) / 128 = h by omega, show (128 * h + c.val) % 128 = c.val by omega]

variable (R : Queries D (512 * (i 1).val) x0) (T : Held D x1 x2 x3)

include T in
theorem held : Held D (a3.view.read (Elt Ideal) (w3.unread x1)) (a4.view.read (Elt Ideal) (w4.unread x2)) (a5.view.read (Elt Ideal) (w5.unread x3)) := by
  rw [w3.read_unread, w4.read_unread, w5.read_unread]; exact T

include R T in
theorem loop_has (h : Fin 8) : Has D h.val (512 * (i 1).val) (512 * (i 1).val) (pick (loop c i a2 w2 a3 w3 a4 w4 a5 w5 a6 w6 a7 w7 x0 x1 x2 x3) h) := by
  have e := after D Variants.none c none i a2 w2 a3 w3 a4 w4 a5 w5 a6 w6 a7 w7 (BitVec.ofNat 32 (i 1).val) k0_pay80 k0_pay81 k0_pay82 k0_pay83 k0_pay84
    _ _ _ _ _ _ _ _ (w3.unread x1) (w4.unread x2) (w5.unread x3) (held a3 w3 a4 w4 a5 w5 x1 x2 x3 T)
    (R.rows a2 w2 x0 0 (by omega) inb_S1024x512_S128x512_0_0 rfl)
    (R.rows a2 w2 x0 1 (by omega) inb_S1024x512_S128x512_128_0 rfl)
    (R.rows a2 w2 x0 2 (by omega) inb_S1024x512_S128x512_256_0 rfl)
    (R.rows a2 w2 x0 3 (by omega) inb_S1024x512_S128x512_384_0 rfl)
    (R.rows a2 w2 x0 4 (by omega) inb_S1024x512_S128x512_512_0 rfl)
    (R.rows a2 w2 x0 5 (by omega) inb_S1024x512_S128x512_640_0 rfl)
    (R.rows a2 w2 x0 6 (by omega) inb_S1024x512_S128x512_768_0 rfl)
    (R.rows a2 w2 x0 7 (by omega) inb_S1024x512_S128x512_896_0 rfl)
    start (start_has D _) (k0_t1_loop i).trips le_rfl h
  unfold loop
  simpa only [trips_eq] using e

include R T in
theorem fin0_has : Has D 0 (512 * (i 1).val) (512 * (i 1).val + 512) (fin0 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 0) (R.rows a2 w2 x0 0 (by omega) _ rfl)
    ((held a3 w3 a4 w4 a5 w5 x1 x2 x3 T).keys 0 _ (by omega) (top i) _ _ (off33 i) (off34 i)) (by omega)

include R T in
theorem fin1_has : Has D 1 (512 * (i 1).val) (512 * (i 1).val + 512) (fin1 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 1) (R.rows a2 w2 x0 1 (by omega) _ rfl)
    ((held a3 w3 a4 w4 a5 w5 x1 x2 x3 T).keys 1 _ (by omega) (top i) _ _ (off35 i) (off36 i)) (by omega)

include R T in
theorem fin2_has : Has D 2 (512 * (i 1).val) (512 * (i 1).val + 512) (fin2 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 2) (R.rows a2 w2 x0 2 (by omega) _ rfl)
    ((held a3 w3 a4 w4 a5 w5 x1 x2 x3 T).keys 2 _ (by omega) (top i) _ _ (off37 i) (off38 i)) (by omega)

include R T in
theorem fin3_has : Has D 3 (512 * (i 1).val) (512 * (i 1).val + 512) (fin3 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 3) (R.rows a2 w2 x0 3 (by omega) _ rfl)
    ((held a3 w3 a4 w4 a5 w5 x1 x2 x3 T).keys 3 _ (by omega) (top i) _ _ (off39 i) (off40 i)) (by omega)

include R T in
theorem fin4_has : Has D 4 (512 * (i 1).val) (512 * (i 1).val + 512) (fin4 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 4) (R.rows a2 w2 x0 4 (by omega) _ rfl)
    ((held a3 w3 a4 w4 a5 w5 x1 x2 x3 T).keys 4 _ (by omega) (top i) _ _ (off41 i) (off42 i)) (by omega)

include R T in
theorem fin5_has : Has D 5 (512 * (i 1).val) (512 * (i 1).val + 512) (fin5 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 5) (R.rows a2 w2 x0 5 (by omega) _ rfl)
    ((held a3 w3 a4 w4 a5 w5 x1 x2 x3 T).keys 5 _ (by omega) (top i) _ _ (off43 i) (off44 i)) (by omega)

include R T in
theorem fin6_has : Has D 6 (512 * (i 1).val) (512 * (i 1).val + 512) (fin6 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 6) (R.rows a2 w2 x0 6 (by omega) _ rfl)
    ((held a3 w3 a4 w4 a5 w5 x1 x2 x3 T).keys 6 _ (by omega) (top i) _ _ (off45 i) (off46 i)) (by omega)

include R T in
theorem fin7_has : Has D 7 (512 * (i 1).val) (512 * (i 1).val + 512) (fin7 i a2 w2 a3 w3 a4 w4 a5 w5 x0 x1 x2 x3 (loop c i a2 w2 a3 w3 a4 w4 a5 w5 a6 w6 a7 w7 x0 x1 x2 x3)) :=
  Has.last (loop_has c i a2 w2 a3 w3 a4 w4 a5 w5 a6 w6 a7 w7 x0 x1 x2 x3 R T 7) (R.rows a2 w2 x0 7 (by omega) _ rfl)
    ((held a3 w3 a4 w4 a5 w5 x1 x2 x3 T).keys 7 _ (by omega) (top i) _ _ (off47 i) (off48 i)) (by omega)

omit R T in
theorem done_div {h s n : ℕ} {m l : EReal} {a : Fin 64 → EReal} (H : Carry D h s n m l a) (hn : n ≤ 4096) (hs : s / 64 < n / 64) (hs' : s < 4096) (d : Fin 64) :
    Ideal.div (a d) l = (out D h s d.val : EReal) := by
  have e := (H.done hn hs hs').1 d
  have hw : ∑ t ∈ Finset.range n, D.w h s t = D.Z h s := by simpa [Data.Z] using range_all D h s n hn hs (fun _ => 1)
  rcases H with ⟨h0, -⟩ | ⟨M, -, h2, h3⟩
  · subst h0; omega
  rw [hw] at h2
  rw [h2, h3] at e ⊢
  rw [Reals.div_real _ (mul_pos (Real.exp_pos _) (D.Z_pos h ⟨s, hs'⟩)).ne', EReal.coe_div]
  exact e

/-- What head `h` ends with. -/
def final (h : Fin 8) : One := match h with
  | 0 => fin0 i a2 w2 a3 w3 a4 w4 a5 w5 x0 x1 x2 x3 (loop c i a2 w2 a3 w3 a4 w4 a5 w5 a6 w6 a7 w7 x0 x1 x2 x3)
  | 1 => fin1 i a2 w2 a3 w3 a4 w4 a5 w5 x0 x1 x2 x3 (loop c i a2 w2 a3 w3 a4 w4 a5 w5 a6 w6 a7 w7 x0 x1 x2 x3)
  | 2 => fin2 i a2 w2 a3 w3 a4 w4 a5 w5 x0 x1 x2 x3 (loop c i a2 w2 a3 w3 a4 w4 a5 w5 a6 w6 a7 w7 x0 x1 x2 x3)
  | 3 => fin3 i a2 w2 a3 w3 a4 w4 a5 w5 x0 x1 x2 x3 (loop c i a2 w2 a3 w3 a4 w4 a5 w5 a6 w6 a7 w7 x0 x1 x2 x3)
  | 4 => fin4 i a2 w2 a3 w3 a4 w4 a5 w5 x0 x1 x2 x3 (loop c i a2 w2 a3 w3 a4 w4 a5 w5 a6 w6 a7 w7 x0 x1 x2 x3)
  | 5 => fin5 i a2 w2 a3 w3 a4 w4 a5 w5 x0 x1 x2 x3 (loop c i a2 w2 a3 w3 a4 w4 a5 w5 a6 w6 a7 w7 x0 x1 x2 x3)
  | 6 => fin6 i a2 w2 a3 w3 a4 w4 a5 w5 x0 x1 x2 x3 (loop c i a2 w2 a3 w3 a4 w4 a5 w5 a6 w6 a7 w7 x0 x1 x2 x3)
  | 7 => fin7 i a2 w2 a3 w3 a4 w4 a5 w5 x0 x1 x2 x3 (loop c i a2 w2 a3 w3 a4 w4 a5 w5 a6 w6 a7 w7 x0 x1 x2 x3)

include R T in
theorem final_has (h : Fin 8) : Has D h.val (512 * (i 1).val) (512 * (i 1).val + 512) (final c i a2 w2 a3 w3 a4 w4 a5 w5 a6 w6 a7 w7 x0 x1 x2 x3 h) := by
  match h with
  | 0 => exact fin0_has c i a2 w2 a3 w3 a4 w4 a5 w5 a6 w6 a7 w7 x0 x1 x2 x3 R T
  | 1 => exact fin1_has c i a2 w2 a3 w3 a4 w4 a5 w5 a6 w6 a7 w7 x0 x1 x2 x3 R T
  | 2 => exact fin2_has c i a2 w2 a3 w3 a4 w4 a5 w5 a6 w6 a7 w7 x0 x1 x2 x3 R T
  | 3 => exact fin3_has c i a2 w2 a3 w3 a4 w4 a5 w5 a6 w6 a7 w7 x0 x1 x2 x3 R T
  | 4 => exact fin4_has c i a2 w2 a3 w3 a4 w4 a5 w5 a6 w6 a7 w7 x0 x1 x2 x3 R T
  | 5 => exact fin5_has c i a2 w2 a3 w3 a4 w4 a5 w5 a6 w6 a7 w7 x0 x1 x2 x3 R T
  | 6 => exact fin6_has c i a2 w2 a3 w3 a4 w4 a5 w5 a6 w6 a7 w7 x0 x1 x2 x3 R T
  | 7 => exact fin7_has c i a2 w2 a3 w3 a4 w4 a5 w5 a6 w6 a7 w7 x0 x1 x2 x3 R T

/-- The assembled outputs: column `e` is head `e / 64`'s. -/
theorem assemble_at (y : Fin 8 → One) (r e : Fin 512) : assemble (y 0) (y 1) (y 2) (y 3) (y 4) (y 5) (y 6) (y 7) (ix2 r e)
    = Ideal.div ((y ⟨e.val / 64, by omega⟩).2.2 (ix2 (⟨e.val % 64, by omega⟩ : Fin 64) r)) ((y ⟨e.val / 64, by omega⟩).2.1 (ix2 (0 : Fin 1) r)) := by
  have t : ∀ A : FVec Ideal S512x512 .f32, transpose S512x512 [1, 0] A transposes_S512x512_p1_0_S512x512 (ix2 r e) = A (ix2 e r) := fun A => by pointwise []
  unfold assemble
  rw [t]
  refine (concatenate_ofFn_apply (s₁ := S64x512) (t := S512x512) 0 (fun h : Fin 8 => divf (y h).2.2 (broadcastTo S64x512 (y h).2.1 broadcasts_S1x512_S64x512))
    concatenates_S64x512_S64x512_S64x512_S64x512_S64x512_S64x512_S64x512_S64x512_S512x512_d0 rfl 64 rfl (ix2 e r) ⟨e.val / 64, by omega⟩ rfl
    (ix2 (⟨e.val % 64, by omega⟩ : Fin 64) r) rfl fun b hb => ?_).trans ?_
  · fin_cases b
    · exact absurd rfl hb
    · rfl
  · pointwise []

/-- Eight heads' tiles side by side, written into one window. -/
theorem side_by_side (v : View sig .tc .vmem S512x1024 .f32) (f : BufTy.Contents (Elt Ideal) v.ty) (y : Fin 8 → Vec Ideal S512x128 .f32) (G : ℕ → ℕ → ℝ)
    (hy : ∀ (h : Fin 8) (r : Fin 512) (e : Fin 128), y h (ix2 r e) = (G h.val r.val : EReal)) (r : Fin 512) (e : Fin 1024) :
    v.read (Elt Ideal) (v.writes (Elt Ideal) f [⟨Rect.unit (s := S512x1024) ![0, 896] S512x128.size inb_S512x1024_S512x128_0_896, y 7⟩, ⟨Rect.unit (s := S512x1024) ![0, 768] S512x128.size inb_S512x1024_S512x128_0_768, y 6⟩, ⟨Rect.unit (s := S512x1024) ![0, 640] S512x128.size inb_S512x1024_S512x128_0_640, y 5⟩, ⟨Rect.unit (s := S512x1024) ![0, 512] S512x128.size inb_S512x1024_S512x128_0_512, y 4⟩, ⟨Rect.unit (s := S512x1024) ![0, 384] S512x128.size inb_S512x1024_S512x128_0_384, y 3⟩, ⟨Rect.unit (s := S512x1024) ![0, 256] S512x128.size inb_S512x1024_S512x128_0_256, y 2⟩, ⟨Rect.unit (s := S512x1024) ![0, 128] S512x128.size inb_S512x1024_S512x128_0_128, y 1⟩, ⟨Rect.unit (s := S512x1024) ![0, 0] S512x128.size inb_S512x1024_S512x128_0_0, y 0⟩]) (ix2 r e)
      = (G (e.val / 128) r.val : EReal) := by
  have skip : ∀ (n : ℕ) (inb : ∀ a, (![0, n] : Fin 2 → ℕ) a + S512x128.size a ≤ S512x1024.size a) (w : Vec Ideal S512x128 .f32) (L : List (View.Piece (Elt Ideal) S512x1024 .f32)),
      e.val < n → v.read (Elt Ideal) (v.writes (Elt Ideal) f ((⟨Rect.unit (s := S512x1024) ![0, n] S512x128.size inb, w⟩ : View.Piece (Elt Ideal) S512x1024 .f32) :: L)) (ix2 r e)
        = v.read (Elt Ideal) (v.writes (Elt Ideal) f L) (ix2 r e) :=
    fun n inb w L h => View.read_writes_cons_unit_of_not_mem v f inb w L _ rfl 1 (Or.inl h)
  have take : ∀ (k : Fin 8) (n : ℕ) (inb : ∀ a, (![0, n] : Fin 2 → ℕ) a + S512x128.size a ≤ S512x1024.size a) (L : List (View.Piece (Elt Ideal) S512x1024 .f32)),
      n = 128 * k.val → n ≤ e.val → e.val < n + 128 →
      v.read (Elt Ideal) (v.writes (Elt Ideal) f ((⟨Rect.unit (s := S512x1024) ![0, n] S512x128.size inb, y k⟩ : View.Piece (Elt Ideal) S512x1024 .f32) :: L)) (ix2 r e)
        = (G (e.val / 128) r.val : EReal) := by
    intro k n inb L hk hl hu
    subst hk
    rw [show e.val / 128 = k.val by omega]
    refine (View.read_writes_cons_unit_of_mem v f inb (y k) L _ (ix2 (r : Fin 512) (⟨e.val - 128 * k.val, by omega⟩ : Fin 128)) rfl fun b => ?_).trans (hy k r _)
    match b with
    | ⟨0, _⟩ => show r.val = 0 + r.val; omega
    | ⟨1, _⟩ => show e.val = 128 * k.val + (e.val - 128 * k.val); omega
  by_cases c7 : 896 ≤ e.val
  · exact take 7 896 _ _ rfl c7 (by omega)
  rw [skip 896 _ _ _ (by omega)]
  by_cases c6 : 768 ≤ e.val
  · exact take 6 768 _ _ rfl c6 (by omega)
  rw [skip 768 _ _ _ (by omega)]
  by_cases c5 : 640 ≤ e.val
  · exact take 5 640 _ _ rfl c5 (by omega)
  rw [skip 640 _ _ _ (by omega)]
  by_cases c4 : 512 ≤ e.val
  · exact take 4 512 _ _ rfl c4 (by omega)
  rw [skip 512 _ _ _ (by omega)]
  by_cases c3 : 384 ≤ e.val
  · exact take 3 384 _ _ rfl c3 (by omega)
  rw [skip 384 _ _ _ (by omega)]
  by_cases c2 : 256 ≤ e.val
  · exact take 2 256 _ _ rfl c2 (by omega)
  rw [skip 256 _ _ _ (by omega)]
  by_cases c1 : 128 ≤ e.val
  · exact take 1 128 _ _ rfl c1 (by omega)
  rw [skip 128 _ _ _ (by omega)]
  exact take 0 0 _ _ rfl (by omega) (by omega)

include R T in
/-- The outputs. -/
theorem out_o (v : View sig .tc .vmem S512x512 .f32) (f : BufTy.Contents (Elt Ideal) v.ty) (r e : Fin 512) :
    v.read (Elt Ideal) (v.writes (Elt Ideal) f (kernelRun0_A (F := Ideal) c i a2 w2 a3 w3 a4 w4 a5 w5 a6 w6 a7 w7 x0 x1 x2 x3).1) (ix2 r e)
      = (out D (e.val / 64) (512 * (i 1).val + r.val) (e.val % 64) : EReal) := by
  have b := top i
  rw [run4]
  refine (View.read_writes_cons_unit_of_mem v f _ _ _ _ (ix2 r e) rfl fun b => by
      match b with
      | ⟨0, _⟩ => show r.val = 0 + r.val; omega
      | ⟨1, _⟩ => show e.val = 0 + e.val; omega).trans ?_
  refine (assemble_at (final c i a2 w2 a3 w3 a4 w4 a5 w5 a6 w6 a7 w7 x0 x1 x2 x3) r e).trans ?_
  exact done_div (final_has c i a2 w2 a3 w3 a4 w4 a5 w5 a6 w6 a7 w7 x0 x1 x2 x3 R T ⟨e.val / 64, by omega⟩ r) (by omega) (by omega) (by omega) ⟨e.val % 64, by omega⟩

include R T in
/-- The rows' logarithms. -/
theorem out_l (v : View sig .tc .vmem S512x1024 .f32) (f : BufTy.Contents (Elt Ideal) v.ty) (r : Fin 512) (e : Fin 1024) :
    v.read (Elt Ideal) (v.writes (Elt Ideal) f (kernelRun0_A (F := Ideal) c i a2 w2 a3 w3 a4 w4 a5 w5 a6 w6 a7 w7 x0 x1 x2 x3).2.1) (ix2 r e)
      = ((Real.log (D.Z (e.val / 128) (512 * (i 1).val + r.val)) / Real.log 2 : ℝ) : EReal) := by
  have b := top i
  rw [run5]
  refine side_by_side v f (fun h => k0_pay153 (final c i a2 w2 a3 w3 a4 w4 a5 w5 a6 w6 a7 w7 x0 x1 x2 x3 h).1 (final c i a2 w2 a3 w3 a4 w4 a5 w5 a6 w6 a7 w7 x0 x1 x2 x3 h).2.1)
    (fun h r => Real.log (D.Z h (512 * (i 1).val + r)) / Real.log 2) (fun h r e => ?_) r e
  rw [lse_at]
  exact ((final_has c i a2 w2 a3 w3 a4 w4 a5 w5 a6 w6 a7 w7 x0 x1 x2 x3 R T h r).done (by omega) (by omega) (by omega)).2

end Cert.Proof.FBlock

end
-- ==== Proof.FHost.lean ====
/- What the attention's forward kernel reads: its blocks of the arrays that the host lines prepare. -/
module

public import proofs.«01_k».proof.Proof.FBlock
public import Idealize.ShloMosaic.Lib.StableHlo.ReadAt

@[expose] public section

set_option maxRecDepth 16384

noncomputable section

namespace Cert.Proof.FHost

open Idealize.ShloMosaic Cert.FKernelIdeal Cert.FKernelIdeal.Gen Cert.Proof.Reals Cert.Proof.AMath

variable (m : (ℓ : Loc nD τ sig) → Buf (Elt Ideal) ℓ) (c : Dev nD)

/-- The five arguments are the real tables. -/
structure Args (D : Data) : Prop where
  qn : ∀ s h d, (show FVec Ideal S4096x8x64 .f32 from m ((c.tc : Thread nD τ).loc main_arg0)) (ix3 s h d) = ((D.qn s h d : ℝ) : EReal)
  qr : ∀ s h d, (show FVec Ideal S4096x8x32 .f32 from m ((c.tc : Thread nD τ).loc main_arg1)) (ix3 s h d) = ((D.qr s h d : ℝ) : EReal)
  kn : ∀ s h d, (show FVec Ideal S4096x8x64 .f32 from m ((c.tc : Thread nD τ).loc main_arg2)) (ix3 s h d) = ((D.kn s h d : ℝ) : EReal)
  kr : ∀ s d, (show FVec Ideal S4096x32 .f32 from m ((c.tc : Thread nD τ).loc main_arg3)) (ix2 s d) = ((D.kr s d : ℝ) : EReal)
  v : ∀ s h d, (show FVec Ideal S4096x8x64 .f32 from m ((c.tc : Thread nD τ).loc main_arg4)) (ix3 s h d) = ((D.v s h d : ℝ) : EReal)

variable {m c} {D : Data} (h : Args m c D)
include h

theorem q (s : Fin 4096) (e : Fin 1024) : (V m c main_v5 : FVec Ideal S4096x1024 .bf16) (ix2 s e) = ((D.Q (e.val / 128) s (e.val % 128) : ℝ) : EReal) := by
  simp only [V, hostOps0]
  after_reads_at
  generalize hw : StableHlo.upto _ _ _ = w
  have h0 : ∀ s a d, (w (Proc.tc.devRef main_arg0) : FVec Ideal S4096x8x64 .f32) (ix3 s a d) = ((D.qn s a d : ℝ) : EReal) := fun s a d => by
    rw [← hw, ← h.qn]; after_reads_simp
  have h1 : ∀ s a d, (w (Proc.tc.devRef main_arg1) : FVec Ideal S4096x8x32 .f32) (ix3 s a d) = ((D.qr s a d : ℝ) : EReal) := fun s a d => by
    rw [← hw, ← h.qr]; after_reads_simp
  have h2 : ∀ s a d, (w (Proc.tc.devRef main_v2) : FVec Ideal S4096x8x32 .f32) (ix3 s a d) = ((0 : ℝ) : EReal) := fun s a d => by
    rw [← hw, ← zero_f32]; after_reads_simp; pointwise
  clear hw
  unfold Data.Q
  by_cases b : e.val % 128 < 64
  · simp only [b, dite_true, if_true]
    exact h0 ..
  · by_cases b' : e.val % 128 - 64 < 32
    · simp only [b, b', dite_true, dite_false, if_true, if_false]
      exact h1 ..
    · simp only [b, b', dite_false, if_false]
      exact h2 ..

theorem k (s : Fin 4096) (e : Fin 1024) : (V m c main_v9 : FVec Ideal S4096x1024 .bf16) (ix2 s e) = ((D.K (e.val / 128) s (e.val % 128) : ℝ) : EReal) := by
  simp only [V, hostOps0]
  after_reads_at
  generalize hw : StableHlo.upto _ _ _ = w
  have h0 : ∀ s a d, (w (Proc.tc.devRef main_arg2) : FVec Ideal S4096x8x64 .f32) (ix3 s a d) = ((D.kn s a d : ℝ) : EReal) := fun s a d => by
    rw [← hw, ← h.kn]; after_reads_simp
  have h1 : ∀ s a d, (w (Proc.tc.devRef main_v1) : FVec Ideal S4096x8x32 .f32) (ix3 s a d) = ((D.kr s d : ℝ) : EReal) := fun s a d => by
    rw [← hw, ← h.kr]; after_reads_simp; pointwise
  have h2 : ∀ s a d, (w (Proc.tc.devRef main_v6) : FVec Ideal S4096x8x32 .f32) (ix3 s a d) = ((0 : ℝ) : EReal) := fun s a d => by
    rw [← hw, ← zero_f32]; after_reads_simp; pointwise
  clear hw
  unfold Data.K
  by_cases b : e.val % 128 < 64
  · simp only [b, dite_true, if_true]
    exact h0 ..
  · by_cases b' : e.val % 128 - 64 < 32
    · simp only [b, b', dite_true, dite_false, if_true, if_false]
      exact h1 ..
    · simp only [b, b', dite_false, if_false]
      exact h2 ..

theorem qT (s : Fin 4096) (e : Fin 1024) : (V m c main_v12 : FVec Ideal S1024x4096 .bf16) (ix2 e s) = ((D.Q (e.val / 128) s (e.val % 128) : ℝ) : EReal) := by
  rw [← q h]
  simp only [V, hostOps0]
  after_reads_simp
  pointwise

theorem vT (s : Fin 4096) (e : Fin 512) : (V m c main_v13 : FVec Ideal S512x4096 .bf16) (ix2 e s) = ((D.v s (e.val / 64) (e.val % 64) : ℝ) : EReal) := by
  simp only [V, hostOps0]
  after_reads_at
  exact h.v ..

end Cert.Proof.FHost

end
-- ==== Proof.FValue.lean ====
/- What the attention's forward kernel's two output arrays hold after its run. -/
module

public import proofs.«01_k».proof.Proof.FHost
public import proofs.«01_k».proof.Proof.Gen.FKernelIdeal.Frame
public import Idealize.ShloMosaic.Lib.Pipeline.ValueKit
public import Idealize.ShloMosaic.Lib.Pipeline.ValueKit.Held

@[expose] public section

set_option maxRecDepth 16384
set_option maxHeartbeats 2000000

noncomputable section

namespace Cert.Proof.FValue

open Idealize.ShloMosaic Cert.FKernelIdeal Cert.FKernelIdeal.Gen Cert.Proof.Reals Cert.Proof.AMath Cert.Proof.FMath Cert.Proof.FHost
open Cert.Proof.FBlock (Queries)

/-- Which block each window holds at a point: query rows `t`. -/
theorem idx : ∀ t : Fin cfg0.N, win0_0.index t = ![0, t.val] ∧ win0_1.index t = ![0, 0] ∧ win0_2.index t = ![0, 0] ∧ win0_3.index t = ![0, 0]
    ∧ win0_4.index t = ![t.val, 0] ∧ win0_5.index t = ![t.val, 0] ∧ (grid0.coords t 1).val = t.val :=
  (by decide +kernel : ∀ t : Fin grid0.N, _)

variable {m : (ℓ : Loc nD τ sig) → Buf (Elt Ideal) ℓ} {c : Dev nD} {D : Data} (h : Args m c D)
include h

theorem queries (t : Fin cfg0.N) : Queries D (512 * (grid0.coords t 1).val) (iblk m c 0 t) := by
  have hN := lt_of_lt_of_eq t.isLt N_0
  rw [(idx t).2.2.2.2.2.2]
  intro e r
  refine Eq.trans ?_ (qT h ⟨512 * t.val + r.val, by omega⟩ e)
  blk_ext [iblk, idx t]

theorem keys (t : Fin cfg0.N) (r : Fin 4096) (e : Fin 1024) : (iblk m c 1 t : FVec Ideal S4096x1024 .bf16) (ix2 r e) = ((D.K (e.val / 128) r (e.val % 128) : ℝ) : EReal) := by
  refine Eq.trans ?_ (k h r e)
  blk_ext [iblk, idx t]

theorem keys' (t : Fin cfg0.N) : iblk m c 2 t = iblk m c 1 t := by
  funext j
  obtain ⟨r, e, rfl⟩ : ∃ (r : Fin 4096) (e : Fin 1024), j = ix2 r e := ⟨⟨(j 0).val, (j 0).isLt⟩, ⟨(j 1).val, (j 1).isLt⟩, by blk_ext⟩
  refine Eq.trans ?_ (keys h t r e).symm
  refine Eq.trans ?_ (k h r e)
  blk_ext [iblk, idx t]

theorem vals (t : Fin cfg0.N) (e : Fin 512) (r : Fin 4096) : (iblk m c 3 t : FVec Ideal S512x4096 .bf16) (ix2 e r) = ((D.v r (e.val / 64) (e.val % 64) : ℝ) : EReal) := by
  refine Eq.trans ?_ (vT h r e)
  blk_ext [iblk, idx t]

theorem held (t : Fin cfg0.N) : FLoop.Held D (iblk m c 1 t) (iblk m c 2 t) (iblk m c 3 t) := ⟨keys h t, keys' h t, vals h t⟩

theorem out4 (t : Fin cfg0.N) (r e : Fin 512) : (outsAt0 m c t).1 (ix2 r e) = ((out D (e.val / 64) (512 * t.val + r.val) (e.val % 64) : ℝ) : EReal) := by
  rw [outsAt0]
  dsimp only
  unfold out0_A_4
  refine (FBlock.out_o c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (queries h t) (held h t) VO0_4 _ r e).trans ?_
  rw [(idx t).2.2.2.2.2.2]

theorem out5 (t : Fin cfg0.N) (r : Fin 512) (e : Fin 1024) : (outsAt0 m c t).2 (ix2 r e) = ((Real.log (D.Z (e.val / 128) (512 * t.val + r.val)) / Real.log 2 : ℝ) : EReal) := by
  rw [outsAt0]
  dsimp only
  unfold out0_A_5
  refine (FBlock.out_l c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (queries h t) (held h t) VO0_5 _ r e).trans ?_
  rw [(idx t).2.2.2.2.2.2]

def o4 (D : Data) (i : S4096x512.Idx) : EReal := ((out D ((i 1).val / 64) (i 0).val ((i 1).val % 64) : ℝ) : EReal)
def l5 (D : Data) (i : S4096x1024.Idx) : EReal := ((Real.log (D.Z ((i 1).val / 128) (i 0).val) / Real.log 2 : ℝ) : EReal)

theorem arr4 : (dats m 0 c).arrAt 4 cfg0.N = o4 D := by
  refine (dats m 0 c).arrAt_eq_of_covers 4 (o4 D) (by decide +kernel) fun t hf y => ?_
  have hN := lt_of_lt_of_eq t.isLt N_0
  blk_simp
  rw [after0_4]
  obtain ⟨r, l, rfl⟩ : ∃ (r : Fin 512) (l : Fin 512), y = ix2 r l := ⟨⟨(y 0).val, (y 0).isLt⟩, ⟨(y 1).val, (y 1).isLt⟩, by blk_ext⟩
  have hi : (win0_4.blk t).view.emb (ix2 r l) = ix2 (⟨512 * t.val + r.val, by omega⟩ : Fin 4096) l := by blk_ext [idx t]
  rw [hi, out4 h]
  rfl

theorem arr5 : (dats m 0 c).arrAt 5 cfg0.N = l5 D := by
  refine (dats m 0 c).arrAt_eq_of_covers 5 (l5 D) (by decide +kernel) fun t hf y => ?_
  have hN := lt_of_lt_of_eq t.isLt N_0
  blk_simp
  rw [after0_5]
  obtain ⟨r, l, rfl⟩ : ∃ (r : Fin 512) (l : Fin 1024), y = ix2 r l := ⟨⟨(y 0).val, (y 0).isLt⟩, ⟨(y 1).val, (y 1).isLt⟩, by blk_ext⟩
  have hi : (win0_5.blk t).view.emb (ix2 r l) = ix2 (⟨512 * t.val + r.val, by omega⟩ : Fin 4096) l := by blk_ext [idx t]
  rw [hi, out5 h]
  rfl

end Cert.Proof.FValue

end
-- ==== Proof.FRef.lean ====
/- The reference of the attention's forward call, read at an index: the row's logarithm and the outputs. -/
module

public import proofs.«01_k».proof.Proof.FMath
public import proofs.«01_k».proof.Proof.Gen.FReferenceIdeal.Read
public import Idealize.ShloMosaic.Lib.Pointwise

@[expose] public section

set_option maxRecDepth 16384

noncomputable section

namespace Cert.Proof.FRef

open Idealize.ShloMosaic Cert.Proof.Reals Cert.Proof.AMath Cert.Proof.FMath Cert.FReferenceIdeal Cert.FReferenceIdeal.Gen Cert.FReferenceIdeal.Read

variable {x0 : FVec Ideal S4096x8x64 .f32} {x1 : FVec Ideal S4096x8x32 .f32} {x2 : FVec Ideal S4096x8x64 .f32} {x3 : FVec Ideal S4096x32 .f32}
  {x4 : FVec Ideal S4096x8x64 .f32}

/-- The five arguments are the real tables. -/
structure Reads (x0 : FVec Ideal S4096x8x64 .f32) (x1 : FVec Ideal S4096x8x32 .f32) (x2 : FVec Ideal S4096x8x64 .f32) (x3 : FVec Ideal S4096x32 .f32)
    (x4 : FVec Ideal S4096x8x64 .f32) (D : Data) : Prop where
  qn : ∀ s h d, x0 (ix3 s h d) = ((D.qn s h d : ℝ) : EReal)
  qr : ∀ s h d, x1 (ix3 s h d) = ((D.qr s h d : ℝ) : EReal)
  kn : ∀ s h d, x2 (ix3 s h d) = ((D.kn s h d : ℝ) : EReal)
  kr : ∀ s d, x3 (ix2 s d) = ((D.kr s d : ℝ) : EReal)
  v : ∀ s h d, x4 (ix3 s h d) = ((D.v s h d : ℝ) : EReal)

/-- The chunk of a row, as the log-sum's lines have it. -/
theorem v3 (s : Fin 4096) : val_main_v3 (F := Ideal) (ix1 s) = BitVec.ofNat 32 (s.val / 64) := by
  pointwise [val_main_v3, val_main_v2, val_main_c, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0]
  revert s
  decide +kernel

/-- The outputs' lines have the same. -/
theorem v34 (s : Fin 4096) : val_main_v34 (F := Ideal) (ix1 s) = BitVec.ofNat 32 (s.val / 64) := v3 s

theorem sle_word {a b : ℕ} (ha : a < 2 ^ 31) (hb : b < 2 ^ 31) : IntOp.cmpi .sle (BitVec.ofNat 32 a) (BitVec.ofNat 32 b) = if a ≤ b then 1#1 else 0#1 := by
  have h1 : (BitVec.ofNat 32 a).toInt = a := toInt_word ha
  have h2 : (BitVec.ofNat 32 b).toInt = b := toInt_word hb
  simp only [IntOp.cmpi, BitVec.sle, h1, h2]
  by_cases h : a ≤ b <;> simp [h]

/-- The mask: key chunks up to the query's own. -/
theorem mask (h : Fin 8) (s t : Fin 4096) : val_main_call1_v1 (F := Ideal) (ix3 h s t) = if t.val / 64 ≤ s.val / 64 then 1#1 else 0#1 := by
  pointwise [val_main_call1_v1, val_main_v14, val_main_v13, val_main_v12, val_main_v11, val_main_v10, val_main_v9]
  rw [v3, v3, sle_word (by omega) (by omega)]

variable {D : Data} (r : Reads x0 x1 x2 x3 x4 D)
include r

theorem v8 (h : Fin 8) (s t : Fin 4096) : val_main_v8 (F := Ideal) x0 x1 x2 x3 (ix3 h s t) = ((D.S h s t : ℝ) : EReal) := by
  pointwise [val_main_v8, val_main_v7, val_main_cst, val_main_v6, val_main_v5, val_main_v4, val_main_v1, val_main_v0]
  simp only [r.qn, r.qr, r.kn, r.kr, scale_f32, ← EReal.coe_mul, ← coe_sum, ← EReal.coe_add]
  rw [D.S_split]

theorem v15 (h : Fin 8) (s t : Fin 4096) : val_main_v15 (F := Ideal) x0 x1 x2 x3 (ix3 h s t) = masked D h s t := by
  pointwise [val_main_v15, val_main_call1_v2, val_main_call1_v0, val_main_cst_0]
  rw [mask, v8 r]
  show Scalar.select _ _ (Ideal.ofBits .f32 0xFF800000#32) = _
  rw [ninf_f32]
  unfold masked
  split_ifs <;> rfl

omit r in
/-- The outputs' lines compute the same masked scores. -/
theorem v46 : val_main_v46 (F := Ideal) x0 x1 x2 x3 = val_main_v15 (F := Ideal) x0 x1 x2 x3 := rfl

theorem v16 (h : Fin 8) (s : Fin 4096) : val_main_v16 (F := Ideal) x0 x1 x2 x3 (ix2 h s) = rowMax D h s := by
  pointwise [val_main_v16, val_main_cst_1]
  simp only [v15 r, ninf_f32]
  rfl

theorem v20 {M : ℝ} (h : Fin 8) (s t : Fin 4096) (hM : rowMax D h s = M) :
    val_main_v20 (F := Ideal) x0 x1 x2 x3 (ix3 h s t) = ((D.w h s t * Real.exp (-M) : ℝ) : EReal) := by
  pointwise [val_main_v20, val_main_v19, val_main_v18, val_main_v17]
  rw [v15 r, v16 r, hM]
  exact exp_masked D h s t M

theorem v21 {M : ℝ} (h : Fin 8) (s : Fin 4096) (hM : rowMax D h s = M) :
    val_main_v21 (F := Ideal) x0 x1 x2 x3 (ix2 h s) = ((D.Z h s * Real.exp (-M) : ℝ) : EReal) := by
  pointwise [val_main_v21, val_main_cst_2]
  simp only [v20 r h s _ hM, ← coe_sum]
  rw [← Finset.sum_mul]
  rfl

theorem v24 (h : Fin 8) (s : Fin 4096) : val_main_v24 (F := Ideal) x0 x1 x2 x3 (ix3 h s (0 : Fin 1)) = ((Real.log (D.Z h s) : ℝ) : EReal) := by
  obtain ⟨M, hM⟩ := masked_max D h s
  have e := Real.exp_pos (-M)
  have z := D.Z_pos h s
  have i1 : idx_main_v17 (ix3 h s (0 : Fin 1)) = ix2 h s := by funext a; fin_cases a <;> rfl
  have i2 : idx_main_v22 (ix3 h s (0 : Fin 1)) = ix2 h s := by funext a; fin_cases a <;> rfl
  rw [val_main_v24_apply, val_main_v23_apply, val_main_v22_apply, val_main_v17_apply, i1, i2, v16 r, v21 r h s hM, hM]
  pointwise []
  rw [Ideal.log_coe, if_neg (not_le.2 (mul_pos z e)), Real.log_mul z.ne' e.ne', Real.log_exp, ← EReal.coe_add,
    show M + (Real.log (D.Z h s) + -M) = Real.log (D.Z h s) by ring]

omit r in
/-- The logarithm of two. -/
theorem v26 (i : S8x4096x1.Idx) : val_main_v26 (F := Ideal) i = ((Real.log 2 : ℝ) : EReal) := by
  pointwise [val_main_v26, val_main_v25, val_main_cst_3]
  rw [two_f32, Ideal.log_coe, if_neg (by norm_num)]

theorem v27 (h : Fin 8) (s : Fin 4096) : val_main_v27 (F := Ideal) x0 x1 x2 x3 (ix3 h s (0 : Fin 1)) = ((Real.log (D.Z h s) / Real.log 2 : ℝ) : EReal) := by
  rw [val_main_v27_apply, v24 r, v26]
  exact div_real _ (Real.log_pos one_lt_two).ne'

/-- The rows' logarithms. -/
theorem v32 (s : Fin 4096) (e : Fin 1024) : val_main_v32 (F := Ideal) x0 x1 x2 x3 (ix2 s e) = ((Real.log (D.Z (e.val / 128) s) / Real.log 2 : ℝ) : EReal) := by
  pointwise [val_main_v32, val_main_v31, val_main_v30, val_main_v29, val_main_v28]
  exact v27 r ⟨e.val / 128, by omega⟩ s

theorem v53 {M : ℝ} (h : Fin 8) (s t : Fin 4096) (hM : rowMax D h s = M) :
    val_main_v53 (F := Ideal) x0 x1 x2 x3 (ix3 h s t) = ((D.w h s t * Real.exp (-M) : ℝ) : EReal) := by
  have m : val_main_v47 (F := Ideal) x0 x1 x2 x3 (ix2 h s) = rowMax D h s := by
    pointwise [val_main_v47, val_main_cst_7]
    simp only [v46, v15 r, ninf_f32]
    rfl
  have m' : max (⊥ : EReal) (M : EReal) = M := max_eq_right bot_le
  have i1 : idx_main_v50 (idx_main_v51 (ix3 h s t)) = ix2 h s := by funext a; fin_cases a <;> rfl
  rw [val_main_v53_apply, val_main_v52_apply, val_main_v51_apply, val_main_v50_apply, val_main_v49_apply, val_main_v48_apply, i1, v46, v15 r, m, hM]
  show Ideal.exp (masked D h s t - max (Ideal.ofBits .f32 0xFF800000#32) (M : EReal)) = _
  rw [ninf_f32, m']
  exact exp_masked D h s t M

theorem v54 {M : ℝ} (h : Fin 8) (s : Fin 4096) (hM : rowMax D h s = M) :
    val_main_v54 (F := Ideal) x0 x1 x2 x3 (ix2 h s) = ((D.Z h s * Real.exp (-M) : ℝ) : EReal) := by
  pointwise [val_main_v54, val_main_cst_9]
  simp only [v53 r h s _ hM, ← coe_sum]
  rw [← Finset.sum_mul]
  rfl

theorem v57 (h : Fin 8) (s t : Fin 4096) : val_main_v57 (F := Ideal) x0 x1 x2 x3 (ix3 h s t) = ((D.p h s t : ℝ) : EReal) := by
  obtain ⟨M, hM⟩ := masked_max D h s
  have e := Real.exp_pos (-M)
  have z := D.Z_pos h s
  pointwise [val_main_v57, val_main_v56, val_main_v55]
  rw [v53 r h s t hM, v54 r h s hM, div_real _ (mul_pos z e).ne', mul_div_mul_right _ _ e.ne']
  rfl

/-- The outputs. -/
theorem v60 (s : Fin 4096) (e : Fin 512) : val_main_v60 (F := Ideal) x0 x1 x2 x3 x4 (ix2 s e) = ((out D (e.val / 64) s (e.val % 64) : ℝ) : EReal) := by
  pointwise [val_main_v60, val_main_v59, val_main_v58]
  have p : ∀ t, val_main_v57 (F := Ideal) x0 x1 x2 x3 (ix3 (⟨e.val / 64, by omega⟩ : Fin 8) s t) = ((D.p (e.val / 64) s t : ℝ) : EReal) := fun t => v57 r ⟨e.val / 64, by omega⟩ s t
  simp only [r.v, p, ← EReal.coe_mul, ← coe_sum]
  refine congrArg _ ?_
  unfold out
  exact Finset.sum_congr rfl fun t _ => mul_comm _ _

end Cert.Proof.FRef

end
-- ==== Proof.FClaim.lean ====
/- The attention's forward call: the kernel's two results are the reference's. -/
module

public import proofs.«01_k».proof.Proof.FValue
public import proofs.«01_k».proof.Proof.FRef
public import proofs.«01_k».proof.Proof.AClaim
public import proofs.«01_k».proof.Proof.Gen.FKernelIdeal.Value
public import proofs.«01_k».proof.Proof.Gen.FReferenceIdeal.Run
public import proofs.«01_k».proof.Defs
public import Idealize.ShloMosaic.Lib.Claim

@[expose] public section

set_option maxRecDepth 16384

noncomputable section

namespace Cert.Proof.FClaim

open Idealize.ShloMosaic Cert.Proof.Reals Cert.Proof.AMath
open Cert.Proof.AClaim (table2 table3 table2_eq table3_eq)

local instance : Cert.FKernelIdeal.Facts := Cert.FKernelIdeal.Gen.facts
local instance : Cert.FReferenceIdeal.Facts := Cert.FReferenceIdeal.Gen.facts

variable [hP : Cert.Pre_f_finite.Facts]

/-- The precondition: each of the five arrays is finite. -/
theorem finite (x0 : FVec Ideal ⟨3, ![4096, 8, 64]⟩ .f32) (x1 : FVec Ideal ⟨3, ![4096, 8, 32]⟩ .f32) (x2 : FVec Ideal ⟨3, ![4096, 8, 64]⟩ .f32) (x3 : FVec Ideal ⟨2, ![4096, 32]⟩ .f32)
    (x4 : FVec Ideal ⟨3, ![4096, 8, 64]⟩ .f32) (j : (⟨0, ![]⟩ : Shape).Idx)
    (h : Cert.Pre_f_finite.fn (F := Ideal) x0 x1 x2 x3 x4 j = 1#1) : Finite x0 ∧ Finite x1 ∧ Finite x2 ∧ Finite x3 ∧ Finite x4 := by
  unfold Cert.Pre_f_finite.fn Cert.Pre_f_finite.fn_part1 at h
  obtain ⟨h, h4⟩ := andi_one.1 h
  obtain ⟨h, h3⟩ := andi_one.1 h
  obtain ⟨h, h2⟩ := andi_one.1 h
  obtain ⟨h0, h1⟩ := andi_one.1 h
  exact ⟨finite_of_all _ _ _ x0 j h0, finite_of_all _ _ _ x1 j h1, finite_of_all _ _ _ x2 j h2, finite_of_all _ _ _ x3 j h3, finite_of_all _ _ _ x4 j h4⟩

omit hP in
theorem facts : Cert.Pre_f_finite.Facts := by constructor <;> decide

/-- The kernel's arguments as reals; the table of cotangents, which this call has none of, is zero. -/
theorem args (m : (ℓ : Loc Cert.FKernelIdeal.nD Cert.FKernelIdeal.τ Cert.FKernelIdeal.sig) → Buf (Elt Ideal) ℓ) (hpre : Cert.Pre_FKernelIdeal_f_finite m) (c : Dev Cert.FKernelIdeal.nD) :
    ∃ D, FHost.Args m c D := by
  obtain ⟨f0, f1, f2, f3, f4⟩ := finite _ _ _ _ _ (fun a => a.elim0) (congrFun (hpre c) fun a => a.elim0)
  exact ⟨⟨table3 _, table3 _, table3 _, table2 _, table3 _, fun _ _ _ => 0⟩, table3_eq f0, table3_eq f1, table3_eq f2, table2_eq f3, table3_eq f4⟩

/-- From memories that agree on the arguments, both programs leave the same two arrays. -/
theorem algebraic : Cert.algebraic_FKernelIdeal_FReferenceIdeal_pre_f_finite := by
  pair_intro
  · run_from Cert.FKernelIdeal.Value.run_blocks m g
  · run_from Cert.FReferenceIdeal.Value.run m' g'
    all_goals
      obtain ⟨D, h⟩ := args m hpre c
      obtain ⟨a0, a1, a2, a3, a4⟩ := hagree c
      have hr := FRef.Reads.mk (D := D) (fun s a d => (congrFun a0 (ix3 s a d)).trans (h.qn s a d)) (fun s a d => (congrFun a1 (ix3 s a d)).trans (h.qr s a d)) (fun s a d => (congrFun a2 (ix3 s a d)).trans (h.kn s a d))
        (fun s d => (congrFun a3 (ix2 s d)).trans (h.kr s d)) (fun s a d => (congrFun a4 (ix3 s a d)).trans (h.v s a d))
    · refine (Cert.FReferenceIdeal.Read.val_main_v60_eq m' c).trans ?_
      refine Eq.trans ?_ (FValue.arr4 h).symm
      funext i
      obtain ⟨s, k, rfl⟩ : ∃ (s : Fin 4096) (k : Fin 512), i = ix2 s k := ⟨⟨(i 0).val, (i 0).isLt⟩, ⟨(i 1).val, (i 1).isLt⟩, by blk_ext⟩
      exact FRef.v60 hr s k
    · refine (Cert.FReferenceIdeal.Read.val_main_v32_eq m' c).trans ?_
      refine Eq.trans ?_ (FValue.arr5 h).symm
      funext i
      obtain ⟨s, k, rfl⟩ : ∃ (s : Fin 4096) (k : Fin 1024), i = ix2 s k := ⟨⟨(i 0).val, (i 0).isLt⟩, ⟨(i 1).val, (i 1).isLt⟩, by blk_ext⟩
      exact FRef.v32 hr s k

omit hP in
/-- The reference runs to its end and leaves its arguments as they were. -/
theorem ref_frame : Cert.quiescent_FReferenceIdeal := by
  intro m g _
  exact (θ_run Cert.FReferenceIdeal.defs _ _).mono (fun r h => ⟨fun c => (h c).2.2, sem_eq_zero_of_no_sems (by decide) r.2⟩)
    (Cert.FReferenceIdeal.Value.run m g)

omit hP in
/-- The named constants lie where their words do. -/
theorem preserves : Cert.preserves_FKernel_FKernelIdeal :=
  ⟨IdealRules.named_const.statement Cert.FKernelIdeal.κ "scale_log2e" .f32 0x3E16C740#32 (((3424635 / 33554432) * (Real.log 2)⁻¹ : ℝ) : EReal) rfl,
    IdealRules.named_const.statement Cert.FKernelIdeal.κ "log2e" .f32 0x3FB8AA3B#32 (((Real.log 2)⁻¹ : ℝ) : EReal) rfl⟩

end Cert.Proof.FClaim

end
-- ==== Proof.lean ====
module

public import proofs.«01_k».proof.Proof.XClaim
public import proofs.«01_k».proof.Proof.Gen.XReferenceIdeal.Read
public import proofs.«01_k».proof.Proof.Gen.XReferenceIdeal.Run
public import proofs.«01_k».proof.Proof.Gen.XKernelIdeal.Value
public import proofs.«01_k».proof.Defs
public import proofs.«01_k».proof.Proof.Gen.XKernel
public import proofs.«01_k».proof.Proof.Gen.XKernel.Skeleton
public import proofs.«01_k».proof.Proof.Gen.XKernel.Launch
public import proofs.«01_k».proof.Proof.Gen.XKernel.Points
public import proofs.«01_k».proof.Proof.Gen.XKernel.Frame
public import proofs.«01_k».proof.Proof.Gen.XKernelIdeal
public import proofs.«01_k».proof.Proof.Gen.XKernelIdeal.Skeleton
public import proofs.«01_k».proof.Proof.Gen.XKernelIdeal.Launch
public import proofs.«01_k».proof.Proof.Gen.XKernelIdeal.Points
public import proofs.«01_k».proof.Proof.Gen.XKernelIdeal.Frame
public import proofs.«01_k».proof.Proof.Gen.XReferenceIdeal
public import proofs.«01_k».proof.Proof.AClaim
public import proofs.«01_k».proof.Proof.Gen.AReferenceIdeal.Read
public import proofs.«01_k».proof.Proof.Gen.AReferenceIdeal.Run
public import proofs.«01_k».proof.Proof.Gen.AKernelIdeal.Value
public import proofs.«01_k».proof.Proof.Gen.AKernel
public import proofs.«01_k».proof.Proof.Gen.AKernel.Skeleton
public import proofs.«01_k».proof.Proof.Gen.AKernel.Launch
public import proofs.«01_k».proof.Proof.Gen.AKernel.Points
public import proofs.«01_k».proof.Proof.Gen.AKernel.Frame
public import proofs.«01_k».proof.Proof.Gen.AKernelIdeal
public import proofs.«01_k».proof.Proof.Gen.AKernelIdeal.Skeleton
public import proofs.«01_k».proof.Proof.Gen.AKernelIdeal.Launch
public import proofs.«01_k».proof.Proof.Gen.AKernelIdeal.Points
public import proofs.«01_k».proof.Proof.Gen.AKernelIdeal.Frame
public import proofs.«01_k».proof.Proof.Gen.AReferenceIdeal
public import proofs.«01_k».proof.Proof.QClaim
public import proofs.«01_k».proof.Proof.Gen.QReferenceIdeal.Read
public import proofs.«01_k».proof.Proof.Gen.QReferenceIdeal.Run
public import proofs.«01_k».proof.Proof.Gen.QKernelIdeal.Value
public import proofs.«01_k».proof.Proof.Gen.QKernel
public import proofs.«01_k».proof.Proof.Gen.QKernel.Skeleton
public import proofs.«01_k».proof.Proof.Gen.QKernel.Launch
public import proofs.«01_k».proof.Proof.Gen.QKernel.Points
public import proofs.«01_k».proof.Proof.Gen.QKernel.Frame
public import proofs.«01_k».proof.Proof.Gen.QKernelIdeal
public import proofs.«01_k».proof.Proof.Gen.QKernelIdeal.Skeleton
public import proofs.«01_k».proof.Proof.Gen.QKernelIdeal.Launch
public import proofs.«01_k».proof.Proof.Gen.QKernelIdeal.Points
public import proofs.«01_k».proof.Proof.Gen.QKernelIdeal.Frame
public import proofs.«01_k».proof.Proof.Gen.QReferenceIdeal
public import proofs.«01_k».proof.Proof.FClaim
public import proofs.«01_k».proof.Proof.Gen.FReferenceIdeal.Read
public import proofs.«01_k».proof.Proof.Gen.FReferenceIdeal.Run
public import proofs.«01_k».proof.Proof.Gen.FKernelIdeal.Value
public import proofs.«01_k».proof.Proof.Gen.FKernel
public import proofs.«01_k».proof.Proof.Gen.FKernel.Skeleton
public import proofs.«01_k».proof.Proof.Gen.FKernel.Loops
public import proofs.«01_k».proof.Proof.Gen.FKernel.Launch
public import proofs.«01_k».proof.Proof.Gen.FKernel.Points
public import proofs.«01_k».proof.Proof.Gen.FKernel.Frame
public import proofs.«01_k».proof.Proof.Gen.FKernelIdeal
public import proofs.«01_k».proof.Proof.Gen.FKernelIdeal.Skeleton
public import proofs.«01_k».proof.Proof.Gen.FKernelIdeal.Loops
public import proofs.«01_k».proof.Proof.Gen.FKernelIdeal.Launch
public import proofs.«01_k».proof.Proof.Gen.FKernelIdeal.Points
public import proofs.«01_k».proof.Proof.Gen.FKernelIdeal.Frame
public import proofs.«01_k».proof.Proof.Gen.FReferenceIdeal
public import Idealize.ShloMosaic.Adequacy
public import Idealize.ShloMosaic.Init

@[expose] public section

noncomputable section

namespace Cert.Proof

open Idealize.ShloMosaic Idealize.SL.Sem Cert.XKernel

theorem claim : Cert.Claim :=
  ⟨Cert.XKernel.Gen.facts, Cert.XKernelIdeal.Gen.facts, Cert.XReferenceIdeal.Gen.facts,
    Cert.AKernel.Gen.facts, Cert.AKernelIdeal.Gen.facts, Cert.AReferenceIdeal.Gen.facts,
    Cert.QKernel.Gen.facts, Cert.QKernelIdeal.Gen.facts, Cert.QReferenceIdeal.Gen.facts,
    Cert.FKernel.Gen.facts, Cert.FKernelIdeal.Gen.facts, Cert.FReferenceIdeal.Gen.facts,
    XClaim.facts, AClaim.facts, QClaim.facts, FClaim.facts,
    fun m ρ _ => Cert.XKernel.Gen.frame m ρ,
    fun m ρ _ => Cert.XKernelIdeal.Gen.frame m ρ,
    fun m ρ _ => Cert.XKernelIdeal.Gen.frame m ρ,
    XClaim.ref_frame,
    fun m ρ _ => XClaim.ref_frame m ρ trivial,
    fun m ρ _ => Cert.AKernel.Gen.frame m ρ,
    fun m ρ _ => Cert.AKernelIdeal.Gen.frame m ρ,
    fun m ρ _ => Cert.AKernelIdeal.Gen.frame m ρ,
    AClaim.ref_frame,
    fun m ρ _ => AClaim.ref_frame m ρ trivial,
    fun m ρ _ => Cert.QKernel.Gen.frame m ρ,
    fun m ρ _ => Cert.QKernelIdeal.Gen.frame m ρ,
    fun m ρ _ => Cert.QKernelIdeal.Gen.frame m ρ,
    QClaim.ref_frame,
    fun m ρ _ => QClaim.ref_frame m ρ trivial,
    fun m ρ _ => Cert.FKernel.Gen.frame m ρ,
    fun m ρ _ => Cert.FKernelIdeal.Gen.frame m ρ,
    fun m ρ _ => Cert.FKernelIdeal.Gen.frame m ρ,
    FClaim.ref_frame,
    fun m ρ _ => FClaim.ref_frame m ρ trivial,
    trivial, XClaim.algebraic (hP := XClaim.facts),
    AClaim.preserves, AClaim.algebraic (hP := AClaim.facts),
    trivial, QClaim.algebraic (hP := QClaim.facts),
    FClaim.preserves, FClaim.algebraic (hP := FClaim.facts)⟩

end Cert.Proof

end
